-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decay_finite [hPre_decay_finite : Cert.Pre_decay_finite.Facts] (m : (ℓ : Loc Cert.KernelIdeal.nD Cert.KernelIdeal.τ Cert.KernelIdeal.sig) → Buf (Elt Ideal) ℓ) : Prop :=
  ∀ c : Dev Cert.KernelIdeal.nD,
    (Cert.Pre_decay_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decay_finite [hPre_decay_finite : Cert.Pre_decay_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decay_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_decay_finite [hKernelIdeal : Cert.KernelIdeal.Facts] [hPre_decay_finite : Cert.Pre_decay_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decay_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_decay_finite [hReferenceIdeal : Cert.ReferenceIdeal.Facts] [hPre_decay_finite : Cert.Pre_decay_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decay_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def preserves_Kernel_KernelIdeal : Prop :=
  True

def algebraic_KernelIdeal_ReferenceIdeal_on_gate_half_pre_decay_finite [hKernelIdeal : Cert.KernelIdeal.Facts] [hReferenceIdeal : Cert.ReferenceIdeal.Facts] [hPre_decay_finite : Cert.Pre_decay_finite.Facts] [hOn_gate_half : Cert.On_gate_half.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decay_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v1_0)) (v4 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 1024]⟩ : Shape).Idx, (Cert.On_gate_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v0_0) i = v0 c i)
          ∧ (∀ i : (⟨2, ![4096, 1024]⟩ : Shape).Idx, (Cert.On_gate_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v0_1) i = v1 c i)
          ∧ (∀ i : (⟨2, ![4096, 1024]⟩ : Shape).Idx, (Cert.On_gate_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 i = 1#1 → r.2.mem ((c.tc : Thread Cert.KernelIdeal.nD Cert.KernelIdeal.τ).loc Cert.KernelIdeal.main_v0_2) i = v2 c i)
          ∧ (∀ i : (⟨2, ![4096, 1024]⟩ : Shape).Idx, (Cert.On_gate_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 i = 1#1 → r.2.mem ((c.tc : Thread Cert.KernelIdeal.nD Cert.KernelIdeal.τ).loc Cert.KernelIdeal.main_v1_0) i = v3 c i)
          ∧ (∀ i : (⟨2, ![4096, 2048]⟩ : Shape).Idx, (Cert.On_gate_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 i = 1#1 → r.2.mem ((c.tc : Thread Cert.KernelIdeal.nD Cert.KernelIdeal.τ).loc Cert.KernelIdeal.main_v1_1) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 1024]⟩ : Shape).Idx, (Cert.On_gate_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v3_4) i = v0 c i)
          ∧ (∀ i : (⟨2, ![4096, 1024]⟩ : Shape).Idx, (Cert.On_gate_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v6) i = v1 c i)
          ∧ (∀ i : (⟨2, ![4096, 1024]⟩ : Shape).Idx, (Cert.On_gate_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 i = 1#1 → r.2.mem ((c.tc : Thread Cert.ReferenceIdeal.nD Cert.ReferenceIdeal.τ).loc Cert.ReferenceIdeal.main_v49) i = v2 c i)
          ∧ (∀ i : (⟨2, ![4096, 1024]⟩ : Shape).Idx, (Cert.On_gate_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 i = 1#1 → r.2.mem ((c.tc : Thread Cert.ReferenceIdeal.nD Cert.ReferenceIdeal.τ).loc Cert.ReferenceIdeal.main_v46_4) i = v3 c i)
          ∧ (∀ i : (⟨2, ![4096, 2048]⟩ : Shape).Idx, (Cert.On_gate_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 i = 1#1 → r.2.mem ((c.tc : Thread Cert.ReferenceIdeal.nD Cert.ReferenceIdeal.τ).loc Cert.ReferenceIdeal.main_v50) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10_1)) (v1 : (c : Dev Cert.Kernel2Ideal.nD) → Buf (Elt Ideal) ((c.tc : Thread Cert.Kernel2Ideal.nD Cert.Kernel2Ideal.τ).loc Cert.Kernel2Ideal.main_v18)) (v2 : (c : Dev Cert.Kernel2Ideal.nD) → Buf (Elt Ideal) ((c.tc : Thread Cert.Kernel2Ideal.nD Cert.Kernel2Ideal.τ).loc Cert.Kernel2Ideal.main_v15)) (v3 : (c : Dev Cert.Kernel2Ideal.nD) → Buf (Elt Ideal) ((c.tc : Thread Cert.Kernel2Ideal.nD Cert.Kernel2Ideal.τ).loc Cert.Kernel2Ideal.main_v13)) (v4 : (c : Dev Cert.Kernel2Ideal.nD) → Buf (Elt Ideal) ((c.tc : Thread Cert.Kernel2Ideal.nD Cert.Kernel2Ideal.τ).loc Cert.Kernel2Ideal.main_v19)) (v5 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_1) = v0 c
          ∧ r.2.mem ((c.tc : Thread Cert.Kernel2Ideal.nD Cert.Kernel2Ideal.τ).loc Cert.Kernel2Ideal.main_v18) = v1 c
          ∧ r.2.mem ((c.tc : Thread Cert.Kernel2Ideal.nD Cert.Kernel2Ideal.τ).loc Cert.Kernel2Ideal.main_v15) = v2 c
          ∧ r.2.mem ((c.tc : Thread Cert.Kernel2Ideal.nD Cert.Kernel2Ideal.τ).loc Cert.Kernel2Ideal.main_v13) = v3 c
          ∧ r.2.mem ((c.tc : Thread Cert.Kernel2Ideal.nD Cert.Kernel2Ideal.τ).loc Cert.Kernel2Ideal.main_v19) = v4 c
          ∧ r.2.mem ((c.tc : Thread Cert.Kernel2Ideal.nD Cert.Kernel2Ideal.τ).loc Cert.Kernel2Ideal.main_v20) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v86) = v1 c
          ∧ r.2.mem ((c.tc : Thread Cert.Reference2Ideal.nD Cert.Reference2Ideal.τ).loc Cert.Reference2Ideal.main_v89) = v2 c
          ∧ r.2.mem ((c.tc : Thread Cert.Reference2Ideal.nD Cert.Reference2Ideal.τ).loc Cert.Reference2Ideal.main_v90) = v3 c
          ∧ r.2.mem ((c.tc : Thread Cert.Reference2Ideal.nD Cert.Reference2Ideal.τ).loc Cert.Reference2Ideal.main_v48) = v4 c
          ∧ r.2.mem ((c.tc : Thread Cert.Reference2Ideal.nD Cert.Reference2Ideal.τ).loc Cert.Reference2Ideal.main_v42) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_v28) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_v36) = v1 c
          ∧ r.2.mem ((c.tc : Thread Cert.Reference16Ideal.nD Cert.Reference16Ideal.τ).loc Cert.Reference16Ideal.main_v17) = v2 c
          ∧ r.2.mem ((c.tc : Thread Cert.Reference16Ideal.nD Cert.Reference16Ideal.τ).loc Cert.Reference16Ideal.main_v23) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_decay_finite : Cert.Pre_decay_finite.Facts) (hOn_gate_half : Cert.On_gate_half.Facts),
    quiescent_Kernel (hKernel := hKernel)
    ∧ quiescent_KernelIdeal (hKernelIdeal := hKernelIdeal)
    ∧ quiescent_KernelIdeal_pre_decay_finite (hKernelIdeal := hKernelIdeal) (hPre_decay_finite := hPre_decay_finite)
    ∧ quiescent_ReferenceIdeal (hReferenceIdeal := hReferenceIdeal)
    ∧ quiescent_ReferenceIdeal_pre_decay_finite (hReferenceIdeal := hReferenceIdeal) (hPre_decay_finite := hPre_decay_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_on_gate_half_pre_decay_finite (hKernelIdeal := hKernelIdeal) (hReferenceIdeal := hReferenceIdeal) (hPre_decay_finite := hPre_decay_finite) (hOn_gate_half := hOn_gate_half)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== On_gate_half.lean ====
abbrev S4096x1024 : Shape := ⟨2, ![4096, 1024]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  bcast_S_S4096x2048 : S_.BroadcastsInDim S4096x2048 (![] : Fin 0 → Fin S4096x2048.rank)

variable [Facts]

def fn {F : FTy → Type} [FloatOps F] (main_arg0 : FVec F S4096x1024 .f32) (main_arg1 : FVec F S4096x1024 .f32) (main_arg2 : FVec F S4096x2048 .f32) (main_arg3 : FVec F S4096x1024 .f32) : IVec S4096x1024 1 × IVec S4096x1024 1 × IVec S4096x1024 1 × IVec S4096x1024 1 × IVec S4096x2048 1 :=
  let main_c : IVec S_ 1 := constantI S_ 1 1#1
  let main_v0 : IVec S4096x1024 1 := broadcastInDim S4096x1024 ![] bcast_S_S4096x1024 main_c
  let main_v1 : IVec S4096x2048 32 := iotaInDim S4096x2048 32 1
  let main_c_0 : IVec S_ 32 := constantI S_ 32 1024#32
  let main_v2 : IVec S4096x2048 32 := broadcastInDim S4096x2048 ![] bcast_S_S4096x2048 main_c_0
  let main_v3 : IVec S4096x2048 1 := cmpi .sge main_v1 main_v2
  (main_v0, main_v0, main_v0, main_v0, main_v3)
-- ==== Pre_decay_finite.lean ====
abbrev S4096x1024 : Shape := ⟨2, ![4096, 1024]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) (main_arg2 : FVec F S4096x2048 .f32) (main_arg3 : FVec F S4096x1024 .f32) : IVec S_ 1 :=
  let main_cst : FVec F S_ .f32 := constant S_ .f32 0x00000000#32
  let main_v0 : FVec F S4096x1024 .f32 := broadcastInDim S4096x1024 ![] bcast_S_S4096x1024 main_cst
  let main_v1 : IVec S4096x1024 1 := cmpf .oge main_arg0 main_v0
  let main_cst_0 : FVec F S_ .f32 := constant S_ .f32 0x7F800000#32
  let main_v2 : FVec F S4096x1024 .f32 := broadcastInDim S4096x1024 ![] bcast_S_S4096x1024 main_cst_0
  let main_v3 : IVec S4096x1024 1 := cmpf .olt main_arg0 main_v2
  let main_v4 : IVec S4096x1024 1 := andi main_v1 main_v3
  let main_c : IVec S_ 1 := constantI S_ 1 1#1
  let main_v5 : IVec S_ 1 := (fun x v => Host.reduce IntOp.andi x v reducesTo_S4096x1024_S_d0_1 h_S_) main_v4 main_c
  main_v5
-- ==== Kernel.lean ====
abbrev S4096x1024 : Shape := ⟨2, ![4096, 1024]⟩
abbrev S4096x2048 : Shape := ⟨2, ![4096, 2048]⟩
abbrev S512x512 : Shape := ⟨2, ![512, 512]⟩
abbrev S8x512 : Shape := ⟨2, ![8, 512]⟩
abbrev S1x512 : Shape := ⟨2, ![1, 512]⟩
abbrev S16x512 : Shape := ⟨2, ![16, 512]⟩

abbrev nBuf : Space → Nat
  | .hbm => 9
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S8x512, .f32⟩
  | .local _ .vmem, ⟨13, _⟩ => ⟨S8x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .bf16⟩
  | .local _ .vmem, ⟨25, _⟩ => ⟨S512x512, .bf16⟩
  | .local _ .vmem, ⟨26, _⟩ => ⟨S8x512, .f32⟩
  | .local _ .vmem, ⟨27, _⟩ => ⟨S8x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_scratch0 : Ref sig .tc := ⟨.vmem, 26, rfl⟩
abbrev cc1_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_4 : BitVec 32 := 0#32
  let c32_i32 : BitVec 32 := 32#32
  let v6 : BitVec 32 := Scalar.addi c0_i32_4 c32_i32
  let c1_i32 : BitVec 32 := 1#32
  ⟨c0_i32_4, v6, c1_i32⟩
def k0_mult1 (k0_t1 : Fin k0_t1_loop.trips) : BitVec 32 :=
  let c2_i32 : BitVec 32 := 2#32
  let c0_i32_4 : BitVec 32 := 0#32
  let c1_i32 : BitVec 32 := 1#32
  let arg10 : BitVec 32 := Scf.iv c0_i32_4 c1_i32 k0_t1
  let v14 : BitVec 32 := Scalar.muli c2_i32 arg10
  let c0_i32_10 : BitVec 32 := 0#32
  let v15 : BitVec 32 := Scalar.addi v14 c0_i32_10
  let c8_i32 : BitVec 32 := 8#32
  let v16 : BitVec 32 := Scalar.muli v15 c8_i32
  v16
def k0_off1 (k0_t1 : Fin k0_t1_loop.trips) (c0_i32_10 : BitVec 32) : Fin 2 → Nat :=
  let c2_i32 : BitVec 32 := 2#32
  let c0_i32_4 : BitVec 32 := 0#32
  let c1_i32 : BitVec 32 := 1#32
  let arg10 : BitVec 32 := Scf.iv c0_i32_4 c1_i32 k0_t1
  let v14 : BitVec 32 := Scalar.muli c2_i32 arg10
  let v15 : BitVec 32 := Scalar.addi v14 c0_i32_10
  let c8_i32 : BitVec 32 := 8#32
  let v16 : BitVec 32 := Scalar.muli v15 c8_i32
  let v17 : BitVec 32 := v16
  let v18 : Index := Scalar.indexCast v17
  let c0_11 : Index := 0#32
  ![v18.toNat, 0]
def k0_mult2 (k0_t1 : Fin k0_t1_loop.trips) : BitVec 32 :=
  let c2_i32_29 : BitVec 32 := 2#32
  let c0_i32_4 : BitVec 32 := 0#32
  let c1_i32 : BitVec 32 := 1#32
  let arg10 : BitVec 32 := Scf.iv c0_i32_4 c1_i32 k0_t1
  let v78 : BitVec 32 := Scalar.muli c2_i32_29 arg10
  let c1_i32_30 : BitVec 32 := 1#32
  let v79 : BitVec 32 := Scalar.addi v78 c1_i32_30
  let c8_i32_31 : BitVec 32 := 8#32
  let v80 : BitVec 32 := Scalar.muli v79 c8_i32_31
  v80
def k0_mult3 (k0_t1 : Fin k0_t1_loop.trips) : BitVec 32 :=
  let c0_i32_4 : BitVec 32 := 0#32
  let c1_i32 : BitVec 32 := 1#32
  let arg10 : BitVec 32 := Scf.iv c0_i32_4 c1_i32 k0_t1
  let c2_i32_52 : BitVec 32 := 2#32
  let v145 : BitVec 32 := Scalar.muli arg10 c2_i32_52
  let c8_i32_53 : BitVec 32 := 8#32
  let v146 : BitVec 32 := Scalar.muli v145 c8_i32_53
  v146
def k0_off2 (k0_t1 : Fin k0_t1_loop.trips) : Fin 2 → Nat :=
  let c0_i32_4 : BitVec 32 := 0#32
  let c1_i32 : BitVec 32 := 1#32
  let arg10 : BitVec 32 := Scf.iv c0_i32_4 c1_i32 k0_t1
  let c2_i32_52 : BitVec 32 := 2#32
  let v145 : BitVec 32 := Scalar.muli arg10 c2_i32_52
  let c8_i32_53 : BitVec 32 := 8#32
  let v146 : BitVec 32 := Scalar.muli v145 c8_i32_53
  let v147 : BitVec 32 := v146
  let v150 : Index := Scalar.indexCast v147
  let c0_54 : Index := 0#32
  ![v150.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 8], ![false, false]⟩

@[reducible] def k1_t1_loop : Scf.Loop 32 :=
  let c0_i32_4 : BitVec 32 := 0#32
  let c32_i32 : BitVec 32 := 32#32
  let v6 : BitVec 32 := Scalar.addi c0_i32_4 c32_i32
  let c1_i32 : BitVec 32 := 1#32
  ⟨c0_i32_4, v6, c1_i32⟩
def k1_mult1 (k1_t1 : Fin k1_t1_loop.trips) : BitVec 32 :=
  let c2_i32 : BitVec 32 := 2#32
  let c31_i32 : BitVec 32 := 31#32
  let c0_i32_4 : BitVec 32 := 0#32
  let c1_i32 : BitVec 32 := 1#32
  let arg10 : BitVec 32 := Scf.iv c0_i32_4 c1_i32 k1_t1
  let v14 : BitVec 32 := Scalar.subi c31_i32 arg10
  let v15 : BitVec 32 := Scalar.muli c2_i32 v14
  let c1_i32_10 : BitVec 32 := 1#32
  let v16 : BitVec 32 := Scalar.addi v15 c1_i32_10
  let c8_i32 : BitVec 32 := 8#32
  let v17 : BitVec 32 := Scalar.muli v16 c8_i32
  v17
def k1_off1 (k1_t1 : Fin k1_t1_loop.trips) (c1_i32_10 : BitVec 32) : Fin 2 → Nat :=
  let c2_i32 : BitVec 32 := 2#32
  let c31_i32 : BitVec 32 := 31#32
  let c0_i32_4 : BitVec 32 := 0#32
  let c1_i32 : BitVec 32 := 1#32
  let arg10 : BitVec 32 := Scf.iv c0_i32_4 c1_i32 k1_t1
  let v14 : BitVec 32 := Scalar.subi c31_i32 arg10
  let v15 : BitVec 32 := Scalar.muli c2_i32 v14
  let v16 : BitVec 32 := Scalar.addi v15 c1_i32_10
  let c8_i32 : BitVec 32 := 8#32
  let v17 : BitVec 32 := Scalar.muli v16 c8_i32
  let v18 : BitVec 32 := v17
  let v19 : Index := Scalar.indexCast v18
  let c0_11 : Index := 0#32
  ![v19.toNat, 0]
def k1_mult2 (k1_t1 : Fin k1_t1_loop.trips) : BitVec 32 :=
  let c2_i32_33 : BitVec 32 := 2#32
  let c31_i32 : BitVec 32 := 31#32
  let c0_i32_4 : BitVec 32 := 0#32
  let c1_i32 : BitVec 32 := 1#32
  let arg10 : BitVec 32 := Scf.iv c0_i32_4 c1_i32 k1_t1
  let v14 : BitVec 32 := Scalar.subi c31_i32 arg10
  let v104 : BitVec 32 := Scalar.muli c2_i32_33 v14
  let c0_i32_34 : BitVec 32 := 0#32
  let v105 : BitVec 32 := Scalar.addi v104 c0_i32_34
  let c8_i32_35 : BitVec 32 := 8#32
  let v106 : BitVec 32 := Scalar.muli v105 c8_i32_35
  v106
def k1_mult3 (k1_t1 : Fin k1_t1_loop.trips) : BitVec 32 :=
  let c31_i32 : BitVec 32 := 31#32
  let c0_i32_4 : BitVec 32 := 0#32
  let c1_i32 : BitVec 32 := 1#32
  let arg10 : BitVec 32 := Scf.iv c0_i32_4 c1_i32 k1_t1
  let v14 : BitVec 32 := Scalar.subi c31_i32 arg10
  let c2_i32_62 : BitVec 32 := 2#32
  let v193 : BitVec 32 := Scalar.muli v14 c2_i32_62
  let c8_i32_63 : BitVec 32 := 8#32
  let v194 : BitVec 32 := Scalar.muli v193 c8_i32_63
  v194
def k1_off2 (k1_t1 : Fin k1_t1_loop.trips) : Fin 2 → Nat :=
  let c31_i32 : BitVec 32 := 31#32
  let c0_i32_4 : BitVec 32 := 0#32
  let c1_i32 : BitVec 32 := 1#32
  let arg10 : BitVec 32 := Scf.iv c0_i32_4 c1_i32 k1_t1
  let v14 : BitVec 32 := Scalar.subi c31_i32 arg10
  let c2_i32_62 : BitVec 32 := 2#32
  let v193 : BitVec 32 := Scalar.muli v14 c2_i32_62
  let c8_i32_63 : BitVec 32 := 8#32
  let v194 : BitVec 32 := Scalar.muli v193 c8_i32_63
  let v195 : BitVec 32 := v194
  let v198 : Index := Scalar.indexCast v195
  let c0_64 : Index := 0#32
  ![v198.toNat, 0]
def cc1_transform_0 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc1_transform_1 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c2_i32 : BitVec 32 := 2#32
  let v1 : BitVec 32 := Scalar.addi c2_i32 arg0
  let c0_i32 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc1_transform_3 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc1_transform_4 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc1_transform_5 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c2_i32 : BitVec 32 := 2#32
  let v1 : BitVec 32 := Scalar.addi c2_i32 arg0
  let c0_i32 : BitVec 32 := 0#32
  ![v0.toNat, v1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S4096x1024 : Shape := ⟨2, ![4096, 1024]⟩
abbrev S4096x2048 : Shape := ⟨2, ![4096, 2048]⟩
abbrev S_ : Shape := ⟨0, ![]⟩
abbrev S1024 : Shape := ⟨1, ![1024]⟩
abbrev S1x1024 : Shape := ⟨2, ![1, 1024]⟩
abbrev S4095x1024 : Shape := ⟨2, ![4095, 1024]⟩

abbrev nBuf : Space → Nat
  | .hbm => 116
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S4096x1024, .f32⟩
  | .hbm, ⟨9, _⟩ => ⟨S_, .i32⟩
  | .hbm, ⟨10, _⟩ => ⟨S4096x1024, .f32⟩
  | .hbm, ⟨11, _⟩ => ⟨S4096x1024, .f32⟩
  | .hbm, ⟨12, _⟩ => ⟨S_, .i32⟩
  | .hbm, ⟨13, _⟩ => ⟨S1024, .f32⟩
  | .hbm, ⟨14, _⟩ => ⟨S4096x1024, .f32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S1x1024, .f32⟩
  | .hbm, ⟨19, _⟩ => ⟨S1024, .f32⟩
  | .hbm, ⟨20, _⟩ => ⟨S_, .i32⟩
  | .hbm, ⟨21, _⟩ => ⟨S1x1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S_, .i32⟩
  | .hbm, ⟨27, _⟩ => ⟨S4096x1024, .f32⟩
  | .hbm, ⟨28, _⟩ => ⟨S_, .i32⟩
  | .hbm, ⟨29, _⟩ => ⟨S_, .i32⟩
  | .hbm, ⟨30, _⟩ => ⟨S_, .f32⟩
  | .hbm, ⟨31, _⟩ => ⟨S1x1024, .f32⟩
  | .hbm, ⟨32, _⟩ => ⟨S4095x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S_, .f32⟩
  | .hbm, ⟨83, _⟩ => ⟨S1024, .f32⟩
  | .hbm, ⟨84, _⟩ => ⟨S_, .f32⟩
  | .hbm, ⟨85, _⟩ => ⟨S4096x1024, .f32⟩
  | .hbm, ⟨86, _⟩ => ⟨S_, .i32⟩
  | .hbm, ⟨87, _⟩ => ⟨S4096x1024, .f32⟩
  | .hbm, ⟨88, _⟩ => ⟨S4096x1024, .f32⟩
  | .hbm, ⟨89, _⟩ => ⟨S_, .i32⟩
  | .hbm, ⟨90, _⟩ => ⟨S1024, .f32⟩
  | .hbm, ⟨91, _⟩ => ⟨S4096x1024, .f32⟩
  | .hbm, ⟨92, _⟩ => ⟨S_, .i32⟩
  | .hbm, ⟨93, _⟩ => ⟨S_, .i1⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S1x1024, .f32⟩
  | .hbm, ⟨100, _⟩ => ⟨S1024, .f32⟩
  | .hbm, ⟨101, _⟩ => ⟨S_, .i32⟩
  | .hbm, ⟨102, _⟩ => ⟨S1x1024, .f32⟩
  | .hbm, ⟨103, _⟩ => ⟨S1024, .f32⟩
  | .hbm, ⟨104, _⟩ => ⟨S1024, .f32⟩
  | .hbm, ⟨105, _⟩ => ⟨S1024, .f32⟩
  | .hbm, ⟨106, _⟩ => ⟨S1x1024, .f32⟩
  | .hbm, ⟨107, _⟩ => ⟨S_, .i32⟩
  | .hbm, ⟨108, _⟩ => ⟨S4096x1024, .f32⟩
  | .hbm, ⟨109, _⟩ => ⟨S_, .i32⟩
  | .hbm, ⟨110, _⟩ => ⟨S_, .i32⟩
  | .hbm, ⟨111, _⟩ => ⟨S_, .f32⟩
  | .hbm, ⟨112, _⟩ => ⟨S4096x1024, .f32⟩
  | .hbm, ⟨113, _⟩ => ⟨S4096x2048, .f32⟩
  | .hbm, ⟨114, _⟩ => ⟨S4096x1024, .bf16⟩
  | .hbm, ⟨115, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_c : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_while0c_c_21 : Ref sig .tc := ⟨.hbm, 15, rfl⟩
abbrev main_while0c_v51 : Ref sig .tc := ⟨.hbm, 16, rfl⟩
abbrev main_while0b_call0_c : Ref sig .tc := ⟨.hbm, 17, rfl⟩
abbrev main_while0b_call0_v0 : Ref sig .tc := ⟨.hbm, 18, rfl⟩
abbrev main_while0b_v51 : Ref sig .tc := ⟨.hbm, 19, rfl⟩
abbrev main_while0b_call1_c : Ref sig .tc := ⟨.hbm, 20, rfl⟩
abbrev main_while0b_call1_v0 : Ref sig .tc := ⟨.hbm, 21, rfl⟩
abbrev main_while0b_v52 : Ref sig .tc := ⟨.hbm, 22, rfl⟩
abbrev main_while0b_v53 : Ref sig .tc := ⟨.hbm, 23, rfl⟩
abbrev main_while0b_v54 : Ref sig .tc := ⟨.hbm, 24, rfl⟩
abbrev main_while0b_call2_v0 : Ref sig .tc := ⟨.hbm, 25, rfl⟩
abbrev main_while0b_call2_c : Ref sig .tc := ⟨.hbm, 26, rfl⟩
abbrev main_while0b_v55 : Ref sig .tc := ⟨.hbm, 27, rfl⟩
abbrev main_while0b_c_21 : Ref sig .tc := ⟨.hbm, 28, rfl⟩
abbrev main_while0b_v56 : Ref sig .tc := ⟨.hbm, 29, rfl⟩
abbrev main_cst_1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_2 : Ref sig .tc := ⟨.hbm, 37, rfl⟩
abbrev main_v10 : Ref sig .tc := ⟨.hbm, 38, rfl⟩
abbrev main_v11 : Ref sig .tc := ⟨.hbm, 39, rfl⟩
abbrev main_cst_3 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_4 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_5 : Ref sig .tc := ⟨.hbm, 48, rfl⟩
abbrev main_v18 : Ref sig .tc := ⟨.hbm, 49, rfl⟩
abbrev main_v19 : Ref sig .tc := ⟨.hbm, 50, rfl⟩
abbrev main_cst_6 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_7 : Ref sig .tc := ⟨.hbm, 55, rfl⟩
abbrev main_v23 : Ref sig .tc := ⟨.hbm, 56, rfl⟩
abbrev main_v24 : Ref sig .tc := ⟨.hbm, 57, rfl⟩
abbrev main_cst_8 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_9 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_10 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_11 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_12 : Ref sig .tc := ⟨.hbm, 80, rfl⟩
abbrev main_v43 : Ref sig .tc := ⟨.hbm, 81, rfl⟩
abbrev main_cst_13 : Ref sig .tc := ⟨.hbm, 82, rfl⟩
abbrev main_v44 : Ref sig .tc := ⟨.hbm, 83, rfl⟩
abbrev main_cst_14 : Ref sig .tc := ⟨.hbm, 84, rfl⟩
abbrev main_v45 : Ref sig .tc := ⟨.hbm, 85, rfl⟩
abbrev main_c_15 : Ref sig .tc := ⟨.hbm, 86, rfl⟩
abbrev main_v46_0 : Ref sig .tc := ⟨.hbm, 87, rfl⟩
abbrev main_v46_1 : Ref sig .tc := ⟨.hbm, 88, rfl⟩
abbrev main_v46_2 : Ref sig .tc := ⟨.hbm, 89, rfl⟩
abbrev main_v46_3 : Ref sig .tc := ⟨.hbm, 90, rfl⟩
abbrev main_v46_4 : Ref sig .tc := ⟨.hbm, 91, rfl⟩
abbrev main_while1c_c_21 : Ref sig .tc := ⟨.hbm, 92, rfl⟩
abbrev main_while1c_v51 : Ref sig .tc := ⟨.hbm, 93, rfl⟩
abbrev main_while1b_c_21 : Ref sig .tc := ⟨.hbm, 94, rfl⟩
abbrev main_while1b_v51 : Ref sig .tc := ⟨.hbm, 95, rfl⟩
abbrev main_while1b_c_22 : Ref sig .tc := ⟨.hbm, 96, rfl⟩
abbrev main_while1b_v52 : Ref sig .tc := ⟨.hbm, 97, rfl⟩
abbrev main_while1b_call3_c : Ref sig .tc := ⟨.hbm, 98, rfl⟩
abbrev main_while1b_call3_v0 : Ref sig .tc := ⟨.hbm, 99, rfl⟩
abbrev main_while1b_v53 : Ref sig .tc := ⟨.hbm, 100, rfl⟩
abbrev main_while1b_call4_c : Ref sig .tc := ⟨.hbm, 101, rfl⟩
abbrev main_while1b_call4_v0 : Ref sig .tc := ⟨.hbm, 102, rfl⟩
abbrev main_while1b_v54 : Ref sig .tc := ⟨.hbm, 103, rfl⟩
abbrev main_while1b_v55 : Ref sig .tc := ⟨.hbm, 104, rfl⟩
abbrev main_while1b_v56 : Ref sig .tc := ⟨.hbm, 105, rfl⟩
abbrev main_while1b_call5_v0 : Ref sig .tc := ⟨.hbm, 106, rfl⟩
abbrev main_while1b_call5_c : Ref sig .tc := ⟨.hbm, 107, rfl⟩
abbrev main_while1b_v57 : Ref sig .tc := ⟨.hbm, 108, rfl⟩
abbrev main_while1b_c_23 : Ref sig .tc := ⟨.hbm, 109, rfl⟩
abbrev main_while1b_v58 : Ref sig .tc := ⟨.hbm, 110, rfl⟩
abbrev main_cst_16 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩

abbrev nD : Nat := 1
abbrev τ : Topo := Topo.v7x

variable {F : FTy → Type} [FloatOps F]

abbrev main_while0_count : Scf.Loop 32 := ⟨0#32, 4096#32, 1#32⟩

abbrev main_while1_count : Scf.Loop 32 := ⟨0#32, 4096#32, 1#32⟩
-- ==== Kernel2.lean ====
abbrev S4096x1024 : Shape := ⟨2, ![4096, 1024]⟩
abbrev S1024x4096 : Shape := ⟨2, ![1024, 4096]⟩
abbrev S1024 : Shape := ⟨1, ![1024]⟩
abbrev S1024x8x512 : Shape := ⟨3, ![1024, 8, 512]⟩
abbrev S8x1024x512 : Shape := ⟨3, ![8, 1024, 512]⟩
abbrev S8x1x1024x512 : Shape := ⟨4, ![8, 1, 1024, 512]⟩
abbrev S1x4096x1024 : Shape := ⟨3, ![1, 4096, 1024]⟩
abbrev S1x1024 : Shape := ⟨2, ![1, 1024]⟩
abbrev S4096x4096 : Shape := ⟨2, ![4096, 4096]⟩
abbrev S2048x1024 : Shape := ⟨2, ![2048, 1024]⟩
abbrev S1x1x1024x512 : Shape := ⟨4, ![1, 1, 1024, 512]⟩
abbrev S2048x512 : Shape := ⟨2, ![2048, 512]⟩
abbrev S1024x512 : Shape := ⟨2, ![1024, 512]⟩
abbrev S1024x1024 : Shape := ⟨2, ![1024, 1024]⟩
abbrev S1x1024x1024 : Shape := ⟨3, ![1, 1024, 1024]⟩
abbrev S1024x1 : Shape := ⟨2, ![1024, 1]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S512x2048 : Shape := ⟨2, ![512, 2048]⟩
abbrev S4x1024x512 : Shape := ⟨3, ![4, 1024, 512]⟩
abbrev S1024x2048 : Shape := ⟨2, ![1024, 2048]⟩
abbrev S1x1024x512 : Shape := ⟨3, ![1, 1024, 512]⟩
abbrev S_ : Shape := ⟨0, ![]⟩

abbrev nBuf : Space → Nat
  | .hbm => 34
  | .vmem => 68
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .bf16⟩
  | .hbm, ⟨7, _⟩ => ⟨S1024x4096, .bf16⟩
  | .hbm, ⟨8, _⟩ => ⟨S1024x8x512, .bf16⟩
  | .hbm, ⟨9, _⟩ => ⟨S8x1024x512, .bf16⟩
  | .hbm, ⟨10, _⟩ => ⟨S8x1x1024x512, .bf16⟩
  | .hbm, ⟨11, _⟩ => ⟨S4096x1024, .bf16⟩
  | .hbm, ⟨12, _⟩ => ⟨S1x4096x1024, .bf16⟩
  | .hbm, ⟨13, _⟩ => ⟨S1x1024, .f32⟩
  | .hbm, ⟨14, _⟩ => ⟨S1x1024, .f32⟩
  | .hbm, ⟨15, _⟩ => ⟨S4096x4096, .bf16⟩
  | .hbm, ⟨16, _⟩ => ⟨S4096x4096, .bf16⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x1024, .f32⟩
  | .hbm, ⟨21, _⟩ => ⟨S4096x1024, .bf16⟩
  | .hbm, ⟨22, _⟩ => ⟨S1x1024, .f32⟩
  | .hbm, ⟨23, _⟩ => ⟨S1x1024, .f32⟩
  | .hbm, ⟨24, _⟩ => ⟨S4096x4096, .bf16⟩
  | .hbm, ⟨25, _⟩ => ⟨S4096x1024, .bf16⟩
  | .hbm, ⟨26, _⟩ => ⟨S4096x1024, .f32⟩
  | .hbm, ⟨27, _⟩ => ⟨S8x1024x512, .bf16⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1024, .f32⟩
  | .hbm, ⟨33, _⟩ => ⟨S1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .f32⟩
  | .local _ .vmem, ⟨9, _⟩ => ⟨S1024x1024, .bf16⟩
  | .local _ .vmem, ⟨10, _⟩ => ⟨S1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .bf16⟩
  | .local _ .vmem, ⟨22, _⟩ => ⟨S1024x1024, .bf16⟩
  | .local _ .vmem, ⟨23, _⟩ => ⟨S1024x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | .local _ .vmem, ⟨29, _⟩ => ⟨S1x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .bf16⟩
  | .local _ .vmem, ⟨35, _⟩ => ⟨S512x1024, .bf16⟩
  | .local _ .vmem, ⟨36, _⟩ => ⟨S1x1024, .f32⟩
  | .local _ .vmem, ⟨37, _⟩ => ⟨S1x1024, .f32⟩
  | .local _ .vmem, ⟨38, _⟩ => ⟨S2048x1024, .bf16⟩
  | .local _ .vmem, ⟨39, _⟩ => ⟨S2048x1024, .bf16⟩
  | .local _ .vmem, ⟨40, _⟩ => ⟨S1x512x1024, .bf16⟩
  | .local _ .vmem, ⟨41, _⟩ => ⟨S1x512x1024, .bf16⟩
  | .local _ .vmem, ⟨42, _⟩ => ⟨S2048x512, .bf16⟩
  | .local _ .vmem, ⟨43, _⟩ => ⟨S2048x512, .bf16⟩
  | .local _ .vmem, ⟨44, _⟩ => ⟨S2048x512, .bf16⟩
  | .local _ .vmem, ⟨45, _⟩ => ⟨S2048x512, .bf16⟩
  | .local _ .vmem, ⟨46, _⟩ => ⟨S2048x512, .f32⟩
  | .local _ .vmem, ⟨47, _⟩ => ⟨S512x2048, .bf16⟩
  | .local _ .vmem, ⟨48, _⟩ => ⟨S512x2048, .bf16⟩
  | .local _ .vmem, ⟨49, _⟩ => ⟨S512x1024, .bf16⟩
  | .local _ .vmem, ⟨50, _⟩ => ⟨S512x1024, .bf16⟩
  | .local _ .vmem, ⟨51, _⟩ => ⟨S2048x1024, .bf16⟩
  | .local _ .vmem, ⟨52, _⟩ => ⟨S2048x1024, .bf16⟩
  | .local _ .vmem, ⟨53, _⟩ => ⟨S2048x1024, .f32⟩
  | .local _ .vmem, ⟨54, _⟩ => ⟨S2048x512, .bf16⟩
  | .local _ .vmem, ⟨55, _⟩ => ⟨S2048x512, .bf16⟩
  | .local _ .vmem, ⟨56, _⟩ => ⟨S1x1x1024x512, .bf16⟩
  | .local _ .vmem, ⟨57, _⟩ => ⟨S1x1x1024x512, .bf16⟩
  | .local _ .vmem, ⟨58, _⟩ => ⟨S2048x1024, .f32⟩
  | .local _ .vmem, ⟨59, _⟩ => ⟨S2048x1024, .f32⟩
  | .local _ .vmem, ⟨60, _⟩ => ⟨S2048x1024, .f32⟩
  | .local _ .vmem, ⟨61, _⟩ => ⟨S512x1024, .bf16⟩
  | .local _ .vmem, ⟨62, _⟩ => ⟨S512x1024, .bf16⟩
  | .local _ .vmem, ⟨63, _⟩ => ⟨S512x2048, .bf16⟩
  | .local _ .vmem, ⟨64, _⟩ => ⟨S512x2048, .bf16⟩
  | .local _ .vmem, ⟨65, _⟩ => ⟨S4x1024x512, .bf16⟩
  | .local _ .vmem, ⟨66, _⟩ => ⟨S4x1024x512, .bf16⟩
  | .local _ .vmem, ⟨67, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_scratch0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg8_0 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg3_1 : Ref sig .tc := ⟨.vmem, 45, rfl⟩
abbrev cc3_scratch0 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg1_1 : Ref sig .tc := ⟨.vmem, 50, rfl⟩
abbrev cc4_stg2_0 : Ref sig .tc := ⟨.vmem, 51, rfl⟩
abbrev cc4_stg2_1 : Ref sig .tc := ⟨.vmem, 52, rfl⟩
abbrev cc4_scratch0 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg2_1 : Ref sig .tc := ⟨.vmem, 59, rfl⟩
abbrev cc5_scratch0 : Ref sig .tc := ⟨.vmem, 60, rfl⟩
abbrev cc6_stg0_0 : Ref sig .tc := ⟨.vmem, 61, rfl⟩
abbrev cc6_stg0_1 : Ref sig .tc := ⟨.vmem, 62, rfl⟩
abbrev cc6_stg1_0 : Ref sig .tc := ⟨.vmem, 63, rfl⟩
abbrev cc6_stg1_1 : Ref sig .tc := ⟨.vmem, 64, rfl⟩
abbrev cc6_stg2_0 : Ref sig .tc := ⟨.vmem, 65, rfl⟩
abbrev cc6_stg2_1 : Ref sig .tc := ⟨.vmem, 66, rfl⟩
abbrev cc6_scratch0 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem8_0 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem2_1 : DmaSem sig := 61

abbrev nD : Nat := 1
abbrev τ : Topo := Topo.v7x

variable {F : FTy → Type} [FloatOps F]

abbrev grid0 : Pipeline.Grid := ⟨3, ![2, 8, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 1, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev stage1_7 : Fin 2 → Memref sig .tc .vmem S1024x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨3, ![2, 8, 1], ![false, false, false]⟩

def k3_cond2 (i : grid3.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2048x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S2048x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![2, 1, 8], ![false, false, false]⟩

def k4_cond2 (i : grid4.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S512x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S2048x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 1, 8], ![false, false, false]⟩

def k5_cond2 (i : grid5.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1x1x1024x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S2048x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![1, 2, 8], ![false, false, false]⟩

def k6_cond2 (i : grid6.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage6_0 : Fin 2 → Memref sig .tc .vmem S512x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S512x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S4x1024x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]
-- ==== Reference2Ideal.lean ====
abbrev S4096x1024 : Shape := ⟨2, ![4096, 1024]⟩
abbrev S1024x4096 : Shape := ⟨2, ![1024, 4096]⟩
abbrev S1024 : Shape := ⟨1, ![1024]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1x1024 : Shape := ⟨2, ![1, 1024]⟩
abbrev S1024x8x512 : Shape := ⟨3, ![1024, 8, 512]⟩
abbrev S8x1024x512 : Shape := ⟨3, ![8, 1024, 512]⟩

abbrev nBuf : Space → Nat
  | .hbm => 122
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .i1⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S4096x1024, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096, .f32⟩
  | .hbm, ⟨100, _⟩ => ⟨S4096x1024, .f32⟩
  | .hbm, ⟨101, _⟩ => ⟨S4096x1024, .f32⟩
  | .hbm, ⟨102, _⟩ => ⟨S1024x4096, .f32⟩
  | .hbm, ⟨103, _⟩ => ⟨S4096x1024, .f32⟩
  | .hbm, ⟨104, _⟩ => ⟨S4096x4096, .f32⟩
  | .hbm, ⟨105, _⟩ => ⟨S4096x4096, .f32⟩
  | .hbm, ⟨106, _⟩ => ⟨S4096x4096, .f32⟩
  | .hbm, ⟨107, _⟩ => ⟨S4096x4096, .f32⟩
  | .hbm, ⟨108, _⟩ => ⟨S_, .f32⟩
  | .hbm, ⟨109, _⟩ => ⟨S4096x4096, .f32⟩
  | .hbm, ⟨110, _⟩ => ⟨S4096x4096, .f32⟩
  | .hbm, ⟨111, _⟩ => ⟨S4096x1024, .f32⟩
  | .hbm, ⟨112, _⟩ => ⟨S1024x4096, .f32⟩
  | .hbm, ⟨113, _⟩ => ⟨S4096x1024, .f32⟩
  | .hbm, ⟨114, _⟩ => ⟨S_, .f32⟩
  | .hbm, ⟨115, _⟩ => ⟨S4096x1024, .f32⟩
  | .hbm, ⟨116, _⟩ => ⟨S4096x1024, .f32⟩
  | .hbm, ⟨117, _⟩ => ⟨S4096x1024, .f32⟩
  | .hbm, ⟨118, _⟩ => ⟨S1024x8x512, .f32⟩
  | .hbm, ⟨119, _⟩ => ⟨S8x1024x512, .f32⟩
  | .hbm, ⟨120, _⟩ => ⟨S8x1024x512, .bf16⟩
  | .hbm, ⟨121, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_cst : Ref sig .tc := ⟨.hbm, 10, rfl⟩
abbrev main_call0_v0 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_cst_15 : Ref sig .tc := ⟨.hbm, 82, rfl⟩
abbrev main_v58 : Ref sig .tc := ⟨.hbm, 83, rfl⟩
abbrev main_v59 : Ref sig .tc := ⟨.hbm, 84, rfl⟩
abbrev main_cst_16 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_17 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_18 : Ref sig .tc := ⟨.hbm, 95, rfl⟩
abbrev main_v68 : Ref sig .tc := ⟨.hbm, 96, rfl⟩
abbrev main_v69 : Ref sig .tc := ⟨.hbm, 97, rfl⟩
abbrev main_cst_19 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_20 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_21 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩

abbrev nD : Nat := 1
abbrev τ : Topo := Topo.v7x

variable {F : FTy → Type} [FloatOps F]
-- ==== Kernel3.lean ====
abbrev S4096x1024 : Shape := ⟨2, ![4096, 1024]⟩
abbrev S1024x2048 : Shape := ⟨2, ![1024, 2048]⟩
abbrev S1x1024x2048 : Shape := ⟨3, ![1, 1024, 2048]⟩
abbrev S4096x2048 : Shape := ⟨2, ![4096, 2048]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x2048, .bf16⟩
  | .hbm, ⟨4, _⟩ => ⟨S1x1024x2048, .bf16⟩
  | .hbm, ⟨5, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel4.lean ====
abbrev S4096x2048 : Shape := ⟨2, ![4096, 2048]⟩
abbrev S1024x2048 : Shape := ⟨2, ![1024, 2048]⟩
abbrev S1x1024x2048 : Shape := ⟨3, ![1, 1024, 2048]⟩
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x2048, .bf16⟩
  | .hbm, ⟨3, _⟩ => ⟨S1024x2048, .bf16⟩
  | .hbm, ⟨4, _⟩ => ⟨S1x1024x2048, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S1024x2048 : Shape := ⟨2, ![1024, 2048]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel5.lean ====
abbrev S4096x1024 : Shape := ⟨2, ![4096, 1024]⟩
abbrev S4096x2048 : Shape := ⟨2, ![4096, 2048]⟩
abbrev S8x1024x256 : Shape := ⟨3, ![8, 1024, 256]⟩
abbrev S512x1024 : Shape := ⟨2, ![512, 1024]⟩
abbrev S512x2048 : Shape := ⟨2, ![512, 2048]⟩
abbrev S1024x2048 : Shape := ⟨2, ![1024, 2048]⟩
abbrev S1024x256 : Shape := ⟨2, ![1024, 256]⟩
abbrev S1x1024x256 : Shape := ⟨3, ![1, 1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S8x1024x256, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S8x1024x256, .bf16⟩
  | .local _ .vmem, ⟨5, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x2048 : Shape := ⟨2, ![4096, 2048]⟩
abbrev S2048x1024 : Shape := ⟨2, ![2048, 1024]⟩
abbrev S1024x2048 : Shape := ⟨2, ![1024, 2048]⟩
abbrev S1024x8x256 : Shape := ⟨3, ![1024, 8, 256]⟩
abbrev S8x1024x256 : Shape := ⟨3, ![8, 1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S1024x2048, .f32⟩
  | .hbm, ⟨4, _⟩ => ⟨S1024x8x256, .f32⟩
  | .hbm, ⟨5, _⟩ => ⟨S8x1024x256, .f32⟩
  | .hbm, ⟨6, _⟩ => ⟨S8x1024x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S1024 : Shape := ⟨1, ![1024]⟩
abbrev S1x1024x1024 : Shape := ⟨3, ![1, 1024, 1024]⟩
abbrev S1x1024 : Shape := ⟨2, ![1, 1024]⟩
abbrev S1024x1 : Shape := ⟨2, ![1024, 1]⟩

abbrev nBuf : Space → Nat
  | .hbm => 13
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .bf16⟩
  | .hbm, ⟨6, _⟩ => ⟨S1024x1024, .bf16⟩
  | .hbm, ⟨7, _⟩ => ⟨S1x1024x1024, .bf16⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference6Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S1x1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S4096x1024 : Shape := ⟨2, ![4096, 1024]⟩
abbrev S1024x3072 : Shape := ⟨2, ![1024, 3072]⟩
abbrev S1x1024x3072 : Shape := ⟨3, ![1, 1024, 3072]⟩
abbrev S4096x3072 : Shape := ⟨2, ![4096, 3072]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x1024, .bf16⟩
  | .hbm, ⟨3, _⟩ => ⟨S1024x3072, .bf16⟩
  | .hbm, ⟨4, _⟩ => ⟨S1x1024x3072, .bf16⟩
  | .hbm, ⟨5, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S4096x3072 : Shape := ⟨2, ![4096, 3072]⟩
abbrev S1024x3072 : Shape := ⟨2, ![1024, 3072]⟩
abbrev S1x1024x3072 : Shape := ⟨3, ![1, 1024, 3072]⟩
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S4096x3072, .bf16⟩
  | .hbm, ⟨3, _⟩ => ⟨S1024x3072, .bf16⟩
  | .hbm, ⟨4, _⟩ => ⟨S1x1024x3072, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x3072 : Shape := ⟨2, ![4096, 3072]⟩
abbrev S1024x3072 : Shape := ⟨2, ![1024, 3072]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S4096x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S4096x1024 : Shape := ⟨2, ![4096, 1024]⟩
abbrev S4096x3072 : Shape := ⟨2, ![4096, 3072]⟩
abbrev S1024x3072 : Shape := ⟨2, ![1024, 3072]⟩
abbrev S512x1024 : Shape := ⟨2, ![512, 1024]⟩
abbrev S512x1536 : Shape := ⟨2, ![512, 1536]⟩
abbrev S1024x1536 : Shape := ⟨2, ![1024, 1536]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x1024, .bf16⟩
  | .hbm, ⟨3, _⟩ => ⟨S4096x3072, .bf16⟩
  | .hbm, ⟨4, _⟩ => ⟨S1024x3072, .f32⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S4096x3072 : Shape := ⟨2, ![4096, 3072]⟩
abbrev S3072x1024 : Shape := ⟨2, ![3072, 1024]⟩
abbrev S1024x3072 : Shape := ⟨2, ![1024, 3072]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S3072x1024, .f32⟩
  | .hbm, ⟨3, _⟩ => ⟨S1024x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S4096x3072 : Shape := ⟨2, ![4096, 3072]⟩
abbrev S1024x3072 : Shape := ⟨2, ![1024, 3072]⟩
abbrev S4096x1024 : Shape := ⟨2, ![4096, 1024]⟩
abbrev S1x1024x3072 : Shape := ⟨3, ![1, 1024, 3072]⟩
abbrev S1024x1024 : Shape := ⟨2, ![1024, 1024]⟩
abbrev S1x1024x1024 : Shape := ⟨3, ![1, 1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S4096x1024, .f32⟩
  | .hbm, ⟨3, _⟩ => ⟨S4096x3072, .bf16⟩
  | .hbm, ⟨4, _⟩ => ⟨S1024x3072, .bf16⟩
  | .hbm, ⟨5, _⟩ => ⟨S1x1024x3072, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x3072 : Shape := ⟨2, ![4096, 3072]⟩
abbrev S1024x3072 : Shape := ⟨2, ![1024, 3072]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel13.lean ====
abbrev S4096x1024 : Shape := ⟨2, ![4096, 1024]⟩
abbrev S1024x3072 : Shape := ⟨2, ![1024, 3072]⟩
abbrev S1x1024x3072 : Shape := ⟨3, ![1, 1024, 3072]⟩
abbrev S4096x3072 : Shape := ⟨2, ![4096, 3072]⟩
abbrev S1024x1024 : Shape := ⟨2, ![1024, 1024]⟩
abbrev S1x1024x1024 : Shape := ⟨3, ![1, 1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S1024x3072, .bf16⟩
  | .hbm, ⟨3, _⟩ => ⟨S1x1024x3072, .bf16⟩
  | .hbm, ⟨4, _⟩ => ⟨S4096x3072, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S4096x1024 : Shape := ⟨2, ![4096, 1024]⟩
abbrev S4096x3072 : Shape := ⟨2, ![4096, 3072]⟩
abbrev S1024x3072 : Shape := ⟨2, ![1024, 3072]⟩
abbrev S512x1024 : Shape := ⟨2, ![512, 1024]⟩
abbrev S512x1536 : Shape := ⟨2, ![512, 1536]⟩
abbrev S1024x1536 : Shape := ⟨2, ![1024, 1536]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x3072, .bf16⟩
  | .hbm, ⟨3, _⟩ => ⟨S1024x3072, .f32⟩
  | .local _ .vmem, ⟨0, _⟩ => ⟨S512x1024, .f32⟩
  | .local _ .vmem, ⟨1, _⟩ => ⟨S512x1024, .f32⟩
  | .local _ .vmem, ⟨2, _⟩ => ⟨S512x1536, .bf16⟩
  | .local _ .vmem, ⟨3, _⟩ => ⟨S512x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S4096x3072 : Shape := ⟨2, ![4096, 3072]⟩
abbrev S3072x1024 : Shape := ⟨2, ![3072, 1024]⟩
abbrev S1024x3072 : Shape := ⟨2, ![1024, 3072]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S3072x1024, .f32⟩
  | .hbm, ⟨3, _⟩ => ⟨S1024x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel15.lean ====
abbrev S4096x1024 : Shape := ⟨2, ![4096, 1024]⟩
abbrev S4x256x256 : Shape := ⟨3, ![4, 256, 256]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x256x256, .f32⟩
  | .hbm, ⟨4, _⟩ => ⟨S4x256x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference15Ideal.lean ====
abbrev S4096x1024 : Shape := ⟨2, ![4096, 1024]⟩
abbrev S4096x4x256 : Shape := ⟨3, ![4096, 4, 256]⟩
abbrev S4x256x4096 : Shape := ⟨3, ![4, 256, 4096]⟩
abbrev S4x256x256 : Shape := ⟨3, ![4, 256, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x4x256, .f32⟩
  | .hbm, ⟨4, _⟩ => ⟨S4096x4x256, .f32⟩
  | .hbm, ⟨5, _⟩ => ⟨S4x256x4096, .f32⟩
  | .hbm, ⟨6, _⟩ => ⟨S4x256x256, .f32⟩
  | .hbm, ⟨7, _⟩ => ⟨S4x256x256, .f32⟩
  | .hbm, ⟨8, _⟩ => ⟨S4096x4x256, .f32⟩
  | .hbm, ⟨9, _⟩ => ⟨S4x256x4096, .f32⟩
  | .hbm, ⟨10, _⟩ => ⟨S4x256x256, .f32⟩
  | .hbm, ⟨11, _⟩ => ⟨S4x256x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel16.lean ====
abbrev S8x1024x512 : Shape := ⟨3, ![8, 1024, 512]⟩
abbrev S4x1024x512 : Shape := ⟨3, ![4, 1024, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 11
  | .vmem => 22
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S8x1024x512, .bf16⟩
  | .hbm, ⟨3, _⟩ => ⟨S8x1024x512, .bf16⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .local _ .vmem, ⟨0, _⟩ => ⟨S8x256x512, .bf16⟩
  | .local _ .vmem, ⟨1, _⟩ => ⟨S8x256x512, .bf16⟩
  | .local _ .vmem, ⟨2, _⟩ => ⟨S8x256x512, .bf16⟩
  | .local _ .vmem, ⟨3, _⟩ => ⟨S8x256x512, .bf16⟩
  | .local _ .vmem, ⟨4, _⟩ => ⟨S8x256x512, .bf16⟩
  | .local _ .vmem, ⟨5, _⟩ => ⟨S8x256x512, .bf16⟩
  | .local _ .vmem, ⟨6, _⟩ => ⟨S8x256x512, .bf16⟩
  | .local _ .vmem, ⟨7, _⟩ => ⟨S8x256x512, .bf16⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference16Ideal.lean ====
abbrev S8x1024x512 : Shape := ⟨3, ![8, 1024, 512]⟩
abbrev S4x1024x512 : Shape := ⟨3, ![4, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 57
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S8x1024x512, .bf16⟩
  | .hbm, ⟨3, _⟩ => ⟨S8x1024x512, .bf16⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S8x1024x512, .f32⟩
  | .hbm, ⟨8, _⟩ => ⟨S_, .f32⟩
  | .hbm, ⟨9, _⟩ => ⟨S1024x512, .f32⟩
  | .hbm, ⟨10, _⟩ => ⟨S8x1024x512, .f32⟩
  | .hbm, ⟨11, _⟩ => ⟨S_, .f32⟩
  | .hbm, ⟨12, _⟩ => ⟨S1024x512, .f32⟩
  | .hbm, ⟨13, _⟩ => ⟨S8x1024x512, .f32⟩
  | .hbm, ⟨14, _⟩ => ⟨S_, .f32⟩
  | .hbm, ⟨15, _⟩ => ⟨S1024x512, .f32⟩
  | .hbm, ⟨16, _⟩ => ⟨S8x1024x512, .f32⟩
  | .hbm, ⟨17, _⟩ => ⟨S_, .f32⟩
  | .hbm, ⟨18, _⟩ => ⟨S1024x512, .f32⟩
  | .hbm, ⟨19, _⟩ => ⟨S1x1024x512, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S4x1024x512, .f32⟩
  | .hbm, ⟨24, _⟩ => ⟨S_, .f32⟩
  | .hbm, ⟨25, _⟩ => ⟨S4x1024x512, .f32⟩
  | .hbm, ⟨26, _⟩ => ⟨S4x1024x512, .f32⟩
  | .hbm, ⟨27, _⟩ => ⟨S_, .f32⟩
  | .hbm, ⟨28, _⟩ => ⟨S4x1024x512, .f32⟩
  | .hbm, ⟨29, _⟩ => ⟨S4x1024x512, .f32⟩
  | .hbm, ⟨30, _⟩ => ⟨S4x1024x512, .f32⟩
  | .hbm, ⟨31, _⟩ => ⟨S_, .f32⟩
  | .hbm, ⟨32, _⟩ => ⟨S4x1024x512, .f32⟩
  | .hbm, ⟨33, _⟩ => ⟨S4x1024x512, .f32⟩
  | .hbm, ⟨34, _⟩ => ⟨S4x1024x512, .f32⟩
  | .hbm, ⟨35, _⟩ => ⟨S_, .f32⟩
  | .hbm, ⟨36, _⟩ => ⟨S4x1024x512, .f32⟩
  | .hbm, ⟨37, _⟩ => ⟨S4x1024x512, .f32⟩
  | .hbm, ⟨38, _⟩ => ⟨S4x1024x512, .f32⟩
  | .hbm, ⟨39, _⟩ => ⟨S_, .f32⟩
  | .hbm, ⟨40, _⟩ => ⟨S4x1024x512, .f32⟩
  | .hbm, ⟨41, _⟩ => ⟨S4x1024x512, .f32⟩
  | .hbm, ⟨42, _⟩ => ⟨S_, .f32⟩
  | .hbm, ⟨43, _⟩ => ⟨S4x1024x512, .f32⟩
  | .hbm, ⟨44, _⟩ => ⟨S4x1024x512, .f32⟩
  | .hbm, ⟨45, _⟩ => ⟨S4x1024x512, .f32⟩
  | .hbm, ⟨46, _⟩ => ⟨S_, .f32⟩
  | .hbm, ⟨47, _⟩ => ⟨S4x1024x512, .f32⟩
  | .hbm, ⟨48, _⟩ => ⟨S4x1024x512, .f32⟩
  | .hbm, ⟨49, _⟩ => ⟨S4x1024x512, .f32⟩
  | .hbm, ⟨50, _⟩ => ⟨S_, .f32⟩
  | .hbm, ⟨51, _⟩ => ⟨S4x1024x512, .f32⟩
  | .hbm, ⟨52, _⟩ => ⟨S4x1024x512, .f32⟩
  | .hbm, ⟨53, _⟩ => ⟨S4x1024x512, .f32⟩
  | .hbm, ⟨54, _⟩ => ⟨S_, .f32⟩
  | .hbm, ⟨55, _⟩ => ⟨S4x1024x512, .f32⟩
  | .hbm, ⟨56, _⟩ => ⟨S4x1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Proof.Rows.lean ====
/-
  Groups of eight rows of a 512 × 512 block: a group read out of the block, a block put together from its groups, and
  what a list of stores leaves when every store writes rows of one such block.
-/
module

public import proofs.«01_k».proof.Proof.Gen.KernelIdeal.Loops
public import Idealize.ShloMosaic.Lib.Pipeline.FrameBody
public import Idealize.ShloMosaic.Lib.Pipeline.Value
public import Idealize.ShloMosaic.Lib.Pipeline.ValueKit.Tiles
public import Idealize.ShloMosaic.Lib.ValueIdxCore
public import Idealize.ShloMosaic.Lib.VecWindow

@[expose] public section

noncomputable section

namespace Cert.KernelIdeal.Scan

open Idealize.ShloMosaic Idealize.ShloMosaic.TcCoe Idealize.ShloMosaic.ValueIdx

variable {Val : EltTy → Type} {e : EltTy}

/-- Rows `8g … 8g + 7` of a block. -/
def rows (x : S512x512.Idx → Val e) (g : ℕ) : S8x512.Idx → Val e :=
  fun y => x (ix2 (n0 := 512) (n1 := 512) ⟨(8 * g + (y 0).val) % 512, Nat.mod_lt _ (by decide)⟩ (y 1))

/-- The block whose rows `8g … 8g + 7` are `G g`. -/
def ofRows (G : ℕ → S8x512.Idx → Val e) : S512x512.Idx → Val e :=
  fun y => G ((y 0).val / 8) (ix2 (n0 := 8) (n1 := 512) ⟨(y 0).val % 8, Nat.mod_lt _ (by decide)⟩ (y 1))

/-- A load of eight rows from row `8g` reads the group `g`. -/
theorem ld_rows (x : S512x512.Idx → Val e) {off : Fin 2 → ℕ} (g : ℕ) (h : off = ![8 * g, 0])
    (inb : ∀ a : Fin 2, off a + S8x512.size a ≤ S512x512.size a) :
    View.ld x (Rect.unit (s := S512x512) off S8x512.size inb) = rows x g := by
  subst h
  have h0 : 8 * g + 8 ≤ 512 := inb 0
  funext y
  refine View.ld_unit_apply_of x _ _ _ y _ (Fin.forall_fin_two.mpr ⟨?_, ?_⟩)
  · have hy : (y (0 : Fin 2)).val < 8 := (y 0).isLt
    show (8 * g + (y 0).val) % 512 = 8 * g + (y 0).val
    exact Nat.mod_eq_of_lt (by omega)
  · exact (Nat.zero_add _).symm

/-- A store of eight rows from row `8g` of the group `G g` writes rows of the block `ofRows G`. -/
theorem piece_rows (G : ℕ → S8x512.Idx → Val e) {off : Fin 2 → ℕ} (g : ℕ) (h : off = ![8 * g, 0])
    (inb : ∀ a : Fin 2, off a + S8x512.size a ≤ S512x512.size a) (x : S8x512.Idx) :
    G g x = ofRows G ((Rect.unit (s := S512x512) off S8x512.size inb).emb x) := by
  subst h
  have hx : (x (0 : Fin 2)).val < 8 := (x 0).isLt
  have e0 : (((Rect.unit (s := S512x512) ![8 * g, 0] S8x512.size inb).emb x) (0 : Fin 2)).val = 8 * g + (x 0).val :=
    Rect.idx_unit_val (s := S512x512) ![8 * g, 0] S8x512.size inb x 0
  have e1 : (((Rect.unit (s := S512x512) ![8 * g, 0] S8x512.size inb).emb x) (1 : Fin 2)).val = (x 1).val :=
    (Rect.idx_unit_val (s := S512x512) ![8 * g, 0] S8x512.size inb x 1).trans (Nat.zero_add _)
  unfold ofRows
  have hd : (((Rect.unit (s := S512x512) ![8 * g, 0] S8x512.size inb).emb x) (0 : Fin 2)).val / 8 = g := by rw [e0]; omega
  rw [hd]
  refine congrArg (G g) (funext fun a => Fin.ext ?_)
  match a with
  | ⟨0, _⟩ =>
    show (x 0).val = (((Rect.unit (s := S512x512) ![8 * g, 0] S8x512.size inb).emb x) (0 : Fin 2)).val % 8
    rw [e0]; omega
  | ⟨1, _⟩ => exact e1.symm

/-- Every row from row `o` to row `o + W` lies in a store of `W` rows at row `o`. -/
theorem mem_rows {off : Fin 2 → ℕ} {W : ℕ} (o : ℕ) (h : off = ![o, 0])
    (inb : ∀ a : Fin 2, off a + (![W, 512] : Fin 2 → ℕ) a ≤ S512x512.size a) (y : S512x512.Idx)
    (h0 : o ≤ (y 0).val) (h1 : (y 0).val < o + W) : y ∈ (Rect.unit (s := S512x512) off ![W, 512] inb).set := by
  subst h
  refine Rect.mem_set_unit.mpr (Fin.forall_fin_two.mpr ⟨⟨h0, h1⟩, ⟨Nat.zero_le _, ?_⟩⟩)
  show (y 1).val < 0 + 512
  rw [Nat.zero_add]; exact (y 1).isLt

/-- Two groups of eight rows one above the other. -/
theorem stacked_rows {α : Type} (lo hi : S8x512.Idx → α) (h : Shape.Concatenates [S8x512, S8x512] S16x512 0) (x : S16x512.Idx) :
    concatenate S16x512 0 [⟨S8x512, lo⟩, ⟨S8x512, hi⟩] h x
      = (if (x 0).val / 8 = 0 then lo else hi)
          (ix2 (n0 := 8) (n1 := 512) ⟨(x 0).val % 8, Nat.mod_lt _ (by decide)⟩ (x 1)) := by
  have hx : (x (0 : Fin 2)).val < 16 := (x 0).isLt
  by_cases h8 : (x (0 : Fin 2)).val < 8
  · rw [if_pos (by omega)]
    refine concatenate_pair_apply_left 0 lo hi _ x rfl _ (Fin.forall_fin_two.mpr ⟨?_, rfl⟩)
    show (x (0 : Fin 2)).val % 8 = (x (0 : Fin 2)).val
    omega
  · rw [if_neg (by omega)]
    refine concatenate_pair_apply_right 0 lo hi _ x rfl rfl _ ?_ ?_
    · intro b hb
      match b, hb with
      | ⟨0, _⟩, hb => exact absurd rfl hb
      | ⟨1, _⟩, _ => rfl
    · show (x (0 : Fin 2)).val % 8 + 8 = (x (0 : Fin 2)).val
      omega

/-- A store of sixteen rows from row `16m` writes rows of a block when its payload is the block's groups `2m` and `2m + 1`. -/
theorem piece_rows16 (G : ℕ → S8x512.Idx → Val e) (w : S16x512.Idx → Val e) {off : Fin 2 → ℕ} (m : ℕ) (h : off = ![16 * m, 0])
    (hw : ∀ x : S16x512.Idx, w x = G (2 * m + (x 0).val / 8)
      (ix2 (n0 := 8) (n1 := 512) ⟨(x 0).val % 8, Nat.mod_lt _ (by decide)⟩ (x 1)))
    (inb : ∀ a : Fin 2, off a + S16x512.size a ≤ S512x512.size a) (x : S16x512.Idx) :
    w x = ofRows G ((Rect.unit (s := S512x512) off S16x512.size inb).emb x) := by
  subst h
  have e0 : (((Rect.unit (s := S512x512) ![16 * m, 0] S16x512.size inb).emb x) (0 : Fin 2)).val = 16 * m + (x 0).val :=
    Rect.idx_unit_val (s := S512x512) ![16 * m, 0] S16x512.size inb x 0
  have e1 : (((Rect.unit (s := S512x512) ![16 * m, 0] S16x512.size inb).emb x) (1 : Fin 2)).val = (x 1).val :=
    (Rect.idx_unit_val (s := S512x512) ![16 * m, 0] S16x512.size inb x 1).trans (Nat.zero_add _)
  rw [hw]
  unfold ofRows
  have hd : (((Rect.unit (s := S512x512) ![16 * m, 0] S16x512.size inb).emb x) (0 : Fin 2)).val / 8 = 2 * m + (x 0).val / 8 := by
    rw [e0]; omega
  rw [hd]
  refine congrArg (G _) (funext fun a => Fin.ext ?_)
  match a with
  | ⟨0, _⟩ =>
    show (x 0).val % 8 = (((Rect.unit (s := S512x512) ![16 * m, 0] S16x512.size inb).emb x) (0 : Fin 2)).val % 8
    rw [e0]; omega
  | ⟨1, _⟩ => exact e1.symm

/-- A list of stores all of which write rows of the block `G`, and which reach every row of `P`. -/
structure Holds (G : S512x512.Idx → Val e) (P : ℕ → Prop) (L : List (View.Piece Val S512x512 e)) : Prop where
  fits : ∀ p ∈ L, ∀ x : p.1.shape.Idx, p.2 x = G (p.1.emb x)
  reach : ∀ y : S512x512.Idx, P (y 0).val → ∃ p ∈ L, y ∈ p.1.set

theorem Holds.nil (G : S512x512.Idx → Val e) {P : ℕ → Prop} (hP : ∀ r, ¬P r) : Holds G P [] :=
  ⟨fun _ h => absurd h List.not_mem_nil, fun _ h => absurd h (hP _)⟩

/-- Two stores of eight rows more. -/
theorem Holds.pair {G : ℕ → S8x512.Idx → Val e} {P Q : ℕ → Prop} {L : List (View.Piece Val S512x512 e)} (hL : Holds (ofRows G) P L)
    {off off' : Fin 2 → ℕ} (g g' : ℕ) (h : off = ![8 * g, 0]) (h' : off' = ![8 * g', 0])
    (inb : ∀ a : Fin 2, off a + S8x512.size a ≤ S512x512.size a) (inb' : ∀ a : Fin 2, off' a + S8x512.size a ≤ S512x512.size a)
    (w w' : S8x512.Idx → Val e) (hw : w = G g) (hw' : w' = G g')
    (hQ : ∀ r, Q r → P r ∨ (8 * g ≤ r ∧ r < 8 * g + 8) ∨ (8 * g' ≤ r ∧ r < 8 * g' + 8)) :
    Holds (ofRows G) Q ([⟨Rect.unit (s := S512x512) off S8x512.size inb, w⟩, ⟨Rect.unit (s := S512x512) off' S8x512.size inb', w'⟩] ++ L) := by
  subst hw hw'
  refine ⟨fun p hp => ?_, fun y hy => ?_⟩
  · rcases List.mem_append.mp hp with hp | hp
    · rcases List.mem_cons.mp hp with rfl | hp
      · exact piece_rows G g h inb
      · obtain rfl := List.mem_singleton.mp hp
        exact piece_rows G g' h' inb'
    · exact hL.fits p hp
  · rcases hQ _ hy with h0 | ⟨h0, h1⟩ | ⟨h0, h1⟩
    · obtain ⟨p, hp, hm⟩ := hL.reach y h0
      exact ⟨p, List.mem_append_right _ hp, hm⟩
    · exact ⟨_, List.mem_append_left _ List.mem_cons_self, mem_rows (8 * g) h inb y h0 h1⟩
    · exact ⟨_, List.mem_append_left _ (List.mem_cons_of_mem _ List.mem_cons_self), mem_rows (8 * g') h' inb' y h0 h1⟩

/-- One store of sixteen rows more. -/
theorem Holds.wide {G : ℕ → S8x512.Idx → Val e} {P Q : ℕ → Prop} {L : List (View.Piece Val S512x512 e)} (hL : Holds (ofRows G) P L)
    {off : Fin 2 → ℕ} (m : ℕ) (h : off = ![16 * m, 0]) (inb : ∀ a : Fin 2, off a + S16x512.size a ≤ S512x512.size a)
    (w : S16x512.Idx → Val e)
    (hw : ∀ x : S16x512.Idx, w x = G (2 * m + (x 0).val / 8)
      (ix2 (n0 := 8) (n1 := 512) ⟨(x 0).val % 8, Nat.mod_lt _ (by decide)⟩ (x 1)))
    (hQ : ∀ r, Q r → P r ∨ (16 * m ≤ r ∧ r < 16 * m + 16)) :
    Holds (ofRows G) Q ([⟨Rect.unit (s := S512x512) off S16x512.size inb, w⟩] ++ L) := by
  refine ⟨fun p hp => ?_, fun y hy => ?_⟩
  · rcases List.mem_append.mp hp with hp | hp
    · obtain rfl := List.mem_singleton.mp hp
      exact piece_rows16 G w m h hw inb
    · exact hL.fits p hp
  · rcases hQ _ hy with h0 | ⟨h0, h1⟩
    · obtain ⟨p, hp, hm⟩ := hL.reach y h0
      exact ⟨p, List.mem_append_right _ hp, hm⟩
    · exact ⟨_, List.mem_append_left _ List.mem_cons_self, mem_rows (16 * m) h inb y h0 h1⟩

/-- Stores of rows of `G` that reach every row leave `G`, whatever the buffer held. -/
theorem Holds.read {sig' : RefSig} {κ : Kind} {sp : Space} {G : S512x512.Idx → Val e} {P : ℕ → Prop} {L : List (View.Piece Val S512x512 e)}
    (hL : Holds G P L) (hP : ∀ r, r < 512 → P r) (v : View sig' κ sp S512x512 e) (f : v.ty.Contents Val) :
    v.read Val (v.writes Val f L) = G :=
  funext fun y => View.read_writes_apply_of_pieces v f G L hL.fits y (hL.reach y (hP _ (y 0).isLt))

/-- A whole load of an eight-row buffer after one whole store reads what was stored. -/
theorem readCov_whole {F : FTy → Type} [FloatOps F] (v : View sig .tc .vmem S8x512 .f32)
    (inb : ∀ a : Fin 2, (![0, 0] : Fin 2 → ℕ) a + (![8, 512] : Fin 2 → ℕ) a ≤ S8x512.size a) (w : Vec F S8x512 .f32) :
    v.readCov (Val := Elt F) [⟨Rect.unit (s := S8x512) ![0, 0] ![8, 512] inb, w⟩]
      (Rect.unit (s := S8x512) ![0, 0] ![8, 512] inb).toLoadRect = w :=
  View.readCov_full (s := S8x512) v inb inb w []

/-- A whole load of an eight-row buffer reads what it holds. -/
theorem readAt_whole {F : FTy → Type} [FloatOps F] (v : View sig .tc .vmem S8x512 .f32)
    (inb : ∀ a : Fin 2, (![0, 0] : Fin 2 → ℕ) a + (![8, 512] : Fin 2 → ℕ) a ≤ S8x512.size a) (f : v.ty.Contents (Elt F)) :
    v.readAt (Elt F) (Rect.unit (s := S8x512) ![0, 0] ![8, 512] inb).toLoadRect f = v.read (Elt F) f :=
  View.readAt_full (s := S8x512) v f inb

end Cert.KernelIdeal.Scan

end
-- ==== Proof.Scan0Trip.lean ====
/-
  The forward scan's loop, at any floats: one trip handles two groups of eight rows, the carried vector going from one
  group to the next. The values are stated over the blocks alone: `carry0` is the carried vector before a group and
  `hid0` the group of hidden states it computes.
-/
module

public import proofs.«01_k».proof.Proof.Rows

@[expose] public section

set_option maxRecDepth 16384

noncomputable section

namespace Cert.KernelIdeal.Scan

open Idealize.ShloMosaic Idealize.ShloMosaic.TcCoe Idealize.ShloMosaic.Tactic Idealize.ShloMosaic.ValueIdx Cert.KernelIdeal.Gen
open Idealize.SL Idealize.SL.Sem

variable {F : FTy → Type} [FloatOps F]

/-- The row number of each element of a group. -/
abbrev rowNo : IVec S8x512 32 := iota .tc S8x512 32 [0] iota_S8x512_d0_w32

/-- The hidden states of a group from its decays, its inputs and the carried vector. -/
abbrev grp0 (hp A B : Vec F S8x512 .f32) : Vec F S8x512 .f32 := k0_pay7 rowNo hp A B

/-- The carried vector before group `g`: its last row of hidden states, in every row. -/
def carry0 (xa xb : Vec F S512x512 .f32) (init : Vec F S8x512 .f32) : ℕ → Vec F S8x512 .f32
  | 0 => init
  | g + 1 => k0_pay10 (grp0 (carry0 xa xb init g) (rows xa g) (rows xb g))

/-- The hidden states of group `g`. -/
def hid0 (xa xb : Vec F S512x512 .f32) (init : Vec F S8x512 .f32) (g : ℕ) : Vec F S8x512 .f32 :=
  grp0 (carry0 xa xb init g) (rows xa g) (rows xb g)

/-- The hidden states before each row of group `g`. -/
def prev0 (xa xb : Vec F S512x512 .f32) (init : Vec F S8x512 .f32) (g : ℕ) : Vec F S8x512 .f32 :=
  k0_pay8 rowNo (carry0 xa xb init g) (hid0 xa xb init g) 0#32

/-- The gated hidden states of group `g`, narrowed. -/
def gated0 (xa xg xb : Vec F S512x512 .f32) (init : Vec F S8x512 .f32) (g : ℕ) : Vec F S8x512 .bf16 :=
  truncf .bf16 (k0_pay9 (rows xg g) (hid0 xa xb init g)) bitsLt_bf16_f32

theorem carry0_succ (xa xb : Vec F S512x512 .f32) (init : Vec F S8x512 .f32) (g : ℕ) :
    carry0 xa xb init (g + 1) = k0_pay10 (hid0 xa xb init g) := rfl

/-- The vector of first decays carried beside it: of the last group handled. -/
def adec0 (xa : Vec F S512x512 .f32) (init : Vec F S8x512 .f32) : ℕ → Vec F S8x512 .f32
  | 0 => init
  | g + 1 => k0_pay11 (rows xa g)

section Trip

variable (𝒱 : Variants) (c : Dev nD) (bd : Option 𝒱.V) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .bf16) (harg7 : arg7.IsWhole) (arg8 : Memref sig .tc .vmem S8x512 .f32) (harg8 : arg8.IsWhole) (arg9 : Memref sig .tc .vmem S8x512 .f32) (harg9 : arg9.IsWhole)
variable (xa xg xb : Vec F S512x512 .f32)

theorem off0_0 (k : Fin k0_t1_loop.trips) : k0_off1 k 0#32 = ![8 * (2 * k.val), 0] :=
  (k0_off1_eq k 0).trans (by congr 1; show 16 * k.val + 8 * 0 = _; omega)
theorem off0_1 (k : Fin k0_t1_loop.trips) : k0_off1 k 1#32 = ![8 * (2 * k.val + 1), 0] :=
  (k0_off1_eq k 1).trans (by congr 1; show 16 * k.val + 8 * 1 = _; omega)

/-- What one trip yields: the carried vector after its second group, and that group's first decays. -/
theorem tripR0 (k : Fin k0_t1_loop.trips) (acc : Vec F S8x512 .f32 × Vec F S8x512 .f32) :
    tripR_k0_t1 (F := F) 𝒱 c bd i arg2 harg2 arg3 harg3 arg4 harg4 arg5 harg5 arg6 harg6 arg7 harg7 arg8 harg8 arg9 harg9 rowNo (harg2.unread xa) (harg3.unread xg) (harg4.unread xb) k acc
      = (k0_pay10 (grp0 (k0_pay10 (grp0 acc.1 (rows xa (2 * k.val)) (rows xb (2 * k.val)))) (rows xa (2 * k.val + 1)) (rows xb (2 * k.val + 1))),
          k0_pay11 (rows xa (2 * k.val + 1))) := by
  rw [← ld_rows xa (2 * k.val) (off0_0 k) (k0_off1_inb k 0), ← ld_rows xb (2 * k.val) (off0_0 k) (k0_off1_inb k 0),
    ← ld_rows xa (2 * k.val + 1) (off0_1 k) (k0_off1_inb k 1), ← ld_rows xb (2 * k.val + 1) (off0_1 k) (k0_off1_inb k 1)]
  unfold tripR_k0_t1 trip_k0_t1
  dsimp only
  sl_unfold_words
  simp only [View.readAt_eq_ld, harg2.read_unread, harg3.read_unread, harg4.read_unread]
  rfl

/-- What one trip stores, with the carried vector it starts from: two groups of hidden states, the two groups of states
before them, and the sixteen rows of gated states. -/
theorem tripL0 (k : Fin k0_t1_loop.trips) (acc : Vec F S8x512 .f32 × Vec F S8x512 .f32) (init : Vec F S8x512 .f32)
    (hacc : acc.1 = carry0 xa xb init (2 * k.val)) :
    tripL_k0_t1 (F := F) 𝒱 c bd i arg2 harg2 arg3 harg3 arg4 harg4 arg5 harg5 arg6 harg6 arg7 harg7 arg8 harg8 arg9 harg9 rowNo (harg2.unread xa) (harg3.unread xg) (harg4.unread xb) k acc
      = ([⟨Rect.unit (s := S512x512) (k0_off1 k 1#32) S8x512.size (k0_off1_inb k 1), hid0 xa xb init (2 * k.val + 1)⟩,
          ⟨Rect.unit (s := S512x512) (k0_off1 k 0#32) S8x512.size (k0_off1_inb k 0), hid0 xa xb init (2 * k.val)⟩],
         [⟨Rect.unit (s := S512x512) (k0_off1 k 1#32) S8x512.size (k0_off1_inb k 1), prev0 xa xb init (2 * k.val + 1)⟩,
          ⟨Rect.unit (s := S512x512) (k0_off1 k 0#32) S8x512.size (k0_off1_inb k 0), prev0 xa xb init (2 * k.val)⟩],
         [⟨Rect.unit (s := S512x512) (k0_off2 k) S16x512.size (k0_off2_inb k),
            k0_pay4 (k0_pay9 (rows xg (2 * k.val)) (hid0 xa xb init (2 * k.val)))
              (k0_pay9 (rows xg (2 * k.val + 1)) (hid0 xa xb init (2 * k.val + 1)))⟩]) := by
  unfold prev0 hid0
  rw [carry0_succ]
  unfold hid0
  rw [← hacc, ← ld_rows xa (2 * k.val) (off0_0 k) (k0_off1_inb k 0), ← ld_rows xb (2 * k.val) (off0_0 k) (k0_off1_inb k 0),
    ← ld_rows xa (2 * k.val + 1) (off0_1 k) (k0_off1_inb k 1), ← ld_rows xb (2 * k.val + 1) (off0_1 k) (k0_off1_inb k 1),
    ← ld_rows xg (2 * k.val) (off0_0 k) (k0_off1_inb k 0), ← ld_rows xg (2 * k.val + 1) (off0_1 k) (k0_off1_inb k 1)]
  unfold tripL_k0_t1 trip_k0_t1
  dsimp only
  sl_unfold_words
  simp only [View.readAt_eq_ld, harg2.read_unread, harg3.read_unread, harg4.read_unread]
  rfl

/-- The gated payload's rows are those of the two groups. -/
theorem gated_rows (init : Vec F S8x512 .f32) (m : ℕ) (x : S16x512.Idx) :
    k0_pay4 (k0_pay9 (rows xg (2 * m)) (hid0 xa xb init (2 * m)))
        (k0_pay9 (rows xg (2 * m + 1)) (hid0 xa xb init (2 * m + 1))) x
      = gated0 xa xg xb init (2 * m + (x 0).val / 8)
          (ix2 (n0 := 8) (n1 := 512) ⟨(x 0).val % 8, Nat.mod_lt _ (by decide)⟩ (x 1)) := by
  have hx : (x (0 : Fin 2)).val < 16 := (x 0).isLt
  unfold k0_pay4 gated0
  refine congrArg (FloatOps.truncf (F := F) (φ := .f32) .bf16 bitsLt_bf16_f32) ?_
  rw [stacked_rows]
  by_cases h : (x (0 : Fin 2)).val / 8 = 0
  · rw [if_pos h, h]; rfl
  · have h1 : (x (0 : Fin 2)).val / 8 = 1 := by omega
    rw [if_neg h, h1]

/-- After `k` trips: the carried pair, and the stores so far into the three outputs. -/
theorem st0 (init : Vec F S8x512 .f32 × Vec F S8x512 .f32) (k : ℕ) (hk : k ≤ k0_t1_loop.trips) :
    (st_k0_t1 (F := F) 𝒱 c bd i arg2 harg2 arg3 harg3 arg4 harg4 arg5 harg5 arg6 harg6 arg7 harg7 arg8 harg8 arg9 harg9 rowNo (harg2.unread xa) (harg3.unread xg) (harg4.unread xb) init k).1 = (carry0 xa xb init.1 (2 * k), adec0 xa init.2 (2 * k))
    ∧ Holds (ofRows (hid0 xa xb init.1)) (· < 16 * k) (st_k0_t1 (F := F) 𝒱 c bd i arg2 harg2 arg3 harg3 arg4 harg4 arg5 harg5 arg6 harg6 arg7 harg7 arg8 harg8 arg9 harg9 rowNo (harg2.unread xa) (harg3.unread xg) (harg4.unread xb) init k).2.1
    ∧ Holds (ofRows (prev0 xa xb init.1)) (· < 16 * k) (st_k0_t1 (F := F) 𝒱 c bd i arg2 harg2 arg3 harg3 arg4 harg4 arg5 harg5 arg6 harg6 arg7 harg7 arg8 harg8 arg9 harg9 rowNo (harg2.unread xa) (harg3.unread xg) (harg4.unread xb) init k).2.2.1
    ∧ Holds (ofRows (gated0 xa xg xb init.1)) (· < 16 * k) (st_k0_t1 (F := F) 𝒱 c bd i arg2 harg2 arg3 harg3 arg4 harg4 arg5 harg5 arg6 harg6 arg7 harg7 arg8 harg8 arg9 harg9 rowNo (harg2.unread xa) (harg3.unread xg) (harg4.unread xb) init k).2.2.2 := by
  induction k with
  | zero =>
    rw [st_k0_t1_zero]
    exact ⟨rfl, .nil _ (fun r h => by omega), .nil _ (fun r h => by omega), .nil _ (fun r h => by omega)⟩
  | succ k ih =>
    obtain ⟨h1, h2, h3, h4⟩ := ih (Nat.le_of_succ_le hk)
    have hs : st_k0_t1 (F := F) 𝒱 c bd i arg2 harg2 arg3 harg3 arg4 harg4 arg5 harg5 arg6 harg6 arg7 harg7 arg8 harg8 arg9 harg9 rowNo (harg2.unread xa) (harg3.unread xg) (harg4.unread xb) init (k + 1) = _ :=
      st_k0_t1_succ (F := F) 𝒱 c bd i arg2 harg2 arg3 harg3 arg4 harg4 arg5 harg5 arg6 harg6 arg7 harg7 arg8 harg8 arg9 harg9 rowNo (harg2.unread xa) (harg3.unread xg) (harg4.unread xb) init ⟨k, hk⟩
    rw [hs, tripR0 𝒱 c bd i arg2 harg2 arg3 harg3 arg4 harg4 arg5 harg5 arg6 harg6 arg7 harg7 arg8 harg8 arg9 harg9 xa xg xb ⟨k, hk⟩, tripL0 𝒱 c bd i arg2 harg2 arg3 harg3 arg4 harg4 arg5 harg5 arg6 harg6 arg7 harg7 arg8 harg8 arg9 harg9 xa xg xb ⟨k, hk⟩ _ init.1 (by rw [h1]), h1]
    refine ⟨rfl, ?_, ?_, ?_⟩
    · exact h2.pair (2 * k + 1) (2 * k) (off0_1 ⟨k, hk⟩) (off0_0 ⟨k, hk⟩) _ _ _ _ rfl rfl (fun r hr => by omega)
    · exact h3.pair (2 * k + 1) (2 * k) (off0_1 ⟨k, hk⟩) (off0_0 ⟨k, hk⟩) _ _ _ _ rfl rfl (fun r hr => by omega)
    · exact h4.wide k (k0_off2_eq ⟨k, hk⟩) _ _ (gated_rows xa xg xb init.1 k) (fun r hr => by omega)

theorem trips0 : k0_t1_loop.trips = 32 := by decide

end Trip

end Cert.KernelIdeal.Scan

end
-- ==== Proof.Scan0Body.lean ====
/-
  One point of the forward scan's grid, at any floats: on whole staging buffers the body leaves the block's hidden states, the states before
  them and the gated states, and in the scratch the carried vectors.
-/
module

public import proofs.«01_k».proof.Proof.Scan0Trip
public import proofs.«01_k».proof.Proof.Gen.KernelIdeal.Points
public import Idealize.ShloMosaic.Lib.Tactic
public import Idealize.ShloMosaic.Lib.WordCmp

@[expose] public section

set_option maxRecDepth 16384

noncomputable section

namespace Cert.KernelIdeal.Scan

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's branch: the point is the first of its column of blocks. -/
abbrev cond0 (i : grid0.Coords) : Prop := (Scalar.cmpi .ne (Scalar.extui (Scalar.cmpi .eq (BitVec.ofNat 32 (i 1).val) 0#32)) 0#32) = 1#1

section

variable (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .bf16) (harg7 : arg7.IsWhole) (arg8 : Memref sig .tc .vmem S8x512 .f32) (harg8 : arg8.IsWhole) (arg9 : Memref sig .tc .vmem S8x512 .f32) (harg9 : arg9.IsWhole)

set_option maxHeartbeats 1000000 in
/-- At a later point the body starts from what the point before left in the scratch. -/
theorem body0_B (hc : ¬cond0 i) (s0 s1 : Vec F S8x512 .f32) (xa xg xb : Vec F S512x512 .f32) (E : Set ℕ) (K : PUnit → sProp 𝕄) :
    iprop(owns (c : Thread nD τ) arg2 fullShare xa ∗ owns (c : Thread nD τ) arg3 fullShare xg ∗ owns (c : Thread nD τ) arg4 fullShare xb ∗ (∃ d, owns (c : Thread nD τ) arg5 fullShare d) ∗ (∃ d, owns (c : Thread nD τ) arg6 fullShare d) ∗ (∃ d, owns (c : Thread nD τ) arg7 fullShare d) ∗ owns (c : Thread nD τ) arg8 fullShare s0 ∗ owns (c : Thread nD τ) arg9 fullShare s1
        ∗ (iprop(owns (c : Thread nD τ) arg2 fullShare xa ∗ owns (c : Thread nD τ) arg3 fullShare xg ∗ owns (c : Thread nD τ) arg4 fullShare xb ∗ owns (c : Thread nD τ) arg5 fullShare (ofRows (hid0 xa xb (s0, s1).1)) ∗ owns (c : Thread nD τ) arg6 fullShare (ofRows (prev0 xa xb (s0, s1).1)) ∗ owns (c : Thread nD τ) arg7 fullShare (ofRows (gated0 xa xg xb (s0, s1).1)) ∗ owns (c : Thread nD τ) arg8 fullShare (carry0 xa xb (s0, s1).1 64) ∗ owns (c : Thread nD τ) arg9 fullShare (adec0 xa (s0, s1).2 64)) -∗ K ⟨⟩))
      ⊢ wp frame (wpE (defs₀ (F := F)) Variants.none (c : Thread nD τ) none) E (cc0_L1_scan i arg2 harg2 arg3 harg3 arg4 harg4 arg5 harg5 arg6 harg6 arg7 harg7 arg8 harg8 arg9 harg9) K := by
  simp only [cc0_L1_scan_eq_skeleton]; unfold cc0_L1_scan_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg2.eq_unread hf2; obtain rfl := harg3.eq_unread hf3; obtain rfl := harg4.eq_unread hf4; obtain rfl := harg8.eq_unread hf8; obtain rfl := harg9.eq_unread hf9
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    simp only [readAt_whole, harg8.read_unread, harg9.read_unread]
    exact (st0 Variants.none c none i arg2 harg2 arg3 harg3 arg4 harg4 arg5 harg5 arg6 harg6 arg7 harg7 arg8 harg8 arg9 harg9 xa xg xb (s0, s1) k0_t1_loop.trips le_rfl).2.1.read (fun r hr => by rw [trips0]; omega) _ _
  isplitl [H6]
  · iexists _; isplitr; swap; · iexact H6
    ipureintro
    simp only [readAt_whole, harg8.read_unread, harg9.read_unread]
    exact (st0 Variants.none c none i arg2 harg2 arg3 harg3 arg4 harg4 arg5 harg5 arg6 harg6 arg7 harg7 arg8 harg8 arg9 harg9 xa xg xb (s0, s1) k0_t1_loop.trips le_rfl).2.2.1.read (fun r hr => by rw [trips0]; omega) _ _
  isplitl [H7]
  · iexists _; isplitr; swap; · iexact H7
    ipureintro
    simp only [readAt_whole, harg8.read_unread, harg9.read_unread]
    exact (st0 Variants.none c none i arg2 harg2 arg3 harg3 arg4 harg4 arg5 harg5 arg6 harg6 arg7 harg7 arg8 harg8 arg9 harg9 xa xg xb (s0, s1) k0_t1_loop.trips le_rfl).2.2.2.read (fun r hr => by rw [trips0]; omega) _ _
  isplitl [H8]
  · iexists _; isplitr; swap; · iexact H8
    ipureintro
    simp only [readAt_whole, harg8.read_unread, harg9.read_unread]
    rw [View.read_writes_full]
    exact (shapeCast_self _ _).trans (congrArg Prod.fst (st0 Variants.none c none i arg2 harg2 arg3 harg3 arg4 harg4 arg5 harg5 arg6 harg6 arg7 harg7 arg8 harg8 arg9 harg9 xa xg xb (s0, s1) k0_t1_loop.trips le_rfl).1)
  iexists _; isplitr; swap; · iexact H9
  ipureintro
  simp only [readAt_whole, harg8.read_unread, harg9.read_unread]
  rw [View.read_writes_full]
  exact (shapeCast_self _ _).trans (congrArg Prod.snd (st0 Variants.none c none i arg2 harg2 arg3 harg3 arg4 harg4 arg5 harg5 arg6 harg6 arg7 harg7 arg8 harg8 arg9 harg9 xa xg xb (s0, s1) k0_t1_loop.trips le_rfl).1)

set_option maxHeartbeats 1000000 in
/-- At the first point of a column of blocks the body starts from zero vectors. -/
theorem body0_A (hc : cond0 i) (xa xg xb : Vec F S512x512 .f32) (E : Set ℕ) (K : PUnit → sProp 𝕄) :
    iprop(owns (c : Thread nD τ) arg2 fullShare xa ∗ owns (c : Thread nD τ) arg3 fullShare xg ∗ owns (c : Thread nD τ) arg4 fullShare xb ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare xa ∗ owns (c : Thread nD τ) arg3 fullShare xg ∗ owns (c : Thread nD τ) arg4 fullShare xb ∗ owns (c : Thread nD τ) arg5 fullShare (ofRows (hid0 xa xb ((k0_pay1 (F := F)), (k0_pay2 (F := F))).1)) ∗ owns (c : Thread nD τ) arg6 fullShare (ofRows (prev0 xa xb ((k0_pay1 (F := F)), (k0_pay2 (F := F))).1)) ∗ owns (c : Thread nD τ) arg7 fullShare (ofRows (gated0 xa xg xb ((k0_pay1 (F := F)), (k0_pay2 (F := F))).1)) ∗ owns (c : Thread nD τ) arg8 fullShare (carry0 xa xb ((k0_pay1 (F := F)), (k0_pay2 (F := F))).1 64) ∗ owns (c : Thread nD τ) arg9 fullShare (adec0 xa ((k0_pay1 (F := F)), (k0_pay2 (F := F))).2 64)) -∗ K ⟨⟩))
      ⊢ wp frame (wpE (defs₀ (F := F)) Variants.none (c : Thread nD τ) none) E (cc0_L1_scan i arg2 harg2 arg3 harg3 arg4 harg4 arg5 harg5 arg6 harg6 arg7 harg7 arg8 harg8 arg9 harg9) K := by
  simp only [cc0_L1_scan_eq_skeleton]; unfold cc0_L1_scan_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg2.eq_unread hf2; obtain rfl := harg3.eq_unread hf3; obtain rfl := harg4.eq_unread hf4
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    sl_unfold_words; simp only [readCov_whole]
    exact (st0 Variants.none c none i arg2 harg2 arg3 harg3 arg4 harg4 arg5 harg5 arg6 harg6 arg7 harg7 arg8 harg8 arg9 harg9 xa xg xb (k0_pay1, k0_pay2) k0_t1_loop.trips le_rfl).2.1.read (fun r hr => by rw [trips0]; omega) _ _
  isplitl [H6]
  · iexists _; isplitr; swap; · iexact H6
    ipureintro
    sl_unfold_words; simp only [readCov_whole]
    exact (st0 Variants.none c none i arg2 harg2 arg3 harg3 arg4 harg4 arg5 harg5 arg6 harg6 arg7 harg7 arg8 harg8 arg9 harg9 xa xg xb (k0_pay1, k0_pay2) k0_t1_loop.trips le_rfl).2.2.1.read (fun r hr => by rw [trips0]; omega) _ _
  isplitl [H7]
  · iexists _; isplitr; swap; · iexact H7
    ipureintro
    sl_unfold_words; simp only [readCov_whole]
    exact (st0 Variants.none c none i arg2 harg2 arg3 harg3 arg4 harg4 arg5 harg5 arg6 harg6 arg7 harg7 arg8 harg8 arg9 harg9 xa xg xb (k0_pay1, k0_pay2) k0_t1_loop.trips le_rfl).2.2.2.read (fun r hr => by rw [trips0]; omega) _ _
  isplitl [H8]
  · iexists _; isplitr; swap; · iexact H8
    ipureintro
    sl_unfold_words; simp only [readCov_whole]
    rw [View.read_writes_full]
    exact (shapeCast_self _ _).trans (congrArg Prod.fst (st0 Variants.none c none i arg2 harg2 arg3 harg3 arg4 harg4 arg5 harg5 arg6 harg6 arg7 harg7 arg8 harg8 arg9 harg9 xa xg xb (k0_pay1, k0_pay2) k0_t1_loop.trips le_rfl).1)
  iexists _; isplitr; swap; · iexact H9
  ipureintro
  sl_unfold_words; simp only [readCov_whole]
  rw [View.read_writes_full]
  exact (shapeCast_self _ _).trans (congrArg Prod.snd (st0 Variants.none c none i arg2 harg2 arg3 harg3 arg4 harg4 arg5 harg5 arg6 harg6 arg7 harg7 arg8 harg8 arg9 harg9 xa xg xb (k0_pay1, k0_pay2) k0_t1_loop.trips le_rfl).1)

end

end Cert.KernelIdeal.Scan

end
-- ==== Proof.Scan0Data.lean ====
/-
  The forward scan's region, at any floats and from any contents of the arrays: what the scratch holds before each point
  of the grid, the pipeline's proof data (the outputs' blocks: hidden states, states before them, gated states) and the body obligation.
-/
module

public import proofs.«01_k».proof.Proof.Scan0Body
public import proofs.«01_k».proof.Proof.Gen.KernelIdeal.Launch
public import Idealize.ShloMosaic.Lib.Pipeline.RegionArraysS

@[expose] public section

set_option maxRecDepth 16384

noncomputable section

namespace Cert.KernelIdeal.Scan

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

theorem hcond0 : ∀ t : Fin cfg0.N, cond0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0, e0, e1]
    word_cmp
   : ∀ t : Fin grid0.N, cond0 (grid0.coords t) ↔ t.val % 8 = 0)

/-- Point `n` of the grid. -/
def pt0 (n : ℕ) : Fin cfg0.N := ⟨n % 16, Nat.lt_of_lt_of_eq (Nat.mod_lt n (by decide)) (show cfg0.N = 16 from N_0).symm⟩

theorem pt0_val (t : Fin cfg0.N) : pt0 t.val = t :=
  Fin.ext (Nat.mod_eq_of_lt (Nat.lt_of_lt_of_eq t.isLt (show cfg0.N = 16 from N_0)))

/-- The two carried vectors in the scratch before point `n`, past the first of its column of blocks. -/
def scr0 (c : Dev nD) : ℕ → Vec F S8x512 .f32 × Vec F S8x512 .f32
  | 0 => (k0_pay1 (F := F), k0_pay2 (F := F))
  | n + 1 => (carry0 (iblk0 W c 0 (pt0 n)) (iblk0 W c 2 (pt0 n)) (if n % 8 = 0 then (k0_pay1 (F := F), k0_pay2 (F := F)) else scr0 c n).1 64, adec0 (iblk0 W c 0 (pt0 n)) (if n % 8 = 0 then (k0_pay1 (F := F), k0_pay2 (F := F)) else scr0 c n).2 64)

/-- The two carried vectors point `n` starts from: zero at the first point of a column of blocks. -/
def start0 (c : Dev nD) (n : ℕ) : Vec F S8x512 .f32 × Vec F S8x512 .f32 :=
  if n % 8 = 0 then (k0_pay1 (F := F), k0_pay2 (F := F)) else scr0 W c n

theorem scr0_succ (c : Dev nD) (n : ℕ) : scr0 W c (n + 1) = (carry0 (iblk0 W c 0 (pt0 n)) (iblk0 W c 2 (pt0 n)) (start0 W c n).1 64, adec0 (iblk0 W c 0 (pt0 n)) (start0 W c n).2 64) := rfl

/-- The scratch operands. -/
abbrev scM0_0 : Memref sig .tc .vmem S8x512 .f32 := Memref.whole cc0_scratch0
abbrev scM0_1 : Memref sig .tc .vmem S8x512 .f32 := Memref.whole cc0_scratch1

/-- The scoped buffers the region does not use. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem scoped0 (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ rest0 c) := by
  rw [Pipeline.scopedRest_eq_of_list spec0 c [cc0_scratch0, cc0_scratch1, cc1_stg0_0, cc1_stg0_1, cc1_stg1_0, cc1_stg1_1, cc1_stg2_0, cc1_stg2_1, cc1_stg3_0, cc1_stg3_1, cc1_stg4_0, cc1_stg4_1, cc1_stg5_0, cc1_stg5_1, cc1_scratch0, cc1_scratch1] (by decide) (by decide)]
  simp only [scM0_0, scM0_1, owns_whole]
  rfl

/-- Before point `n`: the scratch, at the carried vectors unless a column of blocks begins; the other buffers and the generator register. -/
def Phi0 (c : Dev nD) (n : ℕ) : sProp 𝕄 :=
  iprop((∃ d0 d1, ⌜n % 8 ≠ 0 → d0 = (scr0 W c n).1 ∧ d1 = (scr0 W c n).2⌝ ∗ owns (c : Thread nD τ) scM0_0 fullShare d0 ∗ owns (c : Thread nD τ) scM0_1 fullShare d1)
    ∗ rest0 c ∗ ∃ r, prngReg c r)

/-- The region's proof data: each input's buffer at its block, each output's at the rows the body computes. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => iblk0 W c 1 t
    | ⟨2, _⟩ => iblk0 W c 2 t
    | ⟨3, _⟩ => ofRows (hid0 (iblk0 W c 0 t) (iblk0 W c 2 t) (start0 W c t.val).1)
    | ⟨4, _⟩ => ofRows (prev0 (iblk0 W c 0 t) (iblk0 W c 2 t) (start0 W c t.val).1)
    | ⟨5, _⟩ => ofRows (gated0 (iblk0 W c 0 t) (iblk0 W c 1 t) (iblk0 W c 2 t) (start0 W c t.val).1)
  Φ t := Phi0 W c t.val
  q _ := fullShare
  owed _ := 0

theorem A0_eq (c : Dev nD) (w : Fin cfg0.W) : (dat0 W c).A w = W c (Proc.devRef .tc (Pipeline.arrRef spec0 w)) := by
  dsimp only [dat0]

theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = iblk0 W c 2 t := by dsimp only [dat0]
theorem after0_3 (c : Dev nD) (t : Fin cfg0.N) : (dat0 W c).after 3 t = ofRows (hid0 (iblk0 W c 0 t) (iblk0 W c 2 t) (start0 W c t.val).1) := by dsimp only [dat0]
theorem after0_4 (c : Dev nD) (t : Fin cfg0.N) : (dat0 W c).after 4 t = ofRows (prev0 (iblk0 W c 0 t) (iblk0 W c 2 t) (start0 W c t.val).1) := by dsimp only [dat0]
theorem after0_5 (c : Dev nD) (t : Fin cfg0.N) : (dat0 W c).after 5 t = ofRows (gated0 (iblk0 W c 0 t) (iblk0 W c 1 t) (iblk0 W c 2 t) (start0 W c t.val).1) := by dsimp only [dat0]

theorem before0 (c : Dev nD) : (∀ t d, (dat0 W c).before 0 t d = iblk0 W c 0 t) ∧ (∀ t d, (dat0 W c).before 1 t d = iblk0 W c 1 t) ∧ (∀ t d, (dat0 W c).before 2 t d = iblk0 W c 2 t) := by
  refine ⟨fun t d => ?_, fun t d => ?_, fun t d => ?_⟩ <;>
    exact ((dat0 W c).before_in_eq_fetched _ rfl (fun _ => rfl) (fun _ _ _ => rfl) (fun t => by unfold Dat.blockOf; rw [A0_eq]; rfl) t d).trans
      (by unfold Dat.fetched Dat.blockOf; rw [A0_eq]; rfl)

/-- What the body is called with at point `t`, -/
def pre0 (c : Dev nD) (t : Fin cfg0.N) : sProp 𝕄 :=
  iprop((dat0 W c).Φ t.castSucc ∗ (dat0 W c).owesAt () t.castSucc
    ∗ (∃ d, owns (c : Thread nD τ) (win0_0.stage (cfg0.slots t 0)) fullShare ((dat0 W c).before 0 t d))
    ∗ (∃ d, owns (c : Thread nD τ) (win0_1.stage (cfg0.slots t 1)) fullShare ((dat0 W c).before 1 t d))
    ∗ (∃ d, owns (c : Thread nD τ) (win0_2.stage (cfg0.slots t 2)) fullShare ((dat0 W c).before 2 t d))
    ∗ (∃ d, owns (c : Thread nD τ) (win0_3.stage (cfg0.slots t 3)) fullShare ((dat0 W c).before 3 t d))
    ∗ (∃ d, owns (c : Thread nD τ) (win0_4.stage (cfg0.slots t 4)) fullShare ((dat0 W c).before 4 t d))
    ∗ (∃ d, owns (c : Thread nD τ) (win0_5.stage (cfg0.slots t 5)) fullShare ((dat0 W c).before 5 t d)))

/-- and what it returns. -/
def post0 (c : Dev nD) (t : Fin cfg0.N) : sProp 𝕄 :=
  iprop((dat0 W c).Φ t.succ ∗ (dat0 W c).owesAt () t.succ
    ∗ owns (c : Thread nD τ) (win0_0.stage (cfg0.slots t 0)) fullShare ((dat0 W c).after 0 t)
    ∗ owns (c : Thread nD τ) (win0_1.stage (cfg0.slots t 1)) fullShare ((dat0 W c).after 1 t)
    ∗ owns (c : Thread nD τ) (win0_2.stage (cfg0.slots t 2)) fullShare ((dat0 W c).after 2 t)
    ∗ owns (c : Thread nD τ) (win0_3.stage (cfg0.slots t 3)) fullShare ((dat0 W c).after 3 t)
    ∗ owns (c : Thread nD τ) (win0_4.stage (cfg0.slots t 4)) fullShare ((dat0 W c).after 4 t)
    ∗ owns (c : Thread nD τ) (win0_5.stage (cfg0.slots t 5)) fullShare ((dat0 W c).after 5 t))

set_option maxHeartbeats 6400000 in
/-- The body at any point: the first point of a column of blocks starts from zero vectors, a later one from what the point before left. -/
theorem sound0 (c : Dev nD) (t : Fin cfg0.N) :
    pre0 W c t ⊢ wp frame (wpE (defs₀ (F := F)) Variants.none (c : Thread nD τ) none) Set.univ (bodyAt0 t) (fun _ => post0 W c t) := by
  unfold pre0 post0 bodyAt0
  simp only [before0]
  rw [show (dat0 W c).owesAt () t.succ = (dat0 W c).owesAt () t.castSucc from rfl, after0_0, after0_1, after0_2, after0_3, after0_4, after0_5]
  rw [show (dat0 W c).Φ t.succ = Phi0 W c (t.val + 1) from rfl, show (dat0 W c).Φ t.castSucc = Phi0 W c t.val from rfl]
  unfold Phi0
  rw [scr0_succ, pt0_val]
  by_cases h0 : t.val % 8 = 0
  · have hs : (start0 W c t.val) = (k0_pay1 (F := F), k0_pay2 (F := F)) := if_pos h0
    rw [hs]
    iintro ⟨⟨⟨%e0, %e1, -, HS0, HS1⟩, Hr, Hg⟩, Ho, ⟨%d0, H0⟩, ⟨%d1, H1⟩, ⟨%d2, H2⟩, ⟨%d3, H3⟩, ⟨%d4, H4⟩, ⟨%d5, H5⟩⟩
    iapply (body0_A c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) scM0_0 (Memref.isWhole_whole _) scM0_1 (Memref.isWhole_whole _) ((hcond0 t).mpr h0) (iblk0 W c 0 t) (iblk0 W c 1 t) (iblk0 W c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexists _; iexact HS0
    isplitl [HS1]; · iexists _; iexact HS1
    iintro ⟨H0, H1, H2, H3, H4, H5, HS0, HS1⟩
    isplitl [HS0 HS1 Hr Hg]
    · isplitl [HS0 HS1]
      · iexists _, _
        isplitr
        swap
        · isplitl [HS0]; · iexact HS0
          iexact HS1
        ipureintro
        exact fun _ => ⟨rfl, rfl⟩
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · have hs : (start0 W c t.val) = scr0 W c t.val := if_neg h0
    rw [hs]
    iintro ⟨⟨⟨%e0, %e1, %he, HS0, HS1⟩, Hr, Hg⟩, Ho, ⟨%d0, H0⟩, ⟨%d1, H1⟩, ⟨%d2, H2⟩, ⟨%d3, H3⟩, ⟨%d4, H4⟩, ⟨%d5, H5⟩⟩
    obtain ⟨rfl, rfl⟩ := he h0
    iapply (body0_B c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) scM0_0 (Memref.isWhole_whole _) scM0_1 (Memref.isWhole_whole _) (fun h => h0 ((hcond0 t).mp h)) (scr0 W c t.val).1 (scr0 W c t.val).2 (iblk0 W c 0 t) (iblk0 W c 1 t) (iblk0 W c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hr Hg]
    · isplitl [HS0 HS1]
      · iexists _, _
        isplitr
        swap
        · isplitl [HS0]; · iexact HS0
          iexact HS1
        ipureintro
        exact fun _ => ⟨rfl, rfl⟩
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5

theorem row0 (t : Fin cfg0.N) :
    defs₀ (F := F) .tc cfg0.body (cfg0.bodyArgs t (cfg0.slots t)) = bodyAt0 t := by
  unfold defs₀; rw [Defs.onTc_tc]

/-- The library's body obligation, at every point. -/
theorem obligation0 (c : Dev nD) : BodyObligation (dat0 W c) (defs₀ (F := F)) Variants.none () Set.univ := fun t => by
  rw [bigSep_W0, bigSep_W0, row0]
  exact triple_restated (sound0 W c t) rfl .rfl fun _ => .rfl

theorem phi0_in (c : Dev nD) :
    iprop(Pipeline.scopedRest (Ix := Unit) (Name := ℕ) (U := UR sig nD τ) (Lvl := ℕ) (Val := Elt F) spec0 c ∗ (∃ r, prngReg c r)) ⊢ Phi0 W c 0 := by
  rw [scoped0]; unfold Phi0
  iintro ⟨⟨⟨%d0, H0⟩, ⟨%d1, H1⟩, Hr⟩, Hg⟩
  isplitl [H0 H1]
  · iexists d0, d1
    isplitr
    · ipureintro; exact fun h => absurd rfl h
    isplitl [H0]; · iexact H0
    iexact H1
  isplitl [Hr]; · iexact Hr
  iexact Hg

theorem phi0_out (c : Dev nD) (n : ℕ) :
    Phi0 W c n ⊢ iprop(Pipeline.scopedRest (Ix := Unit) (Name := ℕ) (U := UR sig nD τ) (Lvl := ℕ) (Val := Elt F) spec0 c ∗ (∃ r, prngReg c r)) := by
  rw [scoped0]; unfold Phi0
  iintro ⟨⟨%d0, %d1, -, H0, H1⟩, Hr, Hg⟩
  isplitr [Hg]
  · isplitl [H0]; · iexists _; iexact H0
    isplitl [H1]; · iexists _; iexact H1
    iexact Hr
  iexact Hg

end Cert.KernelIdeal.Scan

end
-- ==== Proof.Scan1Trip.lean ====
/-
  The reverse scan's loop, at any floats: one trip handles two groups of eight rows from the block's end, the carried
  vector and the first decays of a group going to the group before it. `carry1 n` is the carried vector after the last
  `n` groups, `lam1 g` the gradient at group `g`'s inputs, and `dgate1 g` the gradient at its gate.
-/
module

public import proofs.«01_k».proof.Proof.Scan0Trip

@[expose] public section

set_option maxRecDepth 16384

noncomputable section

namespace Cert.KernelIdeal.Scan

open Idealize.ShloMosaic Idealize.ShloMosaic.TcCoe Idealize.ShloMosaic.Tactic Idealize.ShloMosaic.ValueIdx Cert.KernelIdeal.Gen
open Idealize.SL Idealize.SL.Sem

variable {F : FTy → Type} [FloatOps F]

/-- The gradients of a group from its decays, the hidden states' gradients, the carried vector and the next group's first decays. -/
abbrev grp1 (hp ap A B : Vec F S8x512 .f32) : Vec F S8x512 .f32 := k1_pay18 rowNo hp ap A B

/-- The gradient at a group of gates, from the gates, the hidden states and the gated states' gradients. -/
abbrev dgrp (g h d : Vec F S8x512 .f32) : Vec F S8x512 .f32 :=
  k1_pay17 (k1_pay8 g) (k1_pay10 g) (k1_pay14 g h d) (k1_pay15 g h d) k1_pay16

/-- The first decays of the group after the last `n`. -/
def adec1 (xa : Vec F S512x512 .f32) (init : Vec F S8x512 .f32) : ℕ → Vec F S8x512 .f32
  | 0 => init
  | n + 1 => k1_pay7 (rows xa (63 - n))

/-- The carried vector after the last `n` groups: the first row of the last group handled, in every row. -/
def carry1 (xa xg xd : Vec F S512x512 .f32) (init : Vec F S8x512 .f32 × Vec F S8x512 .f32) : ℕ → Vec F S8x512 .f32
  | 0 => init.1
  | n + 1 => k1_pay20 (k1_pay19 rowNo (carry1 xa xg xd init n) (adec1 xa init.2 n) (rows xa (63 - n)) (k1_pay13 (rows xg (63 - n)) (rows xd (63 - n))))

/-- The gradient at the inputs of group `g`. -/
def lam1 (xa xg xd : Vec F S512x512 .f32) (init : Vec F S8x512 .f32 × Vec F S8x512 .f32) (g : ℕ) : Vec F S8x512 .f32 :=
  grp1 (carry1 xa xg xd init (63 - g)) (adec1 xa init.2 (63 - g)) (rows xa g) (k1_pay13 (rows xg g) (rows xd g))

/-- The gradient at the gate of group `g`, narrowed. -/
def dgate1 (xg xh xd : Vec F S512x512 .f32) (g : ℕ) : Vec F S8x512 .bf16 :=
  truncf .bf16 (dgrp (rows xg g) (rows xh g) (rows xd g)) bitsLt_bf16_f32

section Trip

variable (𝒱 : Variants) (c : Dev nD) (bd : Option 𝒱.V) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .bf16) (harg7 : arg7.IsWhole) (arg8 : Memref sig .tc .vmem S8x512 .f32) (harg8 : arg8.IsWhole) (arg9 : Memref sig .tc .vmem S8x512 .f32) (harg9 : arg9.IsWhole)
variable (xa xg xh xd : Vec F S512x512 .f32)

theorem lt_trips1 (k : Fin k1_t1_loop.trips) : k.val < 32 := Nat.lt_of_lt_of_le k.isLt k1_t1_abs.2.1

theorem off1_0 (k : Fin k1_t1_loop.trips) : k1_off1 k 0#32 = ![8 * (62 - 2 * k.val), 0] :=
  (k1_off1_eq k 0).trans (by have := lt_trips1 k; congr 1; show 8 * 0 + 496 - 16 * k.val = _; omega)
theorem off1_1 (k : Fin k1_t1_loop.trips) : k1_off1 k 1#32 = ![8 * (63 - 2 * k.val), 0] :=
  (k1_off1_eq k 1).trans (by have := lt_trips1 k; congr 1; show 8 * 1 + 496 - 16 * k.val = _; omega)
theorem off1_2 (k : Fin k1_t1_loop.trips) : k1_off2 k = ![16 * (31 - k.val), 0] :=
  (k1_off2_eq k).trans (by have := lt_trips1 k; congr 1; omega)

theorem carry1_two (init : Vec F S8x512 .f32 × Vec F S8x512 .f32) (k : ℕ) (acc : Vec F S8x512 .f32 × Vec F S8x512 .f32)
    (hacc : acc = (carry1 xa xg xd init (2 * k), adec1 xa init.2 (2 * k))) :
    carry1 xa xg xd init (2 * k + 1) = k1_pay20 (k1_pay19 rowNo acc.1 acc.2 (rows xa (63 - 2 * k)) (k1_pay13 (rows xg (63 - 2 * k)) (rows xd (63 - 2 * k))))
      ∧ carry1 xa xg xd init (2 * k + 2) = k1_pay20 (k1_pay19 rowNo (k1_pay20 (k1_pay19 rowNo acc.1 acc.2 (rows xa (63 - 2 * k)) (k1_pay13 (rows xg (63 - 2 * k)) (rows xd (63 - 2 * k))))) (k1_pay7 (rows xa (63 - 2 * k))) (rows xa (62 - 2 * k)) (k1_pay13 (rows xg (62 - 2 * k)) (rows xd (62 - 2 * k)))) := by
  subst hacc
  have e : 62 - 2 * k = 63 - (2 * k + 1) := by omega
  rw [e]
  exact ⟨rfl, rfl⟩

/-- What one trip yields. -/
theorem tripR1 (k : Fin k1_t1_loop.trips) (init acc : Vec F S8x512 .f32 × Vec F S8x512 .f32)
    (hacc : acc = (carry1 xa xg xd init (2 * k.val), adec1 xa init.2 (2 * k.val))) :
    tripR_k1_t1 (F := F) 𝒱 c bd i arg2 harg2 arg3 harg3 arg4 harg4 arg5 harg5 arg6 harg6 arg7 harg7 arg8 harg8 arg9 harg9 rowNo (harg2.unread xa) (harg3.unread xg) (harg4.unread xh) (harg5.unread xd) k acc
      = (carry1 xa xg xd init (2 * (k.val + 1)), adec1 xa init.2 (2 * (k.val + 1))) := by
  have e : 63 - (2 * k.val + 1) = 62 - 2 * k.val := by omega
  show _ = (carry1 xa xg xd init (2 * k.val + 2), k1_pay7 (rows xa (63 - (2 * k.val + 1))))
  rw [e, (carry1_two xa xg xd init k.val acc hacc).2]
  rw [← ld_rows xa (63 - 2 * k.val) (off1_1 k) (k1_off1_inb k 1), ← ld_rows xa (62 - 2 * k.val) (off1_0 k) (k1_off1_inb k 0), ← ld_rows xg (63 - 2 * k.val) (off1_1 k) (k1_off1_inb k 1), ← ld_rows xg (62 - 2 * k.val) (off1_0 k) (k1_off1_inb k 0), ← ld_rows xd (63 - 2 * k.val) (off1_1 k) (k1_off1_inb k 1), ← ld_rows xd (62 - 2 * k.val) (off1_0 k) (k1_off1_inb k 0)]
  unfold tripR_k1_t1 trip_k1_t1
  dsimp only
  sl_unfold_words
  simp only [View.readAt_eq_ld, harg2.read_unread, harg3.read_unread, harg4.read_unread, harg5.read_unread]
  rfl

/-- What one trip stores: two groups of gradients at the inputs, and sixteen rows of gradients at the gate. -/
theorem tripL1 (k : Fin k1_t1_loop.trips) (init acc : Vec F S8x512 .f32 × Vec F S8x512 .f32)
    (hacc : acc = (carry1 xa xg xd init (2 * k.val), adec1 xa init.2 (2 * k.val))) :
    tripL_k1_t1 (F := F) 𝒱 c bd i arg2 harg2 arg3 harg3 arg4 harg4 arg5 harg5 arg6 harg6 arg7 harg7 arg8 harg8 arg9 harg9 rowNo (harg2.unread xa) (harg3.unread xg) (harg4.unread xh) (harg5.unread xd) k acc
      = ([⟨Rect.unit (s := S512x512) (k1_off1 k 0#32) S8x512.size (k1_off1_inb k 0), lam1 xa xg xd init (62 - 2 * k.val)⟩,
          ⟨Rect.unit (s := S512x512) (k1_off1 k 1#32) S8x512.size (k1_off1_inb k 1), lam1 xa xg xd init (63 - 2 * k.val)⟩],
         [⟨Rect.unit (s := S512x512) (k1_off2 k) S16x512.size (k1_off2_inb k),
            k1_pay4 (dgrp (rows xg (63 - 2 * k.val)) (rows xh (63 - 2 * k.val)) (rows xd (63 - 2 * k.val)))
              (dgrp (rows xg (62 - 2 * k.val)) (rows xh (62 - 2 * k.val)) (rows xd (62 - 2 * k.val)))⟩]) := by
  have hk := lt_trips1 k
  have h1 : lam1 xa xg xd init (63 - 2 * k.val) = grp1 acc.1 acc.2 (rows xa (63 - 2 * k.val)) (k1_pay13 (rows xg (63 - 2 * k.val)) (rows xd (63 - 2 * k.val))) := by
    unfold lam1
    rw [show 63 - (63 - 2 * k.val) = 2 * k.val by omega, hacc]
  have h2 : lam1 xa xg xd init (62 - 2 * k.val) = grp1 (k1_pay20 (k1_pay19 rowNo acc.1 acc.2 (rows xa (63 - 2 * k.val)) (k1_pay13 (rows xg (63 - 2 * k.val)) (rows xd (63 - 2 * k.val))))) (k1_pay7 (rows xa (63 - 2 * k.val))) (rows xa (62 - 2 * k.val)) (k1_pay13 (rows xg (62 - 2 * k.val)) (rows xd (62 - 2 * k.val))) := by
    unfold lam1
    rw [show 63 - (62 - 2 * k.val) = 2 * k.val + 1 by omega, (carry1_two xa xg xd init k.val acc hacc).1]
    rfl
  rw [h1, h2, ← ld_rows xa (63 - 2 * k.val) (off1_1 k) (k1_off1_inb k 1), ← ld_rows xa (62 - 2 * k.val) (off1_0 k) (k1_off1_inb k 0), ← ld_rows xg (63 - 2 * k.val) (off1_1 k) (k1_off1_inb k 1), ← ld_rows xg (62 - 2 * k.val) (off1_0 k) (k1_off1_inb k 0), ← ld_rows xh (63 - 2 * k.val) (off1_1 k) (k1_off1_inb k 1), ← ld_rows xh (62 - 2 * k.val) (off1_0 k) (k1_off1_inb k 0), ← ld_rows xd (63 - 2 * k.val) (off1_1 k) (k1_off1_inb k 1), ← ld_rows xd (62 - 2 * k.val) (off1_0 k) (k1_off1_inb k 0)]
  unfold tripL_k1_t1 trip_k1_t1
  dsimp only
  sl_unfold_words
  simp only [View.readAt_eq_ld, harg2.read_unread, harg3.read_unread, harg4.read_unread, harg5.read_unread]
  rfl

/-- The narrowed payload's rows are those of the two groups. -/
theorem dgate_rows (m : ℕ) (x : S16x512.Idx) :
    k1_pay4 (dgrp (rows xg (2 * m + 1)) (rows xh (2 * m + 1)) (rows xd (2 * m + 1))) (dgrp (rows xg (2 * m)) (rows xh (2 * m)) (rows xd (2 * m))) x
      = dgate1 xg xh xd (2 * m + (x 0).val / 8)
          (ix2 (n0 := 8) (n1 := 512) ⟨(x 0).val % 8, Nat.mod_lt _ (by decide)⟩ (x 1)) := by
  have hx : (x (0 : Fin 2)).val < 16 := (x 0).isLt
  unfold k1_pay4 dgate1
  refine congrArg (FloatOps.truncf (F := F) (φ := .f32) .bf16 bitsLt_bf16_f32) ?_
  rw [stacked_rows]
  by_cases h : (x (0 : Fin 2)).val / 8 = 0
  · rw [if_pos h, h]; rfl
  · have h1 : (x (0 : Fin 2)).val / 8 = 1 := by omega
    rw [if_neg h, h1]

/-- After `k` trips: the carried pair, and the stores so far into the two outputs. -/
theorem st1 (init : Vec F S8x512 .f32 × Vec F S8x512 .f32) (k : ℕ) (hk : k ≤ k1_t1_loop.trips) :
    (st_k1_t1 (F := F) 𝒱 c bd i arg2 harg2 arg3 harg3 arg4 harg4 arg5 harg5 arg6 harg6 arg7 harg7 arg8 harg8 arg9 harg9 rowNo (harg2.unread xa) (harg3.unread xg) (harg4.unread xh) (harg5.unread xd) init k).1 = (carry1 xa xg xd init (2 * k), adec1 xa init.2 (2 * k))
    ∧ Holds (ofRows (lam1 xa xg xd init)) (fun r => 512 - 16 * k ≤ r ∧ r < 512) (st_k1_t1 (F := F) 𝒱 c bd i arg2 harg2 arg3 harg3 arg4 harg4 arg5 harg5 arg6 harg6 arg7 harg7 arg8 harg8 arg9 harg9 rowNo (harg2.unread xa) (harg3.unread xg) (harg4.unread xh) (harg5.unread xd) init k).2.1
    ∧ Holds (ofRows (dgate1 xg xh xd)) (fun r => 512 - 16 * k ≤ r ∧ r < 512) (st_k1_t1 (F := F) 𝒱 c bd i arg2 harg2 arg3 harg3 arg4 harg4 arg5 harg5 arg6 harg6 arg7 harg7 arg8 harg8 arg9 harg9 rowNo (harg2.unread xa) (harg3.unread xg) (harg4.unread xh) (harg5.unread xd) init k).2.2 := by
  induction k with
  | zero =>
    rw [st_k1_t1_zero]
    exact ⟨rfl, .nil _ (fun r h => by omega), .nil _ (fun r h => by omega)⟩
  | succ k ih =>
    obtain ⟨h1, h2, h3⟩ := ih (Nat.le_of_succ_le hk)
    have hk' : k < 32 := lt_trips1 ⟨k, hk⟩
    have hs : st_k1_t1 (F := F) 𝒱 c bd i arg2 harg2 arg3 harg3 arg4 harg4 arg5 harg5 arg6 harg6 arg7 harg7 arg8 harg8 arg9 harg9 rowNo (harg2.unread xa) (harg3.unread xg) (harg4.unread xh) (harg5.unread xd) init (k + 1) = _ :=
      st_k1_t1_succ (F := F) 𝒱 c bd i arg2 harg2 arg3 harg3 arg4 harg4 arg5 harg5 arg6 harg6 arg7 harg7 arg8 harg8 arg9 harg9 rowNo (harg2.unread xa) (harg3.unread xg) (harg4.unread xh) (harg5.unread xd) init ⟨k, hk⟩
    rw [hs, tripR1 𝒱 c bd i arg2 harg2 arg3 harg3 arg4 harg4 arg5 harg5 arg6 harg6 arg7 harg7 arg8 harg8 arg9 harg9 xa xg xh xd ⟨k, hk⟩ init _ h1, tripL1 𝒱 c bd i arg2 harg2 arg3 harg3 arg4 harg4 arg5 harg5 arg6 harg6 arg7 harg7 arg8 harg8 arg9 harg9 xa xg xh xd ⟨k, hk⟩ init _ h1]
    refine ⟨rfl, ?_, ?_⟩
    · exact h2.pair (62 - 2 * k) (63 - 2 * k) (off1_0 ⟨k, hk⟩) (off1_1 ⟨k, hk⟩) _ _ _ _ rfl rfl (fun r hr => by omega)
    · have e0 : 62 - 2 * k = 2 * (31 - k) := by omega
      have e1 : 63 - 2 * k = 2 * (31 - k) + 1 := by omega
      dsimp only
      rw [e0, e1]
      exact h3.wide (31 - k) (off1_2 ⟨k, hk⟩) _ _ (dgate_rows xg xh xd (31 - k)) (fun r hr => by omega)

theorem trips1 : k1_t1_loop.trips = 32 := by decide

end Trip

end Cert.KernelIdeal.Scan

end
-- ==== Proof.Scan1Body.lean ====
/-
  One point of the reverse scan's grid, at any floats: on whole staging buffers the body leaves the block's gradients at the inputs and at
  the gate, and in the scratch the carried vectors.
-/
module

public import proofs.«01_k».proof.Proof.Scan1Trip
public import proofs.«01_k».proof.Proof.Gen.KernelIdeal.Points
public import Idealize.ShloMosaic.Lib.Tactic
public import Idealize.ShloMosaic.Lib.WordCmp

@[expose] public section

set_option maxRecDepth 16384

noncomputable section

namespace Cert.KernelIdeal.Scan

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's branch: the point is the first of its column of blocks. -/
abbrev cond1 (i : grid1.Coords) : Prop := (Scalar.cmpi .ne (Scalar.extui (Scalar.cmpi .eq (BitVec.ofNat 32 (i 1).val) 0#32)) 0#32) = 1#1

section

variable (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .bf16) (harg7 : arg7.IsWhole) (arg8 : Memref sig .tc .vmem S8x512 .f32) (harg8 : arg8.IsWhole) (arg9 : Memref sig .tc .vmem S8x512 .f32) (harg9 : arg9.IsWhole)

set_option maxHeartbeats 1000000 in
/-- At a later point the body starts from what the point before left in the scratch. -/
theorem body1_B (hc : ¬cond1 i) (s0 s1 : Vec F S8x512 .f32) (xa xg xh xd : Vec F S512x512 .f32) (E : Set ℕ) (K : PUnit → sProp 𝕄) :
    iprop(owns (c : Thread nD τ) arg2 fullShare xa ∗ owns (c : Thread nD τ) arg3 fullShare xg ∗ owns (c : Thread nD τ) arg4 fullShare xh ∗ owns (c : Thread nD τ) arg5 fullShare xd ∗ (∃ d, owns (c : Thread nD τ) arg6 fullShare d) ∗ (∃ d, owns (c : Thread nD τ) arg7 fullShare d) ∗ owns (c : Thread nD τ) arg8 fullShare s0 ∗ owns (c : Thread nD τ) arg9 fullShare s1
        ∗ (iprop(owns (c : Thread nD τ) arg2 fullShare xa ∗ owns (c : Thread nD τ) arg3 fullShare xg ∗ owns (c : Thread nD τ) arg4 fullShare xh ∗ owns (c : Thread nD τ) arg5 fullShare xd ∗ owns (c : Thread nD τ) arg6 fullShare (ofRows (lam1 xa xg xd (s0, s1))) ∗ owns (c : Thread nD τ) arg7 fullShare (ofRows (dgate1 xg xh xd)) ∗ owns (c : Thread nD τ) arg8 fullShare (carry1 xa xg xd (s0, s1) 64) ∗ owns (c : Thread nD τ) arg9 fullShare (adec1 xa (s0, s1).2 64)) -∗ K ⟨⟩))
      ⊢ wp frame (wpE (defs₀ (F := F)) Variants.none (c : Thread nD τ) none) E (cc1_L1_dscan i arg2 harg2 arg3 harg3 arg4 harg4 arg5 harg5 arg6 harg6 arg7 harg7 arg8 harg8 arg9 harg9) K := by
  simp only [cc1_L1_dscan_eq_skeleton]; unfold cc1_L1_dscan_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5; obtain rfl := harg8.eq_unread hf8; obtain rfl := harg9.eq_unread hf9
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    simp only [readAt_whole, harg8.read_unread, harg9.read_unread]
    exact (st1 Variants.none c none i arg2 harg2 arg3 harg3 arg4 harg4 arg5 harg5 arg6 harg6 arg7 harg7 arg8 harg8 arg9 harg9 xa xg xh xd (s0, s1) k1_t1_loop.trips le_rfl).2.1.read (fun r hr => by rw [trips1]; omega) _ _
  isplitl [H7]
  · iexists _; isplitr; swap; · iexact H7
    ipureintro
    simp only [readAt_whole, harg8.read_unread, harg9.read_unread]
    exact (st1 Variants.none c none i arg2 harg2 arg3 harg3 arg4 harg4 arg5 harg5 arg6 harg6 arg7 harg7 arg8 harg8 arg9 harg9 xa xg xh xd (s0, s1) k1_t1_loop.trips le_rfl).2.2.read (fun r hr => by rw [trips1]; omega) _ _
  isplitl [H8]
  · iexists _; isplitr; swap; · iexact H8
    ipureintro
    simp only [readAt_whole, harg8.read_unread, harg9.read_unread]
    rw [View.read_writes_full]
    exact (shapeCast_self _ _).trans (congrArg Prod.fst (st1 Variants.none c none i arg2 harg2 arg3 harg3 arg4 harg4 arg5 harg5 arg6 harg6 arg7 harg7 arg8 harg8 arg9 harg9 xa xg xh xd (s0, s1) k1_t1_loop.trips le_rfl).1)
  iexists _; isplitr; swap; · iexact H9
  ipureintro
  simp only [readAt_whole, harg8.read_unread, harg9.read_unread]
  rw [View.read_writes_full]
  exact (shapeCast_self _ _).trans (congrArg Prod.snd (st1 Variants.none c none i arg2 harg2 arg3 harg3 arg4 harg4 arg5 harg5 arg6 harg6 arg7 harg7 arg8 harg8 arg9 harg9 xa xg xh xd (s0, s1) k1_t1_loop.trips le_rfl).1)

set_option maxHeartbeats 1000000 in
/-- At the first point of a column of blocks the body starts from zero vectors. -/
theorem body1_A (hc : cond1 i) (xa xg xh xd : Vec F S512x512 .f32) (E : Set ℕ) (K : PUnit → sProp 𝕄) :
    iprop(owns (c : Thread nD τ) arg2 fullShare xa ∗ owns (c : Thread nD τ) arg3 fullShare xg ∗ owns (c : Thread nD τ) arg4 fullShare xh ∗ owns (c : Thread nD τ) arg5 fullShare xd ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare xa ∗ owns (c : Thread nD τ) arg3 fullShare xg ∗ owns (c : Thread nD τ) arg4 fullShare xh ∗ owns (c : Thread nD τ) arg5 fullShare xd ∗ owns (c : Thread nD τ) arg6 fullShare (ofRows (lam1 xa xg xd ((k1_pay1 (F := F)), (k1_pay2 (F := F))))) ∗ owns (c : Thread nD τ) arg7 fullShare (ofRows (dgate1 xg xh xd)) ∗ owns (c : Thread nD τ) arg8 fullShare (carry1 xa xg xd ((k1_pay1 (F := F)), (k1_pay2 (F := F))) 64) ∗ owns (c : Thread nD τ) arg9 fullShare (adec1 xa ((k1_pay1 (F := F)), (k1_pay2 (F := F))).2 64)) -∗ K ⟨⟩))
      ⊢ wp frame (wpE (defs₀ (F := F)) Variants.none (c : Thread nD τ) none) E (cc1_L1_dscan i arg2 harg2 arg3 harg3 arg4 harg4 arg5 harg5 arg6 harg6 arg7 harg7 arg8 harg8 arg9 harg9) K := by
  simp only [cc1_L1_dscan_eq_skeleton]; unfold cc1_L1_dscan_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg2.eq_unread hf2; obtain rfl := harg3.eq_unread hf3; obtain rfl := harg4.eq_unread hf4; obtain rfl := harg5.eq_unread hf5
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words; simp only [readCov_whole]
    exact (st1 Variants.none c none i arg2 harg2 arg3 harg3 arg4 harg4 arg5 harg5 arg6 harg6 arg7 harg7 arg8 harg8 arg9 harg9 xa xg xh xd (k1_pay1, k1_pay2) k1_t1_loop.trips le_rfl).2.1.read (fun r hr => by rw [trips1]; omega) _ _
  isplitl [H7]
  · iexists _; isplitr; swap; · iexact H7
    ipureintro
    sl_unfold_words; simp only [readCov_whole]
    exact (st1 Variants.none c none i arg2 harg2 arg3 harg3 arg4 harg4 arg5 harg5 arg6 harg6 arg7 harg7 arg8 harg8 arg9 harg9 xa xg xh xd (k1_pay1, k1_pay2) k1_t1_loop.trips le_rfl).2.2.read (fun r hr => by rw [trips1]; omega) _ _
  isplitl [H8]
  · iexists _; isplitr; swap; · iexact H8
    ipureintro
    sl_unfold_words; simp only [readCov_whole]
    rw [View.read_writes_full]
    exact (shapeCast_self _ _).trans (congrArg Prod.fst (st1 Variants.none c none i arg2 harg2 arg3 harg3 arg4 harg4 arg5 harg5 arg6 harg6 arg7 harg7 arg8 harg8 arg9 harg9 xa xg xh xd (k1_pay1, k1_pay2) k1_t1_loop.trips le_rfl).1)
  iexists _; isplitr; swap; · iexact H9
  ipureintro
  sl_unfold_words; simp only [readCov_whole]
  rw [View.read_writes_full]
  exact (shapeCast_self _ _).trans (congrArg Prod.snd (st1 Variants.none c none i arg2 harg2 arg3 harg3 arg4 harg4 arg5 harg5 arg6 harg6 arg7 harg7 arg8 harg8 arg9 harg9 xa xg xh xd (k1_pay1, k1_pay2) k1_t1_loop.trips le_rfl).1)

end

end Cert.KernelIdeal.Scan

end
-- ==== Proof.Scan1Data.lean ====
/-
  The reverse scan's region, at any floats and from any contents of the arrays: what the scratch holds before each point
  of the grid, the pipeline's proof data (the outputs' blocks: gradients at the inputs and at the gate) and the body obligation.
-/
module

public import proofs.«01_k».proof.Proof.Scan1Body
public import proofs.«01_k».proof.Proof.Gen.KernelIdeal.Launch
public import Idealize.ShloMosaic.Lib.Pipeline.RegionArraysS

@[expose] public section

set_option maxRecDepth 16384

noncomputable section

namespace Cert.KernelIdeal.Scan

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

theorem hcond1 : ∀ t : Fin cfg1.N, cond1 (grid1.coords t) ↔ t.val % 8 = 0 :=
  (fun t => by
    have ht : t.val < 16 := Nat.lt_of_lt_of_eq t.isLt N_1
    have e0 : (grid1.coords t 0).val = t.val / 8 % 2 := Pipeline.Grid.coords_val t 0 (by decide) rfl
    have e1 : (grid1.coords t 1).val = t.val / 1 % 8 := Pipeline.Grid.coords_val t 1 (by decide) rfl
    simp only [cond1, e0, e1]
    word_cmp
   : ∀ t : Fin grid1.N, cond1 (grid1.coords t) ↔ t.val % 8 = 0)

/-- Point `n` of the grid. -/
def pt1 (n : ℕ) : Fin cfg1.N := ⟨n % 16, Nat.lt_of_lt_of_eq (Nat.mod_lt n (by decide)) (show cfg1.N = 16 from N_1).symm⟩

theorem pt1_val (t : Fin cfg1.N) : pt1 t.val = t :=
  Fin.ext (Nat.mod_eq_of_lt (Nat.lt_of_lt_of_eq t.isLt (show cfg1.N = 16 from N_1)))

/-- The two carried vectors in the scratch before point `n`, past the first of its column of blocks. -/
def scr1 (c : Dev nD) : ℕ → Vec F S8x512 .f32 × Vec F S8x512 .f32
  | 0 => (k1_pay1 (F := F), k1_pay2 (F := F))
  | n + 1 => (carry1 (iblk1 W c 0 (pt1 n)) (iblk1 W c 1 (pt1 n)) (iblk1 W c 3 (pt1 n)) (if n % 8 = 0 then (k1_pay1 (F := F), k1_pay2 (F := F)) else scr1 c n) 64, adec1 (iblk1 W c 0 (pt1 n)) (if n % 8 = 0 then (k1_pay1 (F := F), k1_pay2 (F := F)) else scr1 c n).2 64)

/-- The two carried vectors point `n` starts from: zero at the first point of a column of blocks. -/
def start1 (c : Dev nD) (n : ℕ) : Vec F S8x512 .f32 × Vec F S8x512 .f32 :=
  if n % 8 = 0 then (k1_pay1 (F := F), k1_pay2 (F := F)) else scr1 W c n

theorem scr1_succ (c : Dev nD) (n : ℕ) : scr1 W c (n + 1) = (carry1 (iblk1 W c 0 (pt1 n)) (iblk1 W c 1 (pt1 n)) (iblk1 W c 3 (pt1 n)) (start1 W c n) 64, adec1 (iblk1 W c 0 (pt1 n)) (start1 W c n).2 64) := rfl

/-- The scratch operands. -/
abbrev scM1_0 : Memref sig .tc .vmem S8x512 .f32 := Memref.whole cc1_scratch0
abbrev scM1_1 : Memref sig .tc .vmem S8x512 .f32 := Memref.whole cc1_scratch1

/-- The scoped buffers the region does not use. -/
def rest1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

theorem scoped1 (c : Dev nD) :
    (Pipeline.scopedRest (Ix := Unit) (Name := ℕ) (U := UR sig nD τ) (Lvl := ℕ) (Val := Elt F) spec1 c : sProp 𝕄)
      = iprop((∃ d, owns (c : Thread nD τ) scM1_0 fullShare d) ∗ (∃ d, owns (c : Thread nD τ) scM1_1 fullShare d) ∗ rest1 c) := by
  rw [Pipeline.scopedRest_eq_of_list spec1 c [cc1_scratch0, cc1_scratch1, cc0_stg0_0, cc0_stg0_1, cc0_stg1_0, cc0_stg1_1, cc0_stg2_0, cc0_stg2_1, cc0_stg3_0, cc0_stg3_1, cc0_stg4_0, cc0_stg4_1, cc0_stg5_0, cc0_stg5_1, cc0_scratch0, cc0_scratch1] (by decide) (by decide)]
  simp only [scM1_0, scM1_1, owns_whole]
  rfl

/-- Before point `n`: the scratch, at the carried vectors unless a column of blocks begins; the other buffers and the generator register. -/
def Phi1 (c : Dev nD) (n : ℕ) : sProp 𝕄 :=
  iprop((∃ d0 d1, ⌜n % 8 ≠ 0 → d0 = (scr1 W c n).1 ∧ d1 = (scr1 W c n).2⌝ ∗ owns (c : Thread nD τ) scM1_0 fullShare d0 ∗ owns (c : Thread nD τ) scM1_1 fullShare d1)
    ∗ rest1 c ∗ ∃ r, prngReg c r)

/-- The region's proof data: each input's buffer at its block, each output's at the rows the body computes. -/
def dat1 (c : Dev nD) : Dat τ (Elt F) Unit ℕ (UR sig nD τ) ℕ cfg1 c where
  A w := W c (Proc.devRef .tc (Pipeline.arrRef spec1 w))
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => ofRows (lam1 (iblk1 W c 0 t) (iblk1 W c 1 t) (iblk1 W c 3 t) (start1 W c t.val))
    | ⟨5, _⟩ => ofRows (dgate1 (iblk1 W c 1 t) (iblk1 W c 2 t) (iblk1 W c 3 t))
  Φ t := Phi1 W c t.val
  q _ := fullShare
  owed _ := 0

theorem A1_eq (c : Dev nD) (w : Fin cfg1.W) : (dat1 W c).A w = W c (Proc.devRef .tc (Pipeline.arrRef spec1 w)) := by
  dsimp only [dat1]

theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = ofRows (lam1 (iblk1 W c 0 t) (iblk1 W c 1 t) (iblk1 W c 3 t) (start1 W c t.val)) := by dsimp only [dat1]
theorem after1_5 (c : Dev nD) (t : Fin cfg1.N) : (dat1 W c).after 5 t = ofRows (dgate1 (iblk1 W c 1 t) (iblk1 W c 2 t) (iblk1 W c 3 t)) := by dsimp only [dat1]

theorem before1 (c : Dev nD) : (∀ t d, (dat1 W c).before 0 t d = iblk1 W c 0 t) ∧ (∀ t d, (dat1 W c).before 1 t d = iblk1 W c 1 t) ∧ (∀ t d, (dat1 W c).before 2 t d = iblk1 W c 2 t) ∧ (∀ t d, (dat1 W c).before 3 t d = iblk1 W c 3 t) := by
  refine ⟨fun t d => ?_, fun t d => ?_, fun t d => ?_, fun t d => ?_⟩ <;>
    exact ((dat1 W c).before_in_eq_fetched _ rfl (fun _ => rfl) (fun _ _ _ => rfl) (fun t => by unfold Dat.blockOf; rw [A1_eq]; rfl) t d).trans
      (by unfold Dat.fetched Dat.blockOf; rw [A1_eq]; rfl)

/-- What the body is called with at point `t`, -/
def pre1 (c : Dev nD) (t : Fin cfg1.N) : sProp 𝕄 :=
  iprop((dat1 W c).Φ t.castSucc ∗ (dat1 W c).owesAt () t.castSucc
    ∗ (∃ d, owns (c : Thread nD τ) (win1_0.stage (cfg1.slots t 0)) fullShare ((dat1 W c).before 0 t d))
    ∗ (∃ d, owns (c : Thread nD τ) (win1_1.stage (cfg1.slots t 1)) fullShare ((dat1 W c).before 1 t d))
    ∗ (∃ d, owns (c : Thread nD τ) (win1_2.stage (cfg1.slots t 2)) fullShare ((dat1 W c).before 2 t d))
    ∗ (∃ d, owns (c : Thread nD τ) (win1_3.stage (cfg1.slots t 3)) fullShare ((dat1 W c).before 3 t d))
    ∗ (∃ d, owns (c : Thread nD τ) (win1_4.stage (cfg1.slots t 4)) fullShare ((dat1 W c).before 4 t d))
    ∗ (∃ d, owns (c : Thread nD τ) (win1_5.stage (cfg1.slots t 5)) fullShare ((dat1 W c).before 5 t d)))

/-- and what it returns. -/
def post1 (c : Dev nD) (t : Fin cfg1.N) : sProp 𝕄 :=
  iprop((dat1 W c).Φ t.succ ∗ (dat1 W c).owesAt () t.succ
    ∗ owns (c : Thread nD τ) (win1_0.stage (cfg1.slots t 0)) fullShare ((dat1 W c).after 0 t)
    ∗ owns (c : Thread nD τ) (win1_1.stage (cfg1.slots t 1)) fullShare ((dat1 W c).after 1 t)
    ∗ owns (c : Thread nD τ) (win1_2.stage (cfg1.slots t 2)) fullShare ((dat1 W c).after 2 t)
    ∗ owns (c : Thread nD τ) (win1_3.stage (cfg1.slots t 3)) fullShare ((dat1 W c).after 3 t)
    ∗ owns (c : Thread nD τ) (win1_4.stage (cfg1.slots t 4)) fullShare ((dat1 W c).after 4 t)
    ∗ owns (c : Thread nD τ) (win1_5.stage (cfg1.slots t 5)) fullShare ((dat1 W c).after 5 t))

set_option maxHeartbeats 6400000 in
/-- The body at any point: the first point of a column of blocks starts from zero vectors, a later one from what the point before left. -/
theorem sound1 (c : Dev nD) (t : Fin cfg1.N) :
    pre1 W c t ⊢ wp frame (wpE (defs₀ (F := F)) Variants.none (c : Thread nD τ) none) Set.univ (bodyAt1 t) (fun _ => post1 W c t) := by
  unfold pre1 post1 bodyAt1
  simp only [before1]
  rw [show (dat1 W c).owesAt () t.succ = (dat1 W c).owesAt () t.castSucc from rfl, after1_0, after1_1, after1_2, after1_3, after1_4, after1_5]
  rw [show (dat1 W c).Φ t.succ = Phi1 W c (t.val + 1) from rfl, show (dat1 W c).Φ t.castSucc = Phi1 W c t.val from rfl]
  unfold Phi1
  rw [scr1_succ, pt1_val]
  by_cases h0 : t.val % 8 = 0
  · have hs : (start1 W c t.val) = (k1_pay1 (F := F), k1_pay2 (F := F)) := if_pos h0
    rw [hs]
    iintro ⟨⟨⟨%e0, %e1, -, HS0, HS1⟩, Hr, Hg⟩, Ho, ⟨%d0, H0⟩, ⟨%d1, H1⟩, ⟨%d2, H2⟩, ⟨%d3, H3⟩, ⟨%d4, H4⟩, ⟨%d5, H5⟩⟩
    iapply (body1_A c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) scM1_0 (Memref.isWhole_whole _) scM1_1 (Memref.isWhole_whole _) ((hcond1 t).mpr h0) (iblk1 W c 0 t) (iblk1 W c 1 t) (iblk1 W c 2 t) (iblk1 W c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexists _; iexact HS0
    isplitl [HS1]; · iexists _; iexact HS1
    iintro ⟨H0, H1, H2, H3, H4, H5, HS0, HS1⟩
    isplitl [HS0 HS1 Hr Hg]
    · isplitl [HS0 HS1]
      · iexists _, _
        isplitr
        swap
        · isplitl [HS0]; · iexact HS0
          iexact HS1
        ipureintro
        exact fun _ => ⟨rfl, rfl⟩
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · have hs : (start1 W c t.val) = scr1 W c t.val := if_neg h0
    rw [hs]
    iintro ⟨⟨⟨%e0, %e1, %he, HS0, HS1⟩, Hr, Hg⟩, Ho, ⟨%d0, H0⟩, ⟨%d1, H1⟩, ⟨%d2, H2⟩, ⟨%d3, H3⟩, ⟨%d4, H4⟩, ⟨%d5, H5⟩⟩
    obtain ⟨rfl, rfl⟩ := he h0
    iapply (body1_B c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) scM1_0 (Memref.isWhole_whole _) scM1_1 (Memref.isWhole_whole _) (fun h => h0 ((hcond1 t).mp h)) (scr1 W c t.val).1 (scr1 W c t.val).2 (iblk1 W c 0 t) (iblk1 W c 1 t) (iblk1 W c 2 t) (iblk1 W c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hr Hg]
    · isplitl [HS0 HS1]
      · iexists _, _
        isplitr
        swap
        · isplitl [HS0]; · iexact HS0
          iexact HS1
        ipureintro
        exact fun _ => ⟨rfl, rfl⟩
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5

theorem row1 (t : Fin cfg1.N) :
    defs₀ (F := F) .tc cfg1.body (cfg1.bodyArgs t (cfg1.slots t)) = bodyAt1 t := by
  unfold defs₀; rw [Defs.onTc_tc]

/-- The library's body obligation, at every point. -/
theorem obligation1 (c : Dev nD) : BodyObligation (dat1 W c) (defs₀ (F := F)) Variants.none () Set.univ := fun t => by
  rw [bigSep_W1, bigSep_W1, row1]
  exact triple_restated (sound1 W c t) rfl .rfl fun _ => .rfl

theorem phi1_in (c : Dev nD) :
    iprop(Pipeline.scopedRest (Ix := Unit) (Name := ℕ) (U := UR sig nD τ) (Lvl := ℕ) (Val := Elt F) spec1 c ∗ (∃ r, prngReg c r)) ⊢ Phi1 W c 0 := by
  rw [scoped1]; unfold Phi1
  iintro ⟨⟨⟨%d0, H0⟩, ⟨%d1, H1⟩, Hr⟩, Hg⟩
  isplitl [H0 H1]
  · iexists d0, d1
    isplitr
    · ipureintro; exact fun h => absurd rfl h
    isplitl [H0]; · iexact H0
    iexact H1
  isplitl [Hr]; · iexact Hr
  iexact Hg

theorem phi1_out (c : Dev nD) (n : ℕ) :
    Phi1 W c n ⊢ iprop(Pipeline.scopedRest (Ix := Unit) (Name := ℕ) (U := UR sig nD τ) (Lvl := ℕ) (Val := Elt F) spec1 c ∗ (∃ r, prngReg c r)) := by
  rw [scoped1]; unfold Phi1
  iintro ⟨⟨%d0, %d1, -, H0, H1⟩, Hr, Hg⟩
  isplitr [Hg]
  · isplitl [H0]; · iexists _; iexact H0
    isplitl [H1]; · iexists _; iexact H1
    iexact Hr
  iexact Hg

end Cert.KernelIdeal.Scan

end
-- ==== Proof.ScanRun.lean ====
/-
  The program's run, at any floats: the forward scan's region, then the reverse scan's, entered from the launch memory. Every fair
  execution ends; every unscoped buffer then holds what the two regions' proof data say, and every counter is zero.
-/
module

public import proofs.«01_k».proof.Proof.Scan0Data
public import proofs.«01_k».proof.Proof.Scan1Data
public import Idealize.ShloMosaic.Lib.StableHlo.RunLoop

@[expose] public section

set_option maxRecDepth 16384

noncomputable section

namespace Cert.KernelIdeal.Scan

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, -/
abbrev V0 (c : Dev nD) : Valuation τ sig (Elt F) := fun b => (s₀ m ρ).mem ((c : Dev nD), b)
/-- after the forward scan, -/
abbrev V1 (c : Dev nD) : Valuation τ sig (Elt F) := Pipeline.afterRegion (dat0 (V0 m ρ) c) (V0 m ρ c)
/-- and after the reverse scan. -/
abbrev V2 (c : Dev nD) : Valuation τ sig (Elt F) := Pipeline.afterRegion (dat1 (V1 m ρ) c) (V1 m ρ c)

/-- The two regions' proof data. -/
def pdats : (p : Fin 2) → (c : Dev nD) → Dat τ (Elt F) Unit ℕ (UR sig nD τ) ℕ (cfgs p) c
  | ⟨0, _⟩, c => dat0 (V0 m ρ) c
  | ⟨1, _⟩, c => dat1 (V1 m ρ) c

/-- No core owes another anything; each staging counter has its one name, at level zero. -/
abbrev L : GSem nD τ sig → Finset Unit := fun g => if g.1.2 = .tc then {()} else ∅
abbrev lv : GSem nD τ sig → Unit → ℕ := fun _ _ => 0
/-- The prefetched tables' admissible contents: no table. -/
abbrev adm : (p : Fin 2) → (pcfgs (F := F) p).Adm := fun p => (cfgs p).toPCfg_adm

theorem cut (p : Fin 2) : Pipeline.LevelCut (pcfgs (F := F)) adm () L lv p 0 (fun _ => 0) where
  hι _ _ _ := Finset.mem_singleton_self _
  hιb _ _ _ := le_rfl
  hD _ _ _ h := absurd h (lt_irrefl _)

/-- The core's generator register. -/
abbrev Reg (c : Dev nD) : sProp 𝕄 := iprop(∃ r, prngReg c r)

set_option backward.isDefEq.respectTransparency.types false in
/-- The forward scan's region, from the launch's buffers. -/
def reg0 : Pipeline.RegionSeg (pcfgs (F := F)) adm (pdats m ρ) () defs₀ Variants.none L lv 0 :=
  Pipeline.RegionSeg.ofHeldIn (pcfgs (F := F)) adm (pdats m ρ) () defs₀ Variants.none L lv 0 0 (ucRefs τ sig) Reg Reg
    launch0.toP rfl (fun c => (obligation0 (V0 m ρ) c).loose) (fun _ _ => rfl) (fun _ => rfl)
    (fun c => (dat0 (V0 m ρ) c).share_full fun _ => rfl)
    (fun c => phi0_in (V0 m ρ) c) (fun c => phi0_out (V0 m ρ) c _) (fun _ => 0) (cut 0) (fun _ => iprop(emp)) (V0 m ρ)
    (fun c w => A0_eq (V0 m ρ) c w)

set_option backward.isDefEq.respectTransparency.types false in
/-- The reverse scan's region, from the buffers the forward scan left. -/
def reg1 : Pipeline.RegionSeg (pcfgs (F := F)) adm (pdats m ρ) () defs₀ Variants.none L lv 1 :=
  Pipeline.RegionSeg.ofHeldIn (pcfgs (F := F)) adm (pdats m ρ) () defs₀ Variants.none L lv 1 0 (ucRefs τ sig) Reg Reg
    launch1.toP rfl (fun c => (obligation1 (V1 m ρ) c).loose) (fun _ _ => rfl) (fun _ => rfl)
    (fun c => (dat1 (V1 m ρ) c).share_full fun _ => rfl)
    (fun c => phi1_in (V1 m ρ) c) (fun c => phi1_out (V1 m ρ) c _) (fun _ => 0) (cut 1) (fun _ => iprop(emp)) (V1 m ρ)
    (fun c w => A1_eq (V1 m ρ) c w)

theorem sub0 : Pipeline.arrRefs (τ := τ) (pcfgs (F := F) 0).spec ⊆ ucRefs τ sig := Pipeline.arrRefs_sub_ucRefs _ winFacts0.arr_unscoped
theorem sub1 : Pipeline.arrRefs (τ := τ) (pcfgs (F := F) 1).spec ⊆ ucRefs τ sig := Pipeline.arrRefs_sub_ucRefs _ winFacts1.arr_unscoped

/-- What the program holds between its regions, at contents `V`. -/
abbrev Held (V : Dev nD → Valuation τ sig (Elt F)) (c : Dev nD) : sProp 𝕄 :=
  iprop(StableHlo.held (c : Thread nD τ) (ucRefs τ sig) (V c) ∗ ((∃ Wd, owes (c : Thread nD τ) (0 : CellTallies nD τ sig Unit) Wd) ∗ Reg c ∗ emp))

set_option backward.isDefEq.respectTransparency.types false in
theorem enter0 (c : Dev nD) : Held (V0 m ρ) c ⊢ (reg0 m ρ).pre c := by
  unfold reg0
  exact Pipeline.RegionSeg.ofHeldIn_pre (pcs := pcfgs (F := F)) (a := adm) (pdats := pdats m ρ) (p := 0) (D := 0) (X := Reg) (R := fun _ => iprop(emp)) (W := V0 m ρ) sub0 c
set_option backward.isDefEq.respectTransparency.types false in
theorem leave0 (c : Dev nD) : (reg0 m ρ).post c ⊢ Held (V1 m ρ) c := by
  have h : Pipeline.afterRegion (pdats m ρ 0 c) (V0 m ρ c) = V1 m ρ c := rfl
  unfold Held; rw [← h]; unfold reg0
  exact Pipeline.RegionSeg.ofHeldIn_post sub0 c
set_option backward.isDefEq.respectTransparency.types false in
theorem enter1 (c : Dev nD) : Held (V1 m ρ) c ⊢ (reg1 m ρ).pre c := by
  unfold reg1
  exact Pipeline.RegionSeg.ofHeldIn_pre (pcs := pcfgs (F := F)) (a := adm) (pdats := pdats m ρ) (p := 1) (D := 0) (X := Reg) (R := fun _ => iprop(emp)) (W := V1 m ρ) sub1 c
set_option backward.isDefEq.respectTransparency.types false in
theorem leave1 (c : Dev nD) : (reg1 m ρ).post c ⊢ Held (V2 m ρ) c := by
  have h : Pipeline.afterRegion (pdats m ρ 1 c) (V1 m ρ c) = V2 m ρ c := rfl
  unfold Held; rw [← h]; unfold reg1
  exact Pipeline.RegionSeg.ofHeldIn_post sub1 c

/-- The program is its two regions. -/
abbrev segs : List (Pipeline.Seg (pcfgs (F := F)) adm (pdats m ρ) () defs₀ Variants.none L lv) := [.region (reg0 m ρ), .region (reg1 m ρ)]

theorem chains : Pipeline.Seg.Chains (Held (V0 m ρ)) (segs m ρ) fun c =>
    iprop(iprop(StableHlo.held (c : Thread nD τ) (ucRefs τ sig) (V2 m ρ c) ∗ Reg c) ∗ ∃ Wd, owes (c : Thread nD τ) (0 : CellTallies nD τ sig Unit) Wd) :=
  ⟨enter0 m ρ, fun c => (leave0 m ρ c).trans (enter1 m ρ c), fun c => (leave1 m ρ c).trans (by
    iintro ⟨Hh, HO, Hr, -⟩
    isplitl [Hh Hr]
    · isplitl [Hh]; · iexact Hh
      iexact Hr
    iexact HO)⟩

theorem finish (c : Dev nD) (s' : Phys nD τ sig (Elt F)) :
    iprop(iprop(StableHlo.held (c : Thread nD τ) (ucRefs τ sig) (V2 m ρ c) ∗ Reg c) ∗ SI s')
      ⊢ |={Set.univ}=> iprop(⌜∀ b ∈ ucRefs τ sig, s'.mem.mem ((c : Dev nD), b) = V2 m ρ c b⌝ ∗ SI s') := by
  unfold StableHlo.held
  iintro ⟨⟨Hh, -⟩, HSI⟩
  ihave Hr := (pointsTo_read_all (ucRefs τ sig) (fun b => ((c : Dev nD), b)) (fun b => V2 m ρ c b) s') $$ [Hh HSI]
  · isplitl [Hh] <;> iassumption
  icases Hr with ⟨%h, HSI⟩
  imodintro
  isplitr; · ipureintro; exact h
  iexact HSI

set_option backward.isDefEq.respectTransparency.types false in
/-- The run: every unscoped buffer ends at `V2`, every counter at zero. -/
theorem run_main : θ_run defs (onTc (τ := τ) (main (F := F))) (s₀ m ρ)
    (fun r => (∀ (c : Dev nD) (b : Ref sig .tc), (Proc.devRef .tc b : DevRef τ sig).isScoped = false →
      r.2.mem ((c : Thread nD τ).loc b) = V2 m ρ c (Proc.devRef .tc b)) ∧ r.2.sem = fun _ => 0) :=
  Pipeline.θ_run_regions_kit_sems (pcfgs (F := F)) adm (pdats m ρ) () cellOf_inj (uEmb : UEmb (UR sig nD τ) 𝕄).toEmb defs₀ Variants.none L lv m ρ main (segs m ρ)
    (fun c Q => by rw [main_segs adm (pdats m ρ) () Variants.none L lv (reg0 m ρ) (reg1 m ρ) c])
    (by simp only [Pipeline.Seg.pipes_region, Pipeline.Seg.pipes_nil]; decide) (O₀ := 0)
    (hL := fun g h => if_neg h) (G := fun _ => iprop(emp)) (u₀ := initOf (Pipeline.cells (Pipeline.pin (pcfgs (F := F)) adm) cellOf_inj) (Pipeline.launchToks (Pipeline.pin (pcfgs (F := F)) adm) cellOf_inj))
    (hu₀ := by
      unfold ownU
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := Held (V0 m ρ))
    (Tₙ := fun c => iprop(StableHlo.held (c : Thread nD τ) (ucRefs τ sig) (V2 m ρ c) ∗ Reg c))
    (hch := chains m ρ)
    (hinit := by
      refine Pipeline.initEach L lv fun c => ?_
      rw [show unscopedBufs c (fun b => m ((c : Thread nD τ).loc b)) = StableHlo.held (c : Thread nD τ) (ucRefs τ sig) (V0 m ρ c) from Pipeline.unscopedBufs_held c (V0 m ρ c)]
      iintro ⟨⟨Hh, -, HO, -, Hr, -⟩, -⟩
      imodintro
      isplitl [Hh]; · iexact Hh
      isplitl [HO]; · iexists ∅; iexact HO
      isplitl [Hr]; · iexists _; iexact Hr
      iempintro)
    (QY := fun c s => ∀ b ∈ ucRefs τ sig, s.mem ((c : Dev nD), b) = V2 m ρ c b)
    (hfin := finish m ρ)
    (hQ := fun _ h hz => ⟨fun c b hb => h c _ (StableHlo.devRef_mem_ucRefs b hb), funext fun g => hz g (.inr (by revert g; decide))⟩)

end Cert.KernelIdeal.Scan

end
-- ==== Proof.ScanEnd.lean ====
/-
  What the program's buffers hold at the end: the arguments as launched, the five results as the two regions' proof data leave their
  windows' arrays. The frame claims follow.
-/
module

public import proofs.«01_k».proof.Proof.ScanRun

@[expose] public section

set_option maxRecDepth 16384

noncomputable section

namespace Cert.KernelIdeal.Scan

open Idealize.ShloMosaic Idealize.ShloMosaic.TcCoe Idealize.ShloMosaic.Tactic Cert.KernelIdeal.Gen
open Idealize.SL Idealize.SL.Sem

variable {F : FTy → Type} [FloatOps F]

variable (m : (ℓ : Loc nD τ sig) → Buf (Elt F) ℓ) (ρ : Dev nD → PrngReg)

/-- The forward scan changes no buffer but its results'; -/
theorem V1_keeps (c : Dev nD) (b : Ref sig .tc) (h : ∀ w, Pipeline.arrRef spec0 w = b → (cfg0.win w).isOut = false) :
    V1 m ρ c (Proc.devRef .tc b) = m ((c : Thread nD τ).loc b) :=
  Pipeline.afterRegion_keeps (dat0 (V0 m ρ) c) (V0 m ρ c) winFacts0.arr_inj (A0_eq (V0 m ρ) c) b h
/-- nor does the reverse scan. -/
theorem V2_keeps (c : Dev nD) (b : Ref sig .tc) (h : ∀ w, Pipeline.arrRef spec1 w = b → (cfg1.win w).isOut = false) :
    V2 m ρ c (Proc.devRef .tc b) = V1 m ρ c (Proc.devRef .tc b) :=
  Pipeline.afterRegion_keeps (dat1 (V1 m ρ) c) (V1 m ρ c) winFacts1.arr_inj (A1_eq (V1 m ρ) c) b h

theorem V2_arg (c : Dev nD) (b : Ref sig .tc) (h0 : ∀ w, Pipeline.arrRef spec0 w = b → (cfg0.win w).isOut = false)
    (h1 : ∀ w, Pipeline.arrRef spec1 w = b → (cfg1.win w).isOut = false) :
    V2 m ρ c (Proc.devRef .tc b) = m ((c : Thread nD τ).loc b) := (V2_keeps m ρ c b h1).trans (V1_keeps m ρ c b h0)

theorem V1_h (c : Dev nD) : V1 m ρ c (Proc.devRef .tc main_v0_0) = (dat0 (V0 m ρ) c).arrAt 3 cfg0.N :=
  Pipeline.afterRegion_arr (dat0 (V0 m ρ) c) (V0 m ρ c) winFacts0.arr_inj 3
theorem V2_h (c : Dev nD) : V2 m ρ c (Proc.devRef .tc main_v0_0) = (dat0 (V0 m ρ) c).arrAt 3 cfg0.N :=
  (V2_keeps m ρ c main_v0_0 (by decide)).trans (V1_h m ρ c)
theorem V2_hprev (c : Dev nD) : V2 m ρ c (Proc.devRef .tc main_v0_1) = (dat0 (V0 m ρ) c).arrAt 4 cfg0.N :=
  (V2_keeps m ρ c main_v0_1 (by decide)).trans (Pipeline.afterRegion_arr (dat0 (V0 m ρ) c) (V0 m ρ c) winFacts0.arr_inj 4)
theorem V2_hg (c : Dev nD) : V2 m ρ c (Proc.devRef .tc main_v0_2) = (dat0 (V0 m ρ) c).arrAt 5 cfg0.N :=
  (V2_keeps m ρ c main_v0_2 (by decide)).trans (Pipeline.afterRegion_arr (dat0 (V0 m ρ) c) (V0 m ρ c) winFacts0.arr_inj 5)
theorem V2_lam (c : Dev nD) : V2 m ρ c (Proc.devRef .tc main_v1_0) = (dat1 (V1 m ρ) c).arrAt 4 cfg1.N :=
  Pipeline.afterRegion_arr (dat1 (V1 m ρ) c) (V1 m ρ c) winFacts1.arr_inj 4
theorem V2_dproj (c : Dev nD) : V2 m ρ c (Proc.devRef .tc main_v1_1) = (dat1 (V1 m ρ) c).arrAt 5 cfg1.N :=
  Pipeline.afterRegion_arr (dat1 (V1 m ρ) c) (V1 m ρ c) winFacts1.arr_inj 5

/-- The arguments end as launched and every counter at zero. -/
theorem frame_any : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
    ⟨(h.1 c main_arg0 rfl).trans (V2_arg m ρ c main_arg0 (by decide) (by decide)),
      (h.1 c main_arg1 rfl).trans (V2_arg m ρ c main_arg1 (by decide) (by decide)),
      (h.1 c main_arg2 rfl).trans (V2_arg m ρ c main_arg2 (by decide) (by decide)),
      (h.1 c main_arg3 rfl).trans (V2_arg m ρ c main_arg3 (by decide) (by decide))⟩, h.2⟩) (run_main m ρ)

end Cert.KernelIdeal.Scan

end
-- ==== Proof.Printed.lean ====
/-
  The kernel as printed for the bit-level floats and as printed for the ideal ones are one program: the two texts define
  the same bodies, the same regions and the same launch. So the frame of the first follows from the run of the second,
  which is stated over any float values.
-/
module

public import proofs.«01_k».proof.Proof.Gen.Kernel
public import proofs.«01_k».proof.Proof.ScanEnd

@[expose] public section

noncomputable section

namespace Cert.Printed

open Idealize.ShloMosaic Idealize.SL.Sem

variable {F : FTy → Type} [FloatOps F]

theorem body0 (a b c d e f g h i j k l m n o p q) :
    @Cert.KernelIdeal.cc0_L1_scan F _ Cert.KernelIdeal.Gen.facts a b c d e f g h i j k l m n o p q
      = @Cert.Kernel.cc0_L1_scan F _ Cert.Kernel.Gen.facts a b c d e f g h i j k l m n o p q := rfl

theorem body1 (a b c d e f g h i j k l m n o p q) :
    @Cert.KernelIdeal.cc1_L1_dscan F _ Cert.KernelIdeal.Gen.facts a b c d e f g h i j k l m n o p q
      = @Cert.Kernel.cc1_L1_dscan F _ Cert.Kernel.Gen.facts a b c d e f g h i j k l m n o p q := rfl

theorem defs₀ : Cert.KernelIdeal.defs₀ (F := F) = Cert.Kernel.defs₀ (F := F) := by
  unfold Cert.KernelIdeal.defs₀ Cert.Kernel.defs₀
  refine congrArg (Defs.onTc (nD := Cert.Kernel.nD) (τ := Cert.Kernel.τ) (sig := Cert.Kernel.sig)) ?_
  funext l x
  match l, x with
  | ⟨0, _⟩, (t, s) => exact body0 ..
  | ⟨1, _⟩, (t, s) => exact body1 ..

theorem defs : Cert.KernelIdeal.defs (F := F) = Cert.Kernel.defs (F := F) :=
  congrArg (Pipeline.defs (Cert.KernelIdeal.pcfgs (F := F))) defs₀

/-- A run under one program's definitions is a run under the other's. -/
theorem run_of {D : Defs Cert.KernelIdeal.nD Cert.KernelIdeal.τ Cert.KernelIdeal.sig (Elt F) _} (hD : Cert.KernelIdeal.defs (F := F) = D)
    {P s Q} (h : θ_run (Cert.KernelIdeal.defs (F := F)) P s Q) : θ_run D P s Q := hD ▸ h

theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) :=
  run_of defs (Cert.KernelIdeal.Scan.frame_any (F := F) m ρ)

end Cert.Printed

end
-- ==== Proof.RefSegs.lean ====
/-
  The reference @main as stretches of host operations and its two counted loops: the operations of each stretch, that @main
  and the two loops' bodies are these stretches in order, and which buffers each stretch writes.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Rec

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.Sem

abbrev Arr (F : FTy → Type) := (⟨S4096x1024, .f32⟩ : BufTy).Contents (Elt F)
abbrev Row (F : FTy → Type) := (⟨S1024, .f32⟩ : BufTy).Contents (Elt F)
abbrev Wide (F : FTy → Type) := (⟨S4096x2048, .f32⟩ : BufTy).Contents (Elt F)
abbrev Cnt (F : FTy → Type) := (⟨S_, .i32⟩ : BufTy).Contents (Elt F)
abbrev RowRef := StableHlo.TRef sig ⟨S1024, .f32⟩
abbrev BlockRef := StableHlo.TRef sig ⟨S1x1024, .f32⟩
abbrev RowsRef := StableHlo.TRef sig ⟨S4096x1024, .f32⟩
abbrev CountRef := StableHlo.TRef sig ⟨S_, .i32⟩
abbrev Num (F : FTy → Type) := (⟨S_, .f32⟩ : BufTy).Contents (Elt F)

variable {F : FTy → Type} [FloatOps F]

/-- The programs that the stretches and the loops make up. -/
abbrev Code (F : FTy → Type) [FloatOps F] := Prog (TpuEff nD τ sig (Elt F) (HostLoop.Sig (Pipeline.Sig Λ₀ (Fin 0) fun p => (pcfgs (F := F) p).Adm) 2) .tc) PUnit

abbrev mul : Arr F → Arr F → Arr F := mulf
abbrev add : Arr F → Arr F → Arr F := addf
abbrev fill : Num F → Arr F := broadcastInDim S4096x1024 ![] bcast_S_S4096x1024

/-- @main before the forward recurrence. -/
abbrev hostOps0 : List (HloOp τ sig (Elt F)) :=
  [ unary main_arg2 main_v0 ((extractStridedSlice S4096x1024 ![0, 1024] · slices_S4096x2048_S4096x1024_0_1024) : Wide F → Arr F),
    nullary main_cst (constant S_ .f32 0x00000000#32),
    unary main_cst main_v1 (broadcastInDim S1024 ![] bcast_S_S1024 : Num F → Row F),
    nullary main_cst_0 (constant S_ .f32 0x00000000#32),
    unary main_cst_0 main_v2 fill,
    nullary main_c (constantI S_ 32 0#32),
    unary main_arg0 main_v3_0 id,
    unary main_arg1 main_v3_1 id,
    unary main_c main_v3_2 id,
    unary main_v1 main_v3_3 id,
    unary main_v2 main_v3_4 id ]
theorem hostOps0_sub : (hostOps0 : List (HloOp τ sig (Elt F))).Forall fun op => op.bufs ⊆ tcRefs τ sig := by
  repeat' apply And.intro
  all_goals first | with_reducible exact unary_bufs_sub .. | with_reducible exact nullary_bufs_sub .. | with_reducible exact binary_bufs_sub .. | exact unary_bufs_sub ..
/-- @main between the two recurrences: the gate, the gradient of the gate and of the recurrence's output. -/
abbrev hostOps0_1 : List (HloOp τ sig (Elt F)) :=
  ( nullary main_cst_1 (constant S_ .f32 0x00000000#32)
  :: unary main_cst_1 main_v4 (broadcastInDim S1x1024 ![] bcast_S_S1x1024 : Num F → (⟨S1x1024, .f32⟩ : BufTy).Contents (Elt F))
  :: unary main_v3_4 main_v5 ((extractStridedSlice S4095x1024 ![0, 0] · slices_S4096x1024_S4095x1024_0_0) : Arr F → (⟨S4095x1024, .f32⟩ : BufTy).Contents (Elt F))
  :: binary main_v4 main_v5 main_v6 ((fun a b => concatenate S4096x1024 0 [⟨S1x1024, a⟩, ⟨S4095x1024, b⟩] concatenates_S1x1024_S4095x1024_S4096x1024_d0) : (⟨S1x1024, .f32⟩ : BufTy).Contents (Elt F) → (⟨S4095x1024, .f32⟩ : BufTy).Contents (Elt F) → Arr F)
  :: binary main_v0 main_v0 main_v7 mul
  :: binary main_v7 main_v0 main_v8 mul
  :: binary main_v0 main_v0 main_v9 mul
  :: nullary main_cst_2 (constant S_ .f32 0x40400000#32)
  :: unary main_cst_2 main_v10 fill
  :: binary main_v10 main_v9 main_v11 mul
  :: nullary main_cst_3 (constant S_ .f32 0x3D372713#32)
  :: unary main_cst_3 main_v12 fill
  :: binary main_v12 main_v8 main_v13 mul
  :: binary main_v0 main_v13 main_v14 add
  :: nullary main_cst_4 (constant S_ .f32 0x3F4C422A#32)
  :: unary main_cst_4 main_v15 fill
  :: binary main_v15 main_v14 main_v16 mul
  :: unary main_v16 main_v17 (Host.tanh : Arr F → Arr F)
  :: nullary main_cst_5 (constant S_ .f32 0x3F800000#32)
  :: unary main_cst_5 main_v18 fill
  :: binary main_v18 main_v17 main_v19 add
  :: nullary main_cst_6 (constant S_ .f32 0x3F800000#32)
  :: unary main_cst_6 main_v20 fill
  :: binary main_v20 main_v17 main_v21 (subf : Arr F → Arr F → Arr F)
  :: binary main_v19 main_v21 main_v22 mul
  :: nullary main_cst_7 (constant S_ .f32 0x3F800000#32)
  :: unary main_cst_7 main_v23 fill
  :: binary main_v23 main_v17 main_v24 add
  :: nullary main_cst_8 (constant S_ .f32 0x3F000000#32)
  :: unary main_cst_8 main_v25 fill
  :: binary main_v25 main_v24 main_v26 mul
  :: binary main_v0 main_v26 main_v27 mul
  :: binary main_v3_4 main_v27 main_v28 mul
  :: binary main_v3_4 main_arg3 main_v29 mul
  :: binary main_arg3 main_v27 main_v30 mul
  :: binary main_v0 main_v29 main_v31 mul
  :: binary main_v29 main_v26 main_v32 mul
  :: nullary main_cst_9 (constant S_ .f32 0x3F000000#32)
  :: unary main_cst_9 main_v33 fill
  :: binary main_v33 main_v31 main_v34 mul
  :: binary main_v34 main_v22 main_v35 mul
  :: nullary main_cst_10 (constant S_ .f32 0x3F4C422A#32)
  :: unary main_cst_10 main_v36 fill
  :: binary main_v36 main_v35 main_v37 mul
  :: binary main_v32 main_v37 main_v38 add
  :: nullary main_cst_11 (constant S_ .f32 0x3D372713#32)
  :: unary main_cst_11 main_v39 fill
  :: binary main_v39 main_v37 main_v40 mul
  :: binary main_v40 main_v11 main_v41 mul
  :: binary main_v38 main_v41 main_v42 add
  :: nullary main_cst_12 (constant S_ .f32 0x00000000#32)
  :: unary main_cst_12 main_v43 (broadcastInDim S1024 ![] bcast_S_S1024 : Num F → Row F)
  :: nullary main_cst_13 (constant S_ .f32 0x00000000#32)
  :: unary main_cst_13 main_v44 (broadcastInDim S1024 ![] bcast_S_S1024 : Num F → Row F)
  :: nullary main_cst_14 (constant S_ .f32 0x00000000#32)
  :: unary main_cst_14 main_v45 fill
  :: nullary main_c_15 (constantI S_ 32 0#32)
  :: unary main_v30 main_v46_0 id
  :: unary main_arg0 main_v46_1 id
  :: unary main_c_15 main_v46_2 id
  :: unary main_v44 main_v46_3 id
  :: unary main_v45 main_v46_4 id
  :: [] )
theorem hostOps0_1_sub : (hostOps0_1 : List (HloOp τ sig (Elt F))).Forall fun op => op.bufs ⊆ tcRefs τ sig := by
  repeat' apply And.intro
  all_goals first | with_reducible exact unary_bufs_sub .. | with_reducible exact nullary_bufs_sub .. | with_reducible exact binary_bufs_sub .. | exact unary_bufs_sub ..
/-- @main after the reverse recurrence. -/
abbrev hostOps0_2 : List (HloOp τ sig (Elt F)) :=
  [ nullary main_cst_16 (constant S_ .f32 0x00000000#32),
    unary main_cst_16 main_v47 fill,
    binary main_v47 main_v42 main_v48 ((fun a b => concatenate S4096x2048 1 [⟨S4096x1024, a⟩, ⟨S4096x1024, b⟩] concatenates_S4096x1024_S4096x1024_S4096x2048_d1) : Arr F → Arr F → Wide F),
    unary main_v28 main_v49 ((truncf .bf16 · bitsLt_bf16_f32) : Arr F → (⟨S4096x1024, .bf16⟩ : BufTy).Contents (Elt F)),
    unary main_v48 main_v50 ((truncf .bf16 · bitsLt_bf16_f32) : Wide F → (⟨S4096x2048, .bf16⟩ : BufTy).Contents (Elt F)) ]
theorem hostOps0_2_sub : (hostOps0_2 : List (HloOp τ sig (Elt F))).Forall fun op => op.bufs ⊆ tcRefs τ sig :=
  ⟨nullary_bufs_sub .., unary_bufs_sub .., binary_bufs_sub .., unary_bufs_sub .., unary_bufs_sub ..⟩
abbrev main_part0_ops1 : List (HloOp τ sig (Elt F)) := hostOps0_1.take 48
theorem main_part0_chain (c : Dev nD) : main_part0 (F := F) c = (Pipeline.chainK
  [ seq hostOps0,
    HostLoop.enter 0 ]
  (seq main_part0_ops1) : Code F) := by
  rewrite [chainK_seq_cons, Pipeline.chainK_cons]
  chain_rfl

abbrev main_part1_ops0 : List (HloOp τ sig (Elt F)) := hostOps0_1.drop 48
theorem main_part1_chain (c : Dev nD) : main_part1 (F := F) c = (Pipeline.chain
  [ seq main_part1_ops0,
    HostLoop.enter 1,
    seq hostOps0_2 ] : Code F) := by
  rewrite [chain_seq_cons, Pipeline.chain_cons, chain_seq_cons]
  chain_rfl

theorem main_chain_windows (c : Dev nD) : main (F := F) c = (Pipeline.chain
  [ seq hostOps0,
    HostLoop.enter 0,
    seq main_part0_ops1,
    seq main_part1_ops0,
    HostLoop.enter 1,
    seq hostOps0_2 ] : Code F) := by
  show (main_part0 (F := F) c >>= fun _ => main_part1 (F := F) c) = _
  rewrite [main_part1_chain, main_part0_chain, Pipeline.chainK_bind_chain]
  chain_rfl

abbrev main_groups (c : Dev nD) : List (Group nD τ sig (Elt F) (HostLoop.Sig (Pipeline.Sig Λ₀ (Fin 0) fun p => (pcfgs (F := F) p).Adm) 2)) :=
  [ .ops [hostOps0],
    .prog (HostLoop.enter 0),
    .ops [main_part0_ops1, main_part1_ops0],
    .prog (HostLoop.enter 1),
    .ops [hostOps0_2] ]

theorem main_chain_cut (c : Dev nD) : (Pipeline.chain
  [ seq hostOps0,
    HostLoop.enter 0,
    seq main_part0_ops1,
    seq main_part1_ops0,
    HostLoop.enter 1,
    seq hostOps0_2 ] : Code F) = Pipeline.chain ((main_groups (F := F) c).flatMap Group.cut) := by
  chain_rfl

theorem main_chain_whole (c : Dev nD) : Pipeline.chain ((main_groups (F := F) c).map Group.whole) = (Pipeline.chain
  [ seq hostOps0,
    HostLoop.enter 0,
    seq hostOps0_1,
    HostLoop.enter 1,
    seq hostOps0_2 ] : Code F) := by
  chain_rfl

theorem main_chain (c : Dev nD) : main (F := F) c = (Pipeline.chain
  [ seq hostOps0,
    HostLoop.enter 0,
    seq hostOps0_1,
    HostLoop.enter 1,
    seq hostOps0_2 ] : Code F) :=
  (main_chain_windows (F := F) c).trans <| (main_chain_cut (F := F) c).trans <|
    (chain_cut_eq_whole (main_groups (F := F) c)).trans (main_chain_whole (F := F) c)

/-- A stretch of one step of the forward recurrence. -/
abbrev while0Ops0 : List (HloOp τ sig (Elt F)) :=
  [ TRef.nullary (.of main_while0b_call0_c : CountRef) (constantI S_ 32 0#32),
    TRef.unaryIndexed (.of main_v3_0 : RowsRef) ![(.of main_v3_2 : CountRef), (.of main_while0b_call0_c : CountRef)] (.of main_while0b_call0_v0 : BlockRef) (fun x i => Host.dynamicSlice S1x1024 x (fun k => (i k (Shape.Idx.first h_S_)).toInt) sliceFits_S4096x1024_S1x1024),
    TRef.reshape (.of main_while0b_call0_v0 : BlockRef) (.of main_while0b_v51 : RowRef) (rfl : (.f32 : EltTy) = .f32) shapeCasts_S1x1024_S1024 ]
theorem while0Ops0_sub : (while0Ops0 : List (HloOp τ sig (Elt F))).Forall fun op => op.bufs ⊆ tcRefs τ sig :=
  ⟨nullary_bufs_sub .., unaryIndexed_bufs_sub .., reshape_bufs_sub ..⟩
/-- A stretch of one step of the forward recurrence. -/
abbrev while0Ops0_1 : List (HloOp τ sig (Elt F)) :=
  [ TRef.nullary (.of main_while0b_call1_c : CountRef) (constantI S_ 32 0#32),
    TRef.unaryIndexed (.of main_v3_1 : RowsRef) ![(.of main_v3_2 : CountRef), (.of main_while0b_call1_c : CountRef)] (.of main_while0b_call1_v0 : BlockRef) (fun x i => Host.dynamicSlice S1x1024 x (fun k => (i k (Shape.Idx.first h_S_)).toInt) sliceFits_S4096x1024_S1x1024),
    TRef.reshape (.of main_while0b_call1_v0 : BlockRef) (.of main_while0b_v52 : RowRef) (rfl : (.f32 : EltTy) = .f32) shapeCasts_S1x1024_S1024 ]
theorem while0Ops0_1_sub : (while0Ops0_1 : List (HloOp τ sig (Elt F))).Forall fun op => op.bufs ⊆ tcRefs τ sig :=
  ⟨nullary_bufs_sub .., unaryIndexed_bufs_sub .., reshape_bufs_sub ..⟩
/-- A stretch of one step of the forward recurrence. -/
abbrev while0Ops0_2 : List (HloOp τ sig (Elt F)) :=
  [ binary main_while0b_v51 main_v3_3 main_while0b_v53 (mulf : Row F → Row F → Row F),
    binary main_while0b_v53 main_while0b_v52 main_while0b_v54 (addf : Row F → Row F → Row F) ]
theorem while0Ops0_2_sub : (while0Ops0_2 : List (HloOp τ sig (Elt F))).Forall fun op => op.bufs ⊆ tcRefs τ sig :=
  ⟨binary_bufs_sub .., binary_bufs_sub ..⟩
/-- A stretch of one step of the forward recurrence. -/
abbrev while0Ops0_3 : List (HloOp τ sig (Elt F)) :=
  [ TRef.unary (.of main_while0b_v54 : RowRef) (.of main_while0b_call2_v0 : BlockRef) (broadcastInDim S1x1024 ![1] bcast_S1024_S1x1024_1),
    TRef.nullary (.of main_while0b_call2_c : CountRef) (constantI S_ 32 0#32),
    TRef.binaryIndexed (.of main_v3_4 : RowsRef) (.of main_while0b_call2_v0 : BlockRef) ![(.of main_v3_2 : CountRef), (.of main_while0b_call2_c : CountRef)] (.of main_while0b_v55 : RowsRef) (fun x u i => Host.dynamicUpdateSlice x u (fun k => (i k (Shape.Idx.first h_S_)).toInt) updateFits_S4096x1024_S1x1024) ]
theorem while0Ops0_3_sub : (while0Ops0_3 : List (HloOp τ sig (Elt F))).Forall fun op => op.bufs ⊆ tcRefs τ sig :=
  ⟨unary_bufs_sub .., nullary_bufs_sub .., binaryIndexed_bufs_sub ..⟩
/-- A stretch of one step of the forward recurrence. -/
abbrev while0Ops0_4 : List (HloOp τ sig (Elt F)) :=
  [ nullary main_while0b_c_21 (constantI S_ 32 1#32),
    binary main_v3_2 main_while0b_c_21 main_while0b_v56 (addi : Cnt F → Cnt F → Cnt F),
    unary main_while0b_v56 main_v3_2 id,
    unary main_while0b_v54 main_v3_3 id,
    unary main_while0b_v55 main_v3_4 id ]
theorem while0Ops0_4_sub : (while0Ops0_4 : List (HloOp τ sig (Elt F))).Forall fun op => op.bufs ⊆ tcRefs τ sig :=
  ⟨nullary_bufs_sub .., binary_bufs_sub .., unary_bufs_sub .., unary_bufs_sub .., unary_bufs_sub ..⟩
theorem while0_body_chain : main_while0_body (F := F) = (Pipeline.chain
  [ seq while0Ops0,
    seq while0Ops0_1,
    seq while0Ops0_2,
    seq while0Ops0_3,
    seq while0Ops0_4 ] : Code F) := by
  rewrite [Pipeline.chain_cons, Pipeline.chain_cons, chain_seq_cons, Pipeline.chain_cons, chain_seq_cons]
  chain_rfl

/-- A stretch of one step of the reverse recurrence. -/
abbrev while1Ops0 : List (HloOp τ sig (Elt F)) :=
  [ nullary main_while1b_c_21 (constantI S_ 32 4096#32),
    binary main_while1b_c_21 main_v46_2 main_while1b_v51 (subi : Cnt F → Cnt F → Cnt F),
    nullary main_while1b_c_22 (constantI S_ 32 1#32),
    binary main_while1b_v51 main_while1b_c_22 main_while1b_v52 (subi : Cnt F → Cnt F → Cnt F) ]
theorem while1Ops0_sub : (while1Ops0 : List (HloOp τ sig (Elt F))).Forall fun op => op.bufs ⊆ tcRefs τ sig :=
  ⟨nullary_bufs_sub .., binary_bufs_sub .., nullary_bufs_sub .., binary_bufs_sub ..⟩
/-- A stretch of one step of the reverse recurrence. -/
abbrev while1Ops0_1 : List (HloOp τ sig (Elt F)) :=
  [ TRef.nullary (.of main_while1b_call3_c : CountRef) (constantI S_ 32 0#32),
    TRef.unaryIndexed (.of main_v46_0 : RowsRef) ![(.of main_while1b_v52 : CountRef), (.of main_while1b_call3_c : CountRef)] (.of main_while1b_call3_v0 : BlockRef) (fun x i => Host.dynamicSlice S1x1024 x (fun k => (i k (Shape.Idx.first h_S_)).toInt) sliceFits_S4096x1024_S1x1024),
    TRef.reshape (.of main_while1b_call3_v0 : BlockRef) (.of main_while1b_v53 : RowRef) (rfl : (.f32 : EltTy) = .f32) shapeCasts_S1x1024_S1024 ]
theorem while1Ops0_1_sub : (while1Ops0_1 : List (HloOp τ sig (Elt F))).Forall fun op => op.bufs ⊆ tcRefs τ sig :=
  ⟨nullary_bufs_sub .., unaryIndexed_bufs_sub .., reshape_bufs_sub ..⟩
/-- A stretch of one step of the reverse recurrence. -/
abbrev while1Ops0_2 : List (HloOp τ sig (Elt F)) :=
  [ TRef.nullary (.of main_while1b_call4_c : CountRef) (constantI S_ 32 0#32),
    TRef.unaryIndexed (.of main_v46_1 : RowsRef) ![(.of main_while1b_v52 : CountRef), (.of main_while1b_call4_c : CountRef)] (.of main_while1b_call4_v0 : BlockRef) (fun x i => Host.dynamicSlice S1x1024 x (fun k => (i k (Shape.Idx.first h_S_)).toInt) sliceFits_S4096x1024_S1x1024),
    TRef.reshape (.of main_while1b_call4_v0 : BlockRef) (.of main_while1b_v54 : RowRef) (rfl : (.f32 : EltTy) = .f32) shapeCasts_S1x1024_S1024 ]
theorem while1Ops0_2_sub : (while1Ops0_2 : List (HloOp τ sig (Elt F))).Forall fun op => op.bufs ⊆ tcRefs τ sig :=
  ⟨nullary_bufs_sub .., unaryIndexed_bufs_sub .., reshape_bufs_sub ..⟩
/-- A stretch of one step of the reverse recurrence. -/
abbrev while1Ops0_3 : List (HloOp τ sig (Elt F)) :=
  [ binary main_v46_3 main_while1b_v53 main_while1b_v55 (addf : Row F → Row F → Row F),
    binary main_while1b_v54 main_while1b_v55 main_while1b_v56 (mulf : Row F → Row F → Row F) ]
theorem while1Ops0_3_sub : (while1Ops0_3 : List (HloOp τ sig (Elt F))).Forall fun op => op.bufs ⊆ tcRefs τ sig :=
  ⟨binary_bufs_sub .., binary_bufs_sub ..⟩
/-- A stretch of one step of the reverse recurrence. -/
abbrev while1Ops0_4 : List (HloOp τ sig (Elt F)) :=
  [ TRef.unary (.of main_while1b_v55 : RowRef) (.of main_while1b_call5_v0 : BlockRef) (broadcastInDim S1x1024 ![1] bcast_S1024_S1x1024_1),
    TRef.nullary (.of main_while1b_call5_c : CountRef) (constantI S_ 32 0#32),
    TRef.binaryIndexed (.of main_v46_4 : RowsRef) (.of main_while1b_call5_v0 : BlockRef) ![(.of main_while1b_v52 : CountRef), (.of main_while1b_call5_c : CountRef)] (.of main_while1b_v57 : RowsRef) (fun x u i => Host.dynamicUpdateSlice x u (fun k => (i k (Shape.Idx.first h_S_)).toInt) updateFits_S4096x1024_S1x1024) ]
theorem while1Ops0_4_sub : (while1Ops0_4 : List (HloOp τ sig (Elt F))).Forall fun op => op.bufs ⊆ tcRefs τ sig :=
  ⟨unary_bufs_sub .., nullary_bufs_sub .., binaryIndexed_bufs_sub ..⟩
/-- A stretch of one step of the reverse recurrence. -/
abbrev while1Ops0_5 : List (HloOp τ sig (Elt F)) :=
  [ nullary main_while1b_c_23 (constantI S_ 32 1#32),
    binary main_v46_2 main_while1b_c_23 main_while1b_v58 (addi : Cnt F → Cnt F → Cnt F),
    unary main_while1b_v58 main_v46_2 id,
    unary main_while1b_v56 main_v46_3 id,
    unary main_while1b_v57 main_v46_4 id ]
theorem while1Ops0_5_sub : (while1Ops0_5 : List (HloOp τ sig (Elt F))).Forall fun op => op.bufs ⊆ tcRefs τ sig :=
  ⟨nullary_bufs_sub .., binary_bufs_sub .., unary_bufs_sub .., unary_bufs_sub .., unary_bufs_sub ..⟩
theorem while1_body_chain : main_while1_body (F := F) = (Pipeline.chain
  [ seq while1Ops0,
    seq while1Ops0_1,
    seq while1Ops0_2,
    seq while1Ops0_3,
    seq while1Ops0_4,
    seq while1Ops0_5 ] : Code F) := by
  rewrite [chain_seq_cons, Pipeline.chain_cons, Pipeline.chain_cons, chain_seq_cons, Pipeline.chain_cons, chain_seq_cons]
  chain_rfl

theorem hostOps0_fresh : (hostOps0 : List (HloOp τ sig (Elt F))).Forall fun op => op.fresh = ∅ :=
  forall_fresh_of_map rfl
abbrev hostOps0_W : List (Ref sig .tc) := [main_v0, main_cst, main_v1, main_cst_0, main_v2, main_c, main_v3_0, main_v3_1, main_v3_2, main_v3_3, main_v3_4]
theorem hostOps0_writes : (hostOps0 : List (HloOp τ sig (Elt F))).Forall fun op => op.writes ⊆ (hostOps0_W.map (Proc.devRef (τ := τ) .tc)).toFinset :=
  forall_writes_sub_of_map rfl
theorem hostOps0_1_fresh : (hostOps0_1 : List (HloOp τ sig (Elt F))).Forall fun op => op.fresh = ∅ :=
  forall_fresh_of_map rfl
abbrev hostOps0_1_W : List (Ref sig .tc) := [main_cst_1, main_v4, main_v5, main_v6, main_v7, main_v8, main_v9, main_cst_2, main_v10, main_v11, main_cst_3, main_v12, main_v13, main_v14, main_cst_4, main_v15, main_v16, main_v17, main_cst_5, main_v18, main_v19, main_cst_6, main_v20, main_v21, main_v22, main_cst_7, main_v23, main_v24, main_cst_8, main_v25, main_v26, main_v27, main_v28, main_v29, main_v30, main_v31, main_v32, main_cst_9, main_v33, main_v34, main_v35, main_cst_10, main_v36, main_v37, main_v38, main_cst_11, main_v39, main_v40, main_v41, main_v42, main_cst_12, main_v43, main_cst_13, main_v44, main_cst_14, main_v45, main_c_15, main_v46_0, main_v46_1, main_v46_2, main_v46_3, main_v46_4]
theorem hostOps0_1_writes : (hostOps0_1 : List (HloOp τ sig (Elt F))).Forall fun op => op.writes ⊆ (hostOps0_1_W.map (Proc.devRef (τ := τ) .tc)).toFinset :=
  forall_writes_sub_of_map rfl
theorem hostOps0_2_fresh : (hostOps0_2 : List (HloOp τ sig (Elt F))).Forall fun op => op.fresh = ∅ :=
  forall_fresh_of_map rfl
abbrev hostOps0_2_W : List (Ref sig .tc) := [main_cst_16, main_v47, main_v48, main_v49, main_v50]
theorem hostOps0_2_writes : (hostOps0_2 : List (HloOp τ sig (Elt F))).Forall fun op => op.writes ⊆ (hostOps0_2_W.map (Proc.devRef (τ := τ) .tc)).toFinset :=
  forall_writes_sub_of_map rfl
theorem while0Ops0_fresh : (while0Ops0 : List (HloOp τ sig (Elt F))).Forall fun op => op.fresh = ∅ :=
  forall_fresh_of_map rfl
abbrev while0Ops0_W : List (Ref sig .tc) := [main_while0b_call0_c, main_while0b_call0_v0, main_while0b_v51]
theorem while0Ops0_writes : (while0Ops0 : List (HloOp τ sig (Elt F))).Forall fun op => op.writes ⊆ (while0Ops0_W.map (Proc.devRef (τ := τ) .tc)).toFinset :=
  forall_writes_sub_of_map rfl
theorem while0Ops0_1_fresh : (while0Ops0_1 : List (HloOp τ sig (Elt F))).Forall fun op => op.fresh = ∅ :=
  forall_fresh_of_map rfl
abbrev while0Ops0_1_W : List (Ref sig .tc) := [main_while0b_call1_c, main_while0b_call1_v0, main_while0b_v52]
theorem while0Ops0_1_writes : (while0Ops0_1 : List (HloOp τ sig (Elt F))).Forall fun op => op.writes ⊆ (while0Ops0_1_W.map (Proc.devRef (τ := τ) .tc)).toFinset :=
  forall_writes_sub_of_map rfl
theorem while0Ops0_2_fresh : (while0Ops0_2 : List (HloOp τ sig (Elt F))).Forall fun op => op.fresh = ∅ :=
  forall_fresh_of_map rfl
abbrev while0Ops0_2_W : List (Ref sig .tc) := [main_while0b_v53, main_while0b_v54]
theorem while0Ops0_2_writes : (while0Ops0_2 : List (HloOp τ sig (Elt F))).Forall fun op => op.writes ⊆ (while0Ops0_2_W.map (Proc.devRef (τ := τ) .tc)).toFinset :=
  forall_writes_sub_of_map rfl
theorem while0Ops0_3_fresh : (while0Ops0_3 : List (HloOp τ sig (Elt F))).Forall fun op => op.fresh = ∅ :=
  forall_fresh_of_map rfl
abbrev while0Ops0_3_W : List (Ref sig .tc) := [main_while0b_call2_v0, main_while0b_call2_c, main_while0b_v55]
theorem while0Ops0_3_writes : (while0Ops0_3 : List (HloOp τ sig (Elt F))).Forall fun op => op.writes ⊆ (while0Ops0_3_W.map (Proc.devRef (τ := τ) .tc)).toFinset :=
  forall_writes_sub_of_map rfl
theorem while0Ops0_4_fresh : (while0Ops0_4 : List (HloOp τ sig (Elt F))).Forall fun op => op.fresh = ∅ :=
  forall_fresh_of_map rfl
abbrev while0Ops0_4_W : List (Ref sig .tc) := [main_while0b_c_21, main_while0b_v56, main_v3_2, main_v3_3, main_v3_4]
theorem while0Ops0_4_writes : (while0Ops0_4 : List (HloOp τ sig (Elt F))).Forall fun op => op.writes ⊆ (while0Ops0_4_W.map (Proc.devRef (τ := τ) .tc)).toFinset :=
  forall_writes_sub_of_map rfl
theorem while1Ops0_fresh : (while1Ops0 : List (HloOp τ sig (Elt F))).Forall fun op => op.fresh = ∅ :=
  forall_fresh_of_map rfl
abbrev while1Ops0_W : List (Ref sig .tc) := [main_while1b_c_21, main_while1b_v51, main_while1b_c_22, main_while1b_v52]
theorem while1Ops0_writes : (while1Ops0 : List (HloOp τ sig (Elt F))).Forall fun op => op.writes ⊆ (while1Ops0_W.map (Proc.devRef (τ := τ) .tc)).toFinset :=
  forall_writes_sub_of_map rfl
theorem while1Ops0_1_fresh : (while1Ops0_1 : List (HloOp τ sig (Elt F))).Forall fun op => op.fresh = ∅ :=
  forall_fresh_of_map rfl
abbrev while1Ops0_1_W : List (Ref sig .tc) := [main_while1b_call3_c, main_while1b_call3_v0, main_while1b_v53]
theorem while1Ops0_1_writes : (while1Ops0_1 : List (HloOp τ sig (Elt F))).Forall fun op => op.writes ⊆ (while1Ops0_1_W.map (Proc.devRef (τ := τ) .tc)).toFinset :=
  forall_writes_sub_of_map rfl
theorem while1Ops0_2_fresh : (while1Ops0_2 : List (HloOp τ sig (Elt F))).Forall fun op => op.fresh = ∅ :=
  forall_fresh_of_map rfl
abbrev while1Ops0_2_W : List (Ref sig .tc) := [main_while1b_call4_c, main_while1b_call4_v0, main_while1b_v54]
theorem while1Ops0_2_writes : (while1Ops0_2 : List (HloOp τ sig (Elt F))).Forall fun op => op.writes ⊆ (while1Ops0_2_W.map (Proc.devRef (τ := τ) .tc)).toFinset :=
  forall_writes_sub_of_map rfl
theorem while1Ops0_3_fresh : (while1Ops0_3 : List (HloOp τ sig (Elt F))).Forall fun op => op.fresh = ∅ :=
  forall_fresh_of_map rfl
abbrev while1Ops0_3_W : List (Ref sig .tc) := [main_while1b_v55, main_while1b_v56]
theorem while1Ops0_3_writes : (while1Ops0_3 : List (HloOp τ sig (Elt F))).Forall fun op => op.writes ⊆ (while1Ops0_3_W.map (Proc.devRef (τ := τ) .tc)).toFinset :=
  forall_writes_sub_of_map rfl
theorem while1Ops0_4_fresh : (while1Ops0_4 : List (HloOp τ sig (Elt F))).Forall fun op => op.fresh = ∅ :=
  forall_fresh_of_map rfl
abbrev while1Ops0_4_W : List (Ref sig .tc) := [main_while1b_call5_v0, main_while1b_call5_c, main_while1b_v57]
theorem while1Ops0_4_writes : (while1Ops0_4 : List (HloOp τ sig (Elt F))).Forall fun op => op.writes ⊆ (while1Ops0_4_W.map (Proc.devRef (τ := τ) .tc)).toFinset :=
  forall_writes_sub_of_map rfl
theorem while1Ops0_5_fresh : (while1Ops0_5 : List (HloOp τ sig (Elt F))).Forall fun op => op.fresh = ∅ :=
  forall_fresh_of_map rfl
abbrev while1Ops0_5_W : List (Ref sig .tc) := [main_while1b_c_23, main_while1b_v58, main_v46_2, main_v46_3, main_v46_4]
theorem while1Ops0_5_writes : (while1Ops0_5 : List (HloOp τ sig (Elt F))).Forall fun op => op.writes ⊆ (while1Ops0_5_W.map (Proc.devRef (τ := τ) .tc)).toFinset :=
  forall_writes_sub_of_map rfl

end Cert.ReferenceIdeal.Rec

end
-- ==== Proof.RefRun.lean ====
/-
  The run of the reference @main, over any float values: a stretch of host operations, the forward recurrence's loop, a
  second stretch, the reverse recurrence's loop, a third stretch. Every buffer's final contents are named, and no argument
  is ever written.
-/
module

public import proofs.«01_k».proof.Proof.RefSegs

@[expose] public section

set_option maxHeartbeats 1000000

noncomputable section

namespace Cert.ReferenceIdeal.Rec

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The two operations of loop 0's condition: the bound, and the counter compared with it. -/
abbrev condOps0 : List (HloOp τ sig (Elt F)) :=
  [ StableHlo.nullary main_while0c_c_21 (constantI S_ 32 4096#32),
    StableHlo.binary main_v3_2 main_while0c_c_21 main_while0c_v51 (cmpi .slt) ]
abbrev condOps0_W : List (Ref sig .tc) := [main_while0c_c_21, main_while0c_v51]
theorem condOps0_writes : (condOps0 : List (HloOp τ sig (Elt F))).Forall fun op => op.writes ⊆ (condOps0_W.map (Proc.devRef (τ := τ) .tc)).toFinset :=
  StableHlo.forall_writes_sub_of_map rfl
/-- Loop 0's body as its stretches in order. -/
abbrev body0 : List (List (HloOp τ sig (Elt F))) := [while0Ops0, while0Ops0_1, while0Ops0_2, while0Ops0_3, while0Ops0_4]
theorem body0_plain : Plain (body0 (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.nil)))))

/-- The two operations of loop 1's condition: the bound, and the counter compared with it. -/
abbrev condOps1 : List (HloOp τ sig (Elt F)) :=
  [ StableHlo.nullary main_while1c_c_21 (constantI S_ 32 4096#32),
    StableHlo.binary main_v46_2 main_while1c_c_21 main_while1c_v51 (cmpi .slt) ]
abbrev condOps1_W : List (Ref sig .tc) := [main_while1c_c_21, main_while1c_v51]
theorem condOps1_writes : (condOps1 : List (HloOp τ sig (Elt F))).Forall fun op => op.writes ⊆ (condOps1_W.map (Proc.devRef (τ := τ) .tc)).toFinset :=
  StableHlo.forall_writes_sub_of_map rfl
/-- Loop 1's body as its stretches in order. -/
abbrev body1 : List (List (HloOp τ sig (Elt F))) := [while1Ops0, while1Ops0_1, while1Ops0_2, while1Ops0_3, while1Ops0_4, while1Ops0_5]
theorem body1_plain : Plain (body1 (F := F)) := .cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.cons while1Ops0_4_sub (hf := List.forall_iff_forall_mem.mp while1Ops0_4_fresh) (.cons while1Ops0_5_sub (hf := List.forall_iff_forall_mem.mp while1Ops0_5_fresh) (.nil))))))

theorem plain_a : Plain ([hostOps0] : List (List (HloOp τ sig (Elt F)))) := .cons hostOps0_sub (hf := List.forall_iff_forall_mem.mp hostOps0_fresh) (.nil)
theorem plain_b : Plain ([hostOps0_1] : List (List (HloOp τ sig (Elt F)))) := .cons hostOps0_1_sub (hf := List.forall_iff_forall_mem.mp hostOps0_1_fresh) (.nil)
theorem plain_c : Plain ([hostOps0_2] : List (List (HloOp τ sig (Elt F)))) := .cons hostOps0_2_sub (hf := List.forall_iff_forall_mem.mp hostOps0_2_fresh) (.nil)

variable (m : (ℓ : Loc nD τ sig) → Buf (Elt F) ℓ) (ρ : Dev nD → PrngReg)

/-- Every buffer when the forward loop is entered. -/
abbrev E0 (c : Dev nD) : Valuation τ sig (Elt F) := after hostOps0 (launchContents m c)
/-- Every buffer before the forward loop's k-th condition. -/
abbrev T0 (k : ℕ) (c : Dev nD) : Valuation τ sig (Elt F) := atTrip condOps0 body0 (E0 m) k c
/-- Every buffer when the reverse loop is entered. -/
abbrev E1 (c : Dev nD) : Valuation τ sig (Elt F) := after hostOps0_1 (after condOps0 (T0 m 4096 c))
/-- Every buffer before the reverse loop's k-th condition. -/
abbrev T1 (k : ℕ) (c : Dev nD) : Valuation τ sig (Elt F) := atTrip condOps1 body1 (E1 m) k c
/-- Every buffer at the end. -/
abbrev Vend (c : Dev nD) : Valuation τ sig (Elt F) := after hostOps0_2 (after condOps1 (T1 m 4096 c))

/-! ### The counter of loop 0 -/

theorem ctr0_cond (V : Valuation τ sig (Elt F)) : after condOps0 V (Proc.devRef .tc main_v3_2) = V (Proc.devRef .tc main_v3_2) :=
  after_of_writes_sub condOps0 V condOps0_writes (by decide +kernel)
theorem ctr_while0Ops0 (V : Valuation τ sig (Elt F)) : after while0Ops0 V (Proc.devRef .tc main_v3_2) = V (Proc.devRef .tc main_v3_2) :=
  after_of_writes_sub while0Ops0 V while0Ops0_writes (by decide +kernel)
theorem ctr_while0Ops0_1 (V : Valuation τ sig (Elt F)) : after while0Ops0_1 V (Proc.devRef .tc main_v3_2) = V (Proc.devRef .tc main_v3_2) :=
  after_of_writes_sub while0Ops0_1 V while0Ops0_1_writes (by decide +kernel)
theorem ctr_while0Ops0_2 (V : Valuation τ sig (Elt F)) : after while0Ops0_2 V (Proc.devRef .tc main_v3_2) = V (Proc.devRef .tc main_v3_2) :=
  after_of_writes_sub while0Ops0_2 V while0Ops0_2_writes (by decide +kernel)
theorem ctr_while0Ops0_3 (V : Valuation τ sig (Elt F)) : after while0Ops0_3 V (Proc.devRef .tc main_v3_2) = V (Proc.devRef .tc main_v3_2) :=
  after_of_writes_sub while0Ops0_3 V while0Ops0_3_writes (by decide +kernel)

set_option maxRecDepth 100000 in
/-- The last stretch leaves the counter one step on. -/
theorem ctr0_step (X : Valuation τ sig (Elt F)) :
    after while0Ops0_4 X (Proc.devRef .tc main_v3_2) = addi (X (Proc.devRef .tc main_v3_2)) (constantI S_ 32 1#32) := by
  after_results
  rfl

set_option maxRecDepth 100000 in
/-- The loop is entered with its counter at 0. -/
theorem ctr0_entry (X : Valuation τ sig (Elt F)) : after hostOps0 X (Proc.devRef .tc main_v3_2) = fun _ => (0#32 : BitVec 32) := by
  after_reads_simp
  rfl

/-- Before the k-th condition the counter is k. -/
theorem T0_ctr (c : Dev nD) : ∀ k, T0 m k c (Proc.devRef .tc main_v3_2) = fun _ => Scf.iv 0#32 1#32 k
  | 0 => by exact (ctr0_entry _).trans (by rw [Scf.iv_zero])
  | k + 1 => by
    rw [show T0 m (k + 1) c = afterL body0 (after condOps0 (T0 m k c)) from rfl]
    simp only [afterL_cons, afterL_nil]
    rw [ctr0_step, ctr_while0Ops0_3, ctr_while0Ops0_2, ctr_while0Ops0_1, ctr_while0Ops0, ctr0_cond, T0_ctr c k, Scf.iv_succ]
    rfl

/-! ### The counter of loop 1 -/

theorem ctr1_cond (V : Valuation τ sig (Elt F)) : after condOps1 V (Proc.devRef .tc main_v46_2) = V (Proc.devRef .tc main_v46_2) :=
  after_of_writes_sub condOps1 V condOps1_writes (by decide +kernel)
theorem ctr_while1Ops0 (V : Valuation τ sig (Elt F)) : after while1Ops0 V (Proc.devRef .tc main_v46_2) = V (Proc.devRef .tc main_v46_2) :=
  after_of_writes_sub while1Ops0 V while1Ops0_writes (by decide +kernel)
theorem ctr_while1Ops0_1 (V : Valuation τ sig (Elt F)) : after while1Ops0_1 V (Proc.devRef .tc main_v46_2) = V (Proc.devRef .tc main_v46_2) :=
  after_of_writes_sub while1Ops0_1 V while1Ops0_1_writes (by decide +kernel)
theorem ctr_while1Ops0_2 (V : Valuation τ sig (Elt F)) : after while1Ops0_2 V (Proc.devRef .tc main_v46_2) = V (Proc.devRef .tc main_v46_2) :=
  after_of_writes_sub while1Ops0_2 V while1Ops0_2_writes (by decide +kernel)
theorem ctr_while1Ops0_3 (V : Valuation τ sig (Elt F)) : after while1Ops0_3 V (Proc.devRef .tc main_v46_2) = V (Proc.devRef .tc main_v46_2) :=
  after_of_writes_sub while1Ops0_3 V while1Ops0_3_writes (by decide +kernel)
theorem ctr_while1Ops0_4 (V : Valuation τ sig (Elt F)) : after while1Ops0_4 V (Proc.devRef .tc main_v46_2) = V (Proc.devRef .tc main_v46_2) :=
  after_of_writes_sub while1Ops0_4 V while1Ops0_4_writes (by decide +kernel)

set_option maxRecDepth 100000 in
/-- The last stretch leaves the counter one step on. -/
theorem ctr1_step (X : Valuation τ sig (Elt F)) :
    after while1Ops0_5 X (Proc.devRef .tc main_v46_2) = addi (X (Proc.devRef .tc main_v46_2)) (constantI S_ 32 1#32) := by
  after_results
  rfl

set_option maxRecDepth 100000 in
/-- The loop is entered with its counter at 0. -/
theorem ctr1_entry (X : Valuation τ sig (Elt F)) : after hostOps0_1 X (Proc.devRef .tc main_v46_2) = fun _ => (0#32 : BitVec 32) := by
  after_reads_simp
  rfl

/-- Before the k-th condition the counter is k. -/
theorem T1_ctr (c : Dev nD) : ∀ k, T1 m k c (Proc.devRef .tc main_v46_2) = fun _ => Scf.iv 0#32 1#32 k
  | 0 => by exact (ctr1_entry _).trans (by rw [Scf.iv_zero])
  | k + 1 => by
    rw [show T1 m (k + 1) c = afterL body1 (after condOps1 (T1 m k c)) from rfl]
    simp only [afterL_cons, afterL_nil]
    rw [ctr1_step, ctr_while1Ops0_4, ctr_while1Ops0_3, ctr_while1Ops0_2, ctr_while1Ops0_1, ctr_while1Ops0, ctr1_cond, T1_ctr c k, Scf.iv_succ]
    rfl

/-! ### The conditions -/

/-- What rides along beside the buffers. -/
abbrev Rest (c : Dev nD) : sProp (MT nD τ sig Unit (Elt F) ℕ (Option PUnit) ℕ) :=
  iprop(∃ W, owes (c : Thread nD τ) (0 : CellTallies nD τ sig Unit) W)

set_option backward.isDefEq.respectTransparency.types false in
/-- Loop 0's condition holds exactly before trips 0 … 4095. -/
theorem cond0_spec : LoopCond (Ix := Unit) (Name := ℕ) (U := Option PUnit) (Lvl := ℕ) (pcfgs (F := F)) defs₀ Variants.none loops Rest
    (main_while0_cond (F := F)) condOps0 body0 (E0 m) 4096 := by
  intro k hk c bd
  have hctr := T0_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T0 m k c) main_v3_2 HostLoop.idx0)
        (HloOp.result _ (T0 m k c) main_while0c_c_21 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  isplitl [Hh]
  · rw [after_cons, after_cons, after_nil]; iexact Hh
  iexact HR

set_option backward.isDefEq.respectTransparency.types false in
/-- Loop 1's condition holds exactly before trips 0 … 4095. -/
theorem cond1_spec : LoopCond (Ix := Unit) (Name := ℕ) (U := Option PUnit) (Lvl := ℕ) (pcfgs (F := F)) defs₀ Variants.none loops Rest
    (main_while1_cond (F := F)) condOps1 body1 (E1 m) 4096 := by
  intro k hk c bd
  have hctr := T1_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T1 m k c) main_v46_2 HostLoop.idx0)
        (HloOp.result _ (T1 m k c) main_while1c_c_21 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  isplitl [Hh]
  · rw [after_cons, after_cons, after_nil]; iexact Hh
  iexact HR

/-! ### The run -/

abbrev adm : (p : Fin 0) → (pcfgs (F := F) p).Adm := fun p => p.elim0
abbrev tickets : Fin 0 → Pipeline.Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

theorem cells_inj : Function.Injective (Pipeline.cellOf (nD := nD) (τ := τ) (Pipeline.pin (pcfgs (F := F)) adm)) :=
  fun k => k.1.elim0

/-- The five segments of @main. -/
def segs : List (Pipeline.CSeg (pcfgs (F := F)) adm defs₀ Variants.none L lv loops (tickets (F := F))) :=
  segsOf _ _ _ _ _ _ _ _ Rest [hostOps0] plain_a (launchContents m)
    ++ (loopSeg _ _ _ _ _ _ _ _ 0 main_while0_cond main_while0_body rfl condOps0 body0 body0_plain (by rw [while0_body_chain]; rfl) 4096 (E0 m) Rest (cond0_spec m)
      :: (segsOf _ _ _ _ _ _ _ _ Rest [hostOps0_1] plain_b (fun c => after condOps0 (T0 m 4096 c))
        ++ (loopSeg _ _ _ _ _ _ _ _ 1 main_while1_cond main_while1_body rfl condOps1 body1 body1_plain (by rw [while1_body_chain]; rfl) 4096 (E1 m) Rest (cond1_spec m)
          :: segsOf _ _ _ _ _ _ _ _ Rest [hostOps0_2] plain_c (fun c => after condOps1 (T1 m 4096 c)))))

theorem segs_prog (c : Dev nD) : main (F := F) c = Pipeline.chain ((segs m).map Pipeline.CSeg.prog) := by
  rw [main_chain]
  unfold segs
  rw [List.map_append, List.map_cons, List.map_append, List.map_cons, segsOf_prog, segsOf_prog, segsOf_prog]
  rfl

theorem segs_chain : Pipeline.CSeg.Chains (fun c => iprop(held (c : Thread nD τ) (ucRefs τ sig) (launchContents m c) ∗ Rest c))
      (segs m)
      (fun c => iprop(iprop(held (c : Thread nD τ) (ucRefs τ sig) (Vend m c)) ∗ ∃ W, owes (c : Thread nD τ) (0 : CellTallies nD τ sig Unit) W)) := by
  unfold segs
  exact Pipeline.CSeg.Chains.append (segsOf_chains _ _ _ _ _ _ _ _ Rest [hostOps0] plain_a _) ⟨fun _ => .rfl,
    Pipeline.CSeg.Chains.append (segsOf_chains _ _ _ _ _ _ _ _ Rest [hostOps0_1] plain_b _) ⟨fun _ => .rfl,
      segsOf_chains _ _ _ _ _ _ _ _ Rest [hostOps0_2] plain_c _⟩⟩

set_option maxRecDepth 100000 in
/-- On every device, from any memory with zero counters: every weakly fair execution of @main terminates with every
    unscoped buffer at `Vend`. -/
theorem run_end : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = Vend m c (Proc.devRef .tc b)) :=
  Pipeline.θ_run_regions_loop_kit (Ix := Unit) (Name := ℕ) (U := Option PUnit) (Lvl := ℕ) (J := Fin 0) (P := Fin 0) (Val := Elt F)
    (pcfgs (F := F)) adm cells_inj defs₀ Variants.none L lv loops tickets m ρ main (segs m)
    (fun c Q => by rw [segs_prog m c]; exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Rest c))
    (Tₙ := fun c => iprop(held (c : Thread nD τ) (ucRefs τ sig) (Vend m c)))
    (hch := segs_chain m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Vend m c b)
    (hfin := fun c s' => by
      unfold held
      iintro ⟨Hh, HSI⟩
      ihave Hr := (pointsTo_read_all (ucRefs τ sig) (fun b => ((c : Dev nD), b)) (fun b => Vend m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-! ### What is never written -/

/-- `b` is written by no operation of @main. -/
def unwritten (b : Ref sig .tc) : Bool :=
  !(hostOps0_W ++ hostOps0_1_W ++ hostOps0_2_W ++ condOps0_W ++ condOps1_W ++ while0Ops0_W ++ while0Ops0_1_W ++ while0Ops0_2_W ++ while0Ops0_3_W ++ while0Ops0_4_W ++ while1Ops0_W ++ while1Ops0_1_W ++ while1Ops0_2_W ++ while1Ops0_3_W ++ while1Ops0_4_W ++ while1Ops0_5_W).contains b

theorem keeps (W : List (Ref sig .tc)) {ops : List (HloOp τ sig (Elt F))}
    (hw : ops.Forall fun op => op.writes ⊆ (W.map (Proc.devRef (τ := τ) .tc)).toFinset)
    {b : Ref sig .tc} (hb : unwritten b = true)
    (hW : W ⊆ hostOps0_W ++ hostOps0_1_W ++ hostOps0_2_W ++ condOps0_W ++ condOps1_W ++ while0Ops0_W ++ while0Ops0_1_W ++ while0Ops0_2_W ++ while0Ops0_3_W ++ while0Ops0_4_W ++ while1Ops0_W ++ while1Ops0_1_W ++ while1Ops0_2_W ++ while1Ops0_3_W ++ while1Ops0_4_W ++ while1Ops0_5_W)
    (V : Valuation τ sig (Elt F)) : after ops V (Proc.devRef .tc b) = V (Proc.devRef .tc b) := by
  refine after_of_writes_sub ops V hw fun h => ?_
  unfold unwritten at hb
  rw [Bool.not_eq_true', List.contains_eq_mem, decide_eq_false_iff_not] at hb
  exact hb (hW h)

theorem T0_keeps {b : Ref sig .tc} (hb : unwritten b = true) (c : Dev nD) : ∀ k, T0 m k c (Proc.devRef .tc b) = m ((c : Thread nD τ).loc b)
  | 0 => keeps hostOps0_W hostOps0_writes hb (by decide) _
  | k + 1 => by
    rw [show T0 m (k + 1) c = afterL body0 (after condOps0 (T0 m k c)) from rfl]
    simp only [afterL_cons, afterL_nil]
    rw [keeps _ while0Ops0_4_writes hb (by decide), keeps _ while0Ops0_3_writes hb (by decide), keeps _ while0Ops0_2_writes hb (by decide), keeps _ while0Ops0_1_writes hb (by decide), keeps _ while0Ops0_writes hb (by decide), keeps _ condOps0_writes hb (by decide), T0_keeps hb c k]

theorem T1_keeps {b : Ref sig .tc} (hb : unwritten b = true) (c : Dev nD) : ∀ k, T1 m k c (Proc.devRef .tc b) = m ((c : Thread nD τ).loc b)
  | 0 => ((keeps hostOps0_1_W hostOps0_1_writes hb (by decide) _).trans (keeps _ condOps0_writes hb (by decide) _)).trans (T0_keeps m hb c 4096)
  | k + 1 => by
    rw [show T1 m (k + 1) c = afterL body1 (after condOps1 (T1 m k c)) from rfl]
    simp only [afterL_cons, afterL_nil]
    rw [keeps _ while1Ops0_5_writes hb (by decide), keeps _ while1Ops0_4_writes hb (by decide), keeps _ while1Ops0_3_writes hb (by decide), keeps _ while1Ops0_2_writes hb (by decide), keeps _ while1Ops0_1_writes hb (by decide), keeps _ while1Ops0_writes hb (by decide), keeps _ condOps1_writes hb (by decide), T1_keeps hb c k]

/-- A buffer no operation writes ends as launched. -/
theorem Vend_keeps {b : Ref sig .tc} (hb : unwritten b = true) (c : Dev nD) : Vend m c (Proc.devRef .tc b) = m ((c : Thread nD τ).loc b) :=
  ((keeps hostOps0_2_W hostOps0_2_writes hb (by decide) _).trans (keeps _ condOps1_writes hb (by decide) _)).trans (T1_keeps m hb c 4096)

/-- The frame: every weakly fair execution terminates with the arguments as launched. -/
theorem frame_any : θ_run (defs (F := F)) (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => ⟨(h c main_arg0 rfl).trans (Vend_keeps m (by decide +kernel) c), (h c main_arg1 rfl).trans (Vend_keeps m (by decide +kernel) c), (h c main_arg2 rfl).trans (Vend_keeps m (by decide +kernel) c), (h c main_arg3 rfl).trans (Vend_keeps m (by decide +kernel) c)⟩,
    sem_eq_zero_of_no_sems (by decide) r.2⟩) (run_end m ρ)

end Cert.ReferenceIdeal.Rec

end
-- ==== Proof.RefTrips.lean ====
/-
  One trip of each of the reference's loops on the buffers it carries, over any float values: the row read, the carried
  row's new value, the row stored.
-/
module

public import proofs.«01_k».proof.Proof.RefRun

@[expose] public section

set_option maxRecDepth 100000
set_option maxHeartbeats 1000000

noncomputable section

namespace Cert.ReferenceIdeal.Rec

open Cert.ReferenceIdeal Cert.ReferenceIdeal.Gen
open Idealize.ShloMosaic Idealize.ShloMosaic.TcCoe Idealize.ShloMosaic.Tactic
open Idealize.ShloMosaic.StableHlo

variable {F : FTy → Type} [FloatOps F]

/-- The row of an array that a word names. -/
def getRow (x : FVec F S4096x1024 .f32) (w : IVec S_ 32) : FVec F S1024 .f32 :=
  shapeCast S1024 (Host.dynamicSlice S1x1024 x (fun k => ((![w, constantI S_ 32 0#32] : Fin 2 → Cnt F) k (Shape.Idx.first h_S_)).toInt)
    sliceFits_S4096x1024_S1x1024) shapeCasts_S1x1024_S1024

/-- The array with the row that a word names replaced. -/
def putRow (x : FVec F S4096x1024 .f32) (v : FVec F S1024 .f32) (w : IVec S_ 32) : FVec F S4096x1024 .f32 :=
  Host.dynamicUpdateSlice x (broadcastInDim S1x1024 ![1] bcast_S1024_S1x1024_1 v)
    (fun k => ((![w, constantI S_ 32 0#32] : Fin 2 → Cnt F) k (Shape.Idx.first h_S_)).toInt) updateFits_S4096x1024_S1x1024

/-! ### The forward loop -/

/-- Its slice, and its reshape. -/
abbrev w0_a_x : List (HloOp τ sig (Elt F)) :=
  [ TRef.nullary (.of main_while0b_call0_c : CountRef) (constantI S_ 32 0#32),
    TRef.unaryIndexed (.of main_v3_0 : RowsRef) ![(.of main_v3_2 : CountRef), (.of main_while0b_call0_c : CountRef)] (.of main_while0b_call0_v0 : BlockRef) (fun x i => Host.dynamicSlice S1x1024 x (fun k => (i k (Shape.Idx.first h_S_)).toInt) sliceFits_S4096x1024_S1x1024) ]
abbrev w0_a_y : List (HloOp τ sig (Elt F)) :=
  [ TRef.reshape (.of main_while0b_call0_v0 : BlockRef) (.of main_while0b_v51 : RowRef) (rfl : (.f32 : EltTy) = .f32) shapeCasts_S1x1024_S1024 ]
theorem w0_a_slice (X : Valuation τ sig (Elt F)) : after w0_a_x X (Proc.devRef .tc main_while0b_call0_v0)
    = Host.dynamicSlice S1x1024 (X (Proc.devRef .tc main_v3_0)) (fun k => ((![X (Proc.devRef .tc main_v3_2), constantI S_ 32 0#32] : Fin 2 → Cnt F) k (Shape.Idx.first h_S_)).toInt)
      sliceFits_S4096x1024_S1x1024 := by
  simp only [w0_a_x]
  after_results_entrywise [cast_eq]
theorem w0_a_reshape (X : Valuation τ sig (Elt F)) : after w0_a_y X (Proc.devRef .tc main_while0b_v51)
    = shapeCast S1024 (X (Proc.devRef .tc main_while0b_call0_v0)) shapeCasts_S1x1024_S1024 := by
  simp only [w0_a_y]
  after_results_entrywise [cast_eq]
theorem w0_a (X : Valuation τ sig (Elt F)) : after while0Ops0 X (Proc.devRef .tc main_while0b_v51)
    = getRow (X (Proc.devRef .tc main_v3_0)) (X (Proc.devRef .tc main_v3_2)) := by
  rw [show (while0Ops0 : List (HloOp τ sig (Elt F))) = w0_a_x ++ w0_a_y from rfl, after_append, w0_a_reshape, w0_a_slice]
  rfl
/-- Its slice, and its reshape. -/
abbrev w0_b_x : List (HloOp τ sig (Elt F)) :=
  [ TRef.nullary (.of main_while0b_call1_c : CountRef) (constantI S_ 32 0#32),
    TRef.unaryIndexed (.of main_v3_1 : RowsRef) ![(.of main_v3_2 : CountRef), (.of main_while0b_call1_c : CountRef)] (.of main_while0b_call1_v0 : BlockRef) (fun x i => Host.dynamicSlice S1x1024 x (fun k => (i k (Shape.Idx.first h_S_)).toInt) sliceFits_S4096x1024_S1x1024) ]
abbrev w0_b_y : List (HloOp τ sig (Elt F)) :=
  [ TRef.reshape (.of main_while0b_call1_v0 : BlockRef) (.of main_while0b_v52 : RowRef) (rfl : (.f32 : EltTy) = .f32) shapeCasts_S1x1024_S1024 ]
theorem w0_b_slice (X : Valuation τ sig (Elt F)) : after w0_b_x X (Proc.devRef .tc main_while0b_call1_v0)
    = Host.dynamicSlice S1x1024 (X (Proc.devRef .tc main_v3_1)) (fun k => ((![X (Proc.devRef .tc main_v3_2), constantI S_ 32 0#32] : Fin 2 → Cnt F) k (Shape.Idx.first h_S_)).toInt)
      sliceFits_S4096x1024_S1x1024 := by
  simp only [w0_b_x]
  after_results_entrywise [cast_eq]
theorem w0_b_reshape (X : Valuation τ sig (Elt F)) : after w0_b_y X (Proc.devRef .tc main_while0b_v52)
    = shapeCast S1024 (X (Proc.devRef .tc main_while0b_call1_v0)) shapeCasts_S1x1024_S1024 := by
  simp only [w0_b_y]
  after_results_entrywise [cast_eq]
theorem w0_b (X : Valuation τ sig (Elt F)) : after while0Ops0_1 X (Proc.devRef .tc main_while0b_v52)
    = getRow (X (Proc.devRef .tc main_v3_1)) (X (Proc.devRef .tc main_v3_2)) := by
  rw [show (while0Ops0_1 : List (HloOp τ sig (Elt F))) = w0_b_x ++ w0_b_y from rfl, after_append, w0_b_reshape, w0_b_slice]
  rfl
theorem w0_c (X : Valuation τ sig (Elt F)) : after while0Ops0_2 X (Proc.devRef .tc main_while0b_v54)
    = (addf (mulf (X (Proc.devRef .tc main_while0b_v51) : FVec F S1024 .f32) (X (Proc.devRef .tc main_v3_3))) (X (Proc.devRef .tc main_while0b_v52)) : FVec F S1024 .f32) := by
  after_results
theorem w0_d_update (X : Valuation τ sig (Elt F)) : after while0Ops0_3 X (Proc.devRef .tc main_while0b_v55)
    = Host.dynamicUpdateSlice (X (Proc.devRef .tc main_v3_4)) (broadcastInDim S1x1024 ![1] bcast_S1024_S1x1024_1 (X (Proc.devRef .tc main_while0b_v54)))
      (fun k => ((![X (Proc.devRef .tc main_v3_2), constantI S_ 32 0#32] : Fin 2 → Cnt F) k (Shape.Idx.first h_S_)).toInt) updateFits_S4096x1024_S1x1024 := by
  simp only [while0Ops0_3]
  after_results_entrywise [cast_eq]
theorem w0_d (X : Valuation τ sig (Elt F)) : after while0Ops0_3 X (Proc.devRef .tc main_while0b_v55)
    = putRow (X (Proc.devRef .tc main_v3_4)) (X (Proc.devRef .tc main_while0b_v54)) (X (Proc.devRef .tc main_v3_2)) := w0_d_update X
theorem w0_e3 (X : Valuation τ sig (Elt F)) : after while0Ops0_4 X (Proc.devRef .tc main_v3_3) = X (Proc.devRef .tc main_while0b_v54) := by
  after_results
  rfl
theorem w0_e4 (X : Valuation τ sig (Elt F)) : after while0Ops0_4 X (Proc.devRef .tc main_v3_4) = X (Proc.devRef .tc main_while0b_v55) := by
  after_results
  rfl

/-- A buffer that no stretch of the forward loop writes. -/
theorem keep0 {b : Ref sig .tc} (h : b ∉ condOps0_W ++ while0Ops0_W ++ while0Ops0_1_W ++ while0Ops0_2_W ++ while0Ops0_3_W ++ while0Ops0_4_W)
    (V : Valuation τ sig (Elt F)) : afterL body0 (after condOps0 V) (Proc.devRef .tc b) = V (Proc.devRef .tc b) := by
  simp only [List.mem_append, not_or] at h
  simp only [afterL_cons, afterL_nil]
  rw [after_of_writes_sub _ _ while0Ops0_4_writes h.2, after_of_writes_sub _ _ while0Ops0_3_writes h.1.2, after_of_writes_sub _ _ while0Ops0_2_writes h.1.1.2,
    after_of_writes_sub _ _ while0Ops0_1_writes h.1.1.1.2, after_of_writes_sub _ _ while0Ops0_writes h.1.1.1.1.2, after_of_writes_sub _ _ condOps0_writes h.1.1.1.1.1]

/-- The carried row after a trip. -/
def next0 (V : Valuation τ sig (Elt F)) : FVec F S1024 .f32 :=
  addf (mulf (getRow (F := F) (V (Proc.devRef .tc main_v3_0)) (V (Proc.devRef .tc main_v3_2))) (V (Proc.devRef .tc main_v3_3) : FVec F S1024 .f32))
    (getRow (F := F) (V (Proc.devRef .tc main_v3_1)) (V (Proc.devRef .tc main_v3_2)))

theorem mid0 (V : Valuation τ sig (Elt F)) :
    after while0Ops0_2 (after while0Ops0_1 (after while0Ops0 (after condOps0 V))) (Proc.devRef .tc main_while0b_v54) = next0 V := by
  rw [w0_c, after_of_writes_sub (r := main_while0b_v51) _ _ while0Ops0_1_writes (by decide +kernel), w0_a,
    after_of_writes_sub (r := main_v3_3) _ _ while0Ops0_1_writes (by decide +kernel), after_of_writes_sub (r := main_v3_3) _ _ while0Ops0_writes (by decide +kernel),
    w0_b, after_of_writes_sub (r := main_v3_1) _ _ while0Ops0_writes (by decide +kernel), after_of_writes_sub (r := main_v3_2) _ _ while0Ops0_writes (by decide +kernel),
    after_of_writes_sub (r := main_v3_0) _ _ condOps0_writes (by decide +kernel), after_of_writes_sub (r := main_v3_1) _ _ condOps0_writes (by decide +kernel),
    after_of_writes_sub (r := main_v3_2) _ _ condOps0_writes (by decide +kernel), after_of_writes_sub (r := main_v3_3) _ _ condOps0_writes (by decide +kernel)]
  rfl

theorem trip0_row (V : Valuation τ sig (Elt F)) : afterL body0 (after condOps0 V) (Proc.devRef .tc main_v3_3) = next0 V := by
  simp only [afterL_cons, afterL_nil]
  rw [w0_e3, after_of_writes_sub (r := main_while0b_v54) _ _ while0Ops0_3_writes (by decide +kernel), mid0]

theorem trip0_out (V : Valuation τ sig (Elt F)) : afterL body0 (after condOps0 V) (Proc.devRef .tc main_v3_4)
    = putRow (V (Proc.devRef .tc main_v3_4)) (next0 V) (V (Proc.devRef .tc main_v3_2)) := by
  simp only [afterL_cons, afterL_nil]
  rw [w0_e4, w0_d, mid0]
  rw [after_of_writes_sub (r := main_v3_4) _ _ while0Ops0_2_writes (by decide +kernel), after_of_writes_sub (r := main_v3_4) _ _ while0Ops0_1_writes (by decide +kernel),
    after_of_writes_sub (r := main_v3_4) _ _ while0Ops0_writes (by decide +kernel), after_of_writes_sub (r := main_v3_4) _ _ condOps0_writes (by decide +kernel),
    after_of_writes_sub (r := main_v3_2) _ _ while0Ops0_2_writes (by decide +kernel), after_of_writes_sub (r := main_v3_2) _ _ while0Ops0_1_writes (by decide +kernel),
    after_of_writes_sub (r := main_v3_2) _ _ while0Ops0_writes (by decide +kernel), after_of_writes_sub (r := main_v3_2) _ _ condOps0_writes (by decide +kernel)]

/-! ### The reverse loop -/

/-- The number of the row a trip of the reverse loop reads. -/
def rowWord (w : IVec S_ 32) : IVec S_ 32 := subi (subi (constantI S_ 32 4096#32) w) (constantI S_ 32 1#32)

theorem w1_w (X : Valuation τ sig (Elt F)) : after while1Ops0 X (Proc.devRef .tc main_while1b_v52)
    = subi (subi (constantI S_ 32 4096#32) (X (Proc.devRef .tc main_v46_2))) (constantI S_ 32 1#32) := by
  simp only [while1Ops0]
  after_results_entrywise [cast_eq]
/-- Its slice, and its reshape. -/
abbrev w1_a_x : List (HloOp τ sig (Elt F)) :=
  [ TRef.nullary (.of main_while1b_call3_c : CountRef) (constantI S_ 32 0#32),
    TRef.unaryIndexed (.of main_v46_0 : RowsRef) ![(.of main_while1b_v52 : CountRef), (.of main_while1b_call3_c : CountRef)] (.of main_while1b_call3_v0 : BlockRef) (fun x i => Host.dynamicSlice S1x1024 x (fun k => (i k (Shape.Idx.first h_S_)).toInt) sliceFits_S4096x1024_S1x1024) ]
abbrev w1_a_y : List (HloOp τ sig (Elt F)) :=
  [ TRef.reshape (.of main_while1b_call3_v0 : BlockRef) (.of main_while1b_v53 : RowRef) (rfl : (.f32 : EltTy) = .f32) shapeCasts_S1x1024_S1024 ]
theorem w1_a_slice (X : Valuation τ sig (Elt F)) : after w1_a_x X (Proc.devRef .tc main_while1b_call3_v0)
    = Host.dynamicSlice S1x1024 (X (Proc.devRef .tc main_v46_0)) (fun k => ((![X (Proc.devRef .tc main_while1b_v52), constantI S_ 32 0#32] : Fin 2 → Cnt F) k (Shape.Idx.first h_S_)).toInt)
      sliceFits_S4096x1024_S1x1024 := by
  simp only [w1_a_x]
  after_results_entrywise [cast_eq]
theorem w1_a_reshape (X : Valuation τ sig (Elt F)) : after w1_a_y X (Proc.devRef .tc main_while1b_v53)
    = shapeCast S1024 (X (Proc.devRef .tc main_while1b_call3_v0)) shapeCasts_S1x1024_S1024 := by
  simp only [w1_a_y]
  after_results_entrywise [cast_eq]
theorem w1_a (X : Valuation τ sig (Elt F)) : after while1Ops0_1 X (Proc.devRef .tc main_while1b_v53)
    = getRow (X (Proc.devRef .tc main_v46_0)) (X (Proc.devRef .tc main_while1b_v52)) := by
  rw [show (while1Ops0_1 : List (HloOp τ sig (Elt F))) = w1_a_x ++ w1_a_y from rfl, after_append, w1_a_reshape, w1_a_slice]
  rfl
/-- Its slice, and its reshape. -/
abbrev w1_b_x : List (HloOp τ sig (Elt F)) :=
  [ TRef.nullary (.of main_while1b_call4_c : CountRef) (constantI S_ 32 0#32),
    TRef.unaryIndexed (.of main_v46_1 : RowsRef) ![(.of main_while1b_v52 : CountRef), (.of main_while1b_call4_c : CountRef)] (.of main_while1b_call4_v0 : BlockRef) (fun x i => Host.dynamicSlice S1x1024 x (fun k => (i k (Shape.Idx.first h_S_)).toInt) sliceFits_S4096x1024_S1x1024) ]
abbrev w1_b_y : List (HloOp τ sig (Elt F)) :=
  [ TRef.reshape (.of main_while1b_call4_v0 : BlockRef) (.of main_while1b_v54 : RowRef) (rfl : (.f32 : EltTy) = .f32) shapeCasts_S1x1024_S1024 ]
theorem w1_b_slice (X : Valuation τ sig (Elt F)) : after w1_b_x X (Proc.devRef .tc main_while1b_call4_v0)
    = Host.dynamicSlice S1x1024 (X (Proc.devRef .tc main_v46_1)) (fun k => ((![X (Proc.devRef .tc main_while1b_v52), constantI S_ 32 0#32] : Fin 2 → Cnt F) k (Shape.Idx.first h_S_)).toInt)
      sliceFits_S4096x1024_S1x1024 := by
  simp only [w1_b_x]
  after_results_entrywise [cast_eq]
theorem w1_b_reshape (X : Valuation τ sig (Elt F)) : after w1_b_y X (Proc.devRef .tc main_while1b_v54)
    = shapeCast S1024 (X (Proc.devRef .tc main_while1b_call4_v0)) shapeCasts_S1x1024_S1024 := by
  simp only [w1_b_y]
  after_results_entrywise [cast_eq]
theorem w1_b (X : Valuation τ sig (Elt F)) : after while1Ops0_2 X (Proc.devRef .tc main_while1b_v54)
    = getRow (X (Proc.devRef .tc main_v46_1)) (X (Proc.devRef .tc main_while1b_v52)) := by
  rw [show (while1Ops0_2 : List (HloOp τ sig (Elt F))) = w1_b_x ++ w1_b_y from rfl, after_append, w1_b_reshape, w1_b_slice]
  rfl
theorem w1_c (X : Valuation τ sig (Elt F)) : after while1Ops0_3 X (Proc.devRef .tc main_while1b_v55)
    = (addf (X (Proc.devRef .tc main_v46_3) : FVec F S1024 .f32) (X (Proc.devRef .tc main_while1b_v53)) : FVec F S1024 .f32) := by
  after_results
theorem w1_d (X : Valuation τ sig (Elt F)) : after while1Ops0_3 X (Proc.devRef .tc main_while1b_v56)
    = (mulf (X (Proc.devRef .tc main_while1b_v54) : FVec F S1024 .f32) (addf (X (Proc.devRef .tc main_v46_3) : FVec F S1024 .f32) (X (Proc.devRef .tc main_while1b_v53))) : FVec F S1024 .f32) := by
  after_results
theorem w1_e_update (X : Valuation τ sig (Elt F)) : after while1Ops0_4 X (Proc.devRef .tc main_while1b_v57)
    = Host.dynamicUpdateSlice (X (Proc.devRef .tc main_v46_4)) (broadcastInDim S1x1024 ![1] bcast_S1024_S1x1024_1 (X (Proc.devRef .tc main_while1b_v55)))
      (fun k => ((![X (Proc.devRef .tc main_while1b_v52), constantI S_ 32 0#32] : Fin 2 → Cnt F) k (Shape.Idx.first h_S_)).toInt) updateFits_S4096x1024_S1x1024 := by
  simp only [while1Ops0_4]
  after_results_entrywise [cast_eq]
theorem w1_e (X : Valuation τ sig (Elt F)) : after while1Ops0_4 X (Proc.devRef .tc main_while1b_v57)
    = putRow (X (Proc.devRef .tc main_v46_4)) (X (Proc.devRef .tc main_while1b_v55)) (X (Proc.devRef .tc main_while1b_v52)) := w1_e_update X
theorem w1_f3 (X : Valuation τ sig (Elt F)) : after while1Ops0_5 X (Proc.devRef .tc main_v46_3) = X (Proc.devRef .tc main_while1b_v56) := by
  after_results
  rfl
theorem w1_f4 (X : Valuation τ sig (Elt F)) : after while1Ops0_5 X (Proc.devRef .tc main_v46_4) = X (Proc.devRef .tc main_while1b_v57) := by
  after_results
  rfl

/-- A buffer that no stretch of the reverse loop writes. -/
theorem keep1 {b : Ref sig .tc}
    (h : b ∉ condOps1_W ++ while1Ops0_W ++ while1Ops0_1_W ++ while1Ops0_2_W ++ while1Ops0_3_W ++ while1Ops0_4_W ++ while1Ops0_5_W)
    (V : Valuation τ sig (Elt F)) : afterL body1 (after condOps1 V) (Proc.devRef .tc b) = V (Proc.devRef .tc b) := by
  simp only [List.mem_append, not_or] at h
  simp only [afterL_cons, afterL_nil]
  rw [after_of_writes_sub _ _ while1Ops0_5_writes h.2, after_of_writes_sub _ _ while1Ops0_4_writes h.1.2, after_of_writes_sub _ _ while1Ops0_3_writes h.1.1.2,
    after_of_writes_sub _ _ while1Ops0_2_writes h.1.1.1.2, after_of_writes_sub _ _ while1Ops0_1_writes h.1.1.1.1.2, after_of_writes_sub _ _ while1Ops0_writes h.1.1.1.1.1.2,
    after_of_writes_sub _ _ condOps1_writes h.1.1.1.1.1.1]

/-- The row stored by a trip. -/
def lam1Of (V : Valuation τ sig (Elt F)) : FVec F S1024 .f32 :=
  addf (V (Proc.devRef .tc main_v46_3) : FVec F S1024 .f32) (getRow (F := F) (V (Proc.devRef .tc main_v46_0)) (rowWord (V (Proc.devRef .tc main_v46_2))))

/-- The carried row after a trip. -/
def next1 (V : Valuation τ sig (Elt F)) : FVec F S1024 .f32 :=
  mulf (getRow (F := F) (V (Proc.devRef .tc main_v46_1)) (rowWord (V (Proc.devRef .tc main_v46_2)))) (lam1Of V)

section Mid1
variable (V : Valuation τ sig (Elt F))
/-- The contents when the rows have been read. -/
abbrev Y1 : Valuation τ sig (Elt F) := after while1Ops0_2 (after while1Ops0_1 (after while1Ops0 (after condOps1 V)))

theorem Y1_keep {b : Ref sig .tc} (h : b ∉ condOps1_W ++ while1Ops0_W ++ while1Ops0_1_W ++ while1Ops0_2_W) : Y1 V (Proc.devRef .tc b) = V (Proc.devRef .tc b) := by
  simp only [List.mem_append, not_or] at h
  unfold Y1
  rw [after_of_writes_sub _ _ while1Ops0_2_writes h.2, after_of_writes_sub _ _ while1Ops0_1_writes h.1.2, after_of_writes_sub _ _ while1Ops0_writes h.1.1.2,
    after_of_writes_sub _ _ condOps1_writes h.1.1.1]

theorem Y1_word : Y1 V (Proc.devRef .tc main_while1b_v52) = rowWord (V (Proc.devRef .tc main_v46_2)) := by
  unfold Y1
  rw [after_of_writes_sub (r := main_while1b_v52) _ _ while1Ops0_2_writes (by decide +kernel), after_of_writes_sub (r := main_while1b_v52) _ _ while1Ops0_1_writes (by decide +kernel),
    w1_w, after_of_writes_sub (r := main_v46_2) _ _ condOps1_writes (by decide +kernel)]
  rfl

theorem Y1_dh : Y1 V (Proc.devRef .tc main_while1b_v53) = getRow (V (Proc.devRef .tc main_v46_0)) (rowWord (V (Proc.devRef .tc main_v46_2))) := by
  unfold Y1
  rw [after_of_writes_sub (r := main_while1b_v53) _ _ while1Ops0_2_writes (by decide +kernel), w1_a, w1_w,
    after_of_writes_sub (r := main_v46_0) _ _ while1Ops0_writes (by decide +kernel), after_of_writes_sub (r := main_v46_0) _ _ condOps1_writes (by decide +kernel),
    after_of_writes_sub (r := main_v46_2) _ _ condOps1_writes (by decide +kernel)]
  rfl

theorem Y1_a : Y1 V (Proc.devRef .tc main_while1b_v54) = getRow (V (Proc.devRef .tc main_v46_1)) (rowWord (V (Proc.devRef .tc main_v46_2))) := by
  unfold Y1
  rw [w1_b, after_of_writes_sub (r := main_while1b_v52) _ _ while1Ops0_1_writes (by decide +kernel), w1_w,
    after_of_writes_sub (r := main_v46_1) _ _ while1Ops0_1_writes (by decide +kernel),
    after_of_writes_sub (r := main_v46_1) _ _ while1Ops0_writes (by decide +kernel), after_of_writes_sub (r := main_v46_1) _ _ condOps1_writes (by decide +kernel),
    after_of_writes_sub (r := main_v46_2) _ _ condOps1_writes (by decide +kernel)]
  rfl

theorem trip1_row : afterL body1 (after condOps1 V) (Proc.devRef .tc main_v46_3) = next1 V := by
  simp only [afterL_cons, afterL_nil]
  rw [w1_f3, after_of_writes_sub (r := main_while1b_v56) _ _ while1Ops0_4_writes (by decide +kernel), w1_d]
  rw [show after while1Ops0_2 (after while1Ops0_1 (after while1Ops0 (after condOps1 V))) = Y1 V from rfl, Y1_a, Y1_dh, Y1_keep V (by decide +kernel : main_v46_3 ∉ _)]
  rfl

theorem trip1_out : afterL body1 (after condOps1 V) (Proc.devRef .tc main_v46_4)
    = putRow (V (Proc.devRef .tc main_v46_4)) (lam1Of V) (rowWord (V (Proc.devRef .tc main_v46_2))) := by
  simp only [afterL_cons, afterL_nil]
  rw [w1_f4, w1_e, w1_c, after_of_writes_sub (r := main_v46_4) _ _ while1Ops0_3_writes (by decide +kernel),
    after_of_writes_sub (r := main_while1b_v52) _ _ while1Ops0_3_writes (by decide +kernel)]
  rw [show after while1Ops0_2 (after while1Ops0_1 (after while1Ops0 (after condOps1 V))) = Y1 V from rfl, Y1_dh, Y1_word, Y1_keep V (by decide +kernel : main_v46_3 ∉ _),
    Y1_keep V (by decide +kernel : main_v46_4 ∉ _)]
  rfl

end Mid1

end Cert.ReferenceIdeal.Rec

end
-- ==== Proof.Affine.lean ====
/-
  The recurrence `x ↦ a n · x + b n` over the extended reals, and the eight-row scan by doubling: rows are affine maps, a
  doubling step composes each with the one `s` rows away, and after steps 1, 2 and 4 a row's map takes the carried value to
  the state at that row. Composing needs the decays to be nonnegative and finite.
-/
module

public import proofs.«01_k».proof.Proof.Scan0Trip
public import proofs.«01_k».proof.Proof.Scan1Trip
public import Idealize.ShloMosaic.Lib.KernelVsHost

@[expose] public section

noncomputable section

namespace Cert.KernelIdeal.Scan

open Idealize.ShloMosaic Idealize.ShloMosaic.TcCoe Idealize.ShloMosaic.ValueIdx Cert.KernelIdeal.Gen

/-- A decay: nonnegative and finite. -/
def Fine (x : EReal) : Prop := 0 ≤ x ∧ x ≠ ⊤

/-- A decay distributes over any sum. -/
theorem Fine.mul_add {p x y : EReal} (hp : Fine p) : p * (x + y) = p * x + p * y :=
  EReal.left_distrib_of_nonneg_of_ne_top hp.1 hp.2 x y

/-- The state before step `n` of `x ↦ a n · x + b n`, from `x`. -/
def seq (a b : ℕ → EReal) (x : EReal) : ℕ → EReal
  | 0 => x
  | n + 1 => a n * seq a b x n + b n

/-- One doubling step over eight affine maps. -/
def up (s : ℕ) (p : Fin 8 → EReal × EReal) (r : Fin 8) : EReal × EReal :=
  if s ≤ r.val then ((p r).1 * (p ⟨(r.val + 8 - s) % 8, Nat.mod_lt _ (by decide)⟩).1,
    (p r).1 * (p ⟨(r.val + 8 - s) % 8, Nat.mod_lt _ (by decide)⟩).2 + (p r).2) else p r

/-- The same step towards the rows above. -/
def down (s : ℕ) (p : Fin 8 → EReal × EReal) (r : Fin 8) : EReal × EReal :=
  if r.val < s then ((p r).1 * (p ⟨(r.val + 8 - s) % 8, Nat.mod_lt _ (by decide)⟩).1,
    (p r).1 * (p ⟨(r.val + 8 - s) % 8, Nat.mod_lt _ (by decide)⟩).2 + (p r).2) else p r

theorem up_ev (p : Fin 8 → EReal × EReal) (h : ∀ r, Fine (p r).1) (a b : ℕ → EReal) (x : EReal) (T : ℕ)
    (ha : ∀ r : Fin 8, (p r).1 = a (T + r.val)) (hb : ∀ r : Fin 8, (p r).2 = b (T + r.val)) (r : Fin 8) :
    (up 4 (up 2 (up 1 p)) r).1 * seq a b x T + (up 4 (up 2 (up 1 p)) r).2 = seq a b x (T + r.val + 1) := by
  have hT : ∀ k, Fine (a (T + k)) ∨ 8 ≤ k := fun k => by
    by_cases hk : k < 8
    · exact .inl (ha ⟨k, hk⟩ ▸ h ⟨k, hk⟩)
    · exact .inr (by omega)
  have f0 : Fine (a T) := (hT 0).resolve_right (by decide)
  have f1 := (hT 1).resolve_right (by decide)
  have f2 := (hT 2).resolve_right (by decide)
  have f3 := (hT 3).resolve_right (by decide)
  have f4 := (hT 4).resolve_right (by decide)
  have f5 := (hT 5).resolve_right (by decide)
  have f6 := (hT 6).resolve_right (by decide)
  have f7 := (hT 7).resolve_right (by decide)
  fin_cases r <;> simp [up, ha, hb, seq, Fine.mul_add, mul_assoc, add_assoc, f0, f1, f2, f3, f4, f5, f6, f7]

/-- Rows counted from the last: row `r`'s map takes the value carried from below to the state at row `r`. -/
theorem down_ev (p : Fin 8 → EReal × EReal) (h : ∀ r, Fine (p r).1) (a b : ℕ → EReal) (x : EReal) (T : ℕ)
    (ha : ∀ r : Fin 8, (p r).1 = a (T + (7 - r.val))) (hb : ∀ r : Fin 8, (p r).2 = b (T + (7 - r.val))) (r : Fin 8) :
    (down 4 (down 6 (down 7 p)) r).1 * seq a b x T + (down 4 (down 6 (down 7 p)) r).2 = seq a b x (T + (7 - r.val) + 1) := by
  have hT : ∀ k, Fine (a (T + k)) ∨ 8 ≤ k := fun k => by
    by_cases hk : k < 8
    · have h' := ha ⟨7 - k, by omega⟩
      rw [show 7 - (⟨7 - k, by omega⟩ : Fin 8).val = k from by show 7 - (7 - k) = k; omega] at h'
      exact .inl (h' ▸ h _)
    · exact .inr (by omega)
  have f0 : Fine (a T) := (hT 0).resolve_right (by decide)
  have f1 := (hT 1).resolve_right (by decide)
  have f2 := (hT 2).resolve_right (by decide)
  have f3 := (hT 3).resolve_right (by decide)
  have f4 := (hT 4).resolve_right (by decide)
  have f5 := (hT 5).resolve_right (by decide)
  have f6 := (hT 6).resolve_right (by decide)
  have f7 := (hT 7).resolve_right (by decide)
  fin_cases r <;> simp [down, ha, hb, seq, Fine.mul_add, mul_assoc, add_assoc, f0, f1, f2, f3, f4, f5, f6, f7]

/-! ### The groups -/

/-- A rotation by `sb` rows. -/
theorem rot_apply (x : FVec Ideal S8x512 .f32) (sb : BitVec 32) (r k : Fin 8) (l : Fin 512) (hk : k.val = (r.val + 8 - sb.toNat % 8) % 8) :
    dynamicRotate 0 sb none x rotates_S8x512_d0 (ix2 r l) = x (ix2 k l) :=
  dynamicRotate_apply 0 sb x _ _ _ (Fin.forall_fin_two.mpr ⟨hk, rfl⟩)

/-- The pairs a vector of decays and one of inputs hold in column `l`. -/
def pair (A B : FVec Ideal S8x512 .f32) (l : Fin 512) : Fin 8 → EReal × EReal := fun r => (A (ix2 r l), B (ix2 r l))

theorem sel_ge (s : BitVec 32) (hs : s = 1#32 ∨ s = 2#32 ∨ s = 4#32) (P Q : FVec Ideal S8x512 .f32) (r : Fin 8) (l : Fin 512) :
    select (cmpi .sge rowNo (broadcast S8x512 s)) P Q (ix2 r l) = if s.toNat ≤ r.val then P (ix2 r l) else Q (ix2 r l) := by
  rcases hs with rfl | rfl | rfl <;> fin_cases r <;> rfl

theorem sel_lt (s : BitVec 32) (hs : s = 7#32 ∨ s = 6#32 ∨ s = 4#32) (P Q : FVec Ideal S8x512 .f32) (r : Fin 8) (l : Fin 512) :
    select (cmpi .slt rowNo (broadcast S8x512 s)) P Q (ix2 r l) = if r.val < s.toNat then P (ix2 r l) else Q (ix2 r l) := by
  rcases hs with rfl | rfl | rfl <;> fin_cases r <;> rfl

theorem sel_eq (s : BitVec 32) (hs : s = 7#32 ∨ s = 0#32) (P Q : FVec Ideal S8x512 .f32) (r : Fin 8) (l : Fin 512) :
    select (cmpi .eq rowNo (broadcast S8x512 s)) P Q (ix2 r l) = if r.val = s.toNat then P (ix2 r l) else Q (ix2 r l) := by
  rcases hs with rfl | rfl <;> fin_cases r <;> rfl

theorem pair_up (s : BitVec 32) (hs : s = 1#32 ∨ s = 2#32 ∨ s = 4#32) (A B : FVec Ideal S8x512 .f32) (l : Fin 512) :
    pair (select (cmpi .sge rowNo (broadcast S8x512 s)) (mulf A (dynamicRotate 0 s none A rotates_S8x512_d0)) A)
      (select (cmpi .sge rowNo (broadcast S8x512 s)) (addf (mulf A (dynamicRotate 0 s none B rotates_S8x512_d0)) B) B) l
      = up s.toNat (pair A B l) := by
  have hs8 : s.toNat % 8 = s.toNat := by rcases hs with rfl | rfl | rfl <;> rfl
  funext r
  have hr := rot_apply (sb := s) (r := r) (k := ⟨(r.val + 8 - s.toNat) % 8, Nat.mod_lt _ (by decide)⟩) (l := l)
    (hk := by rw [hs8])
  unfold pair up
  rw [sel_ge s hs, sel_ge s hs]
  split <;> [exact Prod.ext (congrArg (A (ix2 r l) * ·) (hr A)) (congrArg (fun z => A (ix2 r l) * z + B (ix2 r l)) (hr B)); rfl]

theorem pair_down (s : BitVec 32) (hs : s = 7#32 ∨ s = 6#32 ∨ s = 4#32) (A B : FVec Ideal S8x512 .f32) (l : Fin 512) :
    pair (select (cmpi .slt rowNo (broadcast S8x512 s)) (mulf A (dynamicRotate 0 s none A rotates_S8x512_d0)) A)
      (select (cmpi .slt rowNo (broadcast S8x512 s)) (addf (mulf A (dynamicRotate 0 s none B rotates_S8x512_d0)) B) B) l
      = down s.toNat (pair A B l) := by
  have hs8 : s.toNat % 8 = s.toNat := by rcases hs with rfl | rfl | rfl <;> rfl
  funext r
  have hr := rot_apply (sb := s) (r := r) (k := ⟨(r.val + 8 - s.toNat) % 8, Nat.mod_lt _ (by decide)⟩) (l := l)
    (hk := by rw [hs8])
  unfold pair down
  rw [sel_lt s hs, sel_lt s hs]
  split <;> [exact Prod.ext (congrArg (A (ix2 r l) * ·) (hr A)) (congrArg (fun z => A (ix2 r l) * z + B (ix2 r l)) (hr B)); rfl]

/-- A group of the forward scan: the states after each of its rows. -/
theorem grp0_seq (hp A B : FVec Ideal S8x512 .f32) (l : Fin 512) (a b : ℕ → EReal) (x : EReal) (T : ℕ)
    (hfine : ∀ r, Fine (A (ix2 r l))) (ha : ∀ r : Fin 8, A (ix2 r l) = a (T + r.val)) (hb : ∀ r : Fin 8, B (ix2 r l) = b (T + r.val))
    (hx : ∀ r, hp (ix2 r l) = seq a b x T) (r : Fin 8) : grp0 (F := Ideal) hp A B (ix2 r l) = seq a b x (T + r.val + 1) := by
  rw [← up_ev (pair A B l) hfine a b x T ha hb r, ← hx r]
  have h1 := pair_up 1#32 (by decide) A B l
  have h2 := pair_up 2#32 (by decide) _ _ l |>.trans (congrArg (up 2) h1)
  have h3 := pair_up 4#32 (by decide) _ _ l |>.trans (congrArg (up 4) h2)
  exact congrArg (fun p : Fin 8 → EReal × EReal => (p r).1 * hp (ix2 r l) + (p r).2) h3

/-- A group of the reverse scan: decays shifted one row up, the carried one entering at the last row. -/
theorem grp1_seq (hp ap A B : FVec Ideal S8x512 .f32) (l : Fin 512) (a b : ℕ → EReal) (x : EReal) (T : ℕ)
    (hfine : ∀ r, Fine (A (ix2 r l))) (hap : ∀ r, ap (ix2 r l) = a T) (hap' : Fine (a T))
    (ha : ∀ r : Fin 8, 0 < r.val → A (ix2 r l) = a (T + (8 - r.val))) (hb : ∀ r : Fin 8, B (ix2 r l) = b (T + (7 - r.val)))
    (hx : ∀ r, hp (ix2 r l) = seq a b x T) (r : Fin 8) : grp1 (F := Ideal) hp ap A B (ix2 r l) = seq a b x (T + (7 - r.val) + 1) := by
  have hA' : ∀ r : Fin 8, select (cmpi .eq rowNo (broadcast S8x512 7#32)) ap (dynamicRotate 0 7#32 none A rotates_S8x512_d0) (ix2 r l)
      = a (T + (7 - r.val)) := by
    intro r
    rw [sel_eq 7#32 (.inl rfl), rot_apply A 7#32 r ⟨(r.val + 1) % 8, Nat.mod_lt _ (by decide)⟩ l (by show _ = (r.val + 8 - 7) % 8; congr 1)]
    have h7 : (7#32 : BitVec 32).toNat = 7 := rfl
    rw [h7]
    have hr := r.isLt
    split
    · rename_i h; rw [hap, h]; rfl
    · rename_i h
      rw [ha _ (by show 0 < (r.val + 1) % 8; omega)]
      exact congrArg (fun k => a (T + k)) (by show 8 - (r.val + 1) % 8 = 7 - r.val; omega)
  have hf : ∀ r : Fin 8, Fine (a (T + (7 - r.val))) := by
    intro r
    have hr := r.isLt
    by_cases h : r.val = 7
    · rw [h]; exact hap'
    · have := hfine ⟨r.val + 1, by omega⟩
      rw [ha _ (by show 0 < r.val + 1; omega)] at this
      rw [show 7 - r.val = 8 - (⟨r.val + 1, by omega⟩ : Fin 8).val from by show 7 - r.val = 8 - (r.val + 1); omega]
      exact this
  rw [← down_ev (pair (select (cmpi .eq rowNo (broadcast S8x512 7#32)) ap (dynamicRotate 0 7#32 none A rotates_S8x512_d0)) B l)
    (fun r => by have h := hf r; rw [← hA' r] at h; exact h) a b x T hA' hb r, ← hx r]
  have h1 := pair_down 7#32 (by decide) (select (cmpi .eq rowNo (broadcast S8x512 7#32)) ap (dynamicRotate 0 7#32 none A rotates_S8x512_d0)) B l
  have h2 := pair_down 6#32 (by decide) _ _ l |>.trans (congrArg (down 6) h1)
  have h3 := pair_down 4#32 (by decide) _ _ l |>.trans (congrArg (down 4) h2)
  exact congrArg (fun p : Fin 8 → EReal × EReal => (p r).1 * hp (ix2 r l) + (p r).2) h3

end Cert.KernelIdeal.Scan

end
-- ==== Proof.BlockValue.lean ====
/-
  What one 512 × 512 block of each scan computes, in every column: the states of the recurrence after each row, the states
  before each row, the gated states; and for the reverse scan the gradients at the inputs and at the gate. Elementwise
  formulas are named here once.
-/
module

public import proofs.«01_k».proof.Proof.Affine

@[expose] public section

noncomputable section

namespace Cert.KernelIdeal.Scan

open Idealize.ShloMosaic Idealize.ShloMosaic.TcCoe Idealize.ShloMosaic.ValueIdx Cert.KernelIdeal.Gen

/-! ### Elementwise formulas -/

/-- The argument of the gate's tanh. -/
def gArg (g : EReal) : EReal :=
  Ideal.ofBits .f32 0x3F4C422A#32 * (g + Ideal.ofBits .f32 0x3D372713#32 * (g * g * g))

/-- Half of one plus the tanh. -/
def gHalf (g : EReal) : EReal := Ideal.ofBits .f32 0x3F000000#32 * (Ideal.ofBits .f32 0x3F800000#32 + Ideal.tanh (gArg g))

/-- The gate's GELU. -/
def gGelu (g : EReal) : EReal := g * gHalf g

/-- The gradient at the gate, from the gate, the state and the gated state's gradient. -/
def gGrad (g h d : EReal) : EReal :=
  let u := Ideal.ofBits .f32 0x3F4C422A#32 * (Ideal.ofBits .f32 0x3F000000#32 * (g * (h * d))
    * ((Ideal.ofBits .f32 0x3F800000#32 + Ideal.tanh (gArg g)) * (Ideal.ofBits .f32 0x3F800000#32 - Ideal.tanh (gArg g))))
  h * d * gHalf g + u + Ideal.ofBits .f32 0x3D372713#32 * u * (Ideal.ofBits .f32 0x40400000#32 * (g * g))

theorem pay9_apply (g h : FVec Ideal S8x512 .f32) (i : S8x512.Idx) : k0_pay9 (F := Ideal) g h i = h i * gGelu (g i) := by
  show h i * (g i * (Ideal.ofBits .f32 0x3F000000#32 * (Ideal.ofBits .f32 0x3F800000#32 + Ideal.tanh (Ideal.ofBits .f32 0x3F4C422A#32 *
    (g i + Ideal.ofBits .f32 0x3D372713#32 * (g i * (g i * g i))))))) = _
  unfold gGelu gHalf gArg
  rw [mul_assoc (g i) (g i) (g i)]

theorem pay13_apply (g d : FVec Ideal S8x512 .f32) (i : S8x512.Idx) : k1_pay13 (F := Ideal) g d i = d i * gGelu (g i) := by
  show d i * (g i * (Ideal.ofBits .f32 0x3F000000#32 * (Ideal.ofBits .f32 0x3F800000#32 + Ideal.tanh (Ideal.ofBits .f32 0x3F4C422A#32 *
    (g i + Ideal.ofBits .f32 0x3D372713#32 * (g i * (g i * g i))))))) = _
  unfold gGelu gHalf gArg
  rw [mul_assoc (g i) (g i) (g i)]

theorem dgrp_apply (g h d : FVec Ideal S8x512 .f32) (i : S8x512.Idx) : dgrp (F := Ideal) g h d i = gGrad (g i) (h i) (d i) := by
  have hc : k1_pay12 (F := Ideal) h d = fun i => h i * d i := by
    unfold k1_pay12
    rw [shapeCast_self]
    rfl
  have e : ∀ x : EReal, x * (x * x) = x * x * x := fun x => (mul_assoc x x x).symm
  unfold dgrp gGrad gHalf gArg
  unfold k1_pay14 k1_pay15
  rw [hc, ← e]
  rfl

/-! ### Rows carried from group to group -/

theorem pay10_apply (v : FVec Ideal S8x512 .f32) (r : Fin 8) (l : Fin 512) : k0_pay10 (F := Ideal) v (ix2 r l) = v (ix2 7 l) := by
  unfold k0_pay10
  rw [broadcastTo_apply _ _ _ (ix2 0 l) (Fin.forall_fin_two.mpr ⟨rfl, rfl⟩), shapeCast_self]
  exact extractStridedSlice_apply _ v _ _ (ix2 7 l) (Fin.forall_fin_two.mpr ⟨rfl, (Nat.zero_add _).symm⟩)

theorem pay7_apply (v : FVec Ideal S8x512 .f32) (r : Fin 8) (l : Fin 512) : k1_pay7 (F := Ideal) v (ix2 r l) = v (ix2 0 l) := by
  unfold k1_pay7
  rw [broadcastTo_apply _ _ _ (ix2 0 l) (Fin.forall_fin_two.mpr ⟨rfl, rfl⟩), shapeCast_self]
  exact extractStridedSlice_apply _ v _ _ (ix2 0 l) (Fin.forall_fin_two.mpr ⟨rfl, (Nat.zero_add _).symm⟩)

theorem pay20_apply (hp ap A B : FVec Ideal S8x512 .f32) (r : Fin 8) (l : Fin 512) :
    k1_pay20 (F := Ideal) (k1_pay19 rowNo hp ap A B) (ix2 r l) = grp1 (F := Ideal) hp ap A B (ix2 0 l) := by
  unfold k1_pay20 k1_pay19
  rw [broadcastTo_apply _ _ _ (ix2 0 l) (Fin.forall_fin_two.mpr ⟨rfl, rfl⟩), shapeCast_self]
  exact extractStridedSlice_apply _ (grp1 (F := Ideal) hp ap A B) _ _ (ix2 0 l) (Fin.forall_fin_two.mpr ⟨rfl, (Nat.zero_add _).symm⟩)

/-- Eight rows of a block of reals. -/
abbrev rowsI (x : FVec Ideal S512x512 .f32) (g : ℕ) : FVec Ideal S8x512 .f32 := rows (Val := Elt Ideal) (e := .f32) x g

theorem rows_apply (x : FVec Ideal S512x512 .f32) (g : ℕ) (r : Fin 8) (l : Fin 512) (h : 8 * g + r.val < 512) :
    rowsI x g (ix2 r l) = x (ix2 ⟨8 * g + r.val, h⟩ l) :=
  congrArg (fun k => x (ix2 k l)) (Fin.ext (Nat.mod_eq_of_lt h))

/-! ### The forward scan's block -/

section Forward

variable (xa xb : FVec Ideal S512x512 .f32) (init : FVec Ideal S8x512 .f32) (l : Fin 512) (a b : ℕ → EReal) (T : ℕ)
  (hfine : ∀ R, Fine (xa (ix2 R l))) (ha : ∀ R : Fin 512, xa (ix2 R l) = a (T + R.val)) (hb : ∀ R : Fin 512, xb (ix2 R l) = b (T + R.val))
  (hi : ∀ r, init (ix2 r l) = seq a b 0 T)
include hfine ha hb hi

theorem carry0_hid0 : ∀ g ≤ 64, (∀ r, carry0 (F := Ideal) xa xb init g (ix2 r l) = seq a b 0 (T + 8 * g))
    ∧ (g < 64 → ∀ r : Fin 8, hid0 (F := Ideal) xa xb init g (ix2 r l) = seq a b 0 (T + 8 * g + r.val + 1)) := by
  have step : ∀ g, g < 64 → (∀ r, carry0 (F := Ideal) xa xb init g (ix2 r l) = seq a b 0 (T + 8 * g)) →
      ∀ r : Fin 8, hid0 (F := Ideal) xa xb init g (ix2 r l) = seq a b 0 (T + 8 * g + r.val + 1) := fun g hg hc r => by
    have hlt : ∀ r : Fin 8, 8 * g + r.val < 512 := fun r => by have := r.isLt; omega
    exact grp0_seq _ (rowsI xa g) (rowsI xb g) l a b 0 (T + 8 * g) (fun r => by rw [rows_apply xa g r l (hlt r)]; exact hfine _)
      (fun r => by rw [rows_apply xa g r l (hlt r), ha]; exact congrArg a (by show T + (8 * g + r.val) = _; omega))
      (fun r => by rw [rows_apply xb g r l (hlt r), hb]; exact congrArg b (by show T + (8 * g + r.val) = _; omega))
      hc r
  intro g
  induction g with
  | zero => exact fun _ => ⟨hi, fun h0 => step 0 h0 hi⟩
  | succ g ih =>
    intro hg
    have hc : ∀ r, carry0 (F := Ideal) xa xb init (g + 1) (ix2 r l) = seq a b 0 (T + 8 * (g + 1)) := fun r => by
      rw [carry0_succ, pay10_apply]
      exact ((ih (by omega)).2 (by omega) 7).trans (congrArg (seq a b 0) (by show T + 8 * g + 7 + 1 = _; omega))
    exact ⟨hc, fun h => step (g + 1) h hc⟩

theorem hid0_block (R : Fin 512) : ofRows (Val := Elt Ideal) (e := .f32) (hid0 (F := Ideal) xa xb init) (ix2 R l) = seq a b 0 (T + R.val + 1) := by
  have hR := R.isLt
  exact ((carry0_hid0 xa xb init l a b T hfine ha hb hi (R.val / 8) (by omega)).2 (by omega) ⟨R.val % 8, by omega⟩).trans
    (congrArg (seq a b 0) (by show T + 8 * (R.val / 8) + R.val % 8 + 1 = _; omega))

theorem prev0_block (R : Fin 512) : ofRows (Val := Elt Ideal) (e := .f32) (prev0 (F := Ideal) xa xb init) (ix2 R l) = seq a b 0 (T + R.val) := by
  have hR := R.isLt
  have hg := carry0_hid0 xa xb init l a b T hfine ha hb hi (R.val / 8) (by omega)
  show prev0 (F := Ideal) xa xb init (R.val / 8) (ix2 ⟨R.val % 8, by omega⟩ l) = _
  unfold prev0 k0_pay8
  rw [sel_eq 0#32 (.inr rfl)]
  split
  · rename_i h
    have h : R.val % 8 = 0 := h
    exact (hg.1 _).trans (congrArg (seq a b 0) (by omega))
  · rename_i h
    have h : ¬ R.val % 8 = 0 := h
    rw [rot_apply _ 1#32 _ ⟨R.val % 8 - 1, by omega⟩ l (by show R.val % 8 - 1 = (R.val % 8 + 8 - 1) % 8; omega)]
    exact (hg.2 (by omega) _).trans (congrArg (seq a b 0) (by show T + 8 * (R.val / 8) + (R.val % 8 - 1) + 1 = _; omega))

theorem gated0_block (xg : FVec Ideal S512x512 .f32) (R : Fin 512) :
    ofRows (Val := Elt Ideal) (e := .bf16) (gated0 (F := Ideal) xa xg xb init) (ix2 R l) = seq a b 0 (T + R.val + 1) * gGelu (xg (ix2 R l)) := by
  have hR := R.isLt
  rw [← hid0_block xa xb init l a b T hfine ha hb hi R]
  refine (pay9_apply (rowsI xg (R.val / 8)) (hid0 (F := Ideal) xa xb init (R.val / 8)) (ix2 ⟨R.val % 8, by omega⟩ l)).trans ?_
  rw [rows_apply xg (R.val / 8) ⟨R.val % 8, by omega⟩ l (by show 8 * (R.val / 8) + R.val % 8 < 512; omega)]
  exact congrArg (fun k => _ * gGelu (xg (ix2 k l))) (Fin.ext (by show 8 * (R.val / 8) + R.val % 8 = R.val; omega))

/-- The carried vector when the block is done. -/
theorem carry0_block (r : Fin 8) : carry0 (F := Ideal) xa xb init 64 (ix2 r l) = seq a b 0 (T + 512) :=
  (carry0_hid0 xa xb init l a b T hfine ha hb hi 64 le_rfl).1 r

end Forward

/-! ### The reverse scan's block: `n` counts rows from the last -/

section Reverse

variable (xa xg xd : FVec Ideal S512x512 .f32) (init : FVec Ideal S8x512 .f32 × FVec Ideal S8x512 .f32) (l : Fin 512) (a b : ℕ → EReal) (T : ℕ)
  (hfine : ∀ R, Fine (xa (ix2 R l))) (hT : Fine (a T)) (ha : ∀ R : Fin 512, xa (ix2 R l) = a (T + (512 - R.val)))
  (hb : ∀ R : Fin 512, xd (ix2 R l) * gGelu (xg (ix2 R l)) = b (T + (511 - R.val)))
  (hi : ∀ r, init.1 (ix2 r l) = seq a b 0 T) (hi' : ∀ r, init.2 (ix2 r l) = a T)
include hfine hT ha hb hi hi'

theorem carry1_lam1 : ∀ n ≤ 64, (∀ r, carry1 (F := Ideal) xa xg xd init n (ix2 r l) = seq a b 0 (T + 8 * n))
    ∧ (∀ r, adec1 (F := Ideal) xa init.2 n (ix2 r l) = a (T + 8 * n))
    ∧ (n < 64 → ∀ r : Fin 8, grp1 (F := Ideal) (carry1 (F := Ideal) xa xg xd init n) (adec1 (F := Ideal) xa init.2 n) (rowsI xa (63 - n))
        (k1_pay13 (F := Ideal) (rowsI xg (63 - n)) (rowsI xd (63 - n))) (ix2 r l) = seq a b 0 (T + 8 * n + (7 - r.val) + 1)) := by
  have step : ∀ n, n < 64 → (∀ r, carry1 (F := Ideal) xa xg xd init n (ix2 r l) = seq a b 0 (T + 8 * n)) →
      (∀ r, adec1 (F := Ideal) xa init.2 n (ix2 r l) = a (T + 8 * n)) →
      ∀ r : Fin 8, grp1 (F := Ideal) (carry1 (F := Ideal) xa xg xd init n) (adec1 (F := Ideal) xa init.2 n) (rowsI xa (63 - n))
        (k1_pay13 (F := Ideal) (rowsI xg (63 - n)) (rowsI xd (63 - n))) (ix2 r l) = seq a b 0 (T + 8 * n + (7 - r.val) + 1) := fun n hn hc hc' r => by
    have hlt : ∀ r : Fin 8, 8 * (63 - n) + r.val < 512 := fun r => by have := r.isLt; omega
    refine grp1_seq _ _ (rowsI xa (63 - n)) _ l a b 0 (T + 8 * n) (fun r => by rw [rows_apply xa (63 - n) r l (hlt r)]; exact hfine _) hc' ?_
      (fun r _ => by
        rw [rows_apply xa (63 - n) r l (hlt r), ha]
        have := r.isLt
        exact congrArg a (by show T + (512 - (8 * (63 - n) + r.val)) = _; omega))
      (fun r => by
        rw [pay13_apply, rows_apply xd (63 - n) r l (hlt r), rows_apply xg (63 - n) r l (hlt r), hb]
        have := r.isLt
        exact congrArg b (by show T + (511 - (8 * (63 - n) + r.val)) = _; omega))
      hc r
    rcases Nat.eq_zero_or_pos n with rfl | h0
    · exact hT
    · have h := hfine ⟨512 - 8 * n, by omega⟩
      rw [ha] at h
      rwa [show T + (512 - (⟨512 - 8 * n, by omega⟩ : Fin 512).val) = T + 8 * n from by show T + (512 - (512 - 8 * n)) = _; omega] at h
  intro n
  induction n with
  | zero => exact fun _ => ⟨hi, hi', fun h0 => step 0 h0 hi hi'⟩
  | succ n ih =>
    intro hn
    have hc : ∀ r, carry1 (F := Ideal) xa xg xd init (n + 1) (ix2 r l) = seq a b 0 (T + 8 * (n + 1)) := fun r => by
      show k1_pay20 (F := Ideal) (k1_pay19 rowNo _ _ _ _) (ix2 r l) = _
      rw [pay20_apply]
      exact ((ih (by omega)).2.2 (by omega) 0).trans (congrArg (seq a b 0) (by show T + 8 * n + (7 - 0) + 1 = _; omega))
    have hc' : ∀ r, adec1 (F := Ideal) xa init.2 (n + 1) (ix2 r l) = a (T + 8 * (n + 1)) := fun r => by
      show k1_pay7 (F := Ideal) (rowsI xa (63 - n)) (ix2 r l) = _
      rw [pay7_apply, rows_apply xa (63 - n) 0 l (by show 8 * (63 - n) + 0 < 512; omega), ha]
      exact congrArg a (by show T + (512 - (8 * (63 - n) + 0)) = _; omega)
    exact ⟨hc, hc', fun h => step (n + 1) h hc hc'⟩

theorem lam1_block (R : Fin 512) :
    ofRows (Val := Elt Ideal) (e := .f32) (lam1 (F := Ideal) xa xg xd init) (ix2 R l) = seq a b 0 (T + (511 - R.val) + 1) := by
  have hR := R.isLt
  have h := (carry1_lam1 xa xg xd init l a b T hfine hT ha hb hi hi' (63 - R.val / 8) (by omega)).2.2 (by omega) ⟨R.val % 8, by omega⟩
  rw [show 63 - (63 - R.val / 8) = R.val / 8 from by omega] at h
  exact h.trans (congrArg (seq a b 0) (by show T + 8 * (63 - R.val / 8) + (7 - R.val % 8) + 1 = _; omega))

theorem carry1_block (r : Fin 8) : carry1 (F := Ideal) xa xg xd init 64 (ix2 r l) = seq a b 0 (T + 512) :=
  (carry1_lam1 xa xg xd init l a b T hfine hT ha hb hi hi' 64 le_rfl).1 r

theorem adec1_block (r : Fin 8) : adec1 (F := Ideal) xa init.2 64 (ix2 r l) = a (T + 512) :=
  (carry1_lam1 xa xg xd init l a b T hfine hT ha hb hi hi' 64 le_rfl).2.1 r

end Reverse

theorem dgate1_block (xg xh xd : FVec Ideal S512x512 .f32) (l R : Fin 512) :
    ofRows (Val := Elt Ideal) (e := .bf16) (dgate1 (F := Ideal) xg xh xd) (ix2 R l) = gGrad (xg (ix2 R l)) (xh (ix2 R l)) (xd (ix2 R l)) := by
  have hR := R.isLt
  refine (dgrp_apply (rowsI xg (R.val / 8)) (rowsI xh (R.val / 8)) (rowsI xd (R.val / 8)) (ix2 ⟨R.val % 8, by omega⟩ l)).trans ?_
  have h : 8 * (R.val / 8) + R.val % 8 = R.val := by omega
  have hk : ∀ x : FVec Ideal S512x512 .f32, rowsI x (R.val / 8) (ix2 ⟨R.val % 8, by omega⟩ l) = x (ix2 R l) := fun x =>
    (rows_apply x (R.val / 8) ⟨R.val % 8, by omega⟩ l (by show 8 * (R.val / 8) + R.val % 8 < 512; omega)).trans
      (congrArg (fun k => x (ix2 k l)) (Fin.ext h))
  rw [hk xg, hk xh, hk xd]

end Cert.KernelIdeal.Scan

end
-- ==== Proof.KernelValue0.lean ====
/-
  The forward scan's arrays over the extended reals: along every column the recurrence's states from zero, the states
  before each row, and the gated states.
-/
module

public import proofs.«01_k».proof.Proof.BlockValue
public import proofs.«01_k».proof.Proof.ScanEnd
public import Idealize.ShloMosaic.Lib.Pipeline.ValueKit
public import Idealize.ShloMosaic.Lib.ValueIdxCoords

@[expose] public section

noncomputable section

namespace Cert.KernelIdeal.Scan

open Idealize.ShloMosaic hiding ix2 ix2_0 ix2_1
open Idealize.ShloMosaic.TcCoe Idealize.ShloMosaic.ValueIdx Cert.KernelIdeal.Gen

/-- Column `L` of an array, row by row (rows counted round). -/
def col (X : FVec Ideal S4096x1024 .f32) (L : Fin 1024) (n : ℕ) : EReal := X (ix2 ⟨n % 4096, Nat.mod_lt _ (by decide)⟩ L)

/-- The recurrence's state before row `n` in column `L`. -/
def state (A B : FVec Ideal S4096x1024 .f32) (L : Fin 1024) (n : ℕ) : EReal := seq (col A L) (col B L) 0 n

/-- Column `L` of the gate: the second half of the projection. -/
def gateAt (P : FVec Ideal S4096x2048 .f32) (t : Fin 4096) (L : Fin 1024) : EReal := P (ix2 t ⟨1024 + L.val, by have := L.isLt; omega⟩)

theorem col_of {X : FVec Ideal S4096x1024 .f32} {L : Fin 1024} {n : ℕ} (t : Fin 4096) (h : n = t.val) : col X L n = X (ix2 t L) :=
  congrArg (fun k => X (ix2 k L)) (Fin.ext (by show n % 4096 = t.val; rw [h]; exact Nat.mod_eq_of_lt t.isLt))

variable (m : (ℓ : Loc nD τ sig) → Buf (Elt Ideal) ℓ) (ρ : Dev nD → PrngReg)

/-- The arguments as launched. -/
abbrev argA (c : Dev nD) : FVec Ideal S4096x1024 .f32 := m ((c : Thread nD τ).loc main_arg0)
abbrev argB (c : Dev nD) : FVec Ideal S4096x1024 .f32 := m ((c : Thread nD τ).loc main_arg1)
abbrev argP (c : Dev nD) : FVec Ideal S4096x2048 .f32 := m ((c : Thread nD τ).loc main_arg2)
abbrev argD (c : Dev nD) : FVec Ideal S4096x1024 .f32 := m ((c : Thread nD τ).loc main_arg3)

/-! ### The blocks -/

theorem ix0_0 : ∀ t : Fin cfg0.N, (cfg0.win 0).index t 0 = t.val % 8 ∧ (cfg0.win 0).index t 1 = t.val / 8 := by decide +kernel
theorem ix0_1 : ∀ t : Fin cfg0.N, (cfg0.win 1).index t 0 = t.val % 8 ∧ (cfg0.win 1).index t 1 = 2 + t.val / 8 := by decide +kernel
theorem ix0_2 : ∀ t : Fin cfg0.N, (cfg0.win 2).index t 0 = t.val % 8 ∧ (cfg0.win 2).index t 1 = t.val / 8 := by decide +kernel
theorem ix0_3 : ∀ t : Fin cfg0.N, (cfg0.win 3).index t 0 = t.val % 8 ∧ (cfg0.win 3).index t 1 = t.val / 8 := by decide +kernel
theorem ix0_4 : ∀ t : Fin cfg0.N, (cfg0.win 4).index t 0 = t.val % 8 ∧ (cfg0.win 4).index t 1 = t.val / 8 := by decide +kernel
theorem ix0_5 : ∀ t : Fin cfg0.N, (cfg0.win 5).index t 0 = t.val % 8 ∧ (cfg0.win 5).index t 1 = t.val / 8 := by decide +kernel

theorem lt0 (t : Fin cfg0.N) : t.val < 16 := Nat.lt_of_lt_of_eq t.isLt (show cfg0.N = 16 from N_0)

/-- The array row and column of a block's element at point `t`. -/
def rowAt (t : ℕ) (R : Fin 512) : Fin 4096 := ⟨512 * (t % 8) + R.val, by have := R.isLt; omega⟩
def colAt (t : ℕ) (l : Fin 512) : Fin 1024 := ⟨(512 * (t / 8) + l.val) % 1024, Nat.mod_lt _ (by decide)⟩

theorem blkA (c : Dev nD) (t : Fin cfg0.N) (R l : Fin 512) : iblk0 (V0 m ρ) c 0 t (ix2 R l) = argA m c (ix2 (rowAt t.val R) (colAt t.val l)) := by
  have ht := lt0 t
  have e0 := (ix0_0 t).1
  have e1 := (ix0_0 t).2
  unfold rowAt colAt
  blk_ext [iblk0, e0, e1]
  · show t.val % 8 * 512 + R.val = 512 * (t.val % 8) + R.val; omega
  · show t.val / 8 * 512 + l.val = (512 * (t.val / 8) + l.val) % 1024; omega

theorem blkG (c : Dev nD) (t : Fin cfg0.N) (R l : Fin 512) : iblk0 (V0 m ρ) c 1 t (ix2 R l) = gateAt (argP m c) (rowAt t.val R) (colAt t.val l) := by
  have ht := lt0 t
  have e0 := (ix0_1 t).1
  have e1 := (ix0_1 t).2
  unfold rowAt colAt gateAt
  blk_ext [iblk0, e0, e1]
  · show t.val % 8 * 512 + R.val = 512 * (t.val % 8) + R.val; omega
  · show (2 + t.val / 8) * 512 + l.val = 1024 + (512 * (t.val / 8) + l.val) % 1024; omega

theorem blkB (c : Dev nD) (t : Fin cfg0.N) (R l : Fin 512) : iblk0 (V0 m ρ) c 2 t (ix2 R l) = argB m c (ix2 (rowAt t.val R) (colAt t.val l)) := by
  have ht := lt0 t
  have e0 := (ix0_2 t).1
  have e1 := (ix0_2 t).2
  unfold rowAt colAt
  blk_ext [iblk0, e0, e1]
  · show t.val % 8 * 512 + R.val = 512 * (t.val % 8) + R.val; omega
  · show t.val / 8 * 512 + l.val = (512 * (t.val / 8) + l.val) % 1024; omega

/-! ### What each point starts from -/

/-- Every decay of the device's argument is at least zero and finite. -/
abbrev FineA (c : Dev nD) : Prop := ∀ i, Fine (argA m c i)

theorem colA_of (c : Dev nD) (t : Fin cfg0.N) (R l : Fin 512) :
    iblk0 (V0 m ρ) c 0 t (ix2 R l) = col (argA m c) (colAt t.val l) (512 * (t.val % 8) + R.val) :=
  (blkA m ρ c t R l).trans (col_of (rowAt t.val R) rfl).symm

theorem colB_of (c : Dev nD) (t : Fin cfg0.N) (R l : Fin 512) :
    iblk0 (V0 m ρ) c 2 t (ix2 R l) = col (argB m c) (colAt t.val l) (512 * (t.val % 8) + R.val) :=
  (blkB m ρ c t R l).trans (col_of (rowAt t.val R) rfl).symm

theorem pay1_zero0 (i : S8x512.Idx) : k0_pay1 (F := Ideal) i = 0 := by
  unfold k0_pay1; pointwise

theorem start0_value (c : Dev nD) (hA : FineA m c) : ∀ n < 16, ∀ (r : Fin 8) (l : Fin 512),
    (start0 (V0 m ρ) c n).1 (ix2 r l) = state (argA m c) (argB m c) (colAt n l) (512 * (n % 8)) := by
  intro n
  induction n with
  | zero => exact fun _ r l => pay1_zero0 (ix2 r l)
  | succ n ih =>
    intro hn r l
    unfold start0
    by_cases h0 : (n + 1) % 8 = 0
    · rw [if_pos h0, h0]; exact pay1_zero0 (ix2 r l)
    rw [if_neg h0, scr0_succ]
    have hp : pt0 n = (⟨n, Nat.lt_of_lt_of_eq (by omega : n < 16) (show cfg0.N = 16 from N_0).symm⟩ : Fin cfg0.N) := pt0_val ⟨n, _⟩
    rw [hp]
    refine (carry0_block _ _ _ l (col (argA m c) (colAt n l)) (col (argB m c) (colAt n l)) (512 * (n % 8)) (fun R => ?_)
      (fun R => colA_of m ρ c ⟨n, _⟩ R l) (fun R => colB_of m ρ c ⟨n, _⟩ R l) (fun r => ih (by omega) r l) r).trans ?_
    · rw [blkA]; exact hA _
    · have e : colAt (n + 1) l = colAt n l := Fin.ext (by show (512 * ((n + 1) / 8) + l.val) % 1024 = (512 * (n / 8) + l.val) % 1024; rw [show (n + 1) / 8 = n / 8 by omega])
      rw [e]; exact congrArg (seq _ _ 0) (by omega)

/-! ### The blocks written -/

section Blocks

variable (c : Dev nD) (hA : FineA m c) (t : Fin cfg0.N) (R l : Fin 512)
include hA

theorem hid_at : ofRows (Val := Elt Ideal) (e := .f32) (hid0 (F := Ideal) (iblk0 (V0 m ρ) c 0 t) (iblk0 (V0 m ρ) c 2 t) (start0 (V0 m ρ) c t.val).1) (ix2 R l)
    = state (argA m c) (argB m c) (colAt t.val l) (512 * (t.val % 8) + R.val + 1) :=
  hid0_block _ _ _ l _ _ _ (fun R => by rw [blkA]; exact hA _) (fun R => colA_of m ρ c t R l) (fun R => colB_of m ρ c t R l)
    (fun r => start0_value m ρ c hA t.val (lt0 t) r l) R

theorem prev_at : ofRows (Val := Elt Ideal) (e := .f32) (prev0 (F := Ideal) (iblk0 (V0 m ρ) c 0 t) (iblk0 (V0 m ρ) c 2 t) (start0 (V0 m ρ) c t.val).1) (ix2 R l)
    = state (argA m c) (argB m c) (colAt t.val l) (512 * (t.val % 8) + R.val) :=
  prev0_block _ _ _ l _ _ _ (fun R => by rw [blkA]; exact hA _) (fun R => colA_of m ρ c t R l) (fun R => colB_of m ρ c t R l)
    (fun r => start0_value m ρ c hA t.val (lt0 t) r l) R

theorem gated_at : ofRows (Val := Elt Ideal) (e := .bf16) (gated0 (F := Ideal) (iblk0 (V0 m ρ) c 0 t) (iblk0 (V0 m ρ) c 1 t) (iblk0 (V0 m ρ) c 2 t) (start0 (V0 m ρ) c t.val).1) (ix2 R l)
    = state (argA m c) (argB m c) (colAt t.val l) (512 * (t.val % 8) + R.val + 1) * gGelu (gateAt (argP m c) (rowAt t.val R) (colAt t.val l)) := by
  rw [← blkG m ρ]
  exact gated0_block _ _ _ l _ _ _ (fun R => by rw [blkA]; exact hA _) (fun R => colA_of m ρ c t R l) (fun R => colB_of m ρ c t R l)
    (fun r => start0_value m ρ c hA t.val (lt0 t) r l) _ R

end Blocks

/-! ### The arrays -/

theorem blockIdx (y : S512x512.Idx) : ∃ R l : Fin 512, y = ix2 R l :=
  ⟨y 0, y 1, funext (Fin.forall_fin_two.mpr ⟨rfl, rfl⟩)⟩

/-- A block's element at point `t` lies in the array at `rowAt`, `colAt`. -/
theorem place0_3 (t : Fin cfg0.N) (R l : Fin 512) : ((cfg0.win 3).blk t).view.emb (ix2 R l) = ix2 (rowAt t.val R) (colAt t.val l) := by
  have ht := lt0 t
  have e0 := (ix0_3 t).1
  have e1 := (ix0_3 t).2
  unfold rowAt colAt
  blk_ext [e0, e1]
  · show t.val % 8 * 512 + R.val = 512 * (t.val % 8) + R.val; omega
  · show t.val / 8 * 512 + l.val = (512 * (t.val / 8) + l.val) % 1024; omega

theorem place0_4 (t : Fin cfg0.N) (R l : Fin 512) : ((cfg0.win 4).blk t).view.emb (ix2 R l) = ix2 (rowAt t.val R) (colAt t.val l) := by
  have ht := lt0 t
  have e0 := (ix0_4 t).1
  have e1 := (ix0_4 t).2
  unfold rowAt colAt
  blk_ext [e0, e1]
  · show t.val % 8 * 512 + R.val = 512 * (t.val % 8) + R.val; omega
  · show t.val / 8 * 512 + l.val = (512 * (t.val / 8) + l.val) % 1024; omega

theorem place0_5 (t : Fin cfg0.N) (R l : Fin 512) : ((cfg0.win 5).blk t).view.emb (ix2 R l) = ix2 (rowAt t.val R) (colAt t.val l) := by
  have ht := lt0 t
  have e0 := (ix0_5 t).1
  have e1 := (ix0_5 t).2
  unfold rowAt colAt
  blk_ext [e0, e1]
  · show t.val % 8 * 512 + R.val = 512 * (t.val % 8) + R.val; omega
  · show t.val / 8 * 512 + l.val = (512 * (t.val / 8) + l.val) % 1024; omega

/-- The states after each row. -/
def hOf (A B : FVec Ideal S4096x1024 .f32) : FVec Ideal S4096x1024 .f32 := fun i => state A B (i 1) ((i 0).val + 1)
/-- The states before each row. -/
def prevOf (A B : FVec Ideal S4096x1024 .f32) : FVec Ideal S4096x1024 .f32 := fun i => state A B (i 1) (i 0).val
/-- The gated states. -/
def gatedOf (A B : FVec Ideal S4096x1024 .f32) (P : FVec Ideal S4096x2048 .f32) : FVec Ideal S4096x1024 .bf16 :=
  fun i => state A B (i 1) ((i 0).val + 1) * gGelu (gateAt P (i 0) (i 1))

theorem arr_h (c : Dev nD) (hA : FineA m c) : (dat0 (V0 m ρ) c).arrAt 3 cfg0.N = hOf (argA m c) (argB m c) := by
  refine (dat0 (V0 m ρ) c).arrAt_eq_of_covers 3 _ (by decide +kernel) fun t hf y => ?_
  obtain ⟨R, l, rfl⟩ := blockIdx y
  rw [place0_3 t R l, after0_3]
  exact hid_at m ρ c hA t R l

theorem arr_prev (c : Dev nD) (hA : FineA m c) : (dat0 (V0 m ρ) c).arrAt 4 cfg0.N = prevOf (argA m c) (argB m c) := by
  refine (dat0 (V0 m ρ) c).arrAt_eq_of_covers 4 _ (by decide +kernel) fun t hf y => ?_
  obtain ⟨R, l, rfl⟩ := blockIdx y
  rw [place0_4 t R l, after0_4]
  exact prev_at m ρ c hA t R l

theorem arr_gated (c : Dev nD) (hA : FineA m c) : (dat0 (V0 m ρ) c).arrAt 5 cfg0.N = gatedOf (argA m c) (argB m c) (argP m c) := by
  refine (dat0 (V0 m ρ) c).arrAt_eq_of_covers 5 _ (by decide +kernel) fun t hf y => ?_
  obtain ⟨R, l, rfl⟩ := blockIdx y
  rw [place0_5 t R l, after0_5]
  exact gated_at m ρ c hA t R l

end Cert.KernelIdeal.Scan

end
-- ==== Proof.KernelValue1.lean ====
/-
  The reverse scan's arrays over the extended reals: along every column the reverse recurrence, rows counted from the
  last, and the gradient at the gate.
-/
module

public import proofs.«01_k».proof.Proof.KernelValue0

@[expose] public section

noncomputable section

namespace Cert.KernelIdeal.Scan

open Idealize.ShloMosaic hiding ix2 ix2_0 ix2_1
open Idealize.ShloMosaic.TcCoe Idealize.ShloMosaic.ValueIdx Cert.KernelIdeal.Gen

/-- The factor of the reverse recurrence's step `n`: the decay of the row after row `4095 - n`; none at the first step. -/
def rdec (A : FVec Ideal S4096x1024 .f32) (L : Fin 1024) (n : ℕ) : EReal := if n = 0 then 0 else col A L (4096 - n)

/-- The gradient that reaches row `t`'s state through its gated value. -/
def rdh (P : FVec Ideal S4096x2048 .f32) (D : FVec Ideal S4096x1024 .f32) (t : Fin 4096) (L : Fin 1024) : EReal :=
  D (ix2 t L) * gGelu (gateAt P t L)

/-- What step `n` of the reverse recurrence adds: that gradient at row `4095 - n`. -/
def rin (P : FVec Ideal S4096x2048 .f32) (D : FVec Ideal S4096x1024 .f32) (L : Fin 1024) (n : ℕ) : EReal :=
  rdh P D ⟨(4095 - n) % 4096, Nat.mod_lt _ (by decide)⟩ L

/-- The gradient at the states. -/
def lamOf (A : FVec Ideal S4096x1024 .f32) (P : FVec Ideal S4096x2048 .f32) (D : FVec Ideal S4096x1024 .f32) : FVec Ideal S4096x1024 .f32 :=
  fun i => seq (rdec A (i 1)) (rin P D (i 1)) 0 (4095 - (i 0).val + 1)

/-- The gradient at the gate. -/
def dgateOf (A B : FVec Ideal S4096x1024 .f32) (P : FVec Ideal S4096x2048 .f32) (D : FVec Ideal S4096x1024 .f32) (t : Fin 4096) (L : Fin 1024) : EReal :=
  gGrad (gateAt P t L) (hOf A B (ix2 t L)) (D (ix2 t L))

variable (m : (ℓ : Loc nD τ sig) → Buf (Elt Ideal) ℓ) (ρ : Dev nD → PrngReg)

/-! ### The blocks -/

theorem ix1_0 : ∀ t : Fin cfg1.N, (cfg1.win 0).index t 0 = 7 - t.val % 8 ∧ (cfg1.win 0).index t 1 = t.val / 8 := by decide +kernel
theorem ix1_1 : ∀ t : Fin cfg1.N, (cfg1.win 1).index t 0 = 7 - t.val % 8 ∧ (cfg1.win 1).index t 1 = 2 + t.val / 8 := by decide +kernel
theorem ix1_2 : ∀ t : Fin cfg1.N, (cfg1.win 2).index t 0 = 7 - t.val % 8 ∧ (cfg1.win 2).index t 1 = t.val / 8 := by decide +kernel
theorem ix1_3 : ∀ t : Fin cfg1.N, (cfg1.win 3).index t 0 = 7 - t.val % 8 ∧ (cfg1.win 3).index t 1 = t.val / 8 := by decide +kernel
theorem ix1_4 : ∀ t : Fin cfg1.N, (cfg1.win 4).index t 0 = 7 - t.val % 8 ∧ (cfg1.win 4).index t 1 = t.val / 8 := by decide +kernel
theorem ix1_5 : ∀ t : Fin cfg1.N, (cfg1.win 5).index t 0 = 7 - t.val % 8 ∧ (cfg1.win 5).index t 1 = 2 + t.val / 8 := by decide +kernel

theorem lt1 (t : Fin cfg1.N) : t.val < 16 := Nat.lt_of_lt_of_eq t.isLt (show cfg1.N = 16 from N_1)

/-- The array row of a block's element at point `t`: blocks from the last to the first. -/
def rowAt1 (t : ℕ) (R : Fin 512) : Fin 4096 := ⟨512 * (7 - t % 8) + R.val, by have := R.isLt; omega⟩

theorem V1_a (c : Dev nD) : V1 m ρ c (Proc.devRef .tc main_arg0) = argA m c := V1_keeps m ρ c main_arg0 (by decide)
theorem V1_p (c : Dev nD) : V1 m ρ c (Proc.devRef .tc main_arg2) = argP m c := V1_keeps m ρ c main_arg2 (by decide)
theorem V1_d (c : Dev nD) : V1 m ρ c (Proc.devRef .tc main_arg3) = argD m c := V1_keeps m ρ c main_arg3 (by decide)

theorem blk1A (c : Dev nD) (t : Fin cfg1.N) (R l : Fin 512) : iblk1 (V1 m ρ) c 0 t (ix2 R l) = argA m c (ix2 (rowAt1 t.val R) (colAt t.val l)) := by
  rw [← V1_a m ρ c]
  have ht := lt1 t
  have e0 := (ix1_0 t).1
  have e1 := (ix1_0 t).2
  unfold rowAt1 colAt
  blk_ext [iblk1, e0, e1]
  · show (7 - t.val % 8) * 512 + R.val = 512 * (7 - t.val % 8) + R.val; omega
  · show t.val / 8 * 512 + l.val = (512 * (t.val / 8) + l.val) % 1024; omega

theorem blk1G (c : Dev nD) (t : Fin cfg1.N) (R l : Fin 512) : iblk1 (V1 m ρ) c 1 t (ix2 R l) = gateAt (argP m c) (rowAt1 t.val R) (colAt t.val l) := by
  rw [← V1_p m ρ c]
  have ht := lt1 t
  have e0 := (ix1_1 t).1
  have e1 := (ix1_1 t).2
  unfold rowAt1 colAt gateAt
  blk_ext [iblk1, e0, e1]
  · show (7 - t.val % 8) * 512 + R.val = 512 * (7 - t.val % 8) + R.val; omega
  · show (2 + t.val / 8) * 512 + l.val = 1024 + (512 * (t.val / 8) + l.val) % 1024; omega

theorem blk1H (c : Dev nD) (hA : FineA m c) (t : Fin cfg1.N) (R l : Fin 512) :
    iblk1 (V1 m ρ) c 2 t (ix2 R l) = hOf (argA m c) (argB m c) (ix2 (rowAt1 t.val R) (colAt t.val l)) := by
  rw [← arr_h m ρ c hA, ← V1_h m ρ c]
  have ht := lt1 t
  have e0 := (ix1_2 t).1
  have e1 := (ix1_2 t).2
  unfold rowAt1 colAt
  blk_ext [iblk1, e0, e1]
  · show (7 - t.val % 8) * 512 + R.val = 512 * (7 - t.val % 8) + R.val; omega
  · show t.val / 8 * 512 + l.val = (512 * (t.val / 8) + l.val) % 1024; omega

theorem blk1D (c : Dev nD) (t : Fin cfg1.N) (R l : Fin 512) : iblk1 (V1 m ρ) c 3 t (ix2 R l) = argD m c (ix2 (rowAt1 t.val R) (colAt t.val l)) := by
  rw [← V1_d m ρ c]
  have ht := lt1 t
  have e0 := (ix1_3 t).1
  have e1 := (ix1_3 t).2
  unfold rowAt1 colAt
  blk_ext [iblk1, e0, e1]
  · show (7 - t.val % 8) * 512 + R.val = 512 * (7 - t.val % 8) + R.val; omega
  · show t.val / 8 * 512 + l.val = (512 * (t.val / 8) + l.val) % 1024; omega

/-! ### What each point starts from -/

theorem rdec_of (c : Dev nD) (t : Fin cfg1.N) (R l : Fin 512) :
    iblk1 (V1 m ρ) c 0 t (ix2 R l) = rdec (argA m c) (colAt t.val l) (512 * (t.val % 8) + (512 - R.val)) := by
  have hR := R.isLt
  rw [blk1A]
  unfold rdec
  rw [if_neg (by omega)]
  exact (col_of (rowAt1 t.val R) (by show _ = 512 * (7 - t.val % 8) + R.val; omega)).symm

theorem rin_of (c : Dev nD) (t : Fin cfg1.N) (R l : Fin 512) :
    (show EReal from iblk1 (V1 m ρ) c 3 t (ix2 R l)) * gGelu (iblk1 (V1 m ρ) c 1 t (ix2 R l)) = rin (argP m c) (argD m c) (colAt t.val l) (512 * (t.val % 8) + (511 - R.val)) := by
  have hR := R.isLt
  rw [blk1D, blk1G]
  unfold rin
  exact congrArg (fun k => rdh (argP m c) (argD m c) k (colAt t.val l))
    (Fin.ext (by show 512 * (7 - t.val % 8) + R.val = (4095 - (512 * (t.val % 8) + (511 - R.val))) % 4096; omega))

theorem pay1_zero1 (i : S8x512.Idx) : k1_pay1 (F := Ideal) i = 0 := by unfold k1_pay1; pointwise
theorem pay2_zero1 (i : S8x512.Idx) : k1_pay2 (F := Ideal) i = 0 := by unfold k1_pay2; pointwise

theorem rdec_fine (c : Dev nD) (hA : FineA m c) (L : Fin 1024) (n : ℕ) : Fine (rdec (argA m c) L n) := by
  unfold rdec
  split
  · exact ⟨le_rfl, EReal.zero_ne_top⟩
  · exact hA _

theorem start1_value (c : Dev nD) (hA : FineA m c) : ∀ n < 16, ∀ (r : Fin 8) (l : Fin 512),
    (start1 (V1 m ρ) c n).1 (ix2 r l) = seq (rdec (argA m c) (colAt n l)) (rin (argP m c) (argD m c) (colAt n l)) 0 (512 * (n % 8))
    ∧ (start1 (V1 m ρ) c n).2 (ix2 r l) = rdec (argA m c) (colAt n l) (512 * (n % 8)) := by
  intro n
  induction n with
  | zero => exact fun _ r l => ⟨pay1_zero1 (ix2 r l), pay2_zero1 (ix2 r l)⟩
  | succ n ih =>
    intro hn r l
    unfold start1
    by_cases h0 : (n + 1) % 8 = 0
    · rw [if_pos h0, h0]; exact ⟨pay1_zero1 (ix2 r l), pay2_zero1 (ix2 r l)⟩
    rw [if_neg h0, scr1_succ]
    have hp : pt1 n = (⟨n, Nat.lt_of_lt_of_eq (by omega : n < 16) (show cfg1.N = 16 from N_1).symm⟩ : Fin cfg1.N) := pt1_val ⟨n, _⟩
    rw [hp]
    have e : colAt (n + 1) l = colAt n l := Fin.ext (by show (512 * ((n + 1) / 8) + l.val) % 1024 = (512 * (n / 8) + l.val) % 1024; rw [show (n + 1) / 8 = n / 8 by omega])
    have en : 512 * ((n + 1) % 8) = 512 * (n % 8) + 512 := by omega
    rw [e, en]
    obtain ⟨q, hq⟩ : ∃ q : Fin cfg1.N, q.val = n := ⟨⟨n, Nat.lt_of_lt_of_eq (by omega : n < 16) (show cfg1.N = 16 from N_1).symm⟩, rfl⟩
    subst hq
    have hfine : ∀ R, Fine (iblk1 (V1 m ρ) c 0 q (ix2 R l)) := fun R => by rw [blk1A]; exact hA _
    exact ⟨carry1_block (iblk1 (V1 m ρ) c 0 q) (iblk1 (V1 m ρ) c 1 q) (iblk1 (V1 m ρ) c 3 q) (start1 (V1 m ρ) c q.val) l _ _ (512 * (q.val % 8)) hfine
        (rdec_fine m c hA _ _) (fun R => rdec_of m ρ c q R l) (fun R => rin_of m ρ c q R l) (fun r => (ih (by omega) r l).1) (fun r => (ih (by omega) r l).2) r,
      adec1_block (iblk1 (V1 m ρ) c 0 q) (iblk1 (V1 m ρ) c 1 q) (iblk1 (V1 m ρ) c 3 q) (start1 (V1 m ρ) c q.val) l _ _ (512 * (q.val % 8)) hfine
        (rdec_fine m c hA _ _) (fun R => rdec_of m ρ c q R l) (fun R => rin_of m ρ c q R l) (fun r => (ih (by omega) r l).1) (fun r => (ih (by omega) r l).2) r⟩

/-! ### The arrays -/

theorem lam_at (c : Dev nD) (hA : FineA m c) (t : Fin cfg1.N) (R l : Fin 512) :
    ofRows (Val := Elt Ideal) (e := .f32) (lam1 (F := Ideal) (iblk1 (V1 m ρ) c 0 t) (iblk1 (V1 m ρ) c 1 t) (iblk1 (V1 m ρ) c 3 t) (start1 (V1 m ρ) c t.val)) (ix2 R l)
    = lamOf (argA m c) (argP m c) (argD m c) (ix2 (rowAt1 t.val R) (colAt t.val l)) :=
  (lam1_block _ _ _ _ l _ _ (512 * (t.val % 8)) (fun R => by rw [blk1A]; exact hA _) (rdec_fine m c hA _ _)
    (fun R => rdec_of m ρ c t R l) (fun R => rin_of m ρ c t R l) (fun r => (start1_value m ρ c hA t.val (lt1 t) r l).1)
    (fun r => (start1_value m ρ c hA t.val (lt1 t) r l).2) R).trans
    (congrArg (seq _ _ 0) (by have := R.isLt; show _ = 4095 - (512 * (7 - t.val % 8) + R.val) + 1; omega))

theorem dgate_at (c : Dev nD) (hA : FineA m c) (t : Fin cfg1.N) (R l : Fin 512) :
    ofRows (Val := Elt Ideal) (e := .bf16) (dgate1 (F := Ideal) (iblk1 (V1 m ρ) c 1 t) (iblk1 (V1 m ρ) c 2 t) (iblk1 (V1 m ρ) c 3 t)) (ix2 R l)
    = dgateOf (argA m c) (argB m c) (argP m c) (argD m c) (rowAt1 t.val R) (colAt t.val l) := by
  unfold dgateOf
  rw [← blk1D m ρ, ← blk1G m ρ, ← blk1H m ρ c hA]
  exact dgate1_block _ _ _ l R

theorem place1_4 (t : Fin cfg1.N) (R l : Fin 512) : ((cfg1.win 4).blk t).view.emb (ix2 R l) = ix2 (rowAt1 t.val R) (colAt t.val l) := by
  have ht := lt1 t
  have e0 := (ix1_4 t).1
  have e1 := (ix1_4 t).2
  unfold rowAt1 colAt
  blk_ext [e0, e1]
  · show (7 - t.val % 8) * 512 + R.val = 512 * (7 - t.val % 8) + R.val; omega
  · show t.val / 8 * 512 + l.val = (512 * (t.val / 8) + l.val) % 1024; omega

theorem place1_5 (t : Fin cfg1.N) (R l : Fin 512) :
    ((cfg1.win 5).blk t).view.emb (ix2 R l) = ix2 (rowAt1 t.val R) (⟨1024 + (colAt t.val l).val, by have := (colAt t.val l).isLt; omega⟩ : Fin 2048) := by
  have ht := lt1 t
  have e0 := (ix1_5 t).1
  have e1 := (ix1_5 t).2
  unfold rowAt1 colAt
  blk_ext [e0, e1]
  · show (7 - t.val % 8) * 512 + R.val = 512 * (7 - t.val % 8) + R.val; omega
  · show (2 + t.val / 8) * 512 + l.val = 1024 + (512 * (t.val / 8) + l.val) % 1024; omega

theorem arr_lam (c : Dev nD) (hA : FineA m c) : (dat1 (V1 m ρ) c).arrAt 4 cfg1.N = lamOf (argA m c) (argP m c) (argD m c) := by
  refine (dat1 (V1 m ρ) c).arrAt_eq_of_covers 4 _ (by decide +kernel) fun t hf y => ?_
  obtain ⟨R, l, rfl⟩ := blockIdx y
  rw [place1_4 t R l, after1_4]
  exact lam_at m ρ c hA t R l

/-- The gradient at the projection: at its gate half, the gradient at the gate; the other half is not written. -/
def dprojOf (A B : FVec Ideal S4096x1024 .f32) (P : FVec Ideal S4096x2048 .f32) (D : FVec Ideal S4096x1024 .f32) : FVec Ideal S4096x2048 .bf16 :=
  fun i => dgateOf A B P D (i 0) ⟨((i 1).val - 1024) % 1024, Nat.mod_lt _ (by decide)⟩

theorem arr_dproj (c : Dev nD) (hA : FineA m c) (i : S4096x2048.Idx) (hi : 1024 ≤ (i 1).val) :
    (dat1 (V1 m ρ) c).arrAt 5 cfg1.N i = dprojOf (argA m c) (argB m c) (argP m c) (argD m c) i := by
  refine ((dat1 (V1 m ρ) c).arrAt_apply_of_coversWhere 5 (dprojOf (argA m c) (argB m c) (argP m c) (argD m c)) (fun β => 2 ≤ β 1)
    (P := fun i => 1024 ≤ (i 1).val) (by decide +kernel) (fun t hf y => ?_) (fun j => by blk_simp [Pipeline.Window.cell_apply]; omega) i).trans (if_pos hi)
  obtain ⟨R, l, rfl⟩ := blockIdx y
  rw [place1_5 t R l, after1_5]
  refine (dgate_at m ρ c hA t R l).trans ?_
  unfold dprojOf
  exact congrArg (dgateOf _ _ _ _ (rowAt1 t.val R)) (Fin.ext (by have := (colAt t.val l).isLt; show (colAt t.val l).val = (1024 + (colAt t.val l).val - 1024) % 1024; omega))

end Cert.KernelIdeal.Scan

end
-- ==== Proof.RefHost.lean ====
/-
  The reference's host operations between and after its loops, over the extended reals, element by element: the states
  before each row, the gated states, the gradients at the state and at the gate, the results.
-/
module

public import proofs.«01_k».proof.Proof.RefTrips
public import proofs.«01_k».proof.Proof.KernelValue1

@[expose] public section

set_option maxRecDepth 100000
set_option maxHeartbeats 1000000

noncomputable section

namespace Cert.ReferenceIdeal.Rec

open Cert.ReferenceIdeal Cert.ReferenceIdeal.Gen
open Idealize.ShloMosaic hiding ix2 ix2_0 ix2_1
open Idealize.ShloMosaic.TcCoe Idealize.ShloMosaic.Tactic Idealize.ShloMosaic.ValueIdx
open Idealize.ShloMosaic.StableHlo
open Cert.KernelIdeal.Scan (gArg gHalf gGelu gGrad gateAt state seq)

variable (X : Valuation τ sig (Elt Ideal))

/-- The value in a buffer of floats, read at an index. -/
abbrev at2 (x : FVec Ideal S4096x1024 .f32) (i : S4096x1024.Idx) : EReal := x i

/-! ### Before the forward loop -/

theorem host0_gate : after hostOps0 X (Proc.devRef .tc main_v0)
    = extractStridedSlice S4096x1024 ![0, 1024] (X (Proc.devRef .tc main_arg2) : FVec Ideal S4096x2048 .f32) slices_S4096x2048_S4096x1024_0_1024 := by
  after_results
theorem host0_a : after hostOps0 X (Proc.devRef .tc main_v3_0) = X (Proc.devRef .tc main_arg0) := by
  after_results
  rfl
theorem host0_b : after hostOps0 X (Proc.devRef .tc main_v3_1) = X (Proc.devRef .tc main_arg1) := by
  after_results
  rfl
theorem host0_start : after hostOps0 X (Proc.devRef .tc main_v3_3) = fun _ => Ideal.ofBits .f32 0x00000000#32 := by
  after_results
  rfl

theorem gate_apply (P : FVec Ideal S4096x2048 .f32) (t : Fin 4096) (L : Fin 1024) :
    extractStridedSlice S4096x1024 ![0, 1024] P slices_S4096x2048_S4096x1024_0_1024 (ix2 t L) = gateAt P t L :=
  extractStridedSlice_apply _ P _ _ _ (Fin.forall_fin_two.mpr ⟨(Nat.zero_add _).symm, rfl⟩)

/-! ### Between the loops -/

theorem host1_prev : after hostOps0_1 X (Proc.devRef .tc main_v6)
    = concatenate S4096x1024 0 [⟨S1x1024, (fun _ => Ideal.ofBits .f32 0x00000000#32 : FVec Ideal S1x1024 .f32)⟩,
        ⟨S4095x1024, extractStridedSlice S4095x1024 ![0, 0] (X (Proc.devRef .tc main_v3_4) : FVec Ideal S4096x1024 .f32) slices_S4096x1024_S4095x1024_0_0⟩]
      concatenates_S1x1024_S4095x1024_S4096x1024_d0 := by
  after_results
  rfl

theorem prev_apply (H : FVec Ideal S4096x1024 .f32) (t : Fin 4096) (L : Fin 1024) :
    concatenate S4096x1024 0 [⟨S1x1024, (fun _ => Ideal.ofBits .f32 0x00000000#32 : FVec Ideal S1x1024 .f32)⟩,
        ⟨S4095x1024, extractStridedSlice S4095x1024 ![0, 0] H slices_S4096x1024_S4095x1024_0_0⟩]
      concatenates_S1x1024_S4095x1024_S4096x1024_d0 (ix2 t L)
      = if h : t.val = 0 then 0 else H (ix2 ⟨t.val - 1, by have := t.isLt; omega⟩ L) := by
  have ht := t.isLt
  split
  · rename_i h
    refine (concatenate_pair_apply_left (t := S4096x1024) (s₁ := S1x1024) (s₂ := S4095x1024) (0 : Fin 2) _ _ _ (ix2 t L) rfl (ix2 (0 : Fin 1) L)
      (Fin.forall_fin_two.mpr ⟨h.symm, rfl⟩)).trans ?_
    exact Ideal.ofBits_zero_f32
  · rename_i h
    refine (concatenate_pair_apply_right (t := S4096x1024) (s₁ := S1x1024) (s₂ := S4095x1024) (0 : Fin 2) _ _ _ (ix2 t L) rfl rfl (ix2 (⟨t.val - 1, by omega⟩ : Fin 4095) L)
      (Fin.forall_fin_two.mpr ⟨fun h => absurd rfl h, fun _ => rfl⟩) (by show t.val - 1 + 1 = t.val; omega)).trans ?_
    exact extractStridedSlice_apply _ H _ _ _ (Fin.forall_fin_two.mpr ⟨(Nat.zero_add _).symm, (Nat.zero_add _).symm⟩)

theorem host1_gated : after hostOps0_1 X (Proc.devRef .tc main_v28) = fun i => at2 (X (Proc.devRef .tc main_v3_4)) i
    * gGelu (at2 (X (Proc.devRef .tc main_v0)) i) := by
  after_results
  rfl

theorem host1_dh : after hostOps0_1 X (Proc.devRef .tc main_v46_0) = fun i => at2 (X (Proc.devRef .tc main_arg3)) i
    * gGelu (at2 (X (Proc.devRef .tc main_v0)) i) := by
  after_results
  rfl

theorem host1_dgate : after hostOps0_1 X (Proc.devRef .tc main_v42) = fun i => gGrad (at2 (X (Proc.devRef .tc main_v0)) i)
    (at2 (X (Proc.devRef .tc main_v3_4)) i) (at2 (X (Proc.devRef .tc main_arg3)) i) := by
  after_results
  rfl

theorem host1_a : after hostOps0_1 X (Proc.devRef .tc main_v46_1) = X (Proc.devRef .tc main_arg0) := by
  after_results
  rfl
theorem host1_start : after hostOps0_1 X (Proc.devRef .tc main_v46_3) = fun _ => Ideal.ofBits .f32 0x00000000#32 := by
  after_results
  rfl

/-! ### After the reverse loop -/

theorem host2_gated : after hostOps0_2 X (Proc.devRef .tc main_v49) = fun i => (X (Proc.devRef .tc main_v28) : FVec Ideal S4096x1024 .f32) i := by
  after_results
  rfl

theorem host2_dproj : after hostOps0_2 X (Proc.devRef .tc main_v50)
    = (concatenate S4096x2048 1 [⟨S4096x1024, (fun _ => Ideal.ofBits .f32 0x00000000#32 : FVec Ideal S4096x1024 .f32)⟩,
        ⟨S4096x1024, (X (Proc.devRef .tc main_v42) : FVec Ideal S4096x1024 .f32)⟩] concatenates_S4096x1024_S4096x1024_S4096x2048_d1 : FVec Ideal S4096x2048 .f32) := by
  after_results
  rfl

theorem dproj_apply (G : FVec Ideal S4096x1024 .f32) (i : S4096x2048.Idx) (hi : 1024 ≤ (i 1).val) :
    concatenate S4096x2048 1 [⟨S4096x1024, (fun _ => Ideal.ofBits .f32 0x00000000#32 : FVec Ideal S4096x1024 .f32)⟩, ⟨S4096x1024, G⟩]
      concatenates_S4096x1024_S4096x1024_S4096x2048_d1 i = G (ix2 (i 0) ⟨((i 1).val - 1024) % 1024, Nat.mod_lt _ (by decide)⟩) := by
  have h1 := (i 1).isLt
  refine concatenate_pair_apply_right (t := S4096x2048) (s₁ := S4096x1024) (s₂ := S4096x1024) (1 : Fin 2) _ _ _ i rfl rfl
    (ix2 (i 0) (⟨((i 1).val - 1024) % 1024, Nat.mod_lt _ (by decide)⟩ : Fin 1024)) (Fin.forall_fin_two.mpr ⟨fun _ => rfl, fun h => absurd rfl h⟩) ?_
  have h2 : (i 1).val < 2048 := h1
  show ((i 1).val - 1024) % 1024 + 1024 = (i 1).val
  omega

end Cert.ReferenceIdeal.Rec

end
-- ==== Proof.RefRows.lean ====
/-
  Reading and replacing one row of an array, over the extended reals, at an index.
-/
module

public import proofs.«01_k».proof.Proof.RefHost
public import Idealize.ShloMosaic.Lib.WordArith.Masks

@[expose] public section

noncomputable section

namespace Cert.ReferenceIdeal.Rec

open Cert.ReferenceIdeal Cert.ReferenceIdeal.Gen
open Idealize.ShloMosaic hiding ix2 ix2_0 ix2_1 ix1
open Idealize.ShloMosaic.TcCoe Idealize.ShloMosaic.ValueIdx

theorem toInt_trip {k : ℕ} (hk : k < 4096) : (Scf.iv 0#32 1#32 k).toInt = k := by
  have h : (Scf.iv 0#32 1#32 k).toNat = k := WordArith.toNat_iv_zero_one k (by omega)
  rw [BitVec.toInt_eq_toNat_of_lt (by rw [h]; omega), h]

theorem toInt_rev {k : ℕ} (hk : k < 4096) (i : S_.Idx) : (rowWord (fun _ => Scf.iv 0#32 1#32 k) i).toInt = (4095 - k : ℕ) := by
  have h : (Scf.iv 0#32 1#32 k).toNat = k := WordArith.toNat_iv_zero_one k (by omega)
  have e : (rowWord (fun _ => Scf.iv 0#32 1#32 k) i) = 4096#32 - Scf.iv 0#32 1#32 k - 1#32 := rfl
  have hn : (4096#32 - Scf.iv 0#32 1#32 k - 1#32).toNat = 4095 - k := by
    rw [BitVec.toNat_sub, BitVec.toNat_sub, h]
    simp only [BitVec.toNat_ofNat]
    omega
  rw [e, BitVec.toInt_eq_toNat_of_lt (by rw [hn]; omega), hn]

/-- Row `k` of an array, read at a column. -/
theorem getRow_apply (x : FVec Ideal S4096x1024 .f32) (w : IVec S_ 32) (k : Fin 4096)
    (hw : (w (Shape.Idx.first h_S_)).toInt = (k.val : ℕ)) (L : Fin 1024) : getRow x w (ix1 L) = x (ix2 k L) := by
  have hk : S4096x1024.Slices ![k.val, 0] S1x1024 := by
    refine ⟨rfl, fun a => ?_⟩
    have := k.isLt
    fin_cases a
    · show k.val + 1 ≤ 4096; omega
    · show 0 + 1024 ≤ 1024; omega
  unfold getRow
  rw [shapeCast_apply _ _ (ix1 L) (ix2 (0 : Fin 1) L) (by
      rw [Shape.rowMajor_val_two, Shape.rowMajor_val_one]; show 0 * 1024 + L.val = L.val; omega),
    WordCmp.dynamicSlice_eq_extract S1x1024 x _ _ ![k.val, 0] hk (fun a => by
      fin_cases a
      · exact hw
      · rfl)]
  refine extractStridedSlice_apply _ _ _ _ _ (fun a => ?_)
  fin_cases a
  · show k.val = k.val + 0; omega
  · show L.val = 0 + L.val; omega

/-- An array with row `k` replaced. -/
theorem putRow_apply (x : FVec Ideal S4096x1024 .f32) (v : FVec Ideal S1024 .f32) (w : IVec S_ 32) (k : Fin 4096)
    (hw : (w (Shape.Idx.first h_S_)).toInt = (k.val : ℕ)) (t : Fin 4096) (L : Fin 1024) :
    putRow x v w (ix2 t L) = if t = k then v (ix1 L) else x (ix2 t L) := by
  have hk : S4096x1024.Slices ![k.val, 0] S1x1024 := by
    refine ⟨rfl, fun a => ?_⟩
    have := k.isLt
    fin_cases a
    · show k.val + 1 ≤ 4096; omega
    · show 0 + 1024 ≤ 1024; omega
  unfold putRow
  rw [WordCmp.dynamicUpdateSlice_eq_update x _ _ _ ![k.val, 0] hk (fun a => by
      fin_cases a
      · exact hw
      · rfl)]
  unfold updateSlice
  split_ifs with h1 h2 h2
  · refine broadcastInDim_apply _ _ _ _ (ix1 L) (fun a => ?_)
    fin_cases a
    show L.val = if (1024 : ℕ) = 1 then 0 else L.val - 0
    rw [if_neg (by omega)]; omega
  · exact absurd (Fin.ext (by have := h1 0; change k.val ≤ t.val ∧ t.val < k.val + 1 at this; omega)) h2
  · refine absurd (fun a => ?_) h1
    subst h2
    have := L.isLt
    fin_cases a
    · show t.val ≤ t.val ∧ t.val < t.val + 1; omega
    · show 0 ≤ L.val ∧ L.val < 0 + 1024; omega
  · rfl

end Cert.ReferenceIdeal.Rec

end
-- ==== Proof.RefValue.lean ====
/-
  What the reference computes: its two loops by induction over the trips, and from them the five results.
-/
module

public import proofs.«01_k».proof.Proof.RefRows

@[expose] public section

set_option maxHeartbeats 1000000

noncomputable section

namespace Cert.ReferenceIdeal.Rec

open Cert.ReferenceIdeal Cert.ReferenceIdeal.Gen
open Idealize.ShloMosaic hiding ix2 ix2_0 ix2_1 ix1
open Idealize.ShloMosaic.TcCoe Idealize.ShloMosaic.ValueIdx
open Idealize.ShloMosaic.StableHlo
open Cert.KernelIdeal.Scan (gArg gHalf gGelu gGrad gateAt state seq col col_of rdec rin rdh hOf prevOf gatedOf lamOf dgateOf dprojOf)

variable (m : (ℓ : Loc nD τ sig) → Buf (Elt Ideal) ℓ)

/-- The arguments as launched. -/
def argA (c : Dev nD) : FVec Ideal S4096x1024 .f32 := m ((c : Thread nD τ).loc main_arg0)
def argB (c : Dev nD) : FVec Ideal S4096x1024 .f32 := m ((c : Thread nD τ).loc main_arg1)
def argP (c : Dev nD) : FVec Ideal S4096x2048 .f32 := m ((c : Thread nD τ).loc main_arg2)
def argD (c : Dev nD) : FVec Ideal S4096x1024 .f32 := m ((c : Thread nD τ).loc main_arg3)

/-- The value in a row, read at an index. -/
abbrev at1 (x : FVec Ideal S1024 .f32) (i : S1024.Idx) : EReal := x i

/-- The gate's values. -/
def gateOf (P : FVec Ideal S4096x2048 .f32) : FVec Ideal S4096x1024 .f32 := fun i => gateAt P (i 0) (i 1)

theorem gate_eq (P : FVec Ideal S4096x2048 .f32) :
    extractStridedSlice S4096x1024 ![0, 1024] P slices_S4096x2048_S4096x1024_0_1024 = gateOf P := by
  funext i
  obtain ⟨t, L, rfl⟩ : ∃ (t : Fin 4096) (L : Fin 1024), i = ix2 t L := ⟨i 0, i 1, (ix2_eta i).symm⟩
  exact gate_apply P t L

/-! ### The forward loop -/

section Forward
variable (c : Dev nD)

theorem T0_a : ∀ k, T0 m k c (Proc.devRef .tc main_v3_0) = argA m c
  | 0 => host0_a _
  | k + 1 => (keep0 (by decide +kernel) _).trans (T0_a k)

theorem T0_b : ∀ k, T0 m k c (Proc.devRef .tc main_v3_1) = argB m c
  | 0 => host0_b _
  | k + 1 => (keep0 (by decide +kernel) _).trans (T0_b k)

theorem T0_gate : ∀ k, T0 m k c (Proc.devRef .tc main_v0) = gateOf (argP m c)
  | 0 => (host0_gate _).trans (gate_eq _)
  | k + 1 => (keep0 (by decide +kernel) _).trans (T0_gate k)

theorem T0_word {k : ℕ} (hk : k < 4096) : ((T0 m k c (Proc.devRef .tc main_v3_2) : IVec S_ 32) (Shape.Idx.first h_S_)).toInt = ((⟨k, hk⟩ : Fin 4096).val : ℕ) := by
  rw [T0_ctr]; exact toInt_trip hk

theorem next0_apply {k : ℕ} (hk : k < 4096) (hrow : ∀ L : Fin 1024, (T0 m k c (Proc.devRef .tc main_v3_3) : FVec Ideal S1024 .f32) (ix1 L) = state (argA m c) (argB m c) L k)
    (L : Fin 1024) : next0 (T0 m k c) (ix1 L) = state (argA m c) (argB m c) L (k + 1) := by
  show at1 (getRow (T0 m k c (Proc.devRef .tc main_v3_0)) (T0 m k c (Proc.devRef .tc main_v3_2))) (ix1 L) * at1 (T0 m k c (Proc.devRef .tc main_v3_3)) (ix1 L)
      + at1 (getRow (T0 m k c (Proc.devRef .tc main_v3_1)) (T0 m k c (Proc.devRef .tc main_v3_2))) (ix1 L) = _
  unfold at1
  rw [getRow_apply _ _ ⟨k, hk⟩ (T0_word m c hk), getRow_apply _ _ ⟨k, hk⟩ (T0_word m c hk), hrow, T0_a, T0_b,
    ← col_of (X := argA m c) (L := L) ⟨k, hk⟩ rfl, ← col_of (X := argB m c) (L := L) ⟨k, hk⟩ rfl]
  rfl

theorem T0_row : ∀ k, k ≤ 4096 → ∀ L : Fin 1024, (T0 m k c (Proc.devRef .tc main_v3_3) : FVec Ideal S1024 .f32) (ix1 L) = state (argA m c) (argB m c) L k
  | 0, _, L => (congrFun (host0_start _) (ix1 L)).trans Ideal.ofBits_zero_f32
  | k + 1, hk, L => (congrFun (trip0_row (T0 m k c)) (ix1 L)).trans (next0_apply m c (by omega) (T0_row k (by omega)) L)

theorem T0_out : ∀ k, k ≤ 4096 → ∀ (t : Fin 4096) (L : Fin 1024), t.val < k →
    (T0 m k c (Proc.devRef .tc main_v3_4) : FVec Ideal S4096x1024 .f32) (ix2 t L) = state (argA m c) (argB m c) L (t.val + 1)
  | 0, _, _, _, h => absurd h (by omega)
  | k + 1, hk, t, L, h => by
    have hk' : k < 4096 := by omega
    refine (congrFun (trip0_out (T0 m k c)) (ix2 t L)).trans ?_
    rw [putRow_apply _ _ _ ⟨k, hk'⟩ (T0_word m c hk')]
    split_ifs with he
    · subst he
      exact next0_apply m c hk' (T0_row m c k (by omega)) L
    · exact T0_out k (by omega) t L (by
        have : t.val ≠ k := fun e => he (Fin.ext e)
        omega)

theorem T0_states : T0 m 4096 c (Proc.devRef .tc main_v3_4) = hOf (argA m c) (argB m c) := by
  funext i
  obtain ⟨t, L, rfl⟩ : ∃ (t : Fin 4096) (L : Fin 1024), i = ix2 t L := ⟨i 0, i 1, (ix2_eta i).symm⟩
  exact T0_out m c 4096 le_rfl t L t.isLt

end Forward

/-! ### Between the loops -/

section Between
variable (c : Dev nD)

theorem mid_states : after condOps0 (T0 m 4096 c) (Proc.devRef .tc main_v3_4) = hOf (argA m c) (argB m c) :=
  (after_of_writes_sub _ _ condOps0_writes (by decide +kernel : main_v3_4 ∉ condOps0_W)).trans (T0_states m c)
theorem mid_gate : after condOps0 (T0 m 4096 c) (Proc.devRef .tc main_v0) = gateOf (argP m c) :=
  (after_of_writes_sub _ _ condOps0_writes (by decide +kernel : main_v0 ∉ condOps0_W)).trans (T0_gate m c 4096)
theorem mid_d : after condOps0 (T0 m 4096 c) (Proc.devRef .tc main_arg3) = argD m c :=
  (after_of_writes_sub _ _ condOps0_writes (by decide +kernel : main_arg3 ∉ condOps0_W)).trans (T0_keeps m (by decide +kernel) c 4096)
theorem mid_a : after condOps0 (T0 m 4096 c) (Proc.devRef .tc main_arg0) = argA m c :=
  (after_of_writes_sub _ _ condOps0_writes (by decide +kernel : main_arg0 ∉ condOps0_W)).trans (T0_keeps m (by decide +kernel) c 4096)

theorem E1_prev : E1 m c (Proc.devRef .tc main_v6) = prevOf (argA m c) (argB m c) := by
  refine (host1_prev _).trans ?_
  rw [mid_states]
  funext i
  obtain ⟨t, L, rfl⟩ : ∃ (t : Fin 4096) (L : Fin 1024), i = ix2 t L := ⟨i 0, i 1, (ix2_eta i).symm⟩
  rw [prev_apply]
  split_ifs with h
  · show (0 : EReal) = state (argA m c) (argB m c) L t.val
    rw [h]; rfl
  · show state (argA m c) (argB m c) L (t.val - 1 + 1) = state (argA m c) (argB m c) L t.val
    rw [Nat.sub_add_cancel (by omega)]

theorem E1_gated : E1 m c (Proc.devRef .tc main_v28) = fun i => gatedOf (argA m c) (argB m c) (argP m c) i := by
  refine (host1_gated _).trans ?_
  rw [mid_states, mid_gate]; rfl

theorem E1_dh : E1 m c (Proc.devRef .tc main_v46_0) = fun i => rdh (argP m c) (argD m c) (i 0) (i 1) := by
  refine (host1_dh _).trans ?_
  rw [mid_d, mid_gate]
  funext i
  obtain ⟨t, L, rfl⟩ : ∃ (t : Fin 4096) (L : Fin 1024), i = ix2 t L := ⟨i 0, i 1, (ix2_eta i).symm⟩
  rfl

theorem E1_dgate : E1 m c (Proc.devRef .tc main_v42) = fun i => dgateOf (argA m c) (argB m c) (argP m c) (argD m c) (i 0) (i 1) := by
  refine (host1_dgate _).trans ?_
  rw [mid_d, mid_gate, mid_states]
  funext i
  obtain ⟨t, L, rfl⟩ : ∃ (t : Fin 4096) (L : Fin 1024), i = ix2 t L := ⟨i 0, i 1, (ix2_eta i).symm⟩
  rfl

theorem E1_a : E1 m c (Proc.devRef .tc main_v46_1) = argA m c := (host1_a _).trans (mid_a m c)

end Between

/-! ### The reverse loop -/

section Reverse
variable (c : Dev nD)

theorem T1_dh : ∀ k, T1 m k c (Proc.devRef .tc main_v46_0) = fun i => rdh (argP m c) (argD m c) (i 0) (i 1)
  | 0 => E1_dh m c
  | k + 1 => (keep1 (by decide +kernel) _).trans (T1_dh k)
theorem T1_a : ∀ k, T1 m k c (Proc.devRef .tc main_v46_1) = argA m c
  | 0 => E1_a m c
  | k + 1 => (keep1 (by decide +kernel) _).trans (T1_a k)
theorem T1_dgate : ∀ k, T1 m k c (Proc.devRef .tc main_v42) = fun i => dgateOf (argA m c) (argB m c) (argP m c) (argD m c) (i 0) (i 1)
  | 0 => E1_dgate m c
  | k + 1 => (keep1 (by decide +kernel) _).trans (T1_dgate k)
theorem T1_gated : ∀ k, T1 m k c (Proc.devRef .tc main_v28) = fun i => gatedOf (argA m c) (argB m c) (argP m c) i
  | 0 => E1_gated m c
  | k + 1 => (keep1 (by decide +kernel) _).trans (T1_gated k)
theorem T1_prev : ∀ k, T1 m k c (Proc.devRef .tc main_v6) = prevOf (argA m c) (argB m c)
  | 0 => E1_prev m c
  | k + 1 => (keep1 (by decide +kernel) _).trans (T1_prev k)
theorem T1_states : ∀ k, T1 m k c (Proc.devRef .tc main_v3_4) = hOf (argA m c) (argB m c)
  | 0 => (after_of_writes_sub _ _ hostOps0_1_writes (by decide +kernel : main_v3_4 ∉ hostOps0_1_W)).trans (mid_states m c)
  | k + 1 => (keep1 (by decide +kernel) _).trans (T1_states k)

/-- The row that trip `k` works on. -/
def rev (k : ℕ) : Fin 4096 := ⟨4095 - k, by omega⟩

theorem T1_word {k : ℕ} (hk : k < 4096) : (rowWord (T1 m k c (Proc.devRef .tc main_v46_2) : IVec S_ 32) (Shape.Idx.first h_S_)).toInt = ((rev k).val : ℕ) := by
  rw [T1_ctr]; exact toInt_rev hk _

/-- The gradient at the states of column `L`, after `k` trips. -/
abbrev grad (L : Fin 1024) (k : ℕ) : EReal := seq (rdec (argA m c) L) (rin (argP m c) (argD m c) L) 0 k

theorem lam1_apply {k : ℕ} (hk : k < 4096) (hrow : ∀ L : Fin 1024, at1 (T1 m k c (Proc.devRef .tc main_v46_3)) (ix1 L) = rdec (argA m c) L k * grad m c L k)
    (L : Fin 1024) : lam1Of (T1 m k c) (ix1 L) = grad m c L (k + 1) := by
  show at1 (T1 m k c (Proc.devRef .tc main_v46_3)) (ix1 L)
      + at1 (getRow (T1 m k c (Proc.devRef .tc main_v46_0)) (rowWord (T1 m k c (Proc.devRef .tc main_v46_2)))) (ix1 L) = _
  rw [hrow]
  unfold at1
  rw [getRow_apply _ _ (rev k) (T1_word m c hk), T1_dh]
  show rdec (argA m c) L k * grad m c L k + rdh (argP m c) (argD m c) (rev k) L = rdec (argA m c) L k * grad m c L k + rin (argP m c) (argD m c) L k
  unfold rin
  rw [show rev k = (⟨(4095 - k) % 4096, Nat.mod_lt _ (by decide)⟩ : Fin 4096) from Fin.ext (Nat.mod_eq_of_lt (by omega)).symm]

theorem T1_row : ∀ k, k ≤ 4096 → ∀ L : Fin 1024, at1 (T1 m k c (Proc.devRef .tc main_v46_3)) (ix1 L) = rdec (argA m c) L k * grad m c L k
  | 0, _, L => (congrFun (host1_start _) (ix1 L)).trans (Ideal.ofBits_zero_f32.trans (zero_mul _).symm)
  | k + 1, hk, L => by
    refine (congrFun (trip1_row (T1 m k c)) (ix1 L)).trans ?_
    show at1 (getRow (T1 m k c (Proc.devRef .tc main_v46_1)) (rowWord (T1 m k c (Proc.devRef .tc main_v46_2)))) (ix1 L) * at1 (lam1Of (T1 m k c)) (ix1 L) = _
    unfold at1
    rw [getRow_apply _ _ (rev k) (T1_word m c (by omega)), lam1_apply m c (by omega) (T1_row k (by omega)) L, T1_a]
    unfold rdec
    rw [if_neg (by omega), col_of (rev k) (by show 4096 - (k + 1) = 4095 - k; omega)]

theorem T1_out : ∀ k, k ≤ 4096 → ∀ (t : Fin 4096) (L : Fin 1024), 4095 - t.val < k →
    (T1 m k c (Proc.devRef .tc main_v46_4) : FVec Ideal S4096x1024 .f32) (ix2 t L) = grad m c L (4095 - t.val + 1)
  | 0, _, _, _, h => absurd h (by omega)
  | k + 1, hk, t, L, h => by
    have hk' : k < 4096 := by omega
    have ht := t.isLt
    refine (congrFun (trip1_out (T1 m k c)) (ix2 t L)).trans ?_
    rw [putRow_apply _ _ _ (rev k) (T1_word m c hk')]
    split_ifs with he
    · refine (lam1_apply m c hk' (T1_row m c k (by omega)) L).trans (congrArg (grad m c L) ?_)
      have : t.val = 4095 - k := congrArg Fin.val he
      omega
    · exact T1_out k (by omega) t L (by
        have : t.val ≠ 4095 - k := fun e => he (Fin.ext e)
        omega)

theorem T1_lam : T1 m 4096 c (Proc.devRef .tc main_v46_4) = lamOf (argA m c) (argP m c) (argD m c) := by
  funext i
  obtain ⟨t, L, rfl⟩ : ∃ (t : Fin 4096) (L : Fin 1024), i = ix2 t L := ⟨i 0, i 1, (ix2_eta i).symm⟩
  exact T1_out m c 4096 le_rfl t L (by omega)

/-! ### The results -/

theorem end_keep {b : Ref sig .tc} (h : b ∉ hostOps0_2_W ++ condOps1_W) : Vend m c (Proc.devRef .tc b) = T1 m 4096 c (Proc.devRef .tc b) := by
  simp only [List.mem_append, not_or] at h
  exact (after_of_writes_sub _ _ hostOps0_2_writes h.1).trans (after_of_writes_sub _ _ condOps1_writes h.2)

theorem end_h : Vend m c (Proc.devRef .tc main_v3_4) = hOf (argA m c) (argB m c) :=
  (end_keep m c (by decide +kernel)).trans (T1_states m c 4096)
theorem end_prev : Vend m c (Proc.devRef .tc main_v6) = prevOf (argA m c) (argB m c) :=
  (end_keep m c (by decide +kernel)).trans (T1_prev m c 4096)
theorem end_lam : Vend m c (Proc.devRef .tc main_v46_4) = lamOf (argA m c) (argP m c) (argD m c) :=
  (end_keep m c (by decide +kernel)).trans (T1_lam m c)
theorem end_gated : Vend m c (Proc.devRef .tc main_v49) = gatedOf (argA m c) (argB m c) (argP m c) := by
  refine (host2_gated _).trans ?_
  rw [(after_of_writes_sub _ _ condOps1_writes (by decide +kernel : main_v28 ∉ condOps1_W)).trans (T1_gated m c 4096)]
  rfl
theorem end_dproj (i : S4096x2048.Idx) (hi : 1024 ≤ (i 1).val) :
    Vend m c (Proc.devRef .tc main_v50) i = dprojOf (argA m c) (argB m c) (argP m c) (argD m c) i := by
  refine (congrFun (host2_dproj _) i).trans ?_
  rw [(after_of_writes_sub _ _ condOps1_writes (by decide +kernel : main_v42 ∉ condOps1_W)).trans (T1_dgate m c 4096)]
  exact dproj_apply _ i hi

end Reverse

end Cert.ReferenceIdeal.Rec

end
-- ==== Proof.Equation.lean ====
/-
  The kernel's results and the reference's are the same arrays, wherever the mask asks and the decays are finite.
-/
module

public import proofs.«01_k».proof.Defs
public import proofs.«01_k».proof.Proof.Gen.Pre_decay_finite
public import proofs.«01_k».proof.Proof.Gen.On_gate_half
public import proofs.«01_k».proof.Proof.ScanEnd
public import proofs.«01_k».proof.Proof.RefValue
public import Idealize.ShloMosaic.Lib.ReduceAll

@[expose] public section

noncomputable section

namespace Cert.Equation

open Idealize.ShloMosaic Idealize.ShloMosaic.TcCoe Idealize.SL.Sem
open Cert.KernelIdeal.Scan (Fine FineA hOf prevOf gatedOf lamOf dprojOf argA argB argP argD V0 V1 V2)

/-- What the precondition says of the decays. -/
theorem fine_of_pre {A B : FVec Ideal Cert.KernelIdeal.S4096x1024 .f32} {P : FVec Ideal Cert.KernelIdeal.S4096x2048 .f32} {D : FVec Ideal Cert.KernelIdeal.S4096x1024 .f32}
    (h : Cert.Pre_decay_finite.fn (F := Ideal) A B P D = fun _ => 1#1) (i : Cert.KernelIdeal.S4096x1024.Idx) : Fine (A i) := by
  haveI : Subsingleton Cert.Pre_decay_finite.S_.Idx := ⟨fun a b => funext fun k => Fin.elim0 k⟩
  have h1 := Host.reduce_andi_all _ _ _ _ (Shape.Idx.first Cert.Pre_decay_finite.Facts.h_S_) (congrFun h _) i
  have h2 : IntOp.andi (BitVec.ofBool (decide (Ideal.ofBits .f32 0x00000000#32 ≤ (show EReal from A i))))
      (BitVec.ofBool (decide ((show EReal from A i) < Ideal.ofBits .f32 0x7F800000#32))) = 1#1 := h1
  rw [WordCmp.andi_ofBool, WordCmp.ofBool_eq_one_iff, Bool.and_eq_true, decide_eq_true_eq, decide_eq_true_eq, Ideal.ofBits_zero_f32] at h2
  exact ⟨h2.1, (lt_of_lt_of_le h2.2 le_top).ne⟩

/-- What the mask says of a column of the projection's gradient. -/
theorem half_of_mask {A B : FVec Ideal Cert.KernelIdeal.S4096x1024 .f32} {P : FVec Ideal Cert.KernelIdeal.S4096x2048 .f32} {D : FVec Ideal Cert.KernelIdeal.S4096x1024 .f32}
    {i : Cert.KernelIdeal.S4096x2048.Idx} (h : (Cert.On_gate_half.fn (F := Ideal) A B P D).2.2.2.2 i = 1#1) : 1024 ≤ (i 1).val := by
  have h1 : IntOp.cmpi .sge (BitVec.ofNat 32 (i 1).val) (BitVec.ofNat 32 1024) = 1#1 := h
  have hi : (i 1).val < 2048 := (i 1).isLt
  rw [WordCmp.cmpi_sge_ofNat_eq_one_iff (by omega) (by omega)] at h1
  exact h1

/-- The equation of the two programs. -/
theorem algebraic [hP : Cert.Pre_decay_finite.Facts] [hO : Cert.On_gate_half.Facts] :
    Cert.algebraic_KernelIdeal_ReferenceIdeal_on_gate_half_pre_decay_finite
      (hKernelIdeal := Cert.KernelIdeal.Gen.facts) (hReferenceIdeal := Cert.ReferenceIdeal.Gen.facts) := by
  intro m ρ m' ρ' hpre hargs
  have hA : ∀ c, FineA m c := fun c i => fine_of_pre (hpre c) i
  refine ⟨fun c => hOf (argA m c) (argB m c), fun c => prevOf (argA m c) (argB m c), fun c => gatedOf (argA m c) (argB m c) (argP m c),
    fun c => lamOf (argA m c) (argP m c) (argD m c), fun c => dprojOf (argA m c) (argB m c) (argP m c) (argD m c), ?_, ?_⟩
  · refine (θ_run Cert.KernelIdeal.defs _ _).mono (fun r h c => ⟨fun i _ => ?_, fun i _ => ?_, fun i _ => ?_, fun i _ => ?_, fun i hi => ?_, ?_, ?_, ?_, ?_⟩)
      (Cert.KernelIdeal.Scan.run_main m ρ)
    · exact congrFun ((h.1 c _ rfl).trans ((Cert.KernelIdeal.Scan.V2_h m ρ c).trans (Cert.KernelIdeal.Scan.arr_h m ρ c (hA c)))) i
    · exact congrFun ((h.1 c _ rfl).trans ((Cert.KernelIdeal.Scan.V2_hprev m ρ c).trans (Cert.KernelIdeal.Scan.arr_prev m ρ c (hA c)))) i
    · exact congrFun ((h.1 c _ rfl).trans ((Cert.KernelIdeal.Scan.V2_hg m ρ c).trans (Cert.KernelIdeal.Scan.arr_gated m ρ c (hA c)))) i
    · exact congrFun ((h.1 c _ rfl).trans ((Cert.KernelIdeal.Scan.V2_lam m ρ c).trans (Cert.KernelIdeal.Scan.arr_lam m ρ c (hA c)))) i
    · exact (congrFun ((h.1 c _ rfl).trans (Cert.KernelIdeal.Scan.V2_dproj m ρ c)) i).trans (Cert.KernelIdeal.Scan.arr_dproj m ρ c (hA c) i (half_of_mask hi))
    · exact (h.1 c _ rfl).trans (Cert.KernelIdeal.Scan.V2_arg m ρ c _ (by decide) (by decide))
    · exact (h.1 c _ rfl).trans (Cert.KernelIdeal.Scan.V2_arg m ρ c _ (by decide) (by decide))
    · exact (h.1 c _ rfl).trans (Cert.KernelIdeal.Scan.V2_arg m ρ c _ (by decide) (by decide))
    · exact (h.1 c _ rfl).trans (Cert.KernelIdeal.Scan.V2_arg m ρ c _ (by decide) (by decide))
  · have eA : ∀ c, Cert.ReferenceIdeal.Rec.argA m' c = argA m c := fun c => (hargs c).1
    have eB : ∀ c, Cert.ReferenceIdeal.Rec.argB m' c = argB m c := fun c => (hargs c).2.1
    have eP : ∀ c, Cert.ReferenceIdeal.Rec.argP m' c = argP m c := fun c => (hargs c).2.2.1
    have eD : ∀ c, Cert.ReferenceIdeal.Rec.argD m' c = argD m c := fun c => (hargs c).2.2.2
    refine (θ_run Cert.ReferenceIdeal.defs _ _).mono (fun r h c => ⟨fun i _ => ?_, fun i _ => ?_, fun i _ => ?_, fun i _ => ?_, fun i hi => ?_, ?_, ?_, ?_, ?_⟩)
      (Cert.ReferenceIdeal.Rec.run_end m' ρ')
    · exact (congrFun ((h c _ rfl).trans (Cert.ReferenceIdeal.Rec.end_h m' c)) i).trans (by rw [eA, eB])
    · exact (congrFun ((h c _ rfl).trans (Cert.ReferenceIdeal.Rec.end_prev m' c)) i).trans (by rw [eA, eB])
    · exact (congrFun ((h c _ rfl).trans (Cert.ReferenceIdeal.Rec.end_gated m' c)) i).trans (by rw [eA, eB, eP])
    · exact (congrFun ((h c _ rfl).trans (Cert.ReferenceIdeal.Rec.end_lam m' c)) i).trans (by rw [eA, eP, eD])
    · refine (congrFun (h c Cert.ReferenceIdeal.main_v50 rfl) i).trans ((Cert.ReferenceIdeal.Rec.end_dproj m' c i (half_of_mask hi)).trans ?_)
      rw [eA, eB, eP, eD]
    · exact (h c _ rfl).trans (Cert.ReferenceIdeal.Rec.Vend_keeps m' (by decide +kernel) c)
    · exact (h c _ rfl).trans (Cert.ReferenceIdeal.Rec.Vend_keeps m' (by decide +kernel) c)
    · exact (h c _ rfl).trans (Cert.ReferenceIdeal.Rec.Vend_keeps m' (by decide +kernel) c)
    · exact (h c _ rfl).trans (Cert.ReferenceIdeal.Rec.Vend_keeps m' (by decide +kernel) c)

end Cert.Equation

end
-- ==== Proof.MlpLoads.lean ====
/-
  A whole load of a buffer reads what the buffer holds, or, after a whole store, what was stored; one statement of each per
  block shape of the seven calls.
-/
module

public import proofs.«01_k».proof.Proof.Gen.Kernel2Ideal
public import Idealize.ShloMosaic.Lib.Pipeline.FrameBody
public import Idealize.ShloMosaic.Lib.Tactic
public import Idealize.ShloMosaic.Lib.VecWindow

@[expose] public section

set_option maxRecDepth 16384

noncomputable section

namespace Cert.Kernel2Ideal.Mlp

open Idealize.ShloMosaic Idealize.ShloMosaic.TcCoe Idealize.ShloMosaic.Tactic Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem at_S2048x1024 {e : EltTy} (v : View sig .tc .vmem S2048x1024 e)
    (inb : ∀ a : Fin 2, (![0, 0] : Fin 2 → ℕ) a + (![2048, 1024] : Fin 2 → ℕ) a ≤ S2048x1024.size a) (f : v.ty.Contents (Elt F)) :
    v.readAt (Elt F) (Rect.unit (s := S2048x1024) ![0, 0] ![2048, 1024] inb).toLoadRect f = v.read (Elt F) f :=
  View.readAt_full (s := S2048x1024) v f inb
theorem cov_S2048x1024 {e : EltTy} (v : View sig .tc .vmem S2048x1024 e)
    (inb : ∀ a : Fin 2, (![0, 0] : Fin 2 → ℕ) a + (![2048, 1024] : Fin 2 → ℕ) a ≤ S2048x1024.size a) (w : Vec F S2048x1024 e)
    (L : List (View.Piece (Elt F) S2048x1024 e)) :
    v.readCov (Val := Elt F) (⟨Rect.unit (s := S2048x1024) ![0, 0] ![2048, 1024] inb, w⟩ :: L)
      (Rect.unit (s := S2048x1024) ![0, 0] ![2048, 1024] inb).toLoadRect = w :=
  View.readCov_full (s := S2048x1024) v inb inb w L

theorem at_S2048x512 {e : EltTy} (v : View sig .tc .vmem S2048x512 e)
    (inb : ∀ a : Fin 2, (![0, 0] : Fin 2 → ℕ) a + (![2048, 512] : Fin 2 → ℕ) a ≤ S2048x512.size a) (f : v.ty.Contents (Elt F)) :
    v.readAt (Elt F) (Rect.unit (s := S2048x512) ![0, 0] ![2048, 512] inb).toLoadRect f = v.read (Elt F) f :=
  View.readAt_full (s := S2048x512) v f inb
theorem cov_S2048x512 {e : EltTy} (v : View sig .tc .vmem S2048x512 e)
    (inb : ∀ a : Fin 2, (![0, 0] : Fin 2 → ℕ) a + (![2048, 512] : Fin 2 → ℕ) a ≤ S2048x512.size a) (w : Vec F S2048x512 e)
    (L : List (View.Piece (Elt F) S2048x512 e)) :
    v.readCov (Val := Elt F) (⟨Rect.unit (s := S2048x512) ![0, 0] ![2048, 512] inb, w⟩ :: L)
      (Rect.unit (s := S2048x512) ![0, 0] ![2048, 512] inb).toLoadRect = w :=
  View.readCov_full (s := S2048x512) v inb inb w L

theorem at_S1024x1024 {e : EltTy} (v : View sig .tc .vmem S1024x1024 e)
    (inb : ∀ a : Fin 2, (![0, 0] : Fin 2 → ℕ) a + (![1024, 1024] : Fin 2 → ℕ) a ≤ S1024x1024.size a) (f : v.ty.Contents (Elt F)) :
    v.readAt (Elt F) (Rect.unit (s := S1024x1024) ![0, 0] ![1024, 1024] inb).toLoadRect f = v.read (Elt F) f :=
  View.readAt_full (s := S1024x1024) v f inb
theorem cov_S1024x1024 {e : EltTy} (v : View sig .tc .vmem S1024x1024 e)
    (inb : ∀ a : Fin 2, (![0, 0] : Fin 2 → ℕ) a + (![1024, 1024] : Fin 2 → ℕ) a ≤ S1024x1024.size a) (w : Vec F S1024x1024 e)
    (L : List (View.Piece (Elt F) S1024x1024 e)) :
    v.readCov (Val := Elt F) (⟨Rect.unit (s := S1024x1024) ![0, 0] ![1024, 1024] inb, w⟩ :: L)
      (Rect.unit (s := S1024x1024) ![0, 0] ![1024, 1024] inb).toLoadRect = w :=
  View.readCov_full (s := S1024x1024) v inb inb w L

theorem at_S1024x2048 {e : EltTy} (v : View sig .tc .vmem S1024x2048 e)
    (inb : ∀ a : Fin 2, (![0, 0] : Fin 2 → ℕ) a + (![1024, 2048] : Fin 2 → ℕ) a ≤ S1024x2048.size a) (f : v.ty.Contents (Elt F)) :
    v.readAt (Elt F) (Rect.unit (s := S1024x2048) ![0, 0] ![1024, 2048] inb).toLoadRect f = v.read (Elt F) f :=
  View.readAt_full (s := S1024x2048) v f inb
theorem cov_S1024x2048 {e : EltTy} (v : View sig .tc .vmem S1024x2048 e)
    (inb : ∀ a : Fin 2, (![0, 0] : Fin 2 → ℕ) a + (![1024, 2048] : Fin 2 → ℕ) a ≤ S1024x2048.size a) (w : Vec F S1024x2048 e)
    (L : List (View.Piece (Elt F) S1024x2048 e)) :
    v.readCov (Val := Elt F) (⟨Rect.unit (s := S1024x2048) ![0, 0] ![1024, 2048] inb, w⟩ :: L)
      (Rect.unit (s := S1024x2048) ![0, 0] ![1024, 2048] inb).toLoadRect = w :=
  View.readCov_full (s := S1024x2048) v inb inb w L

theorem at_S1x1x1024x512 {e : EltTy} (v : View sig .tc .vmem S1x1x1024x512 e)
    (inb : ∀ a : Fin 4, (![0, 0, 0, 0] : Fin 4 → ℕ) a + (![1, 1, 1024, 512] : Fin 4 → ℕ) a ≤ S1x1x1024x512.size a) (f : v.ty.Contents (Elt F)) :
    v.readAt (Elt F) (Rect.unit (s := S1x1x1024x512) ![0, 0, 0, 0] ![1, 1, 1024, 512] inb).toLoadRect f = v.read (Elt F) f :=
  View.readAt_full (s := S1x1x1024x512) v f inb

theorem at_S1x1024x1024 {e : EltTy} (v : View sig .tc .vmem S1x1024x1024 e)
    (inb : ∀ a : Fin 3, (![0, 0, 0] : Fin 3 → ℕ) a + (![1, 1024, 1024] : Fin 3 → ℕ) a ≤ S1x1024x1024.size a) (f : v.ty.Contents (Elt F)) :
    v.readAt (Elt F) (Rect.unit (s := S1x1024x1024) ![0, 0, 0] ![1, 1024, 1024] inb).toLoadRect f = v.read (Elt F) f :=
  View.readAt_full (s := S1x1024x1024) v f inb

theorem at_S1x512x1024 {e : EltTy} (v : View sig .tc .vmem S1x512x1024 e)
    (inb : ∀ a : Fin 3, (![0, 0, 0] : Fin 3 → ℕ) a + (![1, 512, 1024] : Fin 3 → ℕ) a ≤ S1x512x1024.size a) (f : v.ty.Contents (Elt F)) :
    v.readAt (Elt F) (Rect.unit (s := S1x512x1024) ![0, 0, 0] ![1, 512, 1024] inb).toLoadRect f = v.read (Elt F) f :=
  View.readAt_full (s := S1x512x1024) v f inb

theorem at_S512x2048 {e : EltTy} (v : View sig .tc .vmem S512x2048 e)
    (inb : ∀ a : Fin 2, (![0, 0] : Fin 2 → ℕ) a + (![512, 2048] : Fin 2 → ℕ) a ≤ S512x2048.size a) (f : v.ty.Contents (Elt F)) :
    v.readAt (Elt F) (Rect.unit (s := S512x2048) ![0, 0] ![512, 2048] inb).toLoadRect f = v.read (Elt F) f :=
  View.readAt_full (s := S512x2048) v f inb

theorem at_S512x1024 {e : EltTy} (v : View sig .tc .vmem S512x1024 e)
    (inb : ∀ a : Fin 2, (![0, 0] : Fin 2 → ℕ) a + (![512, 1024] : Fin 2 → ℕ) a ≤ S512x1024.size a) (f : v.ty.Contents (Elt F)) :
    v.readAt (Elt F) (Rect.unit (s := S512x1024) ![0, 0] ![512, 1024] inb).toLoadRect f = v.read (Elt F) f :=
  View.readAt_full (s := S512x1024) v f inb

theorem at_S1x1024 {e : EltTy} (v : View sig .tc .vmem S1x1024 e)
    (inb : ∀ a : Fin 2, (![0, 0] : Fin 2 → ℕ) a + (![1, 1024] : Fin 2 → ℕ) a ≤ S1x1024.size a) (f : v.ty.Contents (Elt F)) :
    v.readAt (Elt F) (Rect.unit (s := S1x1024) ![0, 0] ![1, 1024] inb).toLoadRect f = v.read (Elt F) f :=
  View.readAt_full (s := S1x1024) v f inb
theorem cov_S1x1024 {e : EltTy} (v : View sig .tc .vmem S1x1024 e)
    (inb : ∀ a : Fin 2, (![0, 0] : Fin 2 → ℕ) a + (![1, 1024] : Fin 2 → ℕ) a ≤ S1x1024.size a) (w : Vec F S1x1024 e)
    (L : List (View.Piece (Elt F) S1x1024 e)) :
    v.readCov (Val := Elt F) (⟨Rect.unit (s := S1x1024) ![0, 0] ![1, 1024] inb, w⟩ :: L)
      (Rect.unit (s := S1x1024) ![0, 0] ![1, 1024] inb).toLoadRect = w :=
  View.readCov_full (s := S1x1024) v inb inb w L

end Cert.Kernel2Ideal.Mlp

end
-- ==== Proof.Mlp0.lean ====
/-
  Call 0 of the layer, the product of the layer with its first weights, at any floats and from any contents of the arrays: what one grid point
  does, what the accumulator holds before each point, the pipeline's proof data and the body obligation.
-/
module

public import proofs.«01_k».proof.Proof.MlpLoads
public import proofs.«01_k».proof.Proof.Gen.Kernel2Ideal.Skeleton
public import proofs.«01_k».proof.Proof.Gen.Kernel2Ideal.Points
public import proofs.«01_k».proof.Proof.Gen.Kernel2Ideal.Launch
public import Idealize.ShloMosaic.Lib.Pipeline.RegionArraysS
public import Idealize.ShloMosaic.Lib.Tactic
public import Idealize.ShloMosaic.Lib.WordCmp

@[expose] public section

set_option maxRecDepth 16384

noncomputable section

namespace Cert.Kernel2Ideal.Mlp

open Idealize.ShloMosaic Idealize.ShloMosaic.TcCoe Idealize.ShloMosaic.Tactic Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch: the point is the first of its group. -/
abbrev first0 (i : grid0.Coords) : Prop := (Scalar.cmpi .ne (Scalar.extui (Scalar.cmpi .eq (BitVec.ofNat 32 (i 2).val) 0#32)) 0#32) = 1#1

set_option maxHeartbeats 1000000 in
/-- At every point the accumulator is zero plus the two blocks' product, and the outputs are written from it. -/
theorem body0_D (c : Dev nD) (i : grid0.Coords) (arg3 : Memref sig .tc .vmem S2048x1024 .bf16) (harg3 : arg3.IsWhole) (arg4 : Memref sig .tc .vmem S1x1x1024x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .f32) (harg7 : arg7.IsWhole) (h1 : first0 i) (h2 : k0_cond2 i = 1#1) (x0 : Vec F S2048x1024 .bf16) (x1 : Vec F S1x1x1024x512 .bf16) (E : Set ℕ) (K : PUnit → sProp 𝕄) :
    iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare (k0_pay3 (k0_pay2 (k0_pay1 (F := F)) x0 x1)) ∗ owns (c : Thread nD τ) arg6 fullShare (k0_pay4 (k0_pay2 (k0_pay1 (F := F)) x0 x1)) ∗ owns (c : Thread nD τ) arg7 fullShare (k0_pay2 (k0_pay1 (F := F)) x0 x1)) -∗ K ⟨⟩))
      ⊢ wp frame (wpE (defs₀ (F := F)) Variants.none (c : Thread nD τ) none) E (cc0_L3_mlp1 i arg3 harg3 arg4 harg4 arg5 harg5 arg6 harg6 arg7 harg7) K := by
  simp only [cc0_L3_mlp1_eq_skeleton]; unfold cc0_L3_mlp1_skel
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg3.eq_unread hf0; obtain rfl := harg4.eq_unread hf1
  sl_exec (disch := first | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    sl_unfold_words
    rw [View.read_writes_full]
    simp only [at_S1x1x1024x512, at_S2048x1024, at_S2048x512, harg3.read_unread, harg4.read_unread, cov_S2048x512]
  isplitl [H3]
  · iexists _; isplitr; swap; · iexact H3
    ipureintro
    sl_unfold_words
    rw [View.read_writes_full]
    simp only [at_S1x1x1024x512, at_S2048x1024, at_S2048x512, harg3.read_unread, harg4.read_unread, cov_S2048x512]
  iexists _; isplitr; swap; · iexact H4
  ipureintro
  sl_unfold_words
  rw [View.read_writes_full]
  simp only [at_S1x1x1024x512, at_S2048x1024, at_S2048x512, harg3.read_unread, harg4.read_unread, cov_S2048x512]

variable (W : Dev nD → Valuation τ sig (Elt F))

/-- Window `w`'s block at point `t`, of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

theorem hfirst0 : ∀ t : Fin cfg0.N, first0 (grid0.coords t) ↔ t.val % 1 = 0 :=
  (fun t => by
    have ht : t.val < 16 := Nat.lt_of_lt_of_eq t.isLt N_0
    have e2 : (grid0.coords t 2).val = t.val / 1 % 1 := Pipeline.Grid.coords_val t 2 (by decide) rfl
    simp only [first0, e2]
    word_cmp
   : ∀ t : Fin grid0.N, first0 (grid0.coords t) ↔ t.val % 1 = 0)

theorem hlast0 : ∀ t : Fin cfg0.N, k0_cond2 (grid0.coords t) = 1#1 ↔ t.val % 1 = 0 :=
  (fun t => by
    have ht : t.val < 16 := Nat.lt_of_lt_of_eq t.isLt N_0
    have e2 : (grid0.coords t 2).val = t.val / 1 % 1 := Pipeline.Grid.coords_val t 2 (by decide) rfl
    simp only [k0_cond2, e2]
    word_cmp
   : ∀ t : Fin grid0.N, k0_cond2 (grid0.coords t) = 1#1 ↔ t.val % 1 = 0)

/-- Point `n` of the grid. -/
def pt0 (n : ℕ) : Fin cfg0.N := ⟨n % 16, Nat.lt_of_lt_of_eq (Nat.mod_lt n (by decide)) (show cfg0.N = 16 from N_0).symm⟩

theorem pt0_val (t : Fin cfg0.N) : pt0 t.val = t :=
  Fin.ext (Nat.mod_eq_of_lt (Nat.lt_of_lt_of_eq t.isLt (show cfg0.N = 16 from N_0)))

/-- The accumulator before point `n`, past the first of its group. -/
def scr0 (c : Dev nD) : ℕ → Vec F S2048x512 .f32
  | 0 => k0_pay1
  | n + 1 => k0_pay2 (if n % 1 = 0 then k0_pay1 else scr0 c n) (iblk0 W c 0 (pt0 n)) (iblk0 W c 1 (pt0 n))

/-- The accumulator point `n` starts from: zero at the first point of a group. -/
def start0 (c : Dev nD) (n : ℕ) : Vec F S2048x512 .f32 := if n % 1 = 0 then k0_pay1 else scr0 W c n

theorem scr0_succ (c : Dev nD) (n : ℕ) : scr0 W c (n + 1) = k0_pay2 (start0 W c n) (iblk0 W c 0 (pt0 n)) (iblk0 W c 1 (pt0 n)) := rfl

/-- The accumulator's buffer. -/
abbrev scM0 : Memref sig .tc .vmem S2048x512 .f32 := Memref.whole cc0_scratch0

/-- The scoped buffers the region does not use. -/
abbrev rest0 (c : Dev nD) : sProp 𝕄 := Pipeline.scopedRestBut (Ix := Unit) (Name := ℕ) (U := UR sig nD τ) (Lvl := ℕ) (Val := Elt F) spec0 c [cc0_scratch0]

theorem scoped0 (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ rest0 c) := by
  rw [scopedRest0_split]
  simp only [scM0, owns_whole]
  rfl

/-- Before point `n`: the accumulator, at its contents unless a group begins; the other buffers and the generator register. -/
def Phi0 (c : Dev nD) (n : ℕ) : sProp 𝕄 :=
  iprop((∃ d, ⌜n % 1 ≠ 0 → d = scr0 W c n⌝ ∗ owns (c : Thread nD τ) scM0 fullShare d) ∗ rest0 c ∗ ∃ r, prngReg c r)

/-- The region's proof data: each input's buffer at its block, each output's at what the group's last point writes. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => iblk0 W c 1 t
    | ⟨2, _⟩ => k0_pay3 (scr0 W c (t.val + 1))
    | ⟨3, _⟩ => k0_pay4 (scr0 W c (t.val + 1))
  Φ t := Phi0 W c t.val
  q _ := fullShare
  owed _ := 0

theorem A0_eq (c : Dev nD) (w : Fin cfg0.W) : (dat0 W c).A w = W c (Proc.devRef .tc (Pipeline.arrRef spec0 w)) := by
  dsimp only [dat0]

theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = k0_pay3 (scr0 W c (t.val + 1)) := by dsimp only [dat0]
theorem after0_3 (c : Dev nD) (t : Fin cfg0.N) : (dat0 W c).after 3 t = k0_pay4 (scr0 W c (t.val + 1)) := by dsimp only [dat0]

theorem before0 (c : Dev nD) : (∀ t d, (dat0 W c).before 0 t d = iblk0 W c 0 t) ∧ (∀ t d, (dat0 W c).before 1 t d = iblk0 W c 1 t) := by
  refine ⟨fun t d => ?_, fun t d => ?_⟩ <;>
    exact ((dat0 W c).before_in_eq_fetched _ rfl (fun _ => rfl) (fun _ _ _ => rfl) (fun t => by unfold Dat.blockOf; rw [A0_eq]; rfl) t d).trans
      (by unfold Dat.fetched Dat.blockOf; rw [A0_eq]; rfl)

/-- What the body is called with at point `t`, -/
def pre0 (c : Dev nD) (t : Fin cfg0.N) : sProp 𝕄 :=
  iprop((dat0 W c).Φ t.castSucc ∗ (dat0 W c).owesAt () t.castSucc
    ∗ (∃ d, owns (c : Thread nD τ) (win0_0.stage (cfg0.slots t 0)) fullShare ((dat0 W c).before 0 t d))
    ∗ (∃ d, owns (c : Thread nD τ) (win0_1.stage (cfg0.slots t 1)) fullShare ((dat0 W c).before 1 t d))
    ∗ (∃ d, owns (c : Thread nD τ) (win0_2.stage (cfg0.slots t 2)) fullShare ((dat0 W c).before 2 t d))
    ∗ (∃ d, owns (c : Thread nD τ) (win0_3.stage (cfg0.slots t 3)) fullShare ((dat0 W c).before 3 t d)))

/-- and what it returns: an output as found, but at the last point of a group as computed. -/
def post0 (c : Dev nD) (t : Fin cfg0.N) : sProp 𝕄 :=
  iprop((dat0 W c).Φ t.succ ∗ (dat0 W c).owesAt () t.succ
    ∗ owns (c : Thread nD τ) (win0_0.stage (cfg0.slots t 0)) fullShare ((dat0 W c).after 0 t)
    ∗ owns (c : Thread nD τ) (win0_1.stage (cfg0.slots t 1)) fullShare ((dat0 W c).after 1 t)
    ∗ (dat0 W c).leavesExact 2 t
    ∗ (dat0 W c).leavesExact 3 t)

theorem leaves0_2_last (c : Dev nD) (t : Fin cfg0.N) (h : t.val % 1 = 0) :
    (dat0 W c).leavesExact 2 t = owns (c : Thread nD τ) (win0_2.stage (cfg0.slots t 2)) fullShare ((dat0 W c).after 2 t) := by
  have hi : cfg0.idle 2 (cfg0.grid.coords t) = false := by
    show (!(k0_cond2 (grid0.coords t) == 1#1)) = false
    rw [Bool.not_eq_false', beq_iff_eq]
    exact (hlast0 t).mpr h
  unfold Dat.leavesExact; rw [hi]

theorem leaves0_3_last (c : Dev nD) (t : Fin cfg0.N) (h : t.val % 1 = 0) :
    (dat0 W c).leavesExact 3 t = owns (c : Thread nD τ) (win0_3.stage (cfg0.slots t 3)) fullShare ((dat0 W c).after 3 t) := by
  have hi : cfg0.idle 3 (cfg0.grid.coords t) = false := by
    show (!(k0_cond2 (grid0.coords t) == 1#1)) = false
    rw [Bool.not_eq_false', beq_iff_eq]
    exact (hlast0 t).mpr h
  unfold Dat.leavesExact; rw [hi]

set_option maxHeartbeats 6400000 in
/-- The body at any point. -/
theorem sound0 (c : Dev nD) (t : Fin cfg0.N) :
    pre0 W c t ⊢ wp frame (wpE (defs₀ (F := F)) Variants.none (c : Thread nD τ) none) Set.univ (bodyAt0 t) (fun _ => post0 W c t) := by
  unfold pre0 post0 bodyAt0
  simp only [before0]
  rw [show (dat0 W c).owesAt () t.succ = (dat0 W c).owesAt () t.castSucc from rfl, after0_0, after0_1]
  rw [show (dat0 W c).Φ t.succ = Phi0 W c (t.val + 1) from rfl, show (dat0 W c).Φ t.castSucc = Phi0 W c t.val from rfl]
  unfold Phi0
  have h0 : t.val % 1 = 0 := Nat.mod_one _
  have h7 : t.val % 1 = 0 := Nat.mod_one _
  have hs : scr0 W c (t.val + 1) = k0_pay2 (k0_pay1 (F := F)) (iblk0 W c 0 t) (iblk0 W c 1 t) := by rw [scr0_succ, pt0_val]; unfold start0; rw [if_pos h0]
  rw [leaves0_2_last W c t h7, after0_2, leaves0_3_last W c t h7, after0_3, hs]
  iintro ⟨⟨⟨%e0, -, HS⟩, Hr, Hg⟩, Ho, ⟨%d0, H0⟩, ⟨%d1, H1⟩, ⟨%d2, H2⟩, ⟨%d3, H3⟩⟩
  iapply (body0_D c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) scM0 (Memref.isWhole_whole _) ((hfirst0 t).mpr h0) ((hlast0 t).mpr h7) (iblk0 W c 0 t) (iblk0 W c 1 t) Set.univ _)
  isplitl [H0]; · iexact H0
  isplitl [H1]; · iexact H1
  isplitl [H2]; · iexists _; iexact H2
  isplitl [H3]; · iexists _; iexact H3
  isplitl [HS]; · iexists _; iexact HS
  iintro ⟨H0, H1, H2, H3, HS⟩
  isplitl [HS Hr Hg]
  · isplitl [HS]
    · iexists _
      isplitr
      swap
      · iexact HS
      ipureintro
      exact fun _ => rfl
    isplitl [Hr]; · iexact Hr
    iexact Hg
  isplitl [Ho]; · iexact Ho
  isplitl [H0]; · iexact H0
  isplitl [H1]; · iexact H1
  isplitl [H2]; · iexact H2
  iexact H3

theorem row0 (t : Fin cfg0.N) :
    defs₀ (F := F) .tc cfg0.body (cfg0.bodyArgs t (cfg0.slots t)) = bodyAt0 t := by
  unfold defs₀; rw [Defs.onTc_tc]

/-- The library's body obligation, at every point. -/
theorem obligation0 (c : Dev nD) : BodyObligation (dat0 W c) (defs₀ (F := F)) Variants.none () Set.univ := fun t => by
  rw [bigSep_W0, bigSep_W0, row0]
  exact triple_restated (sound0 W c t) rfl .rfl fun _ => .rfl

theorem phi0_in (c : Dev nD) :
    iprop(Pipeline.scopedRest (Ix := Unit) (Name := ℕ) (U := UR sig nD τ) (Lvl := ℕ) (Val := Elt F) spec0 c ∗ (∃ r, prngReg c r)) ⊢ Phi0 W c 0 := by
  rw [scoped0]; unfold Phi0
  iintro ⟨⟨⟨%d0, H0⟩, Hr⟩, Hg⟩
  isplitl [H0]
  · iexists d0
    isplitr
    · ipureintro; exact fun h => absurd rfl h
    iexact H0
  isplitl [Hr]; · iexact Hr
  iexact Hg

theorem phi0_out (c : Dev nD) (n : ℕ) :
    Phi0 W c n ⊢ iprop(Pipeline.scopedRest (Ix := Unit) (Name := ℕ) (U := UR sig nD τ) (Lvl := ℕ) (Val := Elt F) spec0 c ∗ (∃ r, prngReg c r)) := by
  rw [scoped0]; unfold Phi0
  iintro ⟨⟨%d0, -, H0⟩, Hr, Hg⟩
  isplitr [Hg]
  · isplitl [H0]; · iexists _; iexact H0
    iexact Hr
  iexact Hg

end Cert.Kernel2Ideal.Mlp

end
-- ==== Proof.Mlp1.lean ====
/-
  Call 1 of the layer, the product with the second weights, and the norm of its residual sum, at any floats and from any contents of the arrays: what one grid point
  does, what the accumulator holds before each point, the pipeline's proof data and the body obligation.
-/
module

public import proofs.«01_k».proof.Proof.MlpLoads
public import proofs.«01_k».proof.Proof.Gen.Kernel2Ideal.Skeleton
public import proofs.«01_k».proof.Proof.Gen.Kernel2Ideal.Points
public import proofs.«01_k».proof.Proof.Gen.Kernel2Ideal.Launch
public import Idealize.ShloMosaic.Lib.Pipeline.RegionArraysS
public import Idealize.ShloMosaic.Lib.Tactic
public import Idealize.ShloMosaic.Lib.WordCmp

@[expose] public section

set_option maxRecDepth 16384

noncomputable section

namespace Cert.Kernel2Ideal.Mlp

open Idealize.ShloMosaic Idealize.ShloMosaic.TcCoe Idealize.ShloMosaic.Tactic Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch: the point is the first of its group. -/
abbrev first1 (i : grid1.Coords) : Prop := (Scalar.cmpi .ne (Scalar.extui (Scalar.cmpi .eq (BitVec.ofNat 32 (i 2).val) 0#32)) 0#32) = 1#1

section

variable (c : Dev nD) (i : grid1.Coords) (arg3 : Memref sig .tc .vmem S1024x1024 .bf16) (harg3 : arg3.IsWhole) (arg4 : Memref sig .tc .vmem S1x1024x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .f32) (harg11 : arg11.IsWhole)

set_option maxHeartbeats 1000000 in
/-- At the first point of a group the accumulator becomes zero plus the two blocks' product. -/
theorem body1_A (h1 : first1 i) (h2 : ¬k1_cond2 i = 1#1) (x0 : Vec F S1024x1024 .bf16) (x1 : Vec F S1x1024x1024 .bf16) (E : Set ℕ) (K : PUnit → sProp 𝕄) :
    iprop(owns (c : Thread nD τ) arg3 fullShare x0 ∗ owns (c : Thread nD τ) arg4 fullShare x1 ∗ (∃ d, owns (c : Thread nD τ) arg11 fullShare d)
        ∗ (iprop(owns (c : Thread nD τ) arg3 fullShare x0 ∗ owns (c : Thread nD τ) arg4 fullShare x1 ∗ owns (c : Thread nD τ) arg11 fullShare (k1_pay2 (k1_pay1 (F := F)) x0 x1)) -∗ K ⟨⟩))
      ⊢ wp frame (wpE (defs₀ (F := F)) Variants.none (c : Thread nD τ) none) E (cc1_L3_mlp2 i arg3 harg3 arg4 harg4 arg5 harg5 arg6 harg6 arg7 harg7 arg8 harg8 arg9 harg9 arg10 harg10 arg11 harg11) K := by
  simp only [cc1_L3_mlp2_eq_skeleton]; unfold cc1_L3_mlp2_skel
  unfold owns
  iintro ⟨⟨%f0, %hf0, H0⟩, ⟨%f1, %hf1, H1⟩, ⟨%d8, %f8, -, H8⟩, Hk⟩
  obtain rfl := harg3.eq_unread hf0; obtain rfl := harg4.eq_unread hf1
  sl_exec (disch := first | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  iexists _; isplitr; swap; · iexact H8
  ipureintro
  sl_unfold_words
  rw [View.read_writes_full]
  simp only [at_S1024x1024, at_S1x1024, at_S1x1024x1024, harg3.read_unread, harg4.read_unread, harg5.read_unread, harg6.read_unread, harg7.read_unread, cov_S1024x1024]

set_option maxHeartbeats 1000000 in
/-- At a middle point the accumulator takes the product of the two blocks. -/
theorem body1_B (h1 : ¬first1 i) (h2 : ¬k1_cond2 i = 1#1) (s : Vec F S1024x1024 .f32) (x0 : Vec F S1024x1024 .bf16) (x1 : Vec F S1x1024x1024 .bf16) (E : Set ℕ) (K : PUnit → sProp 𝕄) :
    iprop(owns (c : Thread nD τ) arg3 fullShare x0 ∗ owns (c : Thread nD τ) arg4 fullShare x1 ∗ owns (c : Thread nD τ) arg11 fullShare s
        ∗ (iprop(owns (c : Thread nD τ) arg3 fullShare x0 ∗ owns (c : Thread nD τ) arg4 fullShare x1 ∗ owns (c : Thread nD τ) arg11 fullShare (k1_pay2 s x0 x1)) -∗ K ⟨⟩))
      ⊢ wp frame (wpE (defs₀ (F := F)) Variants.none (c : Thread nD τ) none) E (cc1_L3_mlp2 i arg3 harg3 arg4 harg4 arg5 harg5 arg6 harg6 arg7 harg7 arg8 harg8 arg9 harg9 arg10 harg10 arg11 harg11) K := by
  simp only [cc1_L3_mlp2_eq_skeleton]; unfold cc1_L3_mlp2_skel
  unfold owns
  iintro ⟨⟨%f0, %hf0, H0⟩, ⟨%f1, %hf1, H1⟩, ⟨%f8, %hf8, H8⟩, Hk⟩
  obtain rfl := harg3.eq_unread hf0; obtain rfl := harg4.eq_unread hf1; obtain rfl := harg11.eq_unread hf8
  sl_exec (disch := first | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  iexists _; isplitr; swap; · iexact H8
  ipureintro
  sl_unfold_words
  rw [View.read_writes_full]
  simp only [at_S1024x1024, at_S1x1024, at_S1x1024x1024, harg3.read_unread, harg4.read_unread, harg5.read_unread, harg6.read_unread, harg7.read_unread, harg11.read_unread, cov_S1024x1024]

set_option maxHeartbeats 1000000 in
/-- At the last point of a group the outputs are written from the accumulator. -/
theorem body1_C (h1 : ¬first1 i) (h2 : k1_cond2 i = 1#1) (s : Vec F S1024x1024 .f32) (x0 : Vec F S1024x1024 .bf16) (x1 : Vec F S1x1024x1024 .bf16) (x2 : Vec F S1024x1024 .f32) (x3 : Vec F S1x1024 .f32) (x4 : Vec F S1x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare s
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare ((k1_pay2 s x0 x1)) ∗ owns (c : Thread nD τ) arg9 fullShare (k1_pay3 (k1_pay2 s x0 x1) x2 x3 x4) ∗ owns (c : Thread nD τ) arg10 fullShare (k1_pay4 (k1_pay2 s x0 x1) x2 x3 x4) ∗ owns (c : Thread nD τ) arg11 fullShare (k1_pay2 s x0 x1)) -∗ K ⟨⟩))
      ⊢ wp frame (wpE (defs₀ (F := F)) Variants.none (c : Thread nD τ) none) E (cc1_L3_mlp2 i arg3 harg3 arg4 harg4 arg5 harg5 arg6 harg6 arg7 harg7 arg8 harg8 arg9 harg9 arg10 harg10 arg11 harg11) K := by
  simp only [cc1_L3_mlp2_eq_skeleton]; unfold cc1_L3_mlp2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, Hk⟩
  obtain rfl := harg3.eq_unread hf0; obtain rfl := harg4.eq_unread hf1; obtain rfl := harg5.eq_unread hf2; obtain rfl := harg6.eq_unread hf3; obtain rfl := harg7.eq_unread hf4; obtain rfl := harg11.eq_unread hf8
  sl_exec (disch := first | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    sl_unfold_words
    rw [View.read_writes_full]
    simp only [at_S1024x1024, at_S1x1024, at_S1x1024x1024, harg3.read_unread, harg4.read_unread, harg5.read_unread, harg6.read_unread, harg7.read_unread, harg11.read_unread, cov_S1024x1024]
  isplitl [H6]
  · iexists _; isplitr; swap; · iexact H6
    ipureintro
    sl_unfold_words
    rw [View.read_writes_full]
    simp only [at_S1024x1024, at_S1x1024, at_S1x1024x1024, harg3.read_unread, harg4.read_unread, harg5.read_unread, harg6.read_unread, harg7.read_unread, harg11.read_unread, cov_S1024x1024]
  isplitl [H7]
  · iexists _; isplitr; swap; · iexact H7
    ipureintro
    sl_unfold_words
    rw [View.read_writes_full]
    simp only [at_S1024x1024, at_S1x1024, at_S1x1024x1024, harg3.read_unread, harg4.read_unread, harg5.read_unread, harg6.read_unread, harg7.read_unread, harg11.read_unread, cov_S1024x1024]
  iexists _; isplitr; swap; · iexact H8
  ipureintro
  sl_unfold_words
  rw [View.read_writes_full]
  simp only [at_S1024x1024, at_S1x1024, at_S1x1024x1024, harg3.read_unread, harg4.read_unread, harg5.read_unread, harg6.read_unread, harg7.read_unread, harg11.read_unread, cov_S1024x1024]

end

variable (W : Dev nD → Valuation τ sig (Elt F))

/-- Window `w`'s block at point `t`, of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

theorem hfirst1 : ∀ t : Fin cfg1.N, first1 (grid1.coords t) ↔ t.val % 4 = 0 :=
  (fun t => by
    have ht : t.val < 16 := Nat.lt_of_lt_of_eq t.isLt N_1
    have e2 : (grid1.coords t 2).val = t.val / 1 % 4 := Pipeline.Grid.coords_val t 2 (by decide) rfl
    simp only [first1, e2]
    word_cmp
   : ∀ t : Fin grid1.N, first1 (grid1.coords t) ↔ t.val % 4 = 0)

theorem hlast1 : ∀ t : Fin cfg1.N, k1_cond2 (grid1.coords t) = 1#1 ↔ t.val % 4 = 3 :=
  (fun t => by
    have ht : t.val < 16 := Nat.lt_of_lt_of_eq t.isLt N_1
    have e2 : (grid1.coords t 2).val = t.val / 1 % 4 := Pipeline.Grid.coords_val t 2 (by decide) rfl
    simp only [k1_cond2, e2]
    word_cmp
   : ∀ t : Fin grid1.N, k1_cond2 (grid1.coords t) = 1#1 ↔ t.val % 4 = 3)

/-- Point `n` of the grid. -/
def pt1 (n : ℕ) : Fin cfg1.N := ⟨n % 16, Nat.lt_of_lt_of_eq (Nat.mod_lt n (by decide)) (show cfg1.N = 16 from N_1).symm⟩

theorem pt1_val (t : Fin cfg1.N) : pt1 t.val = t :=
  Fin.ext (Nat.mod_eq_of_lt (Nat.lt_of_lt_of_eq t.isLt (show cfg1.N = 16 from N_1)))

/-- The accumulator before point `n`, past the first of its group. -/
def scr1 (c : Dev nD) : ℕ → Vec F S1024x1024 .f32
  | 0 => k1_pay1
  | n + 1 => k1_pay2 (if n % 4 = 0 then k1_pay1 else scr1 c n) (iblk1 W c 0 (pt1 n)) (iblk1 W c 1 (pt1 n))

/-- The accumulator point `n` starts from: zero at the first point of a group. -/
def start1 (c : Dev nD) (n : ℕ) : Vec F S1024x1024 .f32 := if n % 4 = 0 then k1_pay1 else scr1 W c n

theorem scr1_succ (c : Dev nD) (n : ℕ) : scr1 W c (n + 1) = k1_pay2 (start1 W c n) (iblk1 W c 0 (pt1 n)) (iblk1 W c 1 (pt1 n)) := rfl

/-- The accumulator's buffer. -/
abbrev scM1 : Memref sig .tc .vmem S1024x1024 .f32 := Memref.whole cc1_scratch0

/-- The scoped buffers the region does not use. -/
abbrev rest1 (c : Dev nD) : sProp 𝕄 := Pipeline.scopedRestBut (Ix := Unit) (Name := ℕ) (U := UR sig nD τ) (Lvl := ℕ) (Val := Elt F) spec1 c [cc1_scratch0]

theorem scoped1 (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ rest1 c) := by
  rw [scopedRest1_split]
  simp only [scM1, owns_whole]
  rfl

/-- Before point `n`: the accumulator, at its contents unless a group begins; the other buffers and the generator register. -/
def Phi1 (c : Dev nD) (n : ℕ) : sProp 𝕄 :=
  iprop((∃ d, ⌜n % 4 ≠ 0 → d = scr1 W c n⌝ ∗ owns (c : Thread nD τ) scM1 fullShare d) ∗ rest1 c ∗ ∃ r, prngReg c r)

/-- The region's proof data: each input's buffer at its block, each output's at what the group's last point writes. -/
def dat1 (c : Dev nD) : Dat τ (Elt F) Unit ℕ (UR sig nD τ) ℕ cfg1 c where
  A w := W c (Proc.devRef .tc (Pipeline.arrRef spec1 w))
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => iblk1 W c 4 t
    | ⟨5, _⟩ => scr1 W c (t.val + 1)
    | ⟨6, _⟩ => k1_pay3 (scr1 W c (t.val + 1)) (iblk1 W c 2 t) (iblk1 W c 3 t) (iblk1 W c 4 t)
    | ⟨7, _⟩ => k1_pay4 (scr1 W c (t.val + 1)) (iblk1 W c 2 t) (iblk1 W c 3 t) (iblk1 W c 4 t)
  Φ t := Phi1 W c t.val
  q _ := fullShare
  owed _ := 0

theorem A1_eq (c : Dev nD) (w : Fin cfg1.W) : (dat1 W c).A w = W c (Proc.devRef .tc (Pipeline.arrRef spec1 w)) := by
  dsimp only [dat1]

theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = iblk1 W c 4 t := by dsimp only [dat1]
theorem after1_5 (c : Dev nD) (t : Fin cfg1.N) : (dat1 W c).after 5 t = scr1 W c (t.val + 1) := by dsimp only [dat1]
theorem after1_6 (c : Dev nD) (t : Fin cfg1.N) : (dat1 W c).after 6 t = k1_pay3 (scr1 W c (t.val + 1)) (iblk1 W c 2 t) (iblk1 W c 3 t) (iblk1 W c 4 t) := by dsimp only [dat1]
theorem after1_7 (c : Dev nD) (t : Fin cfg1.N) : (dat1 W c).after 7 t = k1_pay4 (scr1 W c (t.val + 1)) (iblk1 W c 2 t) (iblk1 W c 3 t) (iblk1 W c 4 t) := by dsimp only [dat1]

theorem before1 (c : Dev nD) : (∀ t d, (dat1 W c).before 0 t d = iblk1 W c 0 t) ∧ (∀ t d, (dat1 W c).before 1 t d = iblk1 W c 1 t) ∧ (∀ t d, (dat1 W c).before 2 t d = iblk1 W c 2 t) ∧ (∀ t d, (dat1 W c).before 3 t d = iblk1 W c 3 t) ∧ (∀ t d, (dat1 W c).before 4 t d = iblk1 W c 4 t) := by
  refine ⟨fun t d => ?_, fun t d => ?_, fun t d => ?_, fun t d => ?_, fun t d => ?_⟩ <;>
    exact ((dat1 W c).before_in_eq_fetched _ rfl (fun _ => rfl) (fun _ _ _ => rfl) (fun t => by unfold Dat.blockOf; rw [A1_eq]; rfl) t d).trans
      (by unfold Dat.fetched Dat.blockOf; rw [A1_eq]; rfl)

/-- What the body is called with at point `t`, -/
def pre1 (c : Dev nD) (t : Fin cfg1.N) : sProp 𝕄 :=
  iprop((dat1 W c).Φ t.castSucc ∗ (dat1 W c).owesAt () t.castSucc
    ∗ (∃ d, owns (c : Thread nD τ) (win1_0.stage (cfg1.slots t 0)) fullShare ((dat1 W c).before 0 t d))
    ∗ (∃ d, owns (c : Thread nD τ) (win1_1.stage (cfg1.slots t 1)) fullShare ((dat1 W c).before 1 t d))
    ∗ (∃ d, owns (c : Thread nD τ) (win1_2.stage (cfg1.slots t 2)) fullShare ((dat1 W c).before 2 t d))
    ∗ (∃ d, owns (c : Thread nD τ) (win1_3.stage (cfg1.slots t 3)) fullShare ((dat1 W c).before 3 t d))
    ∗ (∃ d, owns (c : Thread nD τ) (win1_4.stage (cfg1.slots t 4)) fullShare ((dat1 W c).before 4 t d))
    ∗ (∃ d, owns (c : Thread nD τ) (win1_5.stage (cfg1.slots t 5)) fullShare ((dat1 W c).before 5 t d))
    ∗ (∃ d, owns (c : Thread nD τ) (win1_6.stage (cfg1.slots t 6)) fullShare ((dat1 W c).before 6 t d))
    ∗ (∃ d, owns (c : Thread nD τ) (win1_7.stage (cfg1.slots t 7)) fullShare ((dat1 W c).before 7 t d)))

/-- and what it returns: an output as found, but at the last point of a group as computed. -/
def post1 (c : Dev nD) (t : Fin cfg1.N) : sProp 𝕄 :=
  iprop((dat1 W c).Φ t.succ ∗ (dat1 W c).owesAt () t.succ
    ∗ owns (c : Thread nD τ) (win1_0.stage (cfg1.slots t 0)) fullShare ((dat1 W c).after 0 t)
    ∗ owns (c : Thread nD τ) (win1_1.stage (cfg1.slots t 1)) fullShare ((dat1 W c).after 1 t)
    ∗ owns (c : Thread nD τ) (win1_2.stage (cfg1.slots t 2)) fullShare ((dat1 W c).after 2 t)
    ∗ owns (c : Thread nD τ) (win1_3.stage (cfg1.slots t 3)) fullShare ((dat1 W c).after 3 t)
    ∗ owns (c : Thread nD τ) (win1_4.stage (cfg1.slots t 4)) fullShare ((dat1 W c).after 4 t)
    ∗ (dat1 W c).leavesExact 5 t
    ∗ (dat1 W c).leavesExact 6 t
    ∗ (dat1 W c).leavesExact 7 t)

theorem leaves1_5_mid (c : Dev nD) (t : Fin cfg1.N) (h : t.val % 4 ≠ 3) :
    (dat1 W c).leavesExact 5 t = iprop(∃ d, owns (c : Thread nD τ) (win1_5.stage (cfg1.slots t 5)) fullShare ((dat1 W c).before 5 t d)) := by
  refine Dat.leavesExact_idle _ _ _ ?_ (Bool.eq_false_iff.mpr fun hf => h ((flush1_5 t).mp hf))
  show (!(k1_cond2 (grid1.coords t) == 1#1)) = true
  rw [Bool.not_eq_true', beq_eq_false_iff_ne]
  exact fun hc => h ((hlast1 t).mp hc)

theorem leaves1_5_last (c : Dev nD) (t : Fin cfg1.N) (h : t.val % 4 = 3) :
    (dat1 W c).leavesExact 5 t = owns (c : Thread nD τ) (win1_5.stage (cfg1.slots t 5)) fullShare ((dat1 W c).after 5 t) := by
  have hi : cfg1.idle 5 (cfg1.grid.coords t) = false := by
    show (!(k1_cond2 (grid1.coords t) == 1#1)) = false
    rw [Bool.not_eq_false', beq_iff_eq]
    exact (hlast1 t).mpr h
  unfold Dat.leavesExact; rw [hi]

theorem leaves1_6_mid (c : Dev nD) (t : Fin cfg1.N) (h : t.val % 4 ≠ 3) :
    (dat1 W c).leavesExact 6 t = iprop(∃ d, owns (c : Thread nD τ) (win1_6.stage (cfg1.slots t 6)) fullShare ((dat1 W c).before 6 t d)) := by
  refine Dat.leavesExact_idle _ _ _ ?_ (Bool.eq_false_iff.mpr fun hf => h ((flush1_6 t).mp hf))
  show (!(k1_cond2 (grid1.coords t) == 1#1)) = true
  rw [Bool.not_eq_true', beq_eq_false_iff_ne]
  exact fun hc => h ((hlast1 t).mp hc)

theorem leaves1_6_last (c : Dev nD) (t : Fin cfg1.N) (h : t.val % 4 = 3) :
    (dat1 W c).leavesExact 6 t = owns (c : Thread nD τ) (win1_6.stage (cfg1.slots t 6)) fullShare ((dat1 W c).after 6 t) := by
  have hi : cfg1.idle 6 (cfg1.grid.coords t) = false := by
    show (!(k1_cond2 (grid1.coords t) == 1#1)) = false
    rw [Bool.not_eq_false', beq_iff_eq]
    exact (hlast1 t).mpr h
  unfold Dat.leavesExact; rw [hi]

theorem leaves1_7_mid (c : Dev nD) (t : Fin cfg1.N) (h : t.val % 4 ≠ 3) :
    (dat1 W c).leavesExact 7 t = iprop(∃ d, owns (c : Thread nD τ) (win1_7.stage (cfg1.slots t 7)) fullShare ((dat1 W c).before 7 t d)) := by
  refine Dat.leavesExact_idle _ _ _ ?_ (Bool.eq_false_iff.mpr fun hf => h ((flush1_7 t).mp hf))
  show (!(k1_cond2 (grid1.coords t) == 1#1)) = true
  rw [Bool.not_eq_true', beq_eq_false_iff_ne]
  exact fun hc => h ((hlast1 t).mp hc)

theorem leaves1_7_last (c : Dev nD) (t : Fin cfg1.N) (h : t.val % 4 = 3) :
    (dat1 W c).leavesExact 7 t = owns (c : Thread nD τ) (win1_7.stage (cfg1.slots t 7)) fullShare ((dat1 W c).after 7 t) := by
  have hi : cfg1.idle 7 (cfg1.grid.coords t) = false := by
    show (!(k1_cond2 (grid1.coords t) == 1#1)) = false
    rw [Bool.not_eq_false', beq_iff_eq]
    exact (hlast1 t).mpr h
  unfold Dat.leavesExact; rw [hi]

set_option maxHeartbeats 6400000 in
/-- The body at any point. -/
theorem sound1 (c : Dev nD) (t : Fin cfg1.N) :
    pre1 W c t ⊢ wp frame (wpE (defs₀ (F := F)) Variants.none (c : Thread nD τ) none) Set.univ (bodyAt1 t) (fun _ => post1 W c t) := by
  unfold pre1 post1 bodyAt1
  simp only [before1]
  rw [show (dat1 W c).owesAt () t.succ = (dat1 W c).owesAt () t.castSucc from rfl, after1_0, after1_1, after1_2, after1_3, after1_4]
  rw [show (dat1 W c).Φ t.succ = Phi1 W c (t.val + 1) from rfl, show (dat1 W c).Φ t.castSucc = Phi1 W c t.val from rfl]
  unfold Phi1
  by_cases h0 : t.val % 4 = 0
  · have h7 : t.val % 4 ≠ 3 := by omega
    have hs : scr1 W c (t.val + 1) = k1_pay2 (k1_pay1 (F := F)) (iblk1 W c 0 t) (iblk1 W c 1 t) := by rw [scr1_succ, pt1_val]; unfold start1; rw [if_pos h0]
    rw [leaves1_5_mid W c t h7, leaves1_6_mid W c t h7, leaves1_7_mid W c t h7, hs]
    iintro ⟨⟨⟨%e0, -, HS⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body1_A c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) _ (hstage1_6 ((cfg1.slots t 6).cast nbuf1_6)) _ (hstage1_7 ((cfg1.slots t 7).cast nbuf1_7)) scM1 (Memref.isWhole_whole _) ((hfirst1 t).mpr h0) (fun h => h7 ((hlast1 t).mp h)) (iblk1 W c 0 t) (iblk1 W c 1 t) Set.univ _)
    isplitl [H0]; · iexact H0
    isplitl [H1]; · iexact H1
    isplitl [HS]; · iexists _; iexact HS
    iintro ⟨H0, H1, HS⟩
    isplitl [HS Hr Hg]
    · isplitl [HS]
      · iexists _
        isplitr
        swap
        · iexact HS
        ipureintro
        exact fun _ => rfl
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7
  · by_cases h7 : t.val % 4 = 3
    · have hs : scr1 W c (t.val + 1) = k1_pay2 (scr1 W c t.val) (iblk1 W c 0 t) (iblk1 W c 1 t) := by rw [scr1_succ, pt1_val]; unfold start1; rw [if_neg h0]
      rw [leaves1_5_last W c t h7, after1_5, leaves1_6_last W c t h7, after1_6, leaves1_7_last W c t h7, after1_7, hs]
      iintro ⟨⟨⟨%e0, %he, HS⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := he h0
      iapply (body1_C c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) _ (hstage1_6 ((cfg1.slots t 6).cast nbuf1_6)) _ (hstage1_7 ((cfg1.slots t 7).cast nbuf1_7)) scM1 (Memref.isWhole_whole _) (fun h => h0 ((hfirst1 t).mp h)) ((hlast1 t).mpr h7) (scr1 W c t.val) (iblk1 W c 0 t) (iblk1 W c 1 t) (iblk1 W c 2 t) (iblk1 W c 3 t) (iblk1 W c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS]; · iexact HS
      iintro ⟨H0, H1, H2, H3, H4, H5, H6, H7, HS⟩
      isplitl [HS Hr Hg]
      · isplitl [HS]
        · iexists _
          isplitr
          swap
          · iexact HS
          ipureintro
          exact fun _ => rfl
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hs : scr1 W c (t.val + 1) = k1_pay2 (scr1 W c t.val) (iblk1 W c 0 t) (iblk1 W c 1 t) := by rw [scr1_succ, pt1_val]; unfold start1; rw [if_neg h0]
      rw [leaves1_5_mid W c t h7, leaves1_6_mid W c t h7, leaves1_7_mid W c t h7, hs]
      iintro ⟨⟨⟨%e0, %he, HS⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := he h0
      iapply (body1_B c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) _ (hstage1_6 ((cfg1.slots t 6).cast nbuf1_6)) _ (hstage1_7 ((cfg1.slots t 7).cast nbuf1_7)) scM1 (Memref.isWhole_whole _) (fun h => h0 ((hfirst1 t).mp h)) (fun h => h7 ((hlast1 t).mp h)) (scr1 W c t.val) (iblk1 W c 0 t) (iblk1 W c 1 t) Set.univ _)
      isplitl [H0]; · iexact H0
      isplitl [H1]; · iexact H1
      isplitl [HS]; · iexact HS
      iintro ⟨H0, H1, HS⟩
      isplitl [HS Hr Hg]
      · isplitl [HS]
        · iexists _
          isplitr
          swap
          · iexact HS
          ipureintro
          exact fun _ => rfl
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iexists _; iexact H7

theorem row1 (t : Fin cfg1.N) :
    defs₀ (F := F) .tc cfg1.body (cfg1.bodyArgs t (cfg1.slots t)) = bodyAt1 t := by
  unfold defs₀; rw [Defs.onTc_tc]

/-- The library's body obligation, at every point. -/
theorem obligation1 (c : Dev nD) : BodyObligation (dat1 W c) (defs₀ (F := F)) Variants.none () Set.univ := fun t => by
  rw [bigSep_W1, bigSep_W1, row1]
  exact triple_restated (sound1 W c t) rfl .rfl fun _ => .rfl

theorem phi1_in (c : Dev nD) :
    iprop(Pipeline.scopedRest (Ix := Unit) (Name := ℕ) (U := UR sig nD τ) (Lvl := ℕ) (Val := Elt F) spec1 c ∗ (∃ r, prngReg c r)) ⊢ Phi1 W c 0 := by
  rw [scoped1]; unfold Phi1
  iintro ⟨⟨⟨%d0, H0⟩, Hr⟩, Hg⟩
  isplitl [H0]
  · iexists d0
    isplitr
    · ipureintro; exact fun h => absurd rfl h
    iexact H0
  isplitl [Hr]; · iexact Hr
  iexact Hg

theorem phi1_out (c : Dev nD) (n : ℕ) :
    Phi1 W c n ⊢ iprop(Pipeline.scopedRest (Ix := Unit) (Name := ℕ) (U := UR sig nD τ) (Lvl := ℕ) (Val := Elt F) spec1 c ∗ (∃ r, prngReg c r)) := by
  rw [scoped1]; unfold Phi1
  iintro ⟨⟨%d0, -, H0⟩, Hr, Hg⟩
  isplitr [Hg]
  · isplitl [H0]; · iexists _; iexact H0
    iexact Hr
  iexact Hg

end Cert.Kernel2Ideal.Mlp

end
-- ==== Proof.Mlp2.lean ====
/-
  Call 2 of the layer, the gradient of the norm, at any floats and from any contents of the arrays: what one grid point
  does, what the two parameter gradients' blocks hold after each point, the pipeline's proof data and the body obligation.
-/
module

public import proofs.«01_k».proof.Proof.MlpLoads
public import proofs.«01_k».proof.Proof.Gen.Kernel2Ideal.Skeleton
public import proofs.«01_k».proof.Proof.Gen.Kernel2Ideal.Points
public import proofs.«01_k».proof.Proof.Gen.Kernel2Ideal.Launch
public import Idealize.ShloMosaic.Lib.Pipeline.RegionArraysS
public import Idealize.ShloMosaic.Lib.Tactic
public import Idealize.ShloMosaic.Lib.WordCmp

@[expose] public section

set_option maxRecDepth 16384

noncomputable section

namespace Cert.Kernel2Ideal.Mlp

open Idealize.ShloMosaic Idealize.ShloMosaic.TcCoe Idealize.ShloMosaic.Tactic Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's two branches: the point is the first. -/
abbrev first2 (i : grid2.Coords) : Prop := (Scalar.cmpi .ne (Scalar.extui (Scalar.cmpi .eq (BitVec.ofNat 32 (i 0).val) 0#32)) 0#32) = 1#1

/-- The gradient at the rows' residual sums, from the rows of the layer's input, of its output before the norm, of the cotangent, and the norm's scales. -/
def dyRows (x y : Vec F S512x1024 .f32) (g : Vec F S1x1024 .f32) (d : Vec F S512x1024 .f32) : Vec F S512x1024 .f32 :=
  k2_pay16 (k2_pay6 x y) (k2_pay9 x y) (k2_pay10 x y) (k2_pay14 g d) (k2_pay15 x y g d)
/-- The same in the narrow float. -/
def dybRows (x y : Vec F S512x1024 .f32) (g : Vec F S1x1024 .f32) (d : Vec F S512x1024 .f32) : Vec F S512x1024 .bf16 :=
  k2_pay17 (k2_pay6 x y) (k2_pay9 x y) (k2_pay10 x y) (k2_pay14 g d) (k2_pay15 x y g d)

section

variable (c : Dev nD) (i : grid2.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1x1024 .f32) (harg9 : arg9.IsWhole)

set_option maxHeartbeats 2000000 in
/-- At the first point the parameter gradients start from zero. -/
theorem body2_A (h1 : first2 i) (x0 x1 : Vec F S512x1024 .f32) (x2 : Vec F S1x1024 .f32) (x4 : Vec F S512x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg5 fullShare x4 ∗ owns (c : Thread nD τ) arg6 fullShare (dyRows x0 x1 x2 x4) ∗ owns (c : Thread nD τ) arg7 fullShare (dybRows x0 x1 x2 x4) ∗ owns (c : Thread nD τ) arg8 fullShare (k2_pay19 (k2_pay13 x0 x1 x4) (k2_pay18 (F := F))) ∗ owns (c : Thread nD τ) arg9 fullShare (k2_pay2 (k2_pay12 x4) (k2_pay1 (F := F)))) -∗ K ⟨⟩))
      ⊢ wp frame (wpE (defs₀ (F := F)) Variants.none (c : Thread nD τ) none) E (cc2_L3_dln2 i arg1 harg1 arg2 harg2 arg3 harg3 arg4 harg4 arg5 harg5 arg6 harg6 arg7 harg7 arg8 harg8 arg9 harg9) K := by
  simp only [cc2_L3_dln2_eq_skeleton]; unfold cc2_L3_dln2_skel
  simp only [k2_part1_eq_skeleton, k2_part2_eq_skeleton]; unfold k2_part1_skel k2_part2_skel
  unfold owns
  iintro ⟨⟨%f0, %hf0, H0⟩, ⟨%f1, %hf1, H1⟩, ⟨%f2, %hf2, H2⟩, ⟨%f4, %hf4, H4⟩, ⟨%d5, %f5, -, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2; obtain rfl := harg5.eq_unread hf4
  sl_exec (disch := first | sl_exact h1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H4]
  · iexists _; isplitr; · ipureintro; exact harg5.read_unread _
    iexact H4
  isplitl [H5]
  · iexists _; isplitr; swap; · iexact H5
    ipureintro
    sl_unfold_words
    rw [View.read_writes_full]
    simp only [at_S512x1024, at_S1x1024, cov_S1x1024, dyRows, dybRows, harg1.read_unread, harg2.read_unread, harg3.read_unread, harg5.read_unread]
  isplitl [H6]
  · iexists _; isplitr; swap; · iexact H6
    ipureintro
    sl_unfold_words
    rw [View.read_writes_full]
    simp only [at_S512x1024, at_S1x1024, cov_S1x1024, dyRows, dybRows, harg1.read_unread, harg2.read_unread, harg3.read_unread, harg5.read_unread]
  isplitl [H7]
  · iexists _; isplitr; swap; · iexact H7
    ipureintro
    sl_unfold_words
    rw [View.read_writes_full]
    simp only [at_S512x1024, at_S1x1024, cov_S1x1024, dyRows, dybRows, harg1.read_unread, harg2.read_unread, harg3.read_unread, harg5.read_unread]
  iexists _; isplitr; swap; · iexact H8
  ipureintro
  sl_unfold_words
  rw [View.read_writes_full]
  simp only [at_S512x1024, at_S1x1024, cov_S1x1024, dyRows, dybRows, harg1.read_unread, harg2.read_unread, harg3.read_unread, harg5.read_unread]

set_option maxHeartbeats 2000000 in
/-- At a later point they start from what the point before left. -/
theorem body2_B (h1 : ¬first2 i) (s7 s8 : Vec F S1x1024 .f32) (x0 x1 : Vec F S512x1024 .f32) (x2 : Vec F S1x1024 .f32) (x4 : Vec F S512x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg5 fullShare x4 ∗ (∃ d, owns (c : Thread nD τ) arg6 fullShare d) ∗ (∃ d, owns (c : Thread nD τ) arg7 fullShare d) ∗ owns (c : Thread nD τ) arg8 fullShare s7 ∗ owns (c : Thread nD τ) arg9 fullShare s8
        ∗ (iprop(owns (c : Thread nD τ) arg1 fullShare x0 ∗ owns (c : Thread nD τ) arg2 fullShare x1 ∗ owns (c : Thread nD τ) arg3 fullShare x2 ∗ owns (c : Thread nD τ) arg5 fullShare x4 ∗ owns (c : Thread nD τ) arg6 fullShare (dyRows x0 x1 x2 x4) ∗ owns (c : Thread nD τ) arg7 fullShare (dybRows x0 x1 x2 x4) ∗ owns (c : Thread nD τ) arg8 fullShare (k2_pay19 (k2_pay13 x0 x1 x4) s7) ∗ owns (c : Thread nD τ) arg9 fullShare (k2_pay2 (k2_pay12 x4) s8)) -∗ K ⟨⟩))
      ⊢ wp frame (wpE (defs₀ (F := F)) Variants.none (c : Thread nD τ) none) E (cc2_L3_dln2 i arg1 harg1 arg2 harg2 arg3 harg3 arg4 harg4 arg5 harg5 arg6 harg6 arg7 harg7 arg8 harg8 arg9 harg9) K := by
  simp only [cc2_L3_dln2_eq_skeleton]; unfold cc2_L3_dln2_skel
  simp only [k2_part1_eq_skeleton, k2_part2_eq_skeleton]; unfold k2_part1_skel k2_part2_skel
  unfold owns
  iintro ⟨⟨%f0, %hf0, H0⟩, ⟨%f1, %hf1, H1⟩, ⟨%f2, %hf2, H2⟩, ⟨%f4, %hf4, H4⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg5.eq_unread hf4; obtain rfl := harg8.eq_unread hf7; obtain rfl := harg9.eq_unread hf8
  sl_exec (disch := first | sl_exact h1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H4]
  · iexists _; isplitr; · ipureintro; exact harg5.read_unread _
    iexact H4
  isplitl [H5]
  · iexists _; isplitr; swap; · iexact H5
    ipureintro
    sl_unfold_words
    rw [View.read_writes_full]
    simp only [at_S512x1024, at_S1x1024, cov_S1x1024, dyRows, dybRows, harg1.read_unread, harg2.read_unread, harg3.read_unread, harg5.read_unread, harg8.read_unread, harg9.read_unread]
  isplitl [H6]
  · iexists _; isplitr; swap; · iexact H6
    ipureintro
    sl_unfold_words
    rw [View.read_writes_full]
    simp only [at_S512x1024, at_S1x1024, cov_S1x1024, dyRows, dybRows, harg1.read_unread, harg2.read_unread, harg3.read_unread, harg5.read_unread, harg8.read_unread, harg9.read_unread]
  isplitl [H7]
  · iexists _; isplitr; swap; · iexact H7
    ipureintro
    sl_unfold_words
    rw [View.read_writes_full]
    simp only [at_S512x1024, at_S1x1024, cov_S1x1024, dyRows, dybRows, harg1.read_unread, harg2.read_unread, harg3.read_unread, harg5.read_unread, harg8.read_unread, harg9.read_unread]
  iexists _; isplitr; swap; · iexact H8
  ipureintro
  sl_unfold_words
  rw [View.read_writes_full]
  simp only [at_S512x1024, at_S1x1024, cov_S1x1024, dyRows, dybRows, harg1.read_unread, harg2.read_unread, harg3.read_unread, harg5.read_unread, harg8.read_unread, harg9.read_unread]

end

variable (W : Dev nD → Valuation τ sig (Elt F))

/-- Window `w`'s block at point `t`, of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

theorem hfirst2 : ∀ t : Fin cfg2.N, first2 (grid2.coords t) ↔ t.val = 0 :=
  (fun t => by
    have ht : t.val < 8 := Nat.lt_of_lt_of_eq t.isLt N_2
    have e0 : (grid2.coords t 0).val = t.val / 1 % 8 := Pipeline.Grid.coords_val t 0 (by decide) rfl
    simp only [first2, e0]
    word_cmp
   : ∀ t : Fin grid2.N, first2 (grid2.coords t) ↔ t.val = 0)

/-- Point `n` of the grid. -/
def pt2 (n : ℕ) : Fin cfg2.N := ⟨n % 8, Nat.lt_of_lt_of_eq (Nat.mod_lt n (by decide)) (show cfg2.N = 8 from N_2).symm⟩

theorem pt2_val (t : Fin cfg2.N) : pt2 t.val = t :=
  Fin.ext (Nat.mod_eq_of_lt (Nat.lt_of_lt_of_eq t.isLt (show cfg2.N = 8 from N_2)))

/-- The scales' gradient over the blocks of rows before point `n`, -/
def dgs (c : Dev nD) : ℕ → Vec F S1x1024 .f32
  | 0 => k2_pay18
  | n + 1 => k2_pay19 (k2_pay13 (iblk2 W c 0 (pt2 n)) (iblk2 W c 1 (pt2 n)) (iblk2 W c 4 (pt2 n))) (dgs c n)
/-- and the shifts'. -/
def dbs (c : Dev nD) : ℕ → Vec F S1x1024 .f32
  | 0 => k2_pay1
  | n + 1 => k2_pay2 (k2_pay12 (iblk2 W c 4 (pt2 n))) (dbs c n)

theorem dgs_succ (c : Dev nD) (t : Fin cfg2.N) : dgs W c (t.val + 1) = k2_pay19 (k2_pay13 (iblk2 W c 0 t) (iblk2 W c 1 t) (iblk2 W c 4 t)) (dgs W c t.val) := by
  unfold dgs; rw [pt2_val]; cases t.val <;> rfl
theorem dbs_succ (c : Dev nD) (t : Fin cfg2.N) : dbs W c (t.val + 1) = k2_pay2 (k2_pay12 (iblk2 W c 4 t)) (dbs W c t.val) := by
  unfold dbs; rw [pt2_val]; cases t.val <;> rfl

/-- Between points: the scoped buffers and the generator register. -/
def Phi2 (c : Dev nD) : sProp 𝕄 :=
  iprop(Pipeline.scopedRest (Ix := Unit) (Name := ℕ) (U := UR sig nD τ) (Lvl := ℕ) (Val := Elt F) spec2 c ∗ ∃ r, prngReg c r)

/-- The region's proof data. -/
def dat2 (c : Dev nD) : Dat τ (Elt F) Unit ℕ (UR sig nD τ) ℕ cfg2 c where
  A w := W c (Proc.devRef .tc (Pipeline.arrRef spec2 w))
  after w t := match w with
    | ⟨0, _⟩ => iblk2 W c 0 t
    | ⟨1, _⟩ => iblk2 W c 1 t
    | ⟨2, _⟩ => iblk2 W c 2 t
    | ⟨3, _⟩ => iblk2 W c 3 t
    | ⟨4, _⟩ => iblk2 W c 4 t
    | ⟨5, _⟩ => dyRows (iblk2 W c 0 t) (iblk2 W c 1 t) (iblk2 W c 2 t) (iblk2 W c 4 t)
    | ⟨6, _⟩ => dybRows (iblk2 W c 0 t) (iblk2 W c 1 t) (iblk2 W c 2 t) (iblk2 W c 4 t)
    | ⟨7, _⟩ => dgs W c (t.val + 1)
    | ⟨8, _⟩ => dbs W c (t.val + 1)
  Φ _ := Phi2 c
  q _ := fullShare
  owed _ := 0

theorem A2_eq (c : Dev nD) (w : Fin cfg2.W) : (dat2 W c).A w = W c (Proc.devRef .tc (Pipeline.arrRef spec2 w)) := by
  dsimp only [dat2]

theorem after2_0 (c : Dev nD) (t : Fin cfg2.N) : (dat2 W c).after 0 t = iblk2 W c 0 t := by dsimp only [dat2]
theorem after2_1 (c : Dev nD) (t : Fin cfg2.N) : (dat2 W c).after 1 t = iblk2 W c 1 t := by dsimp only [dat2]
theorem after2_2 (c : Dev nD) (t : Fin cfg2.N) : (dat2 W c).after 2 t = iblk2 W c 2 t := by dsimp only [dat2]
theorem after2_3 (c : Dev nD) (t : Fin cfg2.N) : (dat2 W c).after 3 t = iblk2 W c 3 t := by dsimp only [dat2]
theorem after2_4 (c : Dev nD) (t : Fin cfg2.N) : (dat2 W c).after 4 t = iblk2 W c 4 t := by dsimp only [dat2]
theorem after2_5 (c : Dev nD) (t : Fin cfg2.N) : (dat2 W c).after 5 t = dyRows (iblk2 W c 0 t) (iblk2 W c 1 t) (iblk2 W c 2 t) (iblk2 W c 4 t) := by dsimp only [dat2]
theorem after2_6 (c : Dev nD) (t : Fin cfg2.N) : (dat2 W c).after 6 t = dybRows (iblk2 W c 0 t) (iblk2 W c 1 t) (iblk2 W c 2 t) (iblk2 W c 4 t) := by dsimp only [dat2]
theorem after2_7 (c : Dev nD) (t : Fin cfg2.N) : (dat2 W c).after 7 t = dgs W c (t.val + 1) := by dsimp only [dat2]
theorem after2_8 (c : Dev nD) (t : Fin cfg2.N) : (dat2 W c).after 8 t = dbs W c (t.val + 1) := by dsimp only [dat2]

theorem before2 (c : Dev nD) : (∀ t d, (dat2 W c).before 0 t d = iblk2 W c 0 t) ∧ (∀ t d, (dat2 W c).before 1 t d = iblk2 W c 1 t) ∧ (∀ t d, (dat2 W c).before 2 t d = iblk2 W c 2 t) ∧ (∀ t d, (dat2 W c).before 3 t d = iblk2 W c 3 t) ∧ (∀ t d, (dat2 W c).before 4 t d = iblk2 W c 4 t) := by
  refine ⟨fun t d => ?_, fun t d => ?_, fun t d => ?_, fun t d => ?_, fun t d => ?_⟩ <;>
    exact ((dat2 W c).before_in_eq_fetched _ rfl (fun _ => rfl) (fun _ _ _ => rfl) (fun t => by unfold Dat.blockOf; rw [A2_eq]; rfl) t d).trans
      (by unfold Dat.fetched Dat.blockOf; rw [A2_eq]; rfl)
theorem before2_7 (c : Dev nD) (t : Fin cfg2.N) (ht : t.val ≠ 0) (d) : (dat2 W c).before 7 t d = dgs W c t.val := by
  have h8 : t.val < 8 := Nat.lt_of_lt_of_eq t.isLt N_2
  rw [(dat2 W c).before_out_kept 7 rfl t ht (Bool.eq_false_iff.mpr fun hf => by
    have := (flush2_7 _).mp hf
    simp only at this
    omega) (fun _ => rfl) (fun _ _ => rfl) d, after2_7]
  show dgs W c (t.val - 1 + 1) = _
  rw [Nat.sub_add_cancel (Nat.one_le_iff_ne_zero.mpr ht)]
theorem before2_8 (c : Dev nD) (t : Fin cfg2.N) (ht : t.val ≠ 0) (d) : (dat2 W c).before 8 t d = dbs W c t.val := by
  have h8 : t.val < 8 := Nat.lt_of_lt_of_eq t.isLt N_2
  rw [(dat2 W c).before_out_kept 8 rfl t ht (Bool.eq_false_iff.mpr fun hf => by
    have := (flush2_8 _).mp hf
    simp only at this
    omega) (fun _ => rfl) (fun _ _ => rfl) d, after2_8]
  show dbs W c (t.val - 1 + 1) = _
  rw [Nat.sub_add_cancel (Nat.one_le_iff_ne_zero.mpr ht)]

/-- What the body is called with at point `t`, -/
def pre2 (c : Dev nD) (t : Fin cfg2.N) : sProp 𝕄 :=
  iprop((dat2 W c).Φ t.castSucc ∗ (dat2 W c).owesAt () t.castSucc
    ∗ (∃ d, owns (c : Thread nD τ) (win2_0.stage (cfg2.slots t 0)) fullShare ((dat2 W c).before 0 t d))
    ∗ (∃ d, owns (c : Thread nD τ) (win2_1.stage (cfg2.slots t 1)) fullShare ((dat2 W c).before 1 t d))
    ∗ (∃ d, owns (c : Thread nD τ) (win2_2.stage (cfg2.slots t 2)) fullShare ((dat2 W c).before 2 t d))
    ∗ (∃ d, owns (c : Thread nD τ) (win2_3.stage (cfg2.slots t 3)) fullShare ((dat2 W c).before 3 t d))
    ∗ (∃ d, owns (c : Thread nD τ) (win2_4.stage (cfg2.slots t 4)) fullShare ((dat2 W c).before 4 t d))
    ∗ (∃ d, owns (c : Thread nD τ) (win2_5.stage (cfg2.slots t 5)) fullShare ((dat2 W c).before 5 t d))
    ∗ (∃ d, owns (c : Thread nD τ) (win2_6.stage (cfg2.slots t 6)) fullShare ((dat2 W c).before 6 t d))
    ∗ (∃ d, owns (c : Thread nD τ) (win2_7.stage (cfg2.slots t 7)) fullShare ((dat2 W c).before 7 t d))
    ∗ (∃ d, owns (c : Thread nD τ) (win2_8.stage (cfg2.slots t 8)) fullShare ((dat2 W c).before 8 t d)))

/-- and what it returns. -/
def post2 (c : Dev nD) (t : Fin cfg2.N) : sProp 𝕄 :=
  iprop((dat2 W c).Φ t.succ ∗ (dat2 W c).owesAt () t.succ
    ∗ owns (c : Thread nD τ) (win2_0.stage (cfg2.slots t 0)) fullShare ((dat2 W c).after 0 t)
    ∗ owns (c : Thread nD τ) (win2_1.stage (cfg2.slots t 1)) fullShare ((dat2 W c).after 1 t)
    ∗ owns (c : Thread nD τ) (win2_2.stage (cfg2.slots t 2)) fullShare ((dat2 W c).after 2 t)
    ∗ owns (c : Thread nD τ) (win2_3.stage (cfg2.slots t 3)) fullShare ((dat2 W c).after 3 t)
    ∗ owns (c : Thread nD τ) (win2_4.stage (cfg2.slots t 4)) fullShare ((dat2 W c).after 4 t)
    ∗ owns (c : Thread nD τ) (win2_5.stage (cfg2.slots t 5)) fullShare ((dat2 W c).after 5 t)
    ∗ owns (c : Thread nD τ) (win2_6.stage (cfg2.slots t 6)) fullShare ((dat2 W c).after 6 t)
    ∗ owns (c : Thread nD τ) (win2_7.stage (cfg2.slots t 7)) fullShare ((dat2 W c).after 7 t)
    ∗ owns (c : Thread nD τ) (win2_8.stage (cfg2.slots t 8)) fullShare ((dat2 W c).after 8 t))

set_option maxHeartbeats 6400000 in
/-- The body at any point. -/
theorem sound2 (c : Dev nD) (t : Fin cfg2.N) :
    pre2 W c t ⊢ wp frame (wpE (defs₀ (F := F)) Variants.none (c : Thread nD τ) none) Set.univ (bodyAt2 t) (fun _ => post2 W c t) := by
  unfold pre2 post2 bodyAt2
  simp only [before2]
  rw [show (dat2 W c).owesAt () t.succ = (dat2 W c).owesAt () t.castSucc from rfl, after2_0, after2_1, after2_2, after2_3, after2_4, after2_5, after2_6, after2_7, after2_8, dgs_succ, dbs_succ]
  rw [show (dat2 W c).Φ t.succ = Phi2 c from rfl, show (dat2 W c).Φ t.castSucc = Phi2 c from rfl]
  by_cases h0 : t.val = 0
  · have e7 : dgs W c t.val = k2_pay18 := by rw [h0]; rfl
    have e8 : dbs W c t.val = k2_pay1 := by rw [h0]; rfl
    rw [e7, e8]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body2_A c (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (hstage2_4 ((cfg2.slots t 4).cast nbuf2_4)) _ (hstage2_5 ((cfg2.slots t 5).cast nbuf2_5)) _ (hstage2_6 ((cfg2.slots t 6).cast nbuf2_6)) _ (hstage2_7 ((cfg2.slots t 7).cast nbuf2_7)) _ (hstage2_8 ((cfg2.slots t 8).cast nbuf2_8)) ((hfirst2 t).mpr h0) (iblk2 W c 0 t) (iblk2 W c 1 t) (iblk2 W c 2 t) (iblk2 W c 4 t) Set.univ _)
    isplitl [H0]; · iexact H0
    isplitl [H1]; · iexact H1
    isplitl [H2]; · iexact H2
    isplitl [H4]; · iexact H4
    isplitl [H5]; · iexists _; iexact H5
    isplitl [H6]; · iexists _; iexact H6
    isplitl [H7]; · iexists _; iexact H7
    isplitl [H8]; · iexists _; iexact H8
    iintro ⟨H0, H1, H2, H4, H5, H6, H7, H8⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [before2_7 W c t h0, before2_8 W c t h0]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body2_B c (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (hstage2_4 ((cfg2.slots t 4).cast nbuf2_4)) _ (hstage2_5 ((cfg2.slots t 5).cast nbuf2_5)) _ (hstage2_6 ((cfg2.slots t 6).cast nbuf2_6)) _ (hstage2_7 ((cfg2.slots t 7).cast nbuf2_7)) _ (hstage2_8 ((cfg2.slots t 8).cast nbuf2_8)) (fun h => h0 ((hfirst2 t).mp h)) (dgs W c t.val) (dbs W c t.val) (iblk2 W c 0 t) (iblk2 W c 1 t) (iblk2 W c 2 t) (iblk2 W c 4 t) Set.univ _)
    isplitl [H0]; · iexact H0
    isplitl [H1]; · iexact H1
    isplitl [H2]; · iexact H2
    isplitl [H4]; · iexact H4
    isplitl [H5]; · iexists _; iexact H5
    isplitl [H6]; · iexists _; iexact H6
    isplitl [H7]; · iexact H7
    isplitl [H8]; · iexact H8
    iintro ⟨H0, H1, H2, H4, H5, H6, H7, H8⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem row2 (t : Fin cfg2.N) :
    defs₀ (F := F) .tc cfg2.body (cfg2.bodyArgs t (cfg2.slots t)) = bodyAt2 t := by
  unfold defs₀; rw [Defs.onTc_tc]

/-- The library's body obligation, at every point. -/
theorem obligation2 (c : Dev nD) : BodyObligation (dat2 W c) (defs₀ (F := F)) Variants.none () Set.univ := fun t => by
  rw [bigSep_W2, bigSep_W2, row2]
  exact triple_restated (sound2 W c t) rfl .rfl fun _ => .rfl

end Cert.Kernel2Ideal.Mlp

end
-- ==== Proof.Mlp3.lean ====
/-
  Call 3 of the layer, the gradient at the first product, at any floats and from any contents of the arrays: what one grid point
  does, what the accumulator holds before each point, the pipeline's proof data and the body obligation.
-/
module

public import proofs.«01_k».proof.Proof.MlpLoads
public import proofs.«01_k».proof.Proof.Gen.Kernel2Ideal.Skeleton
public import proofs.«01_k».proof.Proof.Gen.Kernel2Ideal.Points
public import proofs.«01_k».proof.Proof.Gen.Kernel2Ideal.Launch
public import Idealize.ShloMosaic.Lib.Pipeline.RegionArraysS
public import Idealize.ShloMosaic.Lib.Tactic
public import Idealize.ShloMosaic.Lib.WordCmp

@[expose] public section

set_option maxRecDepth 16384

noncomputable section

namespace Cert.Kernel2Ideal.Mlp

open Idealize.ShloMosaic Idealize.ShloMosaic.TcCoe Idealize.ShloMosaic.Tactic Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch: the point is the first of its group. -/
abbrev first3 (i : grid3.Coords) : Prop := (Scalar.cmpi .ne (Scalar.extui (Scalar.cmpi .eq (BitVec.ofNat 32 (i 2).val) 0#32)) 0#32) = 1#1

set_option maxHeartbeats 1000000 in
/-- At every point the accumulator is zero plus the two blocks' product, and the outputs are written from it. -/
theorem body3_D (c : Dev nD) (i : grid3.Coords) (arg3 : Memref sig .tc .vmem S2048x1024 .bf16) (harg3 : arg3.IsWhole) (arg4 : Memref sig .tc .vmem S1x512x1024 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .f32) (harg7 : arg7.IsWhole) (h1 : first3 i) (h2 : k3_cond2 i = 1#1) (x0 : Vec F S2048x1024 .bf16) (x1 : Vec F S1x512x1024 .bf16) (x2 : Vec F S2048x512 .bf16) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare (k3_pay3 (k3_pay2 (k3_pay1 (F := F)) x0 x1) x2) ∗ owns (c : Thread nD τ) arg7 fullShare (k3_pay2 (k3_pay1 (F := F)) x0 x1)) -∗ K ⟨⟩))
      ⊢ wp frame (wpE (defs₀ (F := F)) Variants.none (c : Thread nD τ) none) E (cc3_L3_dmlp2 i arg3 harg3 arg4 harg4 arg5 harg5 arg6 harg6 arg7 harg7) K := by
  simp only [cc3_L3_dmlp2_eq_skeleton]; unfold cc3_L3_dmlp2_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg3.eq_unread hf0; obtain rfl := harg4.eq_unread hf1; obtain rfl := harg5.eq_unread hf2
  sl_exec (disch := first | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    sl_unfold_words
    rw [View.read_writes_full]
    simp only [at_S1x512x1024, at_S2048x1024, at_S2048x512, harg3.read_unread, harg4.read_unread, harg5.read_unread, cov_S2048x512]
  iexists _; isplitr; swap; · iexact H4
  ipureintro
  sl_unfold_words
  rw [View.read_writes_full]
  simp only [at_S1x512x1024, at_S2048x1024, at_S2048x512, harg3.read_unread, harg4.read_unread, harg5.read_unread, cov_S2048x512]

variable (W : Dev nD → Valuation τ sig (Elt F))

/-- Window `w`'s block at point `t`, of its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (W c (Proc.devRef .tc (Pipeline.arrRef spec3 w)))

theorem hfirst3 : ∀ t : Fin cfg3.N, first3 (grid3.coords t) ↔ t.val % 1 = 0 :=
  (fun t => by
    have ht : t.val < 16 := Nat.lt_of_lt_of_eq t.isLt N_3
    have e2 : (grid3.coords t 2).val = t.val / 1 % 1 := Pipeline.Grid.coords_val t 2 (by decide) rfl
    simp only [first3, e2]
    word_cmp
   : ∀ t : Fin grid3.N, first3 (grid3.coords t) ↔ t.val % 1 = 0)

theorem hlast3 : ∀ t : Fin cfg3.N, k3_cond2 (grid3.coords t) = 1#1 ↔ t.val % 1 = 0 :=
  (fun t => by
    have ht : t.val < 16 := Nat.lt_of_lt_of_eq t.isLt N_3
    have e2 : (grid3.coords t 2).val = t.val / 1 % 1 := Pipeline.Grid.coords_val t 2 (by decide) rfl
    simp only [k3_cond2, e2]
    word_cmp
   : ∀ t : Fin grid3.N, k3_cond2 (grid3.coords t) = 1#1 ↔ t.val % 1 = 0)

/-- Point `n` of the grid. -/
def pt3 (n : ℕ) : Fin cfg3.N := ⟨n % 16, Nat.lt_of_lt_of_eq (Nat.mod_lt n (by decide)) (show cfg3.N = 16 from N_3).symm⟩

theorem pt3_val (t : Fin cfg3.N) : pt3 t.val = t :=
  Fin.ext (Nat.mod_eq_of_lt (Nat.lt_of_lt_of_eq t.isLt (show cfg3.N = 16 from N_3)))

/-- The accumulator before point `n`, past the first of its group. -/
def scr3 (c : Dev nD) : ℕ → Vec F S2048x512 .f32
  | 0 => k3_pay1
  | n + 1 => k3_pay2 (if n % 1 = 0 then k3_pay1 else scr3 c n) (iblk3 W c 0 (pt3 n)) (iblk3 W c 1 (pt3 n))

/-- The accumulator point `n` starts from: zero at the first point of a group. -/
def start3 (c : Dev nD) (n : ℕ) : Vec F S2048x512 .f32 := if n % 1 = 0 then k3_pay1 else scr3 W c n

theorem scr3_succ (c : Dev nD) (n : ℕ) : scr3 W c (n + 1) = k3_pay2 (start3 W c n) (iblk3 W c 0 (pt3 n)) (iblk3 W c 1 (pt3 n)) := rfl

/-- The accumulator's buffer. -/
abbrev scM3 : Memref sig .tc .vmem S2048x512 .f32 := Memref.whole cc3_scratch0

/-- The scoped buffers the region does not use. -/
abbrev rest3 (c : Dev nD) : sProp 𝕄 := Pipeline.scopedRestBut (Ix := Unit) (Name := ℕ) (U := UR sig nD τ) (Lvl := ℕ) (Val := Elt F) spec3 c [cc3_scratch0]

theorem scoped3 (c : Dev nD) :
    (Pipeline.scopedRest (Ix := Unit) (Name := ℕ) (U := UR sig nD τ) (Lvl := ℕ) (Val := Elt F) spec3 c : sProp 𝕄)
      = iprop((∃ d, owns (c : Thread nD τ) scM3 fullShare d) ∗ rest3 c) := by
  rw [scopedRest3_split]
  simp only [scM3, owns_whole]
  rfl

/-- Before point `n`: the accumulator, at its contents unless a group begins; the other buffers and the generator register. -/
def Phi3 (c : Dev nD) (n : ℕ) : sProp 𝕄 :=
  iprop((∃ d, ⌜n % 1 ≠ 0 → d = scr3 W c n⌝ ∗ owns (c : Thread nD τ) scM3 fullShare d) ∗ rest3 c ∗ ∃ r, prngReg c r)

/-- The region's proof data: each input's buffer at its block, each output's at what the group's last point writes. -/
def dat3 (c : Dev nD) : Dat τ (Elt F) Unit ℕ (UR sig nD τ) ℕ cfg3 c where
  A w := W c (Proc.devRef .tc (Pipeline.arrRef spec3 w))
  after w t := match w with
    | ⟨0, _⟩ => iblk3 W c 0 t
    | ⟨1, _⟩ => iblk3 W c 1 t
    | ⟨2, _⟩ => iblk3 W c 2 t
    | ⟨3, _⟩ => k3_pay3 (scr3 W c (t.val + 1)) (iblk3 W c 2 t)
  Φ t := Phi3 W c t.val
  q _ := fullShare
  owed _ := 0

theorem A3_eq (c : Dev nD) (w : Fin cfg3.W) : (dat3 W c).A w = W c (Proc.devRef .tc (Pipeline.arrRef spec3 w)) := by
  dsimp only [dat3]

theorem after3_0 (c : Dev nD) (t : Fin cfg3.N) : (dat3 W c).after 0 t = iblk3 W c 0 t := by dsimp only [dat3]
theorem after3_1 (c : Dev nD) (t : Fin cfg3.N) : (dat3 W c).after 1 t = iblk3 W c 1 t := by dsimp only [dat3]
theorem after3_2 (c : Dev nD) (t : Fin cfg3.N) : (dat3 W c).after 2 t = iblk3 W c 2 t := by dsimp only [dat3]
theorem after3_3 (c : Dev nD) (t : Fin cfg3.N) : (dat3 W c).after 3 t = k3_pay3 (scr3 W c (t.val + 1)) (iblk3 W c 2 t) := by dsimp only [dat3]

theorem before3 (c : Dev nD) : (∀ t d, (dat3 W c).before 0 t d = iblk3 W c 0 t) ∧ (∀ t d, (dat3 W c).before 1 t d = iblk3 W c 1 t) ∧ (∀ t d, (dat3 W c).before 2 t d = iblk3 W c 2 t) := by
  refine ⟨fun t d => ?_, fun t d => ?_, fun t d => ?_⟩ <;>
    exact ((dat3 W c).before_in_eq_fetched _ rfl (fun _ => rfl) (fun _ _ _ => rfl) (fun t => by unfold Dat.blockOf; rw [A3_eq]; rfl) t d).trans
      (by unfold Dat.fetched Dat.blockOf; rw [A3_eq]; rfl)

/-- What the body is called with at point `t`, -/
def pre3 (c : Dev nD) (t : Fin cfg3.N) : sProp 𝕄 :=
  iprop((dat3 W c).Φ t.castSucc ∗ (dat3 W c).owesAt () t.castSucc
    ∗ (∃ d, owns (c : Thread nD τ) (win3_0.stage (cfg3.slots t 0)) fullShare ((dat3 W c).before 0 t d))
    ∗ (∃ d, owns (c : Thread nD τ) (win3_1.stage (cfg3.slots t 1)) fullShare ((dat3 W c).before 1 t d))
    ∗ (∃ d, owns (c : Thread nD τ) (win3_2.stage (cfg3.slots t 2)) fullShare ((dat3 W c).before 2 t d))
    ∗ (∃ d, owns (c : Thread nD τ) (win3_3.stage (cfg3.slots t 3)) fullShare ((dat3 W c).before 3 t d)))

/-- and what it returns: an output as found, but at the last point of a group as computed. -/
def post3 (c : Dev nD) (t : Fin cfg3.N) : sProp 𝕄 :=
  iprop((dat3 W c).Φ t.succ ∗ (dat3 W c).owesAt () t.succ
    ∗ owns (c : Thread nD τ) (win3_0.stage (cfg3.slots t 0)) fullShare ((dat3 W c).after 0 t)
    ∗ owns (c : Thread nD τ) (win3_1.stage (cfg3.slots t 1)) fullShare ((dat3 W c).after 1 t)
    ∗ owns (c : Thread nD τ) (win3_2.stage (cfg3.slots t 2)) fullShare ((dat3 W c).after 2 t)
    ∗ (dat3 W c).leavesExact 3 t)

theorem leaves3_3_last (c : Dev nD) (t : Fin cfg3.N) (h : t.val % 1 = 0) :
    (dat3 W c).leavesExact 3 t = owns (c : Thread nD τ) (win3_3.stage (cfg3.slots t 3)) fullShare ((dat3 W c).after 3 t) := by
  have hi : cfg3.idle 3 (cfg3.grid.coords t) = false := by
    show (!(k3_cond2 (grid3.coords t) == 1#1)) = false
    rw [Bool.not_eq_false', beq_iff_eq]
    exact (hlast3 t).mpr h
  unfold Dat.leavesExact; rw [hi]

set_option maxHeartbeats 6400000 in
/-- The body at any point. -/
theorem sound3 (c : Dev nD) (t : Fin cfg3.N) :
    pre3 W c t ⊢ wp frame (wpE (defs₀ (F := F)) Variants.none (c : Thread nD τ) none) Set.univ (bodyAt3 t) (fun _ => post3 W c t) := by
  unfold pre3 post3 bodyAt3
  simp only [before3]
  rw [show (dat3 W c).owesAt () t.succ = (dat3 W c).owesAt () t.castSucc from rfl, after3_0, after3_1, after3_2]
  rw [show (dat3 W c).Φ t.succ = Phi3 W c (t.val + 1) from rfl, show (dat3 W c).Φ t.castSucc = Phi3 W c t.val from rfl]
  unfold Phi3
  have h0 : t.val % 1 = 0 := Nat.mod_one _
  have h7 : t.val % 1 = 0 := Nat.mod_one _
  have hs : scr3 W c (t.val + 1) = k3_pay2 (k3_pay1 (F := F)) (iblk3 W c 0 t) (iblk3 W c 1 t) := by rw [scr3_succ, pt3_val]; unfold start3; rw [if_pos h0]
  rw [leaves3_3_last W c t h7, after3_3, hs]
  iintro ⟨⟨⟨%e0, -, HS⟩, Hr, Hg⟩, Ho, ⟨%d0, H0⟩, ⟨%d1, H1⟩, ⟨%d2, H2⟩, ⟨%d3, H3⟩⟩
  iapply (body3_D c (grid3.coords t) _ (hstage3_0 ((cfg3.slots t 0).cast nbuf3_0)) _ (hstage3_1 ((cfg3.slots t 1).cast nbuf3_1)) _ (hstage3_2 ((cfg3.slots t 2).cast nbuf3_2)) _ (hstage3_3 ((cfg3.slots t 3).cast nbuf3_3)) scM3 (Memref.isWhole_whole _) ((hfirst3 t).mpr h0) ((hlast3 t).mpr h7) (iblk3 W c 0 t) (iblk3 W c 1 t) (iblk3 W c 2 t) Set.univ _)
  isplitl [H0]; · iexact H0
  isplitl [H1]; · iexact H1
  isplitl [H2]; · iexact H2
  isplitl [H3]; · iexists _; iexact H3
  isplitl [HS]; · iexists _; iexact HS
  iintro ⟨H0, H1, H2, H3, HS⟩
  isplitl [HS Hr Hg]
  · isplitl [HS]
    · iexists _
      isplitr
      swap
      · iexact HS
      ipureintro
      exact fun _ => rfl
    isplitl [Hr]; · iexact Hr
    iexact Hg
  isplitl [Ho]; · iexact Ho
  isplitl [H0]; · iexact H0
  isplitl [H1]; · iexact H1
  isplitl [H2]; · iexact H2
  iexact H3

theorem row3 (t : Fin cfg3.N) :
    defs₀ (F := F) .tc cfg3.body (cfg3.bodyArgs t (cfg3.slots t)) = bodyAt3 t := by
  unfold defs₀; rw [Defs.onTc_tc]

/-- The library's body obligation, at every point. -/
theorem obligation3 (c : Dev nD) : BodyObligation (dat3 W c) (defs₀ (F := F)) Variants.none () Set.univ := fun t => by
  rw [bigSep_W3, bigSep_W3, row3]
  exact triple_restated (sound3 W c t) rfl .rfl fun _ => .rfl

theorem phi3_in (c : Dev nD) :
    iprop(Pipeline.scopedRest (Ix := Unit) (Name := ℕ) (U := UR sig nD τ) (Lvl := ℕ) (Val := Elt F) spec3 c ∗ (∃ r, prngReg c r)) ⊢ Phi3 W c 0 := by
  rw [scoped3]; unfold Phi3
  iintro ⟨⟨⟨%d0, H0⟩, Hr⟩, Hg⟩
  isplitl [H0]
  · iexists d0
    isplitr
    · ipureintro; exact fun h => absurd rfl h
    iexact H0
  isplitl [Hr]; · iexact Hr
  iexact Hg

theorem phi3_out (c : Dev nD) (n : ℕ) :
    Phi3 W c n ⊢ iprop(Pipeline.scopedRest (Ix := Unit) (Name := ℕ) (U := UR sig nD τ) (Lvl := ℕ) (Val := Elt F) spec3 c ∗ (∃ r, prngReg c r)) := by
  rw [scoped3]; unfold Phi3
  iintro ⟨⟨%d0, -, H0⟩, Hr, Hg⟩
  isplitr [Hg]
  · isplitl [H0]; · iexists _; iexact H0
    iexact Hr
  iexact Hg

end Cert.Kernel2Ideal.Mlp

end
-- ==== Proof.Mlp4.lean ====
/-
  Call 4 of the layer, the gradient at the second weights, at any floats and from any contents of the arrays: what one grid point
  does, what the accumulator holds before each point, the pipeline's proof data and the body obligation.
-/
module

public import proofs.«01_k».proof.Proof.MlpLoads
public import proofs.«01_k».proof.Proof.Gen.Kernel2Ideal.Skeleton
public import proofs.«01_k».proof.Proof.Gen.Kernel2Ideal.Points
public import proofs.«01_k».proof.Proof.Gen.Kernel2Ideal.Launch
public import Idealize.ShloMosaic.Lib.Pipeline.RegionArraysS
public import Idealize.ShloMosaic.Lib.Tactic
public import Idealize.ShloMosaic.Lib.WordCmp

@[expose] public section

set_option maxRecDepth 16384

noncomputable section

namespace Cert.Kernel2Ideal.Mlp

open Idealize.ShloMosaic Idealize.ShloMosaic.TcCoe Idealize.ShloMosaic.Tactic Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch: the point is the first of its group. -/
abbrev first4 (i : grid4.Coords) : Prop := (Scalar.cmpi .ne (Scalar.extui (Scalar.cmpi .eq (BitVec.ofNat 32 (i 2).val) 0#32)) 0#32) = 1#1

section

variable (c : Dev nD) (i : grid4.Coords) (arg3 : Memref sig .tc .vmem S512x2048 .bf16) (harg3 : arg3.IsWhole) (arg4 : Memref sig .tc .vmem S512x1024 .bf16) (harg4 : arg4.IsWhole) (arg5 : Memref sig .tc .vmem S2048x1024 .bf16) (harg5 : arg5.IsWhole) (arg6 : Memref sig .tc .vmem S2048x1024 .f32) (harg6 : arg6.IsWhole)

set_option maxHeartbeats 1000000 in
/-- At the first point of a group the accumulator becomes zero plus the two blocks' product. -/
theorem body4_A (h1 : first4 i) (h2 : ¬k4_cond2 i = 1#1) (x0 : Vec F S512x2048 .bf16) (x1 : Vec F S512x1024 .bf16) (E : Set ℕ) (K : PUnit → sProp 𝕄) :
    iprop(owns (c : Thread nD τ) arg3 fullShare x0 ∗ owns (c : Thread nD τ) arg4 fullShare x1 ∗ (∃ d, owns (c : Thread nD τ) arg6 fullShare d)
        ∗ (iprop(owns (c : Thread nD τ) arg3 fullShare x0 ∗ owns (c : Thread nD τ) arg4 fullShare x1 ∗ owns (c : Thread nD τ) arg6 fullShare (k4_pay2 (k4_pay1 (F := F)) x0 x1)) -∗ K ⟨⟩))
      ⊢ wp frame (wpE (defs₀ (F := F)) Variants.none (c : Thread nD τ) none) E (cc4_L3_dw2 i arg3 harg3 arg4 harg4 arg5 harg5 arg6 harg6) K := by
  simp only [cc4_L3_dw2_eq_skeleton]; unfold cc4_L3_dw2_skel
  unfold owns
  iintro ⟨⟨%f0, %hf0, H0⟩, ⟨%f1, %hf1, H1⟩, ⟨%d3, %f3, -, H3⟩, Hk⟩
  obtain rfl := harg3.eq_unread hf0; obtain rfl := harg4.eq_unread hf1
  sl_exec (disch := first | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  iexists _; isplitr; swap; · iexact H3
  ipureintro
  sl_unfold_words
  rw [View.read_writes_full]
  simp only [at_S2048x1024, at_S512x1024, at_S512x2048, harg3.read_unread, harg4.read_unread, cov_S2048x1024]

set_option maxHeartbeats 1000000 in
/-- At a middle point the accumulator takes the product of the two blocks. -/
theorem body4_B (h1 : ¬first4 i) (h2 : ¬k4_cond2 i = 1#1) (s : Vec F S2048x1024 .f32) (x0 : Vec F S512x2048 .bf16) (x1 : Vec F S512x1024 .bf16) (E : Set ℕ) (K : PUnit → sProp 𝕄) :
    iprop(owns (c : Thread nD τ) arg3 fullShare x0 ∗ owns (c : Thread nD τ) arg4 fullShare x1 ∗ owns (c : Thread nD τ) arg6 fullShare s
        ∗ (iprop(owns (c : Thread nD τ) arg3 fullShare x0 ∗ owns (c : Thread nD τ) arg4 fullShare x1 ∗ owns (c : Thread nD τ) arg6 fullShare (k4_pay2 s x0 x1)) -∗ K ⟨⟩))
      ⊢ wp frame (wpE (defs₀ (F := F)) Variants.none (c : Thread nD τ) none) E (cc4_L3_dw2 i arg3 harg3 arg4 harg4 arg5 harg5 arg6 harg6) K := by
  simp only [cc4_L3_dw2_eq_skeleton]; unfold cc4_L3_dw2_skel
  unfold owns
  iintro ⟨⟨%f0, %hf0, H0⟩, ⟨%f1, %hf1, H1⟩, ⟨%f3, %hf3, H3⟩, Hk⟩
  obtain rfl := harg3.eq_unread hf0; obtain rfl := harg4.eq_unread hf1; obtain rfl := harg6.eq_unread hf3
  sl_exec (disch := first | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  iexists _; isplitr; swap; · iexact H3
  ipureintro
  sl_unfold_words
  rw [View.read_writes_full]
  simp only [at_S2048x1024, at_S512x1024, at_S512x2048, harg3.read_unread, harg4.read_unread, harg6.read_unread, cov_S2048x1024]

set_option maxHeartbeats 1000000 in
/-- At the last point of a group the outputs are written from the accumulator. -/
theorem body4_C (h1 : ¬first4 i) (h2 : k4_cond2 i = 1#1) (s : Vec F S2048x1024 .f32) (x0 : Vec F S512x2048 .bf16) (x1 : Vec F S512x1024 .bf16) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare s
        ∗ (iprop(owns (c : Thread nD τ) arg3 fullShare x0 ∗ owns (c : Thread nD τ) arg4 fullShare x1 ∗ owns (c : Thread nD τ) arg5 fullShare (k4_pay3 (k4_pay2 s x0 x1)) ∗ owns (c : Thread nD τ) arg6 fullShare (k4_pay2 s x0 x1)) -∗ K ⟨⟩))
      ⊢ wp frame (wpE (defs₀ (F := F)) Variants.none (c : Thread nD τ) none) E (cc4_L3_dw2 i arg3 harg3 arg4 harg4 arg5 harg5 arg6 harg6) K := by
  simp only [cc4_L3_dw2_eq_skeleton]; unfold cc4_L3_dw2_skel
  unfold owns
  iintro ⟨⟨%f0, %hf0, H0⟩, ⟨%f1, %hf1, H1⟩, ⟨%d2, %f2, -, H2⟩, ⟨%f3, %hf3, H3⟩, Hk⟩
  obtain rfl := harg3.eq_unread hf0; obtain rfl := harg4.eq_unread hf1; obtain rfl := harg6.eq_unread hf3
  sl_exec (disch := first | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    sl_unfold_words
    rw [View.read_writes_full]
    simp only [at_S2048x1024, at_S512x1024, at_S512x2048, harg3.read_unread, harg4.read_unread, harg6.read_unread, cov_S2048x1024]
  iexists _; isplitr; swap; · iexact H3
  ipureintro
  sl_unfold_words
  rw [View.read_writes_full]
  simp only [at_S2048x1024, at_S512x1024, at_S512x2048, harg3.read_unread, harg4.read_unread, harg6.read_unread, cov_S2048x1024]

end

variable (W : Dev nD → Valuation τ sig (Elt F))

/-- Window `w`'s block at point `t`, of its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (W c (Proc.devRef .tc (Pipeline.arrRef spec4 w)))

theorem hfirst4 : ∀ t : Fin cfg4.N, first4 (grid4.coords t) ↔ t.val % 8 = 0 :=
  (fun t => by
    have ht : t.val < 16 := Nat.lt_of_lt_of_eq t.isLt N_4
    have e2 : (grid4.coords t 2).val = t.val / 1 % 8 := Pipeline.Grid.coords_val t 2 (by decide) rfl
    simp only [first4, e2]
    word_cmp
   : ∀ t : Fin grid4.N, first4 (grid4.coords t) ↔ t.val % 8 = 0)

theorem hlast4 : ∀ t : Fin cfg4.N, k4_cond2 (grid4.coords t) = 1#1 ↔ t.val % 8 = 7 :=
  (fun t => by
    have ht : t.val < 16 := Nat.lt_of_lt_of_eq t.isLt N_4
    have e2 : (grid4.coords t 2).val = t.val / 1 % 8 := Pipeline.Grid.coords_val t 2 (by decide) rfl
    simp only [k4_cond2, e2]
    word_cmp
   : ∀ t : Fin grid4.N, k4_cond2 (grid4.coords t) = 1#1 ↔ t.val % 8 = 7)

/-- Point `n` of the grid. -/
def pt4 (n : ℕ) : Fin cfg4.N := ⟨n % 16, Nat.lt_of_lt_of_eq (Nat.mod_lt n (by decide)) (show cfg4.N = 16 from N_4).symm⟩

theorem pt4_val (t : Fin cfg4.N) : pt4 t.val = t :=
  Fin.ext (Nat.mod_eq_of_lt (Nat.lt_of_lt_of_eq t.isLt (show cfg4.N = 16 from N_4)))

/-- The accumulator before point `n`, past the first of its group. -/
def scr4 (c : Dev nD) : ℕ → Vec F S2048x1024 .f32
  | 0 => k4_pay1
  | n + 1 => k4_pay2 (if n % 8 = 0 then k4_pay1 else scr4 c n) (iblk4 W c 0 (pt4 n)) (iblk4 W c 1 (pt4 n))

/-- The accumulator point `n` starts from: zero at the first point of a group. -/
def start4 (c : Dev nD) (n : ℕ) : Vec F S2048x1024 .f32 := if n % 8 = 0 then k4_pay1 else scr4 W c n

theorem scr4_succ (c : Dev nD) (n : ℕ) : scr4 W c (n + 1) = k4_pay2 (start4 W c n) (iblk4 W c 0 (pt4 n)) (iblk4 W c 1 (pt4 n)) := rfl

/-- The accumulator's buffer. -/
abbrev scM4 : Memref sig .tc .vmem S2048x1024 .f32 := Memref.whole cc4_scratch0

/-- The scoped buffers the region does not use. -/
abbrev rest4 (c : Dev nD) : sProp 𝕄 := Pipeline.scopedRestBut (Ix := Unit) (Name := ℕ) (U := UR sig nD τ) (Lvl := ℕ) (Val := Elt F) spec4 c [cc4_scratch0]

theorem scoped4 (c : Dev nD) :
    (Pipeline.scopedRest (Ix := Unit) (Name := ℕ) (U := UR sig nD τ) (Lvl := ℕ) (Val := Elt F) spec4 c : sProp 𝕄)
      = iprop((∃ d, owns (c : Thread nD τ) scM4 fullShare d) ∗ rest4 c) := by
  rw [scopedRest4_split]
  simp only [scM4, owns_whole]
  rfl

/-- Before point `n`: the accumulator, at its contents unless a group begins; the other buffers and the generator register. -/
def Phi4 (c : Dev nD) (n : ℕ) : sProp 𝕄 :=
  iprop((∃ d, ⌜n % 8 ≠ 0 → d = scr4 W c n⌝ ∗ owns (c : Thread nD τ) scM4 fullShare d) ∗ rest4 c ∗ ∃ r, prngReg c r)

/-- The region's proof data: each input's buffer at its block, each output's at what the group's last point writes. -/
def dat4 (c : Dev nD) : Dat τ (Elt F) Unit ℕ (UR sig nD τ) ℕ cfg4 c where
  A w := W c (Proc.devRef .tc (Pipeline.arrRef spec4 w))
  after w t := match w with
    | ⟨0, _⟩ => iblk4 W c 0 t
    | ⟨1, _⟩ => iblk4 W c 1 t
    | ⟨2, _⟩ => k4_pay3 (scr4 W c (t.val + 1))
  Φ t := Phi4 W c t.val
  q _ := fullShare
  owed _ := 0

theorem A4_eq (c : Dev nD) (w : Fin cfg4.W) : (dat4 W c).A w = W c (Proc.devRef .tc (Pipeline.arrRef spec4 w)) := by
  dsimp only [dat4]

theorem after4_0 (c : Dev nD) (t : Fin cfg4.N) : (dat4 W c).after 0 t = iblk4 W c 0 t := by dsimp only [dat4]
theorem after4_1 (c : Dev nD) (t : Fin cfg4.N) : (dat4 W c).after 1 t = iblk4 W c 1 t := by dsimp only [dat4]
theorem after4_2 (c : Dev nD) (t : Fin cfg4.N) : (dat4 W c).after 2 t = k4_pay3 (scr4 W c (t.val + 1)) := by dsimp only [dat4]

theorem before4 (c : Dev nD) : (∀ t d, (dat4 W c).before 0 t d = iblk4 W c 0 t) ∧ (∀ t d, (dat4 W c).before 1 t d = iblk4 W c 1 t) := by
  refine ⟨fun t d => ?_, fun t d => ?_⟩ <;>
    exact ((dat4 W c).before_in_eq_fetched _ rfl (fun _ => rfl) (fun _ _ _ => rfl) (fun t => by unfold Dat.blockOf; rw [A4_eq]; rfl) t d).trans
      (by unfold Dat.fetched Dat.blockOf; rw [A4_eq]; rfl)

/-- What the body is called with at point `t`, -/
def pre4 (c : Dev nD) (t : Fin cfg4.N) : sProp 𝕄 :=
  iprop((dat4 W c).Φ t.castSucc ∗ (dat4 W c).owesAt () t.castSucc
    ∗ (∃ d, owns (c : Thread nD τ) (win4_0.stage (cfg4.slots t 0)) fullShare ((dat4 W c).before 0 t d))
    ∗ (∃ d, owns (c : Thread nD τ) (win4_1.stage (cfg4.slots t 1)) fullShare ((dat4 W c).before 1 t d))
    ∗ (∃ d, owns (c : Thread nD τ) (win4_2.stage (cfg4.slots t 2)) fullShare ((dat4 W c).before 2 t d)))

/-- and what it returns: an output as found, but at the last point of a group as computed. -/
def post4 (c : Dev nD) (t : Fin cfg4.N) : sProp 𝕄 :=
  iprop((dat4 W c).Φ t.succ ∗ (dat4 W c).owesAt () t.succ
    ∗ owns (c : Thread nD τ) (win4_0.stage (cfg4.slots t 0)) fullShare ((dat4 W c).after 0 t)
    ∗ owns (c : Thread nD τ) (win4_1.stage (cfg4.slots t 1)) fullShare ((dat4 W c).after 1 t)
    ∗ (dat4 W c).leavesExact 2 t)

theorem leaves4_2_mid (c : Dev nD) (t : Fin cfg4.N) (h : t.val % 8 ≠ 7) :
    (dat4 W c).leavesExact 2 t = iprop(∃ d, owns (c : Thread nD τ) (win4_2.stage (cfg4.slots t 2)) fullShare ((dat4 W c).before 2 t d)) := by
  refine Dat.leavesExact_idle _ _ _ ?_ (Bool.eq_false_iff.mpr fun hf => h ((flush4_2 t).mp hf))
  show (!(k4_cond2 (grid4.coords t) == 1#1)) = true
  rw [Bool.not_eq_true', beq_eq_false_iff_ne]
  exact fun hc => h ((hlast4 t).mp hc)

theorem leaves4_2_last (c : Dev nD) (t : Fin cfg4.N) (h : t.val % 8 = 7) :
    (dat4 W c).leavesExact 2 t = owns (c : Thread nD τ) (win4_2.stage (cfg4.slots t 2)) fullShare ((dat4 W c).after 2 t) := by
  have hi : cfg4.idle 2 (cfg4.grid.coords t) = false := by
    show (!(k4_cond2 (grid4.coords t) == 1#1)) = false
    rw [Bool.not_eq_false', beq_iff_eq]
    exact (hlast4 t).mpr h
  unfold Dat.leavesExact; rw [hi]

set_option maxHeartbeats 6400000 in
/-- The body at any point. -/
theorem sound4 (c : Dev nD) (t : Fin cfg4.N) :
    pre4 W c t ⊢ wp frame (wpE (defs₀ (F := F)) Variants.none (c : Thread nD τ) none) Set.univ (bodyAt4 t) (fun _ => post4 W c t) := by
  unfold pre4 post4 bodyAt4
  simp only [before4]
  rw [show (dat4 W c).owesAt () t.succ = (dat4 W c).owesAt () t.castSucc from rfl, after4_0, after4_1]
  rw [show (dat4 W c).Φ t.succ = Phi4 W c (t.val + 1) from rfl, show (dat4 W c).Φ t.castSucc = Phi4 W c t.val from rfl]
  unfold Phi4
  by_cases h0 : t.val % 8 = 0
  · have h7 : t.val % 8 ≠ 7 := by omega
    have hs : scr4 W c (t.val + 1) = k4_pay2 (k4_pay1 (F := F)) (iblk4 W c 0 t) (iblk4 W c 1 t) := by rw [scr4_succ, pt4_val]; unfold start4; rw [if_pos h0]
    rw [leaves4_2_mid W c t h7, hs]
    iintro ⟨⟨⟨%e0, -, HS⟩, Hr, Hg⟩, Ho, ⟨%d0, H0⟩, ⟨%d1, H1⟩, ⟨%d2, H2⟩⟩
    iapply (body4_A c (grid4.coords t) _ (hstage4_0 ((cfg4.slots t 0).cast nbuf4_0)) _ (hstage4_1 ((cfg4.slots t 1).cast nbuf4_1)) _ (hstage4_2 ((cfg4.slots t 2).cast nbuf4_2)) scM4 (Memref.isWhole_whole _) ((hfirst4 t).mpr h0) (fun h => h7 ((hlast4 t).mp h)) (iblk4 W c 0 t) (iblk4 W c 1 t) Set.univ _)
    isplitl [H0]; · iexact H0
    isplitl [H1]; · iexact H1
    isplitl [HS]; · iexists _; iexact HS
    iintro ⟨H0, H1, HS⟩
    isplitl [HS Hr Hg]
    · isplitl [HS]
      · iexists _
        isplitr
        swap
        · iexact HS
        ipureintro
        exact fun _ => rfl
      isplitl [Hr]; · iexact Hr
      iexact Hg
    isplitl [Ho]; · iexact Ho
    isplitl [H0]; · iexact H0
    isplitl [H1]; · iexact H1
    iexists _; iexact H2
  · by_cases h7 : t.val % 8 = 7
    · have hs : scr4 W c (t.val + 1) = k4_pay2 (scr4 W c t.val) (iblk4 W c 0 t) (iblk4 W c 1 t) := by rw [scr4_succ, pt4_val]; unfold start4; rw [if_neg h0]
      rw [leaves4_2_last W c t h7, after4_2, hs]
      iintro ⟨⟨⟨%e0, %he, HS⟩, Hr, Hg⟩, Ho, ⟨%d0, H0⟩, ⟨%d1, H1⟩, ⟨%d2, H2⟩⟩
      obtain rfl := he h0
      iapply (body4_C c (grid4.coords t) _ (hstage4_0 ((cfg4.slots t 0).cast nbuf4_0)) _ (hstage4_1 ((cfg4.slots t 1).cast nbuf4_1)) _ (hstage4_2 ((cfg4.slots t 2).cast nbuf4_2)) scM4 (Memref.isWhole_whole _) (fun h => h0 ((hfirst4 t).mp h)) ((hlast4 t).mpr h7) (scr4 W c t.val) (iblk4 W c 0 t) (iblk4 W c 1 t) Set.univ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]
        · iexists _
          isplitr
          swap
          · iexact HS
          ipureintro
          exact fun _ => rfl
        isplitl [Hr]; · iexact Hr
        iexact Hg
      isplitl [Ho]; · iexact Ho
      isplitl [H0]; · iexact H0
      isplitl [H1]; · iexact H1
      iexact H2
    · have hs : scr4 W c (t.val + 1) = k4_pay2 (scr4 W c t.val) (iblk4 W c 0 t) (iblk4 W c 1 t) := by rw [scr4_succ, pt4_val]; unfold start4; rw [if_neg h0]
      rw [leaves4_2_mid W c t h7, hs]
      iintro ⟨⟨⟨%e0, %he, HS⟩, Hr, Hg⟩, Ho, ⟨%d0, H0⟩, ⟨%d1, H1⟩, ⟨%d2, H2⟩⟩
      obtain rfl := he h0
      iapply (body4_B c (grid4.coords t) _ (hstage4_0 ((cfg4.slots t 0).cast nbuf4_0)) _ (hstage4_1 ((cfg4.slots t 1).cast nbuf4_1)) _ (hstage4_2 ((cfg4.slots t 2).cast nbuf4_2)) scM4 (Memref.isWhole_whole _) (fun h => h0 ((hfirst4 t).mp h)) (fun h => h7 ((hlast4 t).mp h)) (scr4 W c t.val) (iblk4 W c 0 t) (iblk4 W c 1 t) Set.univ _)
      isplitl [H0]; · iexact H0
      isplitl [H1]; · iexact H1
      isplitl [HS]; · iexact HS
      iintro ⟨H0, H1, HS⟩
      isplitl [HS Hr Hg]
      · isplitl [HS]
        · iexists _
          isplitr
          swap
          · iexact HS
          ipureintro
          exact fun _ => rfl
        isplitl [Hr]; · iexact Hr
        iexact Hg
      isplitl [Ho]; · iexact Ho
      isplitl [H0]; · iexact H0
      isplitl [H1]; · iexact H1
      iexists _; iexact H2

theorem row4 (t : Fin cfg4.N) :
    defs₀ (F := F) .tc cfg4.body (cfg4.bodyArgs t (cfg4.slots t)) = bodyAt4 t := by
  unfold defs₀; rw [Defs.onTc_tc]

/-- The library's body obligation, at every point. -/
theorem obligation4 (c : Dev nD) : BodyObligation (dat4 W c) (defs₀ (F := F)) Variants.none () Set.univ := fun t => by
  rw [bigSep_W4, bigSep_W4, row4]
  exact triple_restated (sound4 W c t) rfl .rfl fun _ => .rfl

theorem phi4_in (c : Dev nD) :
    iprop(Pipeline.scopedRest (Ix := Unit) (Name := ℕ) (U := UR sig nD τ) (Lvl := ℕ) (Val := Elt F) spec4 c ∗ (∃ r, prngReg c r)) ⊢ Phi4 W c 0 := by
  rw [scoped4]; unfold Phi4
  iintro ⟨⟨⟨%d0, H0⟩, Hr⟩, Hg⟩
  isplitl [H0]
  · iexists d0
    isplitr
    · ipureintro; exact fun h => absurd rfl h
    iexact H0
  isplitl [Hr]; · iexact Hr
  iexact Hg

theorem phi4_out (c : Dev nD) (n : ℕ) :
    Phi4 W c n ⊢ iprop(Pipeline.scopedRest (Ix := Unit) (Name := ℕ) (U := UR sig nD τ) (Lvl := ℕ) (Val := Elt F) spec4 c ∗ (∃ r, prngReg c r)) := by
  rw [scoped4]; unfold Phi4
  iintro ⟨⟨%d0, -, H0⟩, Hr, Hg⟩
  isplitr [Hg]
  · isplitl [H0]; · iexists _; iexact H0
    iexact Hr
  iexact Hg

end Cert.Kernel2Ideal.Mlp

end
-- ==== Proof.Mlp5.lean ====
/-
  Call 5 of the layer, the gradient at the layer's input, through the two products, at any floats and from any contents of the arrays: what one grid point
  does, what the accumulator holds before each point, the pipeline's proof data and the body obligation.
-/
module

public import proofs.«01_k».proof.Proof.MlpLoads
public import proofs.«01_k».proof.Proof.Gen.Kernel2Ideal.Skeleton
public import proofs.«01_k».proof.Proof.Gen.Kernel2Ideal.Points
public import proofs.«01_k».proof.Proof.Gen.Kernel2Ideal.Launch
public import Idealize.ShloMosaic.Lib.Pipeline.RegionArraysS
public import Idealize.ShloMosaic.Lib.Tactic
public import Idealize.ShloMosaic.Lib.WordCmp

@[expose] public section

set_option maxRecDepth 16384

noncomputable section

namespace Cert.Kernel2Ideal.Mlp

open Idealize.ShloMosaic Idealize.ShloMosaic.TcCoe Idealize.ShloMosaic.Tactic Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch: the point is the first of its group. -/
abbrev first5 (i : grid5.Coords) : Prop := (Scalar.cmpi .ne (Scalar.extui (Scalar.cmpi .eq (BitVec.ofNat 32 (i 2).val) 0#32)) 0#32) = 1#1

section

variable (c : Dev nD) (i : grid5.Coords) (arg3 : Memref sig .tc .vmem S2048x512 .bf16) (harg3 : arg3.IsWhole) (arg4 : Memref sig .tc .vmem S1x1x1024x512 .bf16) (harg4 : arg4.IsWhole) (arg5 : Memref sig .tc .vmem S2048x1024 .f32) (harg5 : arg5.IsWhole) (arg6 : Memref sig .tc .vmem S2048x1024 .f32) (harg6 : arg6.IsWhole)

set_option maxHeartbeats 1000000 in
/-- At the first point of a group the accumulator becomes zero plus the two blocks' product. -/
theorem body5_A (h1 : first5 i) (h2 : ¬k5_cond2 i = 1#1) (x0 : Vec F S2048x512 .bf16) (x1 : Vec F S1x1x1024x512 .bf16) (E : Set ℕ) (K : PUnit → sProp 𝕄) :
    iprop(owns (c : Thread nD τ) arg3 fullShare x0 ∗ owns (c : Thread nD τ) arg4 fullShare x1 ∗ (∃ d, owns (c : Thread nD τ) arg6 fullShare d)
        ∗ (iprop(owns (c : Thread nD τ) arg3 fullShare x0 ∗ owns (c : Thread nD τ) arg4 fullShare x1 ∗ owns (c : Thread nD τ) arg6 fullShare (k5_pay2 (k5_pay1 (F := F)) x0 x1)) -∗ K ⟨⟩))
      ⊢ wp frame (wpE (defs₀ (F := F)) Variants.none (c : Thread nD τ) none) E (cc5_L3_dmlp1 i arg3 harg3 arg4 harg4 arg5 harg5 arg6 harg6) K := by
  simp only [cc5_L3_dmlp1_eq_skeleton]; unfold cc5_L3_dmlp1_skel
  unfold owns
  iintro ⟨⟨%f0, %hf0, H0⟩, ⟨%f1, %hf1, H1⟩, ⟨%d3, %f3, -, H3⟩, Hk⟩
  obtain rfl := harg3.eq_unread hf0; obtain rfl := harg4.eq_unread hf1
  sl_exec (disch := first | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  iexists _; isplitr; swap; · iexact H3
  ipureintro
  sl_unfold_words
  rw [View.read_writes_full]
  simp only [at_S1x1x1024x512, at_S2048x1024, at_S2048x512, harg3.read_unread, harg4.read_unread, cov_S2048x1024]

set_option maxHeartbeats 1000000 in
/-- At a middle point the accumulator takes the product of the two blocks. -/
theorem body5_B (h1 : ¬first5 i) (h2 : ¬k5_cond2 i = 1#1) (s : Vec F S2048x1024 .f32) (x0 : Vec F S2048x512 .bf16) (x1 : Vec F S1x1x1024x512 .bf16) (E : Set ℕ) (K : PUnit → sProp 𝕄) :
    iprop(owns (c : Thread nD τ) arg3 fullShare x0 ∗ owns (c : Thread nD τ) arg4 fullShare x1 ∗ owns (c : Thread nD τ) arg6 fullShare s
        ∗ (iprop(owns (c : Thread nD τ) arg3 fullShare x0 ∗ owns (c : Thread nD τ) arg4 fullShare x1 ∗ owns (c : Thread nD τ) arg6 fullShare (k5_pay2 s x0 x1)) -∗ K ⟨⟩))
      ⊢ wp frame (wpE (defs₀ (F := F)) Variants.none (c : Thread nD τ) none) E (cc5_L3_dmlp1 i arg3 harg3 arg4 harg4 arg5 harg5 arg6 harg6) K := by
  simp only [cc5_L3_dmlp1_eq_skeleton]; unfold cc5_L3_dmlp1_skel
  unfold owns
  iintro ⟨⟨%f0, %hf0, H0⟩, ⟨%f1, %hf1, H1⟩, ⟨%f3, %hf3, H3⟩, Hk⟩
  obtain rfl := harg3.eq_unread hf0; obtain rfl := harg4.eq_unread hf1; obtain rfl := harg6.eq_unread hf3
  sl_exec (disch := first | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  iexists _; isplitr; swap; · iexact H3
  ipureintro
  sl_unfold_words
  rw [View.read_writes_full]
  simp only [at_S1x1x1024x512, at_S2048x1024, at_S2048x512, harg3.read_unread, harg4.read_unread, harg6.read_unread, cov_S2048x1024]

set_option maxHeartbeats 1000000 in
/-- At the last point of a group the outputs are written from the accumulator. -/
theorem body5_C (h1 : ¬first5 i) (h2 : k5_cond2 i = 1#1) (s : Vec F S2048x1024 .f32) (x0 : Vec F S2048x512 .bf16) (x1 : Vec F S1x1x1024x512 .bf16) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare s
        ∗ (iprop(owns (c : Thread nD τ) arg3 fullShare x0 ∗ owns (c : Thread nD τ) arg4 fullShare x1 ∗ owns (c : Thread nD τ) arg5 fullShare ((k5_pay2 s x0 x1)) ∗ owns (c : Thread nD τ) arg6 fullShare (k5_pay2 s x0 x1)) -∗ K ⟨⟩))
      ⊢ wp frame (wpE (defs₀ (F := F)) Variants.none (c : Thread nD τ) none) E (cc5_L3_dmlp1 i arg3 harg3 arg4 harg4 arg5 harg5 arg6 harg6) K := by
  simp only [cc5_L3_dmlp1_eq_skeleton]; unfold cc5_L3_dmlp1_skel
  unfold owns
  iintro ⟨⟨%f0, %hf0, H0⟩, ⟨%f1, %hf1, H1⟩, ⟨%d2, %f2, -, H2⟩, ⟨%f3, %hf3, H3⟩, Hk⟩
  obtain rfl := harg3.eq_unread hf0; obtain rfl := harg4.eq_unread hf1; obtain rfl := harg6.eq_unread hf3
  sl_exec (disch := first | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    sl_unfold_words
    rw [View.read_writes_full]
    simp only [at_S1x1x1024x512, at_S2048x1024, at_S2048x512, harg3.read_unread, harg4.read_unread, harg6.read_unread, cov_S2048x1024]
  iexists _; isplitr; swap; · iexact H3
  ipureintro
  sl_unfold_words
  rw [View.read_writes_full]
  simp only [at_S1x1x1024x512, at_S2048x1024, at_S2048x512, harg3.read_unread, harg4.read_unread, harg6.read_unread, cov_S2048x1024]

end

variable (W : Dev nD → Valuation τ sig (Elt F))

/-- Window `w`'s block at point `t`, of its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (W c (Proc.devRef .tc (Pipeline.arrRef spec5 w)))

theorem hfirst5 : ∀ t : Fin cfg5.N, first5 (grid5.coords t) ↔ t.val % 8 = 0 :=
  (fun t => by
    have ht : t.val < 16 := Nat.lt_of_lt_of_eq t.isLt N_5
    have e2 : (grid5.coords t 2).val = t.val / 1 % 8 := Pipeline.Grid.coords_val t 2 (by decide) rfl
    simp only [first5, e2]
    word_cmp
   : ∀ t : Fin grid5.N, first5 (grid5.coords t) ↔ t.val % 8 = 0)

theorem hlast5 : ∀ t : Fin cfg5.N, k5_cond2 (grid5.coords t) = 1#1 ↔ t.val % 8 = 7 :=
  (fun t => by
    have ht : t.val < 16 := Nat.lt_of_lt_of_eq t.isLt N_5
    have e2 : (grid5.coords t 2).val = t.val / 1 % 8 := Pipeline.Grid.coords_val t 2 (by decide) rfl
    simp only [k5_cond2, e2]
    word_cmp
   : ∀ t : Fin grid5.N, k5_cond2 (grid5.coords t) = 1#1 ↔ t.val % 8 = 7)

/-- Point `n` of the grid. -/
def pt5 (n : ℕ) : Fin cfg5.N := ⟨n % 16, Nat.lt_of_lt_of_eq (Nat.mod_lt n (by decide)) (show cfg5.N = 16 from N_5).symm⟩

theorem pt5_val (t : Fin cfg5.N) : pt5 t.val = t :=
  Fin.ext (Nat.mod_eq_of_lt (Nat.lt_of_lt_of_eq t.isLt (show cfg5.N = 16 from N_5)))

/-- The accumulator before point `n`, past the first of its group. -/
def scr5 (c : Dev nD) : ℕ → Vec F S2048x1024 .f32
  | 0 => k5_pay1
  | n + 1 => k5_pay2 (if n % 8 = 0 then k5_pay1 else scr5 c n) (iblk5 W c 0 (pt5 n)) (iblk5 W c 1 (pt5 n))

/-- The accumulator point `n` starts from: zero at the first point of a group. -/
def start5 (c : Dev nD) (n : ℕ) : Vec F S2048x1024 .f32 := if n % 8 = 0 then k5_pay1 else scr5 W c n

theorem scr5_succ (c : Dev nD) (n : ℕ) : scr5 W c (n + 1) = k5_pay2 (start5 W c n) (iblk5 W c 0 (pt5 n)) (iblk5 W c 1 (pt5 n)) := rfl

/-- The accumulator's buffer. -/
abbrev scM5 : Memref sig .tc .vmem S2048x1024 .f32 := Memref.whole cc5_scratch0

/-- The scoped buffers the region does not use. -/
abbrev rest5 (c : Dev nD) : sProp 𝕄 := Pipeline.scopedRestBut (Ix := Unit) (Name := ℕ) (U := UR sig nD τ) (Lvl := ℕ) (Val := Elt F) spec5 c [cc5_scratch0]

theorem scoped5 (c : Dev nD) :
    (Pipeline.scopedRest (Ix := Unit) (Name := ℕ) (U := UR sig nD τ) (Lvl := ℕ) (Val := Elt F) spec5 c : sProp 𝕄)
      = iprop((∃ d, owns (c : Thread nD τ) scM5 fullShare d) ∗ rest5 c) := by
  rw [scopedRest5_split]
  simp only [scM5, owns_whole]
  rfl

/-- Before point `n`: the accumulator, at its contents unless a group begins; the other buffers and the generator register. -/
def Phi5 (c : Dev nD) (n : ℕ) : sProp 𝕄 :=
  iprop((∃ d, ⌜n % 8 ≠ 0 → d = scr5 W c n⌝ ∗ owns (c : Thread nD τ) scM5 fullShare d) ∗ rest5 c ∗ ∃ r, prngReg c r)

/-- The region's proof data: each input's buffer at its block, each output's at what the group's last point writes. -/
def dat5 (c : Dev nD) : Dat τ (Elt F) Unit ℕ (UR sig nD τ) ℕ cfg5 c where
  A w := W c (Proc.devRef .tc (Pipeline.arrRef spec5 w))
  after w t := match w with
    | ⟨0, _⟩ => iblk5 W c 0 t
    | ⟨1, _⟩ => iblk5 W c 1 t
    | ⟨2, _⟩ => scr5 W c (t.val + 1)
  Φ t := Phi5 W c t.val
  q _ := fullShare
  owed _ := 0

theorem A5_eq (c : Dev nD) (w : Fin cfg5.W) : (dat5 W c).A w = W c (Proc.devRef .tc (Pipeline.arrRef spec5 w)) := by
  dsimp only [dat5]

theorem after5_0 (c : Dev nD) (t : Fin cfg5.N) : (dat5 W c).after 0 t = iblk5 W c 0 t := by dsimp only [dat5]
theorem after5_1 (c : Dev nD) (t : Fin cfg5.N) : (dat5 W c).after 1 t = iblk5 W c 1 t := by dsimp only [dat5]
theorem after5_2 (c : Dev nD) (t : Fin cfg5.N) : (dat5 W c).after 2 t = scr5 W c (t.val + 1) := by dsimp only [dat5]

theorem before5 (c : Dev nD) : (∀ t d, (dat5 W c).before 0 t d = iblk5 W c 0 t) ∧ (∀ t d, (dat5 W c).before 1 t d = iblk5 W c 1 t) := by
  refine ⟨fun t d => ?_, fun t d => ?_⟩ <;>
    exact ((dat5 W c).before_in_eq_fetched _ rfl (fun _ => rfl) (fun _ _ _ => rfl) (fun t => by unfold Dat.blockOf; rw [A5_eq]; rfl) t d).trans
      (by unfold Dat.fetched Dat.blockOf; rw [A5_eq]; rfl)

/-- What the body is called with at point `t`, -/
def pre5 (c : Dev nD) (t : Fin cfg5.N) : sProp 𝕄 :=
  iprop((dat5 W c).Φ t.castSucc ∗ (dat5 W c).owesAt () t.castSucc
    ∗ (∃ d, owns (c : Thread nD τ) (win5_0.stage (cfg5.slots t 0)) fullShare ((dat5 W c).before 0 t d))
    ∗ (∃ d, owns (c : Thread nD τ) (win5_1.stage (cfg5.slots t 1)) fullShare ((dat5 W c).before 1 t d))
    ∗ (∃ d, owns (c : Thread nD τ) (win5_2.stage (cfg5.slots t 2)) fullShare ((dat5 W c).before 2 t d)))

/-- and what it returns: an output as found, but at the last point of a group as computed. -/
def post5 (c : Dev nD) (t : Fin cfg5.N) : sProp 𝕄 :=
  iprop((dat5 W c).Φ t.succ ∗ (dat5 W c).owesAt () t.succ
    ∗ owns (c : Thread nD τ) (win5_0.stage (cfg5.slots t 0)) fullShare ((dat5 W c).after 0 t)
    ∗ owns (c : Thread nD τ) (win5_1.stage (cfg5.slots t 1)) fullShare ((dat5 W c).after 1 t)
    ∗ (dat5 W c).leavesExact 2 t)

theorem leaves5_2_mid (c : Dev nD) (t : Fin cfg5.N) (h : t.val % 8 ≠ 7) :
    (dat5 W c).leavesExact 2 t = iprop(∃ d, owns (c : Thread nD τ) (win5_2.stage (cfg5.slots t 2)) fullShare ((dat5 W c).before 2 t d)) := by
  refine Dat.leavesExact_idle _ _ _ ?_ (Bool.eq_false_iff.mpr fun hf => h ((flush5_2 t).mp hf))
  show (!(k5_cond2 (grid5.coords t) == 1#1)) = true
  rw [Bool.not_eq_true', beq_eq_false_iff_ne]
  exact fun hc => h ((hlast5 t).mp hc)

theorem leaves5_2_last (c : Dev nD) (t : Fin cfg5.N) (h : t.val % 8 = 7) :
    (dat5 W c).leavesExact 2 t = owns (c : Thread nD τ) (win5_2.stage (cfg5.slots t 2)) fullShare ((dat5 W c).after 2 t) := by
  have hi : cfg5.idle 2 (cfg5.grid.coords t) = false := by
    show (!(k5_cond2 (grid5.coords t) == 1#1)) = false
    rw [Bool.not_eq_false', beq_iff_eq]
    exact (hlast5 t).mpr h
  unfold Dat.leavesExact; rw [hi]

set_option maxHeartbeats 6400000 in
/-- The body at any point. -/
theorem sound5 (c : Dev nD) (t : Fin cfg5.N) :
    pre5 W c t ⊢ wp frame (wpE (defs₀ (F := F)) Variants.none (c : Thread nD τ) none) Set.univ (bodyAt5 t) (fun _ => post5 W c t) := by
  unfold pre5 post5 bodyAt5
  simp only [before5]
  rw [show (dat5 W c).owesAt () t.succ = (dat5 W c).owesAt () t.castSucc from rfl, after5_0, after5_1]
  rw [show (dat5 W c).Φ t.succ = Phi5 W c (t.val + 1) from rfl, show (dat5 W c).Φ t.castSucc = Phi5 W c t.val from rfl]
  unfold Phi5
  by_cases h0 : t.val % 8 = 0
  · have h7 : t.val % 8 ≠ 7 := by omega
    have hs : scr5 W c (t.val + 1) = k5_pay2 (k5_pay1 (F := F)) (iblk5 W c 0 t) (iblk5 W c 1 t) := by rw [scr5_succ, pt5_val]; unfold start5; rw [if_pos h0]
    rw [leaves5_2_mid W c t h7, hs]
    iintro ⟨⟨⟨%e0, -, HS⟩, Hr, Hg⟩, Ho, ⟨%d0, H0⟩, ⟨%d1, H1⟩, ⟨%d2, H2⟩⟩
    iapply (body5_A c (grid5.coords t) _ (hstage5_0 ((cfg5.slots t 0).cast nbuf5_0)) _ (hstage5_1 ((cfg5.slots t 1).cast nbuf5_1)) _ (hstage5_2 ((cfg5.slots t 2).cast nbuf5_2)) scM5 (Memref.isWhole_whole _) ((hfirst5 t).mpr h0) (fun h => h7 ((hlast5 t).mp h)) (iblk5 W c 0 t) (iblk5 W c 1 t) Set.univ _)
    isplitl [H0]; · iexact H0
    isplitl [H1]; · iexact H1
    isplitl [HS]; · iexists _; iexact HS
    iintro ⟨H0, H1, HS⟩
    isplitl [HS Hr Hg]
    · isplitl [HS]
      · iexists _
        isplitr
        swap
        · iexact HS
        ipureintro
        exact fun _ => rfl
      isplitl [Hr]; · iexact Hr
      iexact Hg
    isplitl [Ho]; · iexact Ho
    isplitl [H0]; · iexact H0
    isplitl [H1]; · iexact H1
    iexists _; iexact H2
  · by_cases h7 : t.val % 8 = 7
    · have hs : scr5 W c (t.val + 1) = k5_pay2 (scr5 W c t.val) (iblk5 W c 0 t) (iblk5 W c 1 t) := by rw [scr5_succ, pt5_val]; unfold start5; rw [if_neg h0]
      rw [leaves5_2_last W c t h7, after5_2, hs]
      iintro ⟨⟨⟨%e0, %he, HS⟩, Hr, Hg⟩, Ho, ⟨%d0, H0⟩, ⟨%d1, H1⟩, ⟨%d2, H2⟩⟩
      obtain rfl := he h0
      iapply (body5_C c (grid5.coords t) _ (hstage5_0 ((cfg5.slots t 0).cast nbuf5_0)) _ (hstage5_1 ((cfg5.slots t 1).cast nbuf5_1)) _ (hstage5_2 ((cfg5.slots t 2).cast nbuf5_2)) scM5 (Memref.isWhole_whole _) (fun h => h0 ((hfirst5 t).mp h)) ((hlast5 t).mpr h7) (scr5 W c t.val) (iblk5 W c 0 t) (iblk5 W c 1 t) Set.univ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]
        · iexists _
          isplitr
          swap
          · iexact HS
          ipureintro
          exact fun _ => rfl
        isplitl [Hr]; · iexact Hr
        iexact Hg
      isplitl [Ho]; · iexact Ho
      isplitl [H0]; · iexact H0
      isplitl [H1]; · iexact H1
      iexact H2
    · have hs : scr5 W c (t.val + 1) = k5_pay2 (scr5 W c t.val) (iblk5 W c 0 t) (iblk5 W c 1 t) := by rw [scr5_succ, pt5_val]; unfold start5; rw [if_neg h0]
      rw [leaves5_2_mid W c t h7, hs]
      iintro ⟨⟨⟨%e0, %he, HS⟩, Hr, Hg⟩, Ho, ⟨%d0, H0⟩, ⟨%d1, H1⟩, ⟨%d2, H2⟩⟩
      obtain rfl := he h0
      iapply (body5_B c (grid5.coords t) _ (hstage5_0 ((cfg5.slots t 0).cast nbuf5_0)) _ (hstage5_1 ((cfg5.slots t 1).cast nbuf5_1)) _ (hstage5_2 ((cfg5.slots t 2).cast nbuf5_2)) scM5 (Memref.isWhole_whole _) (fun h => h0 ((hfirst5 t).mp h)) (fun h => h7 ((hlast5 t).mp h)) (scr5 W c t.val) (iblk5 W c 0 t) (iblk5 W c 1 t) Set.univ _)
      isplitl [H0]; · iexact H0
      isplitl [H1]; · iexact H1
      isplitl [HS]; · iexact HS
      iintro ⟨H0, H1, HS⟩
      isplitl [HS Hr Hg]
      · isplitl [HS]
        · iexists _
          isplitr
          swap
          · iexact HS
          ipureintro
          exact fun _ => rfl
        isplitl [Hr]; · iexact Hr
        iexact Hg
      isplitl [Ho]; · iexact Ho
      isplitl [H0]; · iexact H0
      isplitl [H1]; · iexact H1
      iexists _; iexact H2

theorem row5 (t : Fin cfg5.N) :
    defs₀ (F := F) .tc cfg5.body (cfg5.bodyArgs t (cfg5.slots t)) = bodyAt5 t := by
  unfold defs₀; rw [Defs.onTc_tc]

/-- The library's body obligation, at every point. -/
theorem obligation5 (c : Dev nD) : BodyObligation (dat5 W c) (defs₀ (F := F)) Variants.none () Set.univ := fun t => by
  rw [bigSep_W5, bigSep_W5, row5]
  exact triple_restated (sound5 W c t) rfl .rfl fun _ => .rfl

theorem phi5_in (c : Dev nD) :
    iprop(Pipeline.scopedRest (Ix := Unit) (Name := ℕ) (U := UR sig nD τ) (Lvl := ℕ) (Val := Elt F) spec5 c ∗ (∃ r, prngReg c r)) ⊢ Phi5 W c 0 := by
  rw [scoped5]; unfold Phi5
  iintro ⟨⟨⟨%d0, H0⟩, Hr⟩, Hg⟩
  isplitl [H0]
  · iexists d0
    isplitr
    · ipureintro; exact fun h => absurd rfl h
    iexact H0
  isplitl [Hr]; · iexact Hr
  iexact Hg

theorem phi5_out (c : Dev nD) (n : ℕ) :
    Phi5 W c n ⊢ iprop(Pipeline.scopedRest (Ix := Unit) (Name := ℕ) (U := UR sig nD τ) (Lvl := ℕ) (Val := Elt F) spec5 c ∗ (∃ r, prngReg c r)) := by
  rw [scoped5]; unfold Phi5
  iintro ⟨⟨%d0, -, H0⟩, Hr, Hg⟩
  isplitr [Hg]
  · isplitl [H0]; · iexists _; iexact H0
    iexact Hr
  iexact Hg

end Cert.Kernel2Ideal.Mlp

end
-- ==== Proof.Mlp6.lean ====
/-
  Call 6 of the layer, the gradient at the first weights, at any floats and from any contents of the arrays: what one grid point
  does, what the accumulator holds before each point, the pipeline's proof data and the body obligation.
-/
module

public import proofs.«01_k».proof.Proof.MlpLoads
public import proofs.«01_k».proof.Proof.Gen.Kernel2Ideal.Skeleton
public import proofs.«01_k».proof.Proof.Gen.Kernel2Ideal.Points
public import proofs.«01_k».proof.Proof.Gen.Kernel2Ideal.Launch
public import Idealize.ShloMosaic.Lib.Pipeline.RegionArraysS
public import Idealize.ShloMosaic.Lib.Tactic
public import Idealize.ShloMosaic.Lib.WordCmp
public import Idealize.ShloMosaic.Lib.ValueIdxCore

@[expose] public section

set_option maxRecDepth 16384

noncomputable section

namespace Cert.Kernel2Ideal.Mlp

open Idealize.ShloMosaic Idealize.ShloMosaic.TcCoe Idealize.ShloMosaic.Tactic Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch: the point is the first of its group. -/
abbrev first6 (i : grid6.Coords) : Prop := (Scalar.cmpi .ne (Scalar.extui (Scalar.cmpi .eq (BitVec.ofNat 32 (i 2).val) 0#32)) 0#32) = 1#1

/-- The four blocks of 512 columns of a 1024 × 2048 accumulator, one behind the other. -/
def slabs (x : Vec F S1024x2048 .f32) : Vec F S4x1024x512 .bf16 := fun y =>
  if (y 0).val = 3 then k6_pay6 x (ValueIdx.ix3 (n0 := 1) (n1 := 1024) (n2 := 512) 0 (y 1) (y 2))
  else if (y 0).val = 2 then k6_pay5 x (ValueIdx.ix3 (n0 := 1) (n1 := 1024) (n2 := 512) 0 (y 1) (y 2))
  else if (y 0).val = 1 then k6_pay4 x (ValueIdx.ix3 (n0 := 1) (n1 := 1024) (n2 := 512) 0 (y 1) (y 2))
  else k6_pay3 x (ValueIdx.ix3 (n0 := 1) (n1 := 1024) (n2 := 512) 0 (y 1) (y 2))

/-- After the four stores of a slab each, the output block holds the slabs. -/
theorem read_slabs (v : View sig .tc .vmem S4x1024x512 .bf16) (f : v.ty.Contents (Elt F)) (x : Vec F S1024x2048 .f32)
    (i3 : ∀ a : Fin 3, (![3, 0, 0] : Fin 3 → ℕ) a + (![1, 1024, 512] : Fin 3 → ℕ) a ≤ S4x1024x512.size a)
    (i2 : ∀ a : Fin 3, (![2, 0, 0] : Fin 3 → ℕ) a + (![1, 1024, 512] : Fin 3 → ℕ) a ≤ S4x1024x512.size a)
    (i1 : ∀ a : Fin 3, (![1, 0, 0] : Fin 3 → ℕ) a + (![1, 1024, 512] : Fin 3 → ℕ) a ≤ S4x1024x512.size a)
    (i0 : ∀ a : Fin 3, (![0, 0, 0] : Fin 3 → ℕ) a + (![1, 1024, 512] : Fin 3 → ℕ) a ≤ S4x1024x512.size a) :
    v.read (Elt F) (v.writes (Elt F) f [⟨Rect.unit (s := S4x1024x512) ![3, 0, 0] ![1, 1024, 512] i3, k6_pay6 x⟩,
      ⟨Rect.unit (s := S4x1024x512) ![2, 0, 0] ![1, 1024, 512] i2, k6_pay5 x⟩,
      ⟨Rect.unit (s := S4x1024x512) ![1, 0, 0] ![1, 1024, 512] i1, k6_pay4 x⟩,
      ⟨Rect.unit (s := S4x1024x512) ![0, 0, 0] ![1, 1024, 512] i0, k6_pay3 x⟩]) = slabs x := by
  funext y
  have hy : (y 0).val < 4 := (y 0).isLt
  unfold slabs
  have hx : ∀ o : ℕ, (y 0).val = o → ∀ a : Fin 3, (y a).val = (![o, 0, 0] : Fin 3 → ℕ) a + ((ValueIdx.ix3 (n0 := 1) (n1 := 1024) (n2 := 512) 0 (y 1) (y 2)) a).val := by
    intro o ho a
    match a with
    | ⟨0, _⟩ => exact ho
    | ⟨1, _⟩ => exact (Nat.zero_add _).symm
    | ⟨2, _⟩ => exact (Nat.zero_add _).symm
  by_cases h3 : (y 0).val = 3
  · rw [if_pos h3]
    exact View.read_writes_cons_unit_of_mem v f i3 _ _ y _ rfl (hx 3 h3)
  rw [if_neg h3, View.read_writes_cons_unit_of_not_mem v f i3 _ _ y rfl 0 (.inl (show (y 0).val < 3 by omega))]
  by_cases h2 : (y 0).val = 2
  · rw [if_pos h2]
    exact View.read_writes_cons_unit_of_mem v f i2 _ _ y _ rfl (hx 2 h2)
  rw [if_neg h2, View.read_writes_cons_unit_of_not_mem v f i2 _ _ y rfl 0 (.inl (show (y 0).val < 2 by omega))]
  by_cases h1 : (y 0).val = 1
  · rw [if_pos h1]
    exact View.read_writes_cons_unit_of_mem v f i1 _ _ y _ rfl (hx 1 h1)
  rw [if_neg h1, View.read_writes_cons_unit_of_not_mem v f i1 _ _ y rfl 0 (.inl (show (y 0).val < 1 by omega))]
  exact View.read_writes_cons_unit_of_mem v f i0 _ _ y _ rfl (hx 0 (by omega))

section

variable (c : Dev nD) (i : grid6.Coords) (arg3 : Memref sig .tc .vmem S512x1024 .bf16) (harg3 : arg3.IsWhole) (arg4 : Memref sig .tc .vmem S512x2048 .bf16) (harg4 : arg4.IsWhole) (arg5 : Memref sig .tc .vmem S4x1024x512 .bf16) (harg5 : arg5.IsWhole) (arg6 : Memref sig .tc .vmem S1024x2048 .f32) (harg6 : arg6.IsWhole)

set_option maxHeartbeats 1000000 in
/-- At the first point of a group the accumulator becomes zero plus the two blocks' product. -/
theorem body6_A (h1 : first6 i) (h2 : ¬k6_cond2 i = 1#1) (x0 : Vec F S512x1024 .bf16) (x1 : Vec F S512x2048 .bf16) (E : Set ℕ) (K : PUnit → sProp 𝕄) :
    iprop(owns (c : Thread nD τ) arg3 fullShare x0 ∗ owns (c : Thread nD τ) arg4 fullShare x1 ∗ (∃ d, owns (c : Thread nD τ) arg6 fullShare d)
        ∗ (iprop(owns (c : Thread nD τ) arg3 fullShare x0 ∗ owns (c : Thread nD τ) arg4 fullShare x1 ∗ owns (c : Thread nD τ) arg6 fullShare (k6_pay2 (k6_pay1 (F := F)) x0 x1)) -∗ K ⟨⟩))
      ⊢ wp frame (wpE (defs₀ (F := F)) Variants.none (c : Thread nD τ) none) E (cc6_L3_dw1 i arg3 harg3 arg4 harg4 arg5 harg5 arg6 harg6) K := by
  simp only [cc6_L3_dw1_eq_skeleton]; unfold cc6_L3_dw1_skel
  unfold owns
  iintro ⟨⟨%f0, %hf0, H0⟩, ⟨%f1, %hf1, H1⟩, ⟨%d3, %f3, -, H3⟩, Hk⟩
  obtain rfl := harg3.eq_unread hf0; obtain rfl := harg4.eq_unread hf1
  sl_exec (disch := first | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  iexists _; isplitr; swap; · iexact H3
  ipureintro
  sl_unfold_words
  rw [View.read_writes_full]
  simp only [at_S1024x2048, at_S512x1024, at_S512x2048, harg3.read_unread, harg4.read_unread, cov_S1024x2048]

set_option maxHeartbeats 1000000 in
/-- At a middle point the accumulator takes the product of the two blocks. -/
theorem body6_B (h1 : ¬first6 i) (h2 : ¬k6_cond2 i = 1#1) (s : Vec F S1024x2048 .f32) (x0 : Vec F S512x1024 .bf16) (x1 : Vec F S512x2048 .bf16) (E : Set ℕ) (K : PUnit → sProp 𝕄) :
    iprop(owns (c : Thread nD τ) arg3 fullShare x0 ∗ owns (c : Thread nD τ) arg4 fullShare x1 ∗ owns (c : Thread nD τ) arg6 fullShare s
        ∗ (iprop(owns (c : Thread nD τ) arg3 fullShare x0 ∗ owns (c : Thread nD τ) arg4 fullShare x1 ∗ owns (c : Thread nD τ) arg6 fullShare (k6_pay2 s x0 x1)) -∗ K ⟨⟩))
      ⊢ wp frame (wpE (defs₀ (F := F)) Variants.none (c : Thread nD τ) none) E (cc6_L3_dw1 i arg3 harg3 arg4 harg4 arg5 harg5 arg6 harg6) K := by
  simp only [cc6_L3_dw1_eq_skeleton]; unfold cc6_L3_dw1_skel
  unfold owns
  iintro ⟨⟨%f0, %hf0, H0⟩, ⟨%f1, %hf1, H1⟩, ⟨%f3, %hf3, H3⟩, Hk⟩
  obtain rfl := harg3.eq_unread hf0; obtain rfl := harg4.eq_unread hf1; obtain rfl := harg6.eq_unread hf3
  sl_exec (disch := first | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  iexists _; isplitr; swap; · iexact H3
  ipureintro
  sl_unfold_words
  rw [View.read_writes_full]
  simp only [at_S1024x2048, at_S512x1024, at_S512x2048, harg3.read_unread, harg4.read_unread, harg6.read_unread, cov_S1024x2048]

set_option maxHeartbeats 1000000 in
/-- At the last point of a group the outputs are written from the accumulator. -/
theorem body6_C (h1 : ¬first6 i) (h2 : k6_cond2 i = 1#1) (s : Vec F S1024x2048 .f32) (x0 : Vec F S512x1024 .bf16) (x1 : Vec F S512x2048 .bf16) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare s
        ∗ (iprop(owns (c : Thread nD τ) arg3 fullShare x0 ∗ owns (c : Thread nD τ) arg4 fullShare x1 ∗ owns (c : Thread nD τ) arg5 fullShare (slabs (k6_pay2 s x0 x1)) ∗ owns (c : Thread nD τ) arg6 fullShare (k6_pay2 s x0 x1)) -∗ K ⟨⟩))
      ⊢ wp frame (wpE (defs₀ (F := F)) Variants.none (c : Thread nD τ) none) E (cc6_L3_dw1 i arg3 harg3 arg4 harg4 arg5 harg5 arg6 harg6) K := by
  simp only [cc6_L3_dw1_eq_skeleton]; unfold cc6_L3_dw1_skel
  unfold owns
  iintro ⟨⟨%f0, %hf0, H0⟩, ⟨%f1, %hf1, H1⟩, ⟨%d2, %f2, -, H2⟩, ⟨%f3, %hf3, H3⟩, Hk⟩
  obtain rfl := harg3.eq_unread hf0; obtain rfl := harg4.eq_unread hf1; obtain rfl := harg6.eq_unread hf3
  sl_exec (disch := first | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    sl_unfold_words
    simp only [at_S1024x2048, at_S512x1024, at_S512x2048, harg3.read_unread, harg4.read_unread, harg6.read_unread, cov_S1024x2048]
    exact read_slabs _ _ _ _ _ _ _
  iexists _; isplitr; swap; · iexact H3
  ipureintro
  sl_unfold_words
  rw [View.read_writes_full]
  simp only [at_S1024x2048, at_S512x1024, at_S512x2048, harg3.read_unread, harg4.read_unread, harg6.read_unread, cov_S1024x2048]

end

variable (W : Dev nD → Valuation τ sig (Elt F))

/-- Window `w`'s block at point `t`, of its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (W c (Proc.devRef .tc (Pipeline.arrRef spec6 w)))

theorem hfirst6 : ∀ t : Fin cfg6.N, first6 (grid6.coords t) ↔ t.val % 8 = 0 :=
  (fun t => by
    have ht : t.val < 16 := Nat.lt_of_lt_of_eq t.isLt N_6
    have e2 : (grid6.coords t 2).val = t.val / 1 % 8 := Pipeline.Grid.coords_val t 2 (by decide) rfl
    simp only [first6, e2]
    word_cmp
   : ∀ t : Fin grid6.N, first6 (grid6.coords t) ↔ t.val % 8 = 0)

theorem hlast6 : ∀ t : Fin cfg6.N, k6_cond2 (grid6.coords t) = 1#1 ↔ t.val % 8 = 7 :=
  (fun t => by
    have ht : t.val < 16 := Nat.lt_of_lt_of_eq t.isLt N_6
    have e2 : (grid6.coords t 2).val = t.val / 1 % 8 := Pipeline.Grid.coords_val t 2 (by decide) rfl
    simp only [k6_cond2, e2]
    word_cmp
   : ∀ t : Fin grid6.N, k6_cond2 (grid6.coords t) = 1#1 ↔ t.val % 8 = 7)

/-- Point `n` of the grid. -/
def pt6 (n : ℕ) : Fin cfg6.N := ⟨n % 16, Nat.lt_of_lt_of_eq (Nat.mod_lt n (by decide)) (show cfg6.N = 16 from N_6).symm⟩

theorem pt6_val (t : Fin cfg6.N) : pt6 t.val = t :=
  Fin.ext (Nat.mod_eq_of_lt (Nat.lt_of_lt_of_eq t.isLt (show cfg6.N = 16 from N_6)))

/-- The accumulator before point `n`, past the first of its group. -/
def scr6 (c : Dev nD) : ℕ → Vec F S1024x2048 .f32
  | 0 => k6_pay1
  | n + 1 => k6_pay2 (if n % 8 = 0 then k6_pay1 else scr6 c n) (iblk6 W c 0 (pt6 n)) (iblk6 W c 1 (pt6 n))

/-- The accumulator point `n` starts from: zero at the first point of a group. -/
def start6 (c : Dev nD) (n : ℕ) : Vec F S1024x2048 .f32 := if n % 8 = 0 then k6_pay1 else scr6 W c n

theorem scr6_succ (c : Dev nD) (n : ℕ) : scr6 W c (n + 1) = k6_pay2 (start6 W c n) (iblk6 W c 0 (pt6 n)) (iblk6 W c 1 (pt6 n)) := rfl

/-- The accumulator's buffer. -/
abbrev scM6 : Memref sig .tc .vmem S1024x2048 .f32 := Memref.whole cc6_scratch0

/-- The scoped buffers the region does not use. -/
abbrev rest6 (c : Dev nD) : sProp 𝕄 := Pipeline.scopedRestBut (Ix := Unit) (Name := ℕ) (U := UR sig nD τ) (Lvl := ℕ) (Val := Elt F) spec6 c [cc6_scratch0]

theorem scoped6 (c : Dev nD) :
    (Pipeline.scopedRest (Ix := Unit) (Name := ℕ) (U := UR sig nD τ) (Lvl := ℕ) (Val := Elt F) spec6 c : sProp 𝕄)
      = iprop((∃ d, owns (c : Thread nD τ) scM6 fullShare d) ∗ rest6 c) := by
  rw [scopedRest6_split]
  simp only [scM6, owns_whole]
  rfl

/-- Before point `n`: the accumulator, at its contents unless a group begins; the other buffers and the generator register. -/
def Phi6 (c : Dev nD) (n : ℕ) : sProp 𝕄 :=
  iprop((∃ d, ⌜n % 8 ≠ 0 → d = scr6 W c n⌝ ∗ owns (c : Thread nD τ) scM6 fullShare d) ∗ rest6 c ∗ ∃ r, prngReg c r)

/-- The region's proof data: each input's buffer at its block, each output's at what the group's last point writes. -/
def dat6 (c : Dev nD) : Dat τ (Elt F) Unit ℕ (UR sig nD τ) ℕ cfg6 c where
  A w := W c (Proc.devRef .tc (Pipeline.arrRef spec6 w))
  after w t := match w with
    | ⟨0, _⟩ => iblk6 W c 0 t
    | ⟨1, _⟩ => iblk6 W c 1 t
    | ⟨2, _⟩ => slabs (scr6 W c (t.val + 1))
  Φ t := Phi6 W c t.val
  q _ := fullShare
  owed _ := 0

theorem A6_eq (c : Dev nD) (w : Fin cfg6.W) : (dat6 W c).A w = W c (Proc.devRef .tc (Pipeline.arrRef spec6 w)) := by
  dsimp only [dat6]

theorem after6_0 (c : Dev nD) (t : Fin cfg6.N) : (dat6 W c).after 0 t = iblk6 W c 0 t := by dsimp only [dat6]
theorem after6_1 (c : Dev nD) (t : Fin cfg6.N) : (dat6 W c).after 1 t = iblk6 W c 1 t := by dsimp only [dat6]
theorem after6_2 (c : Dev nD) (t : Fin cfg6.N) : (dat6 W c).after 2 t = slabs (scr6 W c (t.val + 1)) := by dsimp only [dat6]

theorem before6 (c : Dev nD) : (∀ t d, (dat6 W c).before 0 t d = iblk6 W c 0 t) ∧ (∀ t d, (dat6 W c).before 1 t d = iblk6 W c 1 t) := by
  refine ⟨fun t d => ?_, fun t d => ?_⟩ <;>
    exact ((dat6 W c).before_in_eq_fetched _ rfl (fun _ => rfl) (fun _ _ _ => rfl) (fun t => by unfold Dat.blockOf; rw [A6_eq]; rfl) t d).trans
      (by unfold Dat.fetched Dat.blockOf; rw [A6_eq]; rfl)

/-- What the body is called with at point `t`, -/
def pre6 (c : Dev nD) (t : Fin cfg6.N) : sProp 𝕄 :=
  iprop((dat6 W c).Φ t.castSucc ∗ (dat6 W c).owesAt () t.castSucc
    ∗ (∃ d, owns (c : Thread nD τ) (win6_0.stage (cfg6.slots t 0)) fullShare ((dat6 W c).before 0 t d))
    ∗ (∃ d, owns (c : Thread nD τ) (win6_1.stage (cfg6.slots t 1)) fullShare ((dat6 W c).before 1 t d))
    ∗ (∃ d, owns (c : Thread nD τ) (win6_2.stage (cfg6.slots t 2)) fullShare ((dat6 W c).before 2 t d)))

/-- and what it returns: an output as found, but at the last point of a group as computed. -/
def post6 (c : Dev nD) (t : Fin cfg6.N) : sProp 𝕄 :=
  iprop((dat6 W c).Φ t.succ ∗ (dat6 W c).owesAt () t.succ
    ∗ owns (c : Thread nD τ) (win6_0.stage (cfg6.slots t 0)) fullShare ((dat6 W c).after 0 t)
    ∗ owns (c : Thread nD τ) (win6_1.stage (cfg6.slots t 1)) fullShare ((dat6 W c).after 1 t)
    ∗ (dat6 W c).leavesExact 2 t)

theorem leaves6_2_mid (c : Dev nD) (t : Fin cfg6.N) (h : t.val % 8 ≠ 7) :
    (dat6 W c).leavesExact 2 t = iprop(∃ d, owns (c : Thread nD τ) (win6_2.stage (cfg6.slots t 2)) fullShare ((dat6 W c).before 2 t d)) := by
  refine Dat.leavesExact_idle _ _ _ ?_ (Bool.eq_false_iff.mpr fun hf => h ((flush6_2 t).mp hf))
  show (!(k6_cond2 (grid6.coords t) == 1#1)) = true
  rw [Bool.not_eq_true', beq_eq_false_iff_ne]
  exact fun hc => h ((hlast6 t).mp hc)

theorem leaves6_2_last (c : Dev nD) (t : Fin cfg6.N) (h : t.val % 8 = 7) :
    (dat6 W c).leavesExact 2 t = owns (c : Thread nD τ) (win6_2.stage (cfg6.slots t 2)) fullShare ((dat6 W c).after 2 t) := by
  have hi : cfg6.idle 2 (cfg6.grid.coords t) = false := by
    show (!(k6_cond2 (grid6.coords t) == 1#1)) = false
    rw [Bool.not_eq_false', beq_iff_eq]
    exact (hlast6 t).mpr h
  unfold Dat.leavesExact; rw [hi]

set_option maxHeartbeats 6400000 in
/-- The body at any point. -/
theorem sound6 (c : Dev nD) (t : Fin cfg6.N) :
    pre6 W c t ⊢ wp frame (wpE (defs₀ (F := F)) Variants.none (c : Thread nD τ) none) Set.univ (bodyAt6 t) (fun _ => post6 W c t) := by
  unfold pre6 post6 bodyAt6
  simp only [before6]
  rw [show (dat6 W c).owesAt () t.succ = (dat6 W c).owesAt () t.castSucc from rfl, after6_0, after6_1]
  rw [show (dat6 W c).Φ t.succ = Phi6 W c (t.val + 1) from rfl, show (dat6 W c).Φ t.castSucc = Phi6 W c t.val from rfl]
  unfold Phi6
  by_cases h0 : t.val % 8 = 0
  · have h7 : t.val % 8 ≠ 7 := by omega
    have hs : scr6 W c (t.val + 1) = k6_pay2 (k6_pay1 (F := F)) (iblk6 W c 0 t) (iblk6 W c 1 t) := by rw [scr6_succ, pt6_val]; unfold start6; rw [if_pos h0]
    rw [leaves6_2_mid W c t h7, hs]
    iintro ⟨⟨⟨%e0, -, HS⟩, Hr, Hg⟩, Ho, ⟨%d0, H0⟩, ⟨%d1, H1⟩, ⟨%d2, H2⟩⟩
    iapply (body6_A c (grid6.coords t) _ (hstage6_0 ((cfg6.slots t 0).cast nbuf6_0)) _ (hstage6_1 ((cfg6.slots t 1).cast nbuf6_1)) _ (hstage6_2 ((cfg6.slots t 2).cast nbuf6_2)) scM6 (Memref.isWhole_whole _) ((hfirst6 t).mpr h0) (fun h => h7 ((hlast6 t).mp h)) (iblk6 W c 0 t) (iblk6 W c 1 t) Set.univ _)
    isplitl [H0]; · iexact H0
    isplitl [H1]; · iexact H1
    isplitl [HS]; · iexists _; iexact HS
    iintro ⟨H0, H1, HS⟩
    isplitl [HS Hr Hg]
    · isplitl [HS]
      · iexists _
        isplitr
        swap
        · iexact HS
        ipureintro
        exact fun _ => rfl
      isplitl [Hr]; · iexact Hr
      iexact Hg
    isplitl [Ho]; · iexact Ho
    isplitl [H0]; · iexact H0
    isplitl [H1]; · iexact H1
    iexists _; iexact H2
  · by_cases h7 : t.val % 8 = 7
    · have hs : scr6 W c (t.val + 1) = k6_pay2 (scr6 W c t.val) (iblk6 W c 0 t) (iblk6 W c 1 t) := by rw [scr6_succ, pt6_val]; unfold start6; rw [if_neg h0]
      rw [leaves6_2_last W c t h7, after6_2, hs]
      iintro ⟨⟨⟨%e0, %he, HS⟩, Hr, Hg⟩, Ho, ⟨%d0, H0⟩, ⟨%d1, H1⟩, ⟨%d2, H2⟩⟩
      obtain rfl := he h0
      iapply (body6_C c (grid6.coords t) _ (hstage6_0 ((cfg6.slots t 0).cast nbuf6_0)) _ (hstage6_1 ((cfg6.slots t 1).cast nbuf6_1)) _ (hstage6_2 ((cfg6.slots t 2).cast nbuf6_2)) scM6 (Memref.isWhole_whole _) (fun h => h0 ((hfirst6 t).mp h)) ((hlast6 t).mpr h7) (scr6 W c t.val) (iblk6 W c 0 t) (iblk6 W c 1 t) Set.univ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]
        · iexists _
          isplitr
          swap
          · iexact HS
          ipureintro
          exact fun _ => rfl
        isplitl [Hr]; · iexact Hr
        iexact Hg
      isplitl [Ho]; · iexact Ho
      isplitl [H0]; · iexact H0
      isplitl [H1]; · iexact H1
      iexact H2
    · have hs : scr6 W c (t.val + 1) = k6_pay2 (scr6 W c t.val) (iblk6 W c 0 t) (iblk6 W c 1 t) := by rw [scr6_succ, pt6_val]; unfold start6; rw [if_neg h0]
      rw [leaves6_2_mid W c t h7, hs]
      iintro ⟨⟨⟨%e0, %he, HS⟩, Hr, Hg⟩, Ho, ⟨%d0, H0⟩, ⟨%d1, H1⟩, ⟨%d2, H2⟩⟩
      obtain rfl := he h0
      iapply (body6_B c (grid6.coords t) _ (hstage6_0 ((cfg6.slots t 0).cast nbuf6_0)) _ (hstage6_1 ((cfg6.slots t 1).cast nbuf6_1)) _ (hstage6_2 ((cfg6.slots t 2).cast nbuf6_2)) scM6 (Memref.isWhole_whole _) (fun h => h0 ((hfirst6 t).mp h)) (fun h => h7 ((hlast6 t).mp h)) (scr6 W c t.val) (iblk6 W c 0 t) (iblk6 W c 1 t) Set.univ _)
      isplitl [H0]; · iexact H0
      isplitl [H1]; · iexact H1
      isplitl [HS]; · iexact HS
      iintro ⟨H0, H1, HS⟩
      isplitl [HS Hr Hg]
      · isplitl [HS]
        · iexists _
          isplitr
          swap
          · iexact HS
          ipureintro
          exact fun _ => rfl
        isplitl [Hr]; · iexact Hr
        iexact Hg
      isplitl [Ho]; · iexact Ho
      isplitl [H0]; · iexact H0
      isplitl [H1]; · iexact H1
      iexists _; iexact H2

theorem row6 (t : Fin cfg6.N) :
    defs₀ (F := F) .tc cfg6.body (cfg6.bodyArgs t (cfg6.slots t)) = bodyAt6 t := by
  unfold defs₀; rw [Defs.onTc_tc]

/-- The library's body obligation, at every point. -/
theorem obligation6 (c : Dev nD) : BodyObligation (dat6 W c) (defs₀ (F := F)) Variants.none () Set.univ := fun t => by
  rw [bigSep_W6, bigSep_W6, row6]
  exact triple_restated (sound6 W c t) rfl .rfl fun _ => .rfl

theorem phi6_in (c : Dev nD) :
    iprop(Pipeline.scopedRest (Ix := Unit) (Name := ℕ) (U := UR sig nD τ) (Lvl := ℕ) (Val := Elt F) spec6 c ∗ (∃ r, prngReg c r)) ⊢ Phi6 W c 0 := by
  rw [scoped6]; unfold Phi6
  iintro ⟨⟨⟨%d0, H0⟩, Hr⟩, Hg⟩
  isplitl [H0]
  · iexists d0
    isplitr
    · ipureintro; exact fun h => absurd rfl h
    iexact H0
  isplitl [Hr]; · iexact Hr
  iexact Hg

theorem phi6_out (c : Dev nD) (n : ℕ) :
    Phi6 W c n ⊢ iprop(Pipeline.scopedRest (Ix := Unit) (Name := ℕ) (U := UR sig nD τ) (Lvl := ℕ) (Val := Elt F) spec6 c ∗ (∃ r, prngReg c r)) := by
  rw [scoped6]; unfold Phi6
  iintro ⟨⟨%d0, -, H0⟩, Hr, Hg⟩
  isplitr [Hg]
  · isplitl [H0]; · iexists _; iexact H0
    iexact Hr
  iexact Hg

end Cert.Kernel2Ideal.Mlp

end
-- ==== Proof.MlpRun.lean ====
/-
  The layer's run, at any floats: the host operations that prepare the arguments, the seven calls, and the operations after
  them. Every fair execution ends; every unscoped buffer then holds what the calls' proof data say, and every counter is zero.
-/
module

public import proofs.«01_k».proof.Proof.Mlp0
public import proofs.«01_k».proof.Proof.Mlp1
public import proofs.«01_k».proof.Proof.Mlp2
public import proofs.«01_k».proof.Proof.Mlp3
public import proofs.«01_k».proof.Proof.Mlp4
public import proofs.«01_k».proof.Proof.Mlp5
public import proofs.«01_k».proof.Proof.Mlp6
public import Idealize.ShloMosaic.Lib.StableHlo.RunLoop

@[expose] public section

set_option maxRecDepth 16384

noncomputable section

namespace Cert.Kernel2Ideal.Mlp

open Idealize.ShloMosaic Idealize.ShloMosaic.TcCoe Idealize.ShloMosaic.Tactic Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RegionSeg HostSeg Seg afterRegion arrRefs arrRefs_sub_ucRefs Dat Cfg Window BodyObligation cellOf ucRefs sub_ucRefs)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, -/
abbrev U0 (c : Dev nD) : Valuation τ sig (Elt F) := fun b => (s₀ m ρ).mem ((c : Dev nD), b)
/-- when the first call is entered, -/
abbrev V0 (c : Dev nD) : Valuation τ sig (Elt F) := StableHlo.after hostOps0 (U0 m ρ c)
/-! after each call, -/
abbrev V1 (c : Dev nD) : Valuation τ sig (Elt F) := afterRegion (dat0 (V0 m ρ) c) (V0 m ρ c)
abbrev V2 (c : Dev nD) : Valuation τ sig (Elt F) := afterRegion (dat1 (V1 m ρ) c) (V1 m ρ c)
abbrev V3 (c : Dev nD) : Valuation τ sig (Elt F) := afterRegion (dat2 (V2 m ρ) c) (V2 m ρ c)
abbrev V4 (c : Dev nD) : Valuation τ sig (Elt F) := afterRegion (dat3 (V3 m ρ) c) (V3 m ρ c)
abbrev V5 (c : Dev nD) : Valuation τ sig (Elt F) := afterRegion (dat4 (V4 m ρ) c) (V4 m ρ c)
abbrev V6 (c : Dev nD) : Valuation τ sig (Elt F) := afterRegion (dat5 (V5 m ρ) c) (V5 m ρ c)
abbrev V7 (c : Dev nD) : Valuation τ sig (Elt F) := afterRegion (dat6 (V6 m ρ) c) (V6 m ρ c)
/-- and at the end. -/
abbrev Vend (c : Dev nD) : Valuation τ sig (Elt F) := StableHlo.after hostOps7 (V7 m ρ c)

/-- The seven calls' proof data. -/
def pdats : (p : Fin 7) → (c : Dev nD) → Dat τ (Elt F) Unit ℕ (UR sig nD τ) ℕ (cfgs p) c
  | ⟨0, _⟩, c => dat0 (V0 m ρ) c
  | ⟨1, _⟩, c => dat1 (V1 m ρ) c
  | ⟨2, _⟩, c => dat2 (V2 m ρ) c
  | ⟨3, _⟩, c => dat3 (V3 m ρ) c
  | ⟨4, _⟩, c => dat4 (V4 m ρ) c
  | ⟨5, _⟩, c => dat5 (V5 m ρ) c
  | ⟨6, _⟩, c => dat6 (V6 m ρ) c

/-- No core owes another anything; each staging counter has its one name, at level zero. -/
abbrev L : GSem nD τ sig → Finset Unit := fun g => if g.1.2 = .tc then {()} else ∅
abbrev lv : GSem nD τ sig → Unit → ℕ := fun _ _ => 0
/-- The prefetched tables' admissible contents: no table. -/
abbrev adm : (p : Fin 7) → (pcfgs (F := F) p).Adm := fun p => (cfgs p).toPCfg_adm

theorem cut (p : Fin 7) : Pipeline.LevelCut (pcfgs (F := F)) adm () L lv p 0 (fun _ => 0) where
  hι _ _ _ := Finset.mem_singleton_self _
  hιb _ _ _ := le_rfl
  hD _ _ _ h := absurd h (lt_irrefl _)

/-- The core's generator register. -/
abbrev Reg (c : Dev nD) : sProp 𝕄 := iprop(∃ r, prngReg c r)

/-- What rides beside the buffers. -/
abbrev Rest (c : Dev nD) : sProp 𝕄 := iprop((∃ Wd, owes (c : Thread nD τ) (0 : CellTallies nD τ sig Unit) Wd) ∗ Reg c ∗ emp)

/-- What the program holds between its segments, at contents `V`. -/
abbrev Held (V : Dev nD → Valuation τ sig (Elt F)) (c : Dev nD) : sProp 𝕄 :=
  iprop(StableHlo.held (c : Thread nD τ) (ucRefs τ sig) (V c) ∗ Rest c)

theorem fresh0 : ∀ op ∈ (hostOps0 : List (HloOp τ sig (Elt F))), op.fresh = ∅ := by
  intro _ h; (repeat (cases h with | head => rfl | tail _ h => ?_)); exact nomatch h
theorem fresh7 : ∀ op ∈ (hostOps7 : List (HloOp τ sig (Elt F))), op.fresh = ∅ := by
  intro _ h; (repeat (cases h with | head => rfl | tail _ h => ?_)); exact nomatch h

/-- The operations before the calls, -/
def host0 : HostSeg (Ix := Unit) (Name := ℕ) (U := UR sig nD τ) (Lvl := ℕ) (pcfgs (F := F)) defs₀ Variants.none L lv :=
  HostSeg.ofOps _ _ _ _ _ (ucRefs τ sig) hostOps0 (fun op h => sub_ucRefs op ((List.forall_iff_forall_mem.mp hostOps0_sub) op h)) fresh0 (U0 m ρ) Rest
/-- and after them. -/
def host7 : HostSeg (Ix := Unit) (Name := ℕ) (U := UR sig nD τ) (Lvl := ℕ) (pcfgs (F := F)) defs₀ Variants.none L lv :=
  HostSeg.ofOps _ _ _ _ _ (ucRefs τ sig) hostOps7 (fun op h => sub_ucRefs op ((List.forall_iff_forall_mem.mp hostOps7_sub) op h)) fresh7 (V7 m ρ) Rest

/-! The seven calls' regions, each from the buffers the one before left. -/

section
set_option backward.isDefEq.respectTransparency.types false

def reg0 : RegionSeg (pcfgs (F := F)) adm (pdats m ρ) () defs₀ Variants.none L lv 0 :=
  RegionSeg.ofHeldIn (pcfgs (F := F)) adm (pdats m ρ) () defs₀ Variants.none L lv 0 0 (ucRefs τ sig) Reg Reg
    launch0.toP rfl (fun c => (obligation0 (V0 m ρ) c).loose) (fun _ _ => rfl) (fun _ => rfl)
    (fun c => (dat0 (V0 m ρ) c).share_full fun _ => rfl)
    (fun c => phi0_in (V0 m ρ) c) (fun c => phi0_out (V0 m ρ) c _) (fun _ => 0) (cut 0) (fun _ => iprop(emp)) (V0 m ρ)
    (fun c w => A0_eq (V0 m ρ) c w)
theorem sub0 : arrRefs (τ := τ) (pcfgs (F := F) 0).spec ⊆ ucRefs τ sig := arrRefs_sub_ucRefs _ winFacts0.arr_unscoped
theorem enter0 (c : Dev nD) : Held (V0 m ρ) c ⊢ (reg0 m ρ).pre c := by
  unfold reg0
  exact RegionSeg.ofHeldIn_pre (pcs := pcfgs (F := F)) (a := adm) (pdats := pdats m ρ) (p := 0) (D := 0) (X := Reg) (R := fun _ => iprop(emp)) (W := V0 m ρ) sub0 c
theorem leave0 (c : Dev nD) : (reg0 m ρ).post c ⊢ Held (V1 m ρ) c := by
  have h : afterRegion (pdats m ρ 0 c) (V0 m ρ c) = V1 m ρ c := rfl
  unfold Held; rw [← h]; unfold reg0
  exact RegionSeg.ofHeldIn_post sub0 c

def reg1 : RegionSeg (pcfgs (F := F)) adm (pdats m ρ) () defs₀ Variants.none L lv 1 :=
  RegionSeg.ofHeldIn (pcfgs (F := F)) adm (pdats m ρ) () defs₀ Variants.none L lv 1 0 (ucRefs τ sig) Reg Reg
    launch1.toP rfl (fun c => (obligation1 (V1 m ρ) c).loose) (fun _ _ => rfl) (fun _ => rfl)
    (fun c => (dat1 (V1 m ρ) c).share_full fun _ => rfl)
    (fun c => phi1_in (V1 m ρ) c) (fun c => phi1_out (V1 m ρ) c _) (fun _ => 0) (cut 1) (fun _ => iprop(emp)) (V1 m ρ)
    (fun c w => A1_eq (V1 m ρ) c w)
theorem sub1 : arrRefs (τ := τ) (pcfgs (F := F) 1).spec ⊆ ucRefs τ sig := arrRefs_sub_ucRefs _ winFacts1.arr_unscoped
theorem enter1 (c : Dev nD) : Held (V1 m ρ) c ⊢ (reg1 m ρ).pre c := by
  unfold reg1
  exact RegionSeg.ofHeldIn_pre (pcs := pcfgs (F := F)) (a := adm) (pdats := pdats m ρ) (p := 1) (D := 0) (X := Reg) (R := fun _ => iprop(emp)) (W := V1 m ρ) sub1 c
theorem leave1 (c : Dev nD) : (reg1 m ρ).post c ⊢ Held (V2 m ρ) c := by
  have h : afterRegion (pdats m ρ 1 c) (V1 m ρ c) = V2 m ρ c := rfl
  unfold Held; rw [← h]; unfold reg1
  exact RegionSeg.ofHeldIn_post sub1 c

def reg2 : RegionSeg (pcfgs (F := F)) adm (pdats m ρ) () defs₀ Variants.none L lv 2 :=
  RegionSeg.ofHeldIn (pcfgs (F := F)) adm (pdats m ρ) () defs₀ Variants.none L lv 2 0 (ucRefs τ sig) Reg Reg
    launch2.toP rfl (fun c => (obligation2 (V2 m ρ) c).loose) (fun _ _ => rfl) (fun _ => rfl)
    (fun c => (dat2 (V2 m ρ) c).share_full fun _ => rfl)
    (fun c => .rfl) (fun c => .rfl) (fun _ => 0) (cut 2) (fun _ => iprop(emp)) (V2 m ρ)
    (fun c w => A2_eq (V2 m ρ) c w)
theorem sub2 : arrRefs (τ := τ) (pcfgs (F := F) 2).spec ⊆ ucRefs τ sig := arrRefs_sub_ucRefs _ winFacts2.arr_unscoped
theorem enter2 (c : Dev nD) : Held (V2 m ρ) c ⊢ (reg2 m ρ).pre c := by
  unfold reg2
  exact RegionSeg.ofHeldIn_pre (pcs := pcfgs (F := F)) (a := adm) (pdats := pdats m ρ) (p := 2) (D := 0) (X := Reg) (R := fun _ => iprop(emp)) (W := V2 m ρ) sub2 c
theorem leave2 (c : Dev nD) : (reg2 m ρ).post c ⊢ Held (V3 m ρ) c := by
  have h : afterRegion (pdats m ρ 2 c) (V2 m ρ c) = V3 m ρ c := rfl
  unfold Held; rw [← h]; unfold reg2
  exact RegionSeg.ofHeldIn_post sub2 c

def reg3 : RegionSeg (pcfgs (F := F)) adm (pdats m ρ) () defs₀ Variants.none L lv 3 :=
  RegionSeg.ofHeldIn (pcfgs (F := F)) adm (pdats m ρ) () defs₀ Variants.none L lv 3 0 (ucRefs τ sig) Reg Reg
    launch3.toP rfl (fun c => (obligation3 (V3 m ρ) c).loose) (fun _ _ => rfl) (fun _ => rfl)
    (fun c => (dat3 (V3 m ρ) c).share_full fun _ => rfl)
    (fun c => phi3_in (V3 m ρ) c) (fun c => phi3_out (V3 m ρ) c _) (fun _ => 0) (cut 3) (fun _ => iprop(emp)) (V3 m ρ)
    (fun c w => A3_eq (V3 m ρ) c w)
theorem sub3 : arrRefs (τ := τ) (pcfgs (F := F) 3).spec ⊆ ucRefs τ sig := arrRefs_sub_ucRefs _ winFacts3.arr_unscoped
theorem enter3 (c : Dev nD) : Held (V3 m ρ) c ⊢ (reg3 m ρ).pre c := by
  unfold reg3
  exact RegionSeg.ofHeldIn_pre (pcs := pcfgs (F := F)) (a := adm) (pdats := pdats m ρ) (p := 3) (D := 0) (X := Reg) (R := fun _ => iprop(emp)) (W := V3 m ρ) sub3 c
theorem leave3 (c : Dev nD) : (reg3 m ρ).post c ⊢ Held (V4 m ρ) c := by
  have h : afterRegion (pdats m ρ 3 c) (V3 m ρ c) = V4 m ρ c := rfl
  unfold Held; rw [← h]; unfold reg3
  exact RegionSeg.ofHeldIn_post sub3 c

def reg4 : RegionSeg (pcfgs (F := F)) adm (pdats m ρ) () defs₀ Variants.none L lv 4 :=
  RegionSeg.ofHeldIn (pcfgs (F := F)) adm (pdats m ρ) () defs₀ Variants.none L lv 4 0 (ucRefs τ sig) Reg Reg
    launch4.toP rfl (fun c => (obligation4 (V4 m ρ) c).loose) (fun _ _ => rfl) (fun _ => rfl)
    (fun c => (dat4 (V4 m ρ) c).share_full fun _ => rfl)
    (fun c => phi4_in (V4 m ρ) c) (fun c => phi4_out (V4 m ρ) c _) (fun _ => 0) (cut 4) (fun _ => iprop(emp)) (V4 m ρ)
    (fun c w => A4_eq (V4 m ρ) c w)
theorem sub4 : arrRefs (τ := τ) (pcfgs (F := F) 4).spec ⊆ ucRefs τ sig := arrRefs_sub_ucRefs _ winFacts4.arr_unscoped
theorem enter4 (c : Dev nD) : Held (V4 m ρ) c ⊢ (reg4 m ρ).pre c := by
  unfold reg4
  exact RegionSeg.ofHeldIn_pre (pcs := pcfgs (F := F)) (a := adm) (pdats := pdats m ρ) (p := 4) (D := 0) (X := Reg) (R := fun _ => iprop(emp)) (W := V4 m ρ) sub4 c
theorem leave4 (c : Dev nD) : (reg4 m ρ).post c ⊢ Held (V5 m ρ) c := by
  have h : afterRegion (pdats m ρ 4 c) (V4 m ρ c) = V5 m ρ c := rfl
  unfold Held; rw [← h]; unfold reg4
  exact RegionSeg.ofHeldIn_post sub4 c

def reg5 : RegionSeg (pcfgs (F := F)) adm (pdats m ρ) () defs₀ Variants.none L lv 5 :=
  RegionSeg.ofHeldIn (pcfgs (F := F)) adm (pdats m ρ) () defs₀ Variants.none L lv 5 0 (ucRefs τ sig) Reg Reg
    launch5.toP rfl (fun c => (obligation5 (V5 m ρ) c).loose) (fun _ _ => rfl) (fun _ => rfl)
    (fun c => (dat5 (V5 m ρ) c).share_full fun _ => rfl)
    (fun c => phi5_in (V5 m ρ) c) (fun c => phi5_out (V5 m ρ) c _) (fun _ => 0) (cut 5) (fun _ => iprop(emp)) (V5 m ρ)
    (fun c w => A5_eq (V5 m ρ) c w)
theorem sub5 : arrRefs (τ := τ) (pcfgs (F := F) 5).spec ⊆ ucRefs τ sig := arrRefs_sub_ucRefs _ winFacts5.arr_unscoped
theorem enter5 (c : Dev nD) : Held (V5 m ρ) c ⊢ (reg5 m ρ).pre c := by
  unfold reg5
  exact RegionSeg.ofHeldIn_pre (pcs := pcfgs (F := F)) (a := adm) (pdats := pdats m ρ) (p := 5) (D := 0) (X := Reg) (R := fun _ => iprop(emp)) (W := V5 m ρ) sub5 c
theorem leave5 (c : Dev nD) : (reg5 m ρ).post c ⊢ Held (V6 m ρ) c := by
  have h : afterRegion (pdats m ρ 5 c) (V5 m ρ c) = V6 m ρ c := rfl
  unfold Held; rw [← h]; unfold reg5
  exact RegionSeg.ofHeldIn_post sub5 c

def reg6 : RegionSeg (pcfgs (F := F)) adm (pdats m ρ) () defs₀ Variants.none L lv 6 :=
  RegionSeg.ofHeldIn (pcfgs (F := F)) adm (pdats m ρ) () defs₀ Variants.none L lv 6 0 (ucRefs τ sig) Reg Reg
    launch6.toP rfl (fun c => (obligation6 (V6 m ρ) c).loose) (fun _ _ => rfl) (fun _ => rfl)
    (fun c => (dat6 (V6 m ρ) c).share_full fun _ => rfl)
    (fun c => phi6_in (V6 m ρ) c) (fun c => phi6_out (V6 m ρ) c _) (fun _ => 0) (cut 6) (fun _ => iprop(emp)) (V6 m ρ)
    (fun c w => A6_eq (V6 m ρ) c w)
theorem sub6 : arrRefs (τ := τ) (pcfgs (F := F) 6).spec ⊆ ucRefs τ sig := arrRefs_sub_ucRefs _ winFacts6.arr_unscoped
theorem enter6 (c : Dev nD) : Held (V6 m ρ) c ⊢ (reg6 m ρ).pre c := by
  unfold reg6
  exact RegionSeg.ofHeldIn_pre (pcs := pcfgs (F := F)) (a := adm) (pdats := pdats m ρ) (p := 6) (D := 0) (X := Reg) (R := fun _ => iprop(emp)) (W := V6 m ρ) sub6 c
theorem leave6 (c : Dev nD) : (reg6 m ρ).post c ⊢ Held (V7 m ρ) c := by
  have h : afterRegion (pdats m ρ 6 c) (V6 m ρ c) = V7 m ρ c := rfl
  unfold Held; rw [← h]; unfold reg6
  exact RegionSeg.ofHeldIn_post sub6 c

end

/-- The program is its segments. -/
abbrev segs : List (Seg (pcfgs (F := F)) adm (pdats m ρ) () defs₀ Variants.none L lv) :=
  [.host (host0 m ρ), .region (reg0 m ρ), .region (reg1 m ρ), .region (reg2 m ρ), .region (reg3 m ρ), .region (reg4 m ρ), .region (reg5 m ρ), .region (reg6 m ρ), .host (host7 m ρ)]

theorem chains : Seg.Chains (Held (U0 m ρ)) (segs m ρ) fun c =>
    iprop(iprop(StableHlo.held (c : Thread nD τ) (ucRefs τ sig) (Vend m ρ c) ∗ Reg c) ∗ ∃ Wd, owes (c : Thread nD τ) (0 : CellTallies nD τ sig Unit) Wd) :=
  ⟨fun _ => .rfl, fun c => enter0 m ρ c, fun c => (leave0 m ρ c).trans (enter1 m ρ c), fun c => (leave1 m ρ c).trans (enter2 m ρ c), fun c => (leave2 m ρ c).trans (enter3 m ρ c), fun c => (leave3 m ρ c).trans (enter4 m ρ c), fun c => (leave4 m ρ c).trans (enter5 m ρ c), fun c => (leave5 m ρ c).trans (enter6 m ρ c), fun c => leave6 m ρ c, fun c => (by
    show Held (Vend m ρ) c ⊢ _
    iintro ⟨Hh, HO, Hr, -⟩
    isplitl [Hh Hr]
    · isplitl [Hh]; · iexact Hh
      iexact Hr
    iexact HO)⟩

theorem finish (c : Dev nD) (s' : Phys nD τ sig (Elt F)) :
    iprop(iprop(StableHlo.held (c : Thread nD τ) (ucRefs τ sig) (Vend m ρ c) ∗ Reg c) ∗ SI s')
      ⊢ |={Set.univ}=> iprop(⌜∀ b ∈ ucRefs τ sig, s'.mem.mem ((c : Dev nD), b) = Vend m ρ c b⌝ ∗ SI s') := by
  unfold StableHlo.held
  iintro ⟨⟨Hh, -⟩, HSI⟩
  ihave Hr := (pointsTo_read_all (ucRefs τ sig) (fun b => ((c : Dev nD), b)) (fun b => Vend m ρ c b) s') $$ [Hh HSI]
  · isplitl [Hh] <;> iassumption
  icases Hr with ⟨%h, HSI⟩
  imodintro
  isplitr; · ipureintro; exact h
  iexact HSI

set_option backward.isDefEq.respectTransparency.types false in
/-- The run: every unscoped buffer ends at `Vend`, every counter at zero. -/
theorem run_main : θ_run defs (onTc (τ := τ) (main (F := F))) (s₀ m ρ)
    (fun r => (∀ (c : Dev nD) (b : Ref sig .tc), (Proc.devRef .tc b : DevRef τ sig).isScoped = false →
      r.2.mem ((c : Thread nD τ).loc b) = Vend m ρ c (Proc.devRef .tc b)) ∧ r.2.sem = fun _ => 0) :=
  Pipeline.θ_run_regions_kit_sems (pcfgs (F := F)) adm (pdats m ρ) () cellOf_inj (uEmb : UEmb (UR sig nD τ) 𝕄).toEmb defs₀ Variants.none L lv m ρ main (segs m ρ)
    (fun c Q => by rw [main_segs adm (pdats m ρ) () Variants.none L lv (host0 m ρ) (host7 m ρ) (reg0 m ρ) (reg1 m ρ) (reg2 m ρ) (reg3 m ρ) (reg4 m ρ) (reg5 m ρ) (reg6 m ρ) rfl rfl c])
    (by simp only [segs, Seg.pipes_region, Seg.pipes_host, Seg.pipes_nil]; decide) (O₀ := 0)
    (hL := fun g h => if_neg h) (G := fun _ => iprop(emp)) (u₀ := initOf (Pipeline.cells (Pipeline.pin (pcfgs (F := F)) adm) cellOf_inj) (Pipeline.launchToks (Pipeline.pin (pcfgs (F := F)) adm) cellOf_inj))
    (hu₀ := by
      unfold ownU
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := Held (U0 m ρ))
    (Tₙ := fun c => iprop(StableHlo.held (c : Thread nD τ) (ucRefs τ sig) (Vend m ρ c) ∗ Reg c))
    (hch := chains m ρ)
    (hinit := by
      refine Pipeline.initEach L lv fun c => ?_
      rw [show unscopedBufs c (fun b => m ((c : Thread nD τ).loc b)) = StableHlo.held (c : Thread nD τ) (ucRefs τ sig) (U0 m ρ c) from Pipeline.unscopedBufs_held c (U0 m ρ c)]
      iintro ⟨⟨Hh, -, HO, -, Hr, -⟩, -⟩
      imodintro
      isplitl [Hh]; · iexact Hh
      isplitl [HO]; · iexists ∅; iexact HO
      isplitl [Hr]; · iexists _; iexact Hr
      iempintro)
    (QY := fun c s => ∀ b ∈ ucRefs τ sig, s.mem ((c : Dev nD), b) = Vend m ρ c b)
    (hfin := finish m ρ)
    (hQ := fun _ h hz => ⟨fun c b hb => h c _ (StableHlo.devRef_mem_ucRefs b hb), funext fun g => hz g (.inr (by revert g; decide))⟩)

end Cert.Kernel2Ideal.Mlp

end
-- ==== Proof.MlpEnd.lean ====
/-
  What the layer's buffers hold when each call is entered and at the end: the arguments as launched, a call's results as its
  proof data leave them, and no other call changes them. The frame claim follows.
-/
module

public import proofs.«01_k».proof.Proof.MlpRun

@[expose] public section

set_option maxRecDepth 16384

noncomputable section

namespace Cert.Kernel2Ideal.Mlp

open Idealize.ShloMosaic Idealize.ShloMosaic.TcCoe Idealize.ShloMosaic.Tactic Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev hostOps0_W : List (Ref sig .tc) := [main_v0, main_v1, main_v2, main_v3, main_v4, main_v5, main_v6, main_v7, main_v8]
theorem hostOps0_writes : (hostOps0 : List (HloOp τ sig (Elt F))).Forall fun op => op.writes ⊆ (hostOps0_W.map (Proc.devRef (τ := τ) .tc)).toFinset :=
  StableHlo.forall_writes_sub_of_map rfl
abbrev hostOps7_W : List (Ref sig .tc) := [main_cst, main_v16, main_v17, main_v18, main_v19, main_v20]
theorem hostOps7_writes : (hostOps7 : List (HloOp τ sig (Elt F))).Forall fun op => op.writes ⊆ (hostOps7_W.map (Proc.devRef (τ := τ) .tc)).toFinset :=
  StableHlo.forall_writes_sub_of_map rfl

theorem keepsHost0 (c : Dev nD) (b : Ref sig .tc) (h : b ∉ hostOps0_W) : V0 m ρ c (Proc.devRef .tc b) = m ((c : Thread nD τ).loc b) :=
  StableHlo.after_of_writes_sub hostOps0 _ hostOps0_writes h
theorem keepsHost7 (c : Dev nD) (b : Ref sig .tc) (h : b ∉ hostOps7_W) : Vend m ρ c (Proc.devRef .tc b) = V7 m ρ c (Proc.devRef .tc b) :=
  StableHlo.after_of_writes_sub hostOps7 _ hostOps7_writes h
theorem keeps0 (c : Dev nD) (b : Ref sig .tc) (h : ∀ w, Pipeline.arrRef spec0 w = b → (cfg0.win w).isOut = false) :
    V1 m ρ c (Proc.devRef .tc b) = V0 m ρ c (Proc.devRef .tc b) :=
  Pipeline.afterRegion_keeps (dat0 (V0 m ρ) c) (V0 m ρ c) winFacts0.arr_inj (A0_eq (V0 m ρ) c) b h
theorem keeps1 (c : Dev nD) (b : Ref sig .tc) (h : ∀ w, Pipeline.arrRef spec1 w = b → (cfg1.win w).isOut = false) :
    V2 m ρ c (Proc.devRef .tc b) = V1 m ρ c (Proc.devRef .tc b) :=
  Pipeline.afterRegion_keeps (dat1 (V1 m ρ) c) (V1 m ρ c) winFacts1.arr_inj (A1_eq (V1 m ρ) c) b h
theorem keeps2 (c : Dev nD) (b : Ref sig .tc) (h : ∀ w, Pipeline.arrRef spec2 w = b → (cfg2.win w).isOut = false) :
    V3 m ρ c (Proc.devRef .tc b) = V2 m ρ c (Proc.devRef .tc b) :=
  Pipeline.afterRegion_keeps (dat2 (V2 m ρ) c) (V2 m ρ c) winFacts2.arr_inj (A2_eq (V2 m ρ) c) b h
theorem keeps3 (c : Dev nD) (b : Ref sig .tc) (h : ∀ w, Pipeline.arrRef spec3 w = b → (cfg3.win w).isOut = false) :
    V4 m ρ c (Proc.devRef .tc b) = V3 m ρ c (Proc.devRef .tc b) :=
  Pipeline.afterRegion_keeps (dat3 (V3 m ρ) c) (V3 m ρ c) winFacts3.arr_inj (A3_eq (V3 m ρ) c) b h
theorem keeps4 (c : Dev nD) (b : Ref sig .tc) (h : ∀ w, Pipeline.arrRef spec4 w = b → (cfg4.win w).isOut = false) :
    V5 m ρ c (Proc.devRef .tc b) = V4 m ρ c (Proc.devRef .tc b) :=
  Pipeline.afterRegion_keeps (dat4 (V4 m ρ) c) (V4 m ρ c) winFacts4.arr_inj (A4_eq (V4 m ρ) c) b h
theorem keeps5 (c : Dev nD) (b : Ref sig .tc) (h : ∀ w, Pipeline.arrRef spec5 w = b → (cfg5.win w).isOut = false) :
    V6 m ρ c (Proc.devRef .tc b) = V5 m ρ c (Proc.devRef .tc b) :=
  Pipeline.afterRegion_keeps (dat5 (V5 m ρ) c) (V5 m ρ c) winFacts5.arr_inj (A5_eq (V5 m ρ) c) b h
theorem keeps6 (c : Dev nD) (b : Ref sig .tc) (h : ∀ w, Pipeline.arrRef spec6 w = b → (cfg6.win w).isOut = false) :
    V7 m ρ c (Proc.devRef .tc b) = V6 m ρ c (Proc.devRef .tc b) :=
  Pipeline.afterRegion_keeps (dat6 (V6 m ρ) c) (V6 m ρ c) winFacts6.arr_inj (A6_eq (V6 m ρ) c) b h

/-! What each call reads. -/
theorem V1_v9_1 (c : Dev nD) : V1 m ρ c (Proc.devRef .tc main_v9_1) = (dat0 (V0 m ρ) c).arrAt 3 cfg0.N :=
  Pipeline.afterRegion_arr (dat0 (V0 m ρ) c) (V0 m ρ c) winFacts0.arr_inj 3
theorem V1_v6 (c : Dev nD) : V1 m ρ c (Proc.devRef .tc main_v6) = V0 m ρ c (Proc.devRef .tc main_v6) :=
  (keeps0 m ρ c main_v6 (by decide)).trans <| rfl
theorem V1_arg0 (c : Dev nD) : V1 m ρ c (Proc.devRef .tc main_arg0) = m ((c : Thread nD τ).loc main_arg0) :=
  (keeps0 m ρ c main_arg0 (by decide)).trans <| keepsHost0 m ρ c main_arg0 (by decide)
theorem V1_v7 (c : Dev nD) : V1 m ρ c (Proc.devRef .tc main_v7) = V0 m ρ c (Proc.devRef .tc main_v7) :=
  (keeps0 m ρ c main_v7 (by decide)).trans <| rfl
theorem V1_v8 (c : Dev nD) : V1 m ρ c (Proc.devRef .tc main_v8) = V0 m ρ c (Proc.devRef .tc main_v8) :=
  (keeps0 m ρ c main_v8 (by decide)).trans <| rfl
theorem V2_arg0 (c : Dev nD) : V2 m ρ c (Proc.devRef .tc main_arg0) = m ((c : Thread nD τ).loc main_arg0) :=
  (keeps1 m ρ c main_arg0 (by decide)).trans <| (keeps0 m ρ c main_arg0 (by decide)).trans <| keepsHost0 m ρ c main_arg0 (by decide)
theorem V2_v10_0 (c : Dev nD) : V2 m ρ c (Proc.devRef .tc main_v10_0) = (dat1 (V1 m ρ) c).arrAt 5 cfg1.N :=
  Pipeline.afterRegion_arr (dat1 (V1 m ρ) c) (V1 m ρ c) winFacts1.arr_inj 5
theorem V2_v7 (c : Dev nD) : V2 m ρ c (Proc.devRef .tc main_v7) = V0 m ρ c (Proc.devRef .tc main_v7) :=
  (keeps1 m ρ c main_v7 (by decide)).trans <| (keeps0 m ρ c main_v7 (by decide)).trans <| rfl
theorem V2_arg5 (c : Dev nD) : V2 m ρ c (Proc.devRef .tc main_arg5) = m ((c : Thread nD τ).loc main_arg5) :=
  (keeps1 m ρ c main_arg5 (by decide)).trans <| (keeps0 m ρ c main_arg5 (by decide)).trans <| keepsHost0 m ρ c main_arg5 (by decide)
theorem V3_v11_1 (c : Dev nD) : V3 m ρ c (Proc.devRef .tc main_v11_1) = (dat2 (V2 m ρ) c).arrAt 6 cfg2.N :=
  Pipeline.afterRegion_arr (dat2 (V2 m ρ) c) (V2 m ρ c) winFacts2.arr_inj 6
theorem V3_v6 (c : Dev nD) : V3 m ρ c (Proc.devRef .tc main_v6) = V0 m ρ c (Proc.devRef .tc main_v6) :=
  (keeps2 m ρ c main_v6 (by decide)).trans <| (keeps1 m ρ c main_v6 (by decide)).trans <| (keeps0 m ρ c main_v6 (by decide)).trans <| rfl
theorem V3_v9_0 (c : Dev nD) : V3 m ρ c (Proc.devRef .tc main_v9_0) = (dat0 (V0 m ρ) c).arrAt 2 cfg0.N :=
  (keeps2 m ρ c main_v9_0 (by decide)).trans <| (keeps1 m ρ c main_v9_0 (by decide)).trans <| Pipeline.afterRegion_arr (dat0 (V0 m ρ) c) (V0 m ρ c) winFacts0.arr_inj 2
theorem V4_v9_1 (c : Dev nD) : V4 m ρ c (Proc.devRef .tc main_v9_1) = (dat0 (V0 m ρ) c).arrAt 3 cfg0.N :=
  (keeps3 m ρ c main_v9_1 (by decide)).trans <| (keeps2 m ρ c main_v9_1 (by decide)).trans <| (keeps1 m ρ c main_v9_1 (by decide)).trans <| Pipeline.afterRegion_arr (dat0 (V0 m ρ) c) (V0 m ρ c) winFacts0.arr_inj 3
theorem V4_v11_1 (c : Dev nD) : V4 m ρ c (Proc.devRef .tc main_v11_1) = (dat2 (V2 m ρ) c).arrAt 6 cfg2.N :=
  (keeps3 m ρ c main_v11_1 (by decide)).trans <| Pipeline.afterRegion_arr (dat2 (V2 m ρ) c) (V2 m ρ c) winFacts2.arr_inj 6
theorem V5_v12 (c : Dev nD) : V5 m ρ c (Proc.devRef .tc main_v12) = (dat3 (V3 m ρ) c).arrAt 3 cfg3.N :=
  (keeps4 m ρ c main_v12 (by decide)).trans <| Pipeline.afterRegion_arr (dat3 (V3 m ρ) c) (V3 m ρ c) winFacts3.arr_inj 3
theorem V5_v4 (c : Dev nD) : V5 m ρ c (Proc.devRef .tc main_v4) = V0 m ρ c (Proc.devRef .tc main_v4) :=
  (keeps4 m ρ c main_v4 (by decide)).trans <| (keeps3 m ρ c main_v4 (by decide)).trans <| (keeps2 m ρ c main_v4 (by decide)).trans <| (keeps1 m ρ c main_v4 (by decide)).trans <| (keeps0 m ρ c main_v4 (by decide)).trans <| rfl
theorem V6_v0 (c : Dev nD) : V6 m ρ c (Proc.devRef .tc main_v0) = V0 m ρ c (Proc.devRef .tc main_v0) :=
  (keeps5 m ρ c main_v0 (by decide)).trans <| (keeps4 m ρ c main_v0 (by decide)).trans <| (keeps3 m ρ c main_v0 (by decide)).trans <| (keeps2 m ρ c main_v0 (by decide)).trans <| (keeps1 m ρ c main_v0 (by decide)).trans <| (keeps0 m ρ c main_v0 (by decide)).trans <| rfl
theorem V6_v12 (c : Dev nD) : V6 m ρ c (Proc.devRef .tc main_v12) = (dat3 (V3 m ρ) c).arrAt 3 cfg3.N :=
  (keeps5 m ρ c main_v12 (by decide)).trans <| (keeps4 m ρ c main_v12 (by decide)).trans <| Pipeline.afterRegion_arr (dat3 (V3 m ρ) c) (V3 m ρ c) winFacts3.arr_inj 3

/-! What the operations after the calls read. -/
theorem V7_v14 (c : Dev nD) : V7 m ρ c (Proc.devRef .tc main_v14) = (dat5 (V5 m ρ) c).arrAt 2 cfg5.N :=
  (keeps6 m ρ c main_v14 (by decide)).trans <| Pipeline.afterRegion_arr (dat5 (V5 m ρ) c) (V5 m ρ c) winFacts5.arr_inj 2
theorem V7_v11_0 (c : Dev nD) : V7 m ρ c (Proc.devRef .tc main_v11_0) = (dat2 (V2 m ρ) c).arrAt 5 cfg2.N :=
  (keeps6 m ρ c main_v11_0 (by decide)).trans <| (keeps5 m ρ c main_v11_0 (by decide)).trans <| (keeps4 m ρ c main_v11_0 (by decide)).trans <| (keeps3 m ρ c main_v11_0 (by decide)).trans <| Pipeline.afterRegion_arr (dat2 (V2 m ρ) c) (V2 m ρ c) winFacts2.arr_inj 5
theorem V7_v11_2 (c : Dev nD) : V7 m ρ c (Proc.devRef .tc main_v11_2) = (dat2 (V2 m ρ) c).arrAt 7 cfg2.N :=
  (keeps6 m ρ c main_v11_2 (by decide)).trans <| (keeps5 m ρ c main_v11_2 (by decide)).trans <| (keeps4 m ρ c main_v11_2 (by decide)).trans <| (keeps3 m ρ c main_v11_2 (by decide)).trans <| Pipeline.afterRegion_arr (dat2 (V2 m ρ) c) (V2 m ρ c) winFacts2.arr_inj 7
theorem V7_v11_3 (c : Dev nD) : V7 m ρ c (Proc.devRef .tc main_v11_3) = (dat2 (V2 m ρ) c).arrAt 8 cfg2.N :=
  (keeps6 m ρ c main_v11_3 (by decide)).trans <| (keeps5 m ρ c main_v11_3 (by decide)).trans <| (keeps4 m ρ c main_v11_3 (by decide)).trans <| (keeps3 m ρ c main_v11_3 (by decide)).trans <| Pipeline.afterRegion_arr (dat2 (V2 m ρ) c) (V2 m ρ c) winFacts2.arr_inj 8
theorem V7_v15 (c : Dev nD) : V7 m ρ c (Proc.devRef .tc main_v15) = (dat6 (V6 m ρ) c).arrAt 2 cfg6.N :=
  Pipeline.afterRegion_arr (dat6 (V6 m ρ) c) (V6 m ρ c) winFacts6.arr_inj 2
theorem V7_v13 (c : Dev nD) : V7 m ρ c (Proc.devRef .tc main_v13) = (dat4 (V4 m ρ) c).arrAt 2 cfg4.N :=
  (keeps6 m ρ c main_v13 (by decide)).trans <| (keeps5 m ρ c main_v13 (by decide)).trans <| Pipeline.afterRegion_arr (dat4 (V4 m ρ) c) (V4 m ρ c) winFacts4.arr_inj 2
theorem V7_v10_1 (c : Dev nD) : V7 m ρ c (Proc.devRef .tc main_v10_1) = (dat1 (V1 m ρ) c).arrAt 6 cfg1.N :=
  (keeps6 m ρ c main_v10_1 (by decide)).trans <| (keeps5 m ρ c main_v10_1 (by decide)).trans <| (keeps4 m ρ c main_v10_1 (by decide)).trans <| (keeps3 m ρ c main_v10_1 (by decide)).trans <| (keeps2 m ρ c main_v10_1 (by decide)).trans <| Pipeline.afterRegion_arr (dat1 (V1 m ρ) c) (V1 m ρ c) winFacts1.arr_inj 6
theorem V7_arg0 (c : Dev nD) : V7 m ρ c (Proc.devRef .tc main_arg0) = m ((c : Thread nD τ).loc main_arg0) :=
  (keeps6 m ρ c main_arg0 (by decide)).trans <| (keeps5 m ρ c main_arg0 (by decide)).trans <| (keeps4 m ρ c main_arg0 (by decide)).trans <| (keeps3 m ρ c main_arg0 (by decide)).trans <| (keeps2 m ρ c main_arg0 (by decide)).trans <| (keeps1 m ρ c main_arg0 (by decide)).trans <| (keeps0 m ρ c main_arg0 (by decide)).trans <| keepsHost0 m ρ c main_arg0 (by decide)
theorem V7_arg1 (c : Dev nD) : V7 m ρ c (Proc.devRef .tc main_arg1) = m ((c : Thread nD τ).loc main_arg1) :=
  (keeps6 m ρ c main_arg1 (by decide)).trans <| (keeps5 m ρ c main_arg1 (by decide)).trans <| (keeps4 m ρ c main_arg1 (by decide)).trans <| (keeps3 m ρ c main_arg1 (by decide)).trans <| (keeps2 m ρ c main_arg1 (by decide)).trans <| (keeps1 m ρ c main_arg1 (by decide)).trans <| (keeps0 m ρ c main_arg1 (by decide)).trans <| keepsHost0 m ρ c main_arg1 (by decide)
theorem V7_arg2 (c : Dev nD) : V7 m ρ c (Proc.devRef .tc main_arg2) = m ((c : Thread nD τ).loc main_arg2) :=
  (keeps6 m ρ c main_arg2 (by decide)).trans <| (keeps5 m ρ c main_arg2 (by decide)).trans <| (keeps4 m ρ c main_arg2 (by decide)).trans <| (keeps3 m ρ c main_arg2 (by decide)).trans <| (keeps2 m ρ c main_arg2 (by decide)).trans <| (keeps1 m ρ c main_arg2 (by decide)).trans <| (keeps0 m ρ c main_arg2 (by decide)).trans <| keepsHost0 m ρ c main_arg2 (by decide)
theorem V7_arg3 (c : Dev nD) : V7 m ρ c (Proc.devRef .tc main_arg3) = m ((c : Thread nD τ).loc main_arg3) :=
  (keeps6 m ρ c main_arg3 (by decide)).trans <| (keeps5 m ρ c main_arg3 (by decide)).trans <| (keeps4 m ρ c main_arg3 (by decide)).trans <| (keeps3 m ρ c main_arg3 (by decide)).trans <| (keeps2 m ρ c main_arg3 (by decide)).trans <| (keeps1 m ρ c main_arg3 (by decide)).trans <| (keeps0 m ρ c main_arg3 (by decide)).trans <| keepsHost0 m ρ c main_arg3 (by decide)
theorem V7_arg4 (c : Dev nD) : V7 m ρ c (Proc.devRef .tc main_arg4) = m ((c : Thread nD τ).loc main_arg4) :=
  (keeps6 m ρ c main_arg4 (by decide)).trans <| (keeps5 m ρ c main_arg4 (by decide)).trans <| (keeps4 m ρ c main_arg4 (by decide)).trans <| (keeps3 m ρ c main_arg4 (by decide)).trans <| (keeps2 m ρ c main_arg4 (by decide)).trans <| (keeps1 m ρ c main_arg4 (by decide)).trans <| (keeps0 m ρ c main_arg4 (by decide)).trans <| keepsHost0 m ρ c main_arg4 (by decide)
theorem V7_arg5 (c : Dev nD) : V7 m ρ c (Proc.devRef .tc main_arg5) = m ((c : Thread nD τ).loc main_arg5) :=
  (keeps6 m ρ c main_arg5 (by decide)).trans <| (keeps5 m ρ c main_arg5 (by decide)).trans <| (keeps4 m ρ c main_arg5 (by decide)).trans <| (keeps3 m ρ c main_arg5 (by decide)).trans <| (keeps2 m ρ c main_arg5 (by decide)).trans <| (keeps1 m ρ c main_arg5 (by decide)).trans <| (keeps0 m ρ c main_arg5 (by decide)).trans <| keepsHost0 m ρ c main_arg5 (by decide)

/-- The arguments end as launched and every counter at zero. -/
theorem frame_any : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c =>
    ⟨(h.1 c main_arg0 rfl).trans ((keepsHost7 m ρ c main_arg0 (by decide)).trans (V7_arg0 m ρ c)),
      (h.1 c main_arg1 rfl).trans ((keepsHost7 m ρ c main_arg1 (by decide)).trans (V7_arg1 m ρ c)),
      (h.1 c main_arg2 rfl).trans ((keepsHost7 m ρ c main_arg2 (by decide)).trans (V7_arg2 m ρ c)),
      (h.1 c main_arg3 rfl).trans ((keepsHost7 m ρ c main_arg3 (by decide)).trans (V7_arg3 m ρ c)),
      (h.1 c main_arg4 rfl).trans ((keepsHost7 m ρ c main_arg4 (by decide)).trans (V7_arg4 m ρ c)),
      (h.1 c main_arg5 rfl).trans ((keepsHost7 m ρ c main_arg5 (by decide)).trans (V7_arg5 m ρ c))⟩, h.2⟩) (run_main m ρ)

end Cert.Kernel2Ideal.Mlp

end
-- ==== Proof.Printed2.lean ====
/-
  The layer's program as printed for the bit-level floats and as printed for the ideal ones are one program, so the frame of the
  first follows from the run of the second, which is stated over any float values.
-/
module

public import proofs.«01_k».proof.Proof.Gen.Kernel2
public import proofs.«01_k».proof.Proof.MlpEnd

@[expose] public section

set_option maxHeartbeats 4000000

noncomputable section

namespace Cert.Printed2

open Idealize.ShloMosaic Idealize.SL.Sem

variable {F : FTy → Type} [FloatOps F]

theorem body0 (a0 a1 a2 a3 a4 a5 a6 a7 a8 a9 a10) :
    @Cert.Kernel2Ideal.cc0_L3_mlp1 F _ Cert.Kernel2Ideal.Gen.facts a0 a1 a2 a3 a4 a5 a6 a7 a8 a9 a10
      = @Cert.Kernel2.cc0_L3_mlp1 F _ Cert.Kernel2.Gen.facts a0 a1 a2 a3 a4 a5 a6 a7 a8 a9 a10 := (rfl)

theorem body1 (a0 a1 a2 a3 a4 a5 a6 a7 a8 a9 a10 a11 a12 a13 a14 a15 a16 a17 a18) :
    @Cert.Kernel2Ideal.cc1_L3_mlp2 F _ Cert.Kernel2Ideal.Gen.facts a0 a1 a2 a3 a4 a5 a6 a7 a8 a9 a10 a11 a12 a13 a14 a15 a16 a17 a18
      = @Cert.Kernel2.cc1_L3_mlp2 F _ Cert.Kernel2.Gen.facts a0 a1 a2 a3 a4 a5 a6 a7 a8 a9 a10 a11 a12 a13 a14 a15 a16 a17 a18 := (rfl)

theorem body2 (a0 a1 a2 a3 a4 a5 a6 a7 a8 a9 a10 a11 a12 a13 a14 a15 a16 a17 a18) :
    @Cert.Kernel2Ideal.cc2_L3_dln2 F _ Cert.Kernel2Ideal.Gen.facts a0 a1 a2 a3 a4 a5 a6 a7 a8 a9 a10 a11 a12 a13 a14 a15 a16 a17 a18
      = @Cert.Kernel2.cc2_L3_dln2 F _ Cert.Kernel2.Gen.facts a0 a1 a2 a3 a4 a5 a6 a7 a8 a9 a10 a11 a12 a13 a14 a15 a16 a17 a18 := (rfl)

theorem body3 (a0 a1 a2 a3 a4 a5 a6 a7 a8 a9 a10) :
    @Cert.Kernel2Ideal.cc3_L3_dmlp2 F _ Cert.Kernel2Ideal.Gen.facts a0 a1 a2 a3 a4 a5 a6 a7 a8 a9 a10
      = @Cert.Kernel2.cc3_L3_dmlp2 F _ Cert.Kernel2.Gen.facts a0 a1 a2 a3 a4 a5 a6 a7 a8 a9 a10 := (rfl)

theorem body4 (a0 a1 a2 a3 a4 a5 a6 a7 a8) :
    @Cert.Kernel2Ideal.cc4_L3_dw2 F _ Cert.Kernel2Ideal.Gen.facts a0 a1 a2 a3 a4 a5 a6 a7 a8
      = @Cert.Kernel2.cc4_L3_dw2 F _ Cert.Kernel2.Gen.facts a0 a1 a2 a3 a4 a5 a6 a7 a8 := (rfl)

theorem body5 (a0 a1 a2 a3 a4 a5 a6 a7 a8) :
    @Cert.Kernel2Ideal.cc5_L3_dmlp1 F _ Cert.Kernel2Ideal.Gen.facts a0 a1 a2 a3 a4 a5 a6 a7 a8
      = @Cert.Kernel2.cc5_L3_dmlp1 F _ Cert.Kernel2.Gen.facts a0 a1 a2 a3 a4 a5 a6 a7 a8 := (rfl)

theorem body6 (a0 a1 a2 a3 a4 a5 a6 a7 a8) :
    @Cert.Kernel2Ideal.cc6_L3_dw1 F _ Cert.Kernel2Ideal.Gen.facts a0 a1 a2 a3 a4 a5 a6 a7 a8
      = @Cert.Kernel2.cc6_L3_dw1 F _ Cert.Kernel2.Gen.facts a0 a1 a2 a3 a4 a5 a6 a7 a8 := (rfl)

theorem defs₀ : Cert.Kernel2Ideal.defs₀ (F := F) = Cert.Kernel2.defs₀ (F := F) := by
  unfold Cert.Kernel2Ideal.defs₀ Cert.Kernel2.defs₀
  refine congrArg (Defs.onTc (nD := Cert.Kernel2.nD) (τ := Cert.Kernel2.τ) (sig := Cert.Kernel2.sig)) ?_
  funext l x
  match l, x with
  | ⟨0, _⟩, (t, s) => exact body0 ..
  | ⟨1, _⟩, (t, s) => exact body1 ..
  | ⟨2, _⟩, (t, s) => exact body2 ..
  | ⟨3, _⟩, (t, s) => exact body3 ..
  | ⟨4, _⟩, (t, s) => exact body4 ..
  | ⟨5, _⟩, (t, s) => exact body5 ..
  | ⟨6, _⟩, (t, s) => exact body6 ..

theorem defs : Cert.Kernel2Ideal.defs (F := F) = Cert.Kernel2.defs (F := F) :=
  congrArg (Pipeline.defs (Cert.Kernel2Ideal.pcfgs (F := F))) defs₀

/-- A run under one program's definitions is a run under the other's. -/
theorem run_of {D : Defs Cert.Kernel2Ideal.nD Cert.Kernel2Ideal.τ Cert.Kernel2Ideal.sig (Elt F) _} (hD : Cert.Kernel2Ideal.defs (F := F) = D)
    {P s Q} (h : θ_run (Cert.Kernel2Ideal.defs (F := F)) P s Q) : θ_run D P s Q := hD ▸ h

theorem frame (m : (ℓ : Loc Cert.Kernel2.nD Cert.Kernel2.τ Cert.Kernel2.sig) → Buf (Elt F) ℓ) (ρ : Dev Cert.Kernel2.nD → PrngReg) :
    θ_run (Cert.Kernel2.defs (F := F)) (onTc (τ := Cert.Kernel2.τ) (Cert.Kernel2.main (F := F))) ⟨m, fun _ => 0, ρ⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0) :=
  run_of defs (Cert.Kernel2Ideal.Mlp.frame_any (F := F) m ρ)

end Cert.Printed2

end
-- ==== Proof.MlpMath.lean ====
/-
  The layer over the extended reals, as plain functions of its arguments: the products of the squared-relu mixer, the norm of the
  residual sum, and the gradients of both; and a product's sum taken block by block.
-/
module

public import Idealize.ShloMosaic.PureOps.Ideal.Laws
public import Mathlib.Algebra.BigOperators.Fin

@[expose] public section

noncomputable section

namespace Cert.Layer

open Idealize.ShloMosaic

/-! ### Sums block by block -/

/-- Position `j` of an axis of extent `K`, positions counted round. -/
def pos (K : ℕ) [NeZero K] (j : ℕ) : Fin K := ⟨j % K, Nat.mod_lt _ (Nat.pos_of_ne_zero (NeZero.ne K))⟩

theorem pos_val {K : ℕ} [NeZero K] (k : Fin K) : pos K k.val = k := Fin.ext (Nat.mod_eq_of_lt k.isLt)

/-- The first `n` terms of the sum of `a`. -/
def upTo {K : ℕ} [NeZero K] (a : Fin K → EReal) (n : ℕ) : EReal := ∑ j ∈ Finset.range n, a (pos K j)

/-- One more block of `b` terms. -/
theorem upTo_block {K b : ℕ} [NeZero K] (a : Fin K → EReal) (s : ℕ) (x : Fin b → EReal) (hx : ∀ k, x k = a (pos K (s + k.val))) :
    upTo a s + ∑ k, x k = upTo a (s + b) := by
  unfold upTo
  rw [Finset.sum_range_add, Finset.sum_congr rfl (fun k _ => hx k), Finset.sum_range (fun k => a (pos K (s + k)))]

/-- All the terms. -/
theorem upTo_full {K : ℕ} [NeZero K] (a : Fin K → EReal) : upTo a K = ∑ k, a k := by
  unfold upTo
  rw [Finset.sum_range]
  exact Finset.sum_congr rfl (fun k _ => by rw [pos_val])

/-! ### The layer -/

/-- The scale of the residual, the norm's width, its floor, and the two factors of its gradient. -/
abbrev cα : EReal := Ideal.ofBits .f32 0x3FD744FD#32
abbrev cN : EReal := Ideal.ofBits .f32 0x44800000#32
abbrev cE : EReal := Ideal.ofBits .f32 0x3727C5AC#32
abbrev cH : EReal := Ideal.ofBits .f32 0xBF000000#32
abbrev c2 : EReal := Ideal.ofBits .f32 0x40000000#32

/-- A matrix product. -/
def mul {l m n : ℕ} (A : Fin l → Fin m → EReal) (B : Fin m → Fin n → EReal) (i : Fin l) (j : Fin n) : EReal := ∑ k, A i k * B k j
/-- The product of a matrix with another's transpose. -/
def mulT {l m n : ℕ} (A : Fin l → Fin m → EReal) (B : Fin n → Fin m → EReal) (i : Fin l) (j : Fin n) : EReal := ∑ k, A i k * B j k
/-- The product of a matrix's transpose with another. -/
def tmul {l m n : ℕ} (A : Fin m → Fin l → EReal) (B : Fin m → Fin n → EReal) (i : Fin l) (j : Fin n) : EReal := ∑ k, A k i * B k j

/-- The squared relu. -/
def sq {m n : ℕ} (A : Fin m → Fin n → EReal) (i : Fin m) (j : Fin n) : EReal := max (A i j) 0 * max (A i j) 0

/-- The residual sum. -/
def resid {m n : ℕ} (X Y : Fin m → Fin n → EReal) (i : Fin m) (j : Fin n) : EReal := cα * X i j + Y i j

/-- A row's mean, the square deviation with its floor, and its inverse root. -/
def mean {n : ℕ} (p : Fin n → EReal) : EReal := Ideal.div (∑ e, p e) cN
def dev {n : ℕ} (p : Fin n → EReal) : EReal := Ideal.div (∑ e, (p e - mean p) * (p e - mean p)) cN + cE
def invRoot {n : ℕ} (p : Fin n → EReal) : EReal := Ideal.rsqrt (dev p)

/-- A row normed, and scaled and shifted. -/
def normed {n : ℕ} (p : Fin n → EReal) (j : Fin n) : EReal := (p j - mean p) * invRoot p
def lnorm {n : ℕ} (p g b : Fin n → EReal) (j : Fin n) : EReal := normed p j * g j + b j

/-- The gradient at the square deviation, from a row and its cotangent. -/
def ddev {n : ℕ} (p g d : Fin n → EReal) : EReal := Ideal.div ((∑ e, (p e - mean p) * (d e * g e)) * (cH * Ideal.div (invRoot p) (dev p))) cN

/-- The gradient at a row of the norm's operand. -/
def dnorm {n : ℕ} (p g d : Fin n → EReal) (j : Fin n) : EReal :=
  d j * g j * invRoot p + ddev p g d * (c2 * (p j - mean p))
    + Ideal.div ((∑ e, -(d e * g e * invRoot p)) + ∑ e, -(ddev p g d * (c2 * (p e - mean p)))) cN

/-- The gradients at the norm's scales and shifts. -/
def dscale {m n : ℕ} (P D : Fin m → Fin n → EReal) (j : Fin n) : EReal := ∑ t, normed (P t) j * D t j
def dshift {m n : ℕ} (D : Fin m → Fin n → EReal) (j : Fin n) : EReal := ∑ t, D t j

/-- The gradient through the squared relu. -/
def dsq {m n : ℕ} (A R : Fin m → Fin n → EReal) (i : Fin m) (j : Fin n) : EReal := R i j * (c2 * max (A i j) 0)

end Cert.Layer

end
-- ==== Proof.MlpLayer.lean ====
/-
  The layer as functions of its matrices: the forward pass, and the gradient at each of its arguments.
-/
module

public import proofs.«01_k».proof.Proof.MlpMath

@[expose] public section

noncomputable section

namespace Cert.Layer

variable (X : Fin 4096 → Fin 1024 → EReal) (W1 : Fin 1024 → Fin 4096 → EReal) (W2 : Fin 4096 → Fin 1024 → EReal)
  (g b : Fin 1024 → EReal) (D : Fin 4096 → Fin 1024 → EReal)

/-- The first product, and the hidden row. -/
abbrev first : Fin 4096 → Fin 4096 → EReal := mul X W1
abbrev hidden : Fin 4096 → Fin 4096 → EReal := sq (first X W1)
/-- The residual sum the norm is taken of. -/
abbrev summed : Fin 4096 → Fin 1024 → EReal := resid X (mul (hidden X W1) W2)
/-- The layer's result. -/
def layer (i : Fin 4096) (j : Fin 1024) : EReal := lnorm (summed X W1 W2 i) g b j
/-- The gradients at the residual sum and at the first product. -/
def gradSum (i : Fin 4096) (j : Fin 1024) : EReal := dnorm (summed X W1 W2 i) g (D i) j
abbrev gradFirst : Fin 4096 → Fin 4096 → EReal := dsq (first X W1) (mulT (gradSum X W1 W2 g D) W2)
/-- The gradients at the rows, the two weights, and the norm's scale and shift. -/
def gradRows (i : Fin 4096) (j : Fin 1024) : EReal := mulT (gradFirst X W1 W2 g D) W1 i j + cα * gradSum X W1 W2 g D i j
abbrev gradW1 : Fin 1024 → Fin 4096 → EReal := tmul X (gradFirst X W1 W2 g D)
abbrev gradW2 : Fin 4096 → Fin 1024 → EReal := tmul (hidden X W1) (gradSum X W1 W2 g D)
abbrev gradScale : Fin 1024 → EReal := dscale (summed X W1 W2) D
abbrev gradShift : Fin 1024 → EReal := dshift D

end Cert.Layer

end
-- ==== Proof.MlpPay.lean ====
/-
  What the layer's bodies compute over the extended reals, element by element: a block product added to the accumulator, the
  squared relu and its gradient, the norm of a row and its gradient, the parameters' partial sums.
-/
module

public import proofs.«01_k».proof.Proof.MlpMath
public import proofs.«01_k».proof.Proof.Mlp2
public import proofs.«01_k».proof.Proof.Mlp6
public import Idealize.ShloMosaic.Lib.ValueIdx
public import Idealize.ShloMosaic.Lib.Pointwise

@[expose] public section

noncomputable section

namespace Cert.Kernel2Ideal.Mlp

open Idealize.ShloMosaic Idealize.ShloMosaic.TcCoe Cert.Kernel2Ideal.Gen Cert.Layer

/-! ### The accumulators -/

theorem zero0 (i : S2048x512.Idx) : k0_pay1 (F := Ideal) i = 0 := by unfold k0_pay1; pointwise
theorem zero1 (i : S1024x1024.Idx) : k1_pay1 (F := Ideal) i = 0 := by unfold k1_pay1; pointwise
theorem zero3 (i : S2048x512.Idx) : k3_pay1 (F := Ideal) i = 0 := by unfold k3_pay1; pointwise
theorem zero4 (i : S2048x1024.Idx) : k4_pay1 (F := Ideal) i = 0 := by unfold k4_pay1; pointwise
theorem zero5 (i : S2048x1024.Idx) : k5_pay1 (F := Ideal) i = 0 := by unfold k5_pay1; pointwise
theorem zero6 (i : S1024x2048.Idx) : k6_pay1 (F := Ideal) i = 0 := by unfold k6_pay1; pointwise

theorem step0 (a : FVec Ideal S2048x512 .f32) (x : FVec Ideal S2048x1024 .bf16) (y : FVec Ideal S1x1x1024x512 .bf16) (R : Fin 2048) (l : Fin 512) :
    k0_pay2 a x y (ix2 R l) = a (ix2 R l) + ∑ k : Fin 1024, (show EReal from x (ix2 R k)) * y (ix4 0 0 k l) := by
  unfold k0_pay2
  pointwise
  first | done | rfl
theorem step1 (a : FVec Ideal S1024x1024 .f32) (x : FVec Ideal S1024x1024 .bf16) (y : FVec Ideal S1x1024x1024 .bf16) (R l : Fin 1024) :
    k1_pay2 a x y (ix2 R l) = a (ix2 R l) + ∑ k : Fin 1024, (show EReal from x (ix2 R k)) * y (ix3 0 k l) := by
  unfold k1_pay2
  pointwise
  first | done | rfl
theorem step3 (a : FVec Ideal S2048x512 .f32) (x : FVec Ideal S2048x1024 .bf16) (y : FVec Ideal S1x512x1024 .bf16) (R : Fin 2048) (l : Fin 512) :
    k3_pay2 a x y (ix2 R l) = a (ix2 R l) + ∑ k : Fin 1024, (show EReal from x (ix2 R k)) * y (ix3 0 l k) := by
  unfold k3_pay2
  pointwise
  first | done | rfl
theorem step4 (a : FVec Ideal S2048x1024 .f32) (x : FVec Ideal S512x2048 .bf16) (y : FVec Ideal S512x1024 .bf16) (R : Fin 2048) (l : Fin 1024) :
    k4_pay2 a x y (ix2 R l) = a (ix2 R l) + ∑ k : Fin 512, (show EReal from x (ix2 k R)) * y (ix2 k l) := by
  unfold k4_pay2
  pointwise
  first | done | rfl
theorem step5 (a : FVec Ideal S2048x1024 .f32) (x : FVec Ideal S2048x512 .bf16) (y : FVec Ideal S1x1x1024x512 .bf16) (R : Fin 2048) (l : Fin 1024) :
    k5_pay2 a x y (ix2 R l) = a (ix2 R l) + ∑ k : Fin 512, (show EReal from x (ix2 R k)) * y (ix4 0 0 l k) := by
  unfold k5_pay2
  pointwise
  first | done | rfl
theorem step6 (a : FVec Ideal S1024x2048 .f32) (x : FVec Ideal S512x1024 .bf16) (y : FVec Ideal S512x2048 .bf16) (R : Fin 1024) (l : Fin 2048) :
    k6_pay2 a x y (ix2 R l) = a (ix2 R l) + ∑ k : Fin 512, (show EReal from x (ix2 k R)) * y (ix2 k l) := by
  unfold k6_pay2
  pointwise
  first | done | rfl

/-! ### What is written from them -/

theorem write0 (a : FVec Ideal S2048x512 .f32) (R : Fin 2048) (l : Fin 512) : (show EReal from k0_pay3 (F := Ideal) a (ix2 R l)) = a (ix2 R l) := by
  unfold k0_pay3; pointwise
theorem square0 (a : FVec Ideal S2048x512 .f32) (R : Fin 2048) (l : Fin 512) :
    (show EReal from k0_pay4 (F := Ideal) a (ix2 R l)) = max (a (ix2 R l)) 0 * max (a (ix2 R l)) 0 := by
  unfold k0_pay4; pointwise
theorem write3 (a : FVec Ideal S2048x512 .f32) (x : FVec Ideal S2048x512 .bf16) (R : Fin 2048) (l : Fin 512) :
    (show EReal from k3_pay3 (F := Ideal) a x (ix2 R l)) = a (ix2 R l) * (c2 * max (show EReal from x (ix2 R l)) 0) := by
  unfold k3_pay3; pointwise
theorem write4 (a : FVec Ideal S2048x1024 .f32) (R : Fin 2048) (l : Fin 1024) : (show EReal from k4_pay3 (F := Ideal) a (ix2 R l)) = a (ix2 R l) := by
  unfold k4_pay3; pointwise

theorem write6 (a : FVec Ideal S1024x2048 .f32) (q : Fin 4) (R : Fin 1024) (l : Fin 512) :
    (show EReal from slabs (F := Ideal) a (ix3 q R l)) = a (ix2 R (pos 2048 (512 * q.val + l.val))) := by
  have h3 : (show EReal from k6_pay6 (F := Ideal) a (ix3 0 R l)) = a (ix2 R (⟨1536 + l.val, by have := l.isLt; omega⟩ : Fin 2048)) := by unfold k6_pay6; pointwise
  have h2 : (show EReal from k6_pay5 (F := Ideal) a (ix3 0 R l)) = a (ix2 R (⟨1024 + l.val, by have := l.isLt; omega⟩ : Fin 2048)) := by unfold k6_pay5; pointwise
  have h1 : (show EReal from k6_pay4 (F := Ideal) a (ix3 0 R l)) = a (ix2 R (⟨512 + l.val, by have := l.isLt; omega⟩ : Fin 2048)) := by unfold k6_pay4; pointwise
  have h0 : (show EReal from k6_pay3 (F := Ideal) a (ix3 0 R l)) = a (ix2 R (⟨l.val, by have := l.isLt; omega⟩ : Fin 2048)) := by unfold k6_pay3; pointwise
  have hl := l.isLt
  match q with
  | ⟨0, _⟩ => exact h0.trans (congrArg (fun k => a (ix2 R k)) (Fin.ext (show l.val = (512 * 0 + l.val) % 2048 by omega)))
  | ⟨1, _⟩ => exact h1.trans (congrArg (fun k => a (ix2 R k)) (Fin.ext (show 512 + l.val = (512 * 1 + l.val) % 2048 by omega)))
  | ⟨2, _⟩ => exact h2.trans (congrArg (fun k => a (ix2 R k)) (Fin.ext (show 1024 + l.val = (512 * 2 + l.val) % 2048 by omega)))
  | ⟨3, _⟩ => exact h3.trans (congrArg (fun k => a (ix2 R k)) (Fin.ext (show 1536 + l.val = (512 * 3 + l.val) % 2048 by omega)))

/-! ### The norm -/

theorem norm1 (a x : FVec Ideal S1024x1024 .f32) (g b : FVec Ideal S1x1024 .f32) (R l : Fin 1024) :
    k1_pay3 (F := Ideal) a x g b (ix2 R l) = lnorm (fun e => cα * x (ix2 R e) + a (ix2 R e)) (fun e => g (ix2 0 e)) (fun e => b (ix2 0 e)) l := by
  unfold k1_pay3 lnorm normed invRoot dev mean
  pointwise

theorem resid2 (x y : FVec Ideal S512x1024 .f32) (R : Fin 512) (l : Fin 1024) :
    k2_pay3 (F := Ideal) x y (ix2 R l) = cα * x (ix2 R l) + y (ix2 R l) := by
  unfold k2_pay3; pointwise
theorem mean2 (x y : FVec Ideal S512x1024 .f32) (R : Fin 512) :
    k2_pay4 (F := Ideal) x y (ix2 R 0) = mean (fun e => cα * x (ix2 R e) + y (ix2 R e)) := by
  unfold k2_pay4 k2_pay3 mean; pointwise
theorem dev2 (x y : FVec Ideal S512x1024 .f32) (R : Fin 512) :
    k2_pay8 (F := Ideal) x y (ix2 R 0) = dev (fun e => cα * x (ix2 R e) + y (ix2 R e)) := by
  unfold k2_pay8 k2_pay5 k2_pay4 k2_pay3 dev mean; pointwise
theorem centred2 (x y : FVec Ideal S512x1024 .f32) (R : Fin 512) (l : Fin 1024) :
    k2_pay7 (F := Ideal) x y (ix2 R l) = cα * x (ix2 R l) + y (ix2 R l) - mean (fun e => cα * x (ix2 R e) + y (ix2 R e)) := by
  unfold k2_pay7; pointwise
  first | done | rw [resid2, mean2]
theorem twice2 (x y : FVec Ideal S512x1024 .f32) (R : Fin 512) (l : Fin 1024) :
    k2_pay6 (F := Ideal) x y (ix2 R l) = c2 * (cα * x (ix2 R l) + y (ix2 R l) - mean (fun e => cα * x (ix2 R e) + y (ix2 R e))) := by
  unfold k2_pay6 k2_pay5; pointwise
  first | done | rw [resid2, mean2]
theorem inv2 (x y : FVec Ideal S512x1024 .f32) (R : Fin 512) :
    k2_pay9 (F := Ideal) x y (ix2 R 0) = invRoot (fun e => cα * x (ix2 R e) + y (ix2 R e)) := by
  unfold k2_pay9 invRoot; pointwise
  first | done | rw [dev2]
theorem root2 (x y : FVec Ideal S512x1024 .f32) (R : Fin 512) :
    k2_pay10 (F := Ideal) x y (ix2 R 0) = cH * Ideal.div (invRoot (fun e => cα * x (ix2 R e) + y (ix2 R e))) (dev (fun e => cα * x (ix2 R e) + y (ix2 R e))) := by
  unfold k2_pay10 invRoot; pointwise
  rw [inv2, dev2]; rfl
theorem ct2 (g : FVec Ideal S1x1024 .f32) (d : FVec Ideal S512x1024 .f32) (R : Fin 512) (l : Fin 1024) :
    k2_pay14 (F := Ideal) g d (ix2 R l) = d (ix2 R l) * g (ix2 0 l) := by
  unfold k2_pay14 k2_pay11; pointwise
theorem cct2 (x y : FVec Ideal S512x1024 .f32) (g : FVec Ideal S1x1024 .f32) (d : FVec Ideal S512x1024 .f32) (R : Fin 512) (l : Fin 1024) :
    k2_pay15 (F := Ideal) x y g d (ix2 R l) = (cα * x (ix2 R l) + y (ix2 R l) - mean (fun e => cα * x (ix2 R e) + y (ix2 R e))) * (d (ix2 R l) * g (ix2 0 l)) := by
  unfold k2_pay15; pointwise
  rw [centred2, ct2]

theorem grad2 (v17 v39 v40 : FVec Ideal S512x1024 .f32) (v26 v29 : FVec Ideal S512x1 .f32) (R : Fin 512) (l : Fin 1024) :
    k2_pay16 (F := Ideal) v17 v26 v29 v39 v40 (ix2 R l)
      = v39 (ix2 R l) * v26 (ix2 R 0) + Ideal.div ((∑ e, v40 (ix2 R e)) * v29 (ix2 R 0)) cN * v17 (ix2 R l)
        + Ideal.div ((∑ e, -(v39 (ix2 R e) * v26 (ix2 R 0))) + ∑ e, -(Ideal.div ((∑ e, v40 (ix2 R e)) * v29 (ix2 R 0)) cN * v17 (ix2 R e))) cN := by
  unfold k2_pay16
  pointwise
  simp only [Finset.univ_unique, Fin.default_eq_zero, Finset.sum_singleton, zero_sub]

theorem dnorm2 (x y : FVec Ideal S512x1024 .f32) (g : FVec Ideal S1x1024 .f32) (d : FVec Ideal S512x1024 .f32) (R : Fin 512) (l : Fin 1024) :
    dyRows (F := Ideal) x y g d (ix2 R l) = dnorm (fun e => cα * x (ix2 R e) + y (ix2 R e)) (fun e => g (ix2 0 e)) (fun e => d (ix2 R e)) l := by
  unfold dyRows
  rw [grad2]
  simp only [ct2, cct2, twice2, inv2, root2]
  rfl

theorem dnormb2 (x y : FVec Ideal S512x1024 .f32) (g : FVec Ideal S1x1024 .f32) (d : FVec Ideal S512x1024 .f32) (R : Fin 512) (l : Fin 1024) :
    (show EReal from dybRows (F := Ideal) x y g d (ix2 R l)) = dnorm (fun e => cα * x (ix2 R e) + y (ix2 R e)) (fun e => g (ix2 0 e)) (fun e => d (ix2 R e)) l :=
  dnorm2 x y g d R l

/-! ### The parameters' partial sums -/

theorem scale2 (x y d : FVec Ideal S512x1024 .f32) (l : Fin 1024) :
    k2_pay13 (F := Ideal) x y d (ix2 0 l) = ∑ k : Fin 512, normed (fun e => cα * x (ix2 k e) + y (ix2 k e)) l * d (ix2 k l) := by
  have h : k2_pay13 (F := Ideal) x y d (ix2 0 l) = ∑ k : Fin 512, k2_pay7 (F := Ideal) x y (ix2 k l) * k2_pay9 (F := Ideal) x y (ix2 k 0) * d (ix2 k l) := by
    unfold k2_pay13 k2_pay11; pointwise
  rw [h]
  exact Finset.sum_congr rfl fun k _ => by rw [centred2, inv2]; rfl
theorem shift2 (d : FVec Ideal S512x1024 .f32) (l : Fin 1024) : k2_pay12 (F := Ideal) d (ix2 0 l) = ∑ k : Fin 512, d (ix2 k l) := by
  unfold k2_pay12; pointwise
theorem add19 (p a : FVec Ideal S1x1024 .f32) (l : Fin 1024) : k2_pay19 (F := Ideal) p a (ix2 0 l) = a (ix2 0 l) + p (ix2 0 l) := by
  unfold k2_pay19; pointwise
theorem add2 (p a : FVec Ideal S1x1024 .f32) (l : Fin 1024) : k2_pay2 (F := Ideal) p a (ix2 0 l) = a (ix2 0 l) + p (ix2 0 l) := by
  unfold k2_pay2; pointwise
theorem zero18 (i : S1x1024.Idx) : k2_pay18 (F := Ideal) i = 0 := by unfold k2_pay18; pointwise
theorem zero2 (i : S1x1024.Idx) : k2_pay1 (F := Ideal) i = 0 := by unfold k2_pay1; pointwise

end Cert.Kernel2Ideal.Mlp

end
-- ==== Proof.MlpBlocks.lean ====
/-
  The arrays the layer's calls read, as a call finds them, and a block's element by its coordinates.
-/
module

public import proofs.«01_k».proof.Proof.MlpPay
public import Idealize.ShloMosaic.Lib.Pipeline.ValueKit

@[expose] public section

noncomputable section

namespace Cert.Kernel2Ideal.Mlp

open Idealize.ShloMosaic Idealize.ShloMosaic.TcCoe Cert.Kernel2Ideal.Gen Cert.Layer
open Idealize.ShloMosaic.StableHlo
open Idealize.SL.Sem

variable (W : Dev nD → Valuation τ sig (Elt Ideal))

abbrev w_v0 (c : Dev nD) : FVec Ideal S4096x1024 .bf16 := W c (Proc.devRef .tc main_v0)
abbrev w_v4 (c : Dev nD) : FVec Ideal S8x1x1024x512 .bf16 := W c (Proc.devRef .tc main_v4)
abbrev w_v6 (c : Dev nD) : FVec Ideal S1x4096x1024 .bf16 := W c (Proc.devRef .tc main_v6)
abbrev w_arg0 (c : Dev nD) : FVec Ideal S4096x1024 .f32 := W c (Proc.devRef .tc main_arg0)
abbrev w_v7 (c : Dev nD) : FVec Ideal S1x1024 .f32 := W c (Proc.devRef .tc main_v7)
abbrev w_v8 (c : Dev nD) : FVec Ideal S1x1024 .f32 := W c (Proc.devRef .tc main_v8)
abbrev w_arg5 (c : Dev nD) : FVec Ideal S4096x1024 .f32 := W c (Proc.devRef .tc main_arg5)
abbrev w_v9_0 (c : Dev nD) : FVec Ideal S4096x4096 .bf16 := W c (Proc.devRef .tc main_v9_0)
abbrev w_v9_1 (c : Dev nD) : FVec Ideal S4096x4096 .bf16 := W c (Proc.devRef .tc main_v9_1)
abbrev w_v10_0 (c : Dev nD) : FVec Ideal S4096x1024 .f32 := W c (Proc.devRef .tc main_v10_0)
abbrev w_v11_1 (c : Dev nD) : FVec Ideal S4096x1024 .bf16 := W c (Proc.devRef .tc main_v11_1)
abbrev w_v12 (c : Dev nD) : FVec Ideal S4096x4096 .bf16 := W c (Proc.devRef .tc main_v12)
theorem block_2048x512 (y : S2048x512.Idx) : ∃ (R : Fin 2048) (l : Fin 512), y = ix2 R l := ⟨y 0, y 1, (ix2_eta y).symm⟩
theorem block_1024x1024 (y : S1024x1024.Idx) : ∃ (R : Fin 1024) (l : Fin 1024), y = ix2 R l := ⟨y 0, y 1, (ix2_eta y).symm⟩
theorem block_2048x1024 (y : S2048x1024.Idx) : ∃ (R : Fin 2048) (l : Fin 1024), y = ix2 R l := ⟨y 0, y 1, (ix2_eta y).symm⟩
theorem block_512x1024 (y : S512x1024.Idx) : ∃ (R : Fin 512) (l : Fin 1024), y = ix2 R l := ⟨y 0, y 1, (ix2_eta y).symm⟩
theorem block_1x1024 (y : S1x1024.Idx) : ∃ (R : Fin 1) (l : Fin 1024), y = ix2 R l := ⟨y 0, y 1, (ix2_eta y).symm⟩
theorem block_4x1024x512 (y : S4x1024x512.Idx) : ∃ (q : Fin 4) (R : Fin 1024) (l : Fin 512), y = ix3 q R l := ⟨y 0, y 1, y 2, (ix3_eta y).symm⟩

end Cert.Kernel2Ideal.Mlp

end
-- ==== Proof.MlpVal0.lean ====
/-
  The layer's first call: the product of the rows with the first weight, and its squared relu.
-/
module

public import proofs.«01_k».proof.Proof.MlpBlocks
public import proofs.«01_k».proof.Proof.Mlp0
public import Idealize.ShloMosaic.Lib.Pipeline.ValueKit

@[expose] public section

noncomputable section

namespace Cert.Kernel2Ideal.Mlp

open Idealize.ShloMosaic Idealize.ShloMosaic.TcCoe Cert.Kernel2Ideal.Gen Cert.Layer
open Idealize.ShloMosaic.StableHlo
open Idealize.SL.Sem

variable (W : Dev nD → Valuation τ sig (Elt Ideal))

theorem lt0 (t : Fin cfg0.N) : t.val < 16 := Nat.lt_of_lt_of_eq t.isLt (show cfg0.N = 16 from N_0)

theorem at0_0 : ∀ t : Fin cfg0.N, (cfg0.win 0).index t 0 = t.val / 8 ∧ (cfg0.win 0).index t 1 = 0 := by decide +kernel
theorem blk0_0 (c : Dev nD) (t : Fin cfg0.N) (R : Fin 2048) (k : Fin 1024) : iblk0 W c 0 t (ix2 R k) = w_v0 W c (ix2 (pos 4096 (2048 * (t.val / 8) + R.val)) k) := by
  have ht := lt0 t
  have e0 := (at0_0 t).1
  have e1 := (at0_0 t).2
  blk_ext [iblk0, e0, e1]
  · show t.val / 8 * 2048 + R.val = (2048 * (t.val / 8) + R.val) % 4096; have := R.isLt; omega

theorem at0_1 : ∀ t : Fin cfg0.N, (cfg0.win 1).index t 0 = t.val % 8 ∧ (cfg0.win 1).index t 1 = 0 ∧ (cfg0.win 1).index t 2 = 0 ∧ (cfg0.win 1).index t 3 = 0 := by decide +kernel
theorem blk0_1 (c : Dev nD) (t : Fin cfg0.N) (k : Fin 1024) (l : Fin 512) : iblk0 W c 1 t (ix4 0 0 k l) = w_v4 W c (ix4 (pos 8 (t.val % 8)) 0 k l) := by
  have ht := lt0 t
  have e0 := (at0_1 t).1
  have e1 := (at0_1 t).2.1
  have e2 := (at0_1 t).2.2.1
  have e3 := (at0_1 t).2.2.2
  blk_ext [iblk0, e0, e1, e2, e3]
  · show t.val % 8 + 0 = (t.val % 8) % 8; omega

theorem at0_2 : ∀ t : Fin cfg0.N, (cfg0.win 2).index t 0 = t.val / 8 ∧ (cfg0.win 2).index t 1 = t.val % 8 := by decide +kernel
theorem place0_2 (t : Fin cfg0.N) (R : Fin 2048) (l : Fin 512) : ((cfg0.win 2).blk t).view.emb (ix2 R l) = ix2 (pos 4096 (2048 * (t.val / 8) + R.val)) (pos 4096 (512 * (t.val % 8) + l.val)) := by
  have ht := lt0 t
  have e0 := (at0_2 t).1
  have e1 := (at0_2 t).2
  blk_ext [e0, e1]
  · show t.val / 8 * 2048 + R.val = (2048 * (t.val / 8) + R.val) % 4096; have := R.isLt; omega
  · show t.val % 8 * 512 + l.val = (512 * (t.val % 8) + l.val) % 4096; have := l.isLt; omega

theorem at0_3 : ∀ t : Fin cfg0.N, (cfg0.win 3).index t 0 = t.val / 8 ∧ (cfg0.win 3).index t 1 = t.val % 8 := by decide +kernel
theorem place0_3 (t : Fin cfg0.N) (R : Fin 2048) (l : Fin 512) : ((cfg0.win 3).blk t).view.emb (ix2 R l) = ix2 (pos 4096 (2048 * (t.val / 8) + R.val)) (pos 4096 (512 * (t.val % 8) + l.val)) := by
  have ht := lt0 t
  have e0 := (at0_3 t).1
  have e1 := (at0_3 t).2
  blk_ext [e0, e1]
  · show t.val / 8 * 2048 + R.val = (2048 * (t.val / 8) + R.val) % 4096; have := R.isLt; omega
  · show t.val % 8 * 512 + l.val = (512 * (t.val % 8) + l.val) % 4096; have := l.isLt; omega

/-- One point adds one block of the product's sum. -/
theorem more0 (c : Dev nD) {X : Fin 4096 → Fin 1024 → EReal} {W1 : Fin 1024 → Fin 4096 → EReal} (hX : ∀ r e, w_v0 W c (ix2 r e) = X r e) (h4 : ∀ (q : ℕ) (e : Fin 1024) (k : Fin 512), q < 8 → w_v4 W c (ix4 (pos 8 q) 0 e k) = W1 e (pos 4096 (512 * q + k.val))) (n : ℕ) (hn : n < cfg0.N) (R : Fin 2048) (l : Fin 512)
    (hs : start0 W c n (ix2 R l) = upTo (fun k : Fin 1024 => X (pos 4096 (2048 * (n / 8) + R.val)) k * W1 k (pos 4096 (512 * (n % 8) + l.val))) (1024 * (n % 1))) :
    scr0 W c (n + 1) (ix2 R l) = upTo (fun k : Fin 1024 => X (pos 4096 (2048 * (n / 8) + R.val)) k * W1 k (pos 4096 (512 * (n % 8) + l.val))) (1024 * (n % 1 + 1)) := by
  rw [scr0_succ, step0, hs, show pt0 n = (⟨n, hn⟩ : Fin cfg0.N) from pt0_val ⟨n, hn⟩]
  refine (upTo_block _ _ _ fun k => ?_).trans (by rw [Nat.mul_succ])
  rw [blk0_0, blk0_1]
  have hk : (pos 1024 (1024 * (n % 1) + k.val) : Fin 1024) = k := by rw [Nat.mod_one, Nat.mul_zero, Nat.zero_add, pos_val]
  rw [hk]
  exact congrArg₂ (· * ·) (hX _ _) (h4 _ _ _ (Nat.mod_lt _ (by decide)))

/-- The accumulator after point `n`: the part of the product summed so far. -/
theorem acc0 (c : Dev nD) {X : Fin 4096 → Fin 1024 → EReal} {W1 : Fin 1024 → Fin 4096 → EReal} (hX : ∀ r e, w_v0 W c (ix2 r e) = X r e) (h4 : ∀ (q : ℕ) (e : Fin 1024) (k : Fin 512), q < 8 → w_v4 W c (ix4 (pos 8 q) 0 e k) = W1 e (pos 4096 (512 * q + k.val))) : ∀ (n : ℕ) (hn : n < cfg0.N) (R : Fin 2048) (l : Fin 512),
    scr0 W c (n + 1) (ix2 R l) = upTo (fun k : Fin 1024 => X (pos 4096 (2048 * (n / 8) + R.val)) k * W1 k (pos 4096 (512 * (n % 8) + l.val))) (1024 * (n % 1 + 1)) := by
  intro n
  induction n with
  | zero => exact fun hn R l => more0 W c hX h4 0 hn R l (zero0 (ix2 R l))
  | succ n ih =>
    intro hn R l
    refine more0 W c hX h4 (n + 1) hn R l ?_
    unfold start0
    by_cases h0 : (n + 1) % 1 = 0
    · rw [if_pos h0, h0]; exact zero0 (ix2 R l)
    · rw [if_neg h0, ih (Nat.lt_of_succ_lt hn) R l]
      have e1 : n % 1 + 1 = (n + 1) % 1 := by omega
      omega

/-- The accumulator at a point that writes: the whole product. -/
theorem full0 (c : Dev nD) {X : Fin 4096 → Fin 1024 → EReal} {W1 : Fin 1024 → Fin 4096 → EReal} (hX : ∀ r e, w_v0 W c (ix2 r e) = X r e) (h4 : ∀ (q : ℕ) (e : Fin 1024) (k : Fin 512), q < 8 → w_v4 W c (ix4 (pos 8 q) 0 e k) = W1 e (pos 4096 (512 * q + k.val))) (t : Fin cfg0.N) (ht : t.val % 1 = 0) (R : Fin 2048) (l : Fin 512) :
    scr0 W c (t.val + 1) (ix2 R l) = mul X W1 (pos 4096 (2048 * (t.val / 8) + R.val)) (pos 4096 (512 * (t.val % 8) + l.val)) := by
  rw [acc0 W c hX h4 t.val t.isLt R l, ht]
  exact upTo_full _

theorem arr0_2 (c : Dev nD) {X : Fin 4096 → Fin 1024 → EReal} {W1 : Fin 1024 → Fin 4096 → EReal} (hX : ∀ r e, w_v0 W c (ix2 r e) = X r e) (h4 : ∀ (q : ℕ) (e : Fin 1024) (k : Fin 512), q < 8 → w_v4 W c (ix4 (pos 8 q) 0 e k) = W1 e (pos 4096 (512 * q + k.val))) : (dat0 W c).arrAt 2 cfg0.N = fun i => mul X W1 (i 0) (i 1) := by
  refine (dat0 W c).arrAt_eq_of_covers 2 _ (by decide +kernel) fun t hf y => ?_
  obtain ⟨R, l, rfl⟩ := block_2048x512 y
  have ht : t.val % 1 = 0 := Nat.mod_one _
  rw [place0_2 t R l, after0_2]
  exact (write0 _ R l).trans (full0 W c hX h4 t ht R l)

theorem arr0_3 (c : Dev nD) {X : Fin 4096 → Fin 1024 → EReal} {W1 : Fin 1024 → Fin 4096 → EReal} (hX : ∀ r e, w_v0 W c (ix2 r e) = X r e) (h4 : ∀ (q : ℕ) (e : Fin 1024) (k : Fin 512), q < 8 → w_v4 W c (ix4 (pos 8 q) 0 e k) = W1 e (pos 4096 (512 * q + k.val))) : (dat0 W c).arrAt 3 cfg0.N = fun i => sq (mul X W1) (i 0) (i 1) := by
  refine (dat0 W c).arrAt_eq_of_covers 3 _ (by decide +kernel) fun t hf y => ?_
  obtain ⟨R, l, rfl⟩ := block_2048x512 y
  have ht : t.val % 1 = 0 := Nat.mod_one _
  rw [place0_3 t R l, after0_3]
  refine (square0 _ R l).trans ?_
  rw [full0 W c hX h4 t ht R l]
  rfl

end Cert.Kernel2Ideal.Mlp

end
-- ==== Proof.MlpVal1.lean ====
/-
  The layer's second call: the product with the second weight, and the residual sum normed.
-/
module

public import proofs.«01_k».proof.Proof.MlpBlocks
public import proofs.«01_k».proof.Proof.Mlp1
public import Idealize.ShloMosaic.Lib.Pipeline.ValueKit

@[expose] public section

noncomputable section

namespace Cert.Kernel2Ideal.Mlp

open Idealize.ShloMosaic Idealize.ShloMosaic.TcCoe Cert.Kernel2Ideal.Gen Cert.Layer
open Idealize.ShloMosaic.StableHlo
open Idealize.SL.Sem

variable (W : Dev nD → Valuation τ sig (Elt Ideal))

theorem lt1 (t : Fin cfg1.N) : t.val < 16 := Nat.lt_of_lt_of_eq t.isLt (show cfg1.N = 16 from N_1)

theorem at1_0 : ∀ t : Fin cfg1.N, (cfg1.win 0).index t 0 = t.val / 4 ∧ (cfg1.win 0).index t 1 = t.val % 4 := by decide +kernel
theorem blk1_0 (c : Dev nD) (t : Fin cfg1.N) (R : Fin 1024) (k : Fin 1024) : iblk1 W c 0 t (ix2 R k) = w_v9_1 W c (ix2 (pos 4096 (1024 * (t.val / 4) + R.val)) (pos 4096 (1024 * (t.val % 4) + k.val))) := by
  have ht := lt1 t
  have e0 := (at1_0 t).1
  have e1 := (at1_0 t).2
  blk_ext [iblk1, e0, e1]
  · show t.val / 4 * 1024 + R.val = (1024 * (t.val / 4) + R.val) % 4096; have := R.isLt; omega
  · show t.val % 4 * 1024 + k.val = (1024 * (t.val % 4) + k.val) % 4096; have := k.isLt; omega

theorem at1_1 : ∀ t : Fin cfg1.N, (cfg1.win 1).index t 0 = 0 ∧ (cfg1.win 1).index t 1 = t.val % 4 ∧ (cfg1.win 1).index t 2 = 0 := by decide +kernel
theorem blk1_1 (c : Dev nD) (t : Fin cfg1.N) (k : Fin 1024) (l : Fin 1024) : iblk1 W c 1 t (ix3 0 k l) = w_v6 W c (ix3 0 (pos 4096 (1024 * (t.val % 4) + k.val)) l) := by
  have ht := lt1 t
  have e0 := (at1_1 t).1
  have e1 := (at1_1 t).2.1
  have e2 := (at1_1 t).2.2
  blk_ext [iblk1, e0, e1, e2]
  · show t.val % 4 * 1024 + k.val = (1024 * (t.val % 4) + k.val) % 4096; have := k.isLt; omega

theorem at1_2 : ∀ t : Fin cfg1.N, (cfg1.win 2).index t 0 = t.val / 4 ∧ (cfg1.win 2).index t 1 = 0 := by decide +kernel
theorem blk1_2 (c : Dev nD) (t : Fin cfg1.N) (R : Fin 1024) (l : Fin 1024) : iblk1 W c 2 t (ix2 R l) = w_arg0 W c (ix2 (pos 4096 (1024 * (t.val / 4) + R.val)) l) := by
  have ht := lt1 t
  have e0 := (at1_2 t).1
  have e1 := (at1_2 t).2
  blk_ext [iblk1, e0, e1]
  · show t.val / 4 * 1024 + R.val = (1024 * (t.val / 4) + R.val) % 4096; have := R.isLt; omega

theorem at1_3 : ∀ t : Fin cfg1.N, (cfg1.win 3).index t 0 = 0 ∧ (cfg1.win 3).index t 1 = 0 := by decide +kernel
theorem blk1_3 (c : Dev nD) (t : Fin cfg1.N) (l : Fin 1024) : iblk1 W c 3 t (ix2 0 l) = w_v7 W c (ix2 0 l) := by
  have ht := lt1 t
  have e0 := (at1_3 t).1
  have e1 := (at1_3 t).2
  blk_ext [iblk1, e0, e1]

theorem at1_4 : ∀ t : Fin cfg1.N, (cfg1.win 4).index t 0 = 0 ∧ (cfg1.win 4).index t 1 = 0 := by decide +kernel
theorem blk1_4 (c : Dev nD) (t : Fin cfg1.N) (l : Fin 1024) : iblk1 W c 4 t (ix2 0 l) = w_v8 W c (ix2 0 l) := by
  have ht := lt1 t
  have e0 := (at1_4 t).1
  have e1 := (at1_4 t).2
  blk_ext [iblk1, e0, e1]

theorem at1_5 : ∀ t : Fin cfg1.N, (cfg1.win 5).index t 0 = t.val / 4 ∧ (cfg1.win 5).index t 1 = 0 := by decide +kernel
theorem place1_5 (t : Fin cfg1.N) (R : Fin 1024) (l : Fin 1024) : ((cfg1.win 5).blk t).view.emb (ix2 R l) = ix2 (pos 4096 (1024 * (t.val / 4) + R.val)) l := by
  have ht := lt1 t
  have e0 := (at1_5 t).1
  have e1 := (at1_5 t).2
  blk_ext [e0, e1]
  · show t.val / 4 * 1024 + R.val = (1024 * (t.val / 4) + R.val) % 4096; have := R.isLt; omega

theorem at1_6 : ∀ t : Fin cfg1.N, (cfg1.win 6).index t 0 = t.val / 4 ∧ (cfg1.win 6).index t 1 = 0 := by decide +kernel
theorem place1_6 (t : Fin cfg1.N) (R : Fin 1024) (l : Fin 1024) : ((cfg1.win 6).blk t).view.emb (ix2 R l) = ix2 (pos 4096 (1024 * (t.val / 4) + R.val)) l := by
  have ht := lt1 t
  have e0 := (at1_6 t).1
  have e1 := (at1_6 t).2
  blk_ext [e0, e1]
  · show t.val / 4 * 1024 + R.val = (1024 * (t.val / 4) + R.val) % 4096; have := R.isLt; omega

/-- One point adds one block of the product's sum. -/
theorem more1 (c : Dev nD) {H : Fin 4096 → Fin 4096 → EReal} {W2 : Fin 4096 → Fin 1024 → EReal} (hH : ∀ r j, w_v9_1 W c (ix2 r j) = H r j) (h6 : ∀ j l, w_v6 W c (ix3 0 j l) = W2 j l) (n : ℕ) (hn : n < cfg1.N) (R : Fin 1024) (l : Fin 1024)
    (hs : start1 W c n (ix2 R l) = upTo (fun k : Fin 4096 => H (pos 4096 (1024 * (n / 4) + R.val)) k * W2 k l) (1024 * (n % 4))) :
    scr1 W c (n + 1) (ix2 R l) = upTo (fun k : Fin 4096 => H (pos 4096 (1024 * (n / 4) + R.val)) k * W2 k l) (1024 * (n % 4 + 1)) := by
  rw [scr1_succ, step1, hs, show pt1 n = (⟨n, hn⟩ : Fin cfg1.N) from pt1_val ⟨n, hn⟩]
  refine (upTo_block _ _ _ fun k => ?_).trans (by rw [Nat.mul_succ])
  rw [blk1_0, blk1_1]
  exact congrArg₂ (· * ·) (hH _ _) (h6 _ _)

/-- The accumulator after point `n`: the part of the product summed so far. -/
theorem acc1 (c : Dev nD) {H : Fin 4096 → Fin 4096 → EReal} {W2 : Fin 4096 → Fin 1024 → EReal} (hH : ∀ r j, w_v9_1 W c (ix2 r j) = H r j) (h6 : ∀ j l, w_v6 W c (ix3 0 j l) = W2 j l) : ∀ (n : ℕ) (hn : n < cfg1.N) (R : Fin 1024) (l : Fin 1024),
    scr1 W c (n + 1) (ix2 R l) = upTo (fun k : Fin 4096 => H (pos 4096 (1024 * (n / 4) + R.val)) k * W2 k l) (1024 * (n % 4 + 1)) := by
  intro n
  induction n with
  | zero => exact fun hn R l => more1 W c hH h6 0 hn R l (zero1 (ix2 R l))
  | succ n ih =>
    intro hn R l
    refine more1 W c hH h6 (n + 1) hn R l ?_
    unfold start1
    by_cases h0 : (n + 1) % 4 = 0
    · rw [if_pos h0, h0]; exact zero1 (ix2 R l)
    · rw [if_neg h0, ih (Nat.lt_of_succ_lt hn) R l]
      have e1 : n % 4 + 1 = (n + 1) % 4 := by omega
      have e2 : n / 4 = (n + 1) / 4 := by omega
      rw [e1, e2]

/-- The accumulator at a point that writes: the whole product. -/
theorem full1 (c : Dev nD) {H : Fin 4096 → Fin 4096 → EReal} {W2 : Fin 4096 → Fin 1024 → EReal} (hH : ∀ r j, w_v9_1 W c (ix2 r j) = H r j) (h6 : ∀ j l, w_v6 W c (ix3 0 j l) = W2 j l) (t : Fin cfg1.N) (ht : t.val % 4 = 3) (R : Fin 1024) (l : Fin 1024) :
    scr1 W c (t.val + 1) (ix2 R l) = mul H W2 (pos 4096 (1024 * (t.val / 4) + R.val)) l := by
  rw [acc1 W c hH h6 t.val t.isLt R l, ht]
  exact upTo_full _

theorem arr1_5 (c : Dev nD) {H : Fin 4096 → Fin 4096 → EReal} {W2 : Fin 4096 → Fin 1024 → EReal} (hH : ∀ r j, w_v9_1 W c (ix2 r j) = H r j) (h6 : ∀ j l, w_v6 W c (ix3 0 j l) = W2 j l) : (dat1 W c).arrAt 5 cfg1.N = fun i => mul H W2 (i 0) (i 1) := by
  refine (dat1 W c).arrAt_eq_of_covers 5 _ (by decide +kernel) fun t hf y => ?_
  obtain ⟨R, l, rfl⟩ := block_1024x1024 y
  have ht : t.val % 4 = 3 := (flush1_5 t).mp hf
  rw [place1_5 t R l, after1_5]
  exact full1 W c hH h6 t ht R l

theorem arr1_6 (c : Dev nD) {H : Fin 4096 → Fin 4096 → EReal} {W2 : Fin 4096 → Fin 1024 → EReal} {X : Fin 4096 → Fin 1024 → EReal} {g : Fin 1024 → EReal} {b : Fin 1024 → EReal} (hH : ∀ r j, w_v9_1 W c (ix2 r j) = H r j) (h6 : ∀ j l, w_v6 W c (ix3 0 j l) = W2 j l) (hX : ∀ r e, w_arg0 W c (ix2 r e) = X r e) (hg : ∀ e, w_v7 W c (ix2 0 e) = g e) (hb : ∀ e, w_v8 W c (ix2 0 e) = b e) : (dat1 W c).arrAt 6 cfg1.N = fun i => lnorm (resid X (mul H W2) (i 0)) g b (i 1) := by
  refine (dat1 W c).arrAt_eq_of_covers 6 _ (by decide +kernel) fun t hf y => ?_
  obtain ⟨R, l, rfl⟩ := block_1024x1024 y
  have ht : t.val % 4 = 3 := (flush1_6 t).mp hf
  rw [place1_6 t R l, after1_6]
  refine (norm1 _ _ _ _ R l).trans ?_
  have h1 : (fun e => cα * iblk1 W c 2 t (ix2 R e) + scr1 W c (t.val + 1) (ix2 R e)) = resid X (mul H W2) (pos 4096 (1024 * (t.val / 4) + R.val)) := funext fun e => by
    rw [blk1_2, full1 W c hH h6 t ht R e, hX]; rfl
  have h2 : (fun e => iblk1 W c 3 t (ix2 0 e)) = g := funext fun e => by rw [blk1_3]; exact hg e
  have h3 : (fun e => iblk1 W c 4 t (ix2 0 e)) = b := funext fun e => by rw [blk1_4]; exact hb e
  rw [h1, h2, h3]
  rfl

end Cert.Kernel2Ideal.Mlp

end
-- ==== Proof.MlpVal2.lean ====
/-
  The third call: the gradient through the norm, and the gradients at its scale and its shift.
-/
module

public import proofs.«01_k».proof.Proof.MlpBlocks
public import proofs.«01_k».proof.Proof.Mlp2
public import Idealize.ShloMosaic.Lib.Pipeline.ValueKit

@[expose] public section

noncomputable section

namespace Cert.Kernel2Ideal.Mlp

open Idealize.ShloMosaic Idealize.ShloMosaic.TcCoe Cert.Kernel2Ideal.Gen Cert.Layer
open Idealize.ShloMosaic.StableHlo
open Idealize.SL.Sem

variable (W : Dev nD → Valuation τ sig (Elt Ideal))

theorem lt2 (t : Fin cfg2.N) : t.val < 8 := Nat.lt_of_lt_of_eq t.isLt (show cfg2.N = 8 from N_2)

theorem at2_0 : ∀ t : Fin cfg2.N, (cfg2.win 0).index t 0 = t.val ∧ (cfg2.win 0).index t 1 = 0 := by decide +kernel
theorem blk2_0 (c : Dev nD) (t : Fin cfg2.N) (R : Fin 512) (l : Fin 1024) : iblk2 W c 0 t (ix2 R l) = w_arg0 W c (ix2 (pos 4096 (512 * (t.val) + R.val)) l) := by
  have ht := lt2 t
  have e0 := (at2_0 t).1
  have e1 := (at2_0 t).2
  blk_ext [iblk2, e0, e1]
  · show t.val * 512 + R.val = (512 * (t.val) + R.val) % 4096; have := R.isLt; omega

theorem at2_1 : ∀ t : Fin cfg2.N, (cfg2.win 1).index t 0 = t.val ∧ (cfg2.win 1).index t 1 = 0 := by decide +kernel
theorem blk2_1 (c : Dev nD) (t : Fin cfg2.N) (R : Fin 512) (l : Fin 1024) : iblk2 W c 1 t (ix2 R l) = w_v10_0 W c (ix2 (pos 4096 (512 * (t.val) + R.val)) l) := by
  have ht := lt2 t
  have e0 := (at2_1 t).1
  have e1 := (at2_1 t).2
  blk_ext [iblk2, e0, e1]
  · show t.val * 512 + R.val = (512 * (t.val) + R.val) % 4096; have := R.isLt; omega

theorem at2_2 : ∀ t : Fin cfg2.N, (cfg2.win 2).index t 0 = 0 ∧ (cfg2.win 2).index t 1 = 0 := by decide +kernel
theorem blk2_2 (c : Dev nD) (t : Fin cfg2.N) (l : Fin 1024) : iblk2 W c 2 t (ix2 0 l) = w_v7 W c (ix2 0 l) := by
  have ht := lt2 t
  have e0 := (at2_2 t).1
  have e1 := (at2_2 t).2
  blk_ext [iblk2, e0, e1]

theorem at2_4 : ∀ t : Fin cfg2.N, (cfg2.win 4).index t 0 = t.val ∧ (cfg2.win 4).index t 1 = 0 := by decide +kernel
theorem blk2_4 (c : Dev nD) (t : Fin cfg2.N) (R : Fin 512) (l : Fin 1024) : iblk2 W c 4 t (ix2 R l) = w_arg5 W c (ix2 (pos 4096 (512 * (t.val) + R.val)) l) := by
  have ht := lt2 t
  have e0 := (at2_4 t).1
  have e1 := (at2_4 t).2
  blk_ext [iblk2, e0, e1]
  · show t.val * 512 + R.val = (512 * (t.val) + R.val) % 4096; have := R.isLt; omega

theorem at2_5 : ∀ t : Fin cfg2.N, (cfg2.win 5).index t 0 = t.val ∧ (cfg2.win 5).index t 1 = 0 := by decide +kernel
theorem place2_5 (t : Fin cfg2.N) (R : Fin 512) (l : Fin 1024) : ((cfg2.win 5).blk t).view.emb (ix2 R l) = ix2 (pos 4096 (512 * (t.val) + R.val)) l := by
  have ht := lt2 t
  have e0 := (at2_5 t).1
  have e1 := (at2_5 t).2
  blk_ext [e0, e1]
  · show t.val * 512 + R.val = (512 * (t.val) + R.val) % 4096; have := R.isLt; omega

theorem at2_6 : ∀ t : Fin cfg2.N, (cfg2.win 6).index t 0 = t.val ∧ (cfg2.win 6).index t 1 = 0 := by decide +kernel
theorem place2_6 (t : Fin cfg2.N) (R : Fin 512) (l : Fin 1024) : ((cfg2.win 6).blk t).view.emb (ix2 R l) = ix2 (pos 4096 (512 * (t.val) + R.val)) l := by
  have ht := lt2 t
  have e0 := (at2_6 t).1
  have e1 := (at2_6 t).2
  blk_ext [e0, e1]
  · show t.val * 512 + R.val = (512 * (t.val) + R.val) % 4096; have := R.isLt; omega

theorem at2_7 : ∀ t : Fin cfg2.N, (cfg2.win 7).index t 0 = 0 ∧ (cfg2.win 7).index t 1 = 0 := by decide +kernel
theorem place2_7 (t : Fin cfg2.N) (l : Fin 1024) : ((cfg2.win 7).blk t).view.emb (ix2 0 l) = ix2 0 l := by
  have ht := lt2 t
  have e0 := (at2_7 t).1
  have e1 := (at2_7 t).2
  blk_ext [e0, e1]

theorem at2_8 : ∀ t : Fin cfg2.N, (cfg2.win 8).index t 0 = 0 ∧ (cfg2.win 8).index t 1 = 0 := by decide +kernel
theorem place2_8 (t : Fin cfg2.N) (l : Fin 1024) : ((cfg2.win 8).blk t).view.emb (ix2 0 l) = ix2 0 l := by
  have ht := lt2 t
  have e0 := (at2_8 t).1
  have e1 := (at2_8 t).2
  blk_ext [e0, e1]

/-- A block's rows of the residual sum, and of the cotangent. -/
theorem rows2 (c : Dev nD) {X : Fin 4096 → Fin 1024 → EReal} {Y : Fin 4096 → Fin 1024 → EReal} (hX : ∀ r e, w_arg0 W c (ix2 r e) = X r e) (hY : ∀ r e, w_v10_0 W c (ix2 r e) = Y r e) (t : Fin cfg2.N) (R : Fin 512) :
    (fun e => cα * iblk2 W c 0 t (ix2 R e) + iblk2 W c 1 t (ix2 R e)) = resid X Y (pos 4096 (512 * t.val + R.val)) := funext fun e => by
  rw [blk2_0, blk2_1, hX, hY]; rfl

theorem arr2_5 (c : Dev nD) {X : Fin 4096 → Fin 1024 → EReal} {Y : Fin 4096 → Fin 1024 → EReal} {g : Fin 1024 → EReal} {D : Fin 4096 → Fin 1024 → EReal} (hX : ∀ r e, w_arg0 W c (ix2 r e) = X r e) (hY : ∀ r e, w_v10_0 W c (ix2 r e) = Y r e) (hg : ∀ e, w_v7 W c (ix2 0 e) = g e) (hD : ∀ r e, w_arg5 W c (ix2 r e) = D r e) : (dat2 W c).arrAt 5 cfg2.N = fun i => dnorm (resid X Y (i 0)) g (D (i 0)) (i 1) := by
  refine (dat2 W c).arrAt_eq_of_covers 5 _ (by decide +kernel) fun t hf y => ?_
  obtain ⟨R, l, rfl⟩ := block_512x1024 y
  rw [place2_5 t R l, after2_5]
  refine (dnorm2 _ _ _ _ R l).trans ?_
  have h2 : (fun e => iblk2 W c 2 t (ix2 0 e)) = g := funext fun e => by rw [blk2_2]; exact hg e
  have h3 : (fun e => iblk2 W c 4 t (ix2 R e)) = D (pos 4096 (512 * t.val + R.val)) := funext fun e => by rw [blk2_4]; exact hD _ e
  rw [rows2 W c hX hY t R, h2, h3]
  rfl

theorem arr2_6 (c : Dev nD) {X : Fin 4096 → Fin 1024 → EReal} {Y : Fin 4096 → Fin 1024 → EReal} {g : Fin 1024 → EReal} {D : Fin 4096 → Fin 1024 → EReal} (hX : ∀ r e, w_arg0 W c (ix2 r e) = X r e) (hY : ∀ r e, w_v10_0 W c (ix2 r e) = Y r e) (hg : ∀ e, w_v7 W c (ix2 0 e) = g e) (hD : ∀ r e, w_arg5 W c (ix2 r e) = D r e) : (dat2 W c).arrAt 6 cfg2.N = fun i => dnorm (resid X Y (i 0)) g (D (i 0)) (i 1) := by
  refine (dat2 W c).arrAt_eq_of_covers 6 _ (by decide +kernel) fun t hf y => ?_
  obtain ⟨R, l, rfl⟩ := block_512x1024 y
  rw [place2_6 t R l, after2_6]
  refine (dnormb2 _ _ _ _ R l).trans ?_
  have h2 : (fun e => iblk2 W c 2 t (ix2 0 e)) = g := funext fun e => by rw [blk2_2]; exact hg e
  have h3 : (fun e => iblk2 W c 4 t (ix2 R e)) = D (pos 4096 (512 * t.val + R.val)) := funext fun e => by rw [blk2_4]; exact hD _ e
  rw [rows2 W c hX hY t R, h2, h3]
  rfl

/-- The scale's gradient after the first `n` blocks. -/
theorem scales2 (c : Dev nD) {X : Fin 4096 → Fin 1024 → EReal} {Y : Fin 4096 → Fin 1024 → EReal} {D : Fin 4096 → Fin 1024 → EReal} (hX : ∀ r e, w_arg0 W c (ix2 r e) = X r e) (hY : ∀ r e, w_v10_0 W c (ix2 r e) = Y r e) (hD : ∀ r e, w_arg5 W c (ix2 r e) = D r e) (l : Fin 1024) : ∀ n, n ≤ 8 →
    dgs W c n (ix2 0 l) = upTo (fun j : Fin 4096 => normed (resid X Y j) l * D j l) (512 * n) := by
  intro n
  induction n with
  | zero => exact fun _ => zero18 _
  | succ n ih =>
    intro hn
    have hN : n < cfg2.N := Nat.lt_of_lt_of_eq hn (show cfg2.N = 8 from N_2).symm
    rw [dgs_succ W c ⟨n, hN⟩, add19, scale2, ih (Nat.le_of_succ_le hn)]
    refine (upTo_block _ _ _ fun k => ?_).trans (by rw [Nat.mul_succ])
    rw [rows2 W c hX hY ⟨n, hN⟩ k, blk2_4, hD]

/-- The shift's gradient after the first `n` blocks. -/
theorem shifts2 (c : Dev nD) {D : Fin 4096 → Fin 1024 → EReal} (hD : ∀ r e, w_arg5 W c (ix2 r e) = D r e) (l : Fin 1024) : ∀ n, n ≤ 8 →
    dbs W c n (ix2 0 l) = upTo (fun j : Fin 4096 => D j l) (512 * n) := by
  intro n
  induction n with
  | zero => exact fun _ => zero2 _
  | succ n ih =>
    intro hn
    have hN : n < cfg2.N := Nat.lt_of_lt_of_eq hn (show cfg2.N = 8 from N_2).symm
    rw [dbs_succ W c ⟨n, hN⟩, add2, shift2, ih (Nat.le_of_succ_le hn)]
    refine (upTo_block _ _ _ fun k => ?_).trans (by rw [Nat.mul_succ])
    rw [blk2_4, hD]

theorem arr2_7 (c : Dev nD) {X : Fin 4096 → Fin 1024 → EReal} {Y : Fin 4096 → Fin 1024 → EReal} {D : Fin 4096 → Fin 1024 → EReal} (hX : ∀ r e, w_arg0 W c (ix2 r e) = X r e) (hY : ∀ r e, w_v10_0 W c (ix2 r e) = Y r e) (hD : ∀ r e, w_arg5 W c (ix2 r e) = D r e) : (dat2 W c).arrAt 7 cfg2.N = fun i => dscale (resid X Y) D (i 1) := by
  refine (dat2 W c).arrAt_eq_of_covers 7 _ (by decide +kernel) fun t hf y => ?_
  obtain ⟨R, l, rfl⟩ := block_1x1024 y
  obtain rfl : R = 0 := Subsingleton.elim _ _
  have h7 : t.val + 1 = 8 := by have := (flush2_7 t).mp hf; have := lt2 t; omega
  rw [place2_7 t l, after2_7, h7]
  exact (scales2 W c hX hY hD l 8 le_rfl).trans (upTo_full _)

theorem arr2_8 (c : Dev nD) {D : Fin 4096 → Fin 1024 → EReal} (hD : ∀ r e, w_arg5 W c (ix2 r e) = D r e) : (dat2 W c).arrAt 8 cfg2.N = fun i => dshift D (i 1) := by
  refine (dat2 W c).arrAt_eq_of_covers 8 _ (by decide +kernel) fun t hf y => ?_
  obtain ⟨R, l, rfl⟩ := block_1x1024 y
  obtain rfl : R = 0 := Subsingleton.elim _ _
  have h7 : t.val + 1 = 8 := by have := (flush2_8 t).mp hf; have := lt2 t; omega
  rw [place2_8 t l, after2_8, h7]
  exact (shifts2 W c hD l 8 le_rfl).trans (upTo_full _)

end Cert.Kernel2Ideal.Mlp

end
-- ==== Proof.MlpVal3.lean ====
/-
  The fourth call: the gradient at the first product, through the squared relu.
-/
module

public import proofs.«01_k».proof.Proof.MlpBlocks
public import proofs.«01_k».proof.Proof.Mlp3
public import Idealize.ShloMosaic.Lib.Pipeline.ValueKit

@[expose] public section

noncomputable section

namespace Cert.Kernel2Ideal.Mlp

open Idealize.ShloMosaic Idealize.ShloMosaic.TcCoe Cert.Kernel2Ideal.Gen Cert.Layer
open Idealize.ShloMosaic.StableHlo
open Idealize.SL.Sem

variable (W : Dev nD → Valuation τ sig (Elt Ideal))

theorem lt3 (t : Fin cfg3.N) : t.val < 16 := Nat.lt_of_lt_of_eq t.isLt (show cfg3.N = 16 from N_3)

theorem at3_0 : ∀ t : Fin cfg3.N, (cfg3.win 0).index t 0 = t.val / 8 ∧ (cfg3.win 0).index t 1 = 0 := by decide +kernel
theorem blk3_0 (c : Dev nD) (t : Fin cfg3.N) (R : Fin 2048) (k : Fin 1024) : iblk3 W c 0 t (ix2 R k) = w_v11_1 W c (ix2 (pos 4096 (2048 * (t.val / 8) + R.val)) k) := by
  have ht := lt3 t
  have e0 := (at3_0 t).1
  have e1 := (at3_0 t).2
  blk_ext [iblk3, e0, e1]
  · show t.val / 8 * 2048 + R.val = (2048 * (t.val / 8) + R.val) % 4096; have := R.isLt; omega

theorem at3_1 : ∀ t : Fin cfg3.N, (cfg3.win 1).index t 0 = 0 ∧ (cfg3.win 1).index t 1 = t.val % 8 ∧ (cfg3.win 1).index t 2 = 0 := by decide +kernel
theorem blk3_1 (c : Dev nD) (t : Fin cfg3.N) (l : Fin 512) (k : Fin 1024) : iblk3 W c 1 t (ix3 0 l k) = w_v6 W c (ix3 0 (pos 4096 (512 * (t.val % 8) + l.val)) k) := by
  have ht := lt3 t
  have e0 := (at3_1 t).1
  have e1 := (at3_1 t).2.1
  have e2 := (at3_1 t).2.2
  blk_ext [iblk3, e0, e1, e2]
  · show t.val % 8 * 512 + l.val = (512 * (t.val % 8) + l.val) % 4096; have := l.isLt; omega

theorem at3_2 : ∀ t : Fin cfg3.N, (cfg3.win 2).index t 0 = t.val / 8 ∧ (cfg3.win 2).index t 1 = t.val % 8 := by decide +kernel
theorem blk3_2 (c : Dev nD) (t : Fin cfg3.N) (R : Fin 2048) (l : Fin 512) : iblk3 W c 2 t (ix2 R l) = w_v9_0 W c (ix2 (pos 4096 (2048 * (t.val / 8) + R.val)) (pos 4096 (512 * (t.val % 8) + l.val))) := by
  have ht := lt3 t
  have e0 := (at3_2 t).1
  have e1 := (at3_2 t).2
  blk_ext [iblk3, e0, e1]
  · show t.val / 8 * 2048 + R.val = (2048 * (t.val / 8) + R.val) % 4096; have := R.isLt; omega
  · show t.val % 8 * 512 + l.val = (512 * (t.val % 8) + l.val) % 4096; have := l.isLt; omega

theorem at3_3 : ∀ t : Fin cfg3.N, (cfg3.win 3).index t 0 = t.val / 8 ∧ (cfg3.win 3).index t 1 = t.val % 8 := by decide +kernel
theorem place3_3 (t : Fin cfg3.N) (R : Fin 2048) (l : Fin 512) : ((cfg3.win 3).blk t).view.emb (ix2 R l) = ix2 (pos 4096 (2048 * (t.val / 8) + R.val)) (pos 4096 (512 * (t.val % 8) + l.val)) := by
  have ht := lt3 t
  have e0 := (at3_3 t).1
  have e1 := (at3_3 t).2
  blk_ext [e0, e1]
  · show t.val / 8 * 2048 + R.val = (2048 * (t.val / 8) + R.val) % 4096; have := R.isLt; omega
  · show t.val % 8 * 512 + l.val = (512 * (t.val % 8) + l.val) % 4096; have := l.isLt; omega

/-- One point adds one block of the product's sum. -/
theorem more3 (c : Dev nD) {P : Fin 4096 → Fin 1024 → EReal} {W2 : Fin 4096 → Fin 1024 → EReal} (hP : ∀ r e, w_v11_1 W c (ix2 r e) = P r e) (h6 : ∀ j l, w_v6 W c (ix3 0 j l) = W2 j l) (n : ℕ) (hn : n < cfg3.N) (R : Fin 2048) (l : Fin 512)
    (hs : start3 W c n (ix2 R l) = upTo (fun k : Fin 1024 => P (pos 4096 (2048 * (n / 8) + R.val)) k * W2 (pos 4096 (512 * (n % 8) + l.val)) k) (1024 * (n % 1))) :
    scr3 W c (n + 1) (ix2 R l) = upTo (fun k : Fin 1024 => P (pos 4096 (2048 * (n / 8) + R.val)) k * W2 (pos 4096 (512 * (n % 8) + l.val)) k) (1024 * (n % 1 + 1)) := by
  rw [scr3_succ, step3, hs, show pt3 n = (⟨n, hn⟩ : Fin cfg3.N) from pt3_val ⟨n, hn⟩]
  refine (upTo_block _ _ _ fun k => ?_).trans (by rw [Nat.mul_succ])
  rw [blk3_0, blk3_1]
  have hk : (pos 1024 (1024 * (n % 1) + k.val) : Fin 1024) = k := by rw [Nat.mod_one, Nat.mul_zero, Nat.zero_add, pos_val]
  rw [hk]
  exact congrArg₂ (· * ·) (hP _ _) (h6 _ _)

/-- The accumulator after point `n`: the part of the product summed so far. -/
theorem acc3 (c : Dev nD) {P : Fin 4096 → Fin 1024 → EReal} {W2 : Fin 4096 → Fin 1024 → EReal} (hP : ∀ r e, w_v11_1 W c (ix2 r e) = P r e) (h6 : ∀ j l, w_v6 W c (ix3 0 j l) = W2 j l) : ∀ (n : ℕ) (hn : n < cfg3.N) (R : Fin 2048) (l : Fin 512),
    scr3 W c (n + 1) (ix2 R l) = upTo (fun k : Fin 1024 => P (pos 4096 (2048 * (n / 8) + R.val)) k * W2 (pos 4096 (512 * (n % 8) + l.val)) k) (1024 * (n % 1 + 1)) := by
  intro n
  induction n with
  | zero => exact fun hn R l => more3 W c hP h6 0 hn R l (zero3 (ix2 R l))
  | succ n ih =>
    intro hn R l
    refine more3 W c hP h6 (n + 1) hn R l ?_
    unfold start3
    by_cases h0 : (n + 1) % 1 = 0
    · rw [if_pos h0, h0]; exact zero3 (ix2 R l)
    · rw [if_neg h0, ih (Nat.lt_of_succ_lt hn) R l]
      have e1 : n % 1 + 1 = (n + 1) % 1 := by omega
      omega

/-- The accumulator at a point that writes: the whole product. -/
theorem full3 (c : Dev nD) {P : Fin 4096 → Fin 1024 → EReal} {W2 : Fin 4096 → Fin 1024 → EReal} (hP : ∀ r e, w_v11_1 W c (ix2 r e) = P r e) (h6 : ∀ j l, w_v6 W c (ix3 0 j l) = W2 j l) (t : Fin cfg3.N) (ht : t.val % 1 = 0) (R : Fin 2048) (l : Fin 512) :
    scr3 W c (t.val + 1) (ix2 R l) = mulT P W2 (pos 4096 (2048 * (t.val / 8) + R.val)) (pos 4096 (512 * (t.val % 8) + l.val)) := by
  rw [acc3 W c hP h6 t.val t.isLt R l, ht]
  exact upTo_full _

theorem arr3_3 (c : Dev nD) {P : Fin 4096 → Fin 1024 → EReal} {W2 : Fin 4096 → Fin 1024 → EReal} {A : Fin 4096 → Fin 4096 → EReal} (hP : ∀ r e, w_v11_1 W c (ix2 r e) = P r e) (h6 : ∀ j l, w_v6 W c (ix3 0 j l) = W2 j l) (hA : ∀ r j, w_v9_0 W c (ix2 r j) = A r j) : (dat3 W c).arrAt 3 cfg3.N = fun i => dsq A (mulT P W2) (i 0) (i 1) := by
  refine (dat3 W c).arrAt_eq_of_covers 3 _ (by decide +kernel) fun t hf y => ?_
  obtain ⟨R, l, rfl⟩ := block_2048x512 y
  have ht : t.val % 1 = 0 := Nat.mod_one _
  rw [place3_3 t R l, after3_3]
  refine (write3 _ _ R l).trans ?_
  rw [full3 W c hP h6 t ht R l, blk3_2, hA]
  rfl

end Cert.Kernel2Ideal.Mlp

end
-- ==== Proof.MlpVal4.lean ====
/-
  The fifth call: the gradient at the second weight.
-/
module

public import proofs.«01_k».proof.Proof.MlpBlocks
public import proofs.«01_k».proof.Proof.Mlp4
public import Idealize.ShloMosaic.Lib.Pipeline.ValueKit

@[expose] public section

noncomputable section

namespace Cert.Kernel2Ideal.Mlp

open Idealize.ShloMosaic Idealize.ShloMosaic.TcCoe Cert.Kernel2Ideal.Gen Cert.Layer
open Idealize.ShloMosaic.StableHlo
open Idealize.SL.Sem

variable (W : Dev nD → Valuation τ sig (Elt Ideal))

theorem lt4 (t : Fin cfg4.N) : t.val < 16 := Nat.lt_of_lt_of_eq t.isLt (show cfg4.N = 16 from N_4)

theorem at4_0 : ∀ t : Fin cfg4.N, (cfg4.win 0).index t 0 = t.val % 8 ∧ (cfg4.win 0).index t 1 = t.val / 8 := by decide +kernel
theorem blk4_0 (c : Dev nD) (t : Fin cfg4.N) (k : Fin 512) (R : Fin 2048) : iblk4 W c 0 t (ix2 k R) = w_v9_1 W c (ix2 (pos 4096 (512 * (t.val % 8) + k.val)) (pos 4096 (2048 * (t.val / 8) + R.val))) := by
  have ht := lt4 t
  have e0 := (at4_0 t).1
  have e1 := (at4_0 t).2
  blk_ext [iblk4, e0, e1]
  · show t.val % 8 * 512 + k.val = (512 * (t.val % 8) + k.val) % 4096; have := k.isLt; omega
  · show t.val / 8 * 2048 + R.val = (2048 * (t.val / 8) + R.val) % 4096; have := R.isLt; omega

theorem at4_1 : ∀ t : Fin cfg4.N, (cfg4.win 1).index t 0 = t.val % 8 ∧ (cfg4.win 1).index t 1 = 0 := by decide +kernel
theorem blk4_1 (c : Dev nD) (t : Fin cfg4.N) (k : Fin 512) (l : Fin 1024) : iblk4 W c 1 t (ix2 k l) = w_v11_1 W c (ix2 (pos 4096 (512 * (t.val % 8) + k.val)) l) := by
  have ht := lt4 t
  have e0 := (at4_1 t).1
  have e1 := (at4_1 t).2
  blk_ext [iblk4, e0, e1]
  · show t.val % 8 * 512 + k.val = (512 * (t.val % 8) + k.val) % 4096; have := k.isLt; omega

theorem at4_2 : ∀ t : Fin cfg4.N, (cfg4.win 2).index t 0 = t.val / 8 ∧ (cfg4.win 2).index t 1 = 0 := by decide +kernel
theorem place4_2 (t : Fin cfg4.N) (R : Fin 2048) (l : Fin 1024) : ((cfg4.win 2).blk t).view.emb (ix2 R l) = ix2 (pos 4096 (2048 * (t.val / 8) + R.val)) l := by
  have ht := lt4 t
  have e0 := (at4_2 t).1
  have e1 := (at4_2 t).2
  blk_ext [e0, e1]
  · show t.val / 8 * 2048 + R.val = (2048 * (t.val / 8) + R.val) % 4096; have := R.isLt; omega

/-- One point adds one block of the product's sum. -/
theorem more4 (c : Dev nD) {H : Fin 4096 → Fin 4096 → EReal} {P : Fin 4096 → Fin 1024 → EReal} (hH : ∀ r j, w_v9_1 W c (ix2 r j) = H r j) (hP : ∀ r e, w_v11_1 W c (ix2 r e) = P r e) (n : ℕ) (hn : n < cfg4.N) (R : Fin 2048) (l : Fin 1024)
    (hs : start4 W c n (ix2 R l) = upTo (fun k : Fin 4096 => H k (pos 4096 (2048 * (n / 8) + R.val)) * P k l) (512 * (n % 8))) :
    scr4 W c (n + 1) (ix2 R l) = upTo (fun k : Fin 4096 => H k (pos 4096 (2048 * (n / 8) + R.val)) * P k l) (512 * (n % 8 + 1)) := by
  rw [scr4_succ, step4, hs, show pt4 n = (⟨n, hn⟩ : Fin cfg4.N) from pt4_val ⟨n, hn⟩]
  refine (upTo_block _ _ _ fun k => ?_).trans (by rw [Nat.mul_succ])
  rw [blk4_0, blk4_1]
  exact congrArg₂ (· * ·) (hH _ _) (hP _ _)

/-- The accumulator after point `n`: the part of the product summed so far. -/
theorem acc4 (c : Dev nD) {H : Fin 4096 → Fin 4096 → EReal} {P : Fin 4096 → Fin 1024 → EReal} (hH : ∀ r j, w_v9_1 W c (ix2 r j) = H r j) (hP : ∀ r e, w_v11_1 W c (ix2 r e) = P r e) : ∀ (n : ℕ) (hn : n < cfg4.N) (R : Fin 2048) (l : Fin 1024),
    scr4 W c (n + 1) (ix2 R l) = upTo (fun k : Fin 4096 => H k (pos 4096 (2048 * (n / 8) + R.val)) * P k l) (512 * (n % 8 + 1)) := by
  intro n
  induction n with
  | zero => exact fun hn R l => more4 W c hH hP 0 hn R l (zero4 (ix2 R l))
  | succ n ih =>
    intro hn R l
    refine more4 W c hH hP (n + 1) hn R l ?_
    unfold start4
    by_cases h0 : (n + 1) % 8 = 0
    · rw [if_pos h0, h0]; exact zero4 (ix2 R l)
    · rw [if_neg h0, ih (Nat.lt_of_succ_lt hn) R l]
      have e1 : n % 8 + 1 = (n + 1) % 8 := by omega
      have e2 : n / 8 = (n + 1) / 8 := by omega
      rw [e1, e2]

/-- The accumulator at a point that writes: the whole product. -/
theorem full4 (c : Dev nD) {H : Fin 4096 → Fin 4096 → EReal} {P : Fin 4096 → Fin 1024 → EReal} (hH : ∀ r j, w_v9_1 W c (ix2 r j) = H r j) (hP : ∀ r e, w_v11_1 W c (ix2 r e) = P r e) (t : Fin cfg4.N) (ht : t.val % 8 = 7) (R : Fin 2048) (l : Fin 1024) :
    scr4 W c (t.val + 1) (ix2 R l) = tmul H P (pos 4096 (2048 * (t.val / 8) + R.val)) l := by
  rw [acc4 W c hH hP t.val t.isLt R l, ht]
  exact upTo_full _

theorem arr4_2 (c : Dev nD) {H : Fin 4096 → Fin 4096 → EReal} {P : Fin 4096 → Fin 1024 → EReal} (hH : ∀ r j, w_v9_1 W c (ix2 r j) = H r j) (hP : ∀ r e, w_v11_1 W c (ix2 r e) = P r e) : (dat4 W c).arrAt 2 cfg4.N = fun i => tmul H P (i 0) (i 1) := by
  refine (dat4 W c).arrAt_eq_of_covers 2 _ (by decide +kernel) fun t hf y => ?_
  obtain ⟨R, l, rfl⟩ := block_2048x1024 y
  have ht : t.val % 8 = 7 := (flush4_2 t).mp hf
  rw [place4_2 t R l, after4_2]
  exact (write4 _ R l).trans (full4 W c hH hP t ht R l)

end Cert.Kernel2Ideal.Mlp

end
-- ==== Proof.MlpVal5.lean ====
/-
  The sixth call: the gradient at the rows, through the first product.
-/
module

public import proofs.«01_k».proof.Proof.MlpBlocks
public import proofs.«01_k».proof.Proof.Mlp5
public import Idealize.ShloMosaic.Lib.Pipeline.ValueKit

@[expose] public section

noncomputable section

namespace Cert.Kernel2Ideal.Mlp

open Idealize.ShloMosaic Idealize.ShloMosaic.TcCoe Cert.Kernel2Ideal.Gen Cert.Layer
open Idealize.ShloMosaic.StableHlo
open Idealize.SL.Sem

variable (W : Dev nD → Valuation τ sig (Elt Ideal))

theorem lt5 (t : Fin cfg5.N) : t.val < 16 := Nat.lt_of_lt_of_eq t.isLt (show cfg5.N = 16 from N_5)

theorem at5_0 : ∀ t : Fin cfg5.N, (cfg5.win 0).index t 0 = t.val / 8 ∧ (cfg5.win 0).index t 1 = t.val % 8 := by decide +kernel
theorem blk5_0 (c : Dev nD) (t : Fin cfg5.N) (R : Fin 2048) (k : Fin 512) : iblk5 W c 0 t (ix2 R k) = w_v12 W c (ix2 (pos 4096 (2048 * (t.val / 8) + R.val)) (pos 4096 (512 * (t.val % 8) + k.val))) := by
  have ht := lt5 t
  have e0 := (at5_0 t).1
  have e1 := (at5_0 t).2
  blk_ext [iblk5, e0, e1]
  · show t.val / 8 * 2048 + R.val = (2048 * (t.val / 8) + R.val) % 4096; have := R.isLt; omega
  · show t.val % 8 * 512 + k.val = (512 * (t.val % 8) + k.val) % 4096; have := k.isLt; omega

theorem at5_1 : ∀ t : Fin cfg5.N, (cfg5.win 1).index t 0 = t.val % 8 ∧ (cfg5.win 1).index t 1 = 0 ∧ (cfg5.win 1).index t 2 = 0 ∧ (cfg5.win 1).index t 3 = 0 := by decide +kernel
theorem blk5_1 (c : Dev nD) (t : Fin cfg5.N) (l : Fin 1024) (k : Fin 512) : iblk5 W c 1 t (ix4 0 0 l k) = w_v4 W c (ix4 (pos 8 (t.val % 8)) 0 l k) := by
  have ht := lt5 t
  have e0 := (at5_1 t).1
  have e1 := (at5_1 t).2.1
  have e2 := (at5_1 t).2.2.1
  have e3 := (at5_1 t).2.2.2
  blk_ext [iblk5, e0, e1, e2, e3]
  · show t.val % 8 + 0 = (t.val % 8) % 8; omega

theorem at5_2 : ∀ t : Fin cfg5.N, (cfg5.win 2).index t 0 = t.val / 8 ∧ (cfg5.win 2).index t 1 = 0 := by decide +kernel
theorem place5_2 (t : Fin cfg5.N) (R : Fin 2048) (l : Fin 1024) : ((cfg5.win 2).blk t).view.emb (ix2 R l) = ix2 (pos 4096 (2048 * (t.val / 8) + R.val)) l := by
  have ht := lt5 t
  have e0 := (at5_2 t).1
  have e1 := (at5_2 t).2
  blk_ext [e0, e1]
  · show t.val / 8 * 2048 + R.val = (2048 * (t.val / 8) + R.val) % 4096; have := R.isLt; omega

/-- One point adds one block of the product's sum. -/
theorem more5 (c : Dev nD) {U : Fin 4096 → Fin 4096 → EReal} {W1 : Fin 1024 → Fin 4096 → EReal} (hU : ∀ r j, w_v12 W c (ix2 r j) = U r j) (h4 : ∀ (q : ℕ) (e : Fin 1024) (k : Fin 512), q < 8 → w_v4 W c (ix4 (pos 8 q) 0 e k) = W1 e (pos 4096 (512 * q + k.val))) (n : ℕ) (hn : n < cfg5.N) (R : Fin 2048) (l : Fin 1024)
    (hs : start5 W c n (ix2 R l) = upTo (fun k : Fin 4096 => U (pos 4096 (2048 * (n / 8) + R.val)) k * W1 l k) (512 * (n % 8))) :
    scr5 W c (n + 1) (ix2 R l) = upTo (fun k : Fin 4096 => U (pos 4096 (2048 * (n / 8) + R.val)) k * W1 l k) (512 * (n % 8 + 1)) := by
  rw [scr5_succ, step5, hs, show pt5 n = (⟨n, hn⟩ : Fin cfg5.N) from pt5_val ⟨n, hn⟩]
  refine (upTo_block _ _ _ fun k => ?_).trans (by rw [Nat.mul_succ])
  rw [blk5_0, blk5_1]
  exact congrArg₂ (· * ·) (hU _ _) (h4 _ _ _ (Nat.mod_lt _ (by decide)))

/-- The accumulator after point `n`: the part of the product summed so far. -/
theorem acc5 (c : Dev nD) {U : Fin 4096 → Fin 4096 → EReal} {W1 : Fin 1024 → Fin 4096 → EReal} (hU : ∀ r j, w_v12 W c (ix2 r j) = U r j) (h4 : ∀ (q : ℕ) (e : Fin 1024) (k : Fin 512), q < 8 → w_v4 W c (ix4 (pos 8 q) 0 e k) = W1 e (pos 4096 (512 * q + k.val))) : ∀ (n : ℕ) (hn : n < cfg5.N) (R : Fin 2048) (l : Fin 1024),
    scr5 W c (n + 1) (ix2 R l) = upTo (fun k : Fin 4096 => U (pos 4096 (2048 * (n / 8) + R.val)) k * W1 l k) (512 * (n % 8 + 1)) := by
  intro n
  induction n with
  | zero => exact fun hn R l => more5 W c hU h4 0 hn R l (zero5 (ix2 R l))
  | succ n ih =>
    intro hn R l
    refine more5 W c hU h4 (n + 1) hn R l ?_
    unfold start5
    by_cases h0 : (n + 1) % 8 = 0
    · rw [if_pos h0, h0]; exact zero5 (ix2 R l)
    · rw [if_neg h0, ih (Nat.lt_of_succ_lt hn) R l]
      have e1 : n % 8 + 1 = (n + 1) % 8 := by omega
      have e2 : n / 8 = (n + 1) / 8 := by omega
      rw [e1, e2]

/-- The accumulator at a point that writes: the whole product. -/
theorem full5 (c : Dev nD) {U : Fin 4096 → Fin 4096 → EReal} {W1 : Fin 1024 → Fin 4096 → EReal} (hU : ∀ r j, w_v12 W c (ix2 r j) = U r j) (h4 : ∀ (q : ℕ) (e : Fin 1024) (k : Fin 512), q < 8 → w_v4 W c (ix4 (pos 8 q) 0 e k) = W1 e (pos 4096 (512 * q + k.val))) (t : Fin cfg5.N) (ht : t.val % 8 = 7) (R : Fin 2048) (l : Fin 1024) :
    scr5 W c (t.val + 1) (ix2 R l) = mulT U W1 (pos 4096 (2048 * (t.val / 8) + R.val)) l := by
  rw [acc5 W c hU h4 t.val t.isLt R l, ht]
  exact upTo_full _

theorem arr5_2 (c : Dev nD) {U : Fin 4096 → Fin 4096 → EReal} {W1 : Fin 1024 → Fin 4096 → EReal} (hU : ∀ r j, w_v12 W c (ix2 r j) = U r j) (h4 : ∀ (q : ℕ) (e : Fin 1024) (k : Fin 512), q < 8 → w_v4 W c (ix4 (pos 8 q) 0 e k) = W1 e (pos 4096 (512 * q + k.val))) : (dat5 W c).arrAt 2 cfg5.N = fun i => mulT U W1 (i 0) (i 1) := by
  refine (dat5 W c).arrAt_eq_of_covers 2 _ (by decide +kernel) fun t hf y => ?_
  obtain ⟨R, l, rfl⟩ := block_2048x1024 y
  have ht : t.val % 8 = 7 := (flush5_2 t).mp hf
  rw [place5_2 t R l, after5_2]
  exact full5 W c hU h4 t ht R l

end Cert.Kernel2Ideal.Mlp

end
-- ==== Proof.MlpVal6.lean ====
/-
  The seventh call: the gradient at the first weight, in slabs of 512 columns.
-/
module

public import proofs.«01_k».proof.Proof.MlpBlocks
public import proofs.«01_k».proof.Proof.Mlp6
public import Idealize.ShloMosaic.Lib.Pipeline.ValueKit

@[expose] public section

noncomputable section

namespace Cert.Kernel2Ideal.Mlp

open Idealize.ShloMosaic Idealize.ShloMosaic.TcCoe Cert.Kernel2Ideal.Gen Cert.Layer
open Idealize.ShloMosaic.StableHlo
open Idealize.SL.Sem

variable (W : Dev nD → Valuation τ sig (Elt Ideal))

theorem lt6 (t : Fin cfg6.N) : t.val < 16 := Nat.lt_of_lt_of_eq t.isLt (show cfg6.N = 16 from N_6)

theorem at6_0 : ∀ t : Fin cfg6.N, (cfg6.win 0).index t 0 = t.val % 8 ∧ (cfg6.win 0).index t 1 = 0 := by decide +kernel
theorem blk6_0 (c : Dev nD) (t : Fin cfg6.N) (k : Fin 512) (R : Fin 1024) : iblk6 W c 0 t (ix2 k R) = w_v0 W c (ix2 (pos 4096 (512 * (t.val % 8) + k.val)) R) := by
  have ht := lt6 t
  have e0 := (at6_0 t).1
  have e1 := (at6_0 t).2
  blk_ext [iblk6, e0, e1]
  · show t.val % 8 * 512 + k.val = (512 * (t.val % 8) + k.val) % 4096; have := k.isLt; omega

theorem at6_1 : ∀ t : Fin cfg6.N, (cfg6.win 1).index t 0 = t.val % 8 ∧ (cfg6.win 1).index t 1 = t.val / 8 := by decide +kernel
theorem blk6_1 (c : Dev nD) (t : Fin cfg6.N) (k : Fin 512) (l : Fin 2048) : iblk6 W c 1 t (ix2 k l) = w_v12 W c (ix2 (pos 4096 (512 * (t.val % 8) + k.val)) (pos 4096 (2048 * (t.val / 8) + l.val))) := by
  have ht := lt6 t
  have e0 := (at6_1 t).1
  have e1 := (at6_1 t).2
  blk_ext [iblk6, e0, e1]
  · show t.val % 8 * 512 + k.val = (512 * (t.val % 8) + k.val) % 4096; have := k.isLt; omega
  · show t.val / 8 * 2048 + l.val = (2048 * (t.val / 8) + l.val) % 4096; have := l.isLt; omega

theorem at6_2 : ∀ t : Fin cfg6.N, (cfg6.win 2).index t 0 = t.val / 8 ∧ (cfg6.win 2).index t 1 = 0 ∧ (cfg6.win 2).index t 2 = 0 := by decide +kernel
theorem place6_2 (t : Fin cfg6.N) (q : Fin 4) (R : Fin 1024) (l : Fin 512) : ((cfg6.win 2).blk t).view.emb (ix3 q R l) = ix3 (pos 8 (4 * (t.val / 8) + q.val)) R l := by
  have ht := lt6 t
  have e0 := (at6_2 t).1
  have e1 := (at6_2 t).2.1
  have e2 := (at6_2 t).2.2
  blk_ext [e0, e1, e2]
  · show t.val / 8 * 4 + q.val = (4 * (t.val / 8) + q.val) % 8; have := q.isLt; omega

/-- One point adds one block of the product's sum. -/
theorem more6 (c : Dev nD) {X : Fin 4096 → Fin 1024 → EReal} {U : Fin 4096 → Fin 4096 → EReal} (hX : ∀ r e, w_v0 W c (ix2 r e) = X r e) (hU : ∀ r j, w_v12 W c (ix2 r j) = U r j) (n : ℕ) (hn : n < cfg6.N) (R : Fin 1024) (l : Fin 2048)
    (hs : start6 W c n (ix2 R l) = upTo (fun k : Fin 4096 => X k R * U k (pos 4096 (2048 * (n / 8) + l.val))) (512 * (n % 8))) :
    scr6 W c (n + 1) (ix2 R l) = upTo (fun k : Fin 4096 => X k R * U k (pos 4096 (2048 * (n / 8) + l.val))) (512 * (n % 8 + 1)) := by
  rw [scr6_succ, step6, hs, show pt6 n = (⟨n, hn⟩ : Fin cfg6.N) from pt6_val ⟨n, hn⟩]
  refine (upTo_block _ _ _ fun k => ?_).trans (by rw [Nat.mul_succ])
  rw [blk6_0, blk6_1]
  exact congrArg₂ (· * ·) (hX _ _) (hU _ _)

/-- The accumulator after point `n`: the part of the product summed so far. -/
theorem acc6 (c : Dev nD) {X : Fin 4096 → Fin 1024 → EReal} {U : Fin 4096 → Fin 4096 → EReal} (hX : ∀ r e, w_v0 W c (ix2 r e) = X r e) (hU : ∀ r j, w_v12 W c (ix2 r j) = U r j) : ∀ (n : ℕ) (hn : n < cfg6.N) (R : Fin 1024) (l : Fin 2048),
    scr6 W c (n + 1) (ix2 R l) = upTo (fun k : Fin 4096 => X k R * U k (pos 4096 (2048 * (n / 8) + l.val))) (512 * (n % 8 + 1)) := by
  intro n
  induction n with
  | zero => exact fun hn R l => more6 W c hX hU 0 hn R l (zero6 (ix2 R l))
  | succ n ih =>
    intro hn R l
    refine more6 W c hX hU (n + 1) hn R l ?_
    unfold start6
    by_cases h0 : (n + 1) % 8 = 0
    · rw [if_pos h0, h0]; exact zero6 (ix2 R l)
    · rw [if_neg h0, ih (Nat.lt_of_succ_lt hn) R l]
      have e1 : n % 8 + 1 = (n + 1) % 8 := by omega
      have e2 : n / 8 = (n + 1) / 8 := by omega
      rw [e1, e2]

/-- The accumulator at a point that writes: the whole product. -/
theorem full6 (c : Dev nD) {X : Fin 4096 → Fin 1024 → EReal} {U : Fin 4096 → Fin 4096 → EReal} (hX : ∀ r e, w_v0 W c (ix2 r e) = X r e) (hU : ∀ r j, w_v12 W c (ix2 r j) = U r j) (t : Fin cfg6.N) (ht : t.val % 8 = 7) (R : Fin 1024) (l : Fin 2048) :
    scr6 W c (t.val + 1) (ix2 R l) = tmul X U R (pos 4096 (2048 * (t.val / 8) + l.val)) := by
  rw [acc6 W c hX hU t.val t.isLt R l, ht]
  exact upTo_full _

theorem arr6_2 (c : Dev nD) {X : Fin 4096 → Fin 1024 → EReal} {U : Fin 4096 → Fin 4096 → EReal} (hX : ∀ r e, w_v0 W c (ix2 r e) = X r e) (hU : ∀ r j, w_v12 W c (ix2 r j) = U r j) : (dat6 W c).arrAt 2 cfg6.N = fun i => tmul X U (i 1) (pos 4096 (512 * (i 0).val + (i 2).val)) := by
  refine (dat6 W c).arrAt_eq_of_covers 2 _ (by decide +kernel) fun t hf y => ?_
  obtain ⟨q, R, l, rfl⟩ := block_4x1024x512 y
  have ht : t.val % 8 = 7 := (flush6_2 t).mp hf
  rw [place6_2 t q R l, after6_2]
  refine (write6 _ q R l).trans ?_
  rw [full6 W c hX hU t ht R _]
  refine congrArg (tmul X U R) (Fin.ext ?_)
  have h8 := lt6 t
  have hq := q.isLt
  have hl := l.isLt
  show (2048 * (t.val / 8) + (512 * q.val + l.val) % 2048) % 4096 = (512 * ((4 * (t.val / 8) + q.val) % 8) + l.val) % 4096
  omega

end Cert.Kernel2Ideal.Mlp

end
-- ==== Proof.MlpChain.lean ====
/-
  The layer's program at the extended reals: each result is the layer's function of the arguments' matrices.
-/
module

public import proofs.«01_k».proof.Proof.MlpEnd
public import proofs.«01_k».proof.Proof.MlpLayer
public import proofs.«01_k».proof.Proof.MlpVal0
public import proofs.«01_k».proof.Proof.MlpVal1
public import proofs.«01_k».proof.Proof.MlpVal2
public import proofs.«01_k».proof.Proof.MlpVal3
public import proofs.«01_k».proof.Proof.MlpVal4
public import proofs.«01_k».proof.Proof.MlpVal5
public import proofs.«01_k».proof.Proof.MlpVal6

@[expose] public section

noncomputable section

namespace Cert.Kernel2Ideal.Mlp

open Idealize.ShloMosaic Idealize.ShloMosaic.TcCoe Idealize.ShloMosaic.Tactic Cert.Kernel2Ideal.Gen Cert.Layer
open Idealize.ShloMosaic.StableHlo
open Idealize.SL.Sem

/-! ### The host's operations around the calls -/

variable (Z : Valuation τ sig (Elt Ideal))

set_option maxRecDepth 100000 in
theorem host0_v0 : (after hostOps0 Z (Proc.devRef .tc main_v0) : FVec Ideal S4096x1024 .bf16)
    = truncf (F := Ideal) .bf16 (Z (Proc.devRef .tc main_arg0) : FVec Ideal S4096x1024 .f32) bitsLt_bf16_f32 := by
  after_results
set_option maxRecDepth 100000 in
theorem host0_v4 : (after hostOps0 Z (Proc.devRef .tc main_v4) : FVec Ideal S8x1x1024x512 .bf16)
    = broadcastInDim S8x1x1024x512 ![0, 2, 3] bcast_S8x1024x512_S8x1x1024x512_0_2_3
        (transpose S8x1024x512 [1, 0, 2]
          (shapeCast S1024x8x512 (truncf (F := Ideal) .bf16 (Z (Proc.devRef .tc main_arg1) : FVec Ideal S1024x4096 .f32) bitsLt_bf16_f32) shapeCasts_S1024x4096_S1024x8x512)
          transposes_S1024x8x512_S8x1024x512_1_0_2) := by
  after_results
  rfl
set_option maxRecDepth 100000 in
theorem host0_v6 : (after hostOps0 Z (Proc.devRef .tc main_v6) : FVec Ideal S1x4096x1024 .bf16)
    = broadcastInDim S1x4096x1024 ![1, 2] bcast_S4096x1024_S1x4096x1024_1_2 (truncf (F := Ideal) .bf16 (Z (Proc.devRef .tc main_arg2) : FVec Ideal S4096x1024 .f32) bitsLt_bf16_f32) := by
  after_results
set_option maxRecDepth 100000 in
theorem host0_v7 : (after hostOps0 Z (Proc.devRef .tc main_v7) : FVec Ideal S1x1024 .f32)
    = broadcastInDim S1x1024 ![1] bcast_S1024_S1x1024_1 (Z (Proc.devRef .tc main_arg3) : FVec Ideal S1024 .f32) := by
  after_results
set_option maxRecDepth 100000 in
theorem host0_v8 : (after hostOps0 Z (Proc.devRef .tc main_v8) : FVec Ideal S1x1024 .f32)
    = broadcastInDim S1x1024 ![1] bcast_S1024_S1x1024_1 (Z (Proc.devRef .tc main_arg4) : FVec Ideal S1024 .f32) := by
  after_results
set_option maxRecDepth 100000 in
theorem host7_v18 : (after hostOps7 Z (Proc.devRef .tc main_v18) : FVec Ideal S4096x1024 .f32)
    = addf (F := Ideal) (Z (Proc.devRef .tc main_v14) : FVec Ideal S4096x1024 .f32)
        (mulf (F := Ideal) (broadcastInDim S4096x1024 ![] bcast_S_S4096x1024 (constant (F := Ideal) S_ .f32 0x3FD744FD#32)) (Z (Proc.devRef .tc main_v11_0) : FVec Ideal S4096x1024 .f32)) := by
  after_results
set_option maxRecDepth 100000 in
theorem host7_v19 : (after hostOps7 Z (Proc.devRef .tc main_v19) : FVec Ideal S1024 .f32)
    = shapeCast S1024 (Z (Proc.devRef .tc main_v11_2) : FVec Ideal S1x1024 .f32) shapeCasts_S1x1024_S1024 := by
  after_results
  rfl
set_option maxRecDepth 100000 in
theorem host7_v20 : (after hostOps7 Z (Proc.devRef .tc main_v20) : FVec Ideal S1024 .f32)
    = shapeCast S1024 (Z (Proc.devRef .tc main_v11_3) : FVec Ideal S1x1024 .f32) shapeCasts_S1x1024_S1024 := by
  after_results
  rfl

variable (m : (ℓ : Loc nD τ sig) → Buf (Elt Ideal) ℓ) (ρ : Dev nD → PrngReg) (c : Dev nD)

/-- The arguments' matrices and rows. -/
abbrev gX (r : Fin 4096) (e : Fin 1024) : EReal := (m ((c : Thread nD τ).loc main_arg0) : FVec Ideal S4096x1024 .f32) (ix2 r e)
abbrev gW1 (r : Fin 1024) (e : Fin 4096) : EReal := (m ((c : Thread nD τ).loc main_arg1) : FVec Ideal S1024x4096 .f32) (ix2 r e)
abbrev gW2 (r : Fin 4096) (e : Fin 1024) : EReal := (m ((c : Thread nD τ).loc main_arg2) : FVec Ideal S4096x1024 .f32) (ix2 r e)
abbrev gg (e : Fin 1024) : EReal := (m ((c : Thread nD τ).loc main_arg3) : FVec Ideal S1024 .f32) (ix1 e)
abbrev gb (e : Fin 1024) : EReal := (m ((c : Thread nD τ).loc main_arg4) : FVec Ideal S1024 .f32) (ix1 e)
abbrev gD (r : Fin 4096) (e : Fin 1024) : EReal := (m ((c : Thread nD τ).loc main_arg5) : FVec Ideal S4096x1024 .f32) (ix2 r e)

/-! ### What the first call is entered with -/

theorem in_x (r : Fin 4096) (e : Fin 1024) : w_v0 (V0 m ρ) c (ix2 r e) = gX m c r e :=
  congrFun (host0_v0 (U0 m ρ c)) (ix2 r e)

theorem in_w1 (q : ℕ) (e : Fin 1024) (k : Fin 512) (hq : q < 8) : w_v4 (V0 m ρ) c (ix4 (pos 8 q) 0 e k) = gW1 m c e (pos 4096 (512 * q + k.val)) := by
  refine (congrFun (host0_v4 (U0 m ρ c)) _).trans ?_
  refine (broadcastInDim_apply _ _ _ _ (ix3 (pos 8 q) e k) (fun a => by match a with | ⟨0, _⟩ => rfl | ⟨1, _⟩ => rfl | ⟨2, _⟩ => rfl)).trans ?_
  refine (transpose_apply _ _ _ _ (ix3 e (pos 8 q) k) (fun a => by match a with | ⟨0, _⟩ => rfl | ⟨1, _⟩ => rfl | ⟨2, _⟩ => rfl)).trans ?_
  refine (shapeCast_apply _ _ _ (ix2 e (pos 4096 (512 * q + k.val))) ?_).trans rfl
  rw [Shape.rowMajor_val_two, Shape.rowMajor_val_three]
  have hk := k.isLt
  show e.val * 4096 + (512 * q + k.val) % 4096 = (e.val * 8 + q % 8) * 512 + k.val
  omega

theorem in_w2 (r : Fin 4096) (e : Fin 1024) : w_v6 (V0 m ρ) c (ix3 0 r e) = gW2 m c r e := by
  refine (congrFun (host0_v6 (U0 m ρ c)) _).trans ?_
  exact broadcastInDim_apply _ _ _ _ (ix2 r e) (Fin.forall_fin_two.mpr ⟨rfl, rfl⟩)

theorem in_g (e : Fin 1024) : w_v7 (V0 m ρ) c (ix2 0 e) = gg m c e := by
  refine (congrFun (host0_v7 (U0 m ρ c)) _).trans ?_
  exact broadcastInDim_apply _ _ _ _ (ix1 e) (Fin.forall_fin_one.mpr rfl)

theorem in_b (e : Fin 1024) : w_v8 (V0 m ρ) c (ix2 0 e) = gb m c e := by
  refine (congrFun (host0_v8 (U0 m ρ c)) _).trans ?_
  exact broadcastInDim_apply _ _ _ _ (ix1 e) (Fin.forall_fin_one.mpr rfl)

/-! ### What each call leaves -/

theorem first_at (r : Fin 4096) (j : Fin 4096) : ((dat0 (V0 m ρ) c).arrAt 2 cfg0.N : FVec Ideal S4096x4096 .bf16) (ix2 r j) = first (gX m c) (gW1 m c) r j := by
  exact congrFun (arr0_2 (V0 m ρ) c (in_x m ρ c) (in_w1 m ρ c)) (ix2 r j)

theorem hidden_at (r : Fin 4096) (j : Fin 4096) : ((dat0 (V0 m ρ) c).arrAt 3 cfg0.N : FVec Ideal S4096x4096 .bf16) (ix2 r j) = hidden (gX m c) (gW1 m c) r j := by
  exact congrFun (arr0_3 (V0 m ρ) c (in_x m ρ c) (in_w1 m ρ c)) (ix2 r j)

theorem w1_hid (r : Fin 4096) (j : Fin 4096) : w_v9_1 (V1 m ρ) c (ix2 r j) = hidden (gX m c) (gW1 m c) r j := by
  exact (congrFun (V1_v9_1 m ρ c) (ix2 r j)).trans (hidden_at m ρ c r j)

theorem w1_w2 (j : Fin 4096) (e : Fin 1024) : w_v6 (V1 m ρ) c (ix3 0 j e) = gW2 m c j e := by
  exact (congrFun (V1_v6 m ρ c) (ix3 0 j e)).trans (in_w2 m ρ c j e)

theorem w1_x (r : Fin 4096) (e : Fin 1024) : w_arg0 (V1 m ρ) c (ix2 r e) = gX m c r e := by
  exact congrFun (V1_arg0 m ρ c) (ix2 r e)

theorem w1_g (e : Fin 1024) : w_v7 (V1 m ρ) c (ix2 0 e) = gg m c e := by
  exact (congrFun (V1_v7 m ρ c) (ix2 0 e)).trans (in_g m ρ c e)

theorem w1_b (e : Fin 1024) : w_v8 (V1 m ρ) c (ix2 0 e) = gb m c e := by
  exact (congrFun (V1_v8 m ρ c) (ix2 0 e)).trans (in_b m ρ c e)

theorem w2_y (r : Fin 4096) (e : Fin 1024) : w_v10_0 (V2 m ρ) c (ix2 r e) = mul (hidden (gX m c) (gW1 m c)) (gW2 m c) r e := by
  exact (congrFun (V2_v10_0 m ρ c) (ix2 r e)).trans (congrFun (arr1_5 (V1 m ρ) c (w1_hid m ρ c) (w1_w2 m ρ c)) (ix2 r e))

theorem w2_x (r : Fin 4096) (e : Fin 1024) : w_arg0 (V2 m ρ) c (ix2 r e) = gX m c r e := by
  exact congrFun (V2_arg0 m ρ c) (ix2 r e)

theorem w2_g (e : Fin 1024) : w_v7 (V2 m ρ) c (ix2 0 e) = gg m c e := by
  exact (congrFun (V2_v7 m ρ c) (ix2 0 e)).trans (in_g m ρ c e)

theorem w2_d (r : Fin 4096) (e : Fin 1024) : w_arg5 (V2 m ρ) c (ix2 r e) = gD m c r e := by
  exact congrFun (V2_arg5 m ρ c) (ix2 r e)

theorem sum_at (r : Fin 4096) (e : Fin 1024) : ((dat2 (V2 m ρ) c).arrAt 5 cfg2.N : FVec Ideal S4096x1024 .f32) (ix2 r e) = gradSum (gX m c) (gW1 m c) (gW2 m c) (gg m c) (gD m c) r e := by
  exact congrFun (arr2_5 (V2 m ρ) c (w2_x m ρ c) (w2_y m ρ c) (w2_g m ρ c) (w2_d m ρ c)) (ix2 r e)

theorem sumb_at (r : Fin 4096) (e : Fin 1024) : ((dat2 (V2 m ρ) c).arrAt 6 cfg2.N : FVec Ideal S4096x1024 .bf16) (ix2 r e) = gradSum (gX m c) (gW1 m c) (gW2 m c) (gg m c) (gD m c) r e := by
  exact congrFun (arr2_6 (V2 m ρ) c (w2_x m ρ c) (w2_y m ρ c) (w2_g m ρ c) (w2_d m ρ c)) (ix2 r e)

theorem w3_p (r : Fin 4096) (e : Fin 1024) : w_v11_1 (V3 m ρ) c (ix2 r e) = gradSum (gX m c) (gW1 m c) (gW2 m c) (gg m c) (gD m c) r e := by
  exact (congrFun (V3_v11_1 m ρ c) (ix2 r e)).trans (sumb_at m ρ c r e)

theorem w3_w2 (j : Fin 4096) (e : Fin 1024) : w_v6 (V3 m ρ) c (ix3 0 j e) = gW2 m c j e := by
  exact (congrFun (V3_v6 m ρ c) (ix3 0 j e)).trans (in_w2 m ρ c j e)

theorem w3_a (r : Fin 4096) (j : Fin 4096) : w_v9_0 (V3 m ρ) c (ix2 r j) = first (gX m c) (gW1 m c) r j := by
  exact (congrFun (V3_v9_0 m ρ c) (ix2 r j)).trans (first_at m ρ c r j)

theorem gfirst_at (r : Fin 4096) (j : Fin 4096) : ((dat3 (V3 m ρ) c).arrAt 3 cfg3.N : FVec Ideal S4096x4096 .bf16) (ix2 r j) = gradFirst (gX m c) (gW1 m c) (gW2 m c) (gg m c) (gD m c) r j := by
  exact congrFun (arr3_3 (V3 m ρ) c (w3_p m ρ c) (w3_w2 m ρ c) (w3_a m ρ c)) (ix2 r j)

theorem w4_h (r : Fin 4096) (j : Fin 4096) : w_v9_1 (V4 m ρ) c (ix2 r j) = hidden (gX m c) (gW1 m c) r j := by
  exact (congrFun (V4_v9_1 m ρ c) (ix2 r j)).trans (hidden_at m ρ c r j)

theorem w4_p (r : Fin 4096) (e : Fin 1024) : w_v11_1 (V4 m ρ) c (ix2 r e) = gradSum (gX m c) (gW1 m c) (gW2 m c) (gg m c) (gD m c) r e := by
  exact (congrFun (V4_v11_1 m ρ c) (ix2 r e)).trans (sumb_at m ρ c r e)

theorem w5_u (r : Fin 4096) (j : Fin 4096) : w_v12 (V5 m ρ) c (ix2 r j) = gradFirst (gX m c) (gW1 m c) (gW2 m c) (gg m c) (gD m c) r j := by
  exact (congrFun (V5_v12 m ρ c) (ix2 r j)).trans (gfirst_at m ρ c r j)

theorem w5_w1 (q : ℕ) (e : Fin 1024) (k : Fin 512) (hq : q < 8) : w_v4 (V5 m ρ) c (ix4 (pos 8 q) 0 e k) = gW1 m c e (pos 4096 (512 * q + k.val)) := by
  exact (congrFun (V5_v4 m ρ c) _).trans (in_w1 m ρ c q e k hq)

theorem w6_x (r : Fin 4096) (e : Fin 1024) : w_v0 (V6 m ρ) c (ix2 r e) = gX m c r e := by
  exact (congrFun (V6_v0 m ρ c) (ix2 r e)).trans (in_x m ρ c r e)

theorem w6_u (r : Fin 4096) (j : Fin 4096) : w_v12 (V6 m ρ) c (ix2 r j) = gradFirst (gX m c) (gW1 m c) (gW2 m c) (gg m c) (gD m c) r j := by
  exact (congrFun (V6_v12 m ρ c) (ix2 r j)).trans (gfirst_at m ρ c r j)

/-! ### The results -/

/-- The results as arrays, from the layer's functions. -/
def out_layer : FVec Ideal S4096x1024 .f32 := fun i => layer (gX m c) (gW1 m c) (gW2 m c) (gg m c) (gb m c) (i 0) (i 1)
def out_rows : FVec Ideal S4096x1024 .f32 := fun i => gradRows (gX m c) (gW1 m c) (gW2 m c) (gg m c) (gD m c) (i 0) (i 1)
def out_w1 : FVec Ideal S8x1024x512 .bf16 := fun i => gradW1 (gX m c) (gW1 m c) (gW2 m c) (gg m c) (gD m c) (i 1) (pos 4096 (512 * (i 0).val + (i 2).val))
def out_w2 : FVec Ideal S4096x1024 .bf16 := fun i => gradW2 (gX m c) (gW1 m c) (gW2 m c) (gg m c) (gD m c) (i 0) (i 1)
def out_scale : FVec Ideal S1024 .f32 := fun i => gradScale (gX m c) (gW1 m c) (gW2 m c) (gD m c) (i 0)
def out_shift : FVec Ideal S1024 .f32 := fun i => gradShift (gD m c) (i 0)

theorem end_layer : Vend m ρ c (Proc.devRef .tc main_v10_1) = out_layer m c := by
  refine (keepsHost7 m ρ c main_v10_1 (by decide)).trans ((V7_v10_1 m ρ c).trans ?_)
  exact arr1_6 (V1 m ρ) c (w1_hid m ρ c) (w1_w2 m ρ c) (w1_x m ρ c) (w1_g m ρ c) (w1_b m ρ c)

theorem end_w1 : Vend m ρ c (Proc.devRef .tc main_v15) = out_w1 m c := by
  refine (keepsHost7 m ρ c main_v15 (by decide)).trans ((V7_v15 m ρ c).trans ?_)
  exact arr6_2 (V6 m ρ) c (w6_x m ρ c) (w6_u m ρ c)

theorem end_w2 : Vend m ρ c (Proc.devRef .tc main_v13) = out_w2 m c := by
  refine (keepsHost7 m ρ c main_v13 (by decide)).trans ((V7_v13 m ρ c).trans ?_)
  exact arr4_2 (V4 m ρ) c (w4_h m ρ c) (w4_p m ρ c)

theorem end_rows : Vend m ρ c (Proc.devRef .tc main_v18) = out_rows m c := by
  refine (host7_v18 (V7 m ρ c)).trans (funext fun i => ?_)
  have h1 := congrFun ((V7_v14 m ρ c).trans (arr5_2 (V5 m ρ) c (w5_u m ρ c) (w5_w1 m ρ c))) i
  have h2 := congrFun ((V7_v11_0 m ρ c).trans (arr2_5 (V2 m ρ) c (w2_x m ρ c) (w2_y m ρ c) (w2_g m ρ c) (w2_d m ρ c))) i
  exact congrArg₂ (· + ·) h1 (congrArg (cα * ·) h2)

theorem end_scale : Vend m ρ c (Proc.devRef .tc main_v19) = out_scale m c := by
  refine (host7_v19 (V7 m ρ c)).trans (funext fun i => ?_)
  refine (shapeCast_apply _ _ _ (ix2 0 (i 0)) ?_).trans (congrFun ((V7_v11_2 m ρ c).trans (arr2_7 (V2 m ρ) c (w2_x m ρ c) (w2_y m ρ c) (w2_d m ρ c))) (ix2 0 (i 0)))
  rw [Shape.rowMajor_val_two, Shape.rowMajor_val_one]
  show 0 * 1024 + (i 0).val = (i 0).val; omega

theorem end_shift : Vend m ρ c (Proc.devRef .tc main_v20) = out_shift m c := by
  refine (host7_v20 (V7 m ρ c)).trans (funext fun i => ?_)
  refine (shapeCast_apply _ _ _ (ix2 0 (i 0)) ?_).trans (congrFun ((V7_v11_3 m ρ c).trans (arr2_8 (V2 m ρ) c (w2_d m ρ c))) (ix2 0 (i 0)))
  rw [Shape.rowMajor_val_two, Shape.rowMajor_val_one]
  show 0 * 1024 + (i 0).val = (i 0).val; omega

end Cert.Kernel2Ideal.Mlp

end
-- ==== Proof.Ref2Value.lean ====
/-
  The layer's reference, value by value: each is the layer's function of the arguments' matrices.
-/
module

public import proofs.«01_k».proof.Proof.Gen.Reference2Ideal.Read
public import proofs.«01_k».proof.Proof.MlpLayer
public import Idealize.ShloMosaic.Lib.Pipeline.ValueKit

@[expose] public section

noncomputable section

namespace Cert.Reference2Ideal.Grad

open Idealize.ShloMosaic Idealize.ShloMosaic.TcCoe Cert.Layer Cert.Reference2Ideal Cert.Reference2Ideal.Gen Cert.Reference2Ideal.Read

variable (x0 : FVec Ideal S4096x1024 .f32) (x1 : FVec Ideal S1024x4096 .f32) (x2 : FVec Ideal S4096x1024 .f32)
  (x3 x4 : FVec Ideal S1024 .f32) (x5 : FVec Ideal S4096x1024 .f32)

/-- An argument as a matrix, or as a row. -/
abbrev mat {n m : ℕ} (x : FVec Ideal ⟨2, ![n, m]⟩ .f32) (r : Fin n) (e : Fin m) : EReal := x (ix2 r e)
abbrev vec {n : ℕ} (x : FVec Ideal ⟨1, ![n]⟩ .f32) (e : Fin n) : EReal := x (ix1 e)

theorem mat_at {n m : ℕ} (x : FVec Ideal ⟨2, ![n, m]⟩ .f32) (i : (⟨2, ![n, m]⟩ : Shape).Idx) : (show EReal from x i) = mat x (i 0) (i 1) := congrArg x (ix2_eta i).symm
theorem vec_at {n : ℕ} (x : FVec Ideal ⟨1, ![n]⟩ .f32) (i : (⟨1, ![n]⟩ : Shape).Idx) : (show EReal from x i) = vec x (i 0) := congrArg x (ix1_eta i).symm

/-- The sum a reduction starts from zero. -/
theorem zero_sum {n : ℕ} (f : Fin n → EReal) : Ideal.ofBits .f32 0x00000000#32 + ∑ k, f k = ∑ k, f k := by rw [Ideal.ofBits_zero_f32, zero_add]
theorem zero_one (f : Fin 1 → EReal) : Ideal.ofBits .f32 0x00000000#32 + ∑ k, f k = f 0 := by rw [zero_sum, Fin.sum_univ_one]

/-- The rows of the residual sum. -/
abbrev Q : Fin 4096 → Fin 1024 → EReal := summed (mat x0) (mat x1) (mat x2)
abbrev GS : Fin 4096 → Fin 1024 → EReal := gradSum (mat x0) (mat x1) (mat x2) (vec x3) (mat x5)

theorem rv2 (i : S4096x4096.Idx) : (show EReal from val_main_v2 (F := Ideal) x0 x1 i) = first (mat x0) (mat x1) (i 0) (i 1) := by
  rw [val_main_v2_apply]
  exact Finset.sum_congr rfl fun k _ => congrArg₂ (· * ·) (mat_at x0 _) (mat_at x1 _)

theorem rv3 (i : S4096x4096.Idx) : (show EReal from val_main_v3 (F := Ideal) x0 x1 i) = max (first (mat x0) (mat x1) (i 0) (i 1)) 0 := by
  rw [val_main_v3_apply, val_main_call0_v0_apply, val_main_call0_cst_apply]
  exact congrArg₂ max (rv2 x0 x1 i) Ideal.ofBits_zero_f32

theorem rv7 (i : S4096x4096.Idx) : (show EReal from val_main_v7 (F := Ideal) x0 x1 i) = hidden (mat x0) (mat x1) (i 0) (i 1) := by
  rw [val_main_v7_apply]
  exact congrArg₂ (· * ·) (rv3 x0 x1 i) (rv3 x0 x1 i)

theorem rv8 (i : S4096x1024.Idx) : (show EReal from val_main_v8 (F := Ideal) x0 x1 x2 i) = mul (hidden (mat x0) (mat x1)) (mat x2) (i 0) (i 1) := by
  rw [val_main_v8_apply]
  exact Finset.sum_congr rfl fun k _ => congrArg₂ (· * ·) (rv7 x0 x1 _) (mat_at x2 _)

theorem rv9 (i : S4096x1024.Idx) : (show EReal from val_main_v9 (F := Ideal) x0 x1 x2 i) = Q x0 x1 x2 (i 0) (i 1) := by
  rw [val_main_v9_apply, val_main_v1_apply]
  exact congrArg₂ (· + ·) (congrArg (cα * ·) (mat_at x0 i)) (rv8 x0 x1 x2 i)

theorem rv13 (i : S4096x1.Idx) : (show EReal from val_main_v13 (F := Ideal) x0 x1 x2 i) = mean (Q x0 x1 x2 (i 0)) := by
  rw [val_main_v13_apply, val_main_v11_apply, val_main_v10_apply]
  exact congrArg (Ideal.div · cN) ((zero_sum _).trans (Finset.sum_congr rfl fun k _ => rv9 x0 x1 x2 _))

theorem rv15 (i : S4096x1024.Idx) : (show EReal from val_main_v15 (F := Ideal) x0 x1 x2 i) = Q x0 x1 x2 (i 0) (i 1) - mean (Q x0 x1 x2 (i 0)) := by
  rw [val_main_v15_apply, val_main_v14_apply]
  exact congrArg₂ (· - ·) (rv9 x0 x1 x2 i) (rv13 x0 x1 x2 _)

theorem rv24 (i : S4096x1024.Idx) : (show EReal from val_main_v24 (F := Ideal) x0 x1 x2 i) = Q x0 x1 x2 (i 0) (i 1) - mean (Q x0 x1 x2 (i 0)) := by
  rw [val_main_v24_apply, val_main_v23_apply]
  exact congrArg₂ (· - ·) (rv9 x0 x1 x2 i) (rv13 x0 x1 x2 _)

theorem rv18 (i : S4096x1024.Idx) : (show EReal from val_main_v18 (F := Ideal) x0 x1 x2 i) = c2 * (Q x0 x1 x2 (i 0) (i 1) - mean (Q x0 x1 x2 (i 0))) := by
  rw [val_main_v18_apply]
  exact congrArg (c2 * ·) (rv15 x0 x1 x2 i)

theorem rv26 (i : S4096x1.Idx) : (show EReal from val_main_v26 (F := Ideal) x0 x1 x2 i) = dev (Q x0 x1 x2 (i 0)) := by
  rw [val_main_v26_apply, val_main_v22_apply, val_main_v20_apply, val_main_v19_apply]
  refine congrArg (Ideal.div · cN + cE) ((zero_sum _).trans (Finset.sum_congr rfl fun k _ => ?_))
  rw [val_main_v16_apply]
  exact congrArg₂ (· * ·) (rv15 x0 x1 x2 _) (rv15 x0 x1 x2 _)

theorem rv27 (i : S4096x1.Idx) : (show EReal from val_main_v27 (F := Ideal) x0 x1 x2 i) = invRoot (Q x0 x1 x2 (i 0)) := by
  rw [val_main_v27_apply]
  exact congrArg Ideal.rsqrt (rv26 x0 x1 x2 i)

theorem rv30 (i : S4096x1.Idx) : (show EReal from val_main_v30 (F := Ideal) x0 x1 x2 i) = cH * Ideal.div (invRoot (Q x0 x1 x2 (i 0))) (dev (Q x0 x1 x2 (i 0))) := by
  rw [val_main_v30_apply, val_main_v28_apply]
  exact congrArg (cH * ·) (congrArg₂ Ideal.div (rv27 x0 x1 x2 i) (rv26 x0 x1 x2 i))

theorem rv32 (i : S4096x1024.Idx) : (show EReal from val_main_v32 (F := Ideal) x0 x1 x2 i) = normed (Q x0 x1 x2 (i 0)) (i 1) := by
  rw [val_main_v32_apply, val_main_v31_apply]
  exact congrArg₂ (· * ·) (rv24 x0 x1 x2 i) (rv27 x0 x1 x2 _)

theorem rv34 (i : S4096x1024.Idx) : (show EReal from val_main_v34 (F := Ideal) x3 i) = vec x3 (i 1) := by
  rw [val_main_v34_apply, val_main_v33_apply]
  exact vec_at x3 _

theorem rv37 (i : S4096x1024.Idx) : (show EReal from val_main_v37 (F := Ideal) x4 i) = vec x4 (i 1) := by
  rw [val_main_v37_apply, val_main_v36_apply]
  exact vec_at x4 _

theorem rv38 (i : S4096x1024.Idx) : (show EReal from val_main_v38 (F := Ideal) x0 x1 x2 x3 x4 i) = layer (mat x0) (mat x1) (mat x2) (vec x3) (vec x4) (i 0) (i 1) := by
  rw [val_main_v38_apply, val_main_v35_apply]
  exact congrArg₂ (· + ·) (congrArg₂ (· * ·) (rv32 x0 x1 x2 i) (rv34 x3 i)) (rv37 x4 i)

theorem rv39 (i : S4096x1024.Idx) : (show EReal from val_main_v39 (F := Ideal) x5 i) = mat x5 (i 0) (i 1) := by
  rw [val_main_v39_apply]
  have h1 : (i 1).val < 1024 := (i 1).isLt
  refine congrArg x5 (funext (Fin.forall_fin_two.mpr ⟨Fin.ext ?_, Fin.ext ?_⟩))
  · show ((i 0).val * 1024 + (i 1).val) / 1024 = (i 0).val; omega
  · show ((i 0).val * 1024 + (i 1).val) % 1024 = (i 1).val; omega

theorem rv42 (i : S1024.Idx) : (show EReal from val_main_v42 (F := Ideal) x5 i) = gradShift (mat x5) (i 0) := by
  rw [val_main_v42_apply]
  refine (zero_one _).trans ?_
  rw [val_main_v41_apply, val_main_v40_apply]
  refine (zero_sum _).trans (Finset.sum_congr rfl fun k _ => (mat_at x5 _).trans (congrArg (mat x5 k) (Fin.ext ?_)))
  show 0 * 1024 + (i 0).val = (i 0).val; omega

theorem rv48 (i : S1024.Idx) : (show EReal from val_main_v48 (F := Ideal) x0 x1 x2 x5 i) = gradScale (mat x0) (mat x1) (mat x2) (mat x5) (i 0) := by
  rw [val_main_v48_apply]
  refine (zero_one _).trans ?_
  rw [val_main_v45_apply, val_main_v44_apply]
  refine (zero_sum _).trans (Finset.sum_congr rfl fun k _ => ?_)
  rw [val_main_v43_apply]
  refine (congrArg₂ (· * ·) (rv32 x0 x1 x2 _) (rv39 x5 _)).trans ?_
  have h : (⟨0 * 1024 + (i 0).val, by have h1 : (i 0).val < 1024 := (i 0).isLt; omega⟩ : Fin 1024) = i 0 := Fin.ext (by show 0 * 1024 + (i 0).val = (i 0).val; omega)
  show normed (Q x0 x1 x2 k) ⟨0 * 1024 + (i 0).val, _⟩ * mat x5 k ⟨0 * 1024 + (i 0).val, _⟩ = _
  rw [h]

theorem rv46 (i : S4096x1024.Idx) : (show EReal from val_main_v46 (F := Ideal) x3 i) = vec x3 (i 1) := by
  rw [val_main_v46_apply, val_main_v33_apply]
  exact vec_at x3 _

theorem rv47 (i : S4096x1024.Idx) : (show EReal from val_main_v47 (F := Ideal) x3 x5 i) = mat x5 (i 0) (i 1) * vec x3 (i 1) := by
  rw [val_main_v47_apply]
  exact congrArg₂ (· * ·) (rv39 x5 i) (rv46 x3 i)

theorem rv53 (i : S4096x1024.Idx) : (show EReal from val_main_v53 (F := Ideal) x0 x1 x2 x3 x5 i) = mat x5 (i 0) (i 1) * vec x3 (i 1) * invRoot (Q x0 x1 x2 (i 0)) := by
  rw [val_main_v53_apply, val_main_v52_apply]
  exact congrArg₂ (· * ·) (rv47 x3 x5 i) (rv27 x0 x1 x2 _)

theorem rv51 (i : S4096x1.Idx) : (show EReal from val_main_v51 (F := Ideal) x0 x1 x2 x3 x5 i) = ∑ e, (Q x0 x1 x2 (i 0) e - mean (Q x0 x1 x2 (i 0))) * (mat x5 (i 0) e * vec x3 e) := by
  rw [val_main_v51_apply, val_main_v50_apply]
  have h0 : (idx_main_v51 i) 0 = i 0 := Fin.ext (by have h1 : (i 1).val < 1 := (i 1).isLt; show (i 0).val * 1 + (i 1).val = (i 0).val; omega)
  refine (zero_sum _).trans (Finset.sum_congr rfl fun k _ => ?_)
  rw [val_main_v49_apply]
  refine (congrArg₂ (· * ·) (rv24 x0 x1 x2 _) (rv47 x3 x5 _)).trans ?_
  show (Q x0 x1 x2 ((idx_main_v51 i) 0) k - mean (Q x0 x1 x2 ((idx_main_v51 i) 0))) * (mat x5 ((idx_main_v51 i) 0) k * vec x3 k) = _
  rw [h0]

theorem rv59 (i : S4096x1.Idx) : (show EReal from val_main_v59 (F := Ideal) x0 x1 x2 x3 x5 i) = ddev (Q x0 x1 x2 (i 0)) (vec x3) (mat x5 (i 0)) := by
  rw [val_main_v59_apply, val_main_v54_apply]
  exact congrArg (Ideal.div · cN) (congrArg₂ (· * ·) (rv51 x0 x1 x2 x3 x5 i) (rv30 x0 x1 x2 i))

theorem rv62 (i : S4096x1024.Idx) : (show EReal from val_main_v62 (F := Ideal) x0 x1 x2 x3 x5 i) = ddev (Q x0 x1 x2 (i 0)) (vec x3) (mat x5 (i 0)) * (c2 * (Q x0 x1 x2 (i 0) (i 1) - mean (Q x0 x1 x2 (i 0)))) := by
  rw [val_main_v62_apply, val_main_v61_apply, val_main_v60_apply]
  exact congrArg₂ (· * ·) ((zero_one _).trans (rv59 x0 x1 x2 x3 x5 _)) (rv18 x0 x1 x2 i)

theorem rv57 (i : S4096x1.Idx) : (show EReal from val_main_v57 (F := Ideal) x0 x1 x2 x3 x5 i) = ∑ e, -(mat x5 (i 0) e * vec x3 e * invRoot (Q x0 x1 x2 (i 0))) := by
  rw [val_main_v57_apply, val_main_v56_apply]
  have h0 : (idx_main_v57 i) 0 = i 0 := Fin.ext (by have h1 : (i 1).val < 1 := (i 1).isLt; show (i 0).val * 1 + (i 1).val = (i 0).val; omega)
  refine (zero_sum _).trans (Finset.sum_congr rfl fun k _ => ?_)
  rw [val_main_v55_apply]
  refine (congrArg Neg.neg (rv53 x0 x1 x2 x3 x5 _)).trans ?_
  show -(mat x5 ((idx_main_v57 i) 0) k * vec x3 k * invRoot (Q x0 x1 x2 ((idx_main_v57 i) 0))) = _
  rw [h0]

theorem rv65 (i : S4096x1.Idx) : (show EReal from val_main_v65 (F := Ideal) x0 x1 x2 x3 x5 i) = ∑ e, -(ddev (Q x0 x1 x2 (i 0)) (vec x3) (mat x5 (i 0)) * (c2 * (Q x0 x1 x2 (i 0) e - mean (Q x0 x1 x2 (i 0))))) := by
  rw [val_main_v65_apply, val_main_v64_apply]
  have h0 : (idx_main_v65 i) 0 = i 0 := Fin.ext (by have h1 : (i 1).val < 1 := (i 1).isLt; show (i 0).val * 1 + (i 1).val = (i 0).val; omega)
  refine (zero_sum _).trans (Finset.sum_congr rfl fun k _ => ?_)
  rw [val_main_v63_apply]
  refine (congrArg Neg.neg (rv62 x0 x1 x2 x3 x5 _)).trans ?_
  show -(ddev (Q x0 x1 x2 ((idx_main_v65 i) 0)) (vec x3) (mat x5 ((idx_main_v65 i) 0)) * (c2 * (Q x0 x1 x2 ((idx_main_v65 i) 0) k - mean (Q x0 x1 x2 ((idx_main_v65 i) 0))))) = _
  rw [h0]

theorem rv72 (i : S4096x1024.Idx) : (show EReal from val_main_v72 (F := Ideal) x0 x1 x2 x3 x5 i) = GS x0 x1 x2 x3 x5 (i 0) (i 1) := by
  rw [val_main_v72_apply, val_main_v66_apply, val_main_v71_apply, val_main_v70_apply]
  refine congrArg₂ (· + ·) (congrArg₂ (· + ·) (rv53 x0 x1 x2 x3 x5 i) (rv62 x0 x1 x2 x3 x5 i)) ((zero_one _).trans ?_)
  rw [val_main_v69_apply, val_main_v67_apply]
  exact congrArg (Ideal.div · cN) (congrArg₂ (· + ·) (rv57 x0 x1 x2 x3 x5 _) (rv65 x0 x1 x2 x3 x5 _))

theorem rv90 (i : S4096x1024.Idx) : (show EReal from val_main_v90 (F := Ideal) x0 x1 x2 x3 x5 i) = gradW2 (mat x0) (mat x1) (mat x2) (vec x3) (mat x5) (i 0) (i 1) := by
  show val_main_v74 (F := Ideal) x0 x1 x2 x3 x5 i = _
  rw [val_main_v74_apply, val_main_v73_apply]
  refine Finset.sum_congr rfl fun k _ => (congrArg₂ (· * ·) (rv72 x0 x1 x2 x3 x5 _) (rv7 x0 x1 _)).trans (mul_comm _ _)

theorem rv75 (i : S4096x4096.Idx) : (show EReal from val_main_v75 (F := Ideal) x0 x1 x2 x3 x5 i) = mulT (GS x0 x1 x2 x3 x5) (mat x2) (i 0) (i 1) := by
  rw [val_main_v75_apply]
  exact Finset.sum_congr rfl fun k _ => congrArg₂ (· * ·) (rv72 x0 x1 x2 x3 x5 _) (mat_at x2 _)

theorem two_eq : c2 = 1 + 1 := by
  rw [show (1 : EReal) + 1 = ((2 : ℝ) : EReal) by norm_cast]
  simp [c2, Ideal.ofBits, Ideal.ieee, -EReal.coe_mul]; norm_num

/-- Twice the relu, times a gradient: written as a sum of two products where the operand is positive, and zero elsewhere. -/
theorem twice_relu (a h y z : EReal) (hz : z = 0) (hh : h = max a 0) :
    Scalar.select (BitVec.ofBool (decide (z < a))) (h * y + y * h) z = y * (c2 * max a 0) := by
  subst hz hh
  unfold Scalar.select
  by_cases h : 0 < a
  · have h0 : (0 : EReal) ≤ max a 0 := le_max_right a 0
    rw [decide_eq_true h, two_eq, EReal.right_distrib_of_nonneg zero_le_one zero_le_one, one_mul, EReal.left_distrib_of_nonneg h0 h0, mul_comm (max a 0) y]
    rfl
  · rw [decide_eq_false h]
    show (0 : EReal) = _
    rw [max_eq_right (not_lt.mp h), mul_zero, mul_zero]

theorem rv80 (i : S4096x4096.Idx) : (show EReal from val_main_v80 (F := Ideal) x0 x1 x2 x3 x5 i) = gradFirst (mat x0) (mat x1) (mat x2) (vec x3) (mat x5) (i 0) (i 1) := by
  rw [val_main_v80_apply, val_main_v5_apply, val_main_v78_apply, val_main_v76_apply, val_main_v77_apply]
  have h3 : (show EReal from val_main_v3 (F := Ideal) x0 x1 i) = max (show EReal from val_main_v2 (F := Ideal) x0 x1 i) 0 := by
    rw [val_main_v3_apply]
    exact congrArg (max _) Ideal.ofBits_zero_f32
  exact (twice_relu (val_main_v2 (F := Ideal) x0 x1 i) (val_main_v3 (F := Ideal) x0 x1 i) (val_main_v75 (F := Ideal) x0 x1 x2 x3 x5 i) _ Ideal.ofBits_zero_f32 h3).trans
    (congrArg₂ (fun y a => y * (c2 * max a 0)) (rv75 x0 x1 x2 x3 x5 i) (rv2 x0 x1 i))

theorem rv86 (i : S4096x1024.Idx) : (show EReal from val_main_v86 (F := Ideal) x0 x1 x2 x3 x5 i) = gradRows (mat x0) (mat x1) (mat x2) (vec x3) (mat x5) (i 0) (i 1) := by
  rw [val_main_v86_apply, val_main_v83_apply, val_main_v85_apply]
  exact congrArg₂ (· + ·) (Finset.sum_congr rfl fun k _ => congrArg₂ (· * ·) (rv80 x0 x1 x2 x3 x5 _) (mat_at x1 _)) (congrArg (cα * ·) (rv72 x0 x1 x2 x3 x5 i))

theorem rv89 (i : S8x1024x512.Idx) : (show EReal from val_main_v89 (F := Ideal) x0 x1 x2 x3 x5 i) = gradW1 (mat x0) (mat x1) (mat x2) (vec x3) (mat x5) (i 1) (pos 4096 (512 * (i 0).val + (i 2).val)) := by
  show val_main_v88 (F := Ideal) x0 x1 x2 x3 x5 i = _
  rw [val_main_v88_apply, val_main_v87_apply, val_main_v82_apply, val_main_v81_apply]
  refine Finset.sum_congr rfl fun k _ => (congrArg₂ (· * ·) (rv80 x0 x1 x2 x3 x5 _) (mat_at x0 _)).trans ?_
  have h0 : (i 0).val < 8 := (i 0).isLt
  have h1 : (i 1).val < 1024 := (i 1).isLt
  have h2 : (i 2).val < 512 := (i 2).isLt
  refine (mul_comm _ _).trans (congrArg₂ (· * ·) (congrArg (mat x0 k) (Fin.ext ?_)) (congrArg (gradFirst (mat x0) (mat x1) (mat x2) (vec x3) (mat x5) k) (Fin.ext ?_)))
  · show (((i 1).val * 8 + (i 0).val) * 512 + (i 2).val) / 4096 = (i 1).val; omega
  · show (((i 1).val * 8 + (i 0).val) * 512 + (i 2).val) % 4096 = (512 * (i 0).val + (i 2).val) % 4096; omega

end Cert.Reference2Ideal.Grad

end
-- ==== Proof.Equation2.lean ====
/-
  The layer's program and its reference end with the same six arrays.
-/
module

public import proofs.«01_k».proof.Defs
public import proofs.«01_k».proof.Proof.MlpChain
public import proofs.«01_k».proof.Proof.Ref2Value

@[expose] public section

noncomputable section

namespace Cert.Equation2

open Idealize.ShloMosaic Idealize.ShloMosaic.TcCoe Idealize.SL.Sem Idealize.ShloMosaic.StableHlo
open Cert.Kernel2Ideal.Mlp (out_layer out_rows out_w1 out_w2 out_scale out_shift)

/-! ### The reference's results, from the arguments' contents -/

variable (V : Valuation Cert.Reference2Ideal.τ Cert.Reference2Ideal.sig (Elt Ideal))
variable (m : (ℓ : Loc Cert.Kernel2Ideal.nD Cert.Kernel2Ideal.τ Cert.Kernel2Ideal.sig) → Buf (Elt Ideal) ℓ) (c : Dev Cert.Kernel2Ideal.nD)

/-- The reference's arguments are the kernel's. -/
structure Same : Prop where
  e0 : V (Proc.devRef .tc Cert.Reference2Ideal.main_arg0) = m ((c.tc : Thread Cert.Kernel2Ideal.nD Cert.Kernel2Ideal.τ).loc Cert.Kernel2Ideal.main_arg0)
  e1 : V (Proc.devRef .tc Cert.Reference2Ideal.main_arg1) = m ((c.tc : Thread Cert.Kernel2Ideal.nD Cert.Kernel2Ideal.τ).loc Cert.Kernel2Ideal.main_arg1)
  e2 : V (Proc.devRef .tc Cert.Reference2Ideal.main_arg2) = m ((c.tc : Thread Cert.Kernel2Ideal.nD Cert.Kernel2Ideal.τ).loc Cert.Kernel2Ideal.main_arg2)
  e3 : V (Proc.devRef .tc Cert.Reference2Ideal.main_arg3) = m ((c.tc : Thread Cert.Kernel2Ideal.nD Cert.Kernel2Ideal.τ).loc Cert.Kernel2Ideal.main_arg3)
  e4 : V (Proc.devRef .tc Cert.Reference2Ideal.main_arg4) = m ((c.tc : Thread Cert.Kernel2Ideal.nD Cert.Kernel2Ideal.τ).loc Cert.Kernel2Ideal.main_arg4)
  e5 : V (Proc.devRef .tc Cert.Reference2Ideal.main_arg5) = m ((c.tc : Thread Cert.Kernel2Ideal.nD Cert.Kernel2Ideal.τ).loc Cert.Kernel2Ideal.main_arg5)

open Cert.Reference2Ideal.Read Cert.Reference2Ideal.Grad in
theorem results (h : Same V m c) :
    val_main_v38 (F := Ideal) (V (Proc.devRef .tc Cert.Reference2Ideal.main_arg0)) (V (Proc.devRef .tc Cert.Reference2Ideal.main_arg1)) (V (Proc.devRef .tc Cert.Reference2Ideal.main_arg2)) (V (Proc.devRef .tc Cert.Reference2Ideal.main_arg3)) (V (Proc.devRef .tc Cert.Reference2Ideal.main_arg4)) = out_layer m c
    ∧ val_main_v86 (F := Ideal) (V (Proc.devRef .tc Cert.Reference2Ideal.main_arg0)) (V (Proc.devRef .tc Cert.Reference2Ideal.main_arg1)) (V (Proc.devRef .tc Cert.Reference2Ideal.main_arg2)) (V (Proc.devRef .tc Cert.Reference2Ideal.main_arg3)) (V (Proc.devRef .tc Cert.Reference2Ideal.main_arg5)) = out_rows m c
    ∧ val_main_v89 (F := Ideal) (V (Proc.devRef .tc Cert.Reference2Ideal.main_arg0)) (V (Proc.devRef .tc Cert.Reference2Ideal.main_arg1)) (V (Proc.devRef .tc Cert.Reference2Ideal.main_arg2)) (V (Proc.devRef .tc Cert.Reference2Ideal.main_arg3)) (V (Proc.devRef .tc Cert.Reference2Ideal.main_arg5)) = out_w1 m c
    ∧ val_main_v90 (F := Ideal) (V (Proc.devRef .tc Cert.Reference2Ideal.main_arg0)) (V (Proc.devRef .tc Cert.Reference2Ideal.main_arg1)) (V (Proc.devRef .tc Cert.Reference2Ideal.main_arg2)) (V (Proc.devRef .tc Cert.Reference2Ideal.main_arg3)) (V (Proc.devRef .tc Cert.Reference2Ideal.main_arg5)) = out_w2 m c
    ∧ val_main_v48 (F := Ideal) (V (Proc.devRef .tc Cert.Reference2Ideal.main_arg0)) (V (Proc.devRef .tc Cert.Reference2Ideal.main_arg1)) (V (Proc.devRef .tc Cert.Reference2Ideal.main_arg2)) (V (Proc.devRef .tc Cert.Reference2Ideal.main_arg5)) = out_scale m c
    ∧ val_main_v42 (F := Ideal) (V (Proc.devRef .tc Cert.Reference2Ideal.main_arg5)) = out_shift m c := by
  rw [h.e0, h.e1, h.e2, h.e3, h.e4, h.e5]
  exact ⟨funext fun i => rv38 _ _ _ _ _ i, funext fun i => rv86 _ _ _ _ _ i, funext fun i => rv89 _ _ _ _ _ i, funext fun i => rv90 _ _ _ _ _ i,
    funext fun i => rv48 _ _ _ _ i, funext fun i => rv42 _ i⟩

/-- The equation of the two programs. -/
theorem algebraic : Cert.algebraic_Kernel2Ideal_Reference2Ideal
    (hKernel2Ideal := Cert.Kernel2Ideal.Gen.facts) (hReference2Ideal := Cert.Reference2Ideal.Gen.facts) := by
  intro m ρ m' ρ' hpre hargs
  refine ⟨out_layer m, out_rows m, out_w1 m, out_w2 m, out_scale m, out_shift m, ?_, ?_⟩
  · refine (θ_run Cert.Kernel2Ideal.defs _ _).mono (fun r h c => ⟨?_, ?_, ?_, ?_, ?_, ?_, ?_, ?_, ?_, ?_, ?_, ?_⟩) (Cert.Kernel2Ideal.Mlp.run_main m ρ)
    · exact (h.1 c _ rfl).trans (Cert.Kernel2Ideal.Mlp.end_layer m ρ c)
    · exact (h.1 c _ rfl).trans (Cert.Kernel2Ideal.Mlp.end_rows m ρ c)
    · exact (h.1 c _ rfl).trans (Cert.Kernel2Ideal.Mlp.end_w1 m ρ c)
    · exact (h.1 c _ rfl).trans (Cert.Kernel2Ideal.Mlp.end_w2 m ρ c)
    · exact (h.1 c _ rfl).trans (Cert.Kernel2Ideal.Mlp.end_scale m ρ c)
    · exact (h.1 c _ rfl).trans (Cert.Kernel2Ideal.Mlp.end_shift m ρ c)
    · exact (h.1 c _ rfl).trans ((Cert.Kernel2Ideal.Mlp.keepsHost7 m ρ c _ (by decide)).trans (Cert.Kernel2Ideal.Mlp.V7_arg0 m ρ c))
    · exact (h.1 c _ rfl).trans ((Cert.Kernel2Ideal.Mlp.keepsHost7 m ρ c _ (by decide)).trans (Cert.Kernel2Ideal.Mlp.V7_arg1 m ρ c))
    · exact (h.1 c _ rfl).trans ((Cert.Kernel2Ideal.Mlp.keepsHost7 m ρ c _ (by decide)).trans (Cert.Kernel2Ideal.Mlp.V7_arg2 m ρ c))
    · exact (h.1 c _ rfl).trans ((Cert.Kernel2Ideal.Mlp.keepsHost7 m ρ c _ (by decide)).trans (Cert.Kernel2Ideal.Mlp.V7_arg3 m ρ c))
    · exact (h.1 c _ rfl).trans ((Cert.Kernel2Ideal.Mlp.keepsHost7 m ρ c _ (by decide)).trans (Cert.Kernel2Ideal.Mlp.V7_arg4 m ρ c))
    · exact (h.1 c _ rfl).trans ((Cert.Kernel2Ideal.Mlp.keepsHost7 m ρ c _ (by decide)).trans (Cert.Kernel2Ideal.Mlp.V7_arg5 m ρ c))
  · have hs : ∀ c, Same (launchContents m' c) m c := fun c => ⟨(hargs c).1, (hargs c).2.1, (hargs c).2.2.1, (hargs c).2.2.2.1, (hargs c).2.2.2.2.1, (hargs c).2.2.2.2.2⟩
    refine (θ_run Cert.Reference2Ideal.defs _ _).mono (fun r h c => ?_) (Cert.Reference2Ideal.Value.run (F := Ideal) m' ρ')
    obtain ⟨h0, h1, h2, h3, h4, h5, h6⟩ := h c
    obtain ⟨r0, r1, r2, r3, r4, r5⟩ := results (launchContents m' c) m c (hs c)
    exact ⟨(h0.trans (Cert.Reference2Ideal.Read.val_main_v38_eq _)).trans r0, (h1.trans (Cert.Reference2Ideal.Read.val_main_v86_eq _)).trans r1,
      (h2.trans (Cert.Reference2Ideal.Read.val_main_v89_eq _)).trans r2, (h3.trans (Cert.Reference2Ideal.Read.val_main_v90_eq _)).trans r3,
      (h4.trans (Cert.Reference2Ideal.Read.val_main_v48_eq _)).trans r4, (h5.trans (Cert.Reference2Ideal.Read.val_main_v42_eq _)).trans r5, h6⟩

end Cert.Equation2

end
-- ==== Proof.Products.lean ====
/-
  What the calls that multiply two matrices have in common: a product summed block by block over the points of a run, and
  the block product a body adds to its accumulator.
-/
module

public import proofs.«01_k».proof.Proof.MlpPay
public import proofs.«01_k».proof.Proof.Gen.Kernel3Ideal.Value
public import proofs.«01_k».proof.Proof.Gen.Kernel4Ideal.Value
public import Idealize.ShloMosaic.Lib.Pipeline.ValueKit

@[expose] public section

noncomputable section

namespace Cert.Products

open Idealize.ShloMosaic

/-- An accumulator that starts from zero at the first of `J` points and adds `n` terms at each holds, after the last, the
    sum of all the terms. -/
theorem swept {N n L : ℕ} {ι : Type} (f : (p : ℕ) → p < N → ι → EReal) (J : ℕ) [NeZero J] (x : Fin N → ι → Fin n → EReal)
    (h0 : ∀ t : Fin N, t.val % J = 0 → ∀ i, f t.val t.isLt i = 0 + ∑ k, x t i k)
    (hs : ∀ t : Fin N, ¬t.val % J = 0 → ∀ i, f t.val t.isLt i = f (t.val - 1) (Nat.lt_of_le_of_lt (Nat.sub_le _ _) t.isLt) i + ∑ k, x t i k)
    (hL : L = J * n) (t : Fin N) (ht : t.val % J = J - 1) (i : ι) (g : Fin L → EReal)
    (hg : ∀ (s : Fin J) (k : Fin n) (hl : s.val * n + k.val < L) (hp : J * (t.val / J) + s.val < N), x ⟨J * (t.val / J) + s.val, hp⟩ i k = g ⟨s.val * n + k.val, hl⟩) :
    f t.val t.isLt i = ∑ l, g l := by
  refine (Pipeline.eq_sum_fin_of_reset_step_apply_of_flush f J (fun _ => 0) (fun t i => ∑ k, x t i k) h0 hs t ht i).trans ?_
  rw [zero_add]
  exact Fin.sum_mul_add_congr (fun s k hl => hg s k hl _) hL

open Cert.Kernel4Ideal Cert.Kernel4Ideal.Gen in
/-- The body of a product with the second block transposed. -/
theorem step_nt (a : FVec Ideal S1024x1024 .f32) (x : FVec Ideal S1024x1024 .bf16) (y : FVec Ideal S1x1024x1024 .bf16) (i : S1024x1024.Idx) :
    k0_pay2 a x y i = a i + ∑ k : Fin 1024, (show EReal from x (ix2 (i 0) k)) * y (ix3 0 (i 1) k) := by
  obtain ⟨R, l, rfl⟩ : ∃ R l : Fin 1024, i = ix2 R l := ⟨i 0, i 1, (ix2_eta i).symm⟩
  unfold k0_pay2
  pointwise
  first | done | rfl

/-- The same body from a zero accumulator. -/
theorem once_nt (x : FVec Ideal Kernel4Ideal.S1024x1024 .bf16) (y : FVec Ideal Kernel4Ideal.S1x1024x1024 .bf16) (R l : Fin 1024) :
    Kernel4Ideal.Gen.k0_pay2 (F := Ideal) (Kernel4Ideal.Gen.k0_pay1 (F := Ideal)) x y (ix2 R l) = ∑ k : Fin 1024, (show EReal from x (ix2 R k)) * y (ix3 0 l k) :=
  (step_nt _ x y _).trans ((congrArg (· + _) (Kernel2Ideal.Mlp.zero1 _)).trans (zero_add _))

open Cert.Kernel3Ideal Cert.Kernel3Ideal.Gen in
/-- The body of a plain product, from a zero accumulator. -/
theorem once_nn (x : FVec Ideal S1024x1024 .bf16) (y : FVec Ideal S1x1024x1024 .bf16) (R l : Fin 1024) :
    k0_pay2 (F := Ideal) (k0_pay1 (F := Ideal)) x y (ix2 R l) = ∑ k : Fin 1024, (show EReal from x (ix2 R k)) * y (ix3 0 k l) := by
  unfold k0_pay2 k0_pay1
  pointwise
  first | done | rfl | exact zero_add _

end Cert.Products

end
-- ==== Proof.Recurrent.lean ====
/-
  The recurrent layers' in-projection: the product, and the gradients at its two operands.
-/
module

public import proofs.«01_k».proof.Proof.Products
public import proofs.«01_k».proof.Proof.Gen.Kernel3Ideal.Value
public import proofs.«01_k».proof.Proof.Gen.Reference3Ideal.Read
public import proofs.«01_k».proof.Proof.Gen.Kernel4Ideal.Value
public import proofs.«01_k».proof.Proof.Gen.Reference4Ideal.Read
public import proofs.«01_k».proof.Proof.Gen.Kernel5Ideal.Value
public import proofs.«01_k».proof.Proof.Gen.Reference5Ideal.Read
public import proofs.«01_k».proof.Defs

@[expose] public section

noncomputable section

open Idealize.ShloMosaic Idealize.ShloMosaic.TcCoe Idealize.ShloMosaic.Tactic Idealize.ShloMosaic.StableHlo Idealize.SL.Sem

namespace Cert.Kernel3Ideal.Product

open Cert.Kernel3Ideal.Gen

variable (m : (ℓ : Loc nD τ sig) → Buf (Elt Ideal) ℓ) (c : Dev nD)

abbrev X : FVec Ideal S4096x1024 .f32 := m ((c : Thread nD τ).loc main_arg0)
abbrev Y : FVec Ideal S1024x2048 .f32 := m ((c : Thread nD τ).loc main_arg1)

theorem given_0 : (V m c main_v0 : FVec Ideal S4096x1024 .bf16) = X m c := by
  show after hostOps0 (fun b => m (c, b)) (Proc.devRef .tc main_v0) = _
  after_results; rfl
theorem given_1 (k l) : (V m c main_v2 : FVec Ideal S1x1024x2048 .bf16) (ix3 0 k l) = Y m c (ix2 k l) := by
  show (after hostOps0 (fun b => m (c, b)) (Proc.devRef .tc main_v2) : FVec Ideal S1x1024x2048 .bf16) _ = _
  after_results; pointwise; first | done | rfl

theorem index : ∀ t : Fin cfg0.N, t.val < 8 ∧ win0_0.index t 0 = t.val / 2 ∧ win0_0.index t 1 = 0 ∧ win0_1.index t 0 = 0
    ∧ win0_1.index t 1 = 0 ∧ win0_1.index t 2 = t.val % 2 ∧ win0_2.index t 0 = t.val / 2 ∧ win0_2.index t 1 = t.val % 2 := by
  decide +kernel

theorem body (t : Fin cfg0.N) : outsAt0 m c t = k0_pay2 (F := Ideal) (k0_pay1 (F := Ideal)) (iblk m c 0 t) (iblk m c 1 t) := by
  unfold outsAt0
  frame_out

theorem place (t : Fin cfg0.N) (R l : Fin 1024) : ∃ (r : Fin 4096) (q : Fin 2048), ((cfg0.win 2).blk t).view.emb (ix2 R l) = ix2 r q
    ∧ r.val = win0_0.index t 0 * 1024 + R.val ∧ q.val = win0_1.index t 2 * 1024 + l.val := by
  have := index t
  exact ⟨⟨win0_0.index t 0 * 1024 + R.val, by omega⟩, ⟨win0_1.index t 2 * 1024 + l.val, by omega⟩, by blk_ext [] <;> omega, rfl, rfl⟩

theorem sum_at (x : FVec Ideal S4096x1024 .f32) (y : FVec Ideal S1024x2048 .f32) (r : Fin 4096) (q : Fin 2048) :
    (Cert.Reference3Ideal.Read.val_main_v0 (F := Ideal) x y (ix2 r q) : EReal) = ∑ k : Fin 1024, (show EReal from x (ix2 r k)) * y (ix2 k q) :=
  (Cert.Reference3Ideal.Read.val_main_v0_apply _ _ _).trans (Finset.sum_congr rfl fun k _ => congrArg₂ (· * ·) (congrArg x (ix2_eta _).symm) (congrArg y (ix2_eta _).symm))

theorem final : (dats m 0 c).arrAt 2 cfg0.N = (Cert.Reference3Ideal.Read.val_main_v0 (F := Ideal) (X m c) (Y m c) : FVec Ideal S4096x2048 .f32) := by
  refine (dats m 0 c).arrAt_eq_of_covers 2 _ (by decide +kernel) fun t _ y => ?_
  obtain ⟨R, l, rfl⟩ : ∃ R l : Fin 1024, y = ix2 R l := ⟨y 0, y 1, (ix2_eta y).symm⟩
  obtain ⟨r, q, hi, hr, hq⟩ := place t R l
  rw [after0_2, hi]
  have hz := body m c t
  generalize outsAt0 m c t = z at hz ⊢
  show z (ix2 R l) = _
  refine ((congrFun hz (ix2 R l)).trans ?_).trans (sum_at _ _ r q).symm
  refine (Products.once_nn _ _ R l).trans (Finset.sum_congr rfl fun k _ => congrArg₂ (· * ·) ?_ ?_)
  · rw [← given_0]
    blk_ext [iblk] <;> have := index t <;> omega
  · rw [← given_1]
    blk_ext [iblk] <;> have := index t <;> omega

theorem algebraic : Cert.algebraic_Kernel3Ideal_Reference3Ideal (hKernel3Ideal := facts) (hReference3Ideal := Cert.Reference3Ideal.Gen.facts) := by
  intro m ρ m' ρ' _ h
  refine ⟨fun c => (dats m 0 c).arrAt 2 cfg0.N, Value.run_blocks m ρ, ?_⟩
  refine (θ_run Cert.Reference3Ideal.defs _ _).mono (fun r k c => ⟨(k c).1.trans ?_, (k c).2⟩) (Cert.Reference3Ideal.Value.run (F := Ideal) m' ρ')
  rw [(h c).1, (h c).2]
  exact (final m c).symm

end Cert.Kernel3Ideal.Product

namespace Cert.Kernel4Ideal.Product

open Cert.Kernel4Ideal.Gen

variable (m : (ℓ : Loc nD τ sig) → Buf (Elt Ideal) ℓ) (c : Dev nD)

abbrev X : FVec Ideal S4096x2048 .f32 := m ((c : Thread nD τ).loc main_arg0)
abbrev Y : FVec Ideal S1024x2048 .f32 := m ((c : Thread nD τ).loc main_arg1)

theorem given_0 : (V m c main_v0 : FVec Ideal S4096x2048 .bf16) = X m c := by
  show after hostOps0 (fun b => m (c, b)) (Proc.devRef .tc main_v0) = _
  after_results; rfl
theorem given_1 (k l) : (V m c main_v2 : FVec Ideal S1x1024x2048 .bf16) (ix3 0 k l) = Y m c (ix2 k l) := by
  show (after hostOps0 (fun b => m (c, b)) (Proc.devRef .tc main_v2) : FVec Ideal S1x1024x2048 .bf16) _ = _
  after_results; pointwise; first | done | rfl

theorem index : ∀ t : Fin cfg0.N, t.val < 8 ∧ win0_0.index t 0 = t.val / 2 ∧ win0_0.index t 1 = t.val % 2 ∧ win0_1.index t 0 = 0
    ∧ win0_1.index t 1 = 0 ∧ win0_1.index t 2 = t.val % 2 ∧ win0_2.index t 0 = t.val / 2 ∧ win0_2.index t 1 = 0 := by
  decide +kernel

theorem place (t : Fin cfg0.N) (R l : Fin 1024) : ∃ (r : Fin 4096) (q : Fin 1024), ((cfg0.win 2).blk t).view.emb (ix2 R l) = ix2 r q
    ∧ r.val = t.val / 2 * 1024 + R.val ∧ q.val = l.val := by
  have := index t
  exact ⟨⟨t.val / 2 * 1024 + R.val, by omega⟩, l, by blk_ext [] <;> omega, rfl, rfl⟩

theorem sum_at (x : FVec Ideal S4096x2048 .f32) (y : FVec Ideal S1024x2048 .f32) (r : Fin 4096) (q : Fin 1024) :
    (Cert.Reference4Ideal.Read.val_main_v0 (F := Ideal) x y (ix2 r q) : EReal) = ∑ k : Fin 2048, (show EReal from x (ix2 r k)) * y (ix2 q k) :=
  (Cert.Reference4Ideal.Read.val_main_v0_apply _ _ _).trans (Finset.sum_congr rfl fun k _ => congrArg₂ (· * ·) (congrArg x (ix2_eta _).symm) (congrArg y (ix2_eta _).symm))

theorem final : (dats m 0 c).arrAt 2 cfg0.N = (Cert.Reference4Ideal.Read.val_main_v0 (F := Ideal) (X m c) (Y m c) : FVec Ideal S4096x1024 .f32) := by
  refine (dats m 0 c).arrAt_eq_of_covers 2 _ (by decide +kernel) fun t hf y => ?_
  obtain ⟨R, l, rfl⟩ : ∃ R l : Fin 1024, y = ix2 R l := ⟨y 0, y 1, (ix2_eta y).symm⟩
  have ht : t.val % 2 = 1 := (flush0_2 t).mp hf
  obtain ⟨r, q, hi, hr, hq⟩ := place t R l
  have e : (outsAt0 m c t.val t.isLt).1 = (outsAt0 m c t.val t.isLt).2 := by
    rw [outsAt0_B m c t (by omega) ht]; frame_out
  rw [after0_2, hi]
  show (outsAt0 m c t.val t.isLt).1 (ix2 R l) = _
  rw [e]
  refine (Products.swept (fun n h => (outsAt0 m c n h).2) 2 (fun t i k => (show EReal from iblk m c 0 t (ix2 (i 0) k)) * iblk m c 1 t (ix3 0 (i 1) k))
    ?_ ?_ (L := 2048) rfl t ht _ (fun k => (show EReal from X m c (ix2 r k)) * Y m c (ix2 q k)) fun s k hl hp => congrArg₂ (· * ·) ?_ ?_).trans (sum_at _ _ r q).symm
  · intro t h i
    rw [outsAt0_A m c t h (by omega)]
    frame_out
    exact (Products.step_nt _ _ _ i).trans (congrArg (· + _) (Cert.Kernel2Ideal.Mlp.zero1 i))
  · intro t h i
    rw [outsAt0_B m c t h (by omega)]
    frame_out [(Memref.isWhole_whole cc0_scratch0).read_unread]
    exact Products.step_nt _ _ _ i
  · rw [← given_0]
    blk_ext [iblk] <;> have := index ⟨_, hp⟩ <;> dsimp only at * <;> omega
  · rw [← given_1]
    blk_ext [iblk] <;> have := index ⟨_, hp⟩ <;> dsimp only at * <;> omega

theorem algebraic : Cert.algebraic_Kernel4Ideal_Reference4Ideal (hKernel4Ideal := facts) (hReference4Ideal := Cert.Reference4Ideal.Gen.facts) := by
  intro m ρ m' ρ' _ h
  refine ⟨fun c => (dats m 0 c).arrAt 2 cfg0.N, Value.run_blocks m ρ, ?_⟩
  refine (θ_run Cert.Reference4Ideal.defs _ _).mono (fun r k c => ⟨(k c).1.trans ?_, (k c).2⟩) (Cert.Reference4Ideal.Value.run (F := Ideal) m' ρ')
  rw [(h c).1, (h c).2]
  exact (final m c).symm

end Cert.Kernel4Ideal.Product

namespace Cert.Kernel5Ideal.Product

open Cert.Kernel5Ideal.Gen

variable (m : (ℓ : Loc nD τ sig) → Buf (Elt Ideal) ℓ) (c : Dev nD)

abbrev X : FVec Ideal S4096x1024 .f32 := m ((c : Thread nD τ).loc main_arg0)
abbrev Y : FVec Ideal S4096x2048 .f32 := m ((c : Thread nD τ).loc main_arg1)

theorem given_0 : (V m c main_v0 : FVec Ideal S4096x1024 .bf16) = X m c := by
  show after hostOps0 (fun b => m (c, b)) (Proc.devRef .tc main_v0) = _
  after_results; rfl
theorem given_1 : (V m c main_v1 : FVec Ideal S4096x2048 .bf16) = Y m c := by
  show after hostOps0 (fun b => m (c, b)) (Proc.devRef .tc main_v1) = _
  after_results; rfl

theorem index : ∀ t : Fin cfg0.N, t.val < 8 ∧ win0_0.index t 0 = t.val ∧ win0_0.index t 1 = 0 ∧ win0_1.index t 0 = t.val
    ∧ win0_1.index t 1 = 0 ∧ win0_2.index t 0 = 0 ∧ win0_2.index t 1 = 0 ∧ win0_2.index t 2 = 0 := by
  decide +kernel

theorem step (a : FVec Ideal S1024x2048 .f32) (x : FVec Ideal S512x1024 .bf16) (y : FVec Ideal S512x2048 .bf16) (i : S1024x2048.Idx) :
    k0_pay2 a x y i = a i + ∑ k : Fin 512, (show EReal from x (ix2 k (i 0))) * y (ix2 k (i 1)) := by
  obtain ⟨R, l, rfl⟩ : ∃ (R : Fin 1024) (l : Fin 2048), i = ix2 R l := ⟨i 0, i 1, (ix2_eta i).symm⟩
  exact Cert.Kernel2Ideal.Mlp.step6 a x y R l

/-- The slabs of columns that are written at the last point. -/
theorem slabs (t : Fin cfg0.N) (ht : t.val % 8 = 7) (y : S8x1024x256.Idx) (q : Fin 2048) (hq : q.val = 256 * (y 0).val + (y 2).val) :
    (outsAt0 m c t.val t.isLt).1 y = (outsAt0 m c t.val t.isLt).2 (ix2 (y 1) q) := by
  rw [outsAt0_C m c t (by omega) ht]
  frame_out
  canon_tiles x h
  all_goals
    generalize k0_pay2 (F := Ideal) _ _ _ = s
    first | unfold k0_pay3 k0_pay11 | unfold k0_pay4 | unfold k0_pay5 | unfold k0_pay6 | unfold k0_pay7 | unfold k0_pay8 | unfold k0_pay9 | unfold k0_pay10
    pointwise
    exact congrArg s (congrArg₂ ix2 (Fin.ext h1.symm) (Fin.ext (by dsimp only; omega)))

theorem sum_at (x : FVec Ideal S4096x1024 .f32) (y : FVec Ideal S4096x2048 .f32) (i : S8x1024x256.Idx) (q : Fin 2048) (hq : q.val = 256 * (i 0).val + (i 2).val) :
    (Cert.Reference5Ideal.Read.val_main_v4 (F := Ideal) x y i : EReal) = ∑ k : Fin 4096, (show EReal from x (ix2 k (i 1))) * y (ix2 k q) := by
  open Cert.Reference5Ideal.Read in
  refine (val_main_v3_apply (F := Ideal) x y i).trans ((val_main_v2_apply (F := Ideal) x y _).trans ((val_main_v1_apply (F := Ideal) x y _).trans ((val_main_v0_apply x y _).trans
    (Finset.sum_congr rfl fun k _ => (mul_comm _ _).trans (congrArg₂ (· * ·) (congrArg x ?_) (congrArg y ?_))))))
  all_goals
    have h1 : (i 1).val < 1024 := (i 1).isLt
    have h2 : (i 2).val < 256 := (i 2).isLt
    funext a
    match a with
    | 0 => rfl
    | 1 => exact Fin.ext (by simp only [ix2]; dsimp; omega)

theorem final : (dats m 0 c).arrAt 2 cfg0.N = (Cert.Reference5Ideal.Read.val_main_v4 (F := Ideal) (X m c) (Y m c) : FVec Ideal S8x1024x256 .bf16) := by
  refine (dats m 0 c).arrAt_eq_of_covers 2 _ (by decide +kernel) fun t hf y => ?_
  have ht : t.val % 8 = 7 := (flush0_2 t).mp hf
  have hi : ((cfg0.win 2).blk t).view.emb y = y := by have := index t; blk_ext [] <;> omega
  rw [after0_2, hi]
  have hy : (y 0).val < 8 := (y 0).isLt
  have hz : (y 2).val < 256 := (y 2).isLt
  obtain ⟨q, hq⟩ : ∃ q : Fin 2048, q.val = 256 * (y 0).val + (y 2).val := ⟨⟨_, by omega⟩, rfl⟩
  show (outsAt0 m c t.val t.isLt).1 y = _
  rw [slabs m c t ht y q hq]
  refine (Products.swept (fun n h => (outsAt0 m c n h).2) 8 (fun t i k => (show EReal from iblk m c 0 t (ix2 k (i 0))) * iblk m c 1 t (ix2 k (i 1)))
    ?_ ?_ (L := 4096) rfl t ht _ (fun k => (show EReal from X m c (ix2 k (y 1))) * Y m c (ix2 k q)) fun s k hl hp => congrArg₂ (· * ·) ?_ ?_).trans (sum_at _ _ y q hq).symm
  · intro t h i
    rw [outsAt0_A m c t h (by omega)]
    frame_out
    exact (step _ _ _ i).trans (congrArg (· + _) (Cert.Kernel2Ideal.Mlp.zero6 i))
  · intro t h i
    by_cases h' : t.val % 8 = 7
    · rw [outsAt0_C m c t h h']
      frame_out [(Memref.isWhole_whole cc0_scratch0).read_unread]
      exact step _ _ _ i
    · rw [outsAt0_B m c t h h']
      frame_out [(Memref.isWhole_whole cc0_scratch0).read_unread]
      exact step _ _ _ i
  · rw [← given_0]
    blk_ext [iblk] <;> have := index ⟨_, hp⟩ <;> dsimp only at * <;> omega
  · rw [← given_1]
    blk_ext [iblk] <;> have := index ⟨_, hp⟩ <;> dsimp only at * <;> omega

theorem algebraic : Cert.algebraic_Kernel5Ideal_Reference5Ideal (hKernel5Ideal := facts) (hReference5Ideal := Cert.Reference5Ideal.Gen.facts) := by
  intro m ρ m' ρ' _ h
  refine ⟨fun c => (dats m 0 c).arrAt 2 cfg0.N, Value.run_blocks m ρ, ?_⟩
  refine (θ_run Cert.Reference5Ideal.defs _ _).mono (fun r k c => ⟨(k c).1.trans ?_, (k c).2⟩) (Cert.Reference5Ideal.Value.run (F := Ideal) m' ρ')
  rw [(h c).1, (h c).2]
  exact (final m c).symm

end Cert.Kernel5Ideal.Product

end
-- ==== Proof.Output.lean ====
/-
  The out-projection: the product with the norm that follows it, and the gradients at its two operands.
-/
module

public import proofs.«01_k».proof.Proof.Products
public import proofs.«01_k».proof.Proof.Ref2Value
public import proofs.«01_k».proof.Proof.Gen.Kernel6Ideal.Value
public import proofs.«01_k».proof.Proof.Gen.Reference6Ideal.Read
public import proofs.«01_k».proof.Proof.Gen.Kernel7Ideal.Value
public import proofs.«01_k».proof.Proof.Gen.Reference7Ideal.Read
public import proofs.«01_k».proof.Proof.Gen.Kernel8Ideal.Value
public import proofs.«01_k».proof.Proof.Gen.Reference8Ideal.Read
public import proofs.«01_k».proof.Defs

@[expose] public section

noncomputable section

open Idealize.ShloMosaic Idealize.ShloMosaic.TcCoe Idealize.ShloMosaic.Tactic Idealize.ShloMosaic.StableHlo Idealize.SL.Sem

namespace Cert.Reference6Ideal.Norm

open Cert.Layer Cert.Reference2Ideal.Grad Cert.Reference6Ideal Cert.Reference6Ideal.Gen Cert.Reference6Ideal.Read

variable (x0 : FVec Ideal S4096x1024 .f32) (x1 : FVec Ideal S1024x1024 .f32) (x2 : FVec Ideal S4096x1024 .f32) (x3 x4 : FVec Ideal S1024 .f32)

/-- The rows that are normed. -/
abbrev P : Fin 4096 → Fin 1024 → EReal := resid (mat x2) (mul (mat x0) (mat x1))

theorem rv0 (i : S4096x1024.Idx) : (show EReal from val_main_v0 (F := Ideal) x0 x1 i) = mul (mat x0) (mat x1) (i 0) (i 1) := by
  rw [val_main_v0_apply]
  exact Finset.sum_congr rfl fun k _ => congrArg₂ (· * ·) (mat_at x0 _) (mat_at x1 _)

theorem rv3 (i : S4096x1024.Idx) : (show EReal from val_main_v3 (F := Ideal) x0 x1 x2 i) = P x0 x1 x2 (i 0) (i 1) := by
  rw [val_main_v3_apply, val_main_v2_apply]
  exact congrArg₂ (· + ·) (congrArg (cα * ·) (mat_at x2 i)) (rv0 x0 x1 i)

theorem rv7 (i : S4096x1.Idx) : (show EReal from val_main_v7 (F := Ideal) x0 x1 x2 i) = mean (P x0 x1 x2 (i 0)) := by
  rw [val_main_v7_apply, val_main_v5_apply, val_main_v4_apply]
  exact congrArg (Ideal.div · cN) ((zero_sum _).trans (Finset.sum_congr rfl fun k _ => rv3 x0 x1 x2 _))

theorem rv9 (i : S4096x1024.Idx) : (show EReal from val_main_v9 (F := Ideal) x0 x1 x2 i) = P x0 x1 x2 (i 0) (i 1) - mean (P x0 x1 x2 (i 0)) := by
  rw [val_main_v9_apply, val_main_v8_apply]
  exact congrArg₂ (· - ·) (rv3 x0 x1 x2 i) (rv7 x0 x1 x2 _)

theorem rv16 (i : S4096x1024.Idx) : (show EReal from val_main_v16 (F := Ideal) x0 x1 x2 i) = P x0 x1 x2 (i 0) (i 1) - mean (P x0 x1 x2 (i 0)) := by
  rw [val_main_v16_apply, val_main_v15_apply]
  exact congrArg₂ (· - ·) (rv3 x0 x1 x2 i) (rv7 x0 x1 x2 _)

theorem rv18 (i : S4096x1.Idx) : (show EReal from val_main_v18 (F := Ideal) x0 x1 x2 i) = dev (P x0 x1 x2 (i 0)) := by
  rw [val_main_v18_apply, val_main_v14_apply, val_main_v12_apply, val_main_v11_apply]
  refine congrArg (Ideal.div · cN + cE) ((zero_sum _).trans (Finset.sum_congr rfl fun k _ => ?_))
  rw [val_main_v10_apply]
  exact congrArg₂ (· * ·) (rv9 x0 x1 x2 _) (rv9 x0 x1 x2 _)

theorem rv27 (i : S4096x1024.Idx) : (show EReal from val_main_v27 (F := Ideal) x0 x1 x2 x3 x4 i) = lnorm (P x0 x1 x2 (i 0)) (vec x3) (vec x4) (i 1) := by
  rw [val_main_v27_apply, val_main_v24_apply, val_main_v21_apply, val_main_v20_apply, val_main_v19_apply, val_main_v23_apply, val_main_v22_apply, val_main_v26_apply, val_main_v25_apply]
  exact congrArg₂ (· + ·) (congrArg₂ (· * ·) (congrArg₂ (· * ·) (rv16 x0 x1 x2 i) (congrArg Ideal.rsqrt (rv18 x0 x1 x2 _))) (vec_at x3 _)) (vec_at x4 _)

end Cert.Reference6Ideal.Norm

namespace Cert.Kernel6Ideal.Product

open Cert.Layer Cert.Reference2Ideal.Grad Cert.Reference6Ideal.Norm Cert.Kernel6Ideal.Gen

variable (m : (ℓ : Loc nD τ sig) → Buf (Elt Ideal) ℓ) (c : Dev nD)

abbrev X : FVec Ideal S4096x1024 .f32 := m ((c : Thread nD τ).loc main_arg0)
abbrev Y : FVec Ideal S1024x1024 .f32 := m ((c : Thread nD τ).loc main_arg1)
abbrev Z : FVec Ideal S4096x1024 .f32 := m ((c : Thread nD τ).loc main_arg2)
abbrev G : FVec Ideal S1024 .f32 := m ((c : Thread nD τ).loc main_arg3)
abbrev B : FVec Ideal S1024 .f32 := m ((c : Thread nD τ).loc main_arg4)

theorem given_0 : (V m c main_v0 : FVec Ideal S4096x1024 .bf16) = X m c := by
  show after hostOps0 (fun b => m (c, b)) (Proc.devRef .tc main_v0) = _
  after_results; rfl
theorem given_1 (k l) : (V m c main_v2 : FVec Ideal S1x1024x1024 .bf16) (ix3 0 k l) = Y m c (ix2 k l) := by
  show (after hostOps0 (fun b => m (c, b)) (Proc.devRef .tc main_v2) : FVec Ideal S1x1024x1024 .bf16) _ = _
  after_results; pointwise; first | done | rfl
theorem given_3 (e) : (V m c main_v3 : FVec Ideal S1x1024 .f32) (ix2 0 e) = G m c (ix1 e) := by
  show (after hostOps0 (fun b => m (c, b)) (Proc.devRef .tc main_v3) : FVec Ideal S1x1024 .f32) _ = _
  after_results; pointwise; first | done | rfl
theorem given_4 (e) : (V m c main_v4 : FVec Ideal S1x1024 .f32) (ix2 0 e) = B m c (ix1 e) := by
  show (after hostOps0 (fun b => m (c, b)) (Proc.devRef .tc main_v4) : FVec Ideal S1x1024 .f32) _ = _
  after_results; pointwise; first | done | rfl

theorem index : ∀ t : Fin cfg0.N, t.val < 4 ∧ (win0_0.index t 0 = t.val ∧ win0_0.index t 1 = 0) ∧ (win0_1.index t 0 = 0 ∧ win0_1.index t 1 = 0 ∧ win0_1.index t 2 = 0)
    ∧ (win0_2.index t 0 = t.val ∧ win0_2.index t 1 = 0) ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = t.val ∧ win0_6.index t 1 = 0) ∧ (win0_7.index t 0 = t.val ∧ win0_7.index t 1 = 0) := by
  decide +kernel

/-- The product of a point's blocks. -/
abbrev acc (t : Fin cfg0.N) : FVec Ideal S1024x1024 .f32 := k0_pay2 (F := Ideal) (k0_pay1 (F := Ideal)) (iblk m c 0 t) (iblk m c 1 t)

theorem body (t : Fin cfg0.N) : outsAt0 m c t = (acc m c t, k0_pay3 (F := Ideal) (acc m c t) (iblk m c 2 t) (iblk m c 3 t) (iblk m c 4 t),
    k0_pay4 (F := Ideal) (acc m c t) (iblk m c 2 t) (iblk m c 3 t) (iblk m c 4 t)) := by
  unfold outsAt0
  refine Prod.ext ?_ (Prod.ext ?_ ?_) <;> frame_out

theorem place (t : Fin cfg0.N) (R l : Fin 1024) : ∃ r : Fin 4096, r.val = t.val * 1024 + R.val ∧ ((cfg0.win 5).blk t).view.emb (ix2 R l) = ix2 r l
    ∧ ((cfg0.win 6).blk t).view.emb (ix2 R l) = ix2 r l ∧ ((cfg0.win 7).blk t).view.emb (ix2 R l) = ix2 r l := by
  have := index t
  exact ⟨⟨t.val * 1024 + R.val, by omega⟩, rfl, by blk_ext [] <;> omega, by blk_ext [] <;> omega, by blk_ext [] <;> omega⟩

theorem acc_at (t : Fin cfg0.N) (R l : Fin 1024) (r : Fin 4096) (hr : r.val = t.val * 1024 + R.val) : acc m c t (ix2 R l) = mul (mat (X m c)) (mat (Y m c)) r l := by
  have := index t
  refine (Products.once_nn _ _ R l).trans (Finset.sum_congr rfl fun k _ => congrArg₂ (· * ·) ?_ ?_)
  · show _ = X m c (ix2 r k)
    rw [← given_0]
    blk_ext [iblk] <;> omega
  · show _ = Y m c (ix2 k l)
    rw [← given_1]
    blk_ext [iblk] <;> omega

theorem norm_at (t : Fin cfg0.N) (R l : Fin 1024) (r : Fin 4096) (hr : r.val = t.val * 1024 + R.val) :
    k0_pay3 (F := Ideal) (acc m c t) (iblk m c 2 t) (iblk m c 3 t) (iblk m c 4 t) (ix2 R l) = lnorm (P (X m c) (Y m c) (Z m c) r) (vec (G m c)) (vec (B m c)) l := by
  have := index t
  have h1 : (fun e => cα * (show EReal from iblk m c 2 t (ix2 R e)) + acc m c t (ix2 R e)) = P (X m c) (Y m c) (Z m c) r := funext fun e =>
    congrArg₂ (cα * · + ·) (by
      show _ = Z m c (ix2 r e)
      rw [← show V m c main_arg2 = Z m c from V_main_arg2 m c]
      blk_ext [iblk] <;> omega) (acc_at m c t R e r hr)
  have h2 : (fun e => (show EReal from iblk m c 3 t (ix2 0 e))) = vec (G m c) := funext fun e => by
    show _ = G m c (ix1 e)
    rw [← given_3]
    blk_ext [iblk] <;> omega
  have h3 : (fun e => (show EReal from iblk m c 4 t (ix2 0 e))) = vec (B m c) := funext fun e => by
    show _ = B m c (ix1 e)
    rw [← given_4]
    blk_ext [iblk] <;> omega
  refine (Cert.Kernel2Ideal.Mlp.norm1 (acc m c t) (iblk m c 2 t) (iblk m c 3 t) (iblk m c 4 t) R l).trans ?_
  rw [← h1, ← h2, ← h3]

theorem final_5 : (dats m 0 c).arrAt 5 cfg0.N = (Cert.Reference6Ideal.Read.val_main_v0 (F := Ideal) (X m c) (Y m c) : FVec Ideal S4096x1024 .f32) := by
  refine (dats m 0 c).arrAt_eq_of_covers 5 _ (by decide +kernel) fun t _ y => ?_
  obtain ⟨R, l, rfl⟩ : ∃ R l : Fin 1024, y = ix2 R l := ⟨y 0, y 1, (ix2_eta y).symm⟩
  obtain ⟨r, hr, hi, -, -⟩ := place t R l
  rw [after0_5, hi]
  have hz := body m c t
  generalize outsAt0 m c t = z at hz ⊢
  exact (congrFun (congrArg Prod.fst hz) (ix2 R l)).trans ((acc_at m c t R l r hr).trans (rv0 (X m c) (Y m c) (ix2 r l)).symm)

theorem final_6 : (dats m 0 c).arrAt 6 cfg0.N = (Cert.Reference6Ideal.Read.val_main_v27 (F := Ideal) (X m c) (Y m c) (Z m c) (G m c) (B m c) : FVec Ideal S4096x1024 .f32) := by
  refine (dats m 0 c).arrAt_eq_of_covers 6 _ (by decide +kernel) fun t _ y => ?_
  obtain ⟨R, l, rfl⟩ : ∃ R l : Fin 1024, y = ix2 R l := ⟨y 0, y 1, (ix2_eta y).symm⟩
  obtain ⟨r, hr, -, hi, -⟩ := place t R l
  rw [after0_6, hi]
  have hz := body m c t
  generalize outsAt0 m c t = z at hz ⊢
  exact (congrFun (congrArg (·.2.1) hz) (ix2 R l)).trans ((norm_at m c t R l r hr).trans (rv27 (X m c) (Y m c) (Z m c) (G m c) (B m c) (ix2 r l)).symm)

theorem final_7 : (dats m 0 c).arrAt 7 cfg0.N = (Cert.Reference6Ideal.Read.val_main_v28 (F := Ideal) (X m c) (Y m c) (Z m c) (G m c) (B m c) : FVec Ideal S4096x1024 .bf16) := by
  refine (dats m 0 c).arrAt_eq_of_covers 7 _ (by decide +kernel) fun t _ y => ?_
  obtain ⟨R, l, rfl⟩ : ∃ R l : Fin 1024, y = ix2 R l := ⟨y 0, y 1, (ix2_eta y).symm⟩
  obtain ⟨r, hr, -, -, hi⟩ := place t R l
  rw [after0_7, hi]
  have hz := body m c t
  generalize outsAt0 m c t = z at hz ⊢
  exact (congrFun (congrArg (·.2.2) hz) (ix2 R l)).trans ((norm_at m c t R l r hr).trans (rv27 (X m c) (Y m c) (Z m c) (G m c) (B m c) (ix2 r l)).symm)

theorem algebraic : Cert.algebraic_Kernel6Ideal_Reference6Ideal (hKernel6Ideal := facts) (hReference6Ideal := Cert.Reference6Ideal.Gen.facts) := by
  intro m ρ m' ρ' _ h
  refine ⟨fun c => (dats m 0 c).arrAt 5 cfg0.N, fun c => (dats m 0 c).arrAt 6 cfg0.N, fun c => (dats m 0 c).arrAt 7 cfg0.N, Value.run_blocks m ρ, ?_⟩
  refine (θ_run Cert.Reference6Ideal.defs _ _).mono (fun r k c => ⟨(k c).1.trans ?_, (k c).2.1.trans ?_, (k c).2.2.1.trans ?_, (k c).2.2.2⟩) (Cert.Reference6Ideal.Value.run (F := Ideal) m' ρ')
  all_goals
    obtain ⟨h0, h1, h2, h3, h4⟩ := h c
  · rw [h0, h1]
    exact (final_5 m c).symm
  · rw [h0, h1, h2, h3, h4]
    exact (final_6 m c).symm
  · rw [h0, h1, h2, h3, h4]
    exact (final_7 m c).symm

end Cert.Kernel6Ideal.Product

namespace Cert.Kernel7Ideal.Product

open Cert.Kernel7Ideal.Gen

variable (m : (ℓ : Loc nD τ sig) → Buf (Elt Ideal) ℓ) (c : Dev nD)

abbrev X : FVec Ideal S4096x1024 .f32 := m ((c : Thread nD τ).loc main_arg0)
abbrev Y : FVec Ideal S1024x1024 .f32 := m ((c : Thread nD τ).loc main_arg1)

theorem given_0 : (V m c main_v0 : FVec Ideal S4096x1024 .bf16) = X m c := by
  show after hostOps0 (fun b => m (c, b)) (Proc.devRef .tc main_v0) = _
  after_results; rfl
theorem given_1 (k l) : (V m c main_v2 : FVec Ideal S1x1024x1024 .bf16) (ix3 0 k l) = Y m c (ix2 k l) := by
  show (after hostOps0 (fun b => m (c, b)) (Proc.devRef .tc main_v2) : FVec Ideal S1x1024x1024 .bf16) _ = _
  after_results; pointwise; first | done | rfl

theorem index : ∀ t : Fin cfg0.N, t.val < 4 ∧ win0_0.index t 0 = t.val ∧ win0_0.index t 1 = 0 ∧ win0_1.index t 0 = 0
    ∧ win0_1.index t 1 = 0 ∧ win0_1.index t 2 = 0 ∧ win0_2.index t 0 = t.val ∧ win0_2.index t 1 = 0 := by
  decide +kernel

theorem body (t : Fin cfg0.N) : outsAt0 m c t = k0_pay2 (F := Ideal) (k0_pay1 (F := Ideal)) (iblk m c 0 t) (iblk m c 1 t) := by
  unfold outsAt0
  frame_out

theorem place (t : Fin cfg0.N) (R l : Fin 1024) : ∃ (r : Fin 4096) (q : Fin 1024), ((cfg0.win 2).blk t).view.emb (ix2 R l) = ix2 r q
    ∧ r.val = win0_0.index t 0 * 1024 + R.val ∧ q.val = l.val := by
  have := index t
  exact ⟨⟨win0_0.index t 0 * 1024 + R.val, by omega⟩, l, by blk_ext [] <;> omega, rfl, rfl⟩

theorem sum_at (x : FVec Ideal S4096x1024 .f32) (y : FVec Ideal S1024x1024 .f32) (r : Fin 4096) (q : Fin 1024) :
    (Cert.Reference7Ideal.Read.val_main_v0 (F := Ideal) x y (ix2 r q) : EReal) = ∑ k : Fin 1024, (show EReal from x (ix2 r k)) * y (ix2 q k) :=
  (Cert.Reference7Ideal.Read.val_main_v0_apply _ _ _).trans (Finset.sum_congr rfl fun k _ => congrArg₂ (· * ·) (congrArg x (ix2_eta _).symm) (congrArg y (ix2_eta _).symm))

theorem final : (dats m 0 c).arrAt 2 cfg0.N = (Cert.Reference7Ideal.Read.val_main_v0 (F := Ideal) (X m c) (Y m c) : FVec Ideal S4096x1024 .f32) := by
  refine (dats m 0 c).arrAt_eq_of_covers 2 _ (by decide +kernel) fun t _ y => ?_
  obtain ⟨R, l, rfl⟩ : ∃ R l : Fin 1024, y = ix2 R l := ⟨y 0, y 1, (ix2_eta y).symm⟩
  obtain ⟨r, q, hi, hr, hq⟩ := place t R l
  rw [after0_2, hi]
  have hz := body m c t
  generalize outsAt0 m c t = z at hz ⊢
  show z (ix2 R l) = _
  refine ((congrFun hz (ix2 R l)).trans ?_).trans (sum_at _ _ r q).symm
  refine (Products.once_nt _ _ R l).trans (Finset.sum_congr rfl fun k _ => congrArg₂ (· * ·) ?_ ?_)
  · rw [← given_0]
    blk_ext [iblk] <;> have := index t <;> omega
  · rw [← given_1]
    blk_ext [iblk] <;> have := index t <;> omega

theorem algebraic : Cert.algebraic_Kernel7Ideal_Reference7Ideal (hKernel7Ideal := facts) (hReference7Ideal := Cert.Reference7Ideal.Gen.facts) := by
  intro m ρ m' ρ' _ h
  refine ⟨fun c => (dats m 0 c).arrAt 2 cfg0.N, Value.run_blocks m ρ, ?_⟩
  refine (θ_run Cert.Reference7Ideal.defs _ _).mono (fun r k c => ⟨(k c).1.trans ?_, (k c).2⟩) (Cert.Reference7Ideal.Value.run (F := Ideal) m' ρ')
  rw [(h c).1, (h c).2]
  exact (final m c).symm

end Cert.Kernel7Ideal.Product

namespace Cert.Kernel8Ideal.Product

open Cert.Kernel8Ideal.Gen

variable (m : (ℓ : Loc nD τ sig) → Buf (Elt Ideal) ℓ) (c : Dev nD)

abbrev X : FVec Ideal S4096x1024 .f32 := m ((c : Thread nD τ).loc main_arg0)
abbrev Y : FVec Ideal S4096x1024 .f32 := m ((c : Thread nD τ).loc main_arg1)

theorem given_0 : (V m c main_v0 : FVec Ideal S4096x1024 .bf16) = X m c := by
  show after hostOps0 (fun b => m (c, b)) (Proc.devRef .tc main_v0) = _
  after_results; rfl
theorem given_1 : (V m c main_v1 : FVec Ideal S4096x1024 .bf16) = Y m c := by
  show after hostOps0 (fun b => m (c, b)) (Proc.devRef .tc main_v1) = _
  after_results; rfl

theorem index : ∀ t : Fin cfg0.N, t.val < 8 ∧ win0_0.index t 0 = t.val ∧ win0_0.index t 1 = 0 ∧ win0_1.index t 0 = t.val
    ∧ win0_1.index t 1 = 0 ∧ win0_2.index t 0 = 0 ∧ win0_2.index t 1 = 0 := by
  decide +kernel

theorem step (a : FVec Ideal S1024x1024 .f32) (x : FVec Ideal S512x1024 .bf16) (y : FVec Ideal S512x1024 .bf16) (i : S1024x1024.Idx) :
    k0_pay2 a x y i = a i + ∑ k : Fin 512, (show EReal from x (ix2 k (i 0))) * y (ix2 k (i 1)) := by
  obtain ⟨R, l, rfl⟩ : ∃ (R : Fin 1024) (l : Fin 1024), i = ix2 R l := ⟨i 0, i 1, (ix2_eta i).symm⟩
  unfold k0_pay2
  pointwise
  first | done | rfl

theorem place (t : Fin cfg0.N) (R l : Fin 1024) : ∃ r q : Fin 1024, ((cfg0.win 2).blk t).view.emb (ix2 R l) = ix2 r q ∧ r.val = R.val ∧ q.val = l.val := by
  have := index t
  exact ⟨R, l, by blk_ext [] <;> omega, rfl, rfl⟩

theorem sum_at (x : FVec Ideal S4096x1024 .f32) (y : FVec Ideal S4096x1024 .f32) (r : Fin 1024) (q : Fin 1024) :
    (Cert.Reference8Ideal.Read.val_main_v2 (F := Ideal) x y (ix2 r q) : EReal) = ∑ k : Fin 4096, (show EReal from x (ix2 k r)) * y (ix2 k q) := by
  open Cert.Reference8Ideal.Read in
  exact (val_main_v1_apply (F := Ideal) x y _).trans ((val_main_v0_apply x y _).trans
    (Finset.sum_congr rfl fun k _ => (mul_comm _ _).trans (congrArg₂ (· * ·) (congrArg x (ix2_eta _).symm) (congrArg y (ix2_eta _).symm))))

theorem final : (dats m 0 c).arrAt 2 cfg0.N = (Cert.Reference8Ideal.Read.val_main_v2 (F := Ideal) (X m c) (Y m c) : FVec Ideal S1024x1024 .bf16) := by
  refine (dats m 0 c).arrAt_eq_of_covers 2 _ (by decide +kernel) fun t hf y => ?_
  have ht : t.val % 8 = 7 := (flush0_2 t).mp hf
  obtain ⟨R, l, rfl⟩ : ∃ (R : Fin 1024) (l : Fin 1024), y = ix2 R l := ⟨y 0, y 1, (ix2_eta y).symm⟩
  obtain ⟨r, q, hi, hr, hq⟩ := place t R l
  have e : (outsAt0 m c t.val t.isLt).1 = (outsAt0 m c t.val t.isLt).2 := by
    rw [outsAt0_C m c t (by omega) ht]; frame_out; rfl
  rw [after0_2, hi]
  show (outsAt0 m c t.val t.isLt).1 (ix2 R l) = _
  rw [e]
  refine (Products.swept (fun n h => (outsAt0 m c n h).2) 8 (fun t i k => (show EReal from iblk m c 0 t (ix2 k (i 0))) * iblk m c 1 t (ix2 k (i 1)))
    ?_ ?_ (L := 4096) rfl t ht _ (fun k => (show EReal from X m c (ix2 k r)) * Y m c (ix2 k q)) fun s k hl hp => congrArg₂ (· * ·) ?_ ?_).trans (sum_at _ _ r q).symm
  · intro t h i
    rw [outsAt0_A m c t h (by omega)]
    frame_out
    exact (step _ _ _ i).trans (congrArg (· + _) (Cert.Kernel2Ideal.Mlp.zero1 i))
  · intro t h i
    by_cases h' : t.val % 8 = 7
    · rw [outsAt0_C m c t h h']
      frame_out [(Memref.isWhole_whole cc0_scratch0).read_unread]
      exact step _ _ _ i
    · rw [outsAt0_B m c t h h']
      frame_out [(Memref.isWhole_whole cc0_scratch0).read_unread]
      exact step _ _ _ i
  · rw [← given_0]
    blk_ext [iblk] <;> have := index ⟨_, hp⟩ <;> dsimp only at * <;> omega
  · rw [← given_1]
    blk_ext [iblk] <;> have := index ⟨_, hp⟩ <;> dsimp only at * <;> omega

theorem algebraic : Cert.algebraic_Kernel8Ideal_Reference8Ideal (hKernel8Ideal := facts) (hReference8Ideal := Cert.Reference8Ideal.Gen.facts) := by
  intro m ρ m' ρ' _ h
  refine ⟨fun c => (dats m 0 c).arrAt 2 cfg0.N, Value.run_blocks m ρ, ?_⟩
  refine (θ_run Cert.Reference8Ideal.defs _ _).mono (fun r k c => ⟨(k c).1.trans ?_, (k c).2⟩) (Cert.Reference8Ideal.Value.run (F := Ideal) m' ρ')
  rw [(h c).1, (h c).2]
  exact (final m c).symm

end Cert.Kernel8Ideal.Product

end
-- ==== Proof.Hybrid.lean ====
/-
  The hybrid layers' in-projection: the product, and the gradients at its two operands.
-/
module

public import proofs.«01_k».proof.Proof.Products
public import proofs.«01_k».proof.Proof.Gen.Kernel9Ideal.Value
public import proofs.«01_k».proof.Proof.Gen.Reference9Ideal.Read
public import proofs.«01_k».proof.Proof.Gen.Kernel10Ideal.Value
public import proofs.«01_k».proof.Proof.Gen.Reference10Ideal.Read
public import proofs.«01_k».proof.Proof.Gen.Kernel11Ideal.Value
public import proofs.«01_k».proof.Proof.Gen.Reference11Ideal.Read
public import proofs.«01_k».proof.Defs

@[expose] public section

noncomputable section

open Idealize.ShloMosaic Idealize.ShloMosaic.TcCoe Idealize.ShloMosaic.Tactic Idealize.ShloMosaic.StableHlo Idealize.SL.Sem

namespace Cert.Kernel9Ideal.Product

open Cert.Kernel9Ideal.Gen

variable (m : (ℓ : Loc nD τ sig) → Buf (Elt Ideal) ℓ) (c : Dev nD)

abbrev X : FVec Ideal S4096x1024 .f32 := m ((c : Thread nD τ).loc main_arg0)
abbrev Y : FVec Ideal S1024x3072 .f32 := m ((c : Thread nD τ).loc main_arg1)

theorem given_0 : (V m c main_v0 : FVec Ideal S4096x1024 .bf16) = X m c := by
  show after hostOps0 (fun b => m (c, b)) (Proc.devRef .tc main_v0) = _
  after_results; rfl
theorem given_1 (k l) : (V m c main_v2 : FVec Ideal S1x1024x3072 .bf16) (ix3 0 k l) = Y m c (ix2 k l) := by
  show (after hostOps0 (fun b => m (c, b)) (Proc.devRef .tc main_v2) : FVec Ideal S1x1024x3072 .bf16) _ = _
  after_results; pointwise; first | done | rfl

theorem index : ∀ t : Fin cfg0.N, t.val < 12 ∧ win0_0.index t 0 = t.val / 3 ∧ win0_0.index t 1 = 0 ∧ win0_1.index t 0 = 0
    ∧ win0_1.index t 1 = 0 ∧ win0_1.index t 2 = t.val % 3 ∧ win0_2.index t 0 = t.val / 3 ∧ win0_2.index t 1 = t.val % 3 := by
  decide +kernel

theorem body (t : Fin cfg0.N) : outsAt0 m c t = k0_pay2 (F := Ideal) (k0_pay1 (F := Ideal)) (iblk m c 0 t) (iblk m c 1 t) := by
  unfold outsAt0
  frame_out

theorem place (t : Fin cfg0.N) (R l : Fin 1024) : ∃ (r : Fin 4096) (q : Fin 3072), ((cfg0.win 2).blk t).view.emb (ix2 R l) = ix2 r q
    ∧ r.val = win0_0.index t 0 * 1024 + R.val ∧ q.val = win0_1.index t 2 * 1024 + l.val := by
  have := index t
  exact ⟨⟨win0_0.index t 0 * 1024 + R.val, by omega⟩, ⟨win0_1.index t 2 * 1024 + l.val, by omega⟩, by blk_ext [] <;> omega, rfl, rfl⟩

theorem sum_at (x : FVec Ideal S4096x1024 .f32) (y : FVec Ideal S1024x3072 .f32) (r : Fin 4096) (q : Fin 3072) :
    (Cert.Reference9Ideal.Read.val_main_v0 (F := Ideal) x y (ix2 r q) : EReal) = ∑ k : Fin 1024, (show EReal from x (ix2 r k)) * y (ix2 k q) :=
  (Cert.Reference9Ideal.Read.val_main_v0_apply _ _ _).trans (Finset.sum_congr rfl fun k _ => congrArg₂ (· * ·) (congrArg x (ix2_eta _).symm) (congrArg y (ix2_eta _).symm))

theorem final : (dats m 0 c).arrAt 2 cfg0.N = (Cert.Reference9Ideal.Read.val_main_v0 (F := Ideal) (X m c) (Y m c) : FVec Ideal S4096x3072 .f32) := by
  refine (dats m 0 c).arrAt_eq_of_covers 2 _ (by decide +kernel) fun t _ y => ?_
  obtain ⟨R, l, rfl⟩ : ∃ R l : Fin 1024, y = ix2 R l := ⟨y 0, y 1, (ix2_eta y).symm⟩
  obtain ⟨r, q, hi, hr, hq⟩ := place t R l
  rw [after0_2, hi]
  have hz := body m c t
  generalize outsAt0 m c t = z at hz ⊢
  show z (ix2 R l) = _
  refine ((congrFun hz (ix2 R l)).trans ?_).trans (sum_at _ _ r q).symm
  refine (Products.once_nn _ _ R l).trans (Finset.sum_congr rfl fun k _ => congrArg₂ (· * ·) ?_ ?_)
  · rw [← given_0]
    blk_ext [iblk] <;> have := index t <;> omega
  · rw [← given_1]
    blk_ext [iblk] <;> have := index t <;> omega

theorem algebraic : Cert.algebraic_Kernel9Ideal_Reference9Ideal (hKernel9Ideal := facts) (hReference9Ideal := Cert.Reference9Ideal.Gen.facts) := by
  intro m ρ m' ρ' _ h
  refine ⟨fun c => (dats m 0 c).arrAt 2 cfg0.N, Value.run_blocks m ρ, ?_⟩
  refine (θ_run Cert.Reference9Ideal.defs _ _).mono (fun r k c => ⟨(k c).1.trans ?_, (k c).2⟩) (Cert.Reference9Ideal.Value.run (F := Ideal) m' ρ')
  rw [(h c).1, (h c).2]
  exact (final m c).symm

end Cert.Kernel9Ideal.Product

namespace Cert.Kernel10Ideal.Product

open Cert.Kernel10Ideal.Gen

variable (m : (ℓ : Loc nD τ sig) → Buf (Elt Ideal) ℓ) (c : Dev nD)

abbrev X : FVec Ideal S4096x3072 .f32 := m ((c : Thread nD τ).loc main_arg0)
abbrev Y : FVec Ideal S1024x3072 .f32 := m ((c : Thread nD τ).loc main_arg1)

theorem given_0 : (V m c main_v0 : FVec Ideal S4096x3072 .bf16) = X m c := by
  show after hostOps0 (fun b => m (c, b)) (Proc.devRef .tc main_v0) = _
  after_results; rfl
theorem given_1 (k l) : (V m c main_v2 : FVec Ideal S1x1024x3072 .bf16) (ix3 0 k l) = Y m c (ix2 k l) := by
  show (after hostOps0 (fun b => m (c, b)) (Proc.devRef .tc main_v2) : FVec Ideal S1x1024x3072 .bf16) _ = _
  after_results; pointwise; first | done | rfl

theorem index : ∀ t : Fin cfg0.N, t.val < 12 ∧ win0_0.index t 0 = t.val / 3 ∧ win0_0.index t 1 = t.val % 3 ∧ win0_1.index t 0 = 0
    ∧ win0_1.index t 1 = 0 ∧ win0_1.index t 2 = t.val % 3 ∧ win0_2.index t 0 = t.val / 3 ∧ win0_2.index t 1 = 0 := by
  decide +kernel

theorem place (t : Fin cfg0.N) (R l : Fin 1024) : ∃ (r : Fin 4096) (q : Fin 1024), ((cfg0.win 2).blk t).view.emb (ix2 R l) = ix2 r q
    ∧ r.val = t.val / 3 * 1024 + R.val ∧ q.val = l.val := by
  have := index t
  exact ⟨⟨t.val / 3 * 1024 + R.val, by omega⟩, l, by blk_ext [] <;> omega, rfl, rfl⟩

theorem sum_at (x : FVec Ideal S4096x3072 .f32) (y : FVec Ideal S1024x3072 .f32) (r : Fin 4096) (q : Fin 1024) :
    (Cert.Reference10Ideal.Read.val_main_v0 (F := Ideal) x y (ix2 r q) : EReal) = ∑ k : Fin 3072, (show EReal from x (ix2 r k)) * y (ix2 q k) :=
  (Cert.Reference10Ideal.Read.val_main_v0_apply _ _ _).trans (Finset.sum_congr rfl fun k _ => congrArg₂ (· * ·) (congrArg x (ix2_eta _).symm) (congrArg y (ix2_eta _).symm))

theorem final : (dats m 0 c).arrAt 2 cfg0.N = (Cert.Reference10Ideal.Read.val_main_v0 (F := Ideal) (X m c) (Y m c) : FVec Ideal S4096x1024 .f32) := by
  refine (dats m 0 c).arrAt_eq_of_covers 2 _ (by decide +kernel) fun t hf y => ?_
  obtain ⟨R, l, rfl⟩ : ∃ R l : Fin 1024, y = ix2 R l := ⟨y 0, y 1, (ix2_eta y).symm⟩
  have ht : t.val % 3 = 2 := (flush0_2 t).mp hf
  obtain ⟨r, q, hi, hr, hq⟩ := place t R l
  have e : (outsAt0 m c t.val t.isLt).1 = (outsAt0 m c t.val t.isLt).2 := by
    rw [outsAt0_C m c t (by omega) ht]; frame_out
  rw [after0_2, hi]
  show (outsAt0 m c t.val t.isLt).1 (ix2 R l) = _
  rw [e]
  refine (Products.swept (fun n h => (outsAt0 m c n h).2) 3 (fun t i k => (show EReal from iblk m c 0 t (ix2 (i 0) k)) * iblk m c 1 t (ix3 0 (i 1) k))
    ?_ ?_ (L := 3072) rfl t ht _ (fun k => (show EReal from X m c (ix2 r k)) * Y m c (ix2 q k)) fun s k hl hp => congrArg₂ (· * ·) ?_ ?_).trans (sum_at _ _ r q).symm
  · intro t h i
    rw [outsAt0_A m c t h (by omega)]
    frame_out
    exact (Products.step_nt _ _ _ i).trans (congrArg (· + _) (Cert.Kernel2Ideal.Mlp.zero1 i))
  · intro t h i
    by_cases h' : t.val % 3 = 2
    · rw [outsAt0_C m c t h h']
      frame_out [(Memref.isWhole_whole cc0_scratch0).read_unread]
      exact Products.step_nt _ _ _ i
    · rw [outsAt0_B m c t h h']
      frame_out [(Memref.isWhole_whole cc0_scratch0).read_unread]
      exact Products.step_nt _ _ _ i
  · rw [← given_0]
    blk_ext [iblk] <;> have := index ⟨_, hp⟩ <;> dsimp only at * <;> omega
  · rw [← given_1]
    blk_ext [iblk] <;> have := index ⟨_, hp⟩ <;> dsimp only at * <;> omega

theorem algebraic : Cert.algebraic_Kernel10Ideal_Reference10Ideal (hKernel10Ideal := facts) (hReference10Ideal := Cert.Reference10Ideal.Gen.facts) := by
  intro m ρ m' ρ' _ h
  refine ⟨fun c => (dats m 0 c).arrAt 2 cfg0.N, Value.run_blocks m ρ, ?_⟩
  refine (θ_run Cert.Reference10Ideal.defs _ _).mono (fun r k c => ⟨(k c).1.trans ?_, (k c).2⟩) (Cert.Reference10Ideal.Value.run (F := Ideal) m' ρ')
  rw [(h c).1, (h c).2]
  exact (final m c).symm

end Cert.Kernel10Ideal.Product

namespace Cert.Kernel11Ideal.Product

open Cert.Kernel11Ideal.Gen

variable (m : (ℓ : Loc nD τ sig) → Buf (Elt Ideal) ℓ) (c : Dev nD)

abbrev X : FVec Ideal S4096x1024 .f32 := m ((c : Thread nD τ).loc main_arg0)
abbrev Y : FVec Ideal S4096x3072 .f32 := m ((c : Thread nD τ).loc main_arg1)

theorem given_0 : (V m c main_v0 : FVec Ideal S4096x1024 .bf16) = X m c := by
  show after hostOps0 (fun b => m (c, b)) (Proc.devRef .tc main_v0) = _
  after_results; rfl
theorem given_1 : (V m c main_v1 : FVec Ideal S4096x3072 .bf16) = Y m c := by
  show after hostOps0 (fun b => m (c, b)) (Proc.devRef .tc main_v1) = _
  after_results; rfl

theorem index : ∀ t : Fin cfg0.N, t.val < 16 ∧ win0_0.index t 0 = t.val % 8 ∧ win0_0.index t 1 = 0 ∧ win0_1.index t 0 = t.val % 8
    ∧ win0_1.index t 1 = t.val / 8 ∧ win0_2.index t 0 = 0 ∧ win0_2.index t 1 = t.val / 8 := by
  decide +kernel

theorem zero (i : S1024x1536.Idx) : k0_pay1 (F := Ideal) i = (0 : EReal) := by
  unfold k0_pay1
  pointwise
  first | done | rfl

theorem step (a : FVec Ideal S1024x1536 .f32) (x : FVec Ideal S512x1024 .bf16) (y : FVec Ideal S512x1536 .bf16) (i : S1024x1536.Idx) :
    k0_pay2 a x y i = a i + ∑ k : Fin 512, (show EReal from x (ix2 k (i 0))) * y (ix2 k (i 1)) := by
  obtain ⟨R, l, rfl⟩ : ∃ (R : Fin 1024) (l : Fin 1536), i = ix2 R l := ⟨i 0, i 1, (ix2_eta i).symm⟩
  unfold k0_pay2
  pointwise
  first | done | rfl

theorem place (t : Fin cfg0.N) (R : Fin 1024) (l : Fin 1536) : ∃ (r : Fin 1024) (q : Fin 3072), ((cfg0.win 2).blk t).view.emb (ix2 R l) = ix2 r q
    ∧ r.val = R.val ∧ q.val = t.val / 8 * 1536 + l.val := by
  have := index t
  exact ⟨R, ⟨t.val / 8 * 1536 + l.val, by omega⟩, by blk_ext [] <;> omega, rfl, rfl⟩

theorem sum_at (x : FVec Ideal S4096x1024 .f32) (y : FVec Ideal S4096x3072 .f32) (r : Fin 1024) (q : Fin 3072) :
    (Cert.Reference11Ideal.Read.val_main_v1 (F := Ideal) x y (ix2 r q) : EReal) = ∑ k : Fin 4096, (show EReal from x (ix2 k r)) * y (ix2 k q) := by
  open Cert.Reference11Ideal.Read in
  exact (val_main_v1_apply (F := Ideal) x y _).trans ((val_main_v0_apply x y _).trans
    (Finset.sum_congr rfl fun k _ => (mul_comm _ _).trans (congrArg₂ (· * ·) (congrArg x (ix2_eta _).symm) (congrArg y (ix2_eta _).symm))))

theorem final : (dats m 0 c).arrAt 2 cfg0.N = (Cert.Reference11Ideal.Read.val_main_v1 (F := Ideal) (X m c) (Y m c) : FVec Ideal S1024x3072 .f32) := by
  refine (dats m 0 c).arrAt_eq_of_covers 2 _ (by decide +kernel) fun t hf y => ?_
  have ht : t.val % 8 = 7 := (flush0_2 t).mp hf
  obtain ⟨R, l, rfl⟩ : ∃ (R : Fin 1024) (l : Fin 1536), y = ix2 R l := ⟨y 0, y 1, (ix2_eta y).symm⟩
  obtain ⟨r, q, hi, hr, hq⟩ := place t R l
  have e : (outsAt0 m c t.val t.isLt).1 = (outsAt0 m c t.val t.isLt).2 := by
    rw [outsAt0_C m c t (by omega) ht]; frame_out
  rw [after0_2, hi]
  show (outsAt0 m c t.val t.isLt).1 (ix2 R l) = _
  rw [e]
  refine (Products.swept (fun n h => (outsAt0 m c n h).2) 8 (fun t i k => (show EReal from iblk m c 0 t (ix2 k (i 0))) * iblk m c 1 t (ix2 k (i 1)))
    ?_ ?_ (L := 4096) rfl t ht _ (fun k => (show EReal from X m c (ix2 k r)) * Y m c (ix2 k q)) fun s k hl hp => congrArg₂ (· * ·) ?_ ?_).trans (sum_at _ _ r q).symm
  · intro t h i
    rw [outsAt0_A m c t h (by omega)]
    frame_out
    exact (step _ _ _ i).trans (congrArg (· + _) (zero i))
  · intro t h i
    by_cases h' : t.val % 8 = 7
    · rw [outsAt0_C m c t h h']
      frame_out [(Memref.isWhole_whole cc0_scratch0).read_unread]
      exact step _ _ _ i
    · rw [outsAt0_B m c t h h']
      frame_out [(Memref.isWhole_whole cc0_scratch0).read_unread]
      exact step _ _ _ i
  · rw [← given_0]
    blk_ext [iblk] <;> have := index ⟨_, hp⟩ <;> dsimp only at * <;> omega
  · rw [← given_1]
    blk_ext [iblk] <;> have := index ⟨_, hp⟩ <;> dsimp only at * <;> omega

theorem algebraic : Cert.algebraic_Kernel11Ideal_Reference11Ideal (hKernel11Ideal := facts) (hReference11Ideal := Cert.Reference11Ideal.Gen.facts) := by
  intro m ρ m' ρ' _ h
  refine ⟨fun c => (dats m 0 c).arrAt 2 cfg0.N, Value.run_blocks m ρ, ?_⟩
  refine (θ_run Cert.Reference11Ideal.defs _ _).mono (fun r k c => ⟨(k c).1.trans ?_, (k c).2⟩) (Cert.Reference11Ideal.Value.run (F := Ideal) m' ρ')
  rw [(h c).1, (h c).2]
  exact (final m c).symm

end Cert.Kernel11Ideal.Product

end
-- ==== Proof.First.lean ====
/-
  Layer 0's in-projection: the product and its weight's gradient, read from float32 rows, and the gradient of the step at its
  own input, which adds the residual branch to the product.
-/
module

public import proofs.«01_k».proof.Proof.Hybrid
public import proofs.«01_k».proof.Proof.Gen.Kernel12Ideal.Value
public import proofs.«01_k».proof.Proof.Gen.Reference12Ideal.Read
public import proofs.«01_k».proof.Proof.Gen.Kernel13Ideal.Value
public import proofs.«01_k».proof.Proof.Gen.Reference13Ideal.Read
public import proofs.«01_k».proof.Proof.Gen.Kernel14Ideal.Value
public import proofs.«01_k».proof.Proof.Gen.Reference14Ideal.Read
public import proofs.«01_k».proof.Defs

@[expose] public section

noncomputable section

open Idealize.ShloMosaic Idealize.ShloMosaic.TcCoe Idealize.ShloMosaic.Tactic Idealize.ShloMosaic.StableHlo Idealize.SL.Sem

namespace Cert.Kernel12Ideal.Product

open Cert.Kernel12Ideal.Gen

variable (m : (ℓ : Loc nD τ sig) → Buf (Elt Ideal) ℓ) (c : Dev nD)

abbrev X : FVec Ideal S4096x3072 .f32 := m ((c : Thread nD τ).loc main_arg0)
abbrev Y : FVec Ideal S1024x3072 .f32 := m ((c : Thread nD τ).loc main_arg1)
abbrev Z : FVec Ideal S4096x1024 .f32 := m ((c : Thread nD τ).loc main_arg2)

theorem given_0 : (V m c main_v0 : FVec Ideal S4096x3072 .bf16) = X m c := by
  show after hostOps0 (fun b => m (c, b)) (Proc.devRef .tc main_v0) = _
  after_results; rfl
theorem given_1 (k l) : (V m c main_v2 : FVec Ideal S1x1024x3072 .bf16) (ix3 0 k l) = Y m c (ix2 k l) := by
  show (after hostOps0 (fun b => m (c, b)) (Proc.devRef .tc main_v2) : FVec Ideal S1x1024x3072 .bf16) _ = _
  after_results; pointwise; first | done | rfl

theorem index : ∀ t : Fin cfg0.N, t.val < 12 ∧ win0_0.index t 0 = t.val / 3 ∧ win0_0.index t 1 = t.val % 3 ∧ win0_1.index t 0 = 0
    ∧ win0_1.index t 1 = 0 ∧ win0_1.index t 2 = t.val % 3 ∧ win0_3.index t 0 = t.val / 3 ∧ win0_3.index t 1 = 0
    ∧ win0_2.index t 0 = t.val / 3 ∧ win0_2.index t 1 = 0 := by
  decide +kernel

theorem place (t : Fin cfg0.N) (R l : Fin 1024) : ∃ (r : Fin 4096) (q : Fin 1024), ((cfg0.win 3).blk t).view.emb (ix2 R l) = ix2 r q
    ∧ r.val = t.val / 3 * 1024 + R.val ∧ q.val = l.val := by
  have := index t
  exact ⟨⟨t.val / 3 * 1024 + R.val, by omega⟩, l, by blk_ext [] <;> omega, rfl, rfl⟩

theorem final : (dats m 0 c).arrAt 3 cfg0.N = (Cert.Reference12Ideal.Read.val_main_v3 (F := Ideal) (X m c) (Y m c) (Z m c) : FVec Ideal S4096x1024 .f32) := by
  refine (dats m 0 c).arrAt_eq_of_covers 3 _ (by decide +kernel) fun t hf y => ?_
  obtain ⟨R, l, rfl⟩ : ∃ R l : Fin 1024, y = ix2 R l := ⟨y 0, y 1, (ix2_eta y).symm⟩
  have ht : t.val % 3 = 2 := (flush0_3 t).mp hf
  obtain ⟨r, q, hi, hr, hq⟩ := place t R l
  have e : (outsAt0 m c t.val t.isLt).1 = k0_pay3 (F := Ideal) (outsAt0 m c t.val t.isLt).2 (iblk m c 2 t) := by
    rw [outsAt0_C m c t (by omega) ht]; frame_out
  rw [after0_3, hi]
  show (outsAt0 m c t.val t.isLt).1 (ix2 R l) = _
  rw [e]
  refine (congrArg₂ (fun a b : EReal => a + (FloatOps.ofBits (F := Ideal) .f32 0x3FD744FD#32 : EReal) * b) ((Products.swept (fun n h => (outsAt0 m c n h).2) 3
    (fun t i k => (show EReal from iblk m c 0 t (ix2 (i 0) k)) * iblk m c 1 t (ix3 0 (i 1) k)) ?_ ?_ (L := 3072) rfl t ht _
    (fun k => (show EReal from X m c (ix2 r k)) * Y m c (ix2 q k)) fun s k hl hp => congrArg₂ (· * ·) ?_ ?_).trans
      (Kernel10Ideal.Product.sum_at _ _ r q).symm) (?_ : _ = Z m c (ix2 r q))).trans (add_comm _ _)
  · intro t h i
    rw [outsAt0_A m c t h (by omega)]
    frame_out
    exact (Products.step_nt _ _ _ i).trans (congrArg (· + _) (Cert.Kernel2Ideal.Mlp.zero1 i))
  · intro t h i
    by_cases h' : t.val % 3 = 2
    · rw [outsAt0_C m c t h h']
      frame_out [(Memref.isWhole_whole cc0_scratch0).read_unread]
      exact Products.step_nt _ _ _ i
    · rw [outsAt0_B m c t h h']
      frame_out [(Memref.isWhole_whole cc0_scratch0).read_unread]
      exact Products.step_nt _ _ _ i
  · rw [← given_0]
    blk_ext [iblk] <;> have := index ⟨_, hp⟩ <;> dsimp only at * <;> omega
  · rw [← given_1]
    blk_ext [iblk] <;> have := index ⟨_, hp⟩ <;> dsimp only at * <;> omega
  · blk_ext [iblk] <;> have := index t <;> omega

theorem algebraic : Cert.algebraic_Kernel12Ideal_Reference12Ideal (hKernel12Ideal := facts) (hReference12Ideal := Cert.Reference12Ideal.Gen.facts) := by
  intro m ρ m' ρ' _ h
  refine ⟨fun c => (dats m 0 c).arrAt 3 cfg0.N, Value.run_blocks m ρ, ?_⟩
  refine (θ_run Cert.Reference12Ideal.defs _ _).mono (fun r k c => ⟨(k c).1.trans ?_, (k c).2⟩) (Cert.Reference12Ideal.Value.run (F := Ideal) m' ρ')
  rw [(h c).1, (h c).2.1, (h c).2.2]
  exact (final m c).symm

end Cert.Kernel12Ideal.Product

namespace Cert.Kernel13Ideal.Product

open Cert.Kernel13Ideal.Gen

variable (m : (ℓ : Loc nD τ sig) → Buf (Elt Ideal) ℓ) (c : Dev nD)

abbrev X : FVec Ideal S4096x1024 .f32 := m ((c : Thread nD τ).loc main_arg0)
abbrev Y : FVec Ideal S1024x3072 .f32 := m ((c : Thread nD τ).loc main_arg1)

theorem given_1 (k l) : (V m c main_v1 : FVec Ideal S1x1024x3072 .bf16) (ix3 0 k l) = Y m c (ix2 k l) := by
  show (after hostOps0 (fun b => m (c, b)) (Proc.devRef .tc main_v1) : FVec Ideal S1x1024x3072 .bf16) _ = _
  after_results; pointwise; first | done | rfl

theorem index : ∀ t : Fin cfg0.N, t.val < 12 ∧ win0_0.index t 0 = t.val / 3 ∧ win0_0.index t 1 = 0 ∧ win0_1.index t 0 = 0
    ∧ win0_1.index t 1 = 0 ∧ win0_1.index t 2 = t.val % 3 ∧ win0_2.index t 0 = t.val / 3 ∧ win0_2.index t 1 = t.val % 3 := by
  decide +kernel

theorem body (t : Fin cfg0.N) : outsAt0 m c t = k0_pay2 (F := Ideal) (k0_pay1 (F := Ideal)) (iblk m c 0 t) (iblk m c 1 t) := by
  unfold outsAt0
  frame_out

theorem once (x : FVec Ideal S1024x1024 .f32) (y : FVec Ideal S1x1024x1024 .bf16) (R l : Fin 1024) :
    k0_pay2 (F := Ideal) (k0_pay1 (F := Ideal)) x y (ix2 R l) = ∑ k : Fin 1024, (show EReal from x (ix2 R k)) * y (ix3 0 k l) := by
  unfold k0_pay2 k0_pay1
  pointwise
  first | done | rfl | exact zero_add _

theorem place (t : Fin cfg0.N) (R l : Fin 1024) : ∃ (r : Fin 4096) (q : Fin 3072), ((cfg0.win 2).blk t).view.emb (ix2 R l) = ix2 r q
    ∧ r.val = win0_0.index t 0 * 1024 + R.val ∧ q.val = win0_1.index t 2 * 1024 + l.val := by
  have := index t
  exact ⟨⟨win0_0.index t 0 * 1024 + R.val, by omega⟩, ⟨win0_1.index t 2 * 1024 + l.val, by omega⟩, by blk_ext [] <;> omega, rfl, rfl⟩

theorem final : (dats m 0 c).arrAt 2 cfg0.N = (Cert.Reference13Ideal.Read.val_main_v0 (F := Ideal) (X m c) (Y m c) : FVec Ideal S4096x3072 .f32) := by
  refine (dats m 0 c).arrAt_eq_of_covers 2 _ (by decide +kernel) fun t _ y => ?_
  obtain ⟨R, l, rfl⟩ : ∃ R l : Fin 1024, y = ix2 R l := ⟨y 0, y 1, (ix2_eta y).symm⟩
  obtain ⟨r, q, hi, hr, hq⟩ := place t R l
  rw [after0_2, hi]
  have hz := body m c t
  generalize outsAt0 m c t = z at hz ⊢
  show z (ix2 R l) = _
  refine ((congrFun hz (ix2 R l)).trans ?_).trans (Kernel9Ideal.Product.sum_at _ _ r q).symm
  refine (once _ _ R l).trans (Finset.sum_congr rfl fun k _ => congrArg₂ (· * ·) ?_ ?_)
  · blk_ext [iblk] <;> have := index t <;> omega
  · rw [← given_1]
    blk_ext [iblk] <;> have := index t <;> omega

theorem algebraic : Cert.algebraic_Kernel13Ideal_Reference13Ideal (hKernel13Ideal := facts) (hReference13Ideal := Cert.Reference13Ideal.Gen.facts) := by
  intro m ρ m' ρ' _ h
  refine ⟨fun c => (dats m 0 c).arrAt 2 cfg0.N, Value.run_blocks m ρ, ?_⟩
  refine (θ_run Cert.Reference13Ideal.defs _ _).mono (fun r k c => ⟨(k c).1.trans ?_, (k c).2⟩) (Cert.Reference13Ideal.Value.run (F := Ideal) m' ρ')
  rw [(h c).1, (h c).2]
  exact (final m c).symm

end Cert.Kernel13Ideal.Product

namespace Cert.Kernel14Ideal.Product

open Cert.Kernel14Ideal.Gen

variable (m : (ℓ : Loc nD τ sig) → Buf (Elt Ideal) ℓ) (c : Dev nD)

abbrev X : FVec Ideal S4096x1024 .f32 := m ((c : Thread nD τ).loc main_arg0)
abbrev Y : FVec Ideal S4096x3072 .f32 := m ((c : Thread nD τ).loc main_arg1)

theorem given_1 : (V m c main_v0 : FVec Ideal S4096x3072 .bf16) = Y m c := by
  show after hostOps0 (fun b => m (c, b)) (Proc.devRef .tc main_v0) = _
  after_results; rfl

theorem index : ∀ t : Fin cfg0.N, t.val < 16 ∧ win0_0.index t 0 = t.val % 8 ∧ win0_0.index t 1 = 0 ∧ win0_1.index t 0 = t.val % 8
    ∧ win0_1.index t 1 = t.val / 8 ∧ win0_2.index t 0 = 0 ∧ win0_2.index t 1 = t.val / 8 := by
  decide +kernel

theorem step (a : FVec Ideal S1024x1536 .f32) (x : FVec Ideal S512x1024 .f32) (y : FVec Ideal S512x1536 .bf16) (i : S1024x1536.Idx) :
    k0_pay2 a x y i = a i + ∑ k : Fin 512, (show EReal from x (ix2 k (i 0))) * y (ix2 k (i 1)) := by
  obtain ⟨R, l, rfl⟩ : ∃ (R : Fin 1024) (l : Fin 1536), i = ix2 R l := ⟨i 0, i 1, (ix2_eta i).symm⟩
  unfold k0_pay2
  pointwise
  first | done | rfl

theorem place (t : Fin cfg0.N) (R : Fin 1024) (l : Fin 1536) : ∃ (r : Fin 1024) (q : Fin 3072), ((cfg0.win 2).blk t).view.emb (ix2 R l) = ix2 r q
    ∧ r.val = R.val ∧ q.val = t.val / 8 * 1536 + l.val := by
  have := index t
  exact ⟨R, ⟨t.val / 8 * 1536 + l.val, by omega⟩, by blk_ext [] <;> omega, rfl, rfl⟩

theorem final : (dats m 0 c).arrAt 2 cfg0.N = (Cert.Reference14Ideal.Read.val_main_v1 (F := Ideal) (X m c) (Y m c) : FVec Ideal S1024x3072 .f32) := by
  refine (dats m 0 c).arrAt_eq_of_covers 2 _ (by decide +kernel) fun t hf y => ?_
  have ht : t.val % 8 = 7 := (flush0_2 t).mp hf
  obtain ⟨R, l, rfl⟩ : ∃ (R : Fin 1024) (l : Fin 1536), y = ix2 R l := ⟨y 0, y 1, (ix2_eta y).symm⟩
  obtain ⟨r, q, hi, hr, hq⟩ := place t R l
  have e : (outsAt0 m c t.val t.isLt).1 = (outsAt0 m c t.val t.isLt).2 := by
    rw [outsAt0_C m c t (by omega) ht]; frame_out
  rw [after0_2, hi]
  show (outsAt0 m c t.val t.isLt).1 (ix2 R l) = _
  rw [e]
  refine (Products.swept (fun n h => (outsAt0 m c n h).2) 8 (fun t i k => (show EReal from iblk m c 0 t (ix2 k (i 0))) * iblk m c 1 t (ix2 k (i 1)))
    ?_ ?_ (L := 4096) rfl t ht _ (fun k => (show EReal from X m c (ix2 k r)) * Y m c (ix2 k q)) fun s k hl hp => congrArg₂ (· * ·) ?_ ?_).trans (Kernel11Ideal.Product.sum_at _ _ r q).symm
  · intro t h i
    rw [outsAt0_A m c t h (by omega)]
    frame_out
    exact (step _ _ _ i).trans (congrArg (· + _) (Kernel11Ideal.Product.zero i))
  · intro t h i
    by_cases h' : t.val % 8 = 7
    · rw [outsAt0_C m c t h h']
      frame_out [(Memref.isWhole_whole cc0_scratch0).read_unread]
      exact step _ _ _ i
    · rw [outsAt0_B m c t h h']
      frame_out [(Memref.isWhole_whole cc0_scratch0).read_unread]
      exact step _ _ _ i
  · blk_ext [iblk] <;> have := index ⟨_, hp⟩ <;> dsimp only at * <;> omega
  · rw [← given_1]
    blk_ext [iblk] <;> have := index ⟨_, hp⟩ <;> dsimp only at * <;> omega

theorem algebraic : Cert.algebraic_Kernel14Ideal_Reference14Ideal (hKernel14Ideal := facts) (hReference14Ideal := Cert.Reference14Ideal.Gen.facts) := by
  intro m ρ m' ρ' _ h
  refine ⟨fun c => (dats m 0 c).arrAt 2 cfg0.N, Value.run_blocks m ρ, ?_⟩
  refine (θ_run Cert.Reference14Ideal.defs _ _).mono (fun r k c => ⟨(k c).1.trans ?_, (k c).2⟩) (Cert.Reference14Ideal.Value.run (F := Ideal) m' ρ')
  rw [(h c).1, (h c).2]
  exact (final m c).symm

end Cert.Kernel14Ideal.Product

end
-- ==== Proof.Gates.lean ====
/-
  The gradients at the two block-diagonal weights of the recurrent layers' gates.
-/
module

public import proofs.«01_k».proof.Proof.Products
public import proofs.«01_k».proof.Proof.Gen.Kernel15Ideal.Value
public import proofs.«01_k».proof.Proof.Gen.Reference15Ideal.Read
public import proofs.«01_k».proof.Defs

@[expose] public section

noncomputable section

open Idealize.ShloMosaic Idealize.ShloMosaic.TcCoe Idealize.ShloMosaic.Tactic Idealize.ShloMosaic.StableHlo Idealize.SL.Sem

namespace Cert.Kernel15Ideal.Product

open Cert.Kernel15Ideal.Gen

variable (m : (ℓ : Loc nD τ sig) → Buf (Elt Ideal) ℓ) (c : Dev nD)

abbrev X : FVec Ideal S4096x1024 .f32 := m ((c : Thread nD τ).loc main_arg0)
abbrev Y : FVec Ideal S4096x1024 .f32 := m ((c : Thread nD τ).loc main_arg1)
abbrev Z : FVec Ideal S4096x1024 .f32 := m ((c : Thread nD τ).loc main_arg2)

theorem index : ∀ t : Fin cfg0.N, t.val < 32 ∧ win0_0.index t 0 = t.val % 8 ∧ win0_0.index t 1 = t.val / 8 ∧ win0_1.index t 0 = t.val % 8
    ∧ win0_1.index t 1 = t.val / 8 ∧ win0_2.index t 0 = t.val % 8 ∧ win0_2.index t 1 = t.val / 8 ∧ win0_3.index t 0 = t.val / 8
    ∧ win0_3.index t 1 = 0 ∧ win0_3.index t 2 = 0 ∧ win0_4.index t 0 = t.val / 8 ∧ win0_4.index t 1 = 0 ∧ win0_4.index t 2 = 0 := by
  decide +kernel

theorem split (y : S1x256x256.Idx) : ∃ R l : Fin 256, y = ix3 0 R l := ⟨y 1, y 2, by
  funext a
  match a with
  | 0 => exact Fin.ext (by have h : (y 0).val < 1 := (y 0).isLt; show (y 0).val = 0; omega)
  | 1 => rfl
  | 2 => rfl⟩

theorem step (a : FVec Ideal S1x256x256 .f32) (x y : FVec Ideal S512x256 .f32) (i : S1x256x256.Idx) :
    k0_pay4 x a y i = a i + ∑ k : Fin 512, (show EReal from x (ix2 k (i 1))) * y (ix2 k (i 2)) := by
  obtain ⟨R, l, rfl⟩ := split i
  unfold k0_pay4 k0_pay3
  pointwise
  first | done | rfl

theorem zero (i : S1x256x256.Idx) : k0_pay1 (F := Ideal) i = (0 : EReal) := by
  unfold k0_pay1
  pointwise
  first | done | rfl

theorem sum_at (x y : FVec Ideal S4096x1024 .f32) (h : Fin 4) (R l : Fin 256) (r q : Fin 1024) (hr : r.val = h.val * 256 + R.val)
    (hq : q.val = h.val * 256 + l.val) : (Cert.Reference15Ideal.Read.val_main_v4 (F := Ideal) x y (ix3 h R l) : EReal)
      = ∑ k : Fin 4096, (show EReal from x (ix2 k r)) * y (ix2 k q) := by
  open Cert.Reference15Ideal.Read in
  refine (val_main_v4_apply (F := Ideal) x y _).trans ((val_main_v3_apply x y _).trans
    (Finset.sum_congr rfl fun k _ => (mul_comm _ _).trans (congrArg₂ (· * ·) ((val_main_v0_apply (F := Ideal) x _).trans (congrArg x ?_))
      ((val_main_v2_apply (F := Ideal) y _).trans ((val_main_v1_apply (F := Ideal) y _).trans (congrArg y ?_))))))
  all_goals
    funext a
    match a with
    | 0 => exact Fin.ext (by simp only [ix2, ix3]; dsimp; omega)
    | 1 => exact Fin.ext (by simp only [ix2, ix3]; dsimp; omega)

/-- An output's block after the last point of its sweep. -/
theorem value (z : (n : ℕ) → n < cfg0.N → FVec Ideal S1x256x256 .f32) (d : Fin cfg0.N → FVec Ideal S512x256 .f32) (D : FVec Ideal S4096x1024 .f32)
    (hA : ∀ t : Fin cfg0.N, t.val % 8 = 0 → z t.val t.isLt = k0_pay4 (F := Ideal) (iblk m c 0 t) (k0_pay1 (F := Ideal)) (d t))
    (hB : ∀ t : Fin cfg0.N, ¬t.val % 8 = 0 → z t.val t.isLt
      = k0_pay4 (F := Ideal) (iblk m c 0 t) (z (t.val - 1) (Nat.lt_of_le_of_lt (Nat.sub_le _ _) t.isLt)) (d t))
    (hd : ∀ (t : Fin cfg0.N) k l (r : Fin 4096) (q : Fin 1024), r.val = t.val % 8 * 512 + k.val → q.val = t.val / 8 * 256 + l.val → d t (ix2 k l) = D (ix2 r q))
    (t : Fin cfg0.N) (ht : t.val % 8 = 7) (h : Fin 4) (hh : h.val = t.val / 8) (R l : Fin 256) :
    (z t.val t.isLt (ix3 0 R l) : EReal) = Cert.Reference15Ideal.Read.val_main_v4 (F := Ideal) (X m c) D (ix3 h R l) := by
  refine (Products.swept z 8 (fun t i k => (show EReal from iblk m c 0 t (ix2 k (i 1))) * d t (ix2 k (i 2)))
    ?_ ?_ (L := 4096) rfl t ht _ (fun k => (show EReal from X m c (ix2 k ⟨h.val * 256 + R.val, by omega⟩)) * D (ix2 k ⟨h.val * 256 + l.val, by omega⟩))
    fun s k hl hp => congrArg₂ (· * ·) ?_ ?_).trans (sum_at _ _ h R l _ _ rfl rfl).symm
  · intro t h i
    rw [hA t h]
    exact (step _ _ _ i).trans (congrArg (· + _) (zero i))
  · intro t h i
    rw [hB t h]
    exact step _ _ _ i
  · blk_ext [iblk] <;> have := index ⟨_, hp⟩ <;> dsimp only at * <;> omega
  · exact hd _ _ _ _ _ (by dsimp only; omega) (by show h.val * 256 + l.val = (8 * (t.val / 8) + s.val) / 8 * 256 + l.val; omega)

theorem final_w_a : (dats m 0 c).arrAt 3 cfg0.N = (Cert.Reference15Ideal.Read.val_main_v8 (F := Ideal) (X m c) (Y m c) : FVec Ideal S4x256x256 .f32) := by
  refine (dats m 0 c).arrAt_eq_of_covers 3 _ (by decide +kernel) fun t hf y => ?_
  obtain ⟨R, l, rfl⟩ := split y
  have hi : ((cfg0.win 3).blk t).view.emb (ix3 0 R l) = ix3 ⟨t.val / 8, by have := index t; omega⟩ R l := by have := index t; blk_ext [] <;> omega
  rw [after0_3, hi]
  refine value m c (fun n h => (outsAt0 m c n h).1) (fun t => iblk m c 1 t) (Y m c) ?_ ?_ ?_ t ((flush0_3 t).mp hf) _ rfl R l
  · intro t h
    rw [outsAt0_A m c t h]
    frame_out
  · intro t h
    rw [outsAt0_B m c t h]
    frame_out
  · intro t k l r q hr hq
    blk_ext [iblk] <;> have := index t <;> omega

theorem final_w_x : (dats m 0 c).arrAt 4 cfg0.N = (Cert.Reference15Ideal.Read.val_main_v4 (F := Ideal) (X m c) (Z m c) : FVec Ideal S4x256x256 .f32) := by
  refine (dats m 0 c).arrAt_eq_of_covers 4 _ (by decide +kernel) fun t hf y => ?_
  obtain ⟨R, l, rfl⟩ := split y
  have hi : ((cfg0.win 4).blk t).view.emb (ix3 0 R l) = ix3 ⟨t.val / 8, by have := index t; omega⟩ R l := by have := index t; blk_ext [] <;> omega
  rw [after0_4, hi]
  refine value m c (fun n h => (outsAt0 m c n h).2) (fun t => iblk m c 2 t) (Z m c) ?_ ?_ ?_ t ((flush0_4 t).mp hf) _ rfl R l
  · intro t h
    rw [outsAt0_A m c t h]
    frame_out
    rfl
  · intro t h
    rw [outsAt0_B m c t h]
    frame_out
    rfl
  · intro t k l r q hr hq
    blk_ext [iblk] <;> have := index t <;> omega

theorem algebraic : Cert.algebraic_Kernel15Ideal_Reference15Ideal (hKernel15Ideal := facts) (hReference15Ideal := Cert.Reference15Ideal.Gen.facts) := by
  intro m ρ m' ρ' _ h
  refine ⟨fun c => (dats m 0 c).arrAt 3 cfg0.N, fun c => (dats m 0 c).arrAt 4 cfg0.N, Value.run_blocks m ρ, ?_⟩
  refine (θ_run Cert.Reference15Ideal.defs _ _).mono (fun r k c => ⟨(k c).1.trans ?_, (k c).2.1.trans ?_, (k c).2.2⟩) (Cert.Reference15Ideal.Value.run (F := Ideal) m' ρ')
  · rw [(h c).1, (h c).2.1]
    exact (final_w_a m c).symm
  · rw [(h c).1, (h c).2.2]
    exact (final_w_x m c).symm

end Cert.Kernel15Ideal.Product

end
-- ==== Proof.Adam.lean ====
/-
  The optimiser's step of the MLPs' first weights, with the sum of the gradients that the eight devices sent.
-/
module

public import proofs.«01_k».proof.Proof.Products
public import proofs.«01_k».proof.Proof.Gen.Kernel16Ideal.Value
public import proofs.«01_k».proof.Proof.Gen.Reference16Ideal.Read
public import proofs.«01_k».proof.Defs

@[expose] public section

noncomputable section

open Idealize.ShloMosaic Idealize.ShloMosaic.TcCoe Idealize.ShloMosaic.Tactic Idealize.ShloMosaic.StableHlo Idealize.SL.Sem

namespace Cert.Kernel16Ideal.Update

open Cert.Kernel16Ideal.Gen

variable (m : (ℓ : Loc nD τ sig) → Buf (Elt Ideal) ℓ) (c : Dev nD)

abbrev L0 : FVec Ideal S8x1024x512 .bf16 := m ((c : Thread nD τ).loc main_arg0)
abbrev L1 : FVec Ideal S8x1024x512 .bf16 := m ((c : Thread nD τ).loc main_arg1)
abbrev L2 : FVec Ideal S8x1024x512 .bf16 := m ((c : Thread nD τ).loc main_arg2)
abbrev L3 : FVec Ideal S8x1024x512 .bf16 := m ((c : Thread nD τ).loc main_arg3)
abbrev W : FVec Ideal S4x1024x512 .f32 := m ((c : Thread nD τ).loc main_arg4)
abbrev M1 : FVec Ideal S4x1024x512 .f32 := m ((c : Thread nD τ).loc main_arg5)
abbrev M2 : FVec Ideal S4x1024x512 .f32 := m ((c : Thread nD τ).loc main_arg6)

/-! The step at one weight, of its gradient `g`. -/

def newM (g x : Ideal .f32) : Ideal .f32 :=
  FloatOps.addf (FloatOps.mulf (Scalar.ofBits .f32 0x3F666666#32) x) (FloatOps.mulf (Scalar.ofBits .f32 0x3DCCCCCD#32) g)

def newV (g x : Ideal .f32) : Ideal .f32 :=
  FloatOps.addf (FloatOps.mulf (Scalar.ofBits .f32 0x3F7FBE77#32) x) (FloatOps.mulf (Scalar.ofBits .f32 0x3A83126F#32) (FloatOps.mulf g g))

def delta (g w x y : Ideal .f32) : Ideal .f32 :=
  FloatOps.mulf (Scalar.ofBits .f32 0xBA83126F#32) (FloatOps.addf
    (FloatOps.divf (FloatOps.divf (newM g x) (Scalar.ofBits .f32 0x3F26BD02#32))
      (FloatOps.addf (FloatOps.hostUnary .sqrt (FloatOps.divf (newV g y) (Scalar.ofBits .f32 0x3C231ACC#32))) (Scalar.ofBits .f32 0x322BCC77#32)))
    (FloatOps.mulf (Scalar.ofBits .f32 0x3C23D70A#32) w))

theorem m_at (G : FVec Ideal S256x512 .f32) (x : FVec Ideal S1x256x512 .f32) (R : Fin 256) (l : Fin 512) :
    k0_pay1 (F := Ideal) (k0_pay11 (F := Ideal) G x) (ix3 0 R l) = newM (G (ix2 R l)) (x (ix3 0 R l)) := by
  unfold k0_pay1 k0_pay11 newM
  pointwise
  first | done | rfl

theorem v_at (G : FVec Ideal S256x512 .f32) (x : FVec Ideal S1x256x512 .f32) (R : Fin 256) (l : Fin 512) :
    k0_pay2 (F := Ideal) (k0_pay12 (F := Ideal) G x) (ix3 0 R l) = newV (G (ix2 R l)) (x (ix3 0 R l)) := by
  unfold k0_pay2 k0_pay12 newV
  pointwise
  first | done | rfl

theorem g_at (G : FVec Ideal S256x512 .f32) (R : Fin 256) (l : Fin 512) : k0_pay10 (F := Ideal) G (ix3 0 R l) = G (ix2 R l) := by
  unfold k0_pay10
  pointwise
  first | done | rfl

theorem d_at (G : FVec Ideal S256x512 .f32) (x y w : FVec Ideal S1x256x512 .f32) (R : Fin 256) (l : Fin 512) :
    k0_pay13 (F := Ideal) G x y w (ix3 0 R l) = delta (G (ix2 R l)) (w (ix3 0 R l)) (x (ix3 0 R l)) (y (ix3 0 R l)) := by
  unfold k0_pay13 k0_pay11 k0_pay12 delta newM newV
  pointwise
  first | done | rfl

abbrev part (b : FVec Ideal S8x256x512 .bf16) (off : Fin 3 → ℕ) (h : ∀ a, off a + (![1, 256, 512] : Fin 3 → ℕ) a ≤ S8x256x512.size a) :
    FVec Ideal S1x256x512 .bf16 := View.ld (Val := Elt Ideal) (e' := .bf16) b (Rect.unit (s := S8x256x512) off ![1, 256, 512] h)

/-- The sum of the eight devices' blocks. -/
def landed (b : FVec Ideal S8x256x512 .bf16) : FVec Ideal S256x512 .f32 := k0_pay9 (F := Ideal)
  (part b ![0, 0, 0] inb_S8x256x512_S1x256x512_0_0_0)
  (part b ![1, 0, 0] inb_S8x256x512_S1x256x512_1_0_0)
  (part b ![2, 0, 0] inb_S8x256x512_S1x256x512_2_0_0)
  (part b ![3, 0, 0] inb_S8x256x512_S1x256x512_3_0_0)
  (part b ![4, 0, 0] inb_S8x256x512_S1x256x512_4_0_0)
  (part b ![5, 0, 0] inb_S8x256x512_S1x256x512_5_0_0)
  (part b ![6, 0, 0] inb_S8x256x512_S1x256x512_6_0_0)
  (part b ![7, 0, 0] inb_S8x256x512_S1x256x512_7_0_0)

theorem landed_at (b : FVec Ideal S8x256x512 .bf16) (R : Fin 256) (l : Fin 512) : (landed b (ix2 R l) : EReal) = ∑ s : Fin 8, (b (ix3 s R l) : EReal) := by
  unfold landed k0_pay9
  pointwise
  rw [Fin.sum_univ_eight]
  refine congrArg₂ (· + ·) (congrArg₂ (· + ·) (congrArg₂ (· + ·) (congrArg₂ (· + ·) (congrArg₂ (· + ·) (congrArg₂ (· + ·) (congrArg₂ (· + ·)
    ?_ ?_) ?_) ?_) ?_) ?_) ?_) ?_
  all_goals
    refine congrArg b (funext fun a => Fin.ext ?_)
    match a with
    | 0 => rfl
    | 1 => exact (Nat.zero_add _).trans (Nat.one_mul _)
    | 2 => exact (Nat.zero_add _).trans (Nat.one_mul _)

/-- What a point writes, of the gradient `G` at its block. -/
def wrote (t : Fin cfg0.N) (G : FVec Ideal S256x512 .f32) : Prop := outsAt0 m c t.val t.isLt
  = (k0_pay10 (F := Ideal) G, k0_pay13 (F := Ideal) G (iblk m c 5 t) (iblk m c 6 t) (iblk m c 4 t),
    k0_pay1 (F := Ideal) (k0_pay11 (F := Ideal) G (iblk m c 5 t)), k0_pay2 (F := Ideal) (k0_pay12 (F := Ideal) G (iblk m c 6 t)))

/-! The bodies of the four layers are the same functions. -/

theorem same_sum (a b d e f g h i) : k0_pay14 (F := Ideal) a b d e f g h i = k0_pay9 a b d e f g h i
  ∧ k0_pay19 (F := Ideal) a b d e f g h i = k0_pay9 a b d e f g h i ∧ k0_pay24 (F := Ideal) a b d e f g h i = k0_pay9 a b d e f g h i := ⟨rfl, rfl, rfl⟩
theorem same_g (G) : k0_pay15 (F := Ideal) G = k0_pay10 G ∧ k0_pay20 (F := Ideal) G = k0_pay10 G ∧ k0_pay25 (F := Ideal) G = k0_pay10 G := ⟨rfl, rfl, rfl⟩
theorem same_m (G x) : k0_pay16 (F := Ideal) G x = k0_pay11 G x ∧ k0_pay21 (F := Ideal) G x = k0_pay11 G x ∧ k0_pay26 (F := Ideal) G x = k0_pay11 G x := ⟨rfl, rfl, rfl⟩
theorem same_v (G x) : k0_pay17 (F := Ideal) G x = k0_pay12 G x ∧ k0_pay22 (F := Ideal) G x = k0_pay12 G x ∧ k0_pay27 (F := Ideal) G x = k0_pay12 G x := ⟨rfl, rfl, rfl⟩
theorem same_d (G x y w) : k0_pay18 (F := Ideal) G x y w = k0_pay13 G x y w ∧ k0_pay23 (F := Ideal) G x y w = k0_pay13 G x y w
  ∧ k0_pay28 (F := Ideal) G x y w = k0_pay13 G x y w := ⟨rfl, rfl, rfl⟩

theorem outs (t : Fin cfg0.N) : (t.val / 4 = 0 ∧ wrote m c t (landed (iblk m c 0 t))) ∨ (t.val / 4 = 1 ∧ wrote m c t (landed (iblk m c 1 t)))
    ∨ (t.val / 4 = 2 ∧ wrote m c t (landed (iblk m c 2 t))) ∨ (t.val / 4 = 3 ∧ wrote m c t (landed (iblk m c 3 t))) := by
  have ht : t.val < 16 := Nat.lt_of_lt_of_eq t.isLt N_0
  obtain h | h | h | h : t.val / 4 = 0 ∨ t.val / 4 = 1 ∨ t.val / 4 = 2 ∨ t.val / 4 = 3 := by omega
  · refine .inl ⟨h, (outsAt0_A m c t (by omega) (by omega) (by omega) (by omega)).trans ?_⟩
    refine Prod.ext ?_ (Prod.ext ?_ (Prod.ext ?_ ?_)) <;> (frame_out; rfl)
  · refine .inr (.inl ⟨h, (outsAt0_B m c t (by omega) (by omega) (by omega) (by omega)).trans ?_⟩)
    refine Prod.ext ?_ (Prod.ext ?_ (Prod.ext ?_ ?_)) <;> (frame_out; simp only [same_sum, same_g, same_m, same_v, same_d]; rfl)
  · refine .inr (.inr (.inl ⟨h, (outsAt0_C m c t (by omega) (by omega) (by omega) (by omega)).trans ?_⟩))
    refine Prod.ext ?_ (Prod.ext ?_ (Prod.ext ?_ ?_)) <;> (frame_out; simp only [same_sum, same_g, same_m, same_v, same_d]; rfl)
  · refine .inr (.inr (.inr ⟨h, (outsAt0_D m c t (by omega) (by omega) (by omega) (by omega)).trans ?_⟩))
    refine Prod.ext ?_ (Prod.ext ?_ (Prod.ext ?_ ?_)) <;> (frame_out; simp only [same_sum, same_g, same_m, same_v, same_d]; rfl)

open Cert.Reference16Ideal.Read in
theorem concat_at (a b d e : FVec Ideal S8x1024x512 .bf16) (r : Fin 1024) (l : Fin 512) :
    (val_main_v12 (F := Ideal) a b d e (ix3 0 r l) : EReal) = ∑ s : Fin 8, (a (ix3 s r l) : EReal)
    ∧ (val_main_v12 (F := Ideal) a b d e (ix3 1 r l) : EReal) = ∑ s : Fin 8, (b (ix3 s r l) : EReal)
    ∧ (val_main_v12 (F := Ideal) a b d e (ix3 2 r l) : EReal) = ∑ s : Fin 8, (d (ix3 s r l) : EReal)
    ∧ (val_main_v12 (F := Ideal) a b d e (ix3 3 r l) : EReal) = ∑ s : Fin 8, (e (ix3 s r l) : EReal) := by
  have hs : ∀ y : FVec Ideal S8x1024x512 .bf16, (val_main_v8 (F := Ideal) y (ix3 0 r l) : EReal) = ∑ s : Fin 8, (y (ix3 s r l) : EReal) := fun y => by
    refine (val_main_v8_apply (F := Ideal) y _).trans ((val_main_v1_apply y _).trans ?_)
    refine (congrArg₂ (· + ·) (Ideal.ofBits_zero_f32) (Finset.sum_congr rfl fun s _ => (val_main_v0_apply (F := Ideal) y _).trans (congrArg y ?_))).trans (zero_add _)
    funext a
    match a with
    | 0 => rfl
    | 1 => rfl
    | 2 => rfl
  unfold val_main_v12
  refine ⟨?_, ?_, ?_, ?_⟩
  all_goals
    pointwise
    exact hs _

open Cert.Reference16Ideal.Read in
theorem reference_step (a b d e : FVec Ideal S8x1024x512 .bf16) (w x y : FVec Ideal S4x1024x512 .f32) (i : S4x1024x512.Idx) :
    val_main_v17 (F := Ideal) a b d e x i = newM (val_main_v12 (F := Ideal) a b d e i) (x i)
    ∧ val_main_v23 (F := Ideal) a b d e y i = newV (val_main_v12 (F := Ideal) a b d e i) (y i)
    ∧ val_main_v36 (F := Ideal) a b d e w x y i = delta (val_main_v12 (F := Ideal) a b d e i) (w i) (x i) (y i) := ⟨rfl, rfl, rfl⟩

/-! What the blocks are. -/

theorem index : ∀ t : Fin cfg0.N, t.val < 16 ∧ (win0_0.index t 0 = 0 ∧ (t.val / 4 = 0 → win0_0.index t 1 = t.val % 4) ∧ win0_0.index t 2 = 0)
    ∧ (win0_1.index t 0 = 0 ∧ (t.val / 4 = 1 → win0_1.index t 1 = t.val % 4) ∧ win0_1.index t 2 = 0)
    ∧ (win0_2.index t 0 = 0 ∧ (t.val / 4 = 2 → win0_2.index t 1 = t.val % 4) ∧ win0_2.index t 2 = 0)
    ∧ (win0_3.index t 0 = 0 ∧ (t.val / 4 = 3 → win0_3.index t 1 = t.val % 4) ∧ win0_3.index t 2 = 0) := by
  decide +kernel

theorem index' : ∀ t : Fin cfg0.N, t.val < 16 ∧ (win0_4.index t 0 = t.val / 4 ∧ win0_4.index t 1 = t.val % 4 ∧ win0_4.index t 2 = 0)
    ∧ (win0_5.index t 0 = t.val / 4 ∧ win0_5.index t 1 = t.val % 4 ∧ win0_5.index t 2 = 0)
    ∧ (win0_6.index t 0 = t.val / 4 ∧ win0_6.index t 1 = t.val % 4 ∧ win0_6.index t 2 = 0)
    ∧ (win0_7.index t 0 = t.val / 4 ∧ win0_7.index t 1 = t.val % 4 ∧ win0_7.index t 2 = 0)
    ∧ (win0_8.index t 0 = t.val / 4 ∧ win0_8.index t 1 = t.val % 4 ∧ win0_8.index t 2 = 0)
    ∧ (win0_9.index t 0 = t.val / 4 ∧ win0_9.index t 1 = t.val % 4 ∧ win0_9.index t 2 = 0)
    ∧ (win0_10.index t 0 = t.val / 4 ∧ win0_10.index t 1 = t.val % 4 ∧ win0_10.index t 2 = 0) := by
  decide +kernel

theorem split (y : S1x256x512.Idx) : ∃ R l, y = ix3 0 R l :=
  ⟨y 1, y 2, funext fun a => match a with | 0 => Fin.ext (Nat.lt_one_iff.mp (y 0).isLt) | 1 => rfl | 2 => rfl⟩

/-- The layer and the row that a point's block holds. -/
abbrev layer (t : Fin cfg0.N) : Fin 4 := ⟨t.val / 4, by have := index t; omega⟩
abbrev row (t : Fin cfg0.N) (R : Fin 256) : Fin 1024 := ⟨t.val % 4 * 256 + R.val, by have := R.isLt; omega⟩

abbrev grad : FVec Ideal S4x1024x512 .f32 := Cert.Reference16Ideal.Read.val_main_v12 (F := Ideal) (L0 m c) (L1 m c) (L2 m c) (L3 m c)

theorem point (t : Fin cfg0.N) : ∃ G, wrote m c t G ∧ ∀ R l, G (ix2 R l) = grad m c (ix3 (layer t) (row t R) l) := by
  obtain ⟨h, hw⟩ | ⟨h, hw⟩ | ⟨h, hw⟩ | ⟨h, hw⟩ := outs m c t
  all_goals
    refine ⟨_, hw, fun R l => (landed_at _ R l).trans ?_⟩
    obtain ⟨h0, h1, h2, h3⟩ := concat_at (L0 m c) (L1 m c) (L2 m c) (L3 m c) (row t R) l
    first
      | rw [show layer t = 0 from Fin.ext h]; refine Eq.trans ?_ h0.symm
      | rw [show layer t = 1 from Fin.ext h]; refine Eq.trans ?_ h1.symm
      | rw [show layer t = 2 from Fin.ext h]; refine Eq.trans ?_ h2.symm
      | rw [show layer t = 3 from Fin.ext h]; refine Eq.trans ?_ h3.symm
    refine Finset.sum_congr rfl fun s _ => ?_
    blk_ext [iblk] <;> have := index t <;> omega

theorem state (t : Fin cfg0.N) (R : Fin 256) (l : Fin 512) : iblk m c 4 t (ix3 0 R l) = W m c (ix3 (layer t) (row t R) l)
    ∧ iblk m c 5 t (ix3 0 R l) = M1 m c (ix3 (layer t) (row t R) l) ∧ iblk m c 6 t (ix3 0 R l) = M2 m c (ix3 (layer t) (row t R) l) := by
  refine ⟨?_, ?_, ?_⟩ <;> blk_ext [iblk] <;> have := index' t <;> omega

/-- Where a point's block of a result lies. -/
theorem place (t : Fin cfg0.N) (R : Fin 256) (l : Fin 512) :
    ((cfg0.win 7).blk t).view.emb (ix3 0 R l) = ix3 (layer t) (row t R) l ∧ ((cfg0.win 8).blk t).view.emb (ix3 0 R l) = ix3 (layer t) (row t R) l
    ∧ ((cfg0.win 9).blk t).view.emb (ix3 0 R l) = ix3 (layer t) (row t R) l ∧ ((cfg0.win 10).blk t).view.emb (ix3 0 R l) = ix3 (layer t) (row t R) l := by
  refine ⟨?_, ?_, ?_, ?_⟩ <;> have := index' t <;> blk_ext [] <;> omega

theorem final_g : (dats m 0 c).arrAt 7 cfg0.N = grad m c := by
  refine (dats m 0 c).arrAt_eq_of_covers 7 _ (by decide +kernel) fun t hf y => ?_
  obtain ⟨R, l, rfl⟩ := split y
  obtain ⟨G, hw, hg⟩ := point m c t
  rw [after0_7, hw, (place t R l).1]
  exact (g_at G R l).trans (hg R l)

theorem final_d : (dats m 0 c).arrAt 8 cfg0.N = Cert.Reference16Ideal.Read.val_main_v36 (F := Ideal) (L0 m c) (L1 m c) (L2 m c) (L3 m c) (W m c) (M1 m c) (M2 m c) := by
  refine (dats m 0 c).arrAt_eq_of_covers 8 _ (by decide +kernel) fun t hf y => ?_
  obtain ⟨R, l, rfl⟩ := split y
  obtain ⟨G, hw, hg⟩ := point m c t
  rw [after0_8, hw, (place t R l).2.1]
  refine (d_at G _ _ _ R l).trans ?_
  rw [hg, (state m c t R l).1, (state m c t R l).2.1, (state m c t R l).2.2]
  exact (reference_step _ _ _ _ _ _ _ _).2.2.symm

theorem final_m : (dats m 0 c).arrAt 9 cfg0.N = Cert.Reference16Ideal.Read.val_main_v17 (F := Ideal) (L0 m c) (L1 m c) (L2 m c) (L3 m c) (M1 m c) := by
  refine (dats m 0 c).arrAt_eq_of_covers 9 _ (by decide +kernel) fun t hf y => ?_
  obtain ⟨R, l, rfl⟩ := split y
  obtain ⟨G, hw, hg⟩ := point m c t
  rw [after0_9, hw, (place t R l).2.2.1]
  refine (m_at G _ R l).trans ?_
  rw [hg, (state m c t R l).2.1]
  exact (reference_step _ _ _ _ (W m c) _ (M2 m c) _).1.symm

theorem final_v : (dats m 0 c).arrAt 10 cfg0.N = Cert.Reference16Ideal.Read.val_main_v23 (F := Ideal) (L0 m c) (L1 m c) (L2 m c) (L3 m c) (M2 m c) := by
  refine (dats m 0 c).arrAt_eq_of_covers 10 _ (by decide +kernel) fun t hf y => ?_
  obtain ⟨R, l, rfl⟩ := split y
  obtain ⟨G, hw, hg⟩ := point m c t
  rw [after0_10, hw, (place t R l).2.2.2]
  refine (v_at G _ R l).trans ?_
  rw [hg, (state m c t R l).2.2]
  exact (reference_step _ _ _ _ (W m c) (M1 m c) _ _).2.1.symm

theorem algebraic : Cert.algebraic_Kernel16Ideal_Reference16Ideal (hKernel16Ideal := facts) (hReference16Ideal := Cert.Reference16Ideal.Gen.facts) := by
  intro m ρ m' ρ' _ h
  refine ⟨fun c => (dats m 0 c).arrAt 7 cfg0.N, fun c => (dats m 0 c).arrAt 8 cfg0.N, fun c => (dats m 0 c).arrAt 9 cfg0.N, fun c => (dats m 0 c).arrAt 10 cfg0.N,
    Value.run_blocks m ρ, ?_⟩
  refine (θ_run Cert.Reference16Ideal.defs _ _).mono (fun r k c => ⟨(k c).1.trans ?_, (k c).2.1.trans ?_, (k c).2.2.1.trans ?_, (k c).2.2.2.1.trans ?_, (k c).2.2.2.2⟩)
    (Cert.Reference16Ideal.Value.run (F := Ideal) m' ρ')
  all_goals obtain ⟨h0, h1, h2, h3, h4, h5, h6⟩ := h c
  · rw [h0, h1, h2, h3]
    exact (final_g m c).symm
  · rw [Cert.Reference16Ideal.Read.val_main_v36_eq, h0, h1, h2, h3, h4, h5, h6]
    exact (final_d m c).symm
  · rw [h0, h1, h2, h3, h5]
    exact (final_m m c).symm
  · rw [h0, h1, h2, h3, h6]
    exact (final_v m c).symm

end Cert.Kernel16Ideal.Update

end
-- ==== Proof.lean ====
/-
  The proof of `Cert.Claim`: the frames come from one run of the kernel and one of the reference, each over any float
  values; the equation compares what the two runs leave over the extended reals.
-/
module

public import proofs.«01_k».proof.Defs
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel12Ideal.Value
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Read
public import proofs.«01_k».proof.Proof.ScanEnd
public import proofs.«01_k».proof.Proof.Printed
public import proofs.«01_k».proof.Proof.RefRun
public import proofs.«01_k».proof.Proof.Equation
public import proofs.«01_k».proof.Proof.MlpEnd
public import proofs.«01_k».proof.Proof.Printed2
public import proofs.«01_k».proof.Proof.Equation2
public import proofs.«01_k».proof.Proof.Recurrent
public import proofs.«01_k».proof.Proof.Output
public import proofs.«01_k».proof.Proof.First
public import proofs.«01_k».proof.Proof.Gates
public import proofs.«01_k».proof.Proof.Adam
public import Idealize.ShloMosaic.Adequacy
public import Idealize.ShloMosaic.Init

@[expose] public section

noncomputable section

namespace Cert.Proof

open Idealize.ShloMosaic Idealize.SL.Sem Cert.Kernel

/-- All the claims. Where a reference's lines run straight through, its frame is what its run says of its arguments. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Pre_decay_finite.Gen.facts, Cert.On_gate_half.Gen.facts,
  fun m ρ _ => Cert.Printed.frame (F := Bits) m ρ,
  fun m ρ _ => Cert.KernelIdeal.Scan.frame_any (F := Ideal) m ρ,
  fun m ρ _ => Cert.KernelIdeal.Scan.frame_any (F := Ideal) m ρ,
  fun m ρ _ => Cert.ReferenceIdeal.Rec.frame_any (F := Ideal) m ρ,
  fun m ρ _ => Cert.ReferenceIdeal.Rec.frame_any (F := Ideal) m ρ,
  fun m ρ _ => Cert.Printed2.frame (F := Bits) m ρ,
  fun m ρ _ => Cert.Kernel2Ideal.Mlp.frame_any (F := Ideal) m ρ,
  fun m ρ _ => (θ_run Cert.Reference2Ideal.defs _ _).mono (fun r h => ⟨fun c => (h c).2.2.2.2.2.2, sem_eq_zero_of_no_sems (by decide) r.2⟩) (Cert.Reference2Ideal.Value.run (F := Ideal) m ρ),
  fun m ρ _ => Cert.Kernel3.Gen.frame m ρ, fun m ρ _ => Cert.Kernel3Ideal.Gen.frame m ρ,
  fun m ρ _ => (θ_run Cert.Reference3Ideal.defs _ _).mono (fun r h => ⟨fun c => (h c).2, sem_eq_zero_of_no_sems (by decide) r.2⟩) (Cert.Reference3Ideal.Value.run (F := Ideal) m ρ),
  fun m ρ _ => Cert.Kernel4.Gen.frame m ρ, fun m ρ _ => Cert.Kernel4Ideal.Gen.frame m ρ,
  fun m ρ _ => (θ_run Cert.Reference4Ideal.defs _ _).mono (fun r h => ⟨fun c => (h c).2, sem_eq_zero_of_no_sems (by decide) r.2⟩) (Cert.Reference4Ideal.Value.run (F := Ideal) m ρ),
  fun m ρ _ => Cert.Kernel5.Gen.frame m ρ, fun m ρ _ => Cert.Kernel5Ideal.Gen.frame m ρ,
  fun m ρ _ => (θ_run Cert.Reference5Ideal.defs _ _).mono (fun r h => ⟨fun c => (h c).2, sem_eq_zero_of_no_sems (by decide) r.2⟩) (Cert.Reference5Ideal.Value.run (F := Ideal) m ρ),
  fun m ρ _ => Cert.Kernel6.Gen.frame m ρ, fun m ρ _ => Cert.Kernel6Ideal.Gen.frame m ρ,
  fun m ρ _ => (θ_run Cert.Reference6Ideal.defs _ _).mono (fun r h => ⟨fun c => (h c).2.2.2, sem_eq_zero_of_no_sems (by decide) r.2⟩) (Cert.Reference6Ideal.Value.run (F := Ideal) m ρ),
  fun m ρ _ => Cert.Kernel7.Gen.frame m ρ, fun m ρ _ => Cert.Kernel7Ideal.Gen.frame m ρ,
  fun m ρ _ => (θ_run Cert.Reference7Ideal.defs _ _).mono (fun r h => ⟨fun c => (h c).2, sem_eq_zero_of_no_sems (by decide) r.2⟩) (Cert.Reference7Ideal.Value.run (F := Ideal) m ρ),
  fun m ρ _ => Cert.Kernel8.Gen.frame m ρ, fun m ρ _ => Cert.Kernel8Ideal.Gen.frame m ρ,
  fun m ρ _ => (θ_run Cert.Reference8Ideal.defs _ _).mono (fun r h => ⟨fun c => (h c).2, sem_eq_zero_of_no_sems (by decide) r.2⟩) (Cert.Reference8Ideal.Value.run (F := Ideal) m ρ),
  fun m ρ _ => Cert.Kernel9.Gen.frame m ρ, fun m ρ _ => Cert.Kernel9Ideal.Gen.frame m ρ,
  fun m ρ _ => (θ_run Cert.Reference9Ideal.defs _ _).mono (fun r h => ⟨fun c => (h c).2, sem_eq_zero_of_no_sems (by decide) r.2⟩) (Cert.Reference9Ideal.Value.run (F := Ideal) m ρ),
  fun m ρ _ => Cert.Kernel10.Gen.frame m ρ, fun m ρ _ => Cert.Kernel10Ideal.Gen.frame m ρ,
  fun m ρ _ => (θ_run Cert.Reference10Ideal.defs _ _).mono (fun r h => ⟨fun c => (h c).2, sem_eq_zero_of_no_sems (by decide) r.2⟩) (Cert.Reference10Ideal.Value.run (F := Ideal) m ρ),
  fun m ρ _ => Cert.Kernel11.Gen.frame m ρ, fun m ρ _ => Cert.Kernel11Ideal.Gen.frame m ρ,
  fun m ρ _ => (θ_run Cert.Reference11Ideal.defs _ _).mono (fun r h => ⟨fun c => (h c).2, sem_eq_zero_of_no_sems (by decide) r.2⟩) (Cert.Reference11Ideal.Value.run (F := Ideal) m ρ),
  fun m ρ _ => Cert.Kernel12.Gen.frame m ρ, fun m ρ _ => Cert.Kernel12Ideal.Gen.frame m ρ,
  fun m ρ _ => (θ_run Cert.Reference12Ideal.defs _ _).mono (fun r h => ⟨fun c => (h c).2, sem_eq_zero_of_no_sems (by decide) r.2⟩) (Cert.Reference12Ideal.Value.run (F := Ideal) m ρ),
  fun m ρ _ => Cert.Kernel13.Gen.frame m ρ, fun m ρ _ => Cert.Kernel13Ideal.Gen.frame m ρ,
  fun m ρ _ => (θ_run Cert.Reference13Ideal.defs _ _).mono (fun r h => ⟨fun c => (h c).2, sem_eq_zero_of_no_sems (by decide) r.2⟩) (Cert.Reference13Ideal.Value.run (F := Ideal) m ρ),
  fun m ρ _ => Cert.Kernel14.Gen.frame m ρ, fun m ρ _ => Cert.Kernel14Ideal.Gen.frame m ρ,
  fun m ρ _ => (θ_run Cert.Reference14Ideal.defs _ _).mono (fun r h => ⟨fun c => (h c).2, sem_eq_zero_of_no_sems (by decide) r.2⟩) (Cert.Reference14Ideal.Value.run (F := Ideal) m ρ),
  fun m ρ _ => Cert.Kernel15.Gen.frame m ρ, fun m ρ _ => Cert.Kernel15Ideal.Gen.frame m ρ,
  fun m ρ _ => (θ_run Cert.Reference15Ideal.defs _ _).mono (fun r h => ⟨fun c => (h c).2.2, sem_eq_zero_of_no_sems (by decide) r.2⟩) (Cert.Reference15Ideal.Value.run (F := Ideal) m ρ),
  fun m ρ _ => Cert.Kernel16.Gen.frame m ρ, fun m ρ _ => Cert.Kernel16Ideal.Gen.frame m ρ,
  fun m ρ _ => (θ_run Cert.Reference16Ideal.defs _ _).mono (fun r h => ⟨fun c => (h c).2.2.2.2, sem_eq_zero_of_no_sems (by decide) r.2⟩) (Cert.Reference16Ideal.Value.run (F := Ideal) m ρ),
  trivial,
  Cert.Equation.algebraic,
  trivial,
  Cert.Equation2.algebraic,
  trivial, Cert.Kernel3Ideal.Product.algebraic,
  trivial, Cert.Kernel4Ideal.Product.algebraic,
  trivial, Cert.Kernel5Ideal.Product.algebraic,
  trivial, Cert.Kernel6Ideal.Product.algebraic,
  trivial, Cert.Kernel7Ideal.Product.algebraic,
  trivial, Cert.Kernel8Ideal.Product.algebraic,
  trivial, Cert.Kernel9Ideal.Product.algebraic,
  trivial, Cert.Kernel10Ideal.Product.algebraic,
  trivial, Cert.Kernel11Ideal.Product.algebraic,
  trivial, Cert.Kernel12Ideal.Product.algebraic,
  trivial, Cert.Kernel13Ideal.Product.algebraic,
  trivial, Cert.Kernel14Ideal.Product.algebraic,
  trivial, Cert.Kernel15Ideal.Product.algebraic,
  trivial, Cert.Kernel16Ideal.Update.algebraic⟩

end Cert.Proof

end
